-- ==== Defs.lean ====
def Pre_KernelDx (m : (ℓ : Loc Cert.KernelDx.nD Cert.KernelDx.τ Cert.KernelDx.sig) → Buf (Elt Bits) ℓ) : Prop :=
  True

def Pre_KernelDxIdeal (m : (ℓ : Loc Cert.KernelDxIdeal.nD Cert.KernelDxIdeal.τ Cert.KernelDxIdeal.sig) → Buf (Elt Ideal) ℓ) : Prop :=
  True

def Pre_KernelDxIdeal_finite_dx [hPre_finite_dx : Cert.Pre_finite_dx.Facts] (m : (ℓ : Loc Cert.KernelDxIdeal.nD Cert.KernelDxIdeal.τ Cert.KernelDxIdeal.sig) → Buf (Elt Ideal) ℓ) : Prop :=
  ∀ c : Dev Cert.KernelDxIdeal.nD,
    (Cert.Pre_finite_dx.fn (F := Ideal) (m ((c.tc : Thread Cert.KernelDxIdeal.nD Cert.KernelDxIdeal.τ).loc Cert.KernelDxIdeal.main_arg0)) (m ((c.tc : Thread Cert.KernelDxIdeal.nD Cert.KernelDxIdeal.τ).loc Cert.KernelDxIdeal.main_arg1)) (m ((c.tc : Thread Cert.KernelDxIdeal.nD Cert.KernelDxIdeal.τ).loc Cert.KernelDxIdeal.main_arg2)) (m ((c.tc : Thread Cert.KernelDxIdeal.nD Cert.KernelDxIdeal.τ).loc Cert.KernelDxIdeal.main_arg3)) (m ((c.tc : Thread Cert.KernelDxIdeal.nD Cert.KernelDxIdeal.τ).loc Cert.KernelDxIdeal.main_arg4))).1 = (fun _ => 1#1)
    ∧ (Cert.Pre_finite_dx.fn (F := Ideal) (m ((c.tc : Thread Cert.KernelDxIdeal.nD Cert.KernelDxIdeal.τ).loc Cert.KernelDxIdeal.main_arg0)) (m ((c.tc : Thread Cert.KernelDxIdeal.nD Cert.KernelDxIdeal.τ).loc Cert.KernelDxIdeal.main_arg1)) (m ((c.tc : Thread Cert.KernelDxIdeal.nD Cert.KernelDxIdeal.τ).loc Cert.KernelDxIdeal.main_arg2)) (m ((c.tc : Thread Cert.KernelDxIdeal.nD Cert.KernelDxIdeal.τ).loc Cert.KernelDxIdeal.main_arg3)) (m ((c.tc : Thread Cert.KernelDxIdeal.nD Cert.KernelDxIdeal.τ).loc Cert.KernelDxIdeal.main_arg4))).2.1 = (fun _ => 1#1)
    ∧ (Cert.Pre_finite_dx.fn (F := Ideal) (m ((c.tc : Thread Cert.KernelDxIdeal.nD Cert.KernelDxIdeal.τ).loc Cert.KernelDxIdeal.main_arg0)) (m ((c.tc : Thread Cert.KernelDxIdeal.nD Cert.KernelDxIdeal.τ).loc Cert.KernelDxIdeal.main_arg1)) (m ((c.tc : Thread Cert.KernelDxIdeal.nD Cert.KernelDxIdeal.τ).loc Cert.KernelDxIdeal.main_arg2)) (m ((c.tc : Thread Cert.KernelDxIdeal.nD Cert.KernelDxIdeal.τ).loc Cert.KernelDxIdeal.main_arg3)) (m ((c.tc : Thread Cert.KernelDxIdeal.nD Cert.KernelDxIdeal.τ).loc Cert.KernelDxIdeal.main_arg4))).2.2.1 = (fun _ => 1#1)
    ∧ (Cert.Pre_finite_dx.fn (F := Ideal) (m ((c.tc : Thread Cert.KernelDxIdeal.nD Cert.KernelDxIdeal.τ).loc Cert.KernelDxIdeal.main_arg0)) (m ((c.tc : Thread Cert.KernelDxIdeal.nD Cert.KernelDxIdeal.τ).loc Cert.KernelDxIdeal.main_arg1)) (m ((c.tc : Thread Cert.KernelDxIdeal.nD Cert.KernelDxIdeal.τ).loc Cert.KernelDxIdeal.main_arg2)) (m ((c.tc : Thread Cert.KernelDxIdeal.nD Cert.KernelDxIdeal.τ).loc Cert.KernelDxIdeal.main_arg3)) (m ((c.tc : Thread Cert.KernelDxIdeal.nD Cert.KernelDxIdeal.τ).loc Cert.KernelDxIdeal.main_arg4))).2.2.2 = (fun _ => 1#1)

def Pre_RefDxIdeal (m : (ℓ : Loc Cert.RefDxIdeal.nD Cert.RefDxIdeal.τ Cert.RefDxIdeal.sig) → Buf (Elt Ideal) ℓ) : Prop :=
  True

def Pre_RefDxIdeal_finite_dx [hPre_finite_dx : Cert.Pre_finite_dx.Facts] (m : (ℓ : Loc Cert.RefDxIdeal.nD Cert.RefDxIdeal.τ Cert.RefDxIdeal.sig) → Buf (Elt Ideal) ℓ) : Prop :=
  ∀ c : Dev Cert.RefDxIdeal.nD,
    (Cert.Pre_finite_dx.fn (F := Ideal) (m ((c.tc : Thread Cert.RefDxIdeal.nD Cert.RefDxIdeal.τ).loc Cert.RefDxIdeal.main_arg0)) (m ((c.tc : Thread Cert.RefDxIdeal.nD Cert.RefDxIdeal.τ).loc Cert.RefDxIdeal.main_arg1)) (m ((c.tc : Thread Cert.RefDxIdeal.nD Cert.RefDxIdeal.τ).loc Cert.RefDxIdeal.main_arg2)) (m ((c.tc : Thread Cert.RefDxIdeal.nD Cert.RefDxIdeal.τ).loc Cert.RefDxIdeal.main_arg3)) (m ((c.tc : Thread Cert.RefDxIdeal.nD Cert.RefDxIdeal.τ).loc Cert.RefDxIdeal.main_arg4))).1 = (fun _ => 1#1)
    ∧ (Cert.Pre_finite_dx.fn (F := Ideal) (m ((c.tc : Thread Cert.RefDxIdeal.nD Cert.RefDxIdeal.τ).loc Cert.RefDxIdeal.main_arg0)) (m ((c.tc : Thread Cert.RefDxIdeal.nD Cert.RefDxIdeal.τ).loc Cert.RefDxIdeal.main_arg1)) (m ((c.tc : Thread Cert.RefDxIdeal.nD Cert.RefDxIdeal.τ).loc Cert.RefDxIdeal.main_arg2)) (m ((c.tc : Thread Cert.RefDxIdeal.nD Cert.RefDxIdeal.τ).loc Cert.RefDxIdeal.main_arg3)) (m ((c.tc : Thread Cert.RefDxIdeal.nD Cert.RefDxIdeal.τ).loc Cert.RefDxIdeal.main_arg4))).2.1 = (fun _ => 1#1)
    ∧ (Cert.Pre_finite_dx.fn (F := Ideal) (m ((c.tc : Thread Cert.RefDxIdeal.nD Cert.RefDxIdeal.τ).loc Cert.RefDxIdeal.main_arg0)) (m ((c.tc : Thread Cert.RefDxIdeal.nD Cert.RefDxIdeal.τ).loc Cert.RefDxIdeal.main_arg1)) (m ((c.tc : Thread Cert.RefDxIdeal.nD Cert.RefDxIdeal.τ).loc Cert.RefDxIdeal.main_arg2)) (m ((c.tc : Thread Cert.RefDxIdeal.nD Cert.RefDxIdeal.τ).loc Cert.RefDxIdeal.main_arg3)) (m ((c.tc : Thread Cert.RefDxIdeal.nD Cert.RefDxIdeal.τ).loc Cert.RefDxIdeal.main_arg4))).2.2.1 = (fun _ => 1#1)
    ∧ (Cert.Pre_finite_dx.fn (F := Ideal) (m ((c.tc : Thread Cert.RefDxIdeal.nD Cert.RefDxIdeal.τ).loc Cert.RefDxIdeal.main_arg0)) (m ((c.tc : Thread Cert.RefDxIdeal.nD Cert.RefDxIdeal.τ).loc Cert.RefDxIdeal.main_arg1)) (m ((c.tc : Thread Cert.RefDxIdeal.nD Cert.RefDxIdeal.τ).loc Cert.RefDxIdeal.main_arg2)) (m ((c.tc : Thread Cert.RefDxIdeal.nD Cert.RefDxIdeal.τ).loc Cert.RefDxIdeal.main_arg3)) (m ((c.tc : Thread Cert.RefDxIdeal.nD Cert.RefDxIdeal.τ).loc Cert.RefDxIdeal.main_arg4))).2.2.2 = (fun _ => 1#1)

def Pre_KernelMx (m : (ℓ : Loc Cert.KernelMx.nD Cert.KernelMx.τ Cert.KernelMx.sig) → Buf (Elt Bits) ℓ) : Prop :=
  True

def Pre_KernelMxIdeal (m : (ℓ : Loc Cert.KernelMxIdeal.nD Cert.KernelMxIdeal.τ Cert.KernelMxIdeal.sig) → Buf (Elt Ideal) ℓ) : Prop :=
  True

def Pre_KernelMxIdeal_finite_mx [hPre_finite_mx : Cert.Pre_finite_mx.Facts] (m : (ℓ : Loc Cert.KernelMxIdeal.nD Cert.KernelMxIdeal.τ Cert.KernelMxIdeal.sig) → Buf (Elt Ideal) ℓ) : Prop :=
  ∀ c : Dev Cert.KernelMxIdeal.nD,
    (Cert.Pre_finite_mx.fn (F := Ideal) (m ((c.tc : Thread Cert.KernelMxIdeal.nD Cert.KernelMxIdeal.τ).loc Cert.KernelMxIdeal.main_arg0)) (m ((c.tc : Thread Cert.KernelMxIdeal.nD Cert.KernelMxIdeal.τ).loc Cert.KernelMxIdeal.main_arg1)) (m ((c.tc : Thread Cert.KernelMxIdeal.nD Cert.KernelMxIdeal.τ).loc Cert.KernelMxIdeal.main_arg2)) (m ((c.tc : Thread Cert.KernelMxIdeal.nD Cert.KernelMxIdeal.τ).loc Cert.KernelMxIdeal.main_arg3)) (m ((c.tc : Thread Cert.KernelMxIdeal.nD Cert.KernelMxIdeal.τ).loc Cert.KernelMxIdeal.main_arg4)) (m ((c.tc : Thread Cert.KernelMxIdeal.nD Cert.KernelMxIdeal.τ).loc Cert.KernelMxIdeal.main_arg5)) (m ((c.tc : Thread Cert.KernelMxIdeal.nD Cert.KernelMxIdeal.τ).loc Cert.KernelMxIdeal.main_arg6)) (m ((c.tc : Thread Cert.KernelMxIdeal.nD Cert.KernelMxIdeal.τ).loc Cert.KernelMxIdeal.main_arg7)) (m ((c.tc : Thread Cert.KernelMxIdeal.nD Cert.KernelMxIdeal.τ).loc Cert.KernelMxIdeal.main_arg8)) (m ((c.tc : Thread Cert.KernelMxIdeal.nD Cert.KernelMxIdeal.τ).loc Cert.KernelMxIdeal.main_arg9)) (m ((c.tc : Thread Cert.KernelMxIdeal.nD Cert.KernelMxIdeal.τ).loc Cert.KernelMxIdeal.main_arg10))).1 = (fun _ => 1#1)
    ∧ (Cert.Pre_finite_mx.fn (F := Ideal) (m ((c.tc : Thread Cert.KernelMxIdeal.nD Cert.KernelMxIdeal.τ).loc Cert.KernelMxIdeal.main_arg0)) (m ((c.tc : Thread Cert.KernelMxIdeal.nD Cert.KernelMxIdeal.τ).loc Cert.KernelMxIdeal.main_arg1)) (m ((c.tc : Thread Cert.KernelMxIdeal.nD Cert.KernelMxIdeal.τ).loc Cert.KernelMxIdeal.main_arg2)) (m ((c.tc : Thread Cert.KernelMxIdeal.nD Cert.KernelMxIdeal.τ).loc Cert.KernelMxIdeal.main_arg3)) (m ((c.tc : Thread Cert.KernelMxIdeal.nD Cert.KernelMxIdeal.τ).loc Cert.KernelMxIdeal.main_arg4)) (m ((c.tc : Thread Cert.KernelMxIdeal.nD Cert.KernelMxIdeal.τ).loc Cert.KernelMxIdeal.main_arg5)) (m ((c.tc : Thread Cert.KernelMxIdeal.nD Cert.KernelMxIdeal.τ).loc Cert.KernelMxIdeal.main_arg6)) (m ((c.tc : Thread Cert.KernelMxIdeal.nD Cert.KernelMxIdeal.τ).loc Cert.KernelMxIdeal.main_arg7)) (m ((c.tc : Thread Cert.KernelMxIdeal.nD Cert.KernelMxIdeal.τ).loc Cert.KernelMxIdeal.main_arg8)) (m ((c.tc : Thread Cert.KernelMxIdeal.nD Cert.KernelMxIdeal.τ).loc Cert.KernelMxIdeal.main_arg9)) (m ((c.tc : Thread Cert.KernelMxIdeal.nD Cert.KernelMxIdeal.τ).loc Cert.KernelMxIdeal.main_arg10))).2.1 = (fun _ => 1#1)
    ∧ (Cert.Pre_finite_mx.fn (F := Ideal) (m ((c.tc : Thread Cert.KernelMxIdeal.nD Cert.KernelMxIdeal.τ).loc Cert.KernelMxIdeal.main_arg0)) (m ((c.tc : Thread Cert.KernelMxIdeal.nD Cert.KernelMxIdeal.τ).loc Cert.KernelMxIdeal.main_arg1)) (m ((c.tc : Thread Cert.KernelMxIdeal.nD Cert.KernelMxIdeal.τ).loc Cert.KernelMxIdeal.main_arg2)) (m ((c.tc : Thread Cert.KernelMxIdeal.nD Cert.KernelMxIdeal.τ).loc Cert.KernelMxIdeal.main_arg3)) (m ((c.tc : Thread Cert.KernelMxIdeal.nD Cert.KernelMxIdeal.τ).loc Cert.KernelMxIdeal.main_arg4)) (m ((c.tc : Thread Cert.KernelMxIdeal.nD Cert.KernelMxIdeal.τ).loc Cert.KernelMxIdeal.main_arg5)) (m ((c.tc : Thread Cert.KernelMxIdeal.nD Cert.KernelMxIdeal.τ).loc Cert.KernelMxIdeal.main_arg6)) (m ((c.tc : Thread Cert.KernelMxIdeal.nD Cert.KernelMxIdeal.τ).loc Cert.KernelMxIdeal.main_arg7)) (m ((c.tc : Thread Cert.KernelMxIdeal.nD Cert.KernelMxIdeal.τ).loc Cert.KernelMxIdeal.main_arg8)) (m ((c.tc : Thread Cert.KernelMxIdeal.nD Cert.KernelMxIdeal.τ).loc Cert.KernelMxIdeal.main_arg9)) (m ((c.tc : Thread Cert.KernelMxIdeal.nD Cert.KernelMxIdeal.τ).loc Cert.KernelMxIdeal.main_arg10))).2.2.1 = (fun _ => 1#1)
    ∧ (Cert.Pre_finite_mx.fn (F := Ideal) (m ((c.tc : Thread Cert.KernelMxIdeal.nD Cert.KernelMxIdeal.τ).loc Cert.KernelMxIdeal.main_arg0)) (m ((c.tc : Thread Cert.KernelMxIdeal.nD Cert.KernelMxIdeal.τ).loc Cert.KernelMxIdeal.main_arg1)) (m ((c.tc : Thread Cert.KernelMxIdeal.nD Cert.KernelMxIdeal.τ).loc Cert.KernelMxIdeal.main_arg2)) (m ((c.tc : Thread Cert.KernelMxIdeal.nD Cert.KernelMxIdeal.τ).loc Cert.KernelMxIdeal.main_arg3)) (m ((c.tc : Thread Cert.KernelMxIdeal.nD Cert.KernelMxIdeal.τ).loc Cert.KernelMxIdeal.main_arg4)) (m ((c.tc : Thread Cert.KernelMxIdeal.nD Cert.KernelMxIdeal.τ).loc Cert.KernelMxIdeal.main_arg5)) (m ((c.tc : Thread Cert.KernelMxIdeal.nD Cert.KernelMxIdeal.τ).loc Cert.KernelMxIdeal.main_arg6)) (m ((c.tc : Thread Cert.KernelMxIdeal.nD Cert.KernelMxIdeal.τ).loc Cert.KernelMxIdeal.main_arg7)) (m ((c.tc : Thread Cert.KernelMxIdeal.nD Cert.KernelMxIdeal.τ).loc Cert.KernelMxIdeal.main_arg8)) (m ((c.tc : Thread Cert.KernelMxIdeal.nD Cert.KernelMxIdeal.τ).loc Cert.KernelMxIdeal.main_arg9)) (m ((c.tc : Thread Cert.KernelMxIdeal.nD Cert.KernelMxIdeal.τ).loc Cert.KernelMxIdeal.main_arg10))).2.2.2.1 = (fun _ => 1#1)
    ∧ (Cert.Pre_finite_mx.fn (F := Ideal) (m ((c.tc : Thread Cert.KernelMxIdeal.nD Cert.KernelMxIdeal.τ).loc Cert.KernelMxIdeal.main_arg0)) (m ((c.tc : Thread Cert.KernelMxIdeal.nD Cert.KernelMxIdeal.τ).loc Cert.KernelMxIdeal.main_arg1)) (m ((c.tc : Thread Cert.KernelMxIdeal.nD Cert.KernelMxIdeal.τ).loc Cert.KernelMxIdeal.main_arg2)) (m ((c.tc : Thread Cert.KernelMxIdeal.nD Cert.KernelMxIdeal.τ).loc Cert.KernelMxIdeal.main_arg3)) (m ((c.tc : Thread Cert.KernelMxIdeal.nD Cert.KernelMxIdeal.τ).loc Cert.KernelMxIdeal.main_arg4)) (m ((c.tc : Thread Cert.KernelMxIdeal.nD Cert.KernelMxIdeal.τ).loc Cert.KernelMxIdeal.main_arg5)) (m ((c.tc : Thread Cert.KernelMxIdeal.nD Cert.KernelMxIdeal.τ).loc Cert.KernelMxIdeal.main_arg6)) (m ((c.tc : Thread Cert.KernelMxIdeal.nD Cert.KernelMxIdeal.τ).loc Cert.KernelMxIdeal.main_arg7)) (m ((c.tc : Thread Cert.KernelMxIdeal.nD Cert.KernelMxIdeal.τ).loc Cert.KernelMxIdeal.main_arg8)) (m ((c.tc : Thread Cert.KernelMxIdeal.nD Cert.KernelMxIdeal.τ).loc Cert.KernelMxIdeal.main_arg9)) (m ((c.tc : Thread Cert.KernelMxIdeal.nD Cert.KernelMxIdeal.τ).loc Cert.KernelMxIdeal.main_arg10))).2.2.2.2.1 = (fun _ => 1#1)
    ∧ (Cert.Pre_finite_mx.fn (F := Ideal) (m ((c.tc : Thread Cert.KernelMxIdeal.nD Cert.KernelMxIdeal.τ).loc Cert.KernelMxIdeal.main_arg0)) (m ((c.tc : Thread Cert.KernelMxIdeal.nD Cert.KernelMxIdeal.τ).loc Cert.KernelMxIdeal.main_arg1)) (m ((c.tc : Thread Cert.KernelMxIdeal.nD Cert.KernelMxIdeal.τ).loc Cert.KernelMxIdeal.main_arg2)) (m ((c.tc : Thread Cert.KernelMxIdeal.nD Cert.KernelMxIdeal.τ).loc Cert.KernelMxIdeal.main_arg3)) (m ((c.tc : Thread Cert.KernelMxIdeal.nD Cert.KernelMxIdeal.τ).loc Cert.KernelMxIdeal.main_arg4)) (m ((c.tc : Thread Cert.KernelMxIdeal.nD Cert.KernelMxIdeal.τ).loc Cert.KernelMxIdeal.main_arg5)) (m ((c.tc : Thread Cert.KernelMxIdeal.nD Cert.KernelMxIdeal.τ).loc Cert.KernelMxIdeal.main_arg6)) (m ((c.tc : Thread Cert.KernelMxIdeal.nD Cert.KernelMxIdeal.τ).loc Cert.KernelMxIdeal.main_arg7)) (m ((c.tc : Thread Cert.KernelMxIdeal.nD Cert.KernelMxIdeal.τ).loc Cert.KernelMxIdeal.main_arg8)) (m ((c.tc : Thread Cert.KernelMxIdeal.nD Cert.KernelMxIdeal.τ).loc Cert.KernelMxIdeal.main_arg9)) (m ((c.tc : Thread Cert.KernelMxIdeal.nD Cert.KernelMxIdeal.τ).loc Cert.KernelMxIdeal.main_arg10))).2.2.2.2.2.1 = (fun _ => 1#1)
    ∧ (Cert.Pre_finite_mx.fn (F := Ideal) (m ((c.tc : Thread Cert.KernelMxIdeal.nD Cert.KernelMxIdeal.τ).loc Cert.KernelMxIdeal.main_arg0)) (m ((c.tc : Thread Cert.KernelMxIdeal.nD Cert.KernelMxIdeal.τ).loc Cert.KernelMxIdeal.main_arg1)) (m ((c.tc : Thread Cert.KernelMxIdeal.nD Cert.KernelMxIdeal.τ).loc Cert.KernelMxIdeal.main_arg2)) (m ((c.tc : Thread Cert.KernelMxIdeal.nD Cert.KernelMxIdeal.τ).loc Cert.KernelMxIdeal.main_arg3)) (m ((c.tc : Thread Cert.KernelMxIdeal.nD Cert.KernelMxIdeal.τ).loc Cert.KernelMxIdeal.main_arg4)) (m ((c.tc : Thread Cert.KernelMxIdeal.nD Cert.KernelMxIdeal.τ).loc Cert.KernelMxIdeal.main_arg5)) (m ((c.tc : Thread Cert.KernelMxIdeal.nD Cert.KernelMxIdeal.τ).loc Cert.KernelMxIdeal.main_arg6)) (m ((c.tc : Thread Cert.KernelMxIdeal.nD Cert.KernelMxIdeal.τ).loc Cert.KernelMxIdeal.main_arg7)) (m ((c.tc : Thread Cert.KernelMxIdeal.nD Cert.KernelMxIdeal.τ).loc Cert.KernelMxIdeal.main_arg8)) (m ((c.tc : Thread Cert.KernelMxIdeal.nD Cert.KernelMxIdeal.τ).loc Cert.KernelMxIdeal.main_arg9)) (m ((c.tc : Thread Cert.KernelMxIdeal.nD Cert.KernelMxIdeal.τ).loc Cert.KernelMxIdeal.main_arg10))).2.2.2.2.2.2.1 = (fun _ => 1#1)
    ∧ (Cert.Pre_finite_mx.fn (F := Ideal) (m ((c.tc : Thread Cert.KernelMxIdeal.nD Cert.KernelMxIdeal.τ).loc Cert.KernelMxIdeal.main_arg0)) (m ((c.tc : Thread Cert.KernelMxIdeal.nD Cert.KernelMxIdeal.τ).loc Cert.KernelMxIdeal.main_arg1)) (m ((c.tc : Thread Cert.KernelMxIdeal.nD Cert.KernelMxIdeal.τ).loc Cert.KernelMxIdeal.main_arg2)) (m ((c.tc : Thread Cert.KernelMxIdeal.nD Cert.KernelMxIdeal.τ).loc Cert.KernelMxIdeal.main_arg3)) (m ((c.tc : Thread Cert.KernelMxIdeal.nD Cert.KernelMxIdeal.τ).loc Cert.KernelMxIdeal.main_arg4)) (m ((c.tc : Thread Cert.KernelMxIdeal.nD Cert.KernelMxIdeal.τ).loc Cert.KernelMxIdeal.main_arg5)) (m ((c.tc : Thread Cert.KernelMxIdeal.nD Cert.KernelMxIdeal.τ).loc Cert.KernelMxIdeal.main_arg6)) (m ((c.tc : Thread Cert.KernelMxIdeal.nD Cert.KernelMxIdeal.τ).loc Cert.KernelMxIdeal.main_arg7)) (m ((c.tc : Thread Cert.KernelMxIdeal.nD Cert.KernelMxIdeal.τ).loc Cert.KernelMxIdeal.main_arg8)) (m ((c.tc : Thread Cert.KernelMxIdeal.nD Cert.KernelMxIdeal.τ).loc Cert.KernelMxIdeal.main_arg9)) (m ((c.tc : Thread Cert.KernelMxIdeal.nD Cert.KernelMxIdeal.τ).loc Cert.KernelMxIdeal.main_arg10))).2.2.2.2.2.2.2.1 = (fun _ => 1#1)
    ∧ (Cert.Pre_finite_mx.fn (F := Ideal) (m ((c.tc : Thread Cert.KernelMxIdeal.nD Cert.KernelMxIdeal.τ).loc Cert.KernelMxIdeal.main_arg0)) (m ((c.tc : Thread Cert.KernelMxIdeal.nD Cert.KernelMxIdeal.τ).loc Cert.KernelMxIdeal.main_arg1)) (m ((c.tc : Thread Cert.KernelMxIdeal.nD Cert.KernelMxIdeal.τ).loc Cert.KernelMxIdeal.main_arg2)) (m ((c.tc : Thread Cert.KernelMxIdeal.nD Cert.KernelMxIdeal.τ).loc Cert.KernelMxIdeal.main_arg3)) (m ((c.tc : Thread Cert.KernelMxIdeal.nD Cert.KernelMxIdeal.τ).loc Cert.KernelMxIdeal.main_arg4)) (m ((c.tc : Thread Cert.KernelMxIdeal.nD Cert.KernelMxIdeal.τ).loc Cert.KernelMxIdeal.main_arg5)) (m ((c.tc : Thread Cert.KernelMxIdeal.nD Cert.KernelMxIdeal.τ).loc Cert.KernelMxIdeal.main_arg6)) (m ((c.tc : Thread Cert.KernelMxIdeal.nD Cert.KernelMxIdeal.τ).loc Cert.KernelMxIdeal.main_arg7)) (m ((c.tc : Thread Cert.KernelMxIdeal.nD Cert.KernelMxIdeal.τ).loc Cert.KernelMxIdeal.main_arg8)) (m ((c.tc : Thread Cert.KernelMxIdeal.nD Cert.KernelMxIdeal.τ).loc Cert.KernelMxIdeal.main_arg9)) (m ((c.tc : Thread Cert.KernelMxIdeal.nD Cert.KernelMxIdeal.τ).loc Cert.KernelMxIdeal.main_arg10))).2.2.2.2.2.2.2.2.1 = (fun _ => 1#1)
    ∧ (Cert.Pre_finite_mx.fn (F := Ideal) (m ((c.tc : Thread Cert.KernelMxIdeal.nD Cert.KernelMxIdeal.τ).loc Cert.KernelMxIdeal.main_arg0)) (m ((c.tc : Thread Cert.KernelMxIdeal.nD Cert.KernelMxIdeal.τ).loc Cert.KernelMxIdeal.main_arg1)) (m ((c.tc : Thread Cert.KernelMxIdeal.nD Cert.KernelMxIdeal.τ).loc Cert.KernelMxIdeal.main_arg2)) (m ((c.tc : Thread Cert.KernelMxIdeal.nD Cert.KernelMxIdeal.τ).loc Cert.KernelMxIdeal.main_arg3)) (m ((c.tc : Thread Cert.KernelMxIdeal.nD Cert.KernelMxIdeal.τ).loc Cert.KernelMxIdeal.main_arg4)) (m ((c.tc : Thread Cert.KernelMxIdeal.nD Cert.KernelMxIdeal.τ).loc Cert.KernelMxIdeal.main_arg5)) (m ((c.tc : Thread Cert.KernelMxIdeal.nD Cert.KernelMxIdeal.τ).loc Cert.KernelMxIdeal.main_arg6)) (m ((c.tc : Thread Cert.KernelMxIdeal.nD Cert.KernelMxIdeal.τ).loc Cert.KernelMxIdeal.main_arg7)) (m ((c.tc : Thread Cert.KernelMxIdeal.nD Cert.KernelMxIdeal.τ).loc Cert.KernelMxIdeal.main_arg8)) (m ((c.tc : Thread Cert.KernelMxIdeal.nD Cert.KernelMxIdeal.τ).loc Cert.KernelMxIdeal.main_arg9)) (m ((c.tc : Thread Cert.KernelMxIdeal.nD Cert.KernelMxIdeal.τ).loc Cert.KernelMxIdeal.main_arg10))).2.2.2.2.2.2.2.2.2.1 = (fun _ => 1#1)
    ∧ (Cert.Pre_finite_mx.fn (F := Ideal) (m ((c.tc : Thread Cert.KernelMxIdeal.nD Cert.KernelMxIdeal.τ).loc Cert.KernelMxIdeal.main_arg0)) (m ((c.tc : Thread Cert.KernelMxIdeal.nD Cert.KernelMxIdeal.τ).loc Cert.KernelMxIdeal.main_arg1)) (m ((c.tc : Thread Cert.KernelMxIdeal.nD Cert.KernelMxIdeal.τ).loc Cert.KernelMxIdeal.main_arg2)) (m ((c.tc : Thread Cert.KernelMxIdeal.nD Cert.KernelMxIdeal.τ).loc Cert.KernelMxIdeal.main_arg3)) (m ((c.tc : Thread Cert.KernelMxIdeal.nD Cert.KernelMxIdeal.τ).loc Cert.KernelMxIdeal.main_arg4)) (m ((c.tc : Thread Cert.KernelMxIdeal.nD Cert.KernelMxIdeal.τ).loc Cert.KernelMxIdeal.main_arg5)) (m ((c.tc : Thread Cert.KernelMxIdeal.nD Cert.KernelMxIdeal.τ).loc Cert.KernelMxIdeal.main_arg6)) (m ((c.tc : Thread Cert.KernelMxIdeal.nD Cert.KernelMxIdeal.τ).loc Cert.KernelMxIdeal.main_arg7)) (m ((c.tc : Thread Cert.KernelMxIdeal.nD Cert.KernelMxIdeal.τ).loc Cert.KernelMxIdeal.main_arg8)) (m ((c.tc : Thread Cert.KernelMxIdeal.nD Cert.KernelMxIdeal.τ).loc Cert.KernelMxIdeal.main_arg9)) (m ((c.tc : Thread Cert.KernelMxIdeal.nD Cert.KernelMxIdeal.τ).loc Cert.KernelMxIdeal.main_arg10))).2.2.2.2.2.2.2.2.2.2 = (fun _ => 1#1)

def Pre_RefMxIdeal (m : (ℓ : Loc Cert.RefMxIdeal.nD Cert.RefMxIdeal.τ Cert.RefMxIdeal.sig) → Buf (Elt Ideal) ℓ) : Prop :=
  True

def Pre_RefMxIdeal_finite_mx [hPre_finite_mx : Cert.Pre_finite_mx.Facts] (m : (ℓ : Loc Cert.RefMxIdeal.nD Cert.RefMxIdeal.τ Cert.RefMxIdeal.sig) → Buf (Elt Ideal) ℓ) : Prop :=
  ∀ c : Dev Cert.RefMxIdeal.nD,
    (Cert.Pre_finite_mx.fn (F := Ideal) (m ((c.tc : Thread Cert.RefMxIdeal.nD Cert.RefMxIdeal.τ).loc Cert.RefMxIdeal.main_arg0)) (m ((c.tc : Thread Cert.RefMxIdeal.nD Cert.RefMxIdeal.τ).loc Cert.RefMxIdeal.main_arg1)) (m ((c.tc : Thread Cert.RefMxIdeal.nD Cert.RefMxIdeal.τ).loc Cert.RefMxIdeal.main_arg2)) (m ((c.tc : Thread Cert.RefMxIdeal.nD Cert.RefMxIdeal.τ).loc Cert.RefMxIdeal.main_arg3)) (m ((c.tc : Thread Cert.RefMxIdeal.nD Cert.RefMxIdeal.τ).loc Cert.RefMxIdeal.main_arg4)) (m ((c.tc : Thread Cert.RefMxIdeal.nD Cert.RefMxIdeal.τ).loc Cert.RefMxIdeal.main_arg5)) (m ((c.tc : Thread Cert.RefMxIdeal.nD Cert.RefMxIdeal.τ).loc Cert.RefMxIdeal.main_arg6)) (m ((c.tc : Thread Cert.RefMxIdeal.nD Cert.RefMxIdeal.τ).loc Cert.RefMxIdeal.main_arg7)) (m ((c.tc : Thread Cert.RefMxIdeal.nD Cert.RefMxIdeal.τ).loc Cert.RefMxIdeal.main_arg8)) (m ((c.tc : Thread Cert.RefMxIdeal.nD Cert.RefMxIdeal.τ).loc Cert.RefMxIdeal.main_arg9)) (m ((c.tc : Thread Cert.RefMxIdeal.nD Cert.RefMxIdeal.τ).loc Cert.RefMxIdeal.main_arg10))).1 = (fun _ => 1#1)
    ∧ (Cert.Pre_finite_mx.fn (F := Ideal) (m ((c.tc : Thread Cert.RefMxIdeal.nD Cert.RefMxIdeal.τ).loc Cert.RefMxIdeal.main_arg0)) (m ((c.tc : Thread Cert.RefMxIdeal.nD Cert.RefMxIdeal.τ).loc Cert.RefMxIdeal.main_arg1)) (m ((c.tc : Thread Cert.RefMxIdeal.nD Cert.RefMxIdeal.τ).loc Cert.RefMxIdeal.main_arg2)) (m ((c.tc : Thread Cert.RefMxIdeal.nD Cert.RefMxIdeal.τ).loc Cert.RefMxIdeal.main_arg3)) (m ((c.tc : Thread Cert.RefMxIdeal.nD Cert.RefMxIdeal.τ).loc Cert.RefMxIdeal.main_arg4)) (m ((c.tc : Thread Cert.RefMxIdeal.nD Cert.RefMxIdeal.τ).loc Cert.RefMxIdeal.main_arg5)) (m ((c.tc : Thread Cert.RefMxIdeal.nD Cert.RefMxIdeal.τ).loc Cert.RefMxIdeal.main_arg6)) (m ((c.tc : Thread Cert.RefMxIdeal.nD Cert.RefMxIdeal.τ).loc Cert.RefMxIdeal.main_arg7)) (m ((c.tc : Thread Cert.RefMxIdeal.nD Cert.RefMxIdeal.τ).loc Cert.RefMxIdeal.main_arg8)) (m ((c.tc : Thread Cert.RefMxIdeal.nD Cert.RefMxIdeal.τ).loc Cert.RefMxIdeal.main_arg9)) (m ((c.tc : Thread Cert.RefMxIdeal.nD Cert.RefMxIdeal.τ).loc Cert.RefMxIdeal.main_arg10))).2.1 = (fun _ => 1#1)
    ∧ (Cert.Pre_finite_mx.fn (F := Ideal) (m ((c.tc : Thread Cert.RefMxIdeal.nD Cert.RefMxIdeal.τ).loc Cert.RefMxIdeal.main_arg0)) (m ((c.tc : Thread Cert.RefMxIdeal.nD Cert.RefMxIdeal.τ).loc Cert.RefMxIdeal.main_arg1)) (m ((c.tc : Thread Cert.RefMxIdeal.nD Cert.RefMxIdeal.τ).loc Cert.RefMxIdeal.main_arg2)) (m ((c.tc : Thread Cert.RefMxIdeal.nD Cert.RefMxIdeal.τ).loc Cert.RefMxIdeal.main_arg3)) (m ((c.tc : Thread Cert.RefMxIdeal.nD Cert.RefMxIdeal.τ).loc Cert.RefMxIdeal.main_arg4)) (m ((c.tc : Thread Cert.RefMxIdeal.nD Cert.RefMxIdeal.τ).loc Cert.RefMxIdeal.main_arg5)) (m ((c.tc : Thread Cert.RefMxIdeal.nD Cert.RefMxIdeal.τ).loc Cert.RefMxIdeal.main_arg6)) (m ((c.tc : Thread Cert.RefMxIdeal.nD Cert.RefMxIdeal.τ).loc Cert.RefMxIdeal.main_arg7)) (m ((c.tc : Thread Cert.RefMxIdeal.nD Cert.RefMxIdeal.τ).loc Cert.RefMxIdeal.main_arg8)) (m ((c.tc : Thread Cert.RefMxIdeal.nD Cert.RefMxIdeal.τ).loc Cert.RefMxIdeal.main_arg9)) (m ((c.tc : Thread Cert.RefMxIdeal.nD Cert.RefMxIdeal.τ).loc Cert.RefMxIdeal.main_arg10))).2.2.1 = (fun _ => 1#1)
    ∧ (Cert.Pre_finite_mx.fn (F := Ideal) (m ((c.tc : Thread Cert.RefMxIdeal.nD Cert.RefMxIdeal.τ).loc Cert.RefMxIdeal.main_arg0)) (m ((c.tc : Thread Cert.RefMxIdeal.nD Cert.RefMxIdeal.τ).loc Cert.RefMxIdeal.main_arg1)) (m ((c.tc : Thread Cert.RefMxIdeal.nD Cert.RefMxIdeal.τ).loc Cert.RefMxIdeal.main_arg2)) (m ((c.tc : Thread Cert.RefMxIdeal.nD Cert.RefMxIdeal.τ).loc Cert.RefMxIdeal.main_arg3)) (m ((c.tc : Thread Cert.RefMxIdeal.nD Cert.RefMxIdeal.τ).loc Cert.RefMxIdeal.main_arg4)) (m ((c.tc : Thread Cert.RefMxIdeal.nD Cert.RefMxIdeal.τ).loc Cert.RefMxIdeal.main_arg5)) (m ((c.tc : Thread Cert.RefMxIdeal.nD Cert.RefMxIdeal.τ).loc Cert.RefMxIdeal.main_arg6)) (m ((c.tc : Thread Cert.RefMxIdeal.nD Cert.RefMxIdeal.τ).loc Cert.RefMxIdeal.main_arg7)) (m ((c.tc : Thread Cert.RefMxIdeal.nD Cert.RefMxIdeal.τ).loc Cert.RefMxIdeal.main_arg8)) (m ((c.tc : Thread Cert.RefMxIdeal.nD Cert.RefMxIdeal.τ).loc Cert.RefMxIdeal.main_arg9)) (m ((c.tc : Thread Cert.RefMxIdeal.nD Cert.RefMxIdeal.τ).loc Cert.RefMxIdeal.main_arg10))).2.2.2.1 = (fun _ => 1#1)
    ∧ (Cert.Pre_finite_mx.fn (F := Ideal) (m ((c.tc : Thread Cert.RefMxIdeal.nD Cert.RefMxIdeal.τ).loc Cert.RefMxIdeal.main_arg0)) (m ((c.tc : Thread Cert.RefMxIdeal.nD Cert.RefMxIdeal.τ).loc Cert.RefMxIdeal.main_arg1)) (m ((c.tc : Thread Cert.RefMxIdeal.nD Cert.RefMxIdeal.τ).loc Cert.RefMxIdeal.main_arg2)) (m ((c.tc : Thread Cert.RefMxIdeal.nD Cert.RefMxIdeal.τ).loc Cert.RefMxIdeal.main_arg3)) (m ((c.tc : Thread Cert.RefMxIdeal.nD Cert.RefMxIdeal.τ).loc Cert.RefMxIdeal.main_arg4)) (m ((c.tc : Thread Cert.RefMxIdeal.nD Cert.RefMxIdeal.τ).loc Cert.RefMxIdeal.main_arg5)) (m ((c.tc : Thread Cert.RefMxIdeal.nD Cert.RefMxIdeal.τ).loc Cert.RefMxIdeal.main_arg6)) (m ((c.tc : Thread Cert.RefMxIdeal.nD Cert.RefMxIdeal.τ).loc Cert.RefMxIdeal.main_arg7)) (m ((c.tc : Thread Cert.RefMxIdeal.nD Cert.RefMxIdeal.τ).loc Cert.RefMxIdeal.main_arg8)) (m ((c.tc : Thread Cert.RefMxIdeal.nD Cert.RefMxIdeal.τ).loc Cert.RefMxIdeal.main_arg9)) (m ((c.tc : Thread Cert.RefMxIdeal.nD Cert.RefMxIdeal.τ).loc Cert.RefMxIdeal.main_arg10))).2.2.2.2.1 = (fun _ => 1#1)
    ∧ (Cert.Pre_finite_mx.fn (F := Ideal) (m ((c.tc : Thread Cert.RefMxIdeal.nD Cert.RefMxIdeal.τ).loc Cert.RefMxIdeal.main_arg0)) (m ((c.tc : Thread Cert.RefMxIdeal.nD Cert.RefMxIdeal.τ).loc Cert.RefMxIdeal.main_arg1)) (m ((c.tc : Thread Cert.RefMxIdeal.nD Cert.RefMxIdeal.τ).loc Cert.RefMxIdeal.main_arg2)) (m ((c.tc : Thread Cert.RefMxIdeal.nD Cert.RefMxIdeal.τ).loc Cert.RefMxIdeal.main_arg3)) (m ((c.tc : Thread Cert.RefMxIdeal.nD Cert.RefMxIdeal.τ).loc Cert.RefMxIdeal.main_arg4)) (m ((c.tc : Thread Cert.RefMxIdeal.nD Cert.RefMxIdeal.τ).loc Cert.RefMxIdeal.main_arg5)) (m ((c.tc : Thread Cert.RefMxIdeal.nD Cert.RefMxIdeal.τ).loc Cert.RefMxIdeal.main_arg6)) (m ((c.tc : Thread Cert.RefMxIdeal.nD Cert.RefMxIdeal.τ).loc Cert.RefMxIdeal.main_arg7)) (m ((c.tc : Thread Cert.RefMxIdeal.nD Cert.RefMxIdeal.τ).loc Cert.RefMxIdeal.main_arg8)) (m ((c.tc : Thread Cert.RefMxIdeal.nD Cert.RefMxIdeal.τ).loc Cert.RefMxIdeal.main_arg9)) (m ((c.tc : Thread Cert.RefMxIdeal.nD Cert.RefMxIdeal.τ).loc Cert.RefMxIdeal.main_arg10))).2.2.2.2.2.1 = (fun _ => 1#1)
    ∧ (Cert.Pre_finite_mx.fn (F := Ideal) (m ((c.tc : Thread Cert.RefMxIdeal.nD Cert.RefMxIdeal.τ).loc Cert.RefMxIdeal.main_arg0)) (m ((c.tc : Thread Cert.RefMxIdeal.nD Cert.RefMxIdeal.τ).loc Cert.RefMxIdeal.main_arg1)) (m ((c.tc : Thread Cert.RefMxIdeal.nD Cert.RefMxIdeal.τ).loc Cert.RefMxIdeal.main_arg2)) (m ((c.tc : Thread Cert.RefMxIdeal.nD Cert.RefMxIdeal.τ).loc Cert.RefMxIdeal.main_arg3)) (m ((c.tc : Thread Cert.RefMxIdeal.nD Cert.RefMxIdeal.τ).loc Cert.RefMxIdeal.main_arg4)) (m ((c.tc : Thread Cert.RefMxIdeal.nD Cert.RefMxIdeal.τ).loc Cert.RefMxIdeal.main_arg5)) (m ((c.tc : Thread Cert.RefMxIdeal.nD Cert.RefMxIdeal.τ).loc Cert.RefMxIdeal.main_arg6)) (m ((c.tc : Thread Cert.RefMxIdeal.nD Cert.RefMxIdeal.τ).loc Cert.RefMxIdeal.main_arg7)) (m ((c.tc : Thread Cert.RefMxIdeal.nD Cert.RefMxIdeal.τ).loc Cert.RefMxIdeal.main_arg8)) (m ((c.tc : Thread Cert.RefMxIdeal.nD Cert.RefMxIdeal.τ).loc Cert.RefMxIdeal.main_arg9)) (m ((c.tc : Thread Cert.RefMxIdeal.nD Cert.RefMxIdeal.τ).loc Cert.RefMxIdeal.main_arg10))).2.2.2.2.2.2.1 = (fun _ => 1#1)
    ∧ (Cert.Pre_finite_mx.fn (F := Ideal) (m ((c.tc : Thread Cert.RefMxIdeal.nD Cert.RefMxIdeal.τ).loc Cert.RefMxIdeal.main_arg0)) (m ((c.tc : Thread Cert.RefMxIdeal.nD Cert.RefMxIdeal.τ).loc Cert.RefMxIdeal.main_arg1)) (m ((c.tc : Thread Cert.RefMxIdeal.nD Cert.RefMxIdeal.τ).loc Cert.RefMxIdeal.main_arg2)) (m ((c.tc : Thread Cert.RefMxIdeal.nD Cert.RefMxIdeal.τ).loc Cert.RefMxIdeal.main_arg3)) (m ((c.tc : Thread Cert.RefMxIdeal.nD Cert.RefMxIdeal.τ).loc Cert.RefMxIdeal.main_arg4)) (m ((c.tc : Thread Cert.RefMxIdeal.nD Cert.RefMxIdeal.τ).loc Cert.RefMxIdeal.main_arg5)) (m ((c.tc : Thread Cert.RefMxIdeal.nD Cert.RefMxIdeal.τ).loc Cert.RefMxIdeal.main_arg6)) (m ((c.tc : Thread Cert.RefMxIdeal.nD Cert.RefMxIdeal.τ).loc Cert.RefMxIdeal.main_arg7)) (m ((c.tc : Thread Cert.RefMxIdeal.nD Cert.RefMxIdeal.τ).loc Cert.RefMxIdeal.main_arg8)) (m ((c.tc : Thread Cert.RefMxIdeal.nD Cert.RefMxIdeal.τ).loc Cert.RefMxIdeal.main_arg9)) (m ((c.tc : Thread Cert.RefMxIdeal.nD Cert.RefMxIdeal.τ).loc Cert.RefMxIdeal.main_arg10))).2.2.2.2.2.2.2.1 = (fun _ => 1#1)
    ∧ (Cert.Pre_finite_mx.fn (F := Ideal) (m ((c.tc : Thread Cert.RefMxIdeal.nD Cert.RefMxIdeal.τ).loc Cert.RefMxIdeal.main_arg0)) (m ((c.tc : Thread Cert.RefMxIdeal.nD Cert.RefMxIdeal.τ).loc Cert.RefMxIdeal.main_arg1)) (m ((c.tc : Thread Cert.RefMxIdeal.nD Cert.RefMxIdeal.τ).loc Cert.RefMxIdeal.main_arg2)) (m ((c.tc : Thread Cert.RefMxIdeal.nD Cert.RefMxIdeal.τ).loc Cert.RefMxIdeal.main_arg3)) (m ((c.tc : Thread Cert.RefMxIdeal.nD Cert.RefMxIdeal.τ).loc Cert.RefMxIdeal.main_arg4)) (m ((c.tc : Thread Cert.RefMxIdeal.nD Cert.RefMxIdeal.τ).loc Cert.RefMxIdeal.main_arg5)) (m ((c.tc : Thread Cert.RefMxIdeal.nD Cert.RefMxIdeal.τ).loc Cert.RefMxIdeal.main_arg6)) (m ((c.tc : Thread Cert.RefMxIdeal.nD Cert.RefMxIdeal.τ).loc Cert.RefMxIdeal.main_arg7)) (m ((c.tc : Thread Cert.RefMxIdeal.nD Cert.RefMxIdeal.τ).loc Cert.RefMxIdeal.main_arg8)) (m ((c.tc : Thread Cert.RefMxIdeal.nD Cert.RefMxIdeal.τ).loc Cert.RefMxIdeal.main_arg9)) (m ((c.tc : Thread Cert.RefMxIdeal.nD Cert.RefMxIdeal.τ).loc Cert.RefMxIdeal.main_arg10))).2.2.2.2.2.2.2.2.1 = (fun _ => 1#1)
    ∧ (Cert.Pre_finite_mx.fn (F := Ideal) (m ((c.tc : Thread Cert.RefMxIdeal.nD Cert.RefMxIdeal.τ).loc Cert.RefMxIdeal.main_arg0)) (m ((c.tc : Thread Cert.RefMxIdeal.nD Cert.RefMxIdeal.τ).loc Cert.RefMxIdeal.main_arg1)) (m ((c.tc : Thread Cert.RefMxIdeal.nD Cert.RefMxIdeal.τ).loc Cert.RefMxIdeal.main_arg2)) (m ((c.tc : Thread Cert.RefMxIdeal.nD Cert.RefMxIdeal.τ).loc Cert.RefMxIdeal.main_arg3)) (m ((c.tc : Thread Cert.RefMxIdeal.nD Cert.RefMxIdeal.τ).loc Cert.RefMxIdeal.main_arg4)) (m ((c.tc : Thread Cert.RefMxIdeal.nD Cert.RefMxIdeal.τ).loc Cert.RefMxIdeal.main_arg5)) (m ((c.tc : Thread Cert.RefMxIdeal.nD Cert.RefMxIdeal.τ).loc Cert.RefMxIdeal.main_arg6)) (m ((c.tc : Thread Cert.RefMxIdeal.nD Cert.RefMxIdeal.τ).loc Cert.RefMxIdeal.main_arg7)) (m ((c.tc : Thread Cert.RefMxIdeal.nD Cert.RefMxIdeal.τ).loc Cert.RefMxIdeal.main_arg8)) (m ((c.tc : Thread Cert.RefMxIdeal.nD Cert.RefMxIdeal.τ).loc Cert.RefMxIdeal.main_arg9)) (m ((c.tc : Thread Cert.RefMxIdeal.nD Cert.RefMxIdeal.τ).loc Cert.RefMxIdeal.main_arg10))).2.2.2.2.2.2.2.2.2.1 = (fun _ => 1#1)
    ∧ (Cert.Pre_finite_mx.fn (F := Ideal) (m ((c.tc : Thread Cert.RefMxIdeal.nD Cert.RefMxIdeal.τ).loc Cert.RefMxIdeal.main_arg0)) (m ((c.tc : Thread Cert.RefMxIdeal.nD Cert.RefMxIdeal.τ).loc Cert.RefMxIdeal.main_arg1)) (m ((c.tc : Thread Cert.RefMxIdeal.nD Cert.RefMxIdeal.τ).loc Cert.RefMxIdeal.main_arg2)) (m ((c.tc : Thread Cert.RefMxIdeal.nD Cert.RefMxIdeal.τ).loc Cert.RefMxIdeal.main_arg3)) (m ((c.tc : Thread Cert.RefMxIdeal.nD Cert.RefMxIdeal.τ).loc Cert.RefMxIdeal.main_arg4)) (m ((c.tc : Thread Cert.RefMxIdeal.nD Cert.RefMxIdeal.τ).loc Cert.RefMxIdeal.main_arg5)) (m ((c.tc : Thread Cert.RefMxIdeal.nD Cert.RefMxIdeal.τ).loc Cert.RefMxIdeal.main_arg6)) (m ((c.tc : Thread Cert.RefMxIdeal.nD Cert.RefMxIdeal.τ).loc Cert.RefMxIdeal.main_arg7)) (m ((c.tc : Thread Cert.RefMxIdeal.nD Cert.RefMxIdeal.τ).loc Cert.RefMxIdeal.main_arg8)) (m ((c.tc : Thread Cert.RefMxIdeal.nD Cert.RefMxIdeal.τ).loc Cert.RefMxIdeal.main_arg9)) (m ((c.tc : Thread Cert.RefMxIdeal.nD Cert.RefMxIdeal.τ).loc Cert.RefMxIdeal.main_arg10))).2.2.2.2.2.2.2.2.2.2 = (fun _ => 1#1)

def Pre_KernelFb (m : (ℓ : Loc Cert.KernelFb.nD Cert.KernelFb.τ Cert.KernelFb.sig) → Buf (Elt Bits) ℓ) : Prop :=
  True

def Pre_KernelFbIdeal (m : (ℓ : Loc Cert.KernelFbIdeal.nD Cert.KernelFbIdeal.τ Cert.KernelFbIdeal.sig) → Buf (Elt Ideal) ℓ) : Prop :=
  True

def Pre_KernelFbIdeal_finite_fb [hPre_finite_fb : Cert.Pre_finite_fb.Facts] (m : (ℓ : Loc Cert.KernelFbIdeal.nD Cert.KernelFbIdeal.τ Cert.KernelFbIdeal.sig) → Buf (Elt Ideal) ℓ) : Prop :=
  ∀ c : Dev Cert.KernelFbIdeal.nD,
    (Cert.Pre_finite_fb.fn (F := Ideal) (m ((c.tc : Thread Cert.KernelFbIdeal.nD Cert.KernelFbIdeal.τ).loc Cert.KernelFbIdeal.main_arg0)) (m ((c.tc : Thread Cert.KernelFbIdeal.nD Cert.KernelFbIdeal.τ).loc Cert.KernelFbIdeal.main_arg1)) (m ((c.tc : Thread Cert.KernelFbIdeal.nD Cert.KernelFbIdeal.τ).loc Cert.KernelFbIdeal.main_arg2)) (m ((c.tc : Thread Cert.KernelFbIdeal.nD Cert.KernelFbIdeal.τ).loc Cert.KernelFbIdeal.main_arg3)) (m ((c.tc : Thread Cert.KernelFbIdeal.nD Cert.KernelFbIdeal.τ).loc Cert.KernelFbIdeal.main_arg4)) (m ((c.tc : Thread Cert.KernelFbIdeal.nD Cert.KernelFbIdeal.τ).loc Cert.KernelFbIdeal.main_arg5)) (m ((c.tc : Thread Cert.KernelFbIdeal.nD Cert.KernelFbIdeal.τ).loc Cert.KernelFbIdeal.main_arg6)) (m ((c.tc : Thread Cert.KernelFbIdeal.nD Cert.KernelFbIdeal.τ).loc Cert.KernelFbIdeal.main_arg7))).1 = (fun _ => 1#1)
    ∧ (Cert.Pre_finite_fb.fn (F := Ideal) (m ((c.tc : Thread Cert.KernelFbIdeal.nD Cert.KernelFbIdeal.τ).loc Cert.KernelFbIdeal.main_arg0)) (m ((c.tc : Thread Cert.KernelFbIdeal.nD Cert.KernelFbIdeal.τ).loc Cert.KernelFbIdeal.main_arg1)) (m ((c.tc : Thread Cert.KernelFbIdeal.nD Cert.KernelFbIdeal.τ).loc Cert.KernelFbIdeal.main_arg2)) (m ((c.tc : Thread Cert.KernelFbIdeal.nD Cert.KernelFbIdeal.τ).loc Cert.KernelFbIdeal.main_arg3)) (m ((c.tc : Thread Cert.KernelFbIdeal.nD Cert.KernelFbIdeal.τ).loc Cert.KernelFbIdeal.main_arg4)) (m ((c.tc : Thread Cert.KernelFbIdeal.nD Cert.KernelFbIdeal.τ).loc Cert.KernelFbIdeal.main_arg5)) (m ((c.tc : Thread Cert.KernelFbIdeal.nD Cert.KernelFbIdeal.τ).loc Cert.KernelFbIdeal.main_arg6)) (m ((c.tc : Thread Cert.KernelFbIdeal.nD Cert.KernelFbIdeal.τ).loc Cert.KernelFbIdeal.main_arg7))).2.1 = (fun _ => 1#1)
    ∧ (Cert.Pre_finite_fb.fn (F := Ideal) (m ((c.tc : Thread Cert.KernelFbIdeal.nD Cert.KernelFbIdeal.τ).loc Cert.KernelFbIdeal.main_arg0)) (m ((c.tc : Thread Cert.KernelFbIdeal.nD Cert.KernelFbIdeal.τ).loc Cert.KernelFbIdeal.main_arg1)) (m ((c.tc : Thread Cert.KernelFbIdeal.nD Cert.KernelFbIdeal.τ).loc Cert.KernelFbIdeal.main_arg2)) (m ((c.tc : Thread Cert.KernelFbIdeal.nD Cert.KernelFbIdeal.τ).loc Cert.KernelFbIdeal.main_arg3)) (m ((c.tc : Thread Cert.KernelFbIdeal.nD Cert.KernelFbIdeal.τ).loc Cert.KernelFbIdeal.main_arg4)) (m ((c.tc : Thread Cert.KernelFbIdeal.nD Cert.KernelFbIdeal.τ).loc Cert.KernelFbIdeal.main_arg5)) (m ((c.tc : Thread Cert.KernelFbIdeal.nD Cert.KernelFbIdeal.τ).loc Cert.KernelFbIdeal.main_arg6)) (m ((c.tc : Thread Cert.KernelFbIdeal.nD Cert.KernelFbIdeal.τ).loc Cert.KernelFbIdeal.main_arg7))).2.2.1 = (fun _ => 1#1)
    ∧ (Cert.Pre_finite_fb.fn (F := Ideal) (m ((c.tc : Thread Cert.KernelFbIdeal.nD Cert.KernelFbIdeal.τ).loc Cert.KernelFbIdeal.main_arg0)) (m ((c.tc : Thread Cert.KernelFbIdeal.nD Cert.KernelFbIdeal.τ).loc Cert.KernelFbIdeal.main_arg1)) (m ((c.tc : Thread Cert.KernelFbIdeal.nD Cert.KernelFbIdeal.τ).loc Cert.KernelFbIdeal.main_arg2)) (m ((c.tc : Thread Cert.KernelFbIdeal.nD Cert.KernelFbIdeal.τ).loc Cert.KernelFbIdeal.main_arg3)) (m ((c.tc : Thread Cert.KernelFbIdeal.nD Cert.KernelFbIdeal.τ).loc Cert.KernelFbIdeal.main_arg4)) (m ((c.tc : Thread Cert.KernelFbIdeal.nD Cert.KernelFbIdeal.τ).loc Cert.KernelFbIdeal.main_arg5)) (m ((c.tc : Thread Cert.KernelFbIdeal.nD Cert.KernelFbIdeal.τ).loc Cert.KernelFbIdeal.main_arg6)) (m ((c.tc : Thread Cert.KernelFbIdeal.nD Cert.KernelFbIdeal.τ).loc Cert.KernelFbIdeal.main_arg7))).2.2.2.1 = (fun _ => 1#1)
    ∧ (Cert.Pre_finite_fb.fn (F := Ideal) (m ((c.tc : Thread Cert.KernelFbIdeal.nD Cert.KernelFbIdeal.τ).loc Cert.KernelFbIdeal.main_arg0)) (m ((c.tc : Thread Cert.KernelFbIdeal.nD Cert.KernelFbIdeal.τ).loc Cert.KernelFbIdeal.main_arg1)) (m ((c.tc : Thread Cert.KernelFbIdeal.nD Cert.KernelFbIdeal.τ).loc Cert.KernelFbIdeal.main_arg2)) (m ((c.tc : Thread Cert.KernelFbIdeal.nD Cert.KernelFbIdeal.τ).loc Cert.KernelFbIdeal.main_arg3)) (m ((c.tc : Thread Cert.KernelFbIdeal.nD Cert.KernelFbIdeal.τ).loc Cert.KernelFbIdeal.main_arg4)) (m ((c.tc : Thread Cert.KernelFbIdeal.nD Cert.KernelFbIdeal.τ).loc Cert.KernelFbIdeal.main_arg5)) (m ((c.tc : Thread Cert.KernelFbIdeal.nD Cert.KernelFbIdeal.τ).loc Cert.KernelFbIdeal.main_arg6)) (m ((c.tc : Thread Cert.KernelFbIdeal.nD Cert.KernelFbIdeal.τ).loc Cert.KernelFbIdeal.main_arg7))).2.2.2.2.1 = (fun _ => 1#1)
    ∧ (Cert.Pre_finite_fb.fn (F := Ideal) (m ((c.tc : Thread Cert.KernelFbIdeal.nD Cert.KernelFbIdeal.τ).loc Cert.KernelFbIdeal.main_arg0)) (m ((c.tc : Thread Cert.KernelFbIdeal.nD Cert.KernelFbIdeal.τ).loc Cert.KernelFbIdeal.main_arg1)) (m ((c.tc : Thread Cert.KernelFbIdeal.nD Cert.KernelFbIdeal.τ).loc Cert.KernelFbIdeal.main_arg2)) (m ((c.tc : Thread Cert.KernelFbIdeal.nD Cert.KernelFbIdeal.τ).loc Cert.KernelFbIdeal.main_arg3)) (m ((c.tc : Thread Cert.KernelFbIdeal.nD Cert.KernelFbIdeal.τ).loc Cert.KernelFbIdeal.main_arg4)) (m ((c.tc : Thread Cert.KernelFbIdeal.nD Cert.KernelFbIdeal.τ).loc Cert.KernelFbIdeal.main_arg5)) (m ((c.tc : Thread Cert.KernelFbIdeal.nD Cert.KernelFbIdeal.τ).loc Cert.KernelFbIdeal.main_arg6)) (m ((c.tc : Thread Cert.KernelFbIdeal.nD Cert.KernelFbIdeal.τ).loc Cert.KernelFbIdeal.main_arg7))).2.2.2.2.2.1 = (fun _ => 1#1)
    ∧ (Cert.Pre_finite_fb.fn (F := Ideal) (m ((c.tc : Thread Cert.KernelFbIdeal.nD Cert.KernelFbIdeal.τ).loc Cert.KernelFbIdeal.main_arg0)) (m ((c.tc : Thread Cert.KernelFbIdeal.nD Cert.KernelFbIdeal.τ).loc Cert.KernelFbIdeal.main_arg1)) (m ((c.tc : Thread Cert.KernelFbIdeal.nD Cert.KernelFbIdeal.τ).loc Cert.KernelFbIdeal.main_arg2)) (m ((c.tc : Thread Cert.KernelFbIdeal.nD Cert.KernelFbIdeal.τ).loc Cert.KernelFbIdeal.main_arg3)) (m ((c.tc : Thread Cert.KernelFbIdeal.nD Cert.KernelFbIdeal.τ).loc Cert.KernelFbIdeal.main_arg4)) (m ((c.tc : Thread Cert.KernelFbIdeal.nD Cert.KernelFbIdeal.τ).loc Cert.KernelFbIdeal.main_arg5)) (m ((c.tc : Thread Cert.KernelFbIdeal.nD Cert.KernelFbIdeal.τ).loc Cert.KernelFbIdeal.main_arg6)) (m ((c.tc : Thread Cert.KernelFbIdeal.nD Cert.KernelFbIdeal.τ).loc Cert.KernelFbIdeal.main_arg7))).2.2.2.2.2.2.1 = (fun _ => 1#1)
    ∧ (Cert.Pre_finite_fb.fn (F := Ideal) (m ((c.tc : Thread Cert.KernelFbIdeal.nD Cert.KernelFbIdeal.τ).loc Cert.KernelFbIdeal.main_arg0)) (m ((c.tc : Thread Cert.KernelFbIdeal.nD Cert.KernelFbIdeal.τ).loc Cert.KernelFbIdeal.main_arg1)) (m ((c.tc : Thread Cert.KernelFbIdeal.nD Cert.KernelFbIdeal.τ).loc Cert.KernelFbIdeal.main_arg2)) (m ((c.tc : Thread Cert.KernelFbIdeal.nD Cert.KernelFbIdeal.τ).loc Cert.KernelFbIdeal.main_arg3)) (m ((c.tc : Thread Cert.KernelFbIdeal.nD Cert.KernelFbIdeal.τ).loc Cert.KernelFbIdeal.main_arg4)) (m ((c.tc : Thread Cert.KernelFbIdeal.nD Cert.KernelFbIdeal.τ).loc Cert.KernelFbIdeal.main_arg5)) (m ((c.tc : Thread Cert.KernelFbIdeal.nD Cert.KernelFbIdeal.τ).loc Cert.KernelFbIdeal.main_arg6)) (m ((c.tc : Thread Cert.KernelFbIdeal.nD Cert.KernelFbIdeal.τ).loc Cert.KernelFbIdeal.main_arg7))).2.2.2.2.2.2.2 = (fun _ => 1#1)

def Pre_RefFbIdeal (m : (ℓ : Loc Cert.RefFbIdeal.nD Cert.RefFbIdeal.τ Cert.RefFbIdeal.sig) → Buf (Elt Ideal) ℓ) : Prop :=
  True

def Pre_RefFbIdeal_finite_fb [hPre_finite_fb : Cert.Pre_finite_fb.Facts] (m : (ℓ : Loc Cert.RefFbIdeal.nD Cert.RefFbIdeal.τ Cert.RefFbIdeal.sig) → Buf (Elt Ideal) ℓ) : Prop :=
  ∀ c : Dev Cert.RefFbIdeal.nD,
    (Cert.Pre_finite_fb.fn (F := Ideal) (m ((c.tc : Thread Cert.RefFbIdeal.nD Cert.RefFbIdeal.τ).loc Cert.RefFbIdeal.main_arg0)) (m ((c.tc : Thread Cert.RefFbIdeal.nD Cert.RefFbIdeal.τ).loc Cert.RefFbIdeal.main_arg1)) (m ((c.tc : Thread Cert.RefFbIdeal.nD Cert.RefFbIdeal.τ).loc Cert.RefFbIdeal.main_arg2)) (m ((c.tc : Thread Cert.RefFbIdeal.nD Cert.RefFbIdeal.τ).loc Cert.RefFbIdeal.main_arg3)) (m ((c.tc : Thread Cert.RefFbIdeal.nD Cert.RefFbIdeal.τ).loc Cert.RefFbIdeal.main_arg4)) (m ((c.tc : Thread Cert.RefFbIdeal.nD Cert.RefFbIdeal.τ).loc Cert.RefFbIdeal.main_arg5)) (m ((c.tc : Thread Cert.RefFbIdeal.nD Cert.RefFbIdeal.τ).loc Cert.RefFbIdeal.main_arg6)) (m ((c.tc : Thread Cert.RefFbIdeal.nD Cert.RefFbIdeal.τ).loc Cert.RefFbIdeal.main_arg7))).1 = (fun _ => 1#1)
    ∧ (Cert.Pre_finite_fb.fn (F := Ideal) (m ((c.tc : Thread Cert.RefFbIdeal.nD Cert.RefFbIdeal.τ).loc Cert.RefFbIdeal.main_arg0)) (m ((c.tc : Thread Cert.RefFbIdeal.nD Cert.RefFbIdeal.τ).loc Cert.RefFbIdeal.main_arg1)) (m ((c.tc : Thread Cert.RefFbIdeal.nD Cert.RefFbIdeal.τ).loc Cert.RefFbIdeal.main_arg2)) (m ((c.tc : Thread Cert.RefFbIdeal.nD Cert.RefFbIdeal.τ).loc Cert.RefFbIdeal.main_arg3)) (m ((c.tc : Thread Cert.RefFbIdeal.nD Cert.RefFbIdeal.τ).loc Cert.RefFbIdeal.main_arg4)) (m ((c.tc : Thread Cert.RefFbIdeal.nD Cert.RefFbIdeal.τ).loc Cert.RefFbIdeal.main_arg5)) (m ((c.tc : Thread Cert.RefFbIdeal.nD Cert.RefFbIdeal.τ).loc Cert.RefFbIdeal.main_arg6)) (m ((c.tc : Thread Cert.RefFbIdeal.nD Cert.RefFbIdeal.τ).loc Cert.RefFbIdeal.main_arg7))).2.1 = (fun _ => 1#1)
    ∧ (Cert.Pre_finite_fb.fn (F := Ideal) (m ((c.tc : Thread Cert.RefFbIdeal.nD Cert.RefFbIdeal.τ).loc Cert.RefFbIdeal.main_arg0)) (m ((c.tc : Thread Cert.RefFbIdeal.nD Cert.RefFbIdeal.τ).loc Cert.RefFbIdeal.main_arg1)) (m ((c.tc : Thread Cert.RefFbIdeal.nD Cert.RefFbIdeal.τ).loc Cert.RefFbIdeal.main_arg2)) (m ((c.tc : Thread Cert.RefFbIdeal.nD Cert.RefFbIdeal.τ).loc Cert.RefFbIdeal.main_arg3)) (m ((c.tc : Thread Cert.RefFbIdeal.nD Cert.RefFbIdeal.τ).loc Cert.RefFbIdeal.main_arg4)) (m ((c.tc : Thread Cert.RefFbIdeal.nD Cert.RefFbIdeal.τ).loc Cert.RefFbIdeal.main_arg5)) (m ((c.tc : Thread Cert.RefFbIdeal.nD Cert.RefFbIdeal.τ).loc Cert.RefFbIdeal.main_arg6)) (m ((c.tc : Thread Cert.RefFbIdeal.nD Cert.RefFbIdeal.τ).loc Cert.RefFbIdeal.main_arg7))).2.2.1 = (fun _ => 1#1)
    ∧ (Cert.Pre_finite_fb.fn (F := Ideal) (m ((c.tc : Thread Cert.RefFbIdeal.nD Cert.RefFbIdeal.τ).loc Cert.RefFbIdeal.main_arg0)) (m ((c.tc : Thread Cert.RefFbIdeal.nD Cert.RefFbIdeal.τ).loc Cert.RefFbIdeal.main_arg1)) (m ((c.tc : Thread Cert.RefFbIdeal.nD Cert.RefFbIdeal.τ).loc Cert.RefFbIdeal.main_arg2)) (m ((c.tc : Thread Cert.RefFbIdeal.nD Cert.RefFbIdeal.τ).loc Cert.RefFbIdeal.main_arg3)) (m ((c.tc : Thread Cert.RefFbIdeal.nD Cert.RefFbIdeal.τ).loc Cert.RefFbIdeal.main_arg4)) (m ((c.tc : Thread Cert.RefFbIdeal.nD Cert.RefFbIdeal.τ).loc Cert.RefFbIdeal.main_arg5)) (m ((c.tc : Thread Cert.RefFbIdeal.nD Cert.RefFbIdeal.τ).loc Cert.RefFbIdeal.main_arg6)) (m ((c.tc : Thread Cert.RefFbIdeal.nD Cert.RefFbIdeal.τ).loc Cert.RefFbIdeal.main_arg7))).2.2.2.1 = (fun _ => 1#1)
    ∧ (Cert.Pre_finite_fb.fn (F := Ideal) (m ((c.tc : Thread Cert.RefFbIdeal.nD Cert.RefFbIdeal.τ).loc Cert.RefFbIdeal.main_arg0)) (m ((c.tc : Thread Cert.RefFbIdeal.nD Cert.RefFbIdeal.τ).loc Cert.RefFbIdeal.main_arg1)) (m ((c.tc : Thread Cert.RefFbIdeal.nD Cert.RefFbIdeal.τ).loc Cert.RefFbIdeal.main_arg2)) (m ((c.tc : Thread Cert.RefFbIdeal.nD Cert.RefFbIdeal.τ).loc Cert.RefFbIdeal.main_arg3)) (m ((c.tc : Thread Cert.RefFbIdeal.nD Cert.RefFbIdeal.τ).loc Cert.RefFbIdeal.main_arg4)) (m ((c.tc : Thread Cert.RefFbIdeal.nD Cert.RefFbIdeal.τ).loc Cert.RefFbIdeal.main_arg5)) (m ((c.tc : Thread Cert.RefFbIdeal.nD Cert.RefFbIdeal.τ).loc Cert.RefFbIdeal.main_arg6)) (m ((c.tc : Thread Cert.RefFbIdeal.nD Cert.RefFbIdeal.τ).loc Cert.RefFbIdeal.main_arg7))).2.2.2.2.1 = (fun _ => 1#1)
    ∧ (Cert.Pre_finite_fb.fn (F := Ideal) (m ((c.tc : Thread Cert.RefFbIdeal.nD Cert.RefFbIdeal.τ).loc Cert.RefFbIdeal.main_arg0)) (m ((c.tc : Thread Cert.RefFbIdeal.nD Cert.RefFbIdeal.τ).loc Cert.RefFbIdeal.main_arg1)) (m ((c.tc : Thread Cert.RefFbIdeal.nD Cert.RefFbIdeal.τ).loc Cert.RefFbIdeal.main_arg2)) (m ((c.tc : Thread Cert.RefFbIdeal.nD Cert.RefFbIdeal.τ).loc Cert.RefFbIdeal.main_arg3)) (m ((c.tc : Thread Cert.RefFbIdeal.nD Cert.RefFbIdeal.τ).loc Cert.RefFbIdeal.main_arg4)) (m ((c.tc : Thread Cert.RefFbIdeal.nD Cert.RefFbIdeal.τ).loc Cert.RefFbIdeal.main_arg5)) (m ((c.tc : Thread Cert.RefFbIdeal.nD Cert.RefFbIdeal.τ).loc Cert.RefFbIdeal.main_arg6)) (m ((c.tc : Thread Cert.RefFbIdeal.nD Cert.RefFbIdeal.τ).loc Cert.RefFbIdeal.main_arg7))).2.2.2.2.2.1 = (fun _ => 1#1)
    ∧ (Cert.Pre_finite_fb.fn (F := Ideal) (m ((c.tc : Thread Cert.RefFbIdeal.nD Cert.RefFbIdeal.τ).loc Cert.RefFbIdeal.main_arg0)) (m ((c.tc : Thread Cert.RefFbIdeal.nD Cert.RefFbIdeal.τ).loc Cert.RefFbIdeal.main_arg1)) (m ((c.tc : Thread Cert.RefFbIdeal.nD Cert.RefFbIdeal.τ).loc Cert.RefFbIdeal.main_arg2)) (m ((c.tc : Thread Cert.RefFbIdeal.nD Cert.RefFbIdeal.τ).loc Cert.RefFbIdeal.main_arg3)) (m ((c.tc : Thread Cert.RefFbIdeal.nD Cert.RefFbIdeal.τ).loc Cert.RefFbIdeal.main_arg4)) (m ((c.tc : Thread Cert.RefFbIdeal.nD Cert.RefFbIdeal.τ).loc Cert.RefFbIdeal.main_arg5)) (m ((c.tc : Thread Cert.RefFbIdeal.nD Cert.RefFbIdeal.τ).loc Cert.RefFbIdeal.main_arg6)) (m ((c.tc : Thread Cert.RefFbIdeal.nD Cert.RefFbIdeal.τ).loc Cert.RefFbIdeal.main_arg7))).2.2.2.2.2.2.1 = (fun _ => 1#1)
    ∧ (Cert.Pre_finite_fb.fn (F := Ideal) (m ((c.tc : Thread Cert.RefFbIdeal.nD Cert.RefFbIdeal.τ).loc Cert.RefFbIdeal.main_arg0)) (m ((c.tc : Thread Cert.RefFbIdeal.nD Cert.RefFbIdeal.τ).loc Cert.RefFbIdeal.main_arg1)) (m ((c.tc : Thread Cert.RefFbIdeal.nD Cert.RefFbIdeal.τ).loc Cert.RefFbIdeal.main_arg2)) (m ((c.tc : Thread Cert.RefFbIdeal.nD Cert.RefFbIdeal.τ).loc Cert.RefFbIdeal.main_arg3)) (m ((c.tc : Thread Cert.RefFbIdeal.nD Cert.RefFbIdeal.τ).loc Cert.RefFbIdeal.main_arg4)) (m ((c.tc : Thread Cert.RefFbIdeal.nD Cert.RefFbIdeal.τ).loc Cert.RefFbIdeal.main_arg5)) (m ((c.tc : Thread Cert.RefFbIdeal.nD Cert.RefFbIdeal.τ).loc Cert.RefFbIdeal.main_arg6)) (m ((c.tc : Thread Cert.RefFbIdeal.nD Cert.RefFbIdeal.τ).loc Cert.RefFbIdeal.main_arg7))).2.2.2.2.2.2.2 = (fun _ => 1#1)

def Pre_KernelFf (m : (ℓ : Loc Cert.KernelFf.nD Cert.KernelFf.τ Cert.KernelFf.sig) → Buf (Elt Bits) ℓ) : Prop :=
  True

def Pre_KernelFfIdeal (m : (ℓ : Loc Cert.KernelFfIdeal.nD Cert.KernelFfIdeal.τ Cert.KernelFfIdeal.sig) → Buf (Elt Ideal) ℓ) : Prop :=
  True

def Pre_KernelFfIdeal_finite_ff [hPre_finite_ff : Cert.Pre_finite_ff.Facts] (m : (ℓ : Loc Cert.KernelFfIdeal.nD Cert.KernelFfIdeal.τ Cert.KernelFfIdeal.sig) → Buf (Elt Ideal) ℓ) : Prop :=
  ∀ c : Dev Cert.KernelFfIdeal.nD,
    (Cert.Pre_finite_ff.fn (F := Ideal) (m ((c.tc : Thread Cert.KernelFfIdeal.nD Cert.KernelFfIdeal.τ).loc Cert.KernelFfIdeal.main_arg0)) (m ((c.tc : Thread Cert.KernelFfIdeal.nD Cert.KernelFfIdeal.τ).loc Cert.KernelFfIdeal.main_arg1)) (m ((c.tc : Thread Cert.KernelFfIdeal.nD Cert.KernelFfIdeal.τ).loc Cert.KernelFfIdeal.main_arg2)) (m ((c.tc : Thread Cert.KernelFfIdeal.nD Cert.KernelFfIdeal.τ).loc Cert.KernelFfIdeal.main_arg3)) (m ((c.tc : Thread Cert.KernelFfIdeal.nD Cert.KernelFfIdeal.τ).loc Cert.KernelFfIdeal.main_arg4)) (m ((c.tc : Thread Cert.KernelFfIdeal.nD Cert.KernelFfIdeal.τ).loc Cert.KernelFfIdeal.main_arg5))).1 = (fun _ => 1#1)
    ∧ (Cert.Pre_finite_ff.fn (F := Ideal) (m ((c.tc : Thread Cert.KernelFfIdeal.nD Cert.KernelFfIdeal.τ).loc Cert.KernelFfIdeal.main_arg0)) (m ((c.tc : Thread Cert.KernelFfIdeal.nD Cert.KernelFfIdeal.τ).loc Cert.KernelFfIdeal.main_arg1)) (m ((c.tc : Thread Cert.KernelFfIdeal.nD Cert.KernelFfIdeal.τ).loc Cert.KernelFfIdeal.main_arg2)) (m ((c.tc : Thread Cert.KernelFfIdeal.nD Cert.KernelFfIdeal.τ).loc Cert.KernelFfIdeal.main_arg3)) (m ((c.tc : Thread Cert.KernelFfIdeal.nD Cert.KernelFfIdeal.τ).loc Cert.KernelFfIdeal.main_arg4)) (m ((c.tc : Thread Cert.KernelFfIdeal.nD Cert.KernelFfIdeal.τ).loc Cert.KernelFfIdeal.main_arg5))).2.1 = (fun _ => 1#1)
    ∧ (Cert.Pre_finite_ff.fn (F := Ideal) (m ((c.tc : Thread Cert.KernelFfIdeal.nD Cert.KernelFfIdeal.τ).loc Cert.KernelFfIdeal.main_arg0)) (m ((c.tc : Thread Cert.KernelFfIdeal.nD Cert.KernelFfIdeal.τ).loc Cert.KernelFfIdeal.main_arg1)) (m ((c.tc : Thread Cert.KernelFfIdeal.nD Cert.KernelFfIdeal.τ).loc Cert.KernelFfIdeal.main_arg2)) (m ((c.tc : Thread Cert.KernelFfIdeal.nD Cert.KernelFfIdeal.τ).loc Cert.KernelFfIdeal.main_arg3)) (m ((c.tc : Thread Cert.KernelFfIdeal.nD Cert.KernelFfIdeal.τ).loc Cert.KernelFfIdeal.main_arg4)) (m ((c.tc : Thread Cert.KernelFfIdeal.nD Cert.KernelFfIdeal.τ).loc Cert.KernelFfIdeal.main_arg5))).2.2.1 = (fun _ => 1#1)
    ∧ (Cert.Pre_finite_ff.fn (F := Ideal) (m ((c.tc : Thread Cert.KernelFfIdeal.nD Cert.KernelFfIdeal.τ).loc Cert.KernelFfIdeal.main_arg0)) (m ((c.tc : Thread Cert.KernelFfIdeal.nD Cert.KernelFfIdeal.τ).loc Cert.KernelFfIdeal.main_arg1)) (m ((c.tc : Thread Cert.KernelFfIdeal.nD Cert.KernelFfIdeal.τ).loc Cert.KernelFfIdeal.main_arg2)) (m ((c.tc : Thread Cert.KernelFfIdeal.nD Cert.KernelFfIdeal.τ).loc Cert.KernelFfIdeal.main_arg3)) (m ((c.tc : Thread Cert.KernelFfIdeal.nD Cert.KernelFfIdeal.τ).loc Cert.KernelFfIdeal.main_arg4)) (m ((c.tc : Thread Cert.KernelFfIdeal.nD Cert.KernelFfIdeal.τ).loc Cert.KernelFfIdeal.main_arg5))).2.2.2.1 = (fun _ => 1#1)
    ∧ (Cert.Pre_finite_ff.fn (F := Ideal) (m ((c.tc : Thread Cert.KernelFfIdeal.nD Cert.KernelFfIdeal.τ).loc Cert.KernelFfIdeal.main_arg0)) (m ((c.tc : Thread Cert.KernelFfIdeal.nD Cert.KernelFfIdeal.τ).loc Cert.KernelFfIdeal.main_arg1)) (m ((c.tc : Thread Cert.KernelFfIdeal.nD Cert.KernelFfIdeal.τ).loc Cert.KernelFfIdeal.main_arg2)) (m ((c.tc : Thread Cert.KernelFfIdeal.nD Cert.KernelFfIdeal.τ).loc Cert.KernelFfIdeal.main_arg3)) (m ((c.tc : Thread Cert.KernelFfIdeal.nD Cert.KernelFfIdeal.τ).loc Cert.KernelFfIdeal.main_arg4)) (m ((c.tc : Thread Cert.KernelFfIdeal.nD Cert.KernelFfIdeal.τ).loc Cert.KernelFfIdeal.main_arg5))).2.2.2.2.1 = (fun _ => 1#1)
    ∧ (Cert.Pre_finite_ff.fn (F := Ideal) (m ((c.tc : Thread Cert.KernelFfIdeal.nD Cert.KernelFfIdeal.τ).loc Cert.KernelFfIdeal.main_arg0)) (m ((c.tc : Thread Cert.KernelFfIdeal.nD Cert.KernelFfIdeal.τ).loc Cert.KernelFfIdeal.main_arg1)) (m ((c.tc : Thread Cert.KernelFfIdeal.nD Cert.KernelFfIdeal.τ).loc Cert.KernelFfIdeal.main_arg2)) (m ((c.tc : Thread Cert.KernelFfIdeal.nD Cert.KernelFfIdeal.τ).loc Cert.KernelFfIdeal.main_arg3)) (m ((c.tc : Thread Cert.KernelFfIdeal.nD Cert.KernelFfIdeal.τ).loc Cert.KernelFfIdeal.main_arg4)) (m ((c.tc : Thread Cert.KernelFfIdeal.nD Cert.KernelFfIdeal.τ).loc Cert.KernelFfIdeal.main_arg5))).2.2.2.2.2 = (fun _ => 1#1)

def Pre_RefFfIdeal (m : (ℓ : Loc Cert.RefFfIdeal.nD Cert.RefFfIdeal.τ Cert.RefFfIdeal.sig) → Buf (Elt Ideal) ℓ) : Prop :=
  True

def Pre_RefFfIdeal_finite_ff [hPre_finite_ff : Cert.Pre_finite_ff.Facts] (m : (ℓ : Loc Cert.RefFfIdeal.nD Cert.RefFfIdeal.τ Cert.RefFfIdeal.sig) → Buf (Elt Ideal) ℓ) : Prop :=
  ∀ c : Dev Cert.RefFfIdeal.nD,
    (Cert.Pre_finite_ff.fn (F := Ideal) (m ((c.tc : Thread Cert.RefFfIdeal.nD Cert.RefFfIdeal.τ).loc Cert.RefFfIdeal.main_arg0)) (m ((c.tc : Thread Cert.RefFfIdeal.nD Cert.RefFfIdeal.τ).loc Cert.RefFfIdeal.main_arg1)) (m ((c.tc : Thread Cert.RefFfIdeal.nD Cert.RefFfIdeal.τ).loc Cert.RefFfIdeal.main_arg2)) (m ((c.tc : Thread Cert.RefFfIdeal.nD Cert.RefFfIdeal.τ).loc Cert.RefFfIdeal.main_arg3)) (m ((c.tc : Thread Cert.RefFfIdeal.nD Cert.RefFfIdeal.τ).loc Cert.RefFfIdeal.main_arg4)) (m ((c.tc : Thread Cert.RefFfIdeal.nD Cert.RefFfIdeal.τ).loc Cert.RefFfIdeal.main_arg5))).1 = (fun _ => 1#1)
    ∧ (Cert.Pre_finite_ff.fn (F := Ideal) (m ((c.tc : Thread Cert.RefFfIdeal.nD Cert.RefFfIdeal.τ).loc Cert.RefFfIdeal.main_arg0)) (m ((c.tc : Thread Cert.RefFfIdeal.nD Cert.RefFfIdeal.τ).loc Cert.RefFfIdeal.main_arg1)) (m ((c.tc : Thread Cert.RefFfIdeal.nD Cert.RefFfIdeal.τ).loc Cert.RefFfIdeal.main_arg2)) (m ((c.tc : Thread Cert.RefFfIdeal.nD Cert.RefFfIdeal.τ).loc Cert.RefFfIdeal.main_arg3)) (m ((c.tc : Thread Cert.RefFfIdeal.nD Cert.RefFfIdeal.τ).loc Cert.RefFfIdeal.main_arg4)) (m ((c.tc : Thread Cert.RefFfIdeal.nD Cert.RefFfIdeal.τ).loc Cert.RefFfIdeal.main_arg5))).2.1 = (fun _ => 1#1)
    ∧ (Cert.Pre_finite_ff.fn (F := Ideal) (m ((c.tc : Thread Cert.RefFfIdeal.nD Cert.RefFfIdeal.τ).loc Cert.RefFfIdeal.main_arg0)) (m ((c.tc : Thread Cert.RefFfIdeal.nD Cert.RefFfIdeal.τ).loc Cert.RefFfIdeal.main_arg1)) (m ((c.tc : Thread Cert.RefFfIdeal.nD Cert.RefFfIdeal.τ).loc Cert.RefFfIdeal.main_arg2)) (m ((c.tc : Thread Cert.RefFfIdeal.nD Cert.RefFfIdeal.τ).loc Cert.RefFfIdeal.main_arg3)) (m ((c.tc : Thread Cert.RefFfIdeal.nD Cert.RefFfIdeal.τ).loc Cert.RefFfIdeal.main_arg4)) (m ((c.tc : Thread Cert.RefFfIdeal.nD Cert.RefFfIdeal.τ).loc Cert.RefFfIdeal.main_arg5))).2.2.1 = (fun _ => 1#1)
    ∧ (Cert.Pre_finite_ff.fn (F := Ideal) (m ((c.tc : Thread Cert.RefFfIdeal.nD Cert.RefFfIdeal.τ).loc Cert.RefFfIdeal.main_arg0)) (m ((c.tc : Thread Cert.RefFfIdeal.nD Cert.RefFfIdeal.τ).loc Cert.RefFfIdeal.main_arg1)) (m ((c.tc : Thread Cert.RefFfIdeal.nD Cert.RefFfIdeal.τ).loc Cert.RefFfIdeal.main_arg2)) (m ((c.tc : Thread Cert.RefFfIdeal.nD Cert.RefFfIdeal.τ).loc Cert.RefFfIdeal.main_arg3)) (m ((c.tc : Thread Cert.RefFfIdeal.nD Cert.RefFfIdeal.τ).loc Cert.RefFfIdeal.main_arg4)) (m ((c.tc : Thread Cert.RefFfIdeal.nD Cert.RefFfIdeal.τ).loc Cert.RefFfIdeal.main_arg5))).2.2.2.1 = (fun _ => 1#1)
    ∧ (Cert.Pre_finite_ff.fn (F := Ideal) (m ((c.tc : Thread Cert.RefFfIdeal.nD Cert.RefFfIdeal.τ).loc Cert.RefFfIdeal.main_arg0)) (m ((c.tc : Thread Cert.RefFfIdeal.nD Cert.RefFfIdeal.τ).loc Cert.RefFfIdeal.main_arg1)) (m ((c.tc : Thread Cert.RefFfIdeal.nD Cert.RefFfIdeal.τ).loc Cert.RefFfIdeal.main_arg2)) (m ((c.tc : Thread Cert.RefFfIdeal.nD Cert.RefFfIdeal.τ).loc Cert.RefFfIdeal.main_arg3)) (m ((c.tc : Thread Cert.RefFfIdeal.nD Cert.RefFfIdeal.τ).loc Cert.RefFfIdeal.main_arg4)) (m ((c.tc : Thread Cert.RefFfIdeal.nD Cert.RefFfIdeal.τ).loc Cert.RefFfIdeal.main_arg5))).2.2.2.2.1 = (fun _ => 1#1)
    ∧ (Cert.Pre_finite_ff.fn (F := Ideal) (m ((c.tc : Thread Cert.RefFfIdeal.nD Cert.RefFfIdeal.τ).loc Cert.RefFfIdeal.main_arg0)) (m ((c.tc : Thread Cert.RefFfIdeal.nD Cert.RefFfIdeal.τ).loc Cert.RefFfIdeal.main_arg1)) (m ((c.tc : Thread Cert.RefFfIdeal.nD Cert.RefFfIdeal.τ).loc Cert.RefFfIdeal.main_arg2)) (m ((c.tc : Thread Cert.RefFfIdeal.nD Cert.RefFfIdeal.τ).loc Cert.RefFfIdeal.main_arg3)) (m ((c.tc : Thread Cert.RefFfIdeal.nD Cert.RefFfIdeal.τ).loc Cert.RefFfIdeal.main_arg4)) (m ((c.tc : Thread Cert.RefFfIdeal.nD Cert.RefFfIdeal.τ).loc Cert.RefFfIdeal.main_arg5))).2.2.2.2.2 = (fun _ => 1#1)

def Pre_KernelIp [hPre_chip_ip : Cert.Pre_chip_ip.Facts] (m : (ℓ : Loc Cert.KernelIp.nD Cert.KernelIp.τ Cert.KernelIp.sig) → Buf (Elt Bits) ℓ) : Prop :=
  ∀ c : Dev Cert.KernelIp.nD,
    (Cert.Pre_chip_ip.fn (F := Bits) (m ((c.tc : Thread Cert.KernelIp.nD Cert.KernelIp.τ).loc Cert.KernelIp.main_arg0)) (m ((c.tc : Thread Cert.KernelIp.nD Cert.KernelIp.τ).loc Cert.KernelIp.main_arg1)) (m ((c.tc : Thread Cert.KernelIp.nD Cert.KernelIp.τ).loc Cert.KernelIp.main_arg2)) (m ((c.tc : Thread Cert.KernelIp.nD Cert.KernelIp.τ).loc Cert.KernelIp.main_arg3)) (m ((c.tc : Thread Cert.KernelIp.nD Cert.KernelIp.τ).loc Cert.KernelIp.main_arg4))) = (fun _ => 1#1)

def Pre_KernelIpIdeal [hPre_chip_ip : Cert.Pre_chip_ip.Facts] (m : (ℓ : Loc Cert.KernelIpIdeal.nD Cert.KernelIpIdeal.τ Cert.KernelIpIdeal.sig) → Buf (Elt Ideal) ℓ) : Prop :=
  ∀ c : Dev Cert.KernelIpIdeal.nD,
    (Cert.Pre_chip_ip.fn (F := Ideal) (m ((c.tc : Thread Cert.KernelIpIdeal.nD Cert.KernelIpIdeal.τ).loc Cert.KernelIpIdeal.main_arg0)) (m ((c.tc : Thread Cert.KernelIpIdeal.nD Cert.KernelIpIdeal.τ).loc Cert.KernelIpIdeal.main_arg1)) (m ((c.tc : Thread Cert.KernelIpIdeal.nD Cert.KernelIpIdeal.τ).loc Cert.KernelIpIdeal.main_arg2)) (m ((c.tc : Thread Cert.KernelIpIdeal.nD Cert.KernelIpIdeal.τ).loc Cert.KernelIpIdeal.main_arg3)) (m ((c.tc : Thread Cert.KernelIpIdeal.nD Cert.KernelIpIdeal.τ).loc Cert.KernelIpIdeal.main_arg4))) = (fun _ => 1#1)

def Pre_RefIpIdeal (m : (ℓ : Loc Cert.RefIpIdeal.nD Cert.RefIpIdeal.τ Cert.RefIpIdeal.sig) → Buf (Elt Ideal) ℓ) : Prop :=
  True

def Pre_RefIpIdeal_chip_ip [hPre_chip_ip : Cert.Pre_chip_ip.Facts] (m : (ℓ : Loc Cert.RefIpIdeal.nD Cert.RefIpIdeal.τ Cert.RefIpIdeal.sig) → Buf (Elt Ideal) ℓ) : Prop :=
  ∀ c : Dev Cert.RefIpIdeal.nD,
    (Cert.Pre_chip_ip.fn (F := Ideal) (m ((c.tc : Thread Cert.RefIpIdeal.nD Cert.RefIpIdeal.τ).loc Cert.RefIpIdeal.main_arg0)) (m ((c.tc : Thread Cert.RefIpIdeal.nD Cert.RefIpIdeal.τ).loc Cert.RefIpIdeal.main_arg1)) (m ((c.tc : Thread Cert.RefIpIdeal.nD Cert.RefIpIdeal.τ).loc Cert.RefIpIdeal.main_arg2)) (m ((c.tc : Thread Cert.RefIpIdeal.nD Cert.RefIpIdeal.τ).loc Cert.RefIpIdeal.main_arg3)) (m ((c.tc : Thread Cert.RefIpIdeal.nD Cert.RefIpIdeal.τ).loc Cert.RefIpIdeal.main_arg4))) = (fun _ => 1#1)

def quiescent_KernelDx [hKernelDx : Cert.KernelDx.Facts] : Prop :=
  ∀ (m : (ℓ : Loc Cert.KernelDx.nD Cert.KernelDx.τ Cert.KernelDx.sig) → Buf (Elt Bits) ℓ) (g : Dev Cert.KernelDx.nD → PrngReg), Pre_KernelDx m →
    θ_run (Cert.KernelDx.defs (F := Bits)) (onTc (τ := Cert.KernelDx.τ) (Cert.KernelDx.main (F := Bits))) ⟨m, fun _ => 0, g⟩ (fun r => (∀ c : Dev Cert.KernelDx.nD,
      r.2.mem ((c.tc : Thread Cert.KernelDx.nD Cert.KernelDx.τ).loc Cert.KernelDx.main_arg0) = m ((c.tc : Thread Cert.KernelDx.nD Cert.KernelDx.τ).loc Cert.KernelDx.main_arg0)
      ∧ r.2.mem ((c.tc : Thread Cert.KernelDx.nD Cert.KernelDx.τ).loc Cert.KernelDx.main_arg1) = m ((c.tc : Thread Cert.KernelDx.nD Cert.KernelDx.τ).loc Cert.KernelDx.main_arg1)
      ∧ r.2.mem ((c.tc : Thread Cert.KernelDx.nD Cert.KernelDx.τ).loc Cert.KernelDx.main_arg2) = m ((c.tc : Thread Cert.KernelDx.nD Cert.KernelDx.τ).loc Cert.KernelDx.main_arg2)
      ∧ r.2.mem ((c.tc : Thread Cert.KernelDx.nD Cert.KernelDx.τ).loc Cert.KernelDx.main_arg3) = m ((c.tc : Thread Cert.KernelDx.nD Cert.KernelDx.τ).loc Cert.KernelDx.main_arg3)
      ∧ r.2.mem ((c.tc : Thread Cert.KernelDx.nD Cert.KernelDx.τ).loc Cert.KernelDx.main_arg4) = m ((c.tc : Thread Cert.KernelDx.nD Cert.KernelDx.τ).loc Cert.KernelDx.main_arg4))
      ∧ r.2.sem = fun _ => 0)

def quiescent_KernelDxIdeal [hKernelDxIdeal : Cert.KernelDxIdeal.Facts] : Prop :=
  ∀ (m : (ℓ : Loc Cert.KernelDxIdeal.nD Cert.KernelDxIdeal.τ Cert.KernelDxIdeal.sig) → Buf (Elt Ideal) ℓ) (g : Dev Cert.KernelDxIdeal.nD → PrngReg), Pre_KernelDxIdeal m →
    θ_run (Cert.KernelDxIdeal.defs (F := Ideal)) (onTc (τ := Cert.KernelDxIdeal.τ) (Cert.KernelDxIdeal.main (F := Ideal))) ⟨m, fun _ => 0, g⟩ (fun r => (∀ c : Dev Cert.KernelDxIdeal.nD,
      r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
      ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
      ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2)
      ∧ r.2.mem ((c.tc : Thread Cert.KernelDxIdeal.nD Cert.KernelDxIdeal.τ).loc Cert.KernelDxIdeal.main_arg3) = m ((c.tc : Thread Cert.KernelDxIdeal.nD Cert.KernelDxIdeal.τ).loc Cert.KernelDxIdeal.main_arg3)
      ∧ r.2.mem ((c.tc : Thread Cert.KernelDxIdeal.nD Cert.KernelDxIdeal.τ).loc Cert.KernelDxIdeal.main_arg4) = m ((c.tc : Thread Cert.KernelDxIdeal.nD Cert.KernelDxIdeal.τ).loc Cert.KernelDxIdeal.main_arg4))
      ∧ r.2.sem = fun _ => 0)

def quiescent_KernelDxIdeal_pre_finite_dx [hKernelDxIdeal : Cert.KernelDxIdeal.Facts] [hPre_finite_dx : Cert.Pre_finite_dx.Facts] : Prop :=
  ∀ (m : (ℓ : Loc Cert.KernelDxIdeal.nD Cert.KernelDxIdeal.τ Cert.KernelDxIdeal.sig) → Buf (Elt Ideal) ℓ) (g : Dev Cert.KernelDxIdeal.nD → PrngReg), Pre_KernelDxIdeal_finite_dx m →
    θ_run (Cert.KernelDxIdeal.defs (F := Ideal)) (onTc (τ := Cert.KernelDxIdeal.τ) (Cert.KernelDxIdeal.main (F := Ideal))) ⟨m, fun _ => 0, g⟩ (fun r => (∀ c : Dev Cert.KernelDxIdeal.nD,
      r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
      ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
      ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2)
      ∧ r.2.mem ((c.tc : Thread Cert.KernelDxIdeal.nD Cert.KernelDxIdeal.τ).loc Cert.KernelDxIdeal.main_arg3) = m ((c.tc : Thread Cert.KernelDxIdeal.nD Cert.KernelDxIdeal.τ).loc Cert.KernelDxIdeal.main_arg3)
      ∧ r.2.mem ((c.tc : Thread Cert.KernelDxIdeal.nD Cert.KernelDxIdeal.τ).loc Cert.KernelDxIdeal.main_arg4) = m ((c.tc : Thread Cert.KernelDxIdeal.nD Cert.KernelDxIdeal.τ).loc Cert.KernelDxIdeal.main_arg4))
      ∧ r.2.sem = fun _ => 0)

def quiescent_RefDxIdeal [hRefDxIdeal : Cert.RefDxIdeal.Facts] : Prop :=
  ∀ (m : (ℓ : Loc Cert.RefDxIdeal.nD Cert.RefDxIdeal.τ Cert.RefDxIdeal.sig) → Buf (Elt Ideal) ℓ) (g : Dev Cert.RefDxIdeal.nD → PrngReg), Pre_RefDxIdeal m →
    θ_run (Cert.RefDxIdeal.defs (F := Ideal)) (onTc (τ := Cert.RefDxIdeal.τ) (Cert.RefDxIdeal.main (F := Ideal))) ⟨m, fun _ => 0, g⟩ (fun r => (∀ c : Dev Cert.RefDxIdeal.nD,
      r.2.mem ((c.tc : Thread Cert.RefDxIdeal.nD Cert.RefDxIdeal.τ).loc Cert.RefDxIdeal.main_arg0) = m ((c.tc : Thread Cert.RefDxIdeal.nD Cert.RefDxIdeal.τ).loc Cert.RefDxIdeal.main_arg0)
      ∧ r.2.mem ((c.tc : Thread Cert.RefDxIdeal.nD Cert.RefDxIdeal.τ).loc Cert.RefDxIdeal.main_arg1) = m ((c.tc : Thread Cert.RefDxIdeal.nD Cert.RefDxIdeal.τ).loc Cert.RefDxIdeal.main_arg1)
      ∧ r.2.mem ((c.tc : Thread Cert.RefDxIdeal.nD Cert.RefDxIdeal.τ).loc Cert.RefDxIdeal.main_arg2) = m ((c.tc : Thread Cert.RefDxIdeal.nD Cert.RefDxIdeal.τ).loc Cert.RefDxIdeal.main_arg2)
      ∧ r.2.mem ((c.tc : Thread Cert.RefDxIdeal.nD Cert.RefDxIdeal.τ).loc Cert.RefDxIdeal.main_arg3) = m ((c.tc : Thread Cert.RefDxIdeal.nD Cert.RefDxIdeal.τ).loc Cert.RefDxIdeal.main_arg3)
      ∧ r.2.mem ((c.tc : Thread Cert.RefDxIdeal.nD Cert.RefDxIdeal.τ).loc Cert.RefDxIdeal.main_arg4) = m ((c.tc : Thread Cert.RefDxIdeal.nD Cert.RefDxIdeal.τ).loc Cert.RefDxIdeal.main_arg4))
      ∧ r.2.sem = fun _ => 0)

def quiescent_RefDxIdeal_pre_finite_dx [hRefDxIdeal : Cert.RefDxIdeal.Facts] [hPre_finite_dx : Cert.Pre_finite_dx.Facts] : Prop :=
  ∀ (m : (ℓ : Loc Cert.RefDxIdeal.nD Cert.RefDxIdeal.τ Cert.RefDxIdeal.sig) → Buf (Elt Ideal) ℓ) (g : Dev Cert.RefDxIdeal.nD → PrngReg), Pre_RefDxIdeal_finite_dx m →
    θ_run (Cert.RefDxIdeal.defs (F := Ideal)) (onTc (τ := Cert.RefDxIdeal.τ) (Cert.RefDxIdeal.main (F := Ideal))) ⟨m, fun _ => 0, g⟩ (fun r => (∀ c : Dev Cert.RefDxIdeal.nD,
      r.2.mem ((c.tc : Thread Cert.RefDxIdeal.nD Cert.RefDxIdeal.τ).loc Cert.RefDxIdeal.main_arg0) = m ((c.tc : Thread Cert.RefDxIdeal.nD Cert.RefDxIdeal.τ).loc Cert.RefDxIdeal.main_arg0)
      ∧ r.2.mem ((c.tc : Thread Cert.RefDxIdeal.nD Cert.RefDxIdeal.τ).loc Cert.RefDxIdeal.main_arg1) = m ((c.tc : Thread Cert.RefDxIdeal.nD Cert.RefDxIdeal.τ).loc Cert.RefDxIdeal.main_arg1)
      ∧ r.2.mem ((c.tc : Thread Cert.RefDxIdeal.nD Cert.RefDxIdeal.τ).loc Cert.RefDxIdeal.main_arg2) = m ((c.tc : Thread Cert.RefDxIdeal.nD Cert.RefDxIdeal.τ).loc Cert.RefDxIdeal.main_arg2)
      ∧ r.2.mem ((c.tc : Thread Cert.RefDxIdeal.nD Cert.RefDxIdeal.τ).loc Cert.RefDxIdeal.main_arg3) = m ((c.tc : Thread Cert.RefDxIdeal.nD Cert.RefDxIdeal.τ).loc Cert.RefDxIdeal.main_arg3)
      ∧ r.2.mem ((c.tc : Thread Cert.RefDxIdeal.nD Cert.RefDxIdeal.τ).loc Cert.RefDxIdeal.main_arg4) = m ((c.tc : Thread Cert.RefDxIdeal.nD Cert.RefDxIdeal.τ).loc Cert.RefDxIdeal.main_arg4))
      ∧ r.2.sem = fun _ => 0)

def quiescent_KernelMx [hKernelMx : Cert.KernelMx.Facts] : Prop :=
  ∀ (m : (ℓ : Loc Cert.KernelMx.nD Cert.KernelMx.τ Cert.KernelMx.sig) → Buf (Elt Bits) ℓ) (g : Dev Cert.KernelMx.nD → PrngReg), Pre_KernelMx m →
    θ_run (Cert.KernelMx.defs (F := Bits)) (onTc (τ := Cert.KernelMx.τ) (Cert.KernelMx.main (F := Bits))) ⟨m, fun _ => 0, g⟩ (fun r => (∀ c : Dev Cert.KernelMx.nD,
      r.2.mem ((c.tc : Thread Cert.KernelMx.nD Cert.KernelMx.τ).loc Cert.KernelMx.main_arg0) = m ((c.tc : Thread Cert.KernelMx.nD Cert.KernelMx.τ).loc Cert.KernelMx.main_arg0)
      ∧ r.2.mem ((c.tc : Thread Cert.KernelMx.nD Cert.KernelMx.τ).loc Cert.KernelMx.main_arg1) = m ((c.tc : Thread Cert.KernelMx.nD Cert.KernelMx.τ).loc Cert.KernelMx.main_arg1)
      ∧ r.2.mem ((c.tc : Thread Cert.KernelMx.nD Cert.KernelMx.τ).loc Cert.KernelMx.main_arg2) = m ((c.tc : Thread Cert.KernelMx.nD Cert.KernelMx.τ).loc Cert.KernelMx.main_arg2)
      ∧ r.2.mem ((c.tc : Thread Cert.KernelMx.nD Cert.KernelMx.τ).loc Cert.KernelMx.main_arg3) = m ((c.tc : Thread Cert.KernelMx.nD Cert.KernelMx.τ).loc Cert.KernelMx.main_arg3)
      ∧ r.2.mem ((c.tc : Thread Cert.KernelMx.nD Cert.KernelMx.τ).loc Cert.KernelMx.main_arg4) = m ((c.tc : Thread Cert.KernelMx.nD Cert.KernelMx.τ).loc Cert.KernelMx.main_arg4)
      ∧ r.2.mem ((c.tc : Thread Cert.KernelMx.nD Cert.KernelMx.τ).loc Cert.KernelMx.main_arg5) = m ((c.tc : Thread Cert.KernelMx.nD Cert.KernelMx.τ).loc Cert.KernelMx.main_arg5)
      ∧ r.2.mem ((c.tc : Thread Cert.KernelMx.nD Cert.KernelMx.τ).loc Cert.KernelMx.main_arg6) = m ((c.tc : Thread Cert.KernelMx.nD Cert.KernelMx.τ).loc Cert.KernelMx.main_arg6)
      ∧ r.2.mem ((c.tc : Thread Cert.KernelMx.nD Cert.KernelMx.τ).loc Cert.KernelMx.main_arg7) = m ((c.tc : Thread Cert.KernelMx.nD Cert.KernelMx.τ).loc Cert.KernelMx.main_arg7)
      ∧ r.2.mem ((c.tc : Thread Cert.KernelMx.nD Cert.KernelMx.τ).loc Cert.KernelMx.main_arg8) = m ((c.tc : Thread Cert.KernelMx.nD Cert.KernelMx.τ).loc Cert.KernelMx.main_arg8)
      ∧ r.2.mem ((c.tc : Thread Cert.KernelMx.nD Cert.KernelMx.τ).loc Cert.KernelMx.main_arg9) = m ((c.tc : Thread Cert.KernelMx.nD Cert.KernelMx.τ).loc Cert.KernelMx.main_arg9)
      ∧ r.2.mem ((c.tc : Thread Cert.KernelMx.nD Cert.KernelMx.τ).loc Cert.KernelMx.main_arg10) = m ((c.tc : Thread Cert.KernelMx.nD Cert.KernelMx.τ).loc Cert.KernelMx.main_arg10))
      ∧ r.2.sem = fun _ => 0)

def quiescent_KernelMxIdeal [hKernelMxIdeal : Cert.KernelMxIdeal.Facts] : Prop :=
  ∀ (m : (ℓ : Loc Cert.KernelMxIdeal.nD Cert.KernelMxIdeal.τ Cert.KernelMxIdeal.sig) → Buf (Elt Ideal) ℓ) (g : Dev Cert.KernelMxIdeal.nD → PrngReg), Pre_KernelMxIdeal m →
    θ_run (Cert.KernelMxIdeal.defs (F := Ideal)) (onTc (τ := Cert.KernelMxIdeal.τ) (Cert.KernelMxIdeal.main (F := Ideal))) ⟨m, fun _ => 0, g⟩ (fun r => (∀ c : Dev Cert.KernelMxIdeal.nD,
      r.2.mem ((c.tc : Thread Cert.KernelMxIdeal.nD Cert.KernelMxIdeal.τ).loc Cert.KernelMxIdeal.main_arg0) = m ((c.tc : Thread Cert.KernelMxIdeal.nD Cert.KernelMxIdeal.τ).loc Cert.KernelMxIdeal.main_arg0)
      ∧ r.2.mem ((c.tc : Thread Cert.KernelMxIdeal.nD Cert.KernelMxIdeal.τ).loc Cert.KernelMxIdeal.main_arg1) = m ((c.tc : Thread Cert.KernelMxIdeal.nD Cert.KernelMxIdeal.τ).loc Cert.KernelMxIdeal.main_arg1)
      ∧ r.2.mem ((c.tc : Thread Cert.KernelMxIdeal.nD Cert.KernelMxIdeal.τ).loc Cert.KernelMxIdeal.main_arg2) = m ((c.tc : Thread Cert.KernelMxIdeal.nD Cert.KernelMxIdeal.τ).loc Cert.KernelMxIdeal.main_arg2)
      ∧ r.2.mem ((c.tc : Thread Cert.KernelMxIdeal.nD Cert.KernelMxIdeal.τ).loc Cert.KernelMxIdeal.main_arg3) = m ((c.tc : Thread Cert.KernelMxIdeal.nD Cert.KernelMxIdeal.τ).loc Cert.KernelMxIdeal.main_arg3)
      ∧ r.2.mem ((c.tc : Thread Cert.KernelMxIdeal.nD Cert.KernelMxIdeal.τ).loc Cert.KernelMxIdeal.main_arg4) = m ((c.tc : Thread Cert.KernelMxIdeal.nD Cert.KernelMxIdeal.τ).loc Cert.KernelMxIdeal.main_arg4)
      ∧ r.2.mem ((c.tc : Thread Cert.KernelMxIdeal.nD Cert.KernelMxIdeal.τ).loc Cert.KernelMxIdeal.main_arg5) = m ((c.tc : Thread Cert.KernelMxIdeal.nD Cert.KernelMxIdeal.τ).loc Cert.KernelMxIdeal.main_arg5)
      ∧ r.2.mem ((c.tc : Thread Cert.KernelMxIdeal.nD Cert.KernelMxIdeal.τ).loc Cert.KernelMxIdeal.main_arg6) = m ((c.tc : Thread Cert.KernelMxIdeal.nD Cert.KernelMxIdeal.τ).loc Cert.KernelMxIdeal.main_arg6)
      ∧ r.2.mem ((c.tc : Thread Cert.KernelMxIdeal.nD Cert.KernelMxIdeal.τ).loc Cert.KernelMxIdeal.main_arg7) = m ((c.tc : Thread Cert.KernelMxIdeal.nD Cert.KernelMxIdeal.τ).loc Cert.KernelMxIdeal.main_arg7)
      ∧ r.2.mem ((c.tc : Thread Cert.KernelMxIdeal.nD Cert.KernelMxIdeal.τ).loc Cert.KernelMxIdeal.main_arg8) = m ((c.tc : Thread Cert.KernelMxIdeal.nD Cert.KernelMxIdeal.τ).loc Cert.KernelMxIdeal.main_arg8)
      ∧ r.2.mem ((c.tc : Thread Cert.KernelMxIdeal.nD Cert.KernelMxIdeal.τ).loc Cert.KernelMxIdeal.main_arg9) = m ((c.tc : Thread Cert.KernelMxIdeal.nD Cert.KernelMxIdeal.τ).loc Cert.KernelMxIdeal.main_arg9)
      ∧ r.2.mem ((c.tc : Thread Cert.KernelMxIdeal.nD Cert.KernelMxIdeal.τ).loc Cert.KernelMxIdeal.main_arg10) = m ((c.tc : Thread Cert.KernelMxIdeal.nD Cert.KernelMxIdeal.τ).loc Cert.KernelMxIdeal.main_arg10))
      ∧ r.2.sem = fun _ => 0)

def quiescent_KernelMxIdeal_pre_finite_mx [hKernelMxIdeal : Cert.KernelMxIdeal.Facts] [hPre_finite_mx : Cert.Pre_finite_mx.Facts] : Prop :=
  ∀ (m : (ℓ : Loc Cert.KernelMxIdeal.nD Cert.KernelMxIdeal.τ Cert.KernelMxIdeal.sig) → Buf (Elt Ideal) ℓ) (g : Dev Cert.KernelMxIdeal.nD → PrngReg), Pre_KernelMxIdeal_finite_mx m →
    θ_run (Cert.KernelMxIdeal.defs (F := Ideal)) (onTc (τ := Cert.KernelMxIdeal.τ) (Cert.KernelMxIdeal.main (F := Ideal))) ⟨m, fun _ => 0, g⟩ (fun r => (∀ c : Dev Cert.KernelMxIdeal.nD,
      r.2.mem ((c.tc : Thread Cert.KernelMxIdeal.nD Cert.KernelMxIdeal.τ).loc Cert.KernelMxIdeal.main_arg0) = m ((c.tc : Thread Cert.KernelMxIdeal.nD Cert.KernelMxIdeal.τ).loc Cert.KernelMxIdeal.main_arg0)
      ∧ r.2.mem ((c.tc : Thread Cert.KernelMxIdeal.nD Cert.KernelMxIdeal.τ).loc Cert.KernelMxIdeal.main_arg1) = m ((c.tc : Thread Cert.KernelMxIdeal.nD Cert.KernelMxIdeal.τ).loc Cert.KernelMxIdeal.main_arg1)
      ∧ r.2.mem ((c.tc : Thread Cert.KernelMxIdeal.nD Cert.KernelMxIdeal.τ).loc Cert.KernelMxIdeal.main_arg2) = m ((c.tc : Thread Cert.KernelMxIdeal.nD Cert.KernelMxIdeal.τ).loc Cert.KernelMxIdeal.main_arg2)
      ∧ r.2.mem ((c.tc : Thread Cert.KernelMxIdeal.nD Cert.KernelMxIdeal.τ).loc Cert.KernelMxIdeal.main_arg3) = m ((c.tc : Thread Cert.KernelMxIdeal.nD Cert.KernelMxIdeal.τ).loc Cert.KernelMxIdeal.main_arg3)
      ∧ r.2.mem ((c.tc : Thread Cert.KernelMxIdeal.nD Cert.KernelMxIdeal.τ).loc Cert.KernelMxIdeal.main_arg4) = m ((c.tc : Thread Cert.KernelMxIdeal.nD Cert.KernelMxIdeal.τ).loc Cert.KernelMxIdeal.main_arg4)
      ∧ r.2.mem ((c.tc : Thread Cert.KernelMxIdeal.nD Cert.KernelMxIdeal.τ).loc Cert.KernelMxIdeal.main_arg5) = m ((c.tc : Thread Cert.KernelMxIdeal.nD Cert.KernelMxIdeal.τ).loc Cert.KernelMxIdeal.main_arg5)
      ∧ r.2.mem ((c.tc : Thread Cert.KernelMxIdeal.nD Cert.KernelMxIdeal.τ).loc Cert.KernelMxIdeal.main_arg6) = m ((c.tc : Thread Cert.KernelMxIdeal.nD Cert.KernelMxIdeal.τ).loc Cert.KernelMxIdeal.main_arg6)
      ∧ r.2.mem ((c.tc : Thread Cert.KernelMxIdeal.nD Cert.KernelMxIdeal.τ).loc Cert.KernelMxIdeal.main_arg7) = m ((c.tc : Thread Cert.KernelMxIdeal.nD Cert.KernelMxIdeal.τ).loc Cert.KernelMxIdeal.main_arg7)
      ∧ r.2.mem ((c.tc : Thread Cert.KernelMxIdeal.nD Cert.KernelMxIdeal.τ).loc Cert.KernelMxIdeal.main_arg8) = m ((c.tc : Thread Cert.KernelMxIdeal.nD Cert.KernelMxIdeal.τ).loc Cert.KernelMxIdeal.main_arg8)
      ∧ r.2.mem ((c.tc : Thread Cert.KernelMxIdeal.nD Cert.KernelMxIdeal.τ).loc Cert.KernelMxIdeal.main_arg9) = m ((c.tc : Thread Cert.KernelMxIdeal.nD Cert.KernelMxIdeal.τ).loc Cert.KernelMxIdeal.main_arg9)
      ∧ r.2.mem ((c.tc : Thread Cert.KernelMxIdeal.nD Cert.KernelMxIdeal.τ).loc Cert.KernelMxIdeal.main_arg10) = m ((c.tc : Thread Cert.KernelMxIdeal.nD Cert.KernelMxIdeal.τ).loc Cert.KernelMxIdeal.main_arg10))
      ∧ r.2.sem = fun _ => 0)

def quiescent_RefMxIdeal [hRefMxIdeal : Cert.RefMxIdeal.Facts] : Prop :=
  ∀ (m : (ℓ : Loc Cert.RefMxIdeal.nD Cert.RefMxIdeal.τ Cert.RefMxIdeal.sig) → Buf (Elt Ideal) ℓ) (g : Dev Cert.RefMxIdeal.nD → PrngReg), Pre_RefMxIdeal m →
    θ_run (Cert.RefMxIdeal.defs (F := Ideal)) (onTc (τ := Cert.RefMxIdeal.τ) (Cert.RefMxIdeal.main (F := Ideal))) ⟨m, fun _ => 0, g⟩ (fun r => (∀ c : Dev Cert.RefMxIdeal.nD,
      r.2.mem ((c.tc : Thread Cert.RefMxIdeal.nD Cert.RefMxIdeal.τ).loc Cert.RefMxIdeal.main_arg0) = m ((c.tc : Thread Cert.RefMxIdeal.nD Cert.RefMxIdeal.τ).loc Cert.RefMxIdeal.main_arg0)
      ∧ r.2.mem ((c.tc : Thread Cert.RefMxIdeal.nD Cert.RefMxIdeal.τ).loc Cert.RefMxIdeal.main_arg1) = m ((c.tc : Thread Cert.RefMxIdeal.nD Cert.RefMxIdeal.τ).loc Cert.RefMxIdeal.main_arg1)
      ∧ r.2.mem ((c.tc : Thread Cert.RefMxIdeal.nD Cert.RefMxIdeal.τ).loc Cert.RefMxIdeal.main_arg2) = m ((c.tc : Thread Cert.RefMxIdeal.nD Cert.RefMxIdeal.τ).loc Cert.RefMxIdeal.main_arg2)
      ∧ r.2.mem ((c.tc : Thread Cert.RefMxIdeal.nD Cert.RefMxIdeal.τ).loc Cert.RefMxIdeal.main_arg3) = m ((c.tc : Thread Cert.RefMxIdeal.nD Cert.RefMxIdeal.τ).loc Cert.RefMxIdeal.main_arg3)
      ∧ r.2.mem ((c.tc : Thread Cert.RefMxIdeal.nD Cert.RefMxIdeal.τ).loc Cert.RefMxIdeal.main_arg4) = m ((c.tc : Thread Cert.RefMxIdeal.nD Cert.RefMxIdeal.τ).loc Cert.RefMxIdeal.main_arg4)
      ∧ r.2.mem ((c.tc : Thread Cert.RefMxIdeal.nD Cert.RefMxIdeal.τ).loc Cert.RefMxIdeal.main_arg5) = m ((c.tc : Thread Cert.RefMxIdeal.nD Cert.RefMxIdeal.τ).loc Cert.RefMxIdeal.main_arg5)
      ∧ r.2.mem ((c.tc : Thread Cert.RefMxIdeal.nD Cert.RefMxIdeal.τ).loc Cert.RefMxIdeal.main_arg6) = m ((c.tc : Thread Cert.RefMxIdeal.nD Cert.RefMxIdeal.τ).loc Cert.RefMxIdeal.main_arg6)
      ∧ r.2.mem ((c.tc : Thread Cert.RefMxIdeal.nD Cert.RefMxIdeal.τ).loc Cert.RefMxIdeal.main_arg7) = m ((c.tc : Thread Cert.RefMxIdeal.nD Cert.RefMxIdeal.τ).loc Cert.RefMxIdeal.main_arg7)
      ∧ r.2.mem ((c.tc : Thread Cert.RefMxIdeal.nD Cert.RefMxIdeal.τ).loc Cert.RefMxIdeal.main_arg8) = m ((c.tc : Thread Cert.RefMxIdeal.nD Cert.RefMxIdeal.τ).loc Cert.RefMxIdeal.main_arg8)
      ∧ r.2.mem ((c.tc : Thread Cert.RefMxIdeal.nD Cert.RefMxIdeal.τ).loc Cert.RefMxIdeal.main_arg9) = m ((c.tc : Thread Cert.RefMxIdeal.nD Cert.RefMxIdeal.τ).loc Cert.RefMxIdeal.main_arg9)
      ∧ r.2.mem ((c.tc : Thread Cert.RefMxIdeal.nD Cert.RefMxIdeal.τ).loc Cert.RefMxIdeal.main_arg10) = m ((c.tc : Thread Cert.RefMxIdeal.nD Cert.RefMxIdeal.τ).loc Cert.RefMxIdeal.main_arg10))
      ∧ r.2.sem = fun _ => 0)

def quiescent_RefMxIdeal_pre_finite_mx [hRefMxIdeal : Cert.RefMxIdeal.Facts] [hPre_finite_mx : Cert.Pre_finite_mx.Facts] : Prop :=
  ∀ (m : (ℓ : Loc Cert.RefMxIdeal.nD Cert.RefMxIdeal.τ Cert.RefMxIdeal.sig) → Buf (Elt Ideal) ℓ) (g : Dev Cert.RefMxIdeal.nD → PrngReg), Pre_RefMxIdeal_finite_mx m →
    θ_run (Cert.RefMxIdeal.defs (F := Ideal)) (onTc (τ := Cert.RefMxIdeal.τ) (Cert.RefMxIdeal.main (F := Ideal))) ⟨m, fun _ => 0, g⟩ (fun r => (∀ c : Dev Cert.RefMxIdeal.nD,
      r.2.mem ((c.tc : Thread Cert.RefMxIdeal.nD Cert.RefMxIdeal.τ).loc Cert.RefMxIdeal.main_arg0) = m ((c.tc : Thread Cert.RefMxIdeal.nD Cert.RefMxIdeal.τ).loc Cert.RefMxIdeal.main_arg0)
      ∧ r.2.mem ((c.tc : Thread Cert.RefMxIdeal.nD Cert.RefMxIdeal.τ).loc Cert.RefMxIdeal.main_arg1) = m ((c.tc : Thread Cert.RefMxIdeal.nD Cert.RefMxIdeal.τ).loc Cert.RefMxIdeal.main_arg1)
      ∧ r.2.mem ((c.tc : Thread Cert.RefMxIdeal.nD Cert.RefMxIdeal.τ).loc Cert.RefMxIdeal.main_arg2) = m ((c.tc : Thread Cert.RefMxIdeal.nD Cert.RefMxIdeal.τ).loc Cert.RefMxIdeal.main_arg2)
      ∧ r.2.mem ((c.tc : Thread Cert.RefMxIdeal.nD Cert.RefMxIdeal.τ).loc Cert.RefMxIdeal.main_arg3) = m ((c.tc : Thread Cert.RefMxIdeal.nD Cert.RefMxIdeal.τ).loc Cert.RefMxIdeal.main_arg3)
      ∧ r.2.mem ((c.tc : Thread Cert.RefMxIdeal.nD Cert.RefMxIdeal.τ).loc Cert.RefMxIdeal.main_arg4) = m ((c.tc : Thread Cert.RefMxIdeal.nD Cert.RefMxIdeal.τ).loc Cert.RefMxIdeal.main_arg4)
      ∧ r.2.mem ((c.tc : Thread Cert.RefMxIdeal.nD Cert.RefMxIdeal.τ).loc Cert.RefMxIdeal.main_arg5) = m ((c.tc : Thread Cert.RefMxIdeal.nD Cert.RefMxIdeal.τ).loc Cert.RefMxIdeal.main_arg5)
      ∧ r.2.mem ((c.tc : Thread Cert.RefMxIdeal.nD Cert.RefMxIdeal.τ).loc Cert.RefMxIdeal.main_arg6) = m ((c.tc : Thread Cert.RefMxIdeal.nD Cert.RefMxIdeal.τ).loc Cert.RefMxIdeal.main_arg6)
      ∧ r.2.mem ((c.tc : Thread Cert.RefMxIdeal.nD Cert.RefMxIdeal.τ).loc Cert.RefMxIdeal.main_arg7) = m ((c.tc : Thread Cert.RefMxIdeal.nD Cert.RefMxIdeal.τ).loc Cert.RefMxIdeal.main_arg7)
      ∧ r.2.mem ((c.tc : Thread Cert.RefMxIdeal.nD Cert.RefMxIdeal.τ).loc Cert.RefMxIdeal.main_arg8) = m ((c.tc : Thread Cert.RefMxIdeal.nD Cert.RefMxIdeal.τ).loc Cert.RefMxIdeal.main_arg8)
      ∧ r.2.mem ((c.tc : Thread Cert.RefMxIdeal.nD Cert.RefMxIdeal.τ).loc Cert.RefMxIdeal.main_arg9) = m ((c.tc : Thread Cert.RefMxIdeal.nD Cert.RefMxIdeal.τ).loc Cert.RefMxIdeal.main_arg9)
      ∧ r.2.mem ((c.tc : Thread Cert.RefMxIdeal.nD Cert.RefMxIdeal.τ).loc Cert.RefMxIdeal.main_arg10) = m ((c.tc : Thread Cert.RefMxIdeal.nD Cert.RefMxIdeal.τ).loc Cert.RefMxIdeal.main_arg10))
      ∧ r.2.sem = fun _ => 0)

def quiescent_KernelFb [hKernelFb : Cert.KernelFb.Facts] : Prop :=
  ∀ (m : (ℓ : Loc Cert.KernelFb.nD Cert.KernelFb.τ Cert.KernelFb.sig) → Buf (Elt Bits) ℓ) (g : Dev Cert.KernelFb.nD → PrngReg), Pre_KernelFb m →
    θ_run (Cert.KernelFb.defs (F := Bits)) (onTc (τ := Cert.KernelFb.τ) (Cert.KernelFb.main (F := Bits))) ⟨m, fun _ => 0, g⟩ (fun r => (∀ c : Dev Cert.KernelFb.nD,
      r.2.mem ((c.tc : Thread Cert.KernelFb.nD Cert.KernelFb.τ).loc Cert.KernelFb.main_arg0) = m ((c.tc : Thread Cert.KernelFb.nD Cert.KernelFb.τ).loc Cert.KernelFb.main_arg0)
      ∧ r.2.mem ((c.tc : Thread Cert.KernelFb.nD Cert.KernelFb.τ).loc Cert.KernelFb.main_arg1) = m ((c.tc : Thread Cert.KernelFb.nD Cert.KernelFb.τ).loc Cert.KernelFb.main_arg1)
      ∧ r.2.mem ((c.tc : Thread Cert.KernelFb.nD Cert.KernelFb.τ).loc Cert.KernelFb.main_arg2) = m ((c.tc : Thread Cert.KernelFb.nD Cert.KernelFb.τ).loc Cert.KernelFb.main_arg2)
      ∧ r.2.mem ((c.tc : Thread Cert.KernelFb.nD Cert.KernelFb.τ).loc Cert.KernelFb.main_arg3) = m ((c.tc : Thread Cert.KernelFb.nD Cert.KernelFb.τ).loc Cert.KernelFb.main_arg3)
      ∧ r.2.mem ((c.tc : Thread Cert.KernelFb.nD Cert.KernelFb.τ).loc Cert.KernelFb.main_arg4) = m ((c.tc : Thread Cert.KernelFb.nD Cert.KernelFb.τ).loc Cert.KernelFb.main_arg4)
      ∧ r.2.mem ((c.tc : Thread Cert.KernelFb.nD Cert.KernelFb.τ).loc Cert.KernelFb.main_arg5) = m ((c.tc : Thread Cert.KernelFb.nD Cert.KernelFb.τ).loc Cert.KernelFb.main_arg5)
      ∧ r.2.mem ((c.tc : Thread Cert.KernelFb.nD Cert.KernelFb.τ).loc Cert.KernelFb.main_arg6) = m ((c.tc : Thread Cert.KernelFb.nD Cert.KernelFb.τ).loc Cert.KernelFb.main_arg6)
      ∧ r.2.mem ((c.tc : Thread Cert.KernelFb.nD Cert.KernelFb.τ).loc Cert.KernelFb.main_arg7) = m ((c.tc : Thread Cert.KernelFb.nD Cert.KernelFb.τ).loc Cert.KernelFb.main_arg7))
      ∧ r.2.sem = fun _ => 0)

def quiescent_KernelFbIdeal [hKernelFbIdeal : Cert.KernelFbIdeal.Facts] : Prop :=
  ∀ (m : (ℓ : Loc Cert.KernelFbIdeal.nD Cert.KernelFbIdeal.τ Cert.KernelFbIdeal.sig) → Buf (Elt Ideal) ℓ) (g : Dev Cert.KernelFbIdeal.nD → PrngReg), Pre_KernelFbIdeal m →
    θ_run (Cert.KernelFbIdeal.defs (F := Ideal)) (onTc (τ := Cert.KernelFbIdeal.τ) (Cert.KernelFbIdeal.main (F := Ideal))) ⟨m, fun _ => 0, g⟩ (fun r => (∀ c : Dev Cert.KernelFbIdeal.nD,
      r.2.mem ((c.tc : Thread Cert.KernelFbIdeal.nD Cert.KernelFbIdeal.τ).loc Cert.KernelFbIdeal.main_arg0) = m ((c.tc : Thread Cert.KernelFbIdeal.nD Cert.KernelFbIdeal.τ).loc Cert.KernelFbIdeal.main_arg0)
      ∧ r.2.mem ((c.tc : Thread Cert.KernelFbIdeal.nD Cert.KernelFbIdeal.τ).loc Cert.KernelFbIdeal.main_arg1) = m ((c.tc : Thread Cert.KernelFbIdeal.nD Cert.KernelFbIdeal.τ).loc Cert.KernelFbIdeal.main_arg1)
      ∧ r.2.mem ((c.tc : Thread Cert.KernelFbIdeal.nD Cert.KernelFbIdeal.τ).loc Cert.KernelFbIdeal.main_arg2) = m ((c.tc : Thread Cert.KernelFbIdeal.nD Cert.KernelFbIdeal.τ).loc Cert.KernelFbIdeal.main_arg2)
      ∧ r.2.mem ((c.tc : Thread Cert.KernelFbIdeal.nD Cert.KernelFbIdeal.τ).loc Cert.KernelFbIdeal.main_arg3) = m ((c.tc : Thread Cert.KernelFbIdeal.nD Cert.KernelFbIdeal.τ).loc Cert.KernelFbIdeal.main_arg3)
      ∧ r.2.mem ((c.tc : Thread Cert.KernelFbIdeal.nD Cert.KernelFbIdeal.τ).loc Cert.KernelFbIdeal.main_arg4) = m ((c.tc : Thread Cert.KernelFbIdeal.nD Cert.KernelFbIdeal.τ).loc Cert.KernelFbIdeal.main_arg4)
      ∧ r.2.mem ((c.tc : Thread Cert.KernelFbIdeal.nD Cert.KernelFbIdeal.τ).loc Cert.KernelFbIdeal.main_arg5) = m ((c.tc : Thread Cert.KernelFbIdeal.nD Cert.KernelFbIdeal.τ).loc Cert.KernelFbIdeal.main_arg5)
      ∧ r.2.mem ((c.tc : Thread Cert.KernelFbIdeal.nD Cert.KernelFbIdeal.τ).loc Cert.KernelFbIdeal.main_arg6) = m ((c.tc : Thread Cert.KernelFbIdeal.nD Cert.KernelFbIdeal.τ).loc Cert.KernelFbIdeal.main_arg6)
      ∧ r.2.mem ((c.tc : Thread Cert.KernelFbIdeal.nD Cert.KernelFbIdeal.τ).loc Cert.KernelFbIdeal.main_arg7) = m ((c.tc : Thread Cert.KernelFbIdeal.nD Cert.KernelFbIdeal.τ).loc Cert.KernelFbIdeal.main_arg7))
      ∧ r.2.sem = fun _ => 0)

def quiescent_KernelFbIdeal_pre_finite_fb [hKernelFbIdeal : Cert.KernelFbIdeal.Facts] [hPre_finite_fb : Cert.Pre_finite_fb.Facts] : Prop :=
  ∀ (m : (ℓ : Loc Cert.KernelFbIdeal.nD Cert.KernelFbIdeal.τ Cert.KernelFbIdeal.sig) → Buf (Elt Ideal) ℓ) (g : Dev Cert.KernelFbIdeal.nD → PrngReg), Pre_KernelFbIdeal_finite_fb m →
    θ_run (Cert.KernelFbIdeal.defs (F := Ideal)) (onTc (τ := Cert.KernelFbIdeal.τ) (Cert.KernelFbIdeal.main (F := Ideal))) ⟨m, fun _ => 0, g⟩ (fun r => (∀ c : Dev Cert.KernelFbIdeal.nD,
      r.2.mem ((c.tc : Thread Cert.KernelFbIdeal.nD Cert.KernelFbIdeal.τ).loc Cert.KernelFbIdeal.main_arg0) = m ((c.tc : Thread Cert.KernelFbIdeal.nD Cert.KernelFbIdeal.τ).loc Cert.KernelFbIdeal.main_arg0)
      ∧ r.2.mem ((c.tc : Thread Cert.KernelFbIdeal.nD Cert.KernelFbIdeal.τ).loc Cert.KernelFbIdeal.main_arg1) = m ((c.tc : Thread Cert.KernelFbIdeal.nD Cert.KernelFbIdeal.τ).loc Cert.KernelFbIdeal.main_arg1)
      ∧ r.2.mem ((c.tc : Thread Cert.KernelFbIdeal.nD Cert.KernelFbIdeal.τ).loc Cert.KernelFbIdeal.main_arg2) = m ((c.tc : Thread Cert.KernelFbIdeal.nD Cert.KernelFbIdeal.τ).loc Cert.KernelFbIdeal.main_arg2)
      ∧ r.2.mem ((c.tc : Thread Cert.KernelFbIdeal.nD Cert.KernelFbIdeal.τ).loc Cert.KernelFbIdeal.main_arg3) = m ((c.tc : Thread Cert.KernelFbIdeal.nD Cert.KernelFbIdeal.τ).loc Cert.KernelFbIdeal.main_arg3)
      ∧ r.2.mem ((c.tc : Thread Cert.KernelFbIdeal.nD Cert.KernelFbIdeal.τ).loc Cert.KernelFbIdeal.main_arg4) = m ((c.tc : Thread Cert.KernelFbIdeal.nD Cert.KernelFbIdeal.τ).loc Cert.KernelFbIdeal.main_arg4)
      ∧ r.2.mem ((c.tc : Thread Cert.KernelFbIdeal.nD Cert.KernelFbIdeal.τ).loc Cert.KernelFbIdeal.main_arg5) = m ((c.tc : Thread Cert.KernelFbIdeal.nD Cert.KernelFbIdeal.τ).loc Cert.KernelFbIdeal.main_arg5)
      ∧ r.2.mem ((c.tc : Thread Cert.KernelFbIdeal.nD Cert.KernelFbIdeal.τ).loc Cert.KernelFbIdeal.main_arg6) = m ((c.tc : Thread Cert.KernelFbIdeal.nD Cert.KernelFbIdeal.τ).loc Cert.KernelFbIdeal.main_arg6)
      ∧ r.2.mem ((c.tc : Thread Cert.KernelFbIdeal.nD Cert.KernelFbIdeal.τ).loc Cert.KernelFbIdeal.main_arg7) = m ((c.tc : Thread Cert.KernelFbIdeal.nD Cert.KernelFbIdeal.τ).loc Cert.KernelFbIdeal.main_arg7))
      ∧ r.2.sem = fun _ => 0)

def quiescent_RefFbIdeal [hRefFbIdeal : Cert.RefFbIdeal.Facts] : Prop :=
  ∀ (m : (ℓ : Loc Cert.RefFbIdeal.nD Cert.RefFbIdeal.τ Cert.RefFbIdeal.sig) → Buf (Elt Ideal) ℓ) (g : Dev Cert.RefFbIdeal.nD → PrngReg), Pre_RefFbIdeal m →
    θ_run (Cert.RefFbIdeal.defs (F := Ideal)) (onTc (τ := Cert.RefFbIdeal.τ) (Cert.RefFbIdeal.main (F := Ideal))) ⟨m, fun _ => 0, g⟩ (fun r => (∀ c : Dev Cert.RefFbIdeal.nD,
      r.2.mem ((c.tc : Thread Cert.RefFbIdeal.nD Cert.RefFbIdeal.τ).loc Cert.RefFbIdeal.main_arg0) = m ((c.tc : Thread Cert.RefFbIdeal.nD Cert.RefFbIdeal.τ).loc Cert.RefFbIdeal.main_arg0)
      ∧ r.2.mem ((c.tc : Thread Cert.RefFbIdeal.nD Cert.RefFbIdeal.τ).loc Cert.RefFbIdeal.main_arg1) = m ((c.tc : Thread Cert.RefFbIdeal.nD Cert.RefFbIdeal.τ).loc Cert.RefFbIdeal.main_arg1)
      ∧ r.2.mem ((c.tc : Thread Cert.RefFbIdeal.nD Cert.RefFbIdeal.τ).loc Cert.RefFbIdeal.main_arg2) = m ((c.tc : Thread Cert.RefFbIdeal.nD Cert.RefFbIdeal.τ).loc Cert.RefFbIdeal.main_arg2)
      ∧ r.2.mem ((c.tc : Thread Cert.RefFbIdeal.nD Cert.RefFbIdeal.τ).loc Cert.RefFbIdeal.main_arg3) = m ((c.tc : Thread Cert.RefFbIdeal.nD Cert.RefFbIdeal.τ).loc Cert.RefFbIdeal.main_arg3)
      ∧ r.2.mem ((c.tc : Thread Cert.RefFbIdeal.nD Cert.RefFbIdeal.τ).loc Cert.RefFbIdeal.main_arg4) = m ((c.tc : Thread Cert.RefFbIdeal.nD Cert.RefFbIdeal.τ).loc Cert.RefFbIdeal.main_arg4)
      ∧ r.2.mem ((c.tc : Thread Cert.RefFbIdeal.nD Cert.RefFbIdeal.τ).loc Cert.RefFbIdeal.main_arg5) = m ((c.tc : Thread Cert.RefFbIdeal.nD Cert.RefFbIdeal.τ).loc Cert.RefFbIdeal.main_arg5)
      ∧ r.2.mem ((c.tc : Thread Cert.RefFbIdeal.nD Cert.RefFbIdeal.τ).loc Cert.RefFbIdeal.main_arg6) = m ((c.tc : Thread Cert.RefFbIdeal.nD Cert.RefFbIdeal.τ).loc Cert.RefFbIdeal.main_arg6)
      ∧ r.2.mem ((c.tc : Thread Cert.RefFbIdeal.nD Cert.RefFbIdeal.τ).loc Cert.RefFbIdeal.main_arg7) = m ((c.tc : Thread Cert.RefFbIdeal.nD Cert.RefFbIdeal.τ).loc Cert.RefFbIdeal.main_arg7))
      ∧ r.2.sem = fun _ => 0)

def quiescent_RefFbIdeal_pre_finite_fb [hRefFbIdeal : Cert.RefFbIdeal.Facts] [hPre_finite_fb : Cert.Pre_finite_fb.Facts] : Prop :=
  ∀ (m : (ℓ : Loc Cert.RefFbIdeal.nD Cert.RefFbIdeal.τ Cert.RefFbIdeal.sig) → Buf (Elt Ideal) ℓ) (g : Dev Cert.RefFbIdeal.nD → PrngReg), Pre_RefFbIdeal_finite_fb m →
    θ_run (Cert.RefFbIdeal.defs (F := Ideal)) (onTc (τ := Cert.RefFbIdeal.τ) (Cert.RefFbIdeal.main (F := Ideal))) ⟨m, fun _ => 0, g⟩ (fun r => (∀ c : Dev Cert.RefFbIdeal.nD,
      r.2.mem ((c.tc : Thread Cert.RefFbIdeal.nD Cert.RefFbIdeal.τ).loc Cert.RefFbIdeal.main_arg0) = m ((c.tc : Thread Cert.RefFbIdeal.nD Cert.RefFbIdeal.τ).loc Cert.RefFbIdeal.main_arg0)
      ∧ r.2.mem ((c.tc : Thread Cert.RefFbIdeal.nD Cert.RefFbIdeal.τ).loc Cert.RefFbIdeal.main_arg1) = m ((c.tc : Thread Cert.RefFbIdeal.nD Cert.RefFbIdeal.τ).loc Cert.RefFbIdeal.main_arg1)
      ∧ r.2.mem ((c.tc : Thread Cert.RefFbIdeal.nD Cert.RefFbIdeal.τ).loc Cert.RefFbIdeal.main_arg2) = m ((c.tc : Thread Cert.RefFbIdeal.nD Cert.RefFbIdeal.τ).loc Cert.RefFbIdeal.main_arg2)
      ∧ r.2.mem ((c.tc : Thread Cert.RefFbIdeal.nD Cert.RefFbIdeal.τ).loc Cert.RefFbIdeal.main_arg3) = m ((c.tc : Thread Cert.RefFbIdeal.nD Cert.RefFbIdeal.τ).loc Cert.RefFbIdeal.main_arg3)
      ∧ r.2.mem ((c.tc : Thread Cert.RefFbIdeal.nD Cert.RefFbIdeal.τ).loc Cert.RefFbIdeal.main_arg4) = m ((c.tc : Thread Cert.RefFbIdeal.nD Cert.RefFbIdeal.τ).loc Cert.RefFbIdeal.main_arg4)
      ∧ r.2.mem ((c.tc : Thread Cert.RefFbIdeal.nD Cert.RefFbIdeal.τ).loc Cert.RefFbIdeal.main_arg5) = m ((c.tc : Thread Cert.RefFbIdeal.nD Cert.RefFbIdeal.τ).loc Cert.RefFbIdeal.main_arg5)
      ∧ r.2.mem ((c.tc : Thread Cert.RefFbIdeal.nD Cert.RefFbIdeal.τ).loc Cert.RefFbIdeal.main_arg6) = m ((c.tc : Thread Cert.RefFbIdeal.nD Cert.RefFbIdeal.τ).loc Cert.RefFbIdeal.main_arg6)
      ∧ r.2.mem ((c.tc : Thread Cert.RefFbIdeal.nD Cert.RefFbIdeal.τ).loc Cert.RefFbIdeal.main_arg7) = m ((c.tc : Thread Cert.RefFbIdeal.nD Cert.RefFbIdeal.τ).loc Cert.RefFbIdeal.main_arg7))
      ∧ r.2.sem = fun _ => 0)

def quiescent_KernelFf [hKernelFf : Cert.KernelFf.Facts] : Prop :=
  ∀ (m : (ℓ : Loc Cert.KernelFf.nD Cert.KernelFf.τ Cert.KernelFf.sig) → Buf (Elt Bits) ℓ) (g : Dev Cert.KernelFf.nD → PrngReg), Pre_KernelFf m →
    θ_run (Cert.KernelFf.defs (F := Bits)) (onTc (τ := Cert.KernelFf.τ) (Cert.KernelFf.main (F := Bits))) ⟨m, fun _ => 0, g⟩ (fun r => (∀ c : Dev Cert.KernelFf.nD,
      r.2.mem ((c.tc : Thread Cert.KernelFf.nD Cert.KernelFf.τ).loc Cert.KernelFf.main_arg0) = m ((c.tc : Thread Cert.KernelFf.nD Cert.KernelFf.τ).loc Cert.KernelFf.main_arg0)
      ∧ r.2.mem ((c.tc : Thread Cert.KernelFf.nD Cert.KernelFf.τ).loc Cert.KernelFf.main_arg1) = m ((c.tc : Thread Cert.KernelFf.nD Cert.KernelFf.τ).loc Cert.KernelFf.main_arg1)
      ∧ r.2.mem ((c.tc : Thread Cert.KernelFf.nD Cert.KernelFf.τ).loc Cert.KernelFf.main_arg2) = m ((c.tc : Thread Cert.KernelFf.nD Cert.KernelFf.τ).loc Cert.KernelFf.main_arg2)
      ∧ r.2.mem ((c.tc : Thread Cert.KernelFf.nD Cert.KernelFf.τ).loc Cert.KernelFf.main_arg3) = m ((c.tc : Thread Cert.KernelFf.nD Cert.KernelFf.τ).loc Cert.KernelFf.main_arg3)
      ∧ r.2.mem ((c.tc : Thread Cert.KernelFf.nD Cert.KernelFf.τ).loc Cert.KernelFf.main_arg4) = m ((c.tc : Thread Cert.KernelFf.nD Cert.KernelFf.τ).loc Cert.KernelFf.main_arg4)
      ∧ r.2.mem ((c.tc : Thread Cert.KernelFf.nD Cert.KernelFf.τ).loc Cert.KernelFf.main_arg5) = m ((c.tc : Thread Cert.KernelFf.nD Cert.KernelFf.τ).loc Cert.KernelFf.main_arg5))
      ∧ r.2.sem = fun _ => 0)

def quiescent_KernelFfIdeal [hKernelFfIdeal : Cert.KernelFfIdeal.Facts] : Prop :=
  ∀ (m : (ℓ : Loc Cert.KernelFfIdeal.nD Cert.KernelFfIdeal.τ Cert.KernelFfIdeal.sig) → Buf (Elt Ideal) ℓ) (g : Dev Cert.KernelFfIdeal.nD → PrngReg), Pre_KernelFfIdeal m →
    θ_run (Cert.KernelFfIdeal.defs (F := Ideal)) (onTc (τ := Cert.KernelFfIdeal.τ) (Cert.KernelFfIdeal.main (F := Ideal))) ⟨m, fun _ => 0, g⟩ (fun r => (∀ c : Dev Cert.KernelFfIdeal.nD,
      r.2.mem ((c.tc : Thread Cert.KernelFfIdeal.nD Cert.KernelFfIdeal.τ).loc Cert.KernelFfIdeal.main_arg0) = m ((c.tc : Thread Cert.KernelFfIdeal.nD Cert.KernelFfIdeal.τ).loc Cert.KernelFfIdeal.main_arg0)
      ∧ r.2.mem ((c.tc : Thread Cert.KernelFfIdeal.nD Cert.KernelFfIdeal.τ).loc Cert.KernelFfIdeal.main_arg1) = m ((c.tc : Thread Cert.KernelFfIdeal.nD Cert.KernelFfIdeal.τ).loc Cert.KernelFfIdeal.main_arg1)
      ∧ r.2.mem ((c.tc : Thread Cert.KernelFfIdeal.nD Cert.KernelFfIdeal.τ).loc Cert.KernelFfIdeal.main_arg2) = m ((c.tc : Thread Cert.KernelFfIdeal.nD Cert.KernelFfIdeal.τ).loc Cert.KernelFfIdeal.main_arg2)
      ∧ r.2.mem ((c.tc : Thread Cert.KernelFfIdeal.nD Cert.KernelFfIdeal.τ).loc Cert.KernelFfIdeal.main_arg3) = m ((c.tc : Thread Cert.KernelFfIdeal.nD Cert.KernelFfIdeal.τ).loc Cert.KernelFfIdeal.main_arg3)
      ∧ r.2.mem ((c.tc : Thread Cert.KernelFfIdeal.nD Cert.KernelFfIdeal.τ).loc Cert.KernelFfIdeal.main_arg4) = m ((c.tc : Thread Cert.KernelFfIdeal.nD Cert.KernelFfIdeal.τ).loc Cert.KernelFfIdeal.main_arg4)
      ∧ r.2.mem ((c.tc : Thread Cert.KernelFfIdeal.nD Cert.KernelFfIdeal.τ).loc Cert.KernelFfIdeal.main_arg5) = m ((c.tc : Thread Cert.KernelFfIdeal.nD Cert.KernelFfIdeal.τ).loc Cert.KernelFfIdeal.main_arg5))
      ∧ r.2.sem = fun _ => 0)

def quiescent_KernelFfIdeal_pre_finite_ff [hKernelFfIdeal : Cert.KernelFfIdeal.Facts] [hPre_finite_ff : Cert.Pre_finite_ff.Facts] : Prop :=
  ∀ (m : (ℓ : Loc Cert.KernelFfIdeal.nD Cert.KernelFfIdeal.τ Cert.KernelFfIdeal.sig) → Buf (Elt Ideal) ℓ) (g : Dev Cert.KernelFfIdeal.nD → PrngReg), Pre_KernelFfIdeal_finite_ff m →
    θ_run (Cert.KernelFfIdeal.defs (F := Ideal)) (onTc (τ := Cert.KernelFfIdeal.τ) (Cert.KernelFfIdeal.main (F := Ideal))) ⟨m, fun _ => 0, g⟩ (fun r => (∀ c : Dev Cert.KernelFfIdeal.nD,
      r.2.mem ((c.tc : Thread Cert.KernelFfIdeal.nD Cert.KernelFfIdeal.τ).loc Cert.KernelFfIdeal.main_arg0) = m ((c.tc : Thread Cert.KernelFfIdeal.nD Cert.KernelFfIdeal.τ).loc Cert.KernelFfIdeal.main_arg0)
      ∧ r.2.mem ((c.tc : Thread Cert.KernelFfIdeal.nD Cert.KernelFfIdeal.τ).loc Cert.KernelFfIdeal.main_arg1) = m ((c.tc : Thread Cert.KernelFfIdeal.nD Cert.KernelFfIdeal.τ).loc Cert.KernelFfIdeal.main_arg1)
      ∧ r.2.mem ((c.tc : Thread Cert.KernelFfIdeal.nD Cert.KernelFfIdeal.τ).loc Cert.KernelFfIdeal.main_arg2) = m ((c.tc : Thread Cert.KernelFfIdeal.nD Cert.KernelFfIdeal.τ).loc Cert.KernelFfIdeal.main_arg2)
      ∧ r.2.mem ((c.tc : Thread Cert.KernelFfIdeal.nD Cert.KernelFfIdeal.τ).loc Cert.KernelFfIdeal.main_arg3) = m ((c.tc : Thread Cert.KernelFfIdeal.nD Cert.KernelFfIdeal.τ).loc Cert.KernelFfIdeal.main_arg3)
      ∧ r.2.mem ((c.tc : Thread Cert.KernelFfIdeal.nD Cert.KernelFfIdeal.τ).loc Cert.KernelFfIdeal.main_arg4) = m ((c.tc : Thread Cert.KernelFfIdeal.nD Cert.KernelFfIdeal.τ).loc Cert.KernelFfIdeal.main_arg4)
      ∧ r.2.mem ((c.tc : Thread Cert.KernelFfIdeal.nD Cert.KernelFfIdeal.τ).loc Cert.KernelFfIdeal.main_arg5) = m ((c.tc : Thread Cert.KernelFfIdeal.nD Cert.KernelFfIdeal.τ).loc Cert.KernelFfIdeal.main_arg5))
      ∧ r.2.sem = fun _ => 0)

def quiescent_RefFfIdeal [hRefFfIdeal : Cert.RefFfIdeal.Facts] : Prop :=
  ∀ (m : (ℓ : Loc Cert.RefFfIdeal.nD Cert.RefFfIdeal.τ Cert.RefFfIdeal.sig) → Buf (Elt Ideal) ℓ) (g : Dev Cert.RefFfIdeal.nD → PrngReg), Pre_RefFfIdeal m →
    θ_run (Cert.RefFfIdeal.defs (F := Ideal)) (onTc (τ := Cert.RefFfIdeal.τ) (Cert.RefFfIdeal.main (F := Ideal))) ⟨m, fun _ => 0, g⟩ (fun r => (∀ c : Dev Cert.RefFfIdeal.nD,
      r.2.mem ((c.tc : Thread Cert.RefFfIdeal.nD Cert.RefFfIdeal.τ).loc Cert.RefFfIdeal.main_arg0) = m ((c.tc : Thread Cert.RefFfIdeal.nD Cert.RefFfIdeal.τ).loc Cert.RefFfIdeal.main_arg0)
      ∧ r.2.mem ((c.tc : Thread Cert.RefFfIdeal.nD Cert.RefFfIdeal.τ).loc Cert.RefFfIdeal.main_arg1) = m ((c.tc : Thread Cert.RefFfIdeal.nD Cert.RefFfIdeal.τ).loc Cert.RefFfIdeal.main_arg1)
      ∧ r.2.mem ((c.tc : Thread Cert.RefFfIdeal.nD Cert.RefFfIdeal.τ).loc Cert.RefFfIdeal.main_arg2) = m ((c.tc : Thread Cert.RefFfIdeal.nD Cert.RefFfIdeal.τ).loc Cert.RefFfIdeal.main_arg2)
      ∧ r.2.mem ((c.tc : Thread Cert.RefFfIdeal.nD Cert.RefFfIdeal.τ).loc Cert.RefFfIdeal.main_arg3) = m ((c.tc : Thread Cert.RefFfIdeal.nD Cert.RefFfIdeal.τ).loc Cert.RefFfIdeal.main_arg3)
      ∧ r.2.mem ((c.tc : Thread Cert.RefFfIdeal.nD Cert.RefFfIdeal.τ).loc Cert.RefFfIdeal.main_arg4) = m ((c.tc : Thread Cert.RefFfIdeal.nD Cert.RefFfIdeal.τ).loc Cert.RefFfIdeal.main_arg4)
      ∧ r.2.mem ((c.tc : Thread Cert.RefFfIdeal.nD Cert.RefFfIdeal.τ).loc Cert.RefFfIdeal.main_arg5) = m ((c.tc : Thread Cert.RefFfIdeal.nD Cert.RefFfIdeal.τ).loc Cert.RefFfIdeal.main_arg5))
      ∧ r.2.sem = fun _ => 0)

def quiescent_RefFfIdeal_pre_finite_ff [hRefFfIdeal : Cert.RefFfIdeal.Facts] [hPre_finite_ff : Cert.Pre_finite_ff.Facts] : Prop :=
  ∀ (m : (ℓ : Loc Cert.RefFfIdeal.nD Cert.RefFfIdeal.τ Cert.RefFfIdeal.sig) → Buf (Elt Ideal) ℓ) (g : Dev Cert.RefFfIdeal.nD → PrngReg), Pre_RefFfIdeal_finite_ff m →
    θ_run (Cert.RefFfIdeal.defs (F := Ideal)) (onTc (τ := Cert.RefFfIdeal.τ) (Cert.RefFfIdeal.main (F := Ideal))) ⟨m, fun _ => 0, g⟩ (fun r => (∀ c : Dev Cert.RefFfIdeal.nD,
      r.2.mem ((c.tc : Thread Cert.RefFfIdeal.nD Cert.RefFfIdeal.τ).loc Cert.RefFfIdeal.main_arg0) = m ((c.tc : Thread Cert.RefFfIdeal.nD Cert.RefFfIdeal.τ).loc Cert.RefFfIdeal.main_arg0)
      ∧ r.2.mem ((c.tc : Thread Cert.RefFfIdeal.nD Cert.RefFfIdeal.τ).loc Cert.RefFfIdeal.main_arg1) = m ((c.tc : Thread Cert.RefFfIdeal.nD Cert.RefFfIdeal.τ).loc Cert.RefFfIdeal.main_arg1)
      ∧ r.2.mem ((c.tc : Thread Cert.RefFfIdeal.nD Cert.RefFfIdeal.τ).loc Cert.RefFfIdeal.main_arg2) = m ((c.tc : Thread Cert.RefFfIdeal.nD Cert.RefFfIdeal.τ).loc Cert.RefFfIdeal.main_arg2)
      ∧ r.2.mem ((c.tc : Thread Cert.RefFfIdeal.nD Cert.RefFfIdeal.τ).loc Cert.RefFfIdeal.main_arg3) = m ((c.tc : Thread Cert.RefFfIdeal.nD Cert.RefFfIdeal.τ).loc Cert.RefFfIdeal.main_arg3)
      ∧ r.2.mem ((c.tc : Thread Cert.RefFfIdeal.nD Cert.RefFfIdeal.τ).loc Cert.RefFfIdeal.main_arg4) = m ((c.tc : Thread Cert.RefFfIdeal.nD Cert.RefFfIdeal.τ).loc Cert.RefFfIdeal.main_arg4)
      ∧ r.2.mem ((c.tc : Thread Cert.RefFfIdeal.nD Cert.RefFfIdeal.τ).loc Cert.RefFfIdeal.main_arg5) = m ((c.tc : Thread Cert.RefFfIdeal.nD Cert.RefFfIdeal.τ).loc Cert.RefFfIdeal.main_arg5))
      ∧ r.2.sem = fun _ => 0)

def quiescent_KernelIp [hKernelIp : Cert.KernelIp.Facts] [hPre_chip_ip : Cert.Pre_chip_ip.Facts] : Prop :=
  ∀ (m : (ℓ : Loc Cert.KernelIp.nD Cert.KernelIp.τ Cert.KernelIp.sig) → Buf (Elt Bits) ℓ) (g : Dev Cert.KernelIp.nD → PrngReg), Pre_KernelIp m →
    θ_run (Cert.KernelIp.defs (F := Bits)) (onTc (τ := Cert.KernelIp.τ) (Cert.KernelIp.main (F := Bits))) ⟨m, fun _ => 0, g⟩ (fun r => (∀ c : Dev Cert.KernelIp.nD,
      r.2.mem ((c.tc : Thread Cert.KernelIp.nD Cert.KernelIp.τ).loc Cert.KernelIp.main_arg0) = m ((c.tc : Thread Cert.KernelIp.nD Cert.KernelIp.τ).loc Cert.KernelIp.main_arg0)
      ∧ r.2.mem ((c.tc : Thread Cert.KernelIp.nD Cert.KernelIp.τ).loc Cert.KernelIp.main_arg1) = m ((c.tc : Thread Cert.KernelIp.nD Cert.KernelIp.τ).loc Cert.KernelIp.main_arg1)
      ∧ r.2.mem ((c.tc : Thread Cert.KernelIp.nD Cert.KernelIp.τ).loc Cert.KernelIp.main_arg2) = m ((c.tc : Thread Cert.KernelIp.nD Cert.KernelIp.τ).loc Cert.KernelIp.main_arg2)
      ∧ r.2.mem ((c.tc : Thread Cert.KernelIp.nD Cert.KernelIp.τ).loc Cert.KernelIp.main_arg3) = m ((c.tc : Thread Cert.KernelIp.nD Cert.KernelIp.τ).loc Cert.KernelIp.main_arg3)
      ∧ r.2.mem ((c.tc : Thread Cert.KernelIp.nD Cert.KernelIp.τ).loc Cert.KernelIp.main_arg4) = m ((c.tc : Thread Cert.KernelIp.nD Cert.KernelIp.τ).loc Cert.KernelIp.main_arg4))
      ∧ r.2.sem = fun _ => 0)

def quiescent_KernelIpIdeal [hKernelIpIdeal : Cert.KernelIpIdeal.Facts] [hPre_chip_ip : Cert.Pre_chip_ip.Facts] : Prop :=
  ∀ (m : (ℓ : Loc Cert.KernelIpIdeal.nD Cert.KernelIpIdeal.τ Cert.KernelIpIdeal.sig) → Buf (Elt Ideal) ℓ) (g : Dev Cert.KernelIpIdeal.nD → PrngReg), Pre_KernelIpIdeal m →
    θ_run (Cert.KernelIpIdeal.defs (F := Ideal)) (onTc (τ := Cert.KernelIpIdeal.τ) (Cert.KernelIpIdeal.main (F := Ideal))) ⟨m, fun _ => 0, g⟩ (fun r => (∀ c : Dev Cert.KernelIpIdeal.nD,
      r.2.mem ((c.tc : Thread Cert.KernelIpIdeal.nD Cert.KernelIpIdeal.τ).loc Cert.KernelIpIdeal.main_arg0) = m ((c.tc : Thread Cert.KernelIpIdeal.nD Cert.KernelIpIdeal.τ).loc Cert.KernelIpIdeal.main_arg0)
      ∧ r.2.mem ((c.tc : Thread Cert.KernelIpIdeal.nD Cert.KernelIpIdeal.τ).loc Cert.KernelIpIdeal.main_arg1) = m ((c.tc : Thread Cert.KernelIpIdeal.nD Cert.KernelIpIdeal.τ).loc Cert.KernelIpIdeal.main_arg1)
      ∧ r.2.mem ((c.tc : Thread Cert.KernelIpIdeal.nD Cert.KernelIpIdeal.τ).loc Cert.KernelIpIdeal.main_arg2) = m ((c.tc : Thread Cert.KernelIpIdeal.nD Cert.KernelIpIdeal.τ).loc Cert.KernelIpIdeal.main_arg2)
      ∧ r.2.mem ((c.tc : Thread Cert.KernelIpIdeal.nD Cert.KernelIpIdeal.τ).loc Cert.KernelIpIdeal.main_arg3) = m ((c.tc : Thread Cert.KernelIpIdeal.nD Cert.KernelIpIdeal.τ).loc Cert.KernelIpIdeal.main_arg3)
      ∧ r.2.mem ((c.tc : Thread Cert.KernelIpIdeal.nD Cert.KernelIpIdeal.τ).loc Cert.KernelIpIdeal.main_arg4) = m ((c.tc : Thread Cert.KernelIpIdeal.nD Cert.KernelIpIdeal.τ).loc Cert.KernelIpIdeal.main_arg4))
      ∧ r.2.sem = fun _ => 0)

def quiescent_RefIpIdeal [hRefIpIdeal : Cert.RefIpIdeal.Facts] : Prop :=
  ∀ (m : (ℓ : Loc Cert.RefIpIdeal.nD Cert.RefIpIdeal.τ Cert.RefIpIdeal.sig) → Buf (Elt Ideal) ℓ) (g : Dev Cert.RefIpIdeal.nD → PrngReg), Pre_RefIpIdeal m →
    θ_run (Cert.RefIpIdeal.defs (F := Ideal)) (onTc (τ := Cert.RefIpIdeal.τ) (Cert.RefIpIdeal.main (F := Ideal))) ⟨m, fun _ => 0, g⟩ (fun r => (∀ c : Dev Cert.RefIpIdeal.nD,
      r.2.mem ((c.tc : Thread Cert.RefIpIdeal.nD Cert.RefIpIdeal.τ).loc Cert.RefIpIdeal.main_arg0) = m ((c.tc : Thread Cert.RefIpIdeal.nD Cert.RefIpIdeal.τ).loc Cert.RefIpIdeal.main_arg0)
      ∧ r.2.mem ((c.tc : Thread Cert.RefIpIdeal.nD Cert.RefIpIdeal.τ).loc Cert.RefIpIdeal.main_arg1) = m ((c.tc : Thread Cert.RefIpIdeal.nD Cert.RefIpIdeal.τ).loc Cert.RefIpIdeal.main_arg1)
      ∧ r.2.mem ((c.tc : Thread Cert.RefIpIdeal.nD Cert.RefIpIdeal.τ).loc Cert.RefIpIdeal.main_arg2) = m ((c.tc : Thread Cert.RefIpIdeal.nD Cert.RefIpIdeal.τ).loc Cert.RefIpIdeal.main_arg2)
      ∧ r.2.mem ((c.tc : Thread Cert.RefIpIdeal.nD Cert.RefIpIdeal.τ).loc Cert.RefIpIdeal.main_arg3) = m ((c.tc : Thread Cert.RefIpIdeal.nD Cert.RefIpIdeal.τ).loc Cert.RefIpIdeal.main_arg3)
      ∧ r.2.mem ((c.tc : Thread Cert.RefIpIdeal.nD Cert.RefIpIdeal.τ).loc Cert.RefIpIdeal.main_arg4) = m ((c.tc : Thread Cert.RefIpIdeal.nD Cert.RefIpIdeal.τ).loc Cert.RefIpIdeal.main_arg4))
      ∧ r.2.sem = fun _ => 0)

def quiescent_RefIpIdeal_pre_chip_ip [hRefIpIdeal : Cert.RefIpIdeal.Facts] [hPre_chip_ip : Cert.Pre_chip_ip.Facts] : Prop :=
  ∀ (m : (ℓ : Loc Cert.RefIpIdeal.nD Cert.RefIpIdeal.τ Cert.RefIpIdeal.sig) → Buf (Elt Ideal) ℓ) (g : Dev Cert.RefIpIdeal.nD → PrngReg), Pre_RefIpIdeal_chip_ip m →
    θ_run (Cert.RefIpIdeal.defs (F := Ideal)) (onTc (τ := Cert.RefIpIdeal.τ) (Cert.RefIpIdeal.main (F := Ideal))) ⟨m, fun _ => 0, g⟩ (fun r => (∀ c : Dev Cert.RefIpIdeal.nD,
      r.2.mem ((c.tc : Thread Cert.RefIpIdeal.nD Cert.RefIpIdeal.τ).loc Cert.RefIpIdeal.main_arg0) = m ((c.tc : Thread Cert.RefIpIdeal.nD Cert.RefIpIdeal.τ).loc Cert.RefIpIdeal.main_arg0)
      ∧ r.2.mem ((c.tc : Thread Cert.RefIpIdeal.nD Cert.RefIpIdeal.τ).loc Cert.RefIpIdeal.main_arg1) = m ((c.tc : Thread Cert.RefIpIdeal.nD Cert.RefIpIdeal.τ).loc Cert.RefIpIdeal.main_arg1)
      ∧ r.2.mem ((c.tc : Thread Cert.RefIpIdeal.nD Cert.RefIpIdeal.τ).loc Cert.RefIpIdeal.main_arg2) = m ((c.tc : Thread Cert.RefIpIdeal.nD Cert.RefIpIdeal.τ).loc Cert.RefIpIdeal.main_arg2)
      ∧ r.2.mem ((c.tc : Thread Cert.RefIpIdeal.nD Cert.RefIpIdeal.τ).loc Cert.RefIpIdeal.main_arg3) = m ((c.tc : Thread Cert.RefIpIdeal.nD Cert.RefIpIdeal.τ).loc Cert.RefIpIdeal.main_arg3)
      ∧ r.2.mem ((c.tc : Thread Cert.RefIpIdeal.nD Cert.RefIpIdeal.τ).loc Cert.RefIpIdeal.main_arg4) = m ((c.tc : Thread Cert.RefIpIdeal.nD Cert.RefIpIdeal.τ).loc Cert.RefIpIdeal.main_arg4))
      ∧ r.2.sem = fun _ => 0)

def preserves_KernelDx_KernelDxIdeal : Prop :=
  True

def algebraic_KernelDxIdeal_RefDxIdeal_pre_finite_dx [hKernelDxIdeal : Cert.KernelDxIdeal.Facts] [hRefDxIdeal : Cert.RefDxIdeal.Facts] [hPre_finite_dx : Cert.Pre_finite_dx.Facts] : Prop :=
  ∀ (m : (ℓ : Loc Cert.KernelDxIdeal.nD Cert.KernelDxIdeal.τ Cert.KernelDxIdeal.sig) → Buf (Elt Ideal) ℓ) (g : Dev Cert.KernelDxIdeal.nD → PrngReg)
    (m' : (ℓ : Loc Cert.RefDxIdeal.nD Cert.RefDxIdeal.τ Cert.RefDxIdeal.sig) → Buf (Elt Ideal) ℓ) (g' : Dev Cert.RefDxIdeal.nD → PrngReg), Pre_KernelDxIdeal_finite_dx m →
    (∀ c : Dev Cert.KernelDxIdeal.nD,
      m' ((c.tc : Thread Cert.RefDxIdeal.nD Cert.RefDxIdeal.τ).loc Cert.RefDxIdeal.main_arg0) = m ((c.tc : Thread Cert.KernelDxIdeal.nD Cert.KernelDxIdeal.τ).loc Cert.KernelDxIdeal.main_arg0)
      ∧ m' ((c.tc : Thread Cert.RefDxIdeal.nD Cert.RefDxIdeal.τ).loc Cert.RefDxIdeal.main_arg1) = m ((c.tc : Thread Cert.KernelDxIdeal.nD Cert.KernelDxIdeal.τ).loc Cert.KernelDxIdeal.main_arg1)
      ∧ m' ((c.tc : Thread Cert.RefDxIdeal.nD Cert.RefDxIdeal.τ).loc Cert.RefDxIdeal.main_arg2) = m ((c.tc : Thread Cert.KernelDxIdeal.nD Cert.KernelDxIdeal.τ).loc Cert.KernelDxIdeal.main_arg2)
      ∧ m' ((c.tc : Thread Cert.RefDxIdeal.nD Cert.RefDxIdeal.τ).loc Cert.RefDxIdeal.main_arg3) = m ((c.tc : Thread Cert.KernelDxIdeal.nD Cert.KernelDxIdeal.τ).loc Cert.KernelDxIdeal.main_arg3)
      ∧ m' ((c.tc : Thread Cert.RefDxIdeal.nD Cert.RefDxIdeal.τ).loc Cert.RefDxIdeal.main_arg4) = m ((c.tc : Thread Cert.KernelDxIdeal.nD Cert.KernelDxIdeal.τ).loc Cert.KernelDxIdeal.main_arg4)) →
    ∃ (v0 : (c : Dev Cert.KernelDxIdeal.nD) → Buf (Elt Ideal) ((c.tc : Thread Cert.KernelDxIdeal.nD Cert.KernelDxIdeal.τ).loc Cert.KernelDxIdeal.main_v6_0)) (v1 : (c : Dev Cert.KernelDxIdeal.nD) → Buf (Elt Ideal) ((c.tc : Thread Cert.KernelDxIdeal.nD Cert.KernelDxIdeal.τ).loc Cert.KernelDxIdeal.main_v6_1)),
      θ_run (Cert.KernelDxIdeal.defs (F := Ideal)) (onTc (τ := Cert.KernelDxIdeal.τ) (Cert.KernelDxIdeal.main (F := Ideal))) ⟨m, fun _ => 0, g⟩ (fun r => ∀ c : Dev Cert.KernelDxIdeal.nD,
          r.2.mem ((c.tc : Thread Cert.KernelDxIdeal.nD Cert.KernelDxIdeal.τ).loc Cert.KernelDxIdeal.main_v6_0) = v0 c
          ∧ r.2.mem ((c.tc : Thread Cert.KernelDxIdeal.nD Cert.KernelDxIdeal.τ).loc Cert.KernelDxIdeal.main_v6_1) = v1 c
          ∧ r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
          ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
          ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2)
          ∧ r.2.mem ((c.tc : Thread Cert.KernelDxIdeal.nD Cert.KernelDxIdeal.τ).loc Cert.KernelDxIdeal.main_arg3) = m ((c.tc : Thread Cert.KernelDxIdeal.nD Cert.KernelDxIdeal.τ).loc Cert.KernelDxIdeal.main_arg3)
          ∧ r.2.mem ((c.tc : Thread Cert.KernelDxIdeal.nD Cert.KernelDxIdeal.τ).loc Cert.KernelDxIdeal.main_arg4) = m ((c.tc : Thread Cert.KernelDxIdeal.nD Cert.KernelDxIdeal.τ).loc Cert.KernelDxIdeal.main_arg4))
      ∧ θ_run (Cert.RefDxIdeal.defs (F := Ideal)) (onTc (τ := Cert.RefDxIdeal.τ) (Cert.RefDxIdeal.main (F := Ideal))) ⟨m', fun _ => 0, g'⟩ (fun r => ∀ c : Dev Cert.RefDxIdeal.nD,
          r.2.mem ((c.tc : Thread Cert.RefDxIdeal.nD Cert.RefDxIdeal.τ).loc Cert.RefDxIdeal.main_v38) = v0 c
          ∧ r.2.mem ((c.tc : Thread Cert.RefDxIdeal.nD Cert.RefDxIdeal.τ).loc Cert.RefDxIdeal.main_v41) = v1 c
          ∧ r.2.mem ((c.tc : Thread Cert.RefDxIdeal.nD Cert.RefDxIdeal.τ).loc Cert.RefDxIdeal.main_arg0) = m' ((c.tc : Thread Cert.RefDxIdeal.nD Cert.RefDxIdeal.τ).loc Cert.RefDxIdeal.main_arg0)
          ∧ r.2.mem ((c.tc : Thread Cert.RefDxIdeal.nD Cert.RefDxIdeal.τ).loc Cert.RefDxIdeal.main_arg1) = m' ((c.tc : Thread Cert.RefDxIdeal.nD Cert.RefDxIdeal.τ).loc Cert.RefDxIdeal.main_arg1)
          ∧ r.2.mem ((c.tc : Thread Cert.RefDxIdeal.nD Cert.RefDxIdeal.τ).loc Cert.RefDxIdeal.main_arg2) = m' ((c.tc : Thread Cert.RefDxIdeal.nD Cert.RefDxIdeal.τ).loc Cert.RefDxIdeal.main_arg2)
          ∧ r.2.mem ((c.tc : Thread Cert.RefDxIdeal.nD Cert.RefDxIdeal.τ).loc Cert.RefDxIdeal.main_arg3) = m' ((c.tc : Thread Cert.RefDxIdeal.nD Cert.RefDxIdeal.τ).loc Cert.RefDxIdeal.main_arg3)
          ∧ r.2.mem ((c.tc : Thread Cert.RefDxIdeal.nD Cert.RefDxIdeal.τ).loc Cert.RefDxIdeal.main_arg4) = m' ((c.tc : Thread Cert.RefDxIdeal.nD Cert.RefDxIdeal.τ).loc Cert.RefDxIdeal.main_arg4))

def preserves_KernelMx_KernelMxIdeal : Prop :=
  IdealRules.named_const.Statement Cert.KernelMxIdeal.κ "gelu_root_cube" .f32 0x3D122279#32 (((6693141 / 8388608) * (12003091 / 268435456) : ℝ) : EReal)
  ∧ IdealRules.named_const.Statement Cert.KernelMxIdeal.κ "gelu_six_root_cube" .f32 0x3E5B33B6#32 (((6 * (6693141 / 8388608)) * (12003091 / 268435456) : ℝ) : EReal)

def algebraic_KernelMxIdeal_RefMxIdeal_pre_finite_mx [hKernelMxIdeal : Cert.KernelMxIdeal.Facts] [hRefMxIdeal : Cert.RefMxIdeal.Facts] [hPre_finite_mx : Cert.Pre_finite_mx.Facts] : Prop :=
  ∀ (m : (ℓ : Loc Cert.KernelMxIdeal.nD Cert.KernelMxIdeal.τ Cert.KernelMxIdeal.sig) → Buf (Elt Ideal) ℓ) (g : Dev Cert.KernelMxIdeal.nD → PrngReg)
    (m' : (ℓ : Loc Cert.RefMxIdeal.nD Cert.RefMxIdeal.τ Cert.RefMxIdeal.sig) → Buf (Elt Ideal) ℓ) (g' : Dev Cert.RefMxIdeal.nD → PrngReg), Pre_KernelMxIdeal_finite_mx m →
    (∀ c : Dev Cert.KernelMxIdeal.nD,
      m' ((c.tc : Thread Cert.RefMxIdeal.nD Cert.RefMxIdeal.τ).loc Cert.RefMxIdeal.main_arg0) = m ((c.tc : Thread Cert.KernelMxIdeal.nD Cert.KernelMxIdeal.τ).loc Cert.KernelMxIdeal.main_arg0)
      ∧ m' ((c.tc : Thread Cert.RefMxIdeal.nD Cert.RefMxIdeal.τ).loc Cert.RefMxIdeal.main_arg1) = m ((c.tc : Thread Cert.KernelMxIdeal.nD Cert.KernelMxIdeal.τ).loc Cert.KernelMxIdeal.main_arg1)
      ∧ m' ((c.tc : Thread Cert.RefMxIdeal.nD Cert.RefMxIdeal.τ).loc Cert.RefMxIdeal.main_arg2) = m ((c.tc : Thread Cert.KernelMxIdeal.nD Cert.KernelMxIdeal.τ).loc Cert.KernelMxIdeal.main_arg2)
      ∧ m' ((c.tc : Thread Cert.RefMxIdeal.nD Cert.RefMxIdeal.τ).loc Cert.RefMxIdeal.main_arg3) = m ((c.tc : Thread Cert.KernelMxIdeal.nD Cert.KernelMxIdeal.τ).loc Cert.KernelMxIdeal.main_arg3)
      ∧ m' ((c.tc : Thread Cert.RefMxIdeal.nD Cert.RefMxIdeal.τ).loc Cert.RefMxIdeal.main_arg4) = m ((c.tc : Thread Cert.KernelMxIdeal.nD Cert.KernelMxIdeal.τ).loc Cert.KernelMxIdeal.main_arg4)
      ∧ m' ((c.tc : Thread Cert.RefMxIdeal.nD Cert.RefMxIdeal.τ).loc Cert.RefMxIdeal.main_arg5) = m ((c.tc : Thread Cert.KernelMxIdeal.nD Cert.KernelMxIdeal.τ).loc Cert.KernelMxIdeal.main_arg5)
      ∧ m' ((c.tc : Thread Cert.RefMxIdeal.nD Cert.RefMxIdeal.τ).loc Cert.RefMxIdeal.main_arg6) = m ((c.tc : Thread Cert.KernelMxIdeal.nD Cert.KernelMxIdeal.τ).loc Cert.KernelMxIdeal.main_arg6)
      ∧ m' ((c.tc : Thread Cert.RefMxIdeal.nD Cert.RefMxIdeal.τ).loc Cert.RefMxIdeal.main_arg7) = m ((c.tc : Thread Cert.KernelMxIdeal.nD Cert.KernelMxIdeal.τ).loc Cert.KernelMxIdeal.main_arg7)
      ∧ m' ((c.tc : Thread Cert.RefMxIdeal.nD Cert.RefMxIdeal.τ).loc Cert.RefMxIdeal.main_arg8) = m ((c.tc : Thread Cert.KernelMxIdeal.nD Cert.KernelMxIdeal.τ).loc Cert.KernelMxIdeal.main_arg8)
      ∧ m' ((c.tc : Thread Cert.RefMxIdeal.nD Cert.RefMxIdeal.τ).loc Cert.RefMxIdeal.main_arg9) = m ((c.tc : Thread Cert.KernelMxIdeal.nD Cert.KernelMxIdeal.τ).loc Cert.KernelMxIdeal.main_arg9)
      ∧ m' ((c.tc : Thread Cert.RefMxIdeal.nD Cert.RefMxIdeal.τ).loc Cert.RefMxIdeal.main_arg10) = m ((c.tc : Thread Cert.KernelMxIdeal.nD Cert.KernelMxIdeal.τ).loc Cert.KernelMxIdeal.main_arg10)) →
    ∃ (v0 : (c : Dev Cert.KernelMxIdeal.nD) → Buf (Elt Ideal) ((c.tc : Thread Cert.KernelMxIdeal.nD Cert.KernelMxIdeal.τ).loc Cert.KernelMxIdeal.main_v89_0)) (v1 : (c : Dev Cert.KernelMxIdeal.nD) → Buf (Elt Ideal) ((c.tc : Thread Cert.KernelMxIdeal.nD Cert.KernelMxIdeal.τ).loc Cert.KernelMxIdeal.main_v89_1)) (v2 : (c : Dev Cert.KernelMxIdeal.nD) → Buf (Elt Ideal) ((c.tc : Thread Cert.KernelMxIdeal.nD Cert.KernelMxIdeal.τ).loc Cert.KernelMxIdeal.main_v89_2)) (v3 : (c : Dev Cert.KernelMxIdeal.nD) → Buf (Elt Ideal) ((c.tc : Thread Cert.KernelMxIdeal.nD Cert.KernelMxIdeal.τ).loc Cert.KernelMxIdeal.main_v89_3)) (v4 : (c : Dev Cert.KernelMxIdeal.nD) → Buf (Elt Ideal) ((c.tc : Thread Cert.KernelMxIdeal.nD Cert.KernelMxIdeal.τ).loc Cert.KernelMxIdeal.main_v89_4)) (v5 : (c : Dev Cert.KernelMxIdeal.nD) → Buf (Elt Ideal) ((c.tc : Thread Cert.KernelMxIdeal.nD Cert.KernelMxIdeal.τ).loc Cert.KernelMxIdeal.main_v89_5)) (v6 : (c : Dev Cert.KernelMxIdeal.nD) → Buf (Elt Ideal) ((c.tc : Thread Cert.KernelMxIdeal.nD Cert.KernelMxIdeal.τ).loc Cert.KernelMxIdeal.main_v89_6)),
      θ_run (Cert.KernelMxIdeal.defs (F := Ideal)) (onTc (τ := Cert.KernelMxIdeal.τ) (Cert.KernelMxIdeal.main (F := Ideal))) ⟨m, fun _ => 0, g⟩ (fun r => ∀ c : Dev Cert.KernelMxIdeal.nD,
          r.2.mem ((c.tc : Thread Cert.KernelMxIdeal.nD Cert.KernelMxIdeal.τ).loc Cert.KernelMxIdeal.main_v89_0) = v0 c
          ∧ r.2.mem ((c.tc : Thread Cert.KernelMxIdeal.nD Cert.KernelMxIdeal.τ).loc Cert.KernelMxIdeal.main_v89_1) = v1 c
          ∧ r.2.mem ((c.tc : Thread Cert.KernelMxIdeal.nD Cert.KernelMxIdeal.τ).loc Cert.KernelMxIdeal.main_v89_2) = v2 c
          ∧ r.2.mem ((c.tc : Thread Cert.KernelMxIdeal.nD Cert.KernelMxIdeal.τ).loc Cert.KernelMxIdeal.main_v89_3) = v3 c
          ∧ r.2.mem ((c.tc : Thread Cert.KernelMxIdeal.nD Cert.KernelMxIdeal.τ).loc Cert.KernelMxIdeal.main_v89_4) = v4 c
          ∧ r.2.mem ((c.tc : Thread Cert.KernelMxIdeal.nD Cert.KernelMxIdeal.τ).loc Cert.KernelMxIdeal.main_v89_5) = v5 c
          ∧ r.2.mem ((c.tc : Thread Cert.KernelMxIdeal.nD Cert.KernelMxIdeal.τ).loc Cert.KernelMxIdeal.main_v89_6) = v6 c
          ∧ r.2.mem ((c.tc : Thread Cert.KernelMxIdeal.nD Cert.KernelMxIdeal.τ).loc Cert.KernelMxIdeal.main_arg0) = m ((c.tc : Thread Cert.KernelMxIdeal.nD Cert.KernelMxIdeal.τ).loc Cert.KernelMxIdeal.main_arg0)
          ∧ r.2.mem ((c.tc : Thread Cert.KernelMxIdeal.nD Cert.KernelMxIdeal.τ).loc Cert.KernelMxIdeal.main_arg1) = m ((c.tc : Thread Cert.KernelMxIdeal.nD Cert.KernelMxIdeal.τ).loc Cert.KernelMxIdeal.main_arg1)
          ∧ r.2.mem ((c.tc : Thread Cert.KernelMxIdeal.nD Cert.KernelMxIdeal.τ).loc Cert.KernelMxIdeal.main_arg2) = m ((c.tc : Thread Cert.KernelMxIdeal.nD Cert.KernelMxIdeal.τ).loc Cert.KernelMxIdeal.main_arg2)
          ∧ r.2.mem ((c.tc : Thread Cert.KernelMxIdeal.nD Cert.KernelMxIdeal.τ).loc Cert.KernelMxIdeal.main_arg3) = m ((c.tc : Thread Cert.KernelMxIdeal.nD Cert.KernelMxIdeal.τ).loc Cert.KernelMxIdeal.main_arg3)
          ∧ r.2.mem ((c.tc : Thread Cert.KernelMxIdeal.nD Cert.KernelMxIdeal.τ).loc Cert.KernelMxIdeal.main_arg4) = m ((c.tc : Thread Cert.KernelMxIdeal.nD Cert.KernelMxIdeal.τ).loc Cert.KernelMxIdeal.main_arg4)
          ∧ r.2.mem ((c.tc : Thread Cert.KernelMxIdeal.nD Cert.KernelMxIdeal.τ).loc Cert.KernelMxIdeal.main_arg5) = m ((c.tc : Thread Cert.KernelMxIdeal.nD Cert.KernelMxIdeal.τ).loc Cert.KernelMxIdeal.main_arg5)
          ∧ r.2.mem ((c.tc : Thread Cert.KernelMxIdeal.nD Cert.KernelMxIdeal.τ).loc Cert.KernelMxIdeal.main_arg6) = m ((c.tc : Thread Cert.KernelMxIdeal.nD Cert.KernelMxIdeal.τ).loc Cert.KernelMxIdeal.main_arg6)
          ∧ r.2.mem ((c.tc : Thread Cert.KernelMxIdeal.nD Cert.KernelMxIdeal.τ).loc Cert.KernelMxIdeal.main_arg7) = m ((c.tc : Thread Cert.KernelMxIdeal.nD Cert.KernelMxIdeal.τ).loc Cert.KernelMxIdeal.main_arg7)
          ∧ r.2.mem ((c.tc : Thread Cert.KernelMxIdeal.nD Cert.KernelMxIdeal.τ).loc Cert.KernelMxIdeal.main_arg8) = m ((c.tc : Thread Cert.KernelMxIdeal.nD Cert.KernelMxIdeal.τ).loc Cert.KernelMxIdeal.main_arg8)
          ∧ r.2.mem ((c.tc : Thread Cert.KernelMxIdeal.nD Cert.KernelMxIdeal.τ).loc Cert.KernelMxIdeal.main_arg9) = m ((c.tc : Thread Cert.KernelMxIdeal.nD Cert.KernelMxIdeal.τ).loc Cert.KernelMxIdeal.main_arg9)
          ∧ r.2.mem ((c.tc : Thread Cert.KernelMxIdeal.nD Cert.KernelMxIdeal.τ).loc Cert.KernelMxIdeal.main_arg10) = m ((c.tc : Thread Cert.KernelMxIdeal.nD Cert.KernelMxIdeal.τ).loc Cert.KernelMxIdeal.main_arg10))
      ∧ θ_run (Cert.RefMxIdeal.defs (F := Ideal)) (onTc (τ := Cert.RefMxIdeal.τ) (Cert.RefMxIdeal.main (F := Ideal))) ⟨m', fun _ => 0, g'⟩ (fun r => ∀ c : Dev Cert.RefMxIdeal.nD,
          r.2.mem ((c.tc : Thread Cert.RefMxIdeal.nD Cert.RefMxIdeal.τ).loc Cert.RefMxIdeal.main_v351) = v0 c
          ∧ r.2.mem ((c.tc : Thread Cert.RefMxIdeal.nD Cert.RefMxIdeal.τ).loc Cert.RefMxIdeal.main_v355) = v1 c
          ∧ r.2.mem ((c.tc : Thread Cert.RefMxIdeal.nD Cert.RefMxIdeal.τ).loc Cert.RefMxIdeal.main_v359) = v2 c
          ∧ r.2.mem ((c.tc : Thread Cert.RefMxIdeal.nD Cert.RefMxIdeal.τ).loc Cert.RefMxIdeal.main_v214) = v3 c
          ∧ r.2.mem ((c.tc : Thread Cert.RefMxIdeal.nD Cert.RefMxIdeal.τ).loc Cert.RefMxIdeal.main_v362) = v4 c
          ∧ r.2.mem ((c.tc : Thread Cert.RefMxIdeal.nD Cert.RefMxIdeal.τ).loc Cert.RefMxIdeal.main_v367) = v5 c
          ∧ r.2.mem ((c.tc : Thread Cert.RefMxIdeal.nD Cert.RefMxIdeal.τ).loc Cert.RefMxIdeal.main_v370) = v6 c
          ∧ r.2.mem ((c.tc : Thread Cert.RefMxIdeal.nD Cert.RefMxIdeal.τ).loc Cert.RefMxIdeal.main_arg0) = m' ((c.tc : Thread Cert.RefMxIdeal.nD Cert.RefMxIdeal.τ).loc Cert.RefMxIdeal.main_arg0)
          ∧ r.2.mem ((c.tc : Thread Cert.RefMxIdeal.nD Cert.RefMxIdeal.τ).loc Cert.RefMxIdeal.main_arg1) = m' ((c.tc : Thread Cert.RefMxIdeal.nD Cert.RefMxIdeal.τ).loc Cert.RefMxIdeal.main_arg1)
          ∧ r.2.mem ((c.tc : Thread Cert.RefMxIdeal.nD Cert.RefMxIdeal.τ).loc Cert.RefMxIdeal.main_arg2) = m' ((c.tc : Thread Cert.RefMxIdeal.nD Cert.RefMxIdeal.τ).loc Cert.RefMxIdeal.main_arg2)
          ∧ r.2.mem ((c.tc : Thread Cert.RefMxIdeal.nD Cert.RefMxIdeal.τ).loc Cert.RefMxIdeal.main_arg3) = m' ((c.tc : Thread Cert.RefMxIdeal.nD Cert.RefMxIdeal.τ).loc Cert.RefMxIdeal.main_arg3)
          ∧ r.2.mem ((c.tc : Thread Cert.RefMxIdeal.nD Cert.RefMxIdeal.τ).loc Cert.RefMxIdeal.main_arg4) = m' ((c.tc : Thread Cert.RefMxIdeal.nD Cert.RefMxIdeal.τ).loc Cert.RefMxIdeal.main_arg4)
          ∧ r.2.mem ((c.tc : Thread Cert.RefMxIdeal.nD Cert.RefMxIdeal.τ).loc Cert.RefMxIdeal.main_arg5) = m' ((c.tc : Thread Cert.RefMxIdeal.nD Cert.RefMxIdeal.τ).loc Cert.RefMxIdeal.main_arg5)
          ∧ r.2.mem ((c.tc : Thread Cert.RefMxIdeal.nD Cert.RefMxIdeal.τ).loc Cert.RefMxIdeal.main_arg6) = m' ((c.tc : Thread Cert.RefMxIdeal.nD Cert.RefMxIdeal.τ).loc Cert.RefMxIdeal.main_arg6)
          ∧ r.2.mem ((c.tc : Thread Cert.RefMxIdeal.nD Cert.RefMxIdeal.τ).loc Cert.RefMxIdeal.main_arg7) = m' ((c.tc : Thread Cert.RefMxIdeal.nD Cert.RefMxIdeal.τ).loc Cert.RefMxIdeal.main_arg7)
          ∧ r.2.mem ((c.tc : Thread Cert.RefMxIdeal.nD Cert.RefMxIdeal.τ).loc Cert.RefMxIdeal.main_arg8) = m' ((c.tc : Thread Cert.RefMxIdeal.nD Cert.RefMxIdeal.τ).loc Cert.RefMxIdeal.main_arg8)
          ∧ r.2.mem ((c.tc : Thread Cert.RefMxIdeal.nD Cert.RefMxIdeal.τ).loc Cert.RefMxIdeal.main_arg9) = m' ((c.tc : Thread Cert.RefMxIdeal.nD Cert.RefMxIdeal.τ).loc Cert.RefMxIdeal.main_arg9)
          ∧ r.2.mem ((c.tc : Thread Cert.RefMxIdeal.nD Cert.RefMxIdeal.τ).loc Cert.RefMxIdeal.main_arg10) = m' ((c.tc : Thread Cert.RefMxIdeal.nD Cert.RefMxIdeal.τ).loc Cert.RefMxIdeal.main_arg10))

def preserves_KernelFb_KernelFbIdeal : Prop :=
  True

def algebraic_KernelFbIdeal_RefFbIdeal_pre_finite_fb [hKernelFbIdeal : Cert.KernelFbIdeal.Facts] [hRefFbIdeal : Cert.RefFbIdeal.Facts] [hPre_finite_fb : Cert.Pre_finite_fb.Facts] : Prop :=
  ∀ (m : (ℓ : Loc Cert.KernelFbIdeal.nD Cert.KernelFbIdeal.τ Cert.KernelFbIdeal.sig) → Buf (Elt Ideal) ℓ) (g : Dev Cert.KernelFbIdeal.nD → PrngReg)
    (m' : (ℓ : Loc Cert.RefFbIdeal.nD Cert.RefFbIdeal.τ Cert.RefFbIdeal.sig) → Buf (Elt Ideal) ℓ) (g' : Dev Cert.RefFbIdeal.nD → PrngReg), Pre_KernelFbIdeal_finite_fb m →
    (∀ c : Dev Cert.KernelFbIdeal.nD,
      m' ((c.tc : Thread Cert.RefFbIdeal.nD Cert.RefFbIdeal.τ).loc Cert.RefFbIdeal.main_arg0) = m ((c.tc : Thread Cert.KernelFbIdeal.nD Cert.KernelFbIdeal.τ).loc Cert.KernelFbIdeal.main_arg0)
      ∧ m' ((c.tc : Thread Cert.RefFbIdeal.nD Cert.RefFbIdeal.τ).loc Cert.RefFbIdeal.main_arg1) = m ((c.tc : Thread Cert.KernelFbIdeal.nD Cert.KernelFbIdeal.τ).loc Cert.KernelFbIdeal.main_arg1)
      ∧ m' ((c.tc : Thread Cert.RefFbIdeal.nD Cert.RefFbIdeal.τ).loc Cert.RefFbIdeal.main_arg2) = m ((c.tc : Thread Cert.KernelFbIdeal.nD Cert.KernelFbIdeal.τ).loc Cert.KernelFbIdeal.main_arg2)
      ∧ m' ((c.tc : Thread Cert.RefFbIdeal.nD Cert.RefFbIdeal.τ).loc Cert.RefFbIdeal.main_arg3) = m ((c.tc : Thread Cert.KernelFbIdeal.nD Cert.KernelFbIdeal.τ).loc Cert.KernelFbIdeal.main_arg3)
      ∧ m' ((c.tc : Thread Cert.RefFbIdeal.nD Cert.RefFbIdeal.τ).loc Cert.RefFbIdeal.main_arg4) = m ((c.tc : Thread Cert.KernelFbIdeal.nD Cert.KernelFbIdeal.τ).loc Cert.KernelFbIdeal.main_arg4)
      ∧ m' ((c.tc : Thread Cert.RefFbIdeal.nD Cert.RefFbIdeal.τ).loc Cert.RefFbIdeal.main_arg5) = m ((c.tc : Thread Cert.KernelFbIdeal.nD Cert.KernelFbIdeal.τ).loc Cert.KernelFbIdeal.main_arg5)
      ∧ m' ((c.tc : Thread Cert.RefFbIdeal.nD Cert.RefFbIdeal.τ).loc Cert.RefFbIdeal.main_arg6) = m ((c.tc : Thread Cert.KernelFbIdeal.nD Cert.KernelFbIdeal.τ).loc Cert.KernelFbIdeal.main_arg6)
      ∧ m' ((c.tc : Thread Cert.RefFbIdeal.nD Cert.RefFbIdeal.τ).loc Cert.RefFbIdeal.main_arg7) = m ((c.tc : Thread Cert.KernelFbIdeal.nD Cert.KernelFbIdeal.τ).loc Cert.KernelFbIdeal.main_arg7)) →
    ∃ (v0 : (c : Dev Cert.KernelFbIdeal.nD) → Buf (Elt Ideal) ((c.tc : Thread Cert.KernelFbIdeal.nD Cert.KernelFbIdeal.τ).loc Cert.KernelFbIdeal.main_v36_0)) (v1 : (c : Dev Cert.KernelFbIdeal.nD) → Buf (Elt Ideal) ((c.tc : Thread Cert.KernelFbIdeal.nD Cert.KernelFbIdeal.τ).loc Cert.KernelFbIdeal.main_v36_1)) (v2 : (c : Dev Cert.KernelFbIdeal.nD) → Buf (Elt Ideal) ((c.tc : Thread Cert.KernelFbIdeal.nD Cert.KernelFbIdeal.τ).loc Cert.KernelFbIdeal.main_v36_2)) (v3 : (c : Dev Cert.KernelFbIdeal.nD) → Buf (Elt Ideal) ((c.tc : Thread Cert.KernelFbIdeal.nD Cert.KernelFbIdeal.τ).loc Cert.KernelFbIdeal.main_v36_3)),
      θ_run (Cert.KernelFbIdeal.defs (F := Ideal)) (onTc (τ := Cert.KernelFbIdeal.τ) (Cert.KernelFbIdeal.main (F := Ideal))) ⟨m, fun _ => 0, g⟩ (fun r => ∀ c : Dev Cert.KernelFbIdeal.nD,
          r.2.mem ((c.tc : Thread Cert.KernelFbIdeal.nD Cert.KernelFbIdeal.τ).loc Cert.KernelFbIdeal.main_v36_0) = v0 c
          ∧ r.2.mem ((c.tc : Thread Cert.KernelFbIdeal.nD Cert.KernelFbIdeal.τ).loc Cert.KernelFbIdeal.main_v36_1) = v1 c
          ∧ r.2.mem ((c.tc : Thread Cert.KernelFbIdeal.nD Cert.KernelFbIdeal.τ).loc Cert.KernelFbIdeal.main_v36_2) = v2 c
          ∧ r.2.mem ((c.tc : Thread Cert.KernelFbIdeal.nD Cert.KernelFbIdeal.τ).loc Cert.KernelFbIdeal.main_v36_3) = v3 c
          ∧ r.2.mem ((c.tc : Thread Cert.KernelFbIdeal.nD Cert.KernelFbIdeal.τ).loc Cert.KernelFbIdeal.main_arg0) = m ((c.tc : Thread Cert.KernelFbIdeal.nD Cert.KernelFbIdeal.τ).loc Cert.KernelFbIdeal.main_arg0)
          ∧ r.2.mem ((c.tc : Thread Cert.KernelFbIdeal.nD Cert.KernelFbIdeal.τ).loc Cert.KernelFbIdeal.main_arg1) = m ((c.tc : Thread Cert.KernelFbIdeal.nD Cert.KernelFbIdeal.τ).loc Cert.KernelFbIdeal.main_arg1)
          ∧ r.2.mem ((c.tc : Thread Cert.KernelFbIdeal.nD Cert.KernelFbIdeal.τ).loc Cert.KernelFbIdeal.main_arg2) = m ((c.tc : Thread Cert.KernelFbIdeal.nD Cert.KernelFbIdeal.τ).loc Cert.KernelFbIdeal.main_arg2)
          ∧ r.2.mem ((c.tc : Thread Cert.KernelFbIdeal.nD Cert.KernelFbIdeal.τ).loc Cert.KernelFbIdeal.main_arg3) = m ((c.tc : Thread Cert.KernelFbIdeal.nD Cert.KernelFbIdeal.τ).loc Cert.KernelFbIdeal.main_arg3)
          ∧ r.2.mem ((c.tc : Thread Cert.KernelFbIdeal.nD Cert.KernelFbIdeal.τ).loc Cert.KernelFbIdeal.main_arg4) = m ((c.tc : Thread Cert.KernelFbIdeal.nD Cert.KernelFbIdeal.τ).loc Cert.KernelFbIdeal.main_arg4)
          ∧ r.2.mem ((c.tc : Thread Cert.KernelFbIdeal.nD Cert.KernelFbIdeal.τ).loc Cert.KernelFbIdeal.main_arg5) = m ((c.tc : Thread Cert.KernelFbIdeal.nD Cert.KernelFbIdeal.τ).loc Cert.KernelFbIdeal.main_arg5)
          ∧ r.2.mem ((c.tc : Thread Cert.KernelFbIdeal.nD Cert.KernelFbIdeal.τ).loc Cert.KernelFbIdeal.main_arg6) = m ((c.tc : Thread Cert.KernelFbIdeal.nD Cert.KernelFbIdeal.τ).loc Cert.KernelFbIdeal.main_arg6)
          ∧ r.2.mem ((c.tc : Thread Cert.KernelFbIdeal.nD Cert.KernelFbIdeal.τ).loc Cert.KernelFbIdeal.main_arg7) = m ((c.tc : Thread Cert.KernelFbIdeal.nD Cert.KernelFbIdeal.τ).loc Cert.KernelFbIdeal.main_arg7))
      ∧ θ_run (Cert.RefFbIdeal.defs (F := Ideal)) (onTc (τ := Cert.RefFbIdeal.τ) (Cert.RefFbIdeal.main (F := Ideal))) ⟨m', fun _ => 0, g'⟩ (fun r => ∀ c : Dev Cert.RefFbIdeal.nD,
          r.2.mem ((c.tc : Thread Cert.RefFbIdeal.nD Cert.RefFbIdeal.τ).loc Cert.RefFbIdeal.main_v91) = v0 c
          ∧ r.2.mem ((c.tc : Thread Cert.RefFbIdeal.nD Cert.RefFbIdeal.τ).loc Cert.RefFbIdeal.main_v69) = v1 c
          ∧ r.2.mem ((c.tc : Thread Cert.RefFbIdeal.nD Cert.RefFbIdeal.τ).loc Cert.RefFbIdeal.main_v92) = v2 c
          ∧ r.2.mem ((c.tc : Thread Cert.RefFbIdeal.nD Cert.RefFbIdeal.τ).loc Cert.RefFbIdeal.main_v96) = v3 c
          ∧ r.2.mem ((c.tc : Thread Cert.RefFbIdeal.nD Cert.RefFbIdeal.τ).loc Cert.RefFbIdeal.main_arg0) = m' ((c.tc : Thread Cert.RefFbIdeal.nD Cert.RefFbIdeal.τ).loc Cert.RefFbIdeal.main_arg0)
          ∧ r.2.mem ((c.tc : Thread Cert.RefFbIdeal.nD Cert.RefFbIdeal.τ).loc Cert.RefFbIdeal.main_arg1) = m' ((c.tc : Thread Cert.RefFbIdeal.nD Cert.RefFbIdeal.τ).loc Cert.RefFbIdeal.main_arg1)
          ∧ r.2.mem ((c.tc : Thread Cert.RefFbIdeal.nD Cert.RefFbIdeal.τ).loc Cert.RefFbIdeal.main_arg2) = m' ((c.tc : Thread Cert.RefFbIdeal.nD Cert.RefFbIdeal.τ).loc Cert.RefFbIdeal.main_arg2)
          ∧ r.2.mem ((c.tc : Thread Cert.RefFbIdeal.nD Cert.RefFbIdeal.τ).loc Cert.RefFbIdeal.main_arg3) = m' ((c.tc : Thread Cert.RefFbIdeal.nD Cert.RefFbIdeal.τ).loc Cert.RefFbIdeal.main_arg3)
          ∧ r.2.mem ((c.tc : Thread Cert.RefFbIdeal.nD Cert.RefFbIdeal.τ).loc Cert.RefFbIdeal.main_arg4) = m' ((c.tc : Thread Cert.RefFbIdeal.nD Cert.RefFbIdeal.τ).loc Cert.RefFbIdeal.main_arg4)
          ∧ r.2.mem ((c.tc : Thread Cert.RefFbIdeal.nD Cert.RefFbIdeal.τ).loc Cert.RefFbIdeal.main_arg5) = m' ((c.tc : Thread Cert.RefFbIdeal.nD Cert.RefFbIdeal.τ).loc Cert.RefFbIdeal.main_arg5)
          ∧ r.2.mem ((c.tc : Thread Cert.RefFbIdeal.nD Cert.RefFbIdeal.τ).loc Cert.RefFbIdeal.main_arg6) = m' ((c.tc : Thread Cert.RefFbIdeal.nD Cert.RefFbIdeal.τ).loc Cert.RefFbIdeal.main_arg6)
          ∧ r.2.mem ((c.tc : Thread Cert.RefFbIdeal.nD Cert.RefFbIdeal.τ).loc Cert.RefFbIdeal.main_arg7) = m' ((c.tc : Thread Cert.RefFbIdeal.nD Cert.RefFbIdeal.τ).loc Cert.RefFbIdeal.main_arg7))

def preserves_KernelFf_KernelFfIdeal : Prop :=
  True

def algebraic_KernelFfIdeal_RefFfIdeal_pre_finite_ff [hKernelFfIdeal : Cert.KernelFfIdeal.Facts] [hRefFfIdeal : Cert.RefFfIdeal.Facts] [hPre_finite_ff : Cert.Pre_finite_ff.Facts] : Prop :=
  ∀ (m : (ℓ : Loc Cert.KernelFfIdeal.nD Cert.KernelFfIdeal.τ Cert.KernelFfIdeal.sig) → Buf (Elt Ideal) ℓ) (g : Dev Cert.KernelFfIdeal.nD → PrngReg)
    (m' : (ℓ : Loc Cert.RefFfIdeal.nD Cert.RefFfIdeal.τ Cert.RefFfIdeal.sig) → Buf (Elt Ideal) ℓ) (g' : Dev Cert.RefFfIdeal.nD → PrngReg), Pre_KernelFfIdeal_finite_ff m →
    (∀ c : Dev Cert.KernelFfIdeal.nD,
      m' ((c.tc : Thread Cert.RefFfIdeal.nD Cert.RefFfIdeal.τ).loc Cert.RefFfIdeal.main_arg0) = m ((c.tc : Thread Cert.KernelFfIdeal.nD Cert.KernelFfIdeal.τ).loc Cert.KernelFfIdeal.main_arg0)
      ∧ m' ((c.tc : Thread Cert.RefFfIdeal.nD Cert.RefFfIdeal.τ).loc Cert.RefFfIdeal.main_arg1) = m ((c.tc : Thread Cert.KernelFfIdeal.nD Cert.KernelFfIdeal.τ).loc Cert.KernelFfIdeal.main_arg1)
      ∧ m' ((c.tc : Thread Cert.RefFfIdeal.nD Cert.RefFfIdeal.τ).loc Cert.RefFfIdeal.main_arg2) = m ((c.tc : Thread Cert.KernelFfIdeal.nD Cert.KernelFfIdeal.τ).loc Cert.KernelFfIdeal.main_arg2)
      ∧ m' ((c.tc : Thread Cert.RefFfIdeal.nD Cert.RefFfIdeal.τ).loc Cert.RefFfIdeal.main_arg3) = m ((c.tc : Thread Cert.KernelFfIdeal.nD Cert.KernelFfIdeal.τ).loc Cert.KernelFfIdeal.main_arg3)
      ∧ m' ((c.tc : Thread Cert.RefFfIdeal.nD Cert.RefFfIdeal.τ).loc Cert.RefFfIdeal.main_arg4) = m ((c.tc : Thread Cert.KernelFfIdeal.nD Cert.KernelFfIdeal.τ).loc Cert.KernelFfIdeal.main_arg4)
      ∧ m' ((c.tc : Thread Cert.RefFfIdeal.nD Cert.RefFfIdeal.τ).loc Cert.RefFfIdeal.main_arg5) = m ((c.tc : Thread Cert.KernelFfIdeal.nD Cert.KernelFfIdeal.τ).loc Cert.KernelFfIdeal.main_arg5)) →
    ∃ (v0 : (c : Dev Cert.KernelFfIdeal.nD) → Buf (Elt Ideal) ((c.tc : Thread Cert.KernelFfIdeal.nD Cert.KernelFfIdeal.τ).loc Cert.KernelFfIdeal.main_v7_0)) (v1 : (c : Dev Cert.KernelFfIdeal.nD) → Buf (Elt Ideal) ((c.tc : Thread Cert.KernelFfIdeal.nD Cert.KernelFfIdeal.τ).loc Cert.KernelFfIdeal.main_v7_1)) (v2 : (c : Dev Cert.KernelFfIdeal.nD) → Buf (Elt Ideal) ((c.tc : Thread Cert.KernelFfIdeal.nD Cert.KernelFfIdeal.τ).loc Cert.KernelFfIdeal.main_v7_2)) (v3 : (c : Dev Cert.KernelFfIdeal.nD) → Buf (Elt Ideal) ((c.tc : Thread Cert.KernelFfIdeal.nD Cert.KernelFfIdeal.τ).loc Cert.KernelFfIdeal.main_v7_3)) (v4 : (c : Dev Cert.KernelFfIdeal.nD) → Buf (Elt Ideal) ((c.tc : Thread Cert.KernelFfIdeal.nD Cert.KernelFfIdeal.τ).loc Cert.KernelFfIdeal.main_v7_4)) (v5 : (c : Dev Cert.KernelFfIdeal.nD) → Buf (Elt Ideal) ((c.tc : Thread Cert.KernelFfIdeal.nD Cert.KernelFfIdeal.τ).loc Cert.KernelFfIdeal.main_v7_5)),
      θ_run (Cert.KernelFfIdeal.defs (F := Ideal)) (onTc (τ := Cert.KernelFfIdeal.τ) (Cert.KernelFfIdeal.main (F := Ideal))) ⟨m, fun _ => 0, g⟩ (fun r => ∀ c : Dev Cert.KernelFfIdeal.nD,
          r.2.mem ((c.tc : Thread Cert.KernelFfIdeal.nD Cert.KernelFfIdeal.τ).loc Cert.KernelFfIdeal.main_v7_0) = v0 c
          ∧ r.2.mem ((c.tc : Thread Cert.KernelFfIdeal.nD Cert.KernelFfIdeal.τ).loc Cert.KernelFfIdeal.main_v7_1) = v1 c
          ∧ r.2.mem ((c.tc : Thread Cert.KernelFfIdeal.nD Cert.KernelFfIdeal.τ).loc Cert.KernelFfIdeal.main_v7_2) = v2 c
          ∧ r.2.mem ((c.tc : Thread Cert.KernelFfIdeal.nD Cert.KernelFfIdeal.τ).loc Cert.KernelFfIdeal.main_v7_3) = v3 c
          ∧ r.2.mem ((c.tc : Thread Cert.KernelFfIdeal.nD Cert.KernelFfIdeal.τ).loc Cert.KernelFfIdeal.main_v7_4) = v4 c
          ∧ r.2.mem ((c.tc : Thread Cert.KernelFfIdeal.nD Cert.KernelFfIdeal.τ).loc Cert.KernelFfIdeal.main_v7_5) = v5 c
          ∧ r.2.mem ((c.tc : Thread Cert.KernelFfIdeal.nD Cert.KernelFfIdeal.τ).loc Cert.KernelFfIdeal.main_arg0) = m ((c.tc : Thread Cert.KernelFfIdeal.nD Cert.KernelFfIdeal.τ).loc Cert.KernelFfIdeal.main_arg0)
          ∧ r.2.mem ((c.tc : Thread Cert.KernelFfIdeal.nD Cert.KernelFfIdeal.τ).loc Cert.KernelFfIdeal.main_arg1) = m ((c.tc : Thread Cert.KernelFfIdeal.nD Cert.KernelFfIdeal.τ).loc Cert.KernelFfIdeal.main_arg1)
          ∧ r.2.mem ((c.tc : Thread Cert.KernelFfIdeal.nD Cert.KernelFfIdeal.τ).loc Cert.KernelFfIdeal.main_arg2) = m ((c.tc : Thread Cert.KernelFfIdeal.nD Cert.KernelFfIdeal.τ).loc Cert.KernelFfIdeal.main_arg2)
          ∧ r.2.mem ((c.tc : Thread Cert.KernelFfIdeal.nD Cert.KernelFfIdeal.τ).loc Cert.KernelFfIdeal.main_arg3) = m ((c.tc : Thread Cert.KernelFfIdeal.nD Cert.KernelFfIdeal.τ).loc Cert.KernelFfIdeal.main_arg3)
          ∧ r.2.mem ((c.tc : Thread Cert.KernelFfIdeal.nD Cert.KernelFfIdeal.τ).loc Cert.KernelFfIdeal.main_arg4) = m ((c.tc : Thread Cert.KernelFfIdeal.nD Cert.KernelFfIdeal.τ).loc Cert.KernelFfIdeal.main_arg4)
          ∧ r.2.mem ((c.tc : Thread Cert.KernelFfIdeal.nD Cert.KernelFfIdeal.τ).loc Cert.KernelFfIdeal.main_arg5) = m ((c.tc : Thread Cert.KernelFfIdeal.nD Cert.KernelFfIdeal.τ).loc Cert.KernelFfIdeal.main_arg5))
      ∧ θ_run (Cert.RefFfIdeal.defs (F := Ideal)) (onTc (τ := Cert.RefFfIdeal.τ) (Cert.RefFfIdeal.main (F := Ideal))) ⟨m', fun _ => 0, g'⟩ (fun r => ∀ c : Dev Cert.RefFfIdeal.nD,
          r.2.mem ((c.tc : Thread Cert.RefFfIdeal.nD Cert.RefFfIdeal.τ).loc Cert.RefFfIdeal.main_v69) = v0 c
          ∧ r.2.mem ((c.tc : Thread Cert.RefFfIdeal.nD Cert.RefFfIdeal.τ).loc Cert.RefFfIdeal.main_v13) = v1 c
          ∧ r.2.mem ((c.tc : Thread Cert.RefFfIdeal.nD Cert.RefFfIdeal.τ).loc Cert.RefFfIdeal.main_v70) = v2 c
          ∧ r.2.mem ((c.tc : Thread Cert.RefFfIdeal.nD Cert.RefFfIdeal.τ).loc Cert.RefFfIdeal.main_v71) = v3 c
          ∧ r.2.mem ((c.tc : Thread Cert.RefFfIdeal.nD Cert.RefFfIdeal.τ).loc Cert.RefFfIdeal.main_v48) = v4 c
          ∧ r.2.mem ((c.tc : Thread Cert.RefFfIdeal.nD Cert.RefFfIdeal.τ).loc Cert.RefFfIdeal.main_v75) = v5 c
          ∧ r.2.mem ((c.tc : Thread Cert.RefFfIdeal.nD Cert.RefFfIdeal.τ).loc Cert.RefFfIdeal.main_arg0) = m' ((c.tc : Thread Cert.RefFfIdeal.nD Cert.RefFfIdeal.τ).loc Cert.RefFfIdeal.main_arg0)
          ∧ r.2.mem ((c.tc : Thread Cert.RefFfIdeal.nD Cert.RefFfIdeal.τ).loc Cert.RefFfIdeal.main_arg1) = m' ((c.tc : Thread Cert.RefFfIdeal.nD Cert.RefFfIdeal.τ).loc Cert.RefFfIdeal.main_arg1)
          ∧ r.2.mem ((c.tc : Thread Cert.RefFfIdeal.nD Cert.RefFfIdeal.τ).loc Cert.RefFfIdeal.main_arg2) = m' ((c.tc : Thread Cert.RefFfIdeal.nD Cert.RefFfIdeal.τ).loc Cert.RefFfIdeal.main_arg2)
          ∧ r.2.mem ((c.tc : Thread Cert.RefFfIdeal.nD Cert.RefFfIdeal.τ).loc Cert.RefFfIdeal.main_arg3) = m' ((c.tc : Thread Cert.RefFfIdeal.nD Cert.RefFfIdeal.τ).loc Cert.RefFfIdeal.main_arg3)
          ∧ r.2.mem ((c.tc : Thread Cert.RefFfIdeal.nD Cert.RefFfIdeal.τ).loc Cert.RefFfIdeal.main_arg4) = m' ((c.tc : Thread Cert.RefFfIdeal.nD Cert.RefFfIdeal.τ).loc Cert.RefFfIdeal.main_arg4)
          ∧ r.2.mem ((c.tc : Thread Cert.RefFfIdeal.nD Cert.RefFfIdeal.τ).loc Cert.RefFfIdeal.main_arg5) = m' ((c.tc : Thread Cert.RefFfIdeal.nD Cert.RefFfIdeal.τ).loc Cert.RefFfIdeal.main_arg5))

def preserves_KernelIp_KernelIpIdeal : Prop :=
  True

def algebraic_KernelIpIdeal_RefIpIdeal [hKernelIpIdeal : Cert.KernelIpIdeal.Facts] [hRefIpIdeal : Cert.RefIpIdeal.Facts] [hPre_chip_ip : Cert.Pre_chip_ip.Facts] : Prop :=
  ∀ (m : (ℓ : Loc Cert.KernelIpIdeal.nD Cert.KernelIpIdeal.τ Cert.KernelIpIdeal.sig) → Buf (Elt Ideal) ℓ) (g : Dev Cert.KernelIpIdeal.nD → PrngReg)
    (m' : (ℓ : Loc Cert.RefIpIdeal.nD Cert.RefIpIdeal.τ Cert.RefIpIdeal.sig) → Buf (Elt Ideal) ℓ) (g' : Dev Cert.RefIpIdeal.nD → PrngReg), Pre_KernelIpIdeal m →
    (∀ c : Dev Cert.KernelIpIdeal.nD,
      m' ((c.tc : Thread Cert.RefIpIdeal.nD Cert.RefIpIdeal.τ).loc Cert.RefIpIdeal.main_arg0) = m ((c.tc : Thread Cert.KernelIpIdeal.nD Cert.KernelIpIdeal.τ).loc Cert.KernelIpIdeal.main_arg0)
      ∧ m' ((c.tc : Thread Cert.RefIpIdeal.nD Cert.RefIpIdeal.τ).loc Cert.RefIpIdeal.main_arg1) = m ((c.tc : Thread Cert.KernelIpIdeal.nD Cert.KernelIpIdeal.τ).loc Cert.KernelIpIdeal.main_arg1)
      ∧ m' ((c.tc : Thread Cert.RefIpIdeal.nD Cert.RefIpIdeal.τ).loc Cert.RefIpIdeal.main_arg2) = m ((c.tc : Thread Cert.KernelIpIdeal.nD Cert.KernelIpIdeal.τ).loc Cert.KernelIpIdeal.main_arg2)
      ∧ m' ((c.tc : Thread Cert.RefIpIdeal.nD Cert.RefIpIdeal.τ).loc Cert.RefIpIdeal.main_arg3) = m ((c.tc : Thread Cert.KernelIpIdeal.nD Cert.KernelIpIdeal.τ).loc Cert.KernelIpIdeal.main_arg3)
      ∧ m' ((c.tc : Thread Cert.RefIpIdeal.nD Cert.RefIpIdeal.τ).loc Cert.RefIpIdeal.main_arg4) = m ((c.tc : Thread Cert.KernelIpIdeal.nD Cert.KernelIpIdeal.τ).loc Cert.KernelIpIdeal.main_arg4)) →
    ∃ (v0 : (c : Dev Cert.KernelIpIdeal.nD) → Buf (Elt Ideal) ((c.tc : Thread Cert.KernelIpIdeal.nD Cert.KernelIpIdeal.τ).loc Cert.KernelIpIdeal.main_v4_1)),
      θ_run (Cert.KernelIpIdeal.defs (F := Ideal)) (onTc (τ := Cert.KernelIpIdeal.τ) (Cert.KernelIpIdeal.main (F := Ideal))) ⟨m, fun _ => 0, g⟩ (fun r => ∀ c : Dev Cert.KernelIpIdeal.nD,
          r.2.mem ((c.tc : Thread Cert.KernelIpIdeal.nD Cert.KernelIpIdeal.τ).loc Cert.KernelIpIdeal.main_v4_1) = v0 c
          ∧ r.2.mem ((c.tc : Thread Cert.KernelIpIdeal.nD Cert.KernelIpIdeal.τ).loc Cert.KernelIpIdeal.main_arg0) = m ((c.tc : Thread Cert.KernelIpIdeal.nD Cert.KernelIpIdeal.τ).loc Cert.KernelIpIdeal.main_arg0)
          ∧ r.2.mem ((c.tc : Thread Cert.KernelIpIdeal.nD Cert.KernelIpIdeal.τ).loc Cert.KernelIpIdeal.main_arg1) = m ((c.tc : Thread Cert.KernelIpIdeal.nD Cert.KernelIpIdeal.τ).loc Cert.KernelIpIdeal.main_arg1)
          ∧ r.2.mem ((c.tc : Thread Cert.KernelIpIdeal.nD Cert.KernelIpIdeal.τ).loc Cert.KernelIpIdeal.main_arg2) = m ((c.tc : Thread Cert.KernelIpIdeal.nD Cert.KernelIpIdeal.τ).loc Cert.KernelIpIdeal.main_arg2)
          ∧ r.2.mem ((c.tc : Thread Cert.KernelIpIdeal.nD Cert.KernelIpIdeal.τ).loc Cert.KernelIpIdeal.main_arg3) = m ((c.tc : Thread Cert.KernelIpIdeal.nD Cert.KernelIpIdeal.τ).loc Cert.KernelIpIdeal.main_arg3)
          ∧ r.2.mem ((c.tc : Thread Cert.KernelIpIdeal.nD Cert.KernelIpIdeal.τ).loc Cert.KernelIpIdeal.main_arg4) = m ((c.tc : Thread Cert.KernelIpIdeal.nD Cert.KernelIpIdeal.τ).loc Cert.KernelIpIdeal.main_arg4))
      ∧ θ_run (Cert.RefIpIdeal.defs (F := Ideal)) (onTc (τ := Cert.RefIpIdeal.τ) (Cert.RefIpIdeal.main (F := Ideal))) ⟨m', fun _ => 0, g'⟩ (fun r => ∀ c : Dev Cert.RefIpIdeal.nD,
          r.2.mem ((c.tc : Thread Cert.RefIpIdeal.nD Cert.RefIpIdeal.τ).loc Cert.RefIpIdeal.main_v13) = v0 c
          ∧ r.2.mem ((c.tc : Thread Cert.RefIpIdeal.nD Cert.RefIpIdeal.τ).loc Cert.RefIpIdeal.main_arg0) = m' ((c.tc : Thread Cert.RefIpIdeal.nD Cert.RefIpIdeal.τ).loc Cert.RefIpIdeal.main_arg0)
          ∧ r.2.mem ((c.tc : Thread Cert.RefIpIdeal.nD Cert.RefIpIdeal.τ).loc Cert.RefIpIdeal.main_arg1) = m' ((c.tc : Thread Cert.RefIpIdeal.nD Cert.RefIpIdeal.τ).loc Cert.RefIpIdeal.main_arg1)
          ∧ r.2.mem ((c.tc : Thread Cert.RefIpIdeal.nD Cert.RefIpIdeal.τ).loc Cert.RefIpIdeal.main_arg2) = m' ((c.tc : Thread Cert.RefIpIdeal.nD Cert.RefIpIdeal.τ).loc Cert.RefIpIdeal.main_arg2)
          ∧ r.2.mem ((c.tc : Thread Cert.RefIpIdeal.nD Cert.RefIpIdeal.τ).loc Cert.RefIpIdeal.main_arg3) = m' ((c.tc : Thread Cert.RefIpIdeal.nD Cert.RefIpIdeal.τ).loc Cert.RefIpIdeal.main_arg3)
          ∧ r.2.mem ((c.tc : Thread Cert.RefIpIdeal.nD Cert.RefIpIdeal.τ).loc Cert.RefIpIdeal.main_arg4) = m' ((c.tc : Thread Cert.RefIpIdeal.nD Cert.RefIpIdeal.τ).loc Cert.RefIpIdeal.main_arg4))

def Claim : Prop :=
  ∃ (hKernelDx : Cert.KernelDx.Facts) (hKernelDxIdeal : Cert.KernelDxIdeal.Facts) (hRefDxIdeal : Cert.RefDxIdeal.Facts) (hKernelMx : Cert.KernelMx.Facts) (hKernelMxIdeal : Cert.KernelMxIdeal.Facts) (hRefMxIdeal : Cert.RefMxIdeal.Facts) (hKernelFb : Cert.KernelFb.Facts) (hKernelFbIdeal : Cert.KernelFbIdeal.Facts) (hRefFbIdeal : Cert.RefFbIdeal.Facts) (hKernelFf : Cert.KernelFf.Facts) (hKernelFfIdeal : Cert.KernelFfIdeal.Facts) (hRefFfIdeal : Cert.RefFfIdeal.Facts) (hKernelIp : Cert.KernelIp.Facts) (hKernelIpIdeal : Cert.KernelIpIdeal.Facts) (hRefIpIdeal : Cert.RefIpIdeal.Facts) (hPre_finite_dx : Cert.Pre_finite_dx.Facts) (hPre_finite_mx : Cert.Pre_finite_mx.Facts) (hPre_finite_fb : Cert.Pre_finite_fb.Facts) (hPre_finite_ff : Cert.Pre_finite_ff.Facts) (hPre_chip_ip : Cert.Pre_chip_ip.Facts),
    quiescent_KernelDx (hKernelDx := hKernelDx)
    ∧ quiescent_KernelDxIdeal (hKernelDxIdeal := hKernelDxIdeal)
    ∧ quiescent_KernelDxIdeal_pre_finite_dx (hKernelDxIdeal := hKernelDxIdeal) (hPre_finite_dx := hPre_finite_dx)
    ∧ quiescent_RefDxIdeal (hRefDxIdeal := hRefDxIdeal)
    ∧ quiescent_RefDxIdeal_pre_finite_dx (hRefDxIdeal := hRefDxIdeal) (hPre_finite_dx := hPre_finite_dx)
    ∧ quiescent_KernelMx (hKernelMx := hKernelMx)
    ∧ quiescent_KernelMxIdeal (hKernelMxIdeal := hKernelMxIdeal)
    ∧ quiescent_KernelMxIdeal_pre_finite_mx (hKernelMxIdeal := hKernelMxIdeal) (hPre_finite_mx := hPre_finite_mx)
    ∧ quiescent_RefMxIdeal (hRefMxIdeal := hRefMxIdeal)
    ∧ quiescent_RefMxIdeal_pre_finite_mx (hRefMxIdeal := hRefMxIdeal) (hPre_finite_mx := hPre_finite_mx)
    ∧ quiescent_KernelFb (hKernelFb := hKernelFb)
    ∧ quiescent_KernelFbIdeal (hKernelFbIdeal := hKernelFbIdeal)
    ∧ quiescent_KernelFbIdeal_pre_finite_fb (hKernelFbIdeal := hKernelFbIdeal) (hPre_finite_fb := hPre_finite_fb)
    ∧ quiescent_RefFbIdeal (hRefFbIdeal := hRefFbIdeal)
    ∧ quiescent_RefFbIdeal_pre_finite_fb (hRefFbIdeal := hRefFbIdeal) (hPre_finite_fb := hPre_finite_fb)
    ∧ quiescent_KernelFf (hKernelFf := hKernelFf)
    ∧ quiescent_KernelFfIdeal (hKernelFfIdeal := hKernelFfIdeal)
    ∧ quiescent_KernelFfIdeal_pre_finite_ff (hKernelFfIdeal := hKernelFfIdeal) (hPre_finite_ff := hPre_finite_ff)
    ∧ quiescent_RefFfIdeal (hRefFfIdeal := hRefFfIdeal)
    ∧ quiescent_RefFfIdeal_pre_finite_ff (hRefFfIdeal := hRefFfIdeal) (hPre_finite_ff := hPre_finite_ff)
    ∧ quiescent_KernelIp (hKernelIp := hKernelIp) (hPre_chip_ip := hPre_chip_ip)
    ∧ quiescent_KernelIpIdeal (hKernelIpIdeal := hKernelIpIdeal) (hPre_chip_ip := hPre_chip_ip)
    ∧ quiescent_RefIpIdeal (hRefIpIdeal := hRefIpIdeal)
    ∧ quiescent_RefIpIdeal_pre_chip_ip (hRefIpIdeal := hRefIpIdeal) (hPre_chip_ip := hPre_chip_ip)
    ∧ preserves_KernelDx_KernelDxIdeal
    ∧ algebraic_KernelDxIdeal_RefDxIdeal_pre_finite_dx (hKernelDxIdeal := hKernelDxIdeal) (hRefDxIdeal := hRefDxIdeal) (hPre_finite_dx := hPre_finite_dx)
    ∧ preserves_KernelMx_KernelMxIdeal
    ∧ algebraic_KernelMxIdeal_RefMxIdeal_pre_finite_mx (hKernelMxIdeal := hKernelMxIdeal) (hRefMxIdeal := hRefMxIdeal) (hPre_finite_mx := hPre_finite_mx)
    ∧ preserves_KernelFb_KernelFbIdeal
    ∧ algebraic_KernelFbIdeal_RefFbIdeal_pre_finite_fb (hKernelFbIdeal := hKernelFbIdeal) (hRefFbIdeal := hRefFbIdeal) (hPre_finite_fb := hPre_finite_fb)
    ∧ preserves_KernelFf_KernelFfIdeal
    ∧ algebraic_KernelFfIdeal_RefFfIdeal_pre_finite_ff (hKernelFfIdeal := hKernelFfIdeal) (hRefFfIdeal := hRefFfIdeal) (hPre_finite_ff := hPre_finite_ff)
    ∧ preserves_KernelIp_KernelIpIdeal
    ∧ algebraic_KernelIpIdeal_RefIpIdeal (hKernelIpIdeal := hKernelIpIdeal) (hRefIpIdeal := hRefIpIdeal) (hPre_chip_ip := hPre_chip_ip)
-- ==== Pre_chip_ip.lean ====
abbrev S1 : Shape := ⟨1, ![1]⟩
abbrev S4096x1024 : Shape := ⟨2, ![4096, 1024]⟩
abbrev S1024 : Shape := ⟨1, ![1024]⟩
abbrev S1024x1280 : Shape := ⟨2, ![1024, 1280]⟩
abbrev S5120 : Shape := ⟨1, ![5120]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S4096x1024 .f32) (main_arg2 : FVec F S1024 .f32) (main_arg3 : FVec F S1024x1280 .f32) (main_arg4 : FVec F S5120 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 4#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_finite_dx.lean ====
abbrev S4096x1024 : Shape := ⟨2, ![4096, 1024]⟩
abbrev S1024 : Shape := ⟨1, ![1024]⟩
abbrev S1024x5120 : Shape := ⟨2, ![1024, 5120]⟩
abbrev S4096x5120 : Shape := ⟨2, ![4096, 5120]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x5120 : S_.BroadcastsInDim S1024x5120 (![] : Fin 0 → Fin S1024x5120.rank)
  bcast_S_S4096x5120 : S_.BroadcastsInDim S4096x5120 (![] : Fin 0 → Fin S4096x5120.rank)

variable [Facts]

def fn {F : FTy → Type} [FloatOps F] (main_arg0 : FVec F S4096x1024 .f32) (main_arg1 : FVec F S1024 .f32) (main_arg2 : FVec F S1024x5120 .f32) (main_arg3 : FVec F S4096x1024 .f32) (main_arg4 : FVec F S4096x5120 .f32) : IVec S4096x1024 1 × IVec S1024 1 × IVec S1024x5120 1 × IVec S4096x5120 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5120 .f32 := Host.absf main_arg2
  let main_cst_1 : FVec F S_ .f32 := constant S_ .f32 0x7F800000#32
  let main_v7 : FVec F S1024x5120 .f32 := broadcastInDim S1024x5120 ![] bcast_S_S1024x5120 main_cst_1
  let main_v8 : IVec S1024x5120 1 := cmpf .olt main_v6 main_v7
  let main_v9 : FVec F S4096x5120 .f32 := Host.absf main_arg4
  let main_cst_2 : FVec F S_ .f32 := constant S_ .f32 0x7F800000#32
  let main_v10 : FVec F S4096x5120 .f32 := broadcastInDim S4096x5120 ![] bcast_S_S4096x5120 main_cst_2
  let main_v11 : IVec S4096x5120 1 := cmpf .olt main_v9 main_v10
  (main_v2, main_v5, main_v8, main_v11)
-- ==== Pre_finite_fb.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x4096 : S_.BroadcastsInDim S1024x4096 (![] : Fin 0 → Fin S1024x4096.rank)

variable [Facts]

def fn_part1 {F : FTy → Type} [FloatOps F] (main_arg6 : FVec F S4096x1024 .f32) (main_arg7 : FVec F S4096x1024 .f32) (main_v2 : IVec S4096x1024 1) (main_v5 : IVec S4096x1024 1) (main_v8 : IVec S1024 1) (main_v11 : IVec S1024 1) (main_v14 : IVec S1024x4096 1) (main_v17 : IVec S4096x1024 1) : IVec S4096x1024 1 × IVec S4096x1024 1 × IVec S1024 1 × IVec S1024 1 × IVec S1024x4096 1 × IVec S4096x1024 1 × IVec S4096x1024 1 × IVec S4096x1024 1 :=
  let main_v18 : FVec F S4096x1024 .f32 := Host.absf main_arg6
  let main_cst_5 : FVec F S_ .f32 := constant S_ .f32 0x7F800000#32
  let main_v19 : FVec F S4096x1024 .f32 := broadcastInDim S4096x1024 ![] bcast_S_S4096x1024 main_cst_5
  let main_v20 : IVec S4096x1024 1 := cmpf .olt main_v18 main_v19
  let main_v21 : FVec F S4096x1024 .f32 := Host.absf main_arg7
  let main_cst_6 : FVec F S_ .f32 := constant S_ .f32 0x7F800000#32
  let main_v22 : FVec F S4096x1024 .f32 := broadcastInDim S4096x1024 ![] bcast_S_S4096x1024 main_cst_6
  let main_v23 : IVec S4096x1024 1 := cmpf .olt main_v21 main_v22
  (main_v2, main_v5, main_v8, main_v11, main_v14, main_v17, main_v20, main_v23)

def fn {F : FTy → Type} [FloatOps F] (main_arg0 : FVec F S4096x1024 .f32) (main_arg1 : FVec F S4096x1024 .f32) (main_arg2 : FVec F S1024 .f32) (main_arg3 : FVec F S1024 .f32) (main_arg4 : FVec F S1024x4096 .f32) (main_arg5 : FVec F S4096x1024 .f32) (main_arg6 : FVec F S4096x1024 .f32) (main_arg7 : FVec F S4096x1024 .f32) : IVec S4096x1024 1 × IVec S4096x1024 1 × IVec S1024 1 × IVec S1024 1 × IVec S1024x4096 1 × IVec S4096x1024 1 × IVec S4096x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024x4096 .f32 := Host.absf main_arg4
  let main_cst_3 : FVec F S_ .f32 := constant S_ .f32 0x7F800000#32
  let main_v13 : FVec F S1024x4096 .f32 := broadcastInDim S1024x4096 ![] bcast_S_S1024x4096 main_cst_3
  let main_v14 : IVec S1024x4096 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  fn_part1 (F := F) main_arg6 main_arg7 main_v2 main_v5 main_v8 main_v11 main_v14 main_v17
-- ==== Pre_finite_ff.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x4096 : S_.BroadcastsInDim S1024x4096 (![] : Fin 0 → Fin S1024x4096.rank)

variable [Facts]

def fn {F : FTy → Type} [FloatOps F] (main_arg0 : FVec F S4096x1024 .f32) (main_arg1 : FVec F S1024 .f32) (main_arg2 : FVec F S1024x4096 .f32) (main_arg3 : FVec F S4096x1024 .f32) (main_arg4 : FVec F S1024 .f32) (main_arg5 : FVec F S4096x1024 .f32) : IVec S4096x1024 1 × IVec S1024 1 × IVec S1024x4096 1 × IVec S4096x1024 1 × IVec S1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x4096 .f32 := Host.absf main_arg2
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== Pre_finite_mx.lean ====
abbrev S4096x5120 : Shape := ⟨2, ![4096, 5120]⟩
abbrev S5120 : Shape := ⟨1, ![5120]⟩
abbrev S4x256x256 : Shape := ⟨3, ![4, 256, 256]⟩
abbrev S1024 : Shape := ⟨1, ![1024]⟩
abbrev S4x128x128 : Shape := ⟨3, ![4, 128, 128]⟩
abbrev S4x128 : Shape := ⟨2, ![4, 128]⟩
abbrev S1024x1024 : Shape := ⟨2, ![1024, 1024]⟩
abbrev S4096x1024 : Shape := ⟨2, ![4096, 1024]⟩
abbrev S_ : Shape := ⟨0, ![]⟩

class Facts : Prop where
  bcast_S_S4096x5120 : S_.BroadcastsInDim S4096x5120 (![] : Fin 0 → Fin S4096x5120.rank)
  bcast_S_S5120 : S_.BroadcastsInDim S5120 (![] : Fin 0 → Fin S5120.rank)
  bcast_S_S4x256x256 : S_.BroadcastsInDim S4x256x256 (![] : Fin 0 → Fin S4x256x256.rank)
  bcast_S_S1024 : S_.BroadcastsInDim S1024 (![] : Fin 0 → Fin S1024.rank)
  bcast_S_S4x128x128 : S_.BroadcastsInDim S4x128x128 (![] : Fin 0 → Fin S4x128x128.rank)
  bcast_S_S4x128 : S_.BroadcastsInDim S4x128 (![] : Fin 0 → Fin S4x128.rank)
  bcast_S_S1024x1024 : S_.BroadcastsInDim S1024x1024 (![] : Fin 0 → Fin S1024x1024.rank)
  bcast_S_S4096x1024 : S_.BroadcastsInDim S4096x1024 (![] : Fin 0 → Fin S4096x1024.rank)

variable [Facts]

def fn_part1 {F : FTy → Type} [FloatOps F] (main_arg6 : FVec F S4x128x128 .f32) (main_arg7 : FVec F S4x128 .f32) (main_arg8 : FVec F S4x256x256 .f32) (main_arg9 : FVec F S1024x1024 .f32) (main_arg10 : FVec F S4096x1024 .f32) (main_v2 : IVec S4096x5120 1) (main_v5 : IVec S5120 1) (main_v8 : IVec S4x256x256 1) (main_v11 : IVec S1024 1) (main_v14 : IVec S1024 1) (main_v17 : IVec S1024 1) : IVec S4096x5120 1 × IVec S5120 1 × IVec S4x256x256 1 × IVec S1024 1 × IVec S1024 1 × IVec S1024 1 × IVec S4x128x128 1 × IVec S4x128 1 × IVec S4x256x256 1 × IVec S1024x1024 1 × IVec S4096x1024 1 :=
  let main_v18 : FVec F S4x128x128 .f32 := Host.absf main_arg6
  let main_cst_5 : FVec F S_ .f32 := constant S_ .f32 0x7F800000#32
  let main_v19 : FVec F S4x128x128 .f32 := broadcastInDim S4x128x128 ![] bcast_S_S4x128x128 main_cst_5
  let main_v20 : IVec S4x128x128 1 := cmpf .olt main_v18 main_v19
  let main_v21 : FVec F S4x128 .f32 := Host.absf main_arg7
  let main_cst_6 : FVec F S_ .f32 := constant S_ .f32 0x7F800000#32
  let main_v22 : FVec F S4x128 .f32 := broadcastInDim S4x128 ![] bcast_S_S4x128 main_cst_6
  let main_v23 : IVec S4x128 1 := cmpf .olt main_v21 main_v22
  let main_v24 : FVec F S4x256x256 .f32 := Host.absf main_arg8
  let main_cst_7 : FVec F S_ .f32 := constant S_ .f32 0x7F800000#32
  let main_v25 : FVec F S4x256x256 .f32 := broadcastInDim S4x256x256 ![] bcast_S_S4x256x256 main_cst_7
  let main_v26 : IVec S4x256x256 1 := cmpf .olt main_v24 main_v25
  let main_v27 : FVec F S1024x1024 .f32 := Host.absf main_arg9
  let main_cst_8 : FVec F S_ .f32 := constant S_ .f32 0x7F800000#32
  let main_v28 : FVec F S1024x1024 .f32 := broadcastInDim S1024x1024 ![] bcast_S_S1024x1024 main_cst_8
  let main_v29 : IVec S1024x1024 1 := cmpf .olt main_v27 main_v28
  let main_v30 : FVec F S4096x1024 .f32 := Host.absf main_arg10
  let main_cst_9 : FVec F S_ .f32 := constant S_ .f32 0x7F800000#32
  let main_v31 : FVec F S4096x1024 .f32 := broadcastInDim S4096x1024 ![] bcast_S_S4096x1024 main_cst_9
  let main_v32 : IVec S4096x1024 1 := cmpf .olt main_v30 main_v31
  (main_v2, main_v5, main_v8, main_v11, main_v14, main_v17, main_v20, main_v23, main_v26, main_v29, main_v32)

def fn {F : FTy → Type} [FloatOps F] (main_arg0 : FVec F S4096x5120 .f32) (main_arg1 : FVec F S5120 .f32) (main_arg2 : FVec F S4x256x256 .f32) (main_arg3 : FVec F S1024 .f32) (main_arg4 : FVec F S1024 .f32) (main_arg5 : FVec F S1024 .f32) (main_arg6 : FVec F S4x128x128 .f32) (main_arg7 : FVec F S4x128 .f32) (main_arg8 : FVec F S4x256x256 .f32) (main_arg9 : FVec F S1024x1024 .f32) (main_arg10 : FVec F S4096x1024 .f32) : IVec S4096x5120 1 × IVec S5120 1 × IVec S4x256x256 1 × IVec S1024 1 × IVec S1024 1 × IVec S1024 1 × IVec S4x128x128 1 × IVec S4x128 1 × IVec S4x256x256 1 × IVec S1024x1024 1 × IVec S4096x1024 1 :=
  let main_v0 : FVec F S4096x5120 .f32 := Host.absf main_arg0
  let main_cst : FVec F S_ .f32 := constant S_ .f32 0x7F800000#32
  let main_v1 : FVec F S4096x5120 .f32 := broadcastInDim S4096x5120 ![] bcast_S_S4096x5120 main_cst
  let main_v2 : IVec S4096x5120 1 := cmpf .olt main_v0 main_v1
  let main_v3 : FVec F S5120 .f32 := Host.absf main_arg1
  let main_cst_0 : FVec F S_ .f32 := constant S_ .f32 0x7F800000#32
  let main_v4 : FVec F S5120 .f32 := broadcastInDim S5120 ![] bcast_S_S5120 main_cst_0
  let main_v5 : IVec S5120 1 := cmpf .olt main_v3 main_v4
  let main_v6 : FVec F S4x256x256 .f32 := Host.absf main_arg2
  let main_cst_1 : FVec F S_ .f32 := constant S_ .f32 0x7F800000#32
  let main_v7 : FVec F S4x256x256 .f32 := broadcastInDim S4x256x256 ![] bcast_S_S4x256x256 main_cst_1
  let main_v8 : IVec S4x256x256 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg6 main_arg7 main_arg8 main_arg9 main_arg10 main_v2 main_v5 main_v8 main_v11 main_v14 main_v17
-- ==== KernelDx.lean ====
abbrev S4096x1024 : Shape := ⟨2, ![4096, 1024]⟩
abbrev S1024 : Shape := ⟨1, ![1024]⟩
abbrev S1024x5120 : Shape := ⟨2, ![1024, 5120]⟩
abbrev S4096x5120 : Shape := ⟨2, ![4096, 5120]⟩
abbrev S1024x4x1280 : Shape := ⟨3, ![1024, 4, 1280]⟩
abbrev S4x1024x1280 : Shape := ⟨3, ![4, 1024, 1280]⟩
abbrev S1x1024 : Shape := ⟨2, ![1, 1024]⟩
abbrev S_ : Shape := ⟨0, ![]⟩
abbrev S8x128 : Shape := ⟨2, ![8, 128]⟩
abbrev S8x1024 : Shape := ⟨2, ![8, 1024]⟩
abbrev S512x5120 : Shape := ⟨2, ![512, 5120]⟩
abbrev S512x1024 : Shape := ⟨2, ![512, 1024]⟩
abbrev S512x1280 : Shape := ⟨2, ![512, 1280]⟩
abbrev S1x1024x1280 : Shape := ⟨3, ![1, 1024, 1280]⟩
abbrev S1024x1280 : Shape := ⟨2, ![1024, 1280]⟩
abbrev S512 : Shape := ⟨1, ![512]⟩
abbrev S512x1 : Shape := ⟨2, ![512, 1]⟩

abbrev nBuf : Space → Nat
  | .hbm => 14
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5120, .f32⟩
  | .hbm, ⟨3, _⟩ => ⟨S4096x1024, .f32⟩
  | .hbm, ⟨4, _⟩ => ⟨S4096x5120, .f32⟩
  | .hbm, ⟨5, _⟩ => ⟨S4096x5120, .bf16⟩
  | .hbm, ⟨6, _⟩ => ⟨S1024x5120, .bf16⟩
  | .hbm, ⟨7, _⟩ => ⟨S1024x4x1280, .bf16⟩
  | .hbm, ⟨8, _⟩ => ⟨S4x1024x1280, .bf16⟩
  | .hbm, ⟨9, _⟩ => ⟨S1x1024, .f32⟩
  | .hbm, ⟨10, _⟩ => ⟨S_, .f32⟩
  | .hbm, ⟨11, _⟩ => ⟨S8x128, .f32⟩
  | .hbm, ⟨12, _⟩ => ⟨S4096x1024, .f32⟩
  | .hbm, ⟨13, _⟩ => ⟨S8x1024, .f32⟩
  | .local _ .vmem, ⟨0, _⟩ => ⟨S512x5120, .bf16⟩
  | .local _ .vmem, ⟨1, _⟩ => ⟨S512x5120, .bf16⟩
  | .local _ .vmem, ⟨2, _⟩ => ⟨S4x1024x1280, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S8x128, .f32⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== RefDxIdeal.lean ====
abbrev S4096x1024 : Shape := ⟨2, ![4096, 1024]⟩
abbrev S1024 : Shape := ⟨1, ![1024]⟩
abbrev S1024x5120 : Shape := ⟨2, ![1024, 5120]⟩
abbrev S4096x5120 : Shape := ⟨2, ![4096, 5120]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S7x1024 : Shape := ⟨2, ![7, 1024]⟩
abbrev S8x1024 : Shape := ⟨2, ![8, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5120, .f32⟩
  | .hbm, ⟨3, _⟩ => ⟨S4096x1024, .f32⟩
  | .hbm, ⟨4, _⟩ => ⟨S4096x5120, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x5120, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | .hbm, ⟨54, _⟩ => ⟨S_, .f32⟩
  | .hbm, ⟨55, _⟩ => ⟨S7x1024, .f32⟩
  | .hbm, ⟨56, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== KernelMx.lean ====
abbrev S4096x5120 : Shape := ⟨2, ![4096, 5120]⟩
abbrev S5120 : Shape := ⟨1, ![5120]⟩
abbrev S4x256x256 : Shape := ⟨3, ![4, 256, 256]⟩
abbrev S1024 : Shape := ⟨1, ![1024]⟩
abbrev S4x128x128 : Shape := ⟨3, ![4, 128, 128]⟩
abbrev S4x128 : Shape := ⟨2, ![4, 128]⟩
abbrev S1024x1024 : Shape := ⟨2, ![1024, 1024]⟩
abbrev S4096x1024 : Shape := ⟨2, ![4096, 1024]⟩
abbrev S1x5120 : Shape := ⟨2, ![1, 5120]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x128x1 : Shape := ⟨3, ![4, 128, 1]⟩
abbrev S4096 : Shape := ⟨1, ![4096]⟩
abbrev S4096x256 : Shape := ⟨2, ![4096, 256]⟩
abbrev S2x256 : Shape := ⟨2, ![2, 256]⟩
abbrev S4094x256 : Shape := ⟨2, ![4094, 256]⟩
abbrev S4096x1 : Shape := ⟨2, ![4096, 1]⟩
abbrev S4x256 : Shape := ⟨2, ![4, 256]⟩
abbrev S4092x256 : Shape := ⟨2, ![4092, 256]⟩
abbrev S8x256 : Shape := ⟨2, ![8, 256]⟩
abbrev S4088x256 : Shape := ⟨2, ![4088, 256]⟩
abbrev S16x256 : Shape := ⟨2, ![16, 256]⟩
abbrev S4080x256 : Shape := ⟨2, ![4080, 256]⟩
abbrev S4096x1x256 : Shape := ⟨3, ![4096, 1, 256]⟩
abbrev S4096x4x256 : Shape := ⟨3, ![4096, 4, 256]⟩
abbrev S1x1024 : Shape := ⟨2, ![1, 1024]⟩
abbrev S8x128 : Shape := ⟨2, ![8, 128]⟩
abbrev S2x4x128x256 : Shape := ⟨4, ![2, 4, 128, 256]⟩
abbrev S128x512 : Shape := ⟨2, ![128, 512]⟩
abbrev S8x1024 : Shape := ⟨2, ![8, 1024]⟩
abbrev S8x5120 : Shape := ⟨2, ![8, 5120]⟩
abbrev S256x5120 : Shape := ⟨2, ![256, 5120]⟩
abbrev S256x1024 : Shape := ⟨2, ![256, 1024]⟩
abbrev S272x1024 : Shape := ⟨2, ![272, 1024]⟩
abbrev S128x1024 : Shape := ⟨2, ![128, 1024]⟩
abbrev S16x1024 : Shape := ⟨2, ![16, 1024]⟩
abbrev S256 : Shape := ⟨1, ![256]⟩
abbrev S256x1 : Shape := ⟨2, ![256, 1]⟩
abbrev S128x256 : Shape := ⟨2, ![128, 256]⟩
abbrev S1x128x1 : Shape := ⟨3, ![1, 128, 1]⟩
abbrev S256x256 : Shape := ⟨2, ![256, 256]⟩
abbrev S1x256x256 : Shape := ⟨3, ![1, 256, 256]⟩
abbrev S1x256 : Shape := ⟨2, ![1, 256]⟩
abbrev S272x256 : Shape := ⟨2, ![272, 256]⟩
abbrev S1x64x256 : Shape := ⟨3, ![1, 64, 256]⟩
abbrev S64x256 : Shape := ⟨2, ![64, 256]⟩
abbrev S1x1x64x256 : Shape := ⟨4, ![1, 1, 64, 256]⟩

abbrev nBuf : Space → Nat
  | .hbm => 136
  | .vmem => 32
  | .smem => 0
  | _ => 0

abbrev hbmTy0_0 (i : Nat) : BufTy := match i % 128 with
  | 0 => ⟨S4096x5120, .f32⟩
  | 1 => ⟨S5120, .f32⟩
  | 2 => ⟨S4x256x256, .f32⟩
  | 3 => ⟨S1024, .f32⟩
  | 4 => ⟨S1024, .f32⟩
  | 5 => ⟨S1024, .f32⟩
  | 6 => ⟨S4x128x128, .f32⟩
  | 7 => ⟨S4x128, .f32⟩
  | 8 => ⟨S4x256x256, .f32⟩
  | 9 => ⟨S1024x1024, .f32⟩
  | 10 => ⟨S4096x1024, .f32⟩
  | 11 => ⟨S1x5120, .f32⟩
  | 12 => ⟨S4096x5120, .f32⟩
  | 13 => ⟨S4096x5120, .f32⟩
  | 14 => ⟨S128, .i32⟩
  | 15 => ⟨S_, .i32⟩
  | 16 => ⟨S_, .i32⟩
  | 17 => ⟨S128, .i32⟩
  | 18 => ⟨S128, .i32⟩
  | 19 => ⟨S128, .i32⟩
  | 20 => ⟨S_, .i32⟩
  | 21 => ⟨S128, .i32⟩
  | 22 => ⟨S128, .i1⟩
  | 23 => ⟨S128, .i32⟩
  | 24 => ⟨S128, .i32⟩
  | 25 => ⟨S_, .i32⟩
  | 26 => ⟨S128, .i32⟩
  | 27 => ⟨S128, .i1⟩
  | 28 => ⟨S128, .i1⟩
  | 29 => ⟨S_, .i32⟩
  | 30 => ⟨S128, .i32⟩
  | 31 => ⟨S128, .i32⟩
  | 32 => ⟨S128, .i32⟩
  | 33 => ⟨S128x1, .i32⟩
  | 34 => ⟨S1x128, .i32⟩
  | 35 => ⟨S128x128, .i32⟩
  | 36 => ⟨S128x128, .i32⟩
  | 37 => ⟨S128x128, .i1⟩
  | 38 => ⟨S128x128, .f32⟩
  | 39 => ⟨S1x128x128, .f32⟩
  | 40 => ⟨S4x128x128, .f32⟩
  | 41 => ⟨S4x128x128, .f32⟩
  | 42 => ⟨S4x128x128, .bf16⟩
  | 43 => ⟨S4x128x128, .bf16⟩
  | 44 => ⟨S4x128x1, .f32⟩
  | 45 => ⟨S4096x1024, .f32⟩
  | 46 => ⟨S_, .f32⟩
  | 47 => ⟨S_, .f32⟩
  | 48 => ⟨S4096x1024, .f32⟩
  | 49 => ⟨S4096, .i32⟩
  | 50 => ⟨S_, .i32⟩
  | 51 => ⟨S4096, .i32⟩
  | 52 => ⟨S4096, .i32⟩
  | 53 => ⟨S4096x256, .f32⟩
  | 54 => ⟨S_, .f32⟩
  | 55 => ⟨S2x256, .f32⟩
  | 56 => ⟨S4094x256, .f32⟩
  | 57 => ⟨S4096x256, .f32⟩
  | 58 => ⟨S_, .i32⟩
  | 59 => ⟨S4096, .i32⟩
  | 60 => ⟨S4096, .i32⟩
  | 61 => ⟨S4096, .f32⟩
  | 62 => ⟨S4096x1, .f32⟩
  | 63 => ⟨S4096x256, .f32⟩
  | 64 => ⟨S4096x256, .f32⟩
  | 65 => ⟨S4096x256, .f32⟩
  | 66 => ⟨S4096x256, .f32⟩
  | 67 => ⟨S4096x256, .f32⟩
  | 68 => ⟨S4096x256, .f32⟩
  | 69 => ⟨S_, .f32⟩
  | 70 => ⟨S4x256, .f32⟩
  | 71 => ⟨S4092x256, .f32⟩
  | 72 => ⟨S4096x256, .f32⟩
  | 73 => ⟨S_, .i32⟩
  | 74 => ⟨S4096, .i32⟩
  | 75 => ⟨S4096, .i32⟩
  | 76 => ⟨S4096, .f32⟩
  | 77 => ⟨S4096x1, .f32⟩
  | 78 => ⟨S4096x256, .f32⟩
  | 79 => ⟨S4096x256, .f32⟩
  | 80 => ⟨S4096x256, .f32⟩
  | 81 => ⟨S4096x256, .f32⟩
  | 82 => ⟨S4096x256, .f32⟩
  | 83 => ⟨S4096x256, .f32⟩
  | 84 => ⟨S_, .f32⟩
  | 85 => ⟨S8x256, .f32⟩
  | 86 => ⟨S4088x256, .f32⟩
  | 87 => ⟨S4096x256, .f32⟩
  | 88 => ⟨S_, .i32⟩
  | 89 => ⟨S4096, .i32⟩
  | 90 => ⟨S4096, .i32⟩
  | 91 => ⟨S4096, .f32⟩
  | 92 => ⟨S4096x1, .f32⟩
  | 93 => ⟨S4096x256, .f32⟩
  | 94 => ⟨S4096x256, .f32⟩
  | 95 => ⟨S4096x256, .f32⟩
  | 96 => ⟨S4096x256, .f32⟩
  | 97 => ⟨S4096x256, .f32⟩
  | 98 => ⟨S4096x256, .f32⟩
  | 99 => ⟨S_, .f32⟩
  | 100 => ⟨S16x256, .f32⟩
  | 101 => ⟨S4080x256, .f32⟩
  | 102 => ⟨S4096x256, .f32⟩
  | 103 => ⟨S_, .i32⟩
  | 104 => ⟨S4096, .i32⟩
  | 105 => ⟨S4096, .i32⟩
  | 106 => ⟨S4096, .f32⟩
  | 107 => ⟨S4096x1, .f32⟩
  | 108 => ⟨S4096x256, .f32⟩
  | 109 => ⟨S4096x256, .f32⟩
  | 110 => ⟨S4096x256, .f32⟩
  | 111 => ⟨S4096x256, .f32⟩
  | 112 => ⟨S4096x256, .f32⟩
  | 113 => ⟨S4096x1x256, .f32⟩
  | 114 => ⟨S4096x1x256, .f32⟩
  | 115 => ⟨S4096x1x256, .f32⟩
  | 116 => ⟨S4096x1x256, .f32⟩
  | 117 => ⟨S4096x4x256, .f32⟩
  | 118 => ⟨S4096x1024, .f32⟩
  | 119 => ⟨S4096x1024, .bf16⟩
  | 120 => ⟨S4096x1024, .bf16⟩
  | 121 => ⟨S4x256x256, .bf16⟩
  | 122 => ⟨S1x1024, .f32⟩
  | 123 => ⟨S1x1024, .f32⟩
  | 124 => ⟨S1x1024, .f32⟩
  | 125 => ⟨S4x256x256, .bf16⟩
  | 126 => ⟨S1024x1024, .bf16⟩
  | 127 => ⟨S_, .f32⟩
  | _ => ⟨S4096x5120, .f32⟩

abbrev hbmTy0_1 (i : Nat) : BufTy := match i % 128 with
  | 0 => ⟨S8x128, .f32⟩
  | 1 => ⟨S4096x5120, .bf16⟩
  | 2 => ⟨S2x4x128x256, .bf16⟩
  | 3 => ⟨S2x4x128x256, .bf16⟩
  | 4 => ⟨S4x128x128, .f32⟩
  | 5 => ⟨S128x512, .f32⟩
  | 6 => ⟨S8x1024, .f32⟩
  | 7 => ⟨S8x5120, .f32⟩
  | _ => ⟨S4096x5120, .f32⟩

abbrev hbmTy (i : Nat) : BufTy := match i / 128 with
  | 0 => hbmTy0_0 i
  | 1 => hbmTy0_1 i
  | _ => ⟨S4096x5120, .f32⟩

abbrev bufTy : (tb : Table) → Fin (tcTables nBuf tb) → BufTy
  | .hbm, ⟨i, _⟩ => hbmTy i
  | .local _ .vmem, ⟨0, _⟩ => ⟨S256x5120, .f32⟩
  | .local _ .vmem, ⟨1, _⟩ => ⟨S256x5120, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S4x256x256, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S4x128x128, .bf16⟩
  | .local _ .vmem, ⟨11, _⟩ => ⟨S4x128x128, .bf16⟩
  | .local _ .vmem, ⟨12, _⟩ => ⟨S4x128x1, .f32⟩
  | .local _ .vmem, ⟨13, _⟩ => ⟨S4x256x256, .bf16⟩
  | .local _ .vmem, ⟨14, _⟩ => ⟨S1024x1024, .bf16⟩
  | .local _ .vmem, ⟨15, _⟩ => ⟨S128x128, .f32⟩
  | .local _ .vmem, ⟨16, _⟩ => ⟨S8x128, .f32⟩
  | .local _ .vmem, ⟨17, _⟩ => ⟨S256x5120, .bf16⟩
  | .local _ .vmem, ⟨18, _⟩ => ⟨S256x5120, .bf16⟩
  | .local _ .vmem, ⟨19, _⟩ => ⟨S2x4x128x256, .bf16⟩
  | .local _ .vmem, ⟨20, _⟩ => ⟨S2x4x128x256, .bf16⟩
  | .local _ .vmem, ⟨21, _⟩ => ⟨S4x128x128, .f32⟩
  | .local _ .vmem, ⟨22, _⟩ => ⟨S128x512, .f32⟩
  | .local _ .vmem, ⟨23, _⟩ => ⟨S8x1024, .f32⟩
  | .local _ .vmem, ⟨24, _⟩ => ⟨S8x5120, .f32⟩
  | .local _ .vmem, ⟨25, _⟩ => ⟨S272x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S128x1024, .f32⟩
  | .local _ .vmem, ⟨30, _⟩ => ⟨S4x256x256, .f32⟩
  | .local _ .vmem, ⟨31, _⟩ => ⟨S4x256x256, .f32⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_call1_call0_cst : Ref sig .tc := ⟨.hbm, 46, rfl⟩
abbrev main_call1_call0_v0 : Ref sig .tc := ⟨.hbm, 47, rfl⟩
abbrev main_v18 : Ref sig .tc := ⟨.hbm, 48, rfl⟩
abbrev main_v19 : Ref sig .tc := ⟨.hbm, 49, rfl⟩
abbrev main_c_0 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_cst : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_c_1 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_cst_2 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_c_3 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_cst_4 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_c_5 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_6 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_c_7 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_8 : Ref sig .tc := ⟨.hbm, 127, rfl⟩
abbrev main_v88 : Ref sig .tc := ⟨.hbm, 128, rfl⟩
abbrev main_v89_0 : Ref sig .tc := ⟨.hbm, 129, rfl⟩
abbrev main_v89_1 : Ref sig .tc := ⟨.hbm, 130, rfl⟩
abbrev main_v89_2 : Ref sig .tc := ⟨.hbm, 131, rfl⟩
abbrev main_v89_3 : Ref sig .tc := ⟨.hbm, 132, rfl⟩
abbrev main_v89_4 : Ref sig .tc := ⟨.hbm, 133, rfl⟩
abbrev main_v89_5 : Ref sig .tc := ⟨.hbm, 134, rfl⟩
abbrev main_v89_6 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_scratch6 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32_536 : BitVec 32 := 15#32
  let v820 : BitVec 1 := Scalar.cmpi .eq arg0 c15_i32_536
  let v821 : BitVec 32 := Scalar.extui v820
  let c0_i32_537 : BitVec 32 := 0#32
  let v822 : BitVec 1 := Scalar.cmpi .ne v821 c0_i32_537
  v822

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x5120 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S2x4x128x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2x4x128x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S8x5120 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== KernelMxIdeal.lean ====
variable {F : FTy → Type} [FloatOps F] [Named F]
def κ : String → Option EReal := fun
  | "gelu_root_cube" => some (((6693141 / 8388608) * (12003091 / 268435456) : ℝ) : EReal)
  | "gelu_six_root_cube" => some (((6 * (6693141 / 8388608)) * (12003091 / 268435456) : ℝ) : EReal)
  | _ => none
-- ==== RefMxIdeal.lean ====
abbrev S4096x5120 : Shape := ⟨2, ![4096, 5120]⟩
abbrev S5120 : Shape := ⟨1, ![5120]⟩
abbrev S4x256x256 : Shape := ⟨3, ![4, 256, 256]⟩
abbrev S1024 : Shape := ⟨1, ![1024]⟩
abbrev S4x128x128 : Shape := ⟨3, ![4, 128, 128]⟩
abbrev S4x128 : Shape := ⟨2, ![4, 128]⟩
abbrev S1024x1024 : Shape := ⟨2, ![1024, 1024]⟩
abbrev S4096x1024 : Shape := ⟨2, ![4096, 1024]⟩
abbrev S1x5120 : Shape := ⟨2, ![1, 5120]⟩
abbrev S_ : Shape := ⟨0, ![]⟩
abbrev S4096 : Shape := ⟨1, ![4096]⟩
abbrev S4096x256 : Shape := ⟨2, ![4096, 256]⟩
abbrev S2x256 : Shape := ⟨2, ![2, 256]⟩
abbrev S4094x256 : Shape := ⟨2, ![4094, 256]⟩
abbrev S4096x1 : Shape := ⟨2, ![4096, 1]⟩
abbrev S4x256 : Shape := ⟨2, ![4, 256]⟩
abbrev S4092x256 : Shape := ⟨2, ![4092, 256]⟩
abbrev S8x256 : Shape := ⟨2, ![8, 256]⟩
abbrev S4088x256 : Shape := ⟨2, ![4088, 256]⟩
abbrev S16x256 : Shape := ⟨2, ![16, 256]⟩
abbrev S4080x256 : Shape := ⟨2, ![4080, 256]⟩
abbrev S4096x1x256 : Shape := ⟨3, ![4096, 1, 256]⟩
abbrev S4096x4x256 : Shape := ⟨3, ![4096, 4, 256]⟩
abbrev S4x256x4096 : Shape := ⟨3, ![4, 256, 4096]⟩
abbrev S1x1024 : Shape := ⟨2, ![1, 1024]⟩
abbrev S32x128x4x256 : Shape := ⟨4, ![32, 128, 4, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x32x256x128 : Shape := ⟨4, ![4, 32, 256, 128]⟩
abbrev S128x4 : Shape := ⟨2, ![128, 4]⟩
abbrev S1x128x4x1 : Shape := ⟨4, ![1, 128, 4, 1]⟩
abbrev S4x256x32x128 : Shape := ⟨4, ![4, 256, 32, 128]⟩
abbrev S4x32x128x256 : Shape := ⟨4, ![4, 32, 128, 256]⟩
abbrev S4x4096x256 : Shape := ⟨3, ![4, 4096, 256]⟩
abbrev S2x2x4x64x256 : Shape := ⟨5, ![2, 2, 4, 64, 256]⟩
abbrev S2x4x2x64x256 : Shape := ⟨5, ![2, 4, 2, 64, 256]⟩
abbrev S2x4x128x256 : Shape := ⟨4, ![2, 4, 128, 256]⟩
abbrev S128x4x128 : Shape := ⟨3, ![128, 4, 128]⟩
abbrev S128x512 : Shape := ⟨2, ![128, 512]⟩
abbrev S5x1024 : Shape := ⟨2, ![5, 1024]⟩
abbrev S8x1024 : Shape := ⟨2, ![8, 1024]⟩
abbrev S7x5120 : Shape := ⟨2, ![7, 5120]⟩
abbrev S8x5120 : Shape := ⟨2, ![8, 5120]⟩

abbrev nBuf : Space → Nat
  | .hbm => 508
  | .vmem => 0
  | .smem => 0
  | _ => 0

abbrev hbmTy0_0 (i : Nat) : BufTy := match i % 128 with
  | 0 => ⟨S4096x5120, .f32⟩
  | 1 => ⟨S5120, .f32⟩
  | 2 => ⟨S4x256x256, .f32⟩
  | 3 => ⟨S1024, .f32⟩
  | 4 => ⟨S1024, .f32⟩
  | 5 => ⟨S1024, .f32⟩
  | 6 => ⟨S4x128x128, .f32⟩
  | 7 => ⟨S4x128, .f32⟩
  | 8 => ⟨S4x256x256, .f32⟩
  | 9 => ⟨S1024x1024, .f32⟩
  | 10 => ⟨S4096x1024, .f32⟩
  | 11 => ⟨S1x5120, .f32⟩
  | 12 => ⟨S4096x5120, .f32⟩
  | 13 => ⟨S4096x5120, .f32⟩
  | 14 => ⟨S4096x1024, .f32⟩
  | 15 => ⟨S4096x1024, .f32⟩
  | 16 => ⟨S4096x1024, .f32⟩
  | 17 => ⟨S4096x1024, .f32⟩
  | 18 => ⟨S4096x1024, .f32⟩
  | 19 => ⟨S_, .f32⟩
  | 20 => ⟨S_, .f32⟩
  | 21 => ⟨S4096x1024, .f32⟩
  | 22 => ⟨S4096, .i32⟩
  | 23 => ⟨S_, .i32⟩
  | 24 => ⟨S4096, .i32⟩
  | 25 => ⟨S4096, .i32⟩
  | 26 => ⟨S4096x256, .f32⟩
  | 27 => ⟨S_, .f32⟩
  | 28 => ⟨S2x256, .f32⟩
  | 29 => ⟨S4094x256, .f32⟩
  | 30 => ⟨S4096x256, .f32⟩
  | 31 => ⟨S_, .f32⟩
  | 32 => ⟨S2x256, .f32⟩
  | 33 => ⟨S_, .i32⟩
  | 34 => ⟨S4096, .i32⟩
  | 35 => ⟨S4096, .i32⟩
  | 36 => ⟨S4096, .f32⟩
  | 37 => ⟨S4096x1, .f32⟩
  | 38 => ⟨S4096x256, .f32⟩
  | 39 => ⟨S4096x256, .f32⟩
  | 40 => ⟨S4096x256, .f32⟩
  | 41 => ⟨S4096x256, .f32⟩
  | 42 => ⟨S4096x256, .f32⟩
  | 43 => ⟨S4096x256, .f32⟩
  | 44 => ⟨S_, .f32⟩
  | 45 => ⟨S4x256, .f32⟩
  | 46 => ⟨S4092x256, .f32⟩
  | 47 => ⟨S4096x256, .f32⟩
  | 48 => ⟨S_, .f32⟩
  | 49 => ⟨S4x256, .f32⟩
  | 50 => ⟨S_, .i32⟩
  | 51 => ⟨S4096, .i32⟩
  | 52 => ⟨S4096, .i32⟩
  | 53 => ⟨S4096, .f32⟩
  | 54 => ⟨S4096x1, .f32⟩
  | 55 => ⟨S4096x256, .f32⟩
  | 56 => ⟨S4096x256, .f32⟩
  | 57 => ⟨S4096x256, .f32⟩
  | 58 => ⟨S4096x256, .f32⟩
  | 59 => ⟨S4096x256, .f32⟩
  | 60 => ⟨S4096x256, .f32⟩
  | 61 => ⟨S_, .f32⟩
  | 62 => ⟨S8x256, .f32⟩
  | 63 => ⟨S4088x256, .f32⟩
  | 64 => ⟨S4096x256, .f32⟩
  | 65 => ⟨S_, .f32⟩
  | 66 => ⟨S8x256, .f32⟩
  | 67 => ⟨S_, .i32⟩
  | 68 => ⟨S4096, .i32⟩
  | 69 => ⟨S4096, .i32⟩
  | 70 => ⟨S4096, .f32⟩
  | 71 => ⟨S4096x1, .f32⟩
  | 72 => ⟨S4096x256, .f32⟩
  | 73 => ⟨S4096x256, .f32⟩
  | 74 => ⟨S4096x256, .f32⟩
  | 75 => ⟨S4096x256, .f32⟩
  | 76 => ⟨S4096x256, .f32⟩
  | 77 => ⟨S4096x256, .f32⟩
  | 78 => ⟨S_, .f32⟩
  | 79 => ⟨S16x256, .f32⟩
  | 80 => ⟨S4080x256, .f32⟩
  | 81 => ⟨S4096x256, .f32⟩
  | 82 => ⟨S_, .f32⟩
  | 83 => ⟨S16x256, .f32⟩
  | 84 => ⟨S_, .i32⟩
  | 85 => ⟨S4096, .i32⟩
  | 86 => ⟨S4096, .i32⟩
  | 87 => ⟨S4096, .f32⟩
  | 88 => ⟨S4096x1, .f32⟩
  | 89 => ⟨S4096x256, .f32⟩
  | 90 => ⟨S4096x256, .f32⟩
  | 91 => ⟨S4096x256, .f32⟩
  | 92 => ⟨S4096x256, .f32⟩
  | 93 => ⟨S4096x256, .f32⟩
  | 94 => ⟨S4096x1x256, .f32⟩
  | 95 => ⟨S4096x1x256, .f32⟩
  | 96 => ⟨S4096x1x256, .f32⟩
  | 97 => ⟨S4096x1x256, .f32⟩
  | 98 => ⟨S4096x4x256, .f32⟩
  | 99 => ⟨S4x256x4096, .f32⟩
  | 100 => ⟨S4096x4x256, .f32⟩
  | 101 => ⟨S4096x1024, .f32⟩
  | 102 => ⟨S1x1024, .f32⟩
  | 103 => ⟨S4096x1024, .f32⟩
  | 104 => ⟨S4096x1024, .f32⟩
  | 105 => ⟨S4096x1024, .f32⟩
  | 106 => ⟨S4096x1024, .f32⟩
  | 107 => ⟨S4096x1024, .f32⟩
  | 108 => ⟨S_, .f32⟩
  | 109 => ⟨S4096x1024, .f32⟩
  | 110 => ⟨S4096x1024, .f32⟩
  | 111 => ⟨S_, .f32⟩
  | 112 => ⟨S4096x1024, .f32⟩
  | 113 => ⟨S4096x1024, .f32⟩
  | 114 => ⟨S4096x1024, .f32⟩
  | 115 => ⟨S_, .f32⟩
  | 116 => ⟨S4096x1024, .f32⟩
  | 117 => ⟨S4096x1024, .f32⟩
  | 118 => ⟨S4096x1024, .f32⟩
  | 119 => ⟨S_, .f32⟩
  | 120 => ⟨S4096x1024, .f32⟩
  | 121 => ⟨S4096x1024, .f32⟩
  | 122 => ⟨S_, .f32⟩
  | 123 => ⟨S4096x1024, .f32⟩
  | 124 => ⟨S4096x1024, .f32⟩
  | 125 => ⟨S4096x1024, .f32⟩
  | 126 => ⟨S_, .f32⟩
  | 127 => ⟨S4096x1024, .f32⟩
  | _ => ⟨S4096x5120, .f32⟩

abbrev hbmTy0_1 (i : Nat) : BufTy := match i % 128 with
  | 0 => ⟨S4096x1024, .f32⟩
  | 1 => ⟨S_, .f32⟩
  | 2 => ⟨S4096x1024, .f32⟩
  | 3 => ⟨S4096x1024, .f32⟩
  | 4 => ⟨S4096x1024, .f32⟩
  | 5 => ⟨S4096x1024, .f32⟩
  | 6 => ⟨S4096x1024, .f32⟩
  | 7 => ⟨S4096x1024, .f32⟩
  | 8 => ⟨S_, .f32⟩
  | 9 => ⟨S4096x1024, .f32⟩
  | 10 => ⟨S4096x1024, .f32⟩
  | 11 => ⟨S_, .f32⟩
  | 12 => ⟨S4096x1024, .f32⟩
  | 13 => ⟨S4096x1024, .f32⟩
  | 14 => ⟨S4096x1024, .f32⟩
  | 15 => ⟨S_, .f32⟩
  | 16 => ⟨S4096x1024, .f32⟩
  | 17 => ⟨S4096x1024, .f32⟩
  | 18 => ⟨S4096x1024, .f32⟩
  | 19 => ⟨S_, .f32⟩
  | 20 => ⟨S4096x1024, .f32⟩
  | 21 => ⟨S4096x1024, .f32⟩
  | 22 => ⟨S_, .f32⟩
  | 23 => ⟨S4096x1024, .f32⟩
  | 24 => ⟨S4096x1024, .f32⟩
  | 25 => ⟨S4096x1024, .f32⟩
  | 26 => ⟨S_, .f32⟩
  | 27 => ⟨S4096x1024, .f32⟩
  | 28 => ⟨S4096x1024, .f32⟩
  | 29 => ⟨S_, .f32⟩
  | 30 => ⟨S4096x1024, .f32⟩
  | 31 => ⟨S4096x1024, .f32⟩
  | 32 => ⟨S4096x1024, .f32⟩
  | 33 => ⟨S_, .f32⟩
  | 34 => ⟨S4096, .f32⟩
  | 35 => ⟨S4096x1, .f32⟩
  | 36 => ⟨S_, .f32⟩
  | 37 => ⟨S4096x1, .f32⟩
  | 38 => ⟨S4096x1, .f32⟩
  | 39 => ⟨S4096x1024, .f32⟩
  | 40 => ⟨S4096x1024, .f32⟩
  | 41 => ⟨S4096x1024, .f32⟩
  | 42 => ⟨S_, .f32⟩
  | 43 => ⟨S4096, .f32⟩
  | 44 => ⟨S4096x1, .f32⟩
  | 45 => ⟨S_, .f32⟩
  | 46 => ⟨S4096x1, .f32⟩
  | 47 => ⟨S4096x1, .f32⟩
  | 48 => ⟨S_, .f32⟩
  | 49 => ⟨S4096x1, .f32⟩
  | 50 => ⟨S4096x1, .f32⟩
  | 51 => ⟨S4096x1, .f32⟩
  | 52 => ⟨S4096x1, .f32⟩
  | 53 => ⟨S_, .f32⟩
  | 54 => ⟨S4096x1, .f32⟩
  | 55 => ⟨S4096x1, .f32⟩
  | 56 => ⟨S4096x1024, .f32⟩
  | 57 => ⟨S4096x1024, .f32⟩
  | 58 => ⟨S1x1024, .f32⟩
  | 59 => ⟨S4096x1024, .f32⟩
  | 60 => ⟨S4096x1024, .f32⟩
  | 61 => ⟨S1x1024, .f32⟩
  | 62 => ⟨S4096x1024, .f32⟩
  | 63 => ⟨S4096x1024, .f32⟩
  | 64 => ⟨S32x128x4x256, .f32⟩
  | 65 => ⟨S128, .i32⟩
  | 66 => ⟨S128x1, .i32⟩
  | 67 => ⟨S_, .i32⟩
  | 68 => ⟨S_, .i32⟩
  | 69 => ⟨S128x1, .i32⟩
  | 70 => ⟨S128x1, .i32⟩
  | 71 => ⟨S128x1, .i32⟩
  | 72 => ⟨S_, .i32⟩
  | 73 => ⟨S128x1, .i32⟩
  | 74 => ⟨S128x1, .i1⟩
  | 75 => ⟨S128x1, .i32⟩
  | 76 => ⟨S128x1, .i32⟩
  | 77 => ⟨S_, .i32⟩
  | 78 => ⟨S128x1, .i32⟩
  | 79 => ⟨S128x1, .i1⟩
  | 80 => ⟨S128x1, .i1⟩
  | 81 => ⟨S_, .i32⟩
  | 82 => ⟨S128x1, .i32⟩
  | 83 => ⟨S128x1, .i32⟩
  | 84 => ⟨S128x1, .i32⟩
  | 85 => ⟨S1x128, .i32⟩
  | 86 => ⟨S_, .i32⟩
  | 87 => ⟨S_, .i32⟩
  | 88 => ⟨S1x128, .i32⟩
  | 89 => ⟨S1x128, .i32⟩
  | 90 => ⟨S1x128, .i32⟩
  | 91 => ⟨S_, .i32⟩
  | 92 => ⟨S1x128, .i32⟩
  | 93 => ⟨S1x128, .i1⟩
  | 94 => ⟨S1x128, .i32⟩
  | 95 => ⟨S1x128, .i32⟩
  | 96 => ⟨S_, .i32⟩
  | 97 => ⟨S1x128, .i32⟩
  | 98 => ⟨S1x128, .i1⟩
  | 99 => ⟨S1x128, .i1⟩
  | 100 => ⟨S_, .i32⟩
  | 101 => ⟨S1x128, .i32⟩
  | 102 => ⟨S1x128, .i32⟩
  | 103 => ⟨S1x128, .i32⟩
  | 104 => ⟨S128x128, .i32⟩
  | 105 => ⟨S128x128, .i32⟩
  | 106 => ⟨S128x128, .i1⟩
  | 107 => ⟨S1x128x128, .i1⟩
  | 108 => ⟨S_, .f32⟩
  | 109 => ⟨S_, .f32⟩
  | 110 => ⟨S4x128x128, .i1⟩
  | 111 => ⟨S4x128x128, .f32⟩
  | 112 => ⟨S4x128x128, .f32⟩
  | 113 => ⟨S_, .f32⟩
  | 114 => ⟨S4x128x128, .f32⟩
  | 115 => ⟨S4x32x256x128, .f32⟩
  | 116 => ⟨S32x128x4x256, .f32⟩
  | 117 => ⟨S128x4, .f32⟩
  | 118 => ⟨S1x128x4x1, .f32⟩
  | 119 => ⟨S32x128x4x256, .f32⟩
  | 120 => ⟨S32x128x4x256, .f32⟩
  | 121 => ⟨S32x128x4x256, .f32⟩
  | 122 => ⟨S32x128x4x256, .f32⟩
  | 123 => ⟨S4x256x32x128, .f32⟩
  | 124 => ⟨S32x128x4x256, .f32⟩
  | 125 => ⟨S4096x1024, .f32⟩
  | 126 => ⟨S4096x1024, .f32⟩
  | 127 => ⟨S4096x1024, .f32⟩
  | _ => ⟨S4096x5120, .f32⟩

abbrev hbmTy0_2 (i : Nat) : BufTy := match i % 128 with
  | 0 => ⟨S_, .f32⟩
  | 1 => ⟨S4096x1024, .f32⟩
  | 2 => ⟨S4096x1024, .f32⟩
  | 3 => ⟨S_, .f32⟩
  | 4 => ⟨S4096x1024, .f32⟩
  | 5 => ⟨S4096x1024, .f32⟩
  | 6 => ⟨S_, .f32⟩
  | 7 => ⟨S4096x1024, .f32⟩
  | 8 => ⟨S4096x1024, .f32⟩
  | 9 => ⟨S4096x1024, .f32⟩
  | 10 => ⟨S4096x1024, .f32⟩
  | 11 => ⟨S4096x1024, .f32⟩
  | 12 => ⟨S4096x1024, .f32⟩
  | 13 => ⟨S_, .f32⟩
  | 14 => ⟨S4096x1024, .f32⟩
  | 15 => ⟨S4096x1024, .f32⟩
  | 16 => ⟨S_, .f32⟩
  | 17 => ⟨S4096x1024, .f32⟩
  | 18 => ⟨S4096x1024, .f32⟩
  | 19 => ⟨S_, .f32⟩
  | 20 => ⟨S4096x1024, .f32⟩
  | 21 => ⟨S4096x1024, .f32⟩
  | 22 => ⟨S4096x1024, .f32⟩
  | 23 => ⟨S4096x1024, .f32⟩
  | 24 => ⟨S4096x1024, .f32⟩
  | 25 => ⟨S4096x1024, .f32⟩
  | 26 => ⟨S4096x1024, .f32⟩
  | 27 => ⟨S4096x1024, .f32⟩
  | 28 => ⟨S4096x1024, .f32⟩
  | 29 => ⟨S4096x1024, .f32⟩
  | 30 => ⟨S4096x1024, .f32⟩
  | 31 => ⟨S4096x1024, .f32⟩
  | 32 => ⟨S4096x1024, .f32⟩
  | 33 => ⟨S32x128x4x256, .f32⟩
  | 34 => ⟨S4x256x32x128, .f32⟩
  | 35 => ⟨S4x32x128x256, .f32⟩
  | 36 => ⟨S32x128x4x256, .f32⟩
  | 37 => ⟨S4x256x256, .f32⟩
  | 38 => ⟨S4x256x256, .f32⟩
  | 39 => ⟨S32x128x4x256, .f32⟩
  | 40 => ⟨S32x128x4x256, .f32⟩
  | 41 => ⟨S4096x1024, .f32⟩
  | 42 => ⟨S_, .f32⟩
  | 43 => ⟨S128x4, .f32⟩
  | 44 => ⟨S1x128x4x1, .f32⟩
  | 45 => ⟨S_, .f32⟩
  | 46 => ⟨S128x4, .f32⟩
  | 47 => ⟨S4x128, .f32⟩
  | 48 => ⟨S4x32x256x128, .f32⟩
  | 49 => ⟨S4x128x128, .f32⟩
  | 50 => ⟨S4x32x256x128, .f32⟩
  | 51 => ⟨S32x128x4x256, .f32⟩
  | 52 => ⟨S_, .f32⟩
  | 53 => ⟨S4x128x128, .f32⟩
  | 54 => ⟨S4x128x128, .f32⟩
  | 55 => ⟨S4096x1024, .f32⟩
  | 56 => ⟨S_, .f32⟩
  | 57 => ⟨S1024, .f32⟩
  | 58 => ⟨S1x1024, .f32⟩
  | 59 => ⟨S_, .f32⟩
  | 60 => ⟨S1024, .f32⟩
  | 61 => ⟨S4096x1024, .f32⟩
  | 62 => ⟨S_, .f32⟩
  | 63 => ⟨S1024, .f32⟩
  | 64 => ⟨S1x1024, .f32⟩
  | 65 => ⟨S4096x1024, .f32⟩
  | 66 => ⟨S4096x1024, .f32⟩
  | 67 => ⟨S_, .f32⟩
  | 68 => ⟨S1024, .f32⟩
  | 69 => ⟨S4096x1024, .f32⟩
  | 70 => ⟨S_, .f32⟩
  | 71 => ⟨S4096, .f32⟩
  | 72 => ⟨S4096x1, .f32⟩
  | 73 => ⟨S4096x1024, .f32⟩
  | 74 => ⟨S4096x1024, .f32⟩
  | 75 => ⟨S4096x1, .f32⟩
  | 76 => ⟨S_, .f32⟩
  | 77 => ⟨S4096x1, .f32⟩
  | 78 => ⟨S4096x1, .f32⟩
  | 79 => ⟨S_, .f32⟩
  | 80 => ⟨S4096, .f32⟩
  | 81 => ⟨S4096x1024, .f32⟩
  | 82 => ⟨S4096x1024, .f32⟩
  | 83 => ⟨S4096x1024, .f32⟩
  | 84 => ⟨S4096x1024, .f32⟩
  | 85 => ⟨S4096x1024, .f32⟩
  | 86 => ⟨S4096x1024, .f32⟩
  | 87 => ⟨S_, .f32⟩
  | 88 => ⟨S4096, .f32⟩
  | 89 => ⟨S4096x1, .f32⟩
  | 90 => ⟨S_, .f32⟩
  | 91 => ⟨S4096x1, .f32⟩
  | 92 => ⟨S4096x1, .f32⟩
  | 93 => ⟨S_, .f32⟩
  | 94 => ⟨S4096, .f32⟩
  | 95 => ⟨S4096x1024, .f32⟩
  | 96 => ⟨S4096x1024, .f32⟩
  | 97 => ⟨S4096x1024, .f32⟩
  | 98 => ⟨S4096x1024, .f32⟩
  | 99 => ⟨S_, .f32⟩
  | 100 => ⟨S4096x1024, .f32⟩
  | 101 => ⟨S4096x1024, .f32⟩
  | 102 => ⟨S4096x1024, .f32⟩
  | 103 => ⟨S_, .f32⟩
  | 104 => ⟨S4096x1024, .f32⟩
  | 105 => ⟨S4096x1024, .f32⟩
  | 106 => ⟨S4096x1024, .f32⟩
  | 107 => ⟨S_, .f32⟩
  | 108 => ⟨S4096x1024, .f32⟩
  | 109 => ⟨S4096x1024, .f32⟩
  | 110 => ⟨S4096x1024, .f32⟩
  | 111 => ⟨S4096x1024, .f32⟩
  | 112 => ⟨S4096x1024, .f32⟩
  | 113 => ⟨S4096x1024, .f32⟩
  | 114 => ⟨S_, .f32⟩
  | 115 => ⟨S4096x1024, .f32⟩
  | 116 => ⟨S4096x1024, .f32⟩
  | 117 => ⟨S4096x1024, .f32⟩
  | 118 => ⟨S_, .f32⟩
  | 119 => ⟨S4096x1024, .f32⟩
  | 120 => ⟨S4096x1024, .f32⟩
  | 121 => ⟨S4096x1024, .f32⟩
  | 122 => ⟨S_, .f32⟩
  | 123 => ⟨S4096x1024, .f32⟩
  | 124 => ⟨S4096x1024, .f32⟩
  | 125 => ⟨S4096x1024, .f32⟩
  | 126 => ⟨S4096x1024, .f32⟩
  | 127 => ⟨S4096x1024, .f32⟩
  | _ => ⟨S4096x5120, .f32⟩

abbrev hbmTy0_3 (i : Nat) : BufTy := match i % 128 with
  | 0 => ⟨S_, .f32⟩
  | 1 => ⟨S1024, .f32⟩
  | 2 => ⟨S1x1024, .f32⟩
  | 3 => ⟨S4096x1024, .f32⟩
  | 4 => ⟨S4096x1024, .f32⟩
  | 5 => ⟨S_, .f32⟩
  | 6 => ⟨S1024, .f32⟩
  | 7 => ⟨S4096x4x256, .f32⟩
  | 8 => ⟨S4x256x4096, .f32⟩
  | 9 => ⟨S4x4096x256, .f32⟩
  | 10 => ⟨S4096x4x256, .f32⟩
  | 11 => ⟨S4x256x256, .f32⟩
  | 12 => ⟨S4x256x256, .f32⟩
  | 13 => ⟨S4096x1x256, .f32⟩
  | 14 => ⟨S4096x256, .f32⟩
  | 15 => ⟨S4096x1x256, .f32⟩
  | 16 => ⟨S4096x256, .f32⟩
  | 17 => ⟨S4096x1x256, .f32⟩
  | 18 => ⟨S4096x256, .f32⟩
  | 19 => ⟨S4096x1x256, .f32⟩
  | 20 => ⟨S4096x256, .f32⟩
  | 21 => ⟨S4096x256, .f32⟩
  | 22 => ⟨S_, .f32⟩
  | 23 => ⟨S4096x1024, .f32⟩
  | 24 => ⟨S4096x256, .f32⟩
  | 25 => ⟨S4096x256, .f32⟩
  | 26 => ⟨S4096x256, .f32⟩
  | 27 => ⟨S16x256, .f32⟩
  | 28 => ⟨S4080x256, .f32⟩
  | 29 => ⟨S_, .f32⟩
  | 30 => ⟨S4096x256, .f32⟩
  | 31 => ⟨S4096x256, .f32⟩
  | 32 => ⟨S_, .f32⟩
  | 33 => ⟨S4096x1024, .f32⟩
  | 34 => ⟨S4096x256, .f32⟩
  | 35 => ⟨S_, .f32⟩
  | 36 => ⟨S4096x1024, .f32⟩
  | 37 => ⟨S4096x1024, .f32⟩
  | 38 => ⟨S4096x256, .f32⟩
  | 39 => ⟨S4096x256, .f32⟩
  | 40 => ⟨S4096x256, .f32⟩
  | 41 => ⟨S8x256, .f32⟩
  | 42 => ⟨S4088x256, .f32⟩
  | 43 => ⟨S_, .f32⟩
  | 44 => ⟨S4096x256, .f32⟩
  | 45 => ⟨S4096x256, .f32⟩
  | 46 => ⟨S_, .f32⟩
  | 47 => ⟨S4096x1024, .f32⟩
  | 48 => ⟨S4096x1024, .f32⟩
  | 49 => ⟨S4096x256, .f32⟩
  | 50 => ⟨S_, .f32⟩
  | 51 => ⟨S4096x1024, .f32⟩
  | 52 => ⟨S4096x1024, .f32⟩
  | 53 => ⟨S4096x256, .f32⟩
  | 54 => ⟨S4096x256, .f32⟩
  | 55 => ⟨S4096x256, .f32⟩
  | 56 => ⟨S4x256, .f32⟩
  | 57 => ⟨S4092x256, .f32⟩
  | 58 => ⟨S_, .f32⟩
  | 59 => ⟨S4096x256, .f32⟩
  | 60 => ⟨S4096x256, .f32⟩
  | 61 => ⟨S_, .f32⟩
  | 62 => ⟨S4096x1024, .f32⟩
  | 63 => ⟨S4096x1024, .f32⟩
  | 64 => ⟨S4096x256, .f32⟩
  | 65 => ⟨S_, .f32⟩
  | 66 => ⟨S4096x1024, .f32⟩
  | 67 => ⟨S4096x1024, .f32⟩
  | 68 => ⟨S4096x256, .f32⟩
  | 69 => ⟨S4096x256, .f32⟩
  | 70 => ⟨S4096x256, .f32⟩
  | 71 => ⟨S2x256, .f32⟩
  | 72 => ⟨S4094x256, .f32⟩
  | 73 => ⟨S_, .f32⟩
  | 74 => ⟨S4096x256, .f32⟩
  | 75 => ⟨S4096x256, .f32⟩
  | 76 => ⟨S_, .f32⟩
  | 77 => ⟨S4096x1024, .f32⟩
  | 78 => ⟨S4096x1024, .f32⟩
  | 79 => ⟨S_, .f32⟩
  | 80 => ⟨S_, .f32⟩
  | 81 => ⟨S4096x1024, .f32⟩
  | 82 => ⟨S4096x1024, .f32⟩
  | 83 => ⟨S_, .f32⟩
  | 84 => ⟨S4096x5120, .f32⟩
  | 85 => ⟨S_, .f32⟩
  | 86 => ⟨S4096x5120, .f32⟩
  | 87 => ⟨S4096x5120, .f32⟩
  | 88 => ⟨S_, .f32⟩
  | 89 => ⟨S4096x5120, .f32⟩
  | 90 => ⟨S4096x5120, .f32⟩
  | 91 => ⟨S_, .f32⟩
  | 92 => ⟨S4096x5120, .f32⟩
  | 93 => ⟨S4096x5120, .f32⟩
  | 94 => ⟨S_, .f32⟩
  | 95 => ⟨S4096x5120, .f32⟩
  | 96 => ⟨S4096x5120, .f32⟩
  | 97 => ⟨S_, .f32⟩
  | 98 => ⟨S5120, .f32⟩
  | 99 => ⟨S1x5120, .f32⟩
  | 100 => ⟨S_, .f32⟩
  | 101 => ⟨S5120, .f32⟩
  | 102 => ⟨S4096x5120, .bf16⟩
  | 103 => ⟨S2x2x4x64x256, .f32⟩
  | 104 => ⟨S2x4x2x64x256, .f32⟩
  | 105 => ⟨S2x4x128x256, .f32⟩
  | 106 => ⟨S2x4x128x256, .bf16⟩
  | 107 => ⟨S2x2x4x64x256, .f32⟩
  | 108 => ⟨S2x4x2x64x256, .f32⟩
  | 109 => ⟨S2x4x128x256, .f32⟩
  | 110 => ⟨S2x4x128x256, .bf16⟩
  | 111 => ⟨S128x4, .f32⟩
  | 112 => ⟨S128x4x128, .f32⟩
  | 113 => ⟨S128x512, .f32⟩
  | 114 => ⟨S1x1024, .f32⟩
  | 115 => ⟨S1x1024, .f32⟩
  | 116 => ⟨S1x1024, .f32⟩
  | 117 => ⟨S_, .f32⟩
  | 118 => ⟨S5x1024, .f32⟩
  | 119 => ⟨S8x1024, .f32⟩
  | 120 => ⟨S1x5120, .f32⟩
  | 121 => ⟨S_, .f32⟩
  | 122 => ⟨S7x5120, .f32⟩
  | 123 => ⟨S8x5120, .f32⟩
  | _ => ⟨S4096x5120, .f32⟩

abbrev hbmTy (i : Nat) : BufTy := match i / 128 with
  | 0 => hbmTy0_0 i
  | 1 => hbmTy0_1 i
  | 2 => hbmTy0_2 i
  | 3 => hbmTy0_3 i
  | _ => ⟨S4096x5120, .f32⟩

abbrev bufTy : (tb : Table) → Fin (tcTables nBuf tb) → BufTy
  | .hbm, ⟨i, _⟩ => hbmTy i
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call0_call0_cst : Ref sig .tc := ⟨.hbm, 19, rfl⟩
abbrev main_call0_call0_v0 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_0 : Ref sig .tc := ⟨.hbm, 31, rfl⟩
abbrev main_v16 : Ref sig .tc := ⟨.hbm, 32, rfl⟩
abbrev main_c_1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_2 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_c_4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_5 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_c_7 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_8 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_9 : Ref sig .tc := ⟨.hbm, 82, rfl⟩
abbrev main_v58 : Ref sig .tc := ⟨.hbm, 83, rfl⟩
abbrev main_c_10 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_11 : Ref sig .tc := ⟨.hbm, 108, rfl⟩
abbrev main_v82 : Ref sig .tc := ⟨.hbm, 109, rfl⟩
abbrev main_v83 : Ref sig .tc := ⟨.hbm, 110, rfl⟩
abbrev main_cst_12 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_13 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_14 : Ref sig .tc := ⟨.hbm, 119, rfl⟩
abbrev main_v90 : Ref sig .tc := ⟨.hbm, 120, rfl⟩
abbrev main_v91 : Ref sig .tc := ⟨.hbm, 121, rfl⟩
abbrev main_cst_15 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_16 : Ref sig .tc := ⟨.hbm, 126, rfl⟩
abbrev main_v95 : Ref sig .tc := ⟨.hbm, 127, rfl⟩
abbrev main_v96 : Ref sig .tc := ⟨.hbm, 128, rfl⟩
abbrev main_cst_17 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_18 : Ref sig .tc := ⟨.hbm, 136, rfl⟩
abbrev main_v103 : Ref sig .tc := ⟨.hbm, 137, rfl⟩
abbrev main_v104 : Ref sig .tc := ⟨.hbm, 138, rfl⟩
abbrev main_cst_19 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_cst_20 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_cst_21 : Ref sig .tc := ⟨.hbm, 147, rfl⟩
abbrev main_v111 : Ref sig .tc := ⟨.hbm, 148, rfl⟩
abbrev main_v112 : Ref sig .tc := ⟨.hbm, 149, rfl⟩
abbrev main_cst_22 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_cst_23 : Ref sig .tc := ⟨.hbm, 154, rfl⟩
abbrev main_v116 : Ref sig .tc := ⟨.hbm, 155, rfl⟩
abbrev main_v117 : Ref sig .tc := ⟨.hbm, 156, rfl⟩
abbrev main_cst_24 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_cst_25 : Ref sig .tc := ⟨.hbm, 161, rfl⟩
abbrev main_v121 : Ref sig .tc := ⟨.hbm, 162, rfl⟩
abbrev main_v122 : Ref sig .tc := ⟨.hbm, 163, rfl⟩
abbrev main_cst_26 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_cst_27 : Ref sig .tc := ⟨.hbm, 170, rfl⟩
abbrev main_v128 : Ref sig .tc := ⟨.hbm, 171, rfl⟩
abbrev main_v129 : Ref sig .tc := ⟨.hbm, 172, rfl⟩
abbrev main_cst_28 : Ref sig .tc := ⟨.hbm, 173, rfl⟩
abbrev main_v130 : Ref sig .tc := ⟨.hbm, 174, rfl⟩
abbrev main_v131 : Ref sig .tc := ⟨.hbm, 175, rfl⟩
abbrev main_cst_29 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_cst_30 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_c_31 : Ref sig .tc := ⟨.hbm, 195, rfl⟩
abbrev main_call1_v0 : Ref sig .tc := ⟨.hbm, 196, rfl⟩
abbrev main_call1_v1 : Ref sig .tc := ⟨.hbm, 197, rfl⟩
abbrev main_call1_v2 : Ref sig .tc := ⟨.hbm, 198, rfl⟩
abbrev main_call1_v3 : Ref sig .tc := ⟨.hbm, 199, rfl⟩
abbrev main_call1_v4 : Ref sig .tc := ⟨.hbm, 200, rfl⟩
abbrev main_call1_v5 : Ref sig .tc := ⟨.hbm, 201, rfl⟩
abbrev main_call1_v6 : Ref sig .tc := ⟨.hbm, 202, rfl⟩
abbrev main_call1_v7 : Ref sig .tc := ⟨.hbm, 203, rfl⟩
abbrev main_call1_v8 : Ref sig .tc := ⟨.hbm, 204, rfl⟩
abbrev main_call1_c : Ref sig .tc := ⟨.hbm, 205, rfl⟩
abbrev main_call1_v9 : Ref sig .tc := ⟨.hbm, 206, rfl⟩
abbrev main_call1_v10 : Ref sig .tc := ⟨.hbm, 207, rfl⟩
abbrev main_call1_v11 : Ref sig .tc := ⟨.hbm, 208, rfl⟩
abbrev main_call1_c_0 : Ref sig .tc := ⟨.hbm, 209, rfl⟩
abbrev main_call1_v12 : Ref sig .tc := ⟨.hbm, 210, rfl⟩
abbrev main_call1_v13 : Ref sig .tc := ⟨.hbm, 211, rfl⟩
abbrev main_v149 : Ref sig .tc := ⟨.hbm, 212, rfl⟩
abbrev main_v150 : Ref sig .tc := ⟨.hbm, 213, rfl⟩
abbrev main_c_32 : Ref sig .tc := ⟨.hbm, 214, rfl⟩
abbrev main_call2_v0 : Ref sig .tc := ⟨.hbm, 215, rfl⟩
abbrev main_call2_v1 : Ref sig .tc := ⟨.hbm, 216, rfl⟩
abbrev main_call2_v2 : Ref sig .tc := ⟨.hbm, 217, rfl⟩
abbrev main_call2_v3 : Ref sig .tc := ⟨.hbm, 218, rfl⟩
abbrev main_call2_v4 : Ref sig .tc := ⟨.hbm, 219, rfl⟩
abbrev main_call2_v5 : Ref sig .tc := ⟨.hbm, 220, rfl⟩
abbrev main_call2_v6 : Ref sig .tc := ⟨.hbm, 221, rfl⟩
abbrev main_call2_v7 : Ref sig .tc := ⟨.hbm, 222, rfl⟩
abbrev main_call2_v8 : Ref sig .tc := ⟨.hbm, 223, rfl⟩
abbrev main_call2_c : Ref sig .tc := ⟨.hbm, 224, rfl⟩
abbrev main_call2_v9 : Ref sig .tc := ⟨.hbm, 225, rfl⟩
abbrev main_call2_v10 : Ref sig .tc := ⟨.hbm, 226, rfl⟩
abbrev main_call2_v11 : Ref sig .tc := ⟨.hbm, 227, rfl⟩
abbrev main_call2_c_0 : Ref sig .tc := ⟨.hbm, 228, rfl⟩
abbrev main_call2_v12 : Ref sig .tc := ⟨.hbm, 229, rfl⟩
abbrev main_call2_v13 : Ref sig .tc := ⟨.hbm, 230, rfl⟩
abbrev main_v151 : Ref sig .tc := ⟨.hbm, 231, rfl⟩
abbrev main_v152 : Ref sig .tc := ⟨.hbm, 232, rfl⟩
abbrev main_v153 : Ref sig .tc := ⟨.hbm, 233, rfl⟩
abbrev main_v154 : Ref sig .tc := ⟨.hbm, 234, rfl⟩
abbrev main_v155 : Ref sig .tc := ⟨.hbm, 235, rfl⟩
abbrev main_cst_33 : Ref sig .tc := ⟨.hbm, 236, rfl⟩
abbrev main_call3_v0 : Ref sig .tc := ⟨.hbm, 237, rfl⟩
abbrev main_v156_1 : Ref sig .tc := ⟨.hbm, 238, rfl⟩
abbrev main_call3_v2 : Ref sig .tc := ⟨.hbm, 239, rfl⟩
abbrev main_v156_0 : Ref sig .tc := ⟨.hbm, 240, rfl⟩
abbrev main_call3_cst : Ref sig .tc := ⟨.hbm, 241, rfl⟩
abbrev main_v156_2 : Ref sig .tc := ⟨.hbm, 242, rfl⟩
abbrev main_v157 : Ref sig .tc := ⟨.hbm, 243, rfl⟩
abbrev main_v158 : Ref sig .tc := ⟨.hbm, 244, rfl⟩
abbrev main_v159 : Ref sig .tc := ⟨.hbm, 245, rfl⟩
abbrev main_v160 : Ref sig .tc := ⟨.hbm, 246, rfl⟩
abbrev main_v161 : Ref sig .tc := ⟨.hbm, 247, rfl⟩
abbrev main_v162 : Ref sig .tc := ⟨.hbm, 248, rfl⟩
abbrev main_v163 : Ref sig .tc := ⟨.hbm, 249, rfl⟩
abbrev main_v164 : Ref sig .tc := ⟨.hbm, 250, rfl⟩
abbrev main_v165 : Ref sig .tc := ⟨.hbm, 251, rfl⟩
abbrev main_v166 : Ref sig .tc := ⟨.hbm, 252, rfl⟩
abbrev main_v167 : Ref sig .tc := ⟨.hbm, 253, rfl⟩
abbrev main_v168 : Ref sig .tc := ⟨.hbm, 254, rfl⟩
abbrev main_v169 : Ref sig .tc := ⟨.hbm, 255, rfl⟩
abbrev main_cst_34 : Ref sig .tc := ⟨.hbm, 256, rfl⟩
abbrev main_v170 : Ref sig .tc := ⟨.hbm, 257, rfl⟩
abbrev main_v171 : Ref sig .tc := ⟨.hbm, 258, rfl⟩
abbrev main_cst_35 : Ref sig .tc := ⟨.hbm, 259, rfl⟩
abbrev main_v172 : Ref sig .tc := ⟨.hbm, 260, rfl⟩
abbrev main_v173 : Ref sig .tc := ⟨.hbm, 261, rfl⟩
abbrev main_cst_36 : Ref sig .tc := ⟨.hbm, 262, rfl⟩
abbrev main_v174 : Ref sig .tc := ⟨.hbm, 263, rfl⟩
abbrev main_v175 : Ref sig .tc := ⟨.hbm, 264, rfl⟩
abbrev main_v176 : Ref sig .tc := ⟨.hbm, 265, rfl⟩
abbrev main_v177 : Ref sig .tc := ⟨.hbm, 266, rfl⟩
abbrev main_v178 : Ref sig .tc := ⟨.hbm, 267, rfl⟩
abbrev main_v179 : Ref sig .tc := ⟨.hbm, 268, rfl⟩
abbrev main_cst_37 : Ref sig .tc := ⟨.hbm, 269, rfl⟩
abbrev main_v180 : Ref sig .tc := ⟨.hbm, 270, rfl⟩
abbrev main_v181 : Ref sig .tc := ⟨.hbm, 271, rfl⟩
abbrev main_cst_38 : Ref sig .tc := ⟨.hbm, 272, rfl⟩
abbrev main_v182 : Ref sig .tc := ⟨.hbm, 273, rfl⟩
abbrev main_v183 : Ref sig .tc := ⟨.hbm, 274, rfl⟩
abbrev main_cst_39 : Ref sig .tc := ⟨.hbm, 275, rfl⟩
abbrev main_v184 : Ref sig .tc := ⟨.hbm, 276, rfl⟩
abbrev main_v185 : Ref sig .tc := ⟨.hbm, 277, rfl⟩
abbrev main_v186 : Ref sig .tc := ⟨.hbm, 278, rfl⟩
abbrev main_v187 : Ref sig .tc := ⟨.hbm, 279, rfl⟩
abbrev main_v188 : Ref sig .tc := ⟨.hbm, 280, rfl⟩
abbrev main_v189 : Ref sig .tc := ⟨.hbm, 281, rfl⟩
abbrev main_v190 : Ref sig .tc := ⟨.hbm, 282, rfl⟩
abbrev main_v191 : Ref sig .tc := ⟨.hbm, 283, rfl⟩
abbrev main_v192 : Ref sig .tc := ⟨.hbm, 284, rfl⟩
abbrev main_v193 : Ref sig .tc := ⟨.hbm, 285, rfl⟩
abbrev main_v194 : Ref sig .tc := ⟨.hbm, 286, rfl⟩
abbrev main_v195 : Ref sig .tc := ⟨.hbm, 287, rfl⟩
abbrev main_v196 : Ref sig .tc := ⟨.hbm, 288, rfl⟩
abbrev main_v197 : Ref sig .tc := ⟨.hbm, 289, rfl⟩
abbrev main_v198 : Ref sig .tc := ⟨.hbm, 290, rfl⟩
abbrev main_v199 : Ref sig .tc := ⟨.hbm, 291, rfl⟩
abbrev main_v200 : Ref sig .tc := ⟨.hbm, 292, rfl⟩
abbrev main_v201 : Ref sig .tc := ⟨.hbm, 293, rfl⟩
abbrev main_v202 : Ref sig .tc := ⟨.hbm, 294, rfl⟩
abbrev main_v203 : Ref sig .tc := ⟨.hbm, 295, rfl⟩
abbrev main_v204 : Ref sig .tc := ⟨.hbm, 296, rfl⟩
abbrev main_v205 : Ref sig .tc := ⟨.hbm, 297, rfl⟩
abbrev main_cst_40 : Ref sig .tc := ⟨.hbm, 298, rfl⟩
abbrev main_v206 : Ref sig .tc := ⟨.hbm, 299, rfl⟩
abbrev main_v207 : Ref sig .tc := ⟨.hbm, 300, rfl⟩
abbrev main_cst_41 : Ref sig .tc := ⟨.hbm, 301, rfl⟩
abbrev main_v208 : Ref sig .tc := ⟨.hbm, 302, rfl⟩
abbrev main_v209 : Ref sig .tc := ⟨.hbm, 303, rfl⟩
abbrev main_v210 : Ref sig .tc := ⟨.hbm, 304, rfl⟩
abbrev main_v211 : Ref sig .tc := ⟨.hbm, 305, rfl⟩
abbrev main_v212 : Ref sig .tc := ⟨.hbm, 306, rfl⟩
abbrev main_v213 : Ref sig .tc := ⟨.hbm, 307, rfl⟩
abbrev main_call4_cst : Ref sig .tc := ⟨.hbm, 308, rfl⟩
abbrev main_call4_v0 : Ref sig .tc := ⟨.hbm, 309, rfl⟩
abbrev main_v214 : Ref sig .tc := ⟨.hbm, 310, rfl⟩
abbrev main_v215 : Ref sig .tc := ⟨.hbm, 311, rfl⟩
abbrev main_cst_42 : Ref sig .tc := ⟨.hbm, 312, rfl⟩
abbrev main_v216 : Ref sig .tc := ⟨.hbm, 313, rfl⟩
abbrev main_v217 : Ref sig .tc := ⟨.hbm, 314, rfl⟩
abbrev main_cst_43 : Ref sig .tc := ⟨.hbm, 315, rfl⟩
abbrev main_v218 : Ref sig .tc := ⟨.hbm, 316, rfl⟩
abbrev main_v219 : Ref sig .tc := ⟨.hbm, 317, rfl⟩
abbrev main_cst_44 : Ref sig .tc := ⟨.hbm, 318, rfl⟩
abbrev main_v220 : Ref sig .tc := ⟨.hbm, 319, rfl⟩
abbrev main_v221 : Ref sig .tc := ⟨.hbm, 320, rfl⟩
abbrev main_v222 : Ref sig .tc := ⟨.hbm, 321, rfl⟩
abbrev main_v223 : Ref sig .tc := ⟨.hbm, 322, rfl⟩
abbrev main_cst_45 : Ref sig .tc := ⟨.hbm, 323, rfl⟩
abbrev main_v224 : Ref sig .tc := ⟨.hbm, 324, rfl⟩
abbrev main_v225 : Ref sig .tc := ⟨.hbm, 325, rfl⟩
abbrev main_cst_46 : Ref sig .tc := ⟨.hbm, 326, rfl⟩
abbrev main_v226 : Ref sig .tc := ⟨.hbm, 327, rfl⟩
abbrev main_v227 : Ref sig .tc := ⟨.hbm, 328, rfl⟩
abbrev main_v228 : Ref sig .tc := ⟨.hbm, 329, rfl⟩
abbrev main_v229 : Ref sig .tc := ⟨.hbm, 330, rfl⟩
abbrev main_v230 : Ref sig .tc := ⟨.hbm, 331, rfl⟩
abbrev main_cst_47 : Ref sig .tc := ⟨.hbm, 332, rfl⟩
abbrev main_v231 : Ref sig .tc := ⟨.hbm, 333, rfl⟩
abbrev main_v232 : Ref sig .tc := ⟨.hbm, 334, rfl⟩
abbrev main_cst_48 : Ref sig .tc := ⟨.hbm, 335, rfl⟩
abbrev main_v233 : Ref sig .tc := ⟨.hbm, 336, rfl⟩
abbrev main_v234 : Ref sig .tc := ⟨.hbm, 337, rfl⟩
abbrev main_v235 : Ref sig .tc := ⟨.hbm, 338, rfl⟩
abbrev main_v236 : Ref sig .tc := ⟨.hbm, 339, rfl⟩
abbrev main_v237 : Ref sig .tc := ⟨.hbm, 340, rfl⟩
abbrev main_v238 : Ref sig .tc := ⟨.hbm, 341, rfl⟩
abbrev main_v239 : Ref sig .tc := ⟨.hbm, 342, rfl⟩
abbrev main_cst_49 : Ref sig .tc := ⟨.hbm, 343, rfl⟩
abbrev main_v240 : Ref sig .tc := ⟨.hbm, 344, rfl⟩
abbrev main_v241 : Ref sig .tc := ⟨.hbm, 345, rfl⟩
abbrev main_cst_50 : Ref sig .tc := ⟨.hbm, 346, rfl⟩
abbrev main_v242 : Ref sig .tc := ⟨.hbm, 347, rfl⟩
abbrev main_v243 : Ref sig .tc := ⟨.hbm, 348, rfl⟩
abbrev main_cst_51 : Ref sig .tc := ⟨.hbm, 349, rfl⟩
abbrev main_v244 : Ref sig .tc := ⟨.hbm, 350, rfl⟩
abbrev main_v245 : Ref sig .tc := ⟨.hbm, 351, rfl⟩
abbrev main_v246 : Ref sig .tc := ⟨.hbm, 352, rfl⟩
abbrev main_v247 : Ref sig .tc := ⟨.hbm, 353, rfl⟩
abbrev main_v248 : Ref sig .tc := ⟨.hbm, 354, rfl⟩
abbrev main_cst_52 : Ref sig .tc := ⟨.hbm, 355, rfl⟩
abbrev main_v249 : Ref sig .tc := ⟨.hbm, 356, rfl⟩
abbrev main_v250 : Ref sig .tc := ⟨.hbm, 357, rfl⟩
abbrev main_v251 : Ref sig .tc := ⟨.hbm, 358, rfl⟩
abbrev main_cst_53 : Ref sig .tc := ⟨.hbm, 359, rfl⟩
abbrev main_v252 : Ref sig .tc := ⟨.hbm, 360, rfl⟩
abbrev main_v253 : Ref sig .tc := ⟨.hbm, 361, rfl⟩
abbrev main_v254 : Ref sig .tc := ⟨.hbm, 362, rfl⟩
abbrev main_cst_54 : Ref sig .tc := ⟨.hbm, 363, rfl⟩
abbrev main_v255 : Ref sig .tc := ⟨.hbm, 364, rfl⟩
abbrev main_v256 : Ref sig .tc := ⟨.hbm, 365, rfl⟩
abbrev main_v257 : Ref sig .tc := ⟨.hbm, 366, rfl⟩
abbrev main_v258 : Ref sig .tc := ⟨.hbm, 367, rfl⟩
abbrev main_v259 : Ref sig .tc := ⟨.hbm, 368, rfl⟩
abbrev main_v260 : Ref sig .tc := ⟨.hbm, 369, rfl⟩
abbrev main_cst_55 : Ref sig .tc := ⟨.hbm, 370, rfl⟩
abbrev main_v261 : Ref sig .tc := ⟨.hbm, 371, rfl⟩
abbrev main_v262 : Ref sig .tc := ⟨.hbm, 372, rfl⟩
abbrev main_v263 : Ref sig .tc := ⟨.hbm, 373, rfl⟩
abbrev main_cst_56 : Ref sig .tc := ⟨.hbm, 374, rfl⟩
abbrev main_v264 : Ref sig .tc := ⟨.hbm, 375, rfl⟩
abbrev main_v265 : Ref sig .tc := ⟨.hbm, 376, rfl⟩
abbrev main_v266 : Ref sig .tc := ⟨.hbm, 377, rfl⟩
abbrev main_cst_57 : Ref sig .tc := ⟨.hbm, 378, rfl⟩
abbrev main_v267 : Ref sig .tc := ⟨.hbm, 379, rfl⟩
abbrev main_v268 : Ref sig .tc := ⟨.hbm, 380, rfl⟩
abbrev main_v269 : Ref sig .tc := ⟨.hbm, 381, rfl⟩
abbrev main_v270 : Ref sig .tc := ⟨.hbm, 382, rfl⟩
abbrev main_v271 : Ref sig .tc := ⟨.hbm, 383, rfl⟩
abbrev main_cst_58 : Ref sig .tc := ⟨.hbm, 384, rfl⟩
abbrev main_v272 : Ref sig .tc := ⟨.hbm, 385, rfl⟩
abbrev main_v273 : Ref sig .tc := ⟨.hbm, 386, rfl⟩
abbrev main_v274 : Ref sig .tc := ⟨.hbm, 387, rfl⟩
abbrev main_v275 : Ref sig .tc := ⟨.hbm, 388, rfl⟩
abbrev main_cst_59 : Ref sig .tc := ⟨.hbm, 389, rfl⟩
abbrev main_v276 : Ref sig .tc := ⟨.hbm, 390, rfl⟩
abbrev main_v277 : Ref sig .tc := ⟨.hbm, 391, rfl⟩
abbrev main_v278 : Ref sig .tc := ⟨.hbm, 392, rfl⟩
abbrev main_v279 : Ref sig .tc := ⟨.hbm, 393, rfl⟩
abbrev main_v280 : Ref sig .tc := ⟨.hbm, 394, rfl⟩
abbrev main_v281 : Ref sig .tc := ⟨.hbm, 395, rfl⟩
abbrev main_v282 : Ref sig .tc := ⟨.hbm, 396, rfl⟩
abbrev main_v283 : Ref sig .tc := ⟨.hbm, 397, rfl⟩
abbrev main_v284 : Ref sig .tc := ⟨.hbm, 398, rfl⟩
abbrev main_v285 : Ref sig .tc := ⟨.hbm, 399, rfl⟩
abbrev main_v286 : Ref sig .tc := ⟨.hbm, 400, rfl⟩
abbrev main_v287 : Ref sig .tc := ⟨.hbm, 401, rfl⟩
abbrev main_v288 : Ref sig .tc := ⟨.hbm, 402, rfl⟩
abbrev main_v289 : Ref sig .tc := ⟨.hbm, 403, rfl⟩
abbrev main_v290 : Ref sig .tc := ⟨.hbm, 404, rfl⟩
abbrev main_v291 : Ref sig .tc := ⟨.hbm, 405, rfl⟩
abbrev main_cst_60 : Ref sig .tc := ⟨.hbm, 406, rfl⟩
abbrev main_v292 : Ref sig .tc := ⟨.hbm, 407, rfl⟩
abbrev main_v293 : Ref sig .tc := ⟨.hbm, 408, rfl⟩
abbrev main_v294 : Ref sig .tc := ⟨.hbm, 409, rfl⟩
abbrev main_v295 : Ref sig .tc := ⟨.hbm, 410, rfl⟩
abbrev main_v296 : Ref sig .tc := ⟨.hbm, 411, rfl⟩
abbrev main_v297 : Ref sig .tc := ⟨.hbm, 412, rfl⟩
abbrev main_cst_61 : Ref sig .tc := ⟨.hbm, 413, rfl⟩
abbrev main_v298 : Ref sig .tc := ⟨.hbm, 414, rfl⟩
abbrev main_v299 : Ref sig .tc := ⟨.hbm, 415, rfl⟩
abbrev main_cst_62 : Ref sig .tc := ⟨.hbm, 416, rfl⟩
abbrev main_v300 : Ref sig .tc := ⟨.hbm, 417, rfl⟩
abbrev main_v301 : Ref sig .tc := ⟨.hbm, 418, rfl⟩
abbrev main_cst_63 : Ref sig .tc := ⟨.hbm, 419, rfl⟩
abbrev main_v302 : Ref sig .tc := ⟨.hbm, 420, rfl⟩
abbrev main_v303 : Ref sig .tc := ⟨.hbm, 421, rfl⟩
abbrev main_v304 : Ref sig .tc := ⟨.hbm, 422, rfl⟩
abbrev main_v305 : Ref sig .tc := ⟨.hbm, 423, rfl⟩
abbrev main_v306 : Ref sig .tc := ⟨.hbm, 424, rfl⟩
abbrev main_v307 : Ref sig .tc := ⟨.hbm, 425, rfl⟩
abbrev main_v308 : Ref sig .tc := ⟨.hbm, 426, rfl⟩
abbrev main_cst_64 : Ref sig .tc := ⟨.hbm, 427, rfl⟩
abbrev main_v309 : Ref sig .tc := ⟨.hbm, 428, rfl⟩
abbrev main_v310 : Ref sig .tc := ⟨.hbm, 429, rfl⟩
abbrev main_cst_65 : Ref sig .tc := ⟨.hbm, 430, rfl⟩
abbrev main_v311 : Ref sig .tc := ⟨.hbm, 431, rfl⟩
abbrev main_v312 : Ref sig .tc := ⟨.hbm, 432, rfl⟩
abbrev main_v313 : Ref sig .tc := ⟨.hbm, 433, rfl⟩
abbrev main_cst_66 : Ref sig .tc := ⟨.hbm, 434, rfl⟩
abbrev main_v314 : Ref sig .tc := ⟨.hbm, 435, rfl⟩
abbrev main_v315 : Ref sig .tc := ⟨.hbm, 436, rfl⟩
abbrev main_v316 : Ref sig .tc := ⟨.hbm, 437, rfl⟩
abbrev main_v317 : Ref sig .tc := ⟨.hbm, 438, rfl⟩
abbrev main_v318 : Ref sig .tc := ⟨.hbm, 439, rfl⟩
abbrev main_v319 : Ref sig .tc := ⟨.hbm, 440, rfl⟩
abbrev main_v320 : Ref sig .tc := ⟨.hbm, 441, rfl⟩
abbrev main_cst_67 : Ref sig .tc := ⟨.hbm, 442, rfl⟩
abbrev main_v321 : Ref sig .tc := ⟨.hbm, 443, rfl⟩
abbrev main_v322 : Ref sig .tc := ⟨.hbm, 444, rfl⟩
abbrev main_cst_68 : Ref sig .tc := ⟨.hbm, 445, rfl⟩
abbrev main_v323 : Ref sig .tc := ⟨.hbm, 446, rfl⟩
abbrev main_v324 : Ref sig .tc := ⟨.hbm, 447, rfl⟩
abbrev main_v325 : Ref sig .tc := ⟨.hbm, 448, rfl⟩
abbrev main_cst_69 : Ref sig .tc := ⟨.hbm, 449, rfl⟩
abbrev main_v326 : Ref sig .tc := ⟨.hbm, 450, rfl⟩
abbrev main_v327 : Ref sig .tc := ⟨.hbm, 451, rfl⟩
abbrev main_v328 : Ref sig .tc := ⟨.hbm, 452, rfl⟩
abbrev main_v329 : Ref sig .tc := ⟨.hbm, 453, rfl⟩
abbrev main_v330 : Ref sig .tc := ⟨.hbm, 454, rfl⟩
abbrev main_v331 : Ref sig .tc := ⟨.hbm, 455, rfl⟩
abbrev main_v332 : Ref sig .tc := ⟨.hbm, 456, rfl⟩
abbrev main_cst_70 : Ref sig .tc := ⟨.hbm, 457, rfl⟩
abbrev main_v333 : Ref sig .tc := ⟨.hbm, 458, rfl⟩
abbrev main_v334 : Ref sig .tc := ⟨.hbm, 459, rfl⟩
abbrev main_cst_71 : Ref sig .tc := ⟨.hbm, 460, rfl⟩
abbrev main_v335 : Ref sig .tc := ⟨.hbm, 461, rfl⟩
abbrev main_v336 : Ref sig .tc := ⟨.hbm, 462, rfl⟩
abbrev main_call5_call0_cst : Ref sig .tc := ⟨.hbm, 463, rfl⟩
abbrev main_call5_call0_v0 : Ref sig .tc := ⟨.hbm, 464, rfl⟩
abbrev main_v337 : Ref sig .tc := ⟨.hbm, 465, rfl⟩
abbrev main_v338 : Ref sig .tc := ⟨.hbm, 466, rfl⟩
abbrev main_cst_72 : Ref sig .tc := ⟨.hbm, 467, rfl⟩
abbrev main_v339 : Ref sig .tc := ⟨.hbm, 468, rfl⟩
abbrev main_cst_73 : Ref sig .tc := ⟨.hbm, 469, rfl⟩
abbrev main_v340 : Ref sig .tc := ⟨.hbm, 470, rfl⟩
abbrev main_v341 : Ref sig .tc := ⟨.hbm, 471, rfl⟩
abbrev main_cst_74 : Ref sig .tc := ⟨.hbm, 472, rfl⟩
abbrev main_v342 : Ref sig .tc := ⟨.hbm, 473, rfl⟩
abbrev main_v343 : Ref sig .tc := ⟨.hbm, 474, rfl⟩
abbrev main_cst_75 : Ref sig .tc := ⟨.hbm, 475, rfl⟩
abbrev main_v344 : Ref sig .tc := ⟨.hbm, 476, rfl⟩
abbrev main_v345 : Ref sig .tc := ⟨.hbm, 477, rfl⟩
abbrev main_cst_76 : Ref sig .tc := ⟨.hbm, 478, rfl⟩
abbrev main_v346 : Ref sig .tc := ⟨.hbm, 479, rfl⟩
abbrev main_v347 : Ref sig .tc := ⟨.hbm, 480, rfl⟩
abbrev main_cst_77 : Ref sig .tc := ⟨.hbm, 481, rfl⟩
abbrev main_v348 : Ref sig .tc := ⟨.hbm, 482, rfl⟩
abbrev main_v349 : Ref sig .tc := ⟨.hbm, 483, rfl⟩
abbrev main_cst_78 : Ref sig .tc := ⟨.hbm, 484, rfl⟩
abbrev main_v350 : Ref sig .tc := ⟨.hbm, 485, rfl⟩
abbrev main_v351 : Ref sig .tc := ⟨.hbm, 486, rfl⟩
abbrev main_v352 : Ref sig .tc := ⟨.hbm, 487, rfl⟩
abbrev main_v353 : Ref sig .tc := ⟨.hbm, 488, rfl⟩
abbrev main_v354 : Ref sig .tc := ⟨.hbm, 489, rfl⟩
abbrev main_v355 : Ref sig .tc := ⟨.hbm, 490, rfl⟩
abbrev main_v356 : Ref sig .tc := ⟨.hbm, 491, rfl⟩
abbrev main_v357 : Ref sig .tc := ⟨.hbm, 492, rfl⟩
abbrev main_v358 : Ref sig .tc := ⟨.hbm, 493, rfl⟩
abbrev main_v359 : Ref sig .tc := ⟨.hbm, 494, rfl⟩
abbrev main_v360 : Ref sig .tc := ⟨.hbm, 495, rfl⟩
abbrev main_v361 : Ref sig .tc := ⟨.hbm, 496, rfl⟩
abbrev main_v362 : Ref sig .tc := ⟨.hbm, 497, rfl⟩
abbrev main_v363 : Ref sig .tc := ⟨.hbm, 498, rfl⟩
abbrev main_v364 : Ref sig .tc := ⟨.hbm, 499, rfl⟩
abbrev main_v365 : Ref sig .tc := ⟨.hbm, 500, rfl⟩
abbrev main_cst_79 : Ref sig .tc := ⟨.hbm, 501, rfl⟩
abbrev main_v366 : Ref sig .tc := ⟨.hbm, 502, rfl⟩
abbrev main_v367 : Ref sig .tc := ⟨.hbm, 503, rfl⟩
abbrev main_v368 : Ref sig .tc := ⟨.hbm, 504, rfl⟩
abbrev main_cst_80 : Ref sig .tc := ⟨.hbm, 505, rfl⟩
abbrev main_v369 : Ref sig .tc := ⟨.hbm, 506, rfl⟩
abbrev main_v370 : Ref sig .tc := ⟨.hbm, 507, rfl⟩

abbrev nD : Nat := 1
abbrev τ : Topo := Topo.v7x

variable {F : FTy → Type} [FloatOps F]
-- ==== KernelFb.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩
abbrev S1024x4x1024 : Shape := ⟨3, ![1024, 4, 1024]⟩
abbrev S4x1024x1024 : Shape := ⟨3, ![4, 1024, 1024]⟩
abbrev S8x1024 : Shape := ⟨2, ![8, 1024]⟩
abbrev S256x1024 : Shape := ⟨2, ![256, 1024]⟩
abbrev S256x4096 : Shape := ⟨2, ![256, 4096]⟩
abbrev S1x1024x1024 : Shape := ⟨3, ![1, 1024, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 54
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x4096, .f32⟩
  | .hbm, ⟨42, _⟩ => ⟨S4096x1024, .bf16⟩
  | .hbm, ⟨43, _⟩ => ⟨S1024x4096, .bf16⟩
  | .hbm, ⟨44, _⟩ => ⟨S1024x4x1024, .bf16⟩
  | .hbm, ⟨45, _⟩ => ⟨S4x1024x1024, .bf16⟩
  | .hbm, ⟨46, _⟩ => ⟨S4096x1024, .bf16⟩
  | .hbm, ⟨47, _⟩ => ⟨S4x1024x1024, .bf16⟩
  | .hbm, ⟨48, _⟩ => ⟨S1x1024, .f32⟩
  | .hbm, ⟨49, _⟩ => ⟨S1x1024, .f32⟩
  | .hbm, ⟨50, _⟩ => ⟨S4096x4096, .bf16⟩
  | .hbm, ⟨51, _⟩ => ⟨S4096x1024, .f32⟩
  | .hbm, ⟨52, _⟩ => ⟨S4096x1024, .bf16⟩
  | .hbm, ⟨53, _⟩ => ⟨S8x1024, .f32⟩
  | .local _ .vmem, ⟨0, _⟩ => ⟨S256x1024, .bf16⟩
  | .local _ .vmem, ⟨1, _⟩ => ⟨S256x1024, .bf16⟩
  | .local _ .vmem, ⟨2, _⟩ => ⟨S256x4096, .f32⟩
  | .local _ .vmem, ⟨3, _⟩ => ⟨S256x4096, .f32⟩
  | .local _ .vmem, ⟨4, _⟩ => ⟨S4x1024x1024, .bf16⟩
  | .local _ .vmem, ⟨5, _⟩ => ⟨S4x1024x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S1x1024, .f32⟩
  | .local _ .vmem, ⟨14, _⟩ => ⟨S256x4096, .bf16⟩
  | .local _ .vmem, ⟨15, _⟩ => ⟨S256x4096, .bf16⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36_0 : Ref sig .tc := ⟨.hbm, 50, rfl⟩
abbrev main_v36_1 : Ref sig .tc := ⟨.hbm, 51, rfl⟩
abbrev main_v36_2 : Ref sig .tc := ⟨.hbm, 52, rfl⟩
abbrev main_v36_3 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== RefFbIdeal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096x4096 : Shape := ⟨2, ![4096, 4096]⟩
abbrev S4096 : Shape := ⟨1, ![4096]⟩
abbrev S4096x1 : Shape := ⟨2, ![4096, 1]⟩
abbrev S1x1024 : Shape := ⟨2, ![1, 1024]⟩
abbrev S6x1024 : Shape := ⟨2, ![6, 1024]⟩
abbrev S8x1024 : Shape := ⟨2, ![8, 1024]⟩

abbrev nBuf : Space → Nat
  | .hbm => 131
  | .vmem => 0
  | .smem => 0
  | _ => 0

abbrev hbmTy0_0 (i : Nat) : BufTy := match i % 128 with
  | 0 => ⟨S4096x1024, .f32⟩
  | 1 => ⟨S4096x1024, .f32⟩
  | 2 => ⟨S1024, .f32⟩
  | 3 => ⟨S1024, .f32⟩
  | 4 => ⟨S1024x4096, .f32⟩
  | 5 => ⟨S4096x1024, .f32⟩
  | 6 => ⟨S4096x1024, .f32⟩
  | 7 => ⟨S4096x1024, .f32⟩
  | 8 => ⟨S_, .f32⟩
  | 9 => ⟨S4096x4096, .f32⟩
  | 10 => ⟨S4096x1024, .f32⟩
  | 11 => ⟨S_, .f32⟩
  | 12 => ⟨S4096, .f32⟩
  | 13 => ⟨S4096x1, .f32⟩
  | 14 => ⟨S_, .f32⟩
  | 15 => ⟨S4096x1, .f32⟩
  | 16 => ⟨S4096x1, .f32⟩
  | 17 => ⟨S_, .f32⟩
  | 18 => ⟨S4096x1, .f32⟩
  | 19 => ⟨S4096x1, .f32⟩
  | 20 => ⟨S4096x1, .f32⟩
  | 21 => ⟨S4096x1, .f32⟩
  | 22 => ⟨S_, .f32⟩
  | 23 => ⟨S4096x1, .f32⟩
  | 24 => ⟨S4096x1, .f32⟩
  | 25 => ⟨S4096x1024, .f32⟩
  | 26 => ⟨S4096x1024, .f32⟩
  | 27 => ⟨S1x1024, .f32⟩
  | 28 => ⟨S4096x1024, .f32⟩
  | 29 => ⟨S4096x1024, .f32⟩
  | 30 => ⟨S4096x1024, .f32⟩
  | 31 => ⟨S4096x1024, .f32⟩
  | 32 => ⟨S_, .f32⟩
  | 33 => ⟨S4096, .f32⟩
  | 34 => ⟨S4096x1, .f32⟩
  | 35 => ⟨S_, .f32⟩
  | 36 => ⟨S4096x1, .f32⟩
  | 37 => ⟨S4096x1, .f32⟩
  | 38 => ⟨S_, .f32⟩
  | 39 => ⟨S4096x1, .f32⟩
  | 40 => ⟨S4096x1, .f32⟩
  | 41 => ⟨S4096x1, .f32⟩
  | 42 => ⟨S4096x1, .f32⟩
  | 43 => ⟨S_, .f32⟩
  | 44 => ⟨S4096x1, .f32⟩
  | 45 => ⟨S4096x1, .f32⟩
  | 46 => ⟨S4096x1024, .f32⟩
  | 47 => ⟨S4096x1024, .f32⟩
  | 48 => ⟨S1x1024, .f32⟩
  | 49 => ⟨S4096x1024, .f32⟩
  | 50 => ⟨S4096x1024, .f32⟩
  | 51 => ⟨S4096x4096, .f32⟩
  | 52 => ⟨S4096x4096, .f32⟩
  | 53 => ⟨S_, .f32⟩
  | 54 => ⟨S4096x4096, .f32⟩
  | 55 => ⟨S4096x4096, .f32⟩
  | 56 => ⟨S_, .f32⟩
  | 57 => ⟨S4096x4096, .f32⟩
  | 58 => ⟨S4096x4096, .i1⟩
  | 59 => ⟨S_, .f32⟩
  | 60 => ⟨S4096x4096, .f32⟩
  | 61 => ⟨S4096x4096, .f32⟩
  | 62 => ⟨S_, .f32⟩
  | 63 => ⟨S4096x4096, .f32⟩
  | 64 => ⟨S4096x4096, .f32⟩
  | 65 => ⟨S4096x1024, .f32⟩
  | 66 => ⟨S4096x4096, .f32⟩
  | 67 => ⟨S4096x4096, .f32⟩
  | 68 => ⟨S_, .f32⟩
  | 69 => ⟨S4096x4096, .f32⟩
  | 70 => ⟨S4096x4096, .f32⟩
  | 71 => ⟨S4096x1024, .f32⟩
  | 72 => ⟨S4096x1024, .f32⟩
  | 73 => ⟨S_, .f32⟩
  | 74 => ⟨S1024, .f32⟩
  | 75 => ⟨S1x1024, .f32⟩
  | 76 => ⟨S4096x1024, .f32⟩
  | 77 => ⟨S4096x1024, .f32⟩
  | 78 => ⟨S_, .f32⟩
  | 79 => ⟨S1024, .f32⟩
  | 80 => ⟨S4096x1024, .f32⟩
  | 81 => ⟨S_, .f32⟩
  | 82 => ⟨S4096, .f32⟩
  | 83 => ⟨S4096x1, .f32⟩
  | 84 => ⟨S4096x1024, .f32⟩
  | 85 => ⟨S4096x1024, .f32⟩
  | 86 => ⟨S4096x1024, .f32⟩
  | 87 => ⟨S4096x1, .f32⟩
  | 88 => ⟨S_, .f32⟩
  | 89 => ⟨S4096x1, .f32⟩
  | 90 => ⟨S4096x1, .f32⟩
  | 91 => ⟨S_, .f32⟩
  | 92 => ⟨S4096, .f32⟩
  | 93 => ⟨S4096x1024, .f32⟩
  | 94 => ⟨S4096x1024, .f32⟩
  | 95 => ⟨S4096x1024, .f32⟩
  | 96 => ⟨S4096x1024, .f32⟩
  | 97 => ⟨S4096x1024, .f32⟩
  | 98 => ⟨S4096x1024, .f32⟩
  | 99 => ⟨S4096x1024, .f32⟩
  | 100 => ⟨S_, .f32⟩
  | 101 => ⟨S1024, .f32⟩
  | 102 => ⟨S1x1024, .f32⟩
  | 103 => ⟨S4096x1024, .f32⟩
  | 104 => ⟨S4096x1024, .f32⟩
  | 105 => ⟨S_, .f32⟩
  | 106 => ⟨S1024, .f32⟩
  | 107 => ⟨S4096x1024, .f32⟩
  | 108 => ⟨S_, .f32⟩
  | 109 => ⟨S4096, .f32⟩
  | 110 => ⟨S4096x1, .f32⟩
  | 111 => ⟨S4096x1024, .f32⟩
  | 112 => ⟨S4096x1024, .f32⟩
  | 113 => ⟨S4096x1, .f32⟩
  | 114 => ⟨S_, .f32⟩
  | 115 => ⟨S4096x1, .f32⟩
  | 116 => ⟨S4096x1, .f32⟩
  | 117 => ⟨S_, .f32⟩
  | 118 => ⟨S4096, .f32⟩
  | 119 => ⟨S4096x1024, .f32⟩
  | 120 => ⟨S4096x1024, .f32⟩
  | 121 => ⟨S4096x1024, .f32⟩
  | 122 => ⟨S4096x1024, .f32⟩
  | 123 => ⟨S4096x1024, .f32⟩
  | 124 => ⟨S4096x4096, .bf16⟩
  | 125 => ⟨S4096x1024, .bf16⟩
  | 126 => ⟨S1x1024, .f32⟩
  | 127 => ⟨S1x1024, .f32⟩
  | _ => ⟨S4096x1024, .f32⟩

abbrev hbmTy0_1 (i : Nat) : BufTy := match i % 128 with
  | 0 => ⟨S_, .f32⟩
  | 1 => ⟨S6x1024, .f32⟩
  | 2 => ⟨S8x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_call0_cst : Ref sig .tc := ⟨.hbm, 53, rfl⟩
abbrev main_call0_v0 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_cst_10 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_11 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_12 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_13 : Ref sig .tc := ⟨.hbm, 78, rfl⟩
abbrev main_v54 : Ref sig .tc := ⟨.hbm, 79, rfl⟩
abbrev main_v55 : Ref sig .tc := ⟨.hbm, 80, rfl⟩
abbrev main_cst_14 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_15 : Ref sig .tc := ⟨.hbm, 88, rfl⟩
abbrev main_v62 : Ref sig .tc := ⟨.hbm, 89, rfl⟩
abbrev main_v63 : Ref sig .tc := ⟨.hbm, 90, rfl⟩
abbrev main_cst_16 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_17 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_18 : Ref sig .tc := ⟨.hbm, 105, rfl⟩
abbrev main_v76 : Ref sig .tc := ⟨.hbm, 106, rfl⟩
abbrev main_v77 : Ref sig .tc := ⟨.hbm, 107, rfl⟩
abbrev main_cst_19 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_20 : Ref sig .tc := ⟨.hbm, 114, rfl⟩
abbrev main_v83 : Ref sig .tc := ⟨.hbm, 115, rfl⟩
abbrev main_v84 : Ref sig .tc := ⟨.hbm, 116, rfl⟩
abbrev main_cst_21 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_22 : Ref sig .tc := ⟨.hbm, 128, rfl⟩
abbrev main_v95 : Ref sig .tc := ⟨.hbm, 129, rfl⟩
abbrev main_v96 : Ref sig .tc := ⟨.hbm, 130, rfl⟩

abbrev nD : Nat := 1
abbrev τ : Topo := Topo.v7x

variable {F : FTy → Type} [FloatOps F]
-- ==== KernelFf.lean ====
abbrev S4096x1024 : Shape := ⟨2, ![4096, 1024]⟩
abbrev S1024 : Shape := ⟨1, ![1024]⟩
abbrev S1024x4096 : Shape := ⟨2, ![1024, 4096]⟩
abbrev S1x1024 : Shape := ⟨2, ![1, 1024]⟩
abbrev S1024x4x1024 : Shape := ⟨3, ![1024, 4, 1024]⟩
abbrev S4x1024x1024 : Shape := ⟨3, ![4, 1024, 1024]⟩
abbrev S4096x4096 : Shape := ⟨2, ![4096, 4096]⟩
abbrev S8x1024 : Shape := ⟨2, ![8, 1024]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S1x1024x1024 : Shape := ⟨3, ![1, 1024, 1024]⟩
abbrev S1024x1024 : Shape := ⟨2, ![1024, 1024]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 19
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S1x1024, .f32⟩
  | .hbm, ⟨7, _⟩ => ⟨S1024x4096, .bf16⟩
  | .hbm, ⟨8, _⟩ => ⟨S1024x4x1024, .bf16⟩
  | .hbm, ⟨9, _⟩ => ⟨S4x1024x1024, .bf16⟩
  | .hbm, ⟨10, _⟩ => ⟨S4096x1024, .bf16⟩
  | .hbm, ⟨11, _⟩ => ⟨S4x1024x1024, .bf16⟩
  | .hbm, ⟨12, _⟩ => ⟨S1x1024, .f32⟩
  | .hbm, ⟨13, _⟩ => ⟨S4096x1024, .bf16⟩
  | .hbm, ⟨14, _⟩ => ⟨S4096x4096, .f32⟩
  | .hbm, ⟨15, _⟩ => ⟨S4096x4096, .bf16⟩
  | .hbm, ⟨16, _⟩ => ⟨S4096x1024, .bf16⟩
  | .hbm, ⟨17, _⟩ => ⟨S4096x1024, .f32⟩
  | .hbm, ⟨18, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4x1024x1024, .bf16⟩
  | .local _ .vmem, ⟨4, _⟩ => ⟨S4x1024x1024, .bf16⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S256x4096, .f32⟩
  | .local _ .vmem, ⟨11, _⟩ => ⟨S256x4096, .f32⟩
  | .local _ .vmem, ⟨12, _⟩ => ⟨S256x4096, .bf16⟩
  | .local _ .vmem, ⟨13, _⟩ => ⟨S256x4096, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .f32⟩
  | .local _ .vmem, ⟨17, _⟩ => ⟨S256x1024, .f32⟩
  | .local _ .vmem, ⟨18, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v7_4 : Ref sig .tc := ⟨.hbm, 17, rfl⟩
abbrev main_v7_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== RefFfIdeal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩
abbrev S6x1024 : Shape := ⟨2, ![6, 1024]⟩
abbrev S8x1024 : Shape := ⟨2, ![8, 1024]⟩

abbrev nBuf : Space → Nat
  | .hbm => 105
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S_, .f32⟩
  | .hbm, ⟨57, _⟩ => ⟨S4096, .f32⟩
  | .hbm, ⟨58, _⟩ => ⟨S4096, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S4096, .f32⟩
  | .hbm, ⟨67, _⟩ => ⟨S_, .f32⟩
  | .hbm, ⟨68, _⟩ => ⟨S4096, .f32⟩
  | .hbm, ⟨69, _⟩ => ⟨S4096, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S1024, .f32⟩
  | .hbm, ⟨80, _⟩ => ⟨S4096x1024, .f32⟩
  | .hbm, ⟨81, _⟩ => ⟨S_, .f32⟩
  | .hbm, ⟨82, _⟩ => ⟨S4096, .f32⟩
  | .hbm, ⟨83, _⟩ => ⟨S4096x1, .f32⟩
  | .hbm, ⟨84, _⟩ => ⟨S4096x1024, .f32⟩
  | .hbm, ⟨85, _⟩ => ⟨S4096x1024, .f32⟩
  | .hbm, ⟨86, _⟩ => ⟨S4096x1, .f32⟩
  | .hbm, ⟨87, _⟩ => ⟨S_, .f32⟩
  | .hbm, ⟨88, _⟩ => ⟨S4096x1, .f32⟩
  | .hbm, ⟨89, _⟩ => ⟨S4096x1, .f32⟩
  | .hbm, ⟨90, _⟩ => ⟨S_, .f32⟩
  | .hbm, ⟨91, _⟩ => ⟨S4096, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .bf16⟩
  | .hbm, ⟨98, _⟩ => ⟨S4096x4096, .bf16⟩
  | .hbm, ⟨99, _⟩ => ⟨S4096x1024, .bf16⟩
  | .hbm, ⟨100, _⟩ => ⟨S1x1024, .f32⟩
  | .hbm, ⟨101, _⟩ => ⟨S1x1024, .f32⟩
  | .hbm, ⟨102, _⟩ => ⟨S_, .f32⟩
  | .hbm, ⟨103, _⟩ => ⟨S6x1024, .f32⟩
  | .hbm, ⟨104, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_cst_11 : Ref sig .tc := ⟨.hbm, 63, rfl⟩
abbrev main_cst_12 : Ref sig .tc := ⟨.hbm, 64, rfl⟩
abbrev main_v43 : Ref sig .tc := ⟨.hbm, 65, rfl⟩
abbrev main_v44 : Ref sig .tc := ⟨.hbm, 66, rfl⟩
abbrev main_cst_13 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_14 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_15 : Ref sig .tc := ⟨.hbm, 78, rfl⟩
abbrev main_v54 : Ref sig .tc := ⟨.hbm, 79, rfl⟩
abbrev main_v55 : Ref sig .tc := ⟨.hbm, 80, rfl⟩
abbrev main_cst_16 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_17 : Ref sig .tc := ⟨.hbm, 87, rfl⟩
abbrev main_v61 : Ref sig .tc := ⟨.hbm, 88, rfl⟩
abbrev main_v62 : Ref sig .tc := ⟨.hbm, 89, rfl⟩
abbrev main_cst_18 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_19 : Ref sig .tc := ⟨.hbm, 102, rfl⟩
abbrev main_v74 : Ref sig .tc := ⟨.hbm, 103, rfl⟩
abbrev main_v75 : Ref sig .tc := ⟨.hbm, 104, rfl⟩

abbrev nD : Nat := 1
abbrev τ : Topo := Topo.v7x

variable {F : FTy → Type} [FloatOps F]
-- ==== KernelIp.lean ====
abbrev S1 : Shape := ⟨1, ![1]⟩
abbrev S4096x1024 : Shape := ⟨2, ![4096, 1024]⟩
abbrev S1024 : Shape := ⟨1, ![1024]⟩
abbrev S1024x1280 : Shape := ⟨2, ![1024, 1280]⟩
abbrev S5120 : Shape := ⟨1, ![5120]⟩
abbrev S1x1024 : Shape := ⟨2, ![1, 1024]⟩
abbrev S1x5120 : Shape := ⟨2, ![1, 5120]⟩
abbrev S_ : Shape := ⟨0, ![]⟩
abbrev S8x128 : Shape := ⟨2, ![8, 128]⟩
abbrev S4096x5120 : Shape := ⟨2, ![4096, 5120]⟩
abbrev S1024x1024 : Shape := ⟨2, ![1024, 1024]⟩
abbrev S1x1280 : Shape := ⟨2, ![1, 1280]⟩
abbrev S1024x1 : Shape := ⟨2, ![1024, 1]⟩

abbrev nBuf : Space → Nat
  | .hbm => 11
  | .vmem => 10
  | .smem => 1
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1280, .f32⟩
  | .hbm, ⟨3, _⟩ => ⟨S5120, .f32⟩
  | .hbm, ⟨4, _⟩ => ⟨S1x1024, .f32⟩
  | .hbm, ⟨5, _⟩ => ⟨S1024x1280, .bf16⟩
  | .hbm, ⟨6, _⟩ => ⟨S1x5120, .f32⟩
  | .hbm, ⟨7, _⟩ => ⟨S_, .f32⟩
  | .hbm, ⟨8, _⟩ => ⟨S8x128, .f32⟩
  | .hbm, ⟨9, _⟩ => ⟨S4096x5120, .f32⟩
  | .hbm, ⟨10, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1280, .bf16⟩
  | .local _ .vmem, ⟨4, _⟩ => ⟨S1x1280, .f32⟩
  | .local _ .vmem, ⟨5, _⟩ => ⟨S8x128, .f32⟩
  | .local _ .vmem, ⟨6, _⟩ => ⟨S1024x1280, .f32⟩
  | .local _ .vmem, ⟨7, _⟩ => ⟨S1024x1280, .f32⟩
  | .local _ .vmem, ⟨8, _⟩ => ⟨S1024x1024, .bf16⟩
  | .local _ .vmem, ⟨9, _⟩ => ⟨S1024x1024, .bf16⟩
  | .local _ .smem, ⟨0, _⟩ => ⟨S1, .i32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  ![arg0.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefIpIdeal.lean ====
abbrev S1 : Shape := ⟨1, ![1]⟩
abbrev S4096x1024 : Shape := ⟨2, ![4096, 1024]⟩
abbrev S1024 : Shape := ⟨1, ![1024]⟩
abbrev S1024x1280 : Shape := ⟨2, ![1024, 1280]⟩
abbrev S5120 : Shape := ⟨1, ![5120]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S1, .i32⟩
  | .hbm, ⟨1, _⟩ => ⟨S4096x1024, .f32⟩
  | .hbm, ⟨2, _⟩ => ⟨S1024, .f32⟩
  | .hbm, ⟨3, _⟩ => ⟨S1024x1280, .f32⟩
  | .hbm, ⟨4, _⟩ => ⟨S5120, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== Proof.Reals.lean ====
/- Real-number facts shared by the value proofs: what the printed words denote, how the extended-real
   operations act on real numbers, and that a finite array is an array of real numbers. -/
module

public import Idealize.ShloMosaic.PureOps.Ideal
public import Idealize.ShloMosaic.PureOps.Ideal.Laws
public import Idealize.ShloMosaic.Lib.IdealHost

@[expose] public section

noncomputable section

namespace Cert.Reals

open Idealize.ShloMosaic

/-! ### Words -/

theorem word_1024 : Ideal.ofBits .f32 0x44800000#32 = ((1024 : ℝ) : EReal) := by
  simp [Ideal.ofBits, Ideal.ieee, -EReal.coe_mul]; norm_num

theorem word_neg_half : Ideal.ofBits .f32 0xBF000000#32 = ((-(1 / 2) : ℝ) : EReal) := by
  simp [Ideal.ofBits, Ideal.ieee, -EReal.coe_mul]; norm_num

theorem word_inf : Ideal.ofBits .f32 0x7F800000#32 = (⊤ : EReal) := by
  simp [Ideal.ofBits, Ideal.ieee]

/-- The small constant under the roots, as the rational its word denotes. -/
def eps : ℝ := 8796093 / 2 ^ 43

theorem eps_pos : 0 < eps := by unfold eps; norm_num

theorem word_eps : Ideal.ofBits .f32 0x358637BD#32 = ((eps : ℝ) : EReal) := by
  unfold eps
  simp [Ideal.ofBits, Ideal.ieee, -EReal.coe_mul]; norm_num

/-! ### Operations on real numbers -/

theorem sum_coe {ι : Type*} (s : Finset ι) (f : ι → ℝ) : ∑ i ∈ s, ((f i : ℝ) : EReal) = ((∑ i ∈ s, f i : ℝ) : EReal) :=
  (map_sum (⟨⟨((↑) : ℝ → EReal), EReal.coe_zero⟩, EReal.coe_add⟩ : ℝ →+ EReal) f s).symm

theorem div_real {y : ℝ} (x : ℝ) (h : y ≠ 0) : Ideal.div (x : EReal) (y : EReal) = ((x / y : ℝ) : EReal) := by
  rw [Ideal.div_coe h, ← EReal.coe_mul, mul_one_div]

theorem rsqrt_real {r : ℝ} (h : 0 < r) : Ideal.rsqrt (r : EReal) = (((Real.sqrt r)⁻¹ : ℝ) : EReal) := by
  rw [Ideal.rsqrt_coe, if_neg (not_lt.mpr h.le), if_neg h.ne']

/-- The cube of a reciprocal root, as the derivative of the root writes it. -/
theorem inv_sqrt_div {s : ℝ} (h : 0 < s) : (Real.sqrt s)⁻¹ / s = (Real.sqrt s)⁻¹ ^ 3 := by
  have hs : Real.sqrt s ≠ 0 := (Real.sqrt_pos.mpr h).ne'
  nth_rewrite 2 [← Real.sq_sqrt h.le]
  field_simp

/-! ### The root-mean-square norm -/

/-- The mean of the squares plus the small constant: what the norm takes the root of. -/
def msq (x : Fin 1024 → ℝ) : ℝ := (∑ k, x k * x k) / 1024 + eps

theorem msq_pos (x : Fin 1024 → ℝ) : 0 < msq x :=
  add_pos_of_nonneg_of_pos (div_nonneg (Finset.sum_nonneg fun k _ => mul_self_nonneg (x k)) (by norm_num)) eps_pos

/-- The norm's factor. -/
def rinv (x : Fin 1024 → ℝ) : ℝ := (Real.sqrt (msq x))⁻¹

/-- The factor as the programs compute it. -/
theorem rinv_coe (x : Fin 1024 → ℝ) :
    Ideal.rsqrt (Ideal.div ((∑ k, x k * x k : ℝ) : EReal) ((1024 : ℝ) : EReal) + ((eps : ℝ) : EReal)) = ((rinv x : ℝ) : EReal) := by
  rw [div_real _ (by norm_num), ← EReal.coe_add]
  exact rsqrt_real (msq_pos x)

/-- The gradient of the norm: of `d` (the gradient of the normed row) at `x`, in the short form
    `r (d - n mean (d n))` with `n = x r`. -/
def rmsGrad (x d : Fin 1024 → ℝ) (l : Fin 1024) : ℝ :=
  rinv x * (d l - x l * rinv x * ((∑ k, d k * (x k * rinv x)) / 1024))

/-- The same as the chain rule writes it, through the derivative of the reciprocal root and of the square. -/
theorem rmsGrad_eq (x d : Fin 1024 → ℝ) (l : Fin 1024) :
    d l * rinv x + (x l * ((∑ k, x k * d k) * (-(1 / 2) * (rinv x / msq x)) / 1024)
      + (∑ k, x k * d k) * (-(1 / 2) * (rinv x / msq x)) / 1024 * x l) = rmsGrad x d l := by
  have h : rinv x / msq x = rinv x ^ 3 := inv_sqrt_div (msq_pos x)
  have hs : ∑ k, d k * (x k * rinv x) = (∑ k, x k * d k) * rinv x := by
    rw [Finset.sum_mul]; exact Finset.sum_congr rfl fun k _ => by ring
  rw [h, rmsGrad, hs]; ring

/-! ### Finite arrays -/

/-- An extended real that passes the finiteness test is a real number. -/
theorem real_of_test {x : EReal} (h : Ideal.cmp .olt (max x (-x)) ⊤ = 1#1) : ∃ r : ℝ, x = (r : EReal) := by
  have h' : max x (-x) < ⊤ := by
    by_contra hc
    simp [Ideal.cmp, hc] at h
  induction x using EReal.rec with
  | bot => simp at h'
  | top => simp at h'
  | coe r => exact ⟨r, rfl⟩

/-- An array whose every element passes the finiteness test is an array of real numbers. -/
theorem reals_of_test {ι : Type*} {x : ι → EReal} (h : ∀ i, Ideal.cmp .olt (max (x i) (-(x i))) ⊤ = 1#1) :
    ∃ r : ι → ℝ, x = fun i => (r i : EReal) :=
  ⟨fun i => (real_of_test (h i)).choose, funext fun i => (real_of_test (h i)).choose_spec⟩

/-- The finiteness test of a whole array, as the precondition computes it. -/
theorem reals_of_finite {s s₀ : Shape} {dims : Fin s₀.rank → Fin s.rank} {hb : s₀.BroadcastsInDim s dims} {x : FVec Ideal s .f32}
    (h : cmpf .olt (Host.absf x) (broadcastInDim s dims hb (constant s₀ .f32 0x7F800000#32)) = fun _ => 1#1) :
    ∃ r : s.Idx → ℝ, x = fun i => (r i : EReal) :=
  reals_of_test fun i => by
    have := congrFun h i
    rw [← word_inf]
    exact this

end Cert.Reals

end
-- ==== Proof.Rows.lean ====
module

public import Idealize.ShloMosaic.Lib.Pipeline.ValueKit
public import Idealize.ShloMosaic.Lib.WritesUnit
public import Idealize.ShloMosaic.Lib.Pointwise

/-!
A small result array is filled a few rows at a time: what stores of rectangles leave at an index of a rank-two array.
-/

@[expose] public section
noncomputable section

open Idealize.ShloMosaic

namespace Cert.Rows

variable {Val : EltTy → Type} {e : EltTy} {sig : RefSig} {κ : Kind} {sp : Space} {a b k l n w : ℕ}

/-- The index of a unit rectangle's element. -/
theorem emb_unit (inb : ∀ x : Fin 2, ![k, l] x + ![n, w] x ≤ (![a, b] : Fin 2 → ℕ) x) (i : Fin n) (j : Fin w) (I : Fin a) (J : Fin b)
    (hI : I.val = k + i.val) (hJ : J.val = l + j.val) :
    (Rect.unit (s := ⟨2, ![a, b]⟩) ![k, l] ![n, w] inb).emb (ix2 i j) = ix2 I J := by
  funext x
  match x with
  | ⟨0, _⟩ => exact Fin.ext (by show k + 1 * i.val = I.val; omega)
  | ⟨1, _⟩ => exact Fin.ext (by show l + 1 * j.val = J.val; omega)

/-- An index outside a unit rectangle. -/
theorem not_mem_unit (inb : ∀ x : Fin 2, ![k, l] x + ![n, w] x ≤ (![a, b] : Fin 2 → ℕ) x) (I : Fin a) (J : Fin b)
    (h : I.val < k ∨ k + n ≤ I.val ∨ J.val < l ∨ l + w ≤ J.val) :
    ix2 I J ∉ (Rect.unit (s := ⟨2, ![a, b]⟩) ![k, l] ![n, w] inb).set := by
  rw [Rect.mem_set_unit]
  intro hall
  have h0 : k ≤ I.val ∧ I.val < k + n := hall 0
  have h1 : l ≤ J.val ∧ J.val < l + w := hall 1
  omega

section canon

variable [∀ e, Nonempty (Val e)] (inb : ∀ x : Fin 2, ![k, l] x + ![n, w] x ≤ (![a, b] : Fin 2 → ℕ) x)
  (p : (⟨2, ![n, w]⟩ : Shape).Idx → Val e) (L : List (View.Piece Val ⟨2, ![a, b]⟩ e))

theorem canon_hit (i : Fin n) (j : Fin w) (I : Fin a) (J : Fin b) (hI : I.val = k + i.val) (hJ : J.val = l + j.val) :
    View.canon (⟨Rect.unit (s := ⟨2, ![a, b]⟩) ![k, l] ![n, w] inb, p⟩ :: L) (ix2 I J) = p (ix2 i j) := by
  rw [← emb_unit inb i j I J hI hJ]
  exact View.canon_cons_emb _ _ _ _

theorem canon_miss (I : Fin a) (J : Fin b) (h : I.val < k ∨ k + n ≤ I.val ∨ J.val < l ∨ l + w ≤ J.val) :
    View.canon (⟨Rect.unit (s := ⟨2, ![a, b]⟩) ![k, l] ![n, w] inb, p⟩ :: L) (ix2 I J) = View.canon L (ix2 I J) :=
  View.canon_cons_of_not_mem _ _ (not_mem_unit inb I J h)

end canon

section writes

variable (v : View sig κ sp ⟨2, ![a, b]⟩ e) (f : v.ty.Contents Val)
  (inb : ∀ x : Fin 2, ![k, l] x + ![n, w] x ≤ (![a, b] : Fin 2 → ℕ) x)
  (p : (⟨2, ![n, w]⟩ : Shape).Idx → Val e) (L : List (View.Piece Val ⟨2, ![a, b]⟩ e))

theorem read_hit (i : Fin n) (j : Fin w) (I : Fin a) (J : Fin b) (hI : I.val = k + i.val) (hJ : J.val = l + j.val) :
    v.read Val (v.writes Val f (⟨Rect.unit (s := ⟨2, ![a, b]⟩) ![k, l] ![n, w] inb, p⟩ :: L)) (ix2 I J) = p (ix2 i j) := by
  rw [← emb_unit inb i j I J hI hJ]
  exact View.read_writes_cons_emb _ _ _ _ _ _

theorem read_miss (I : Fin a) (J : Fin b) (h : I.val < k ∨ k + n ≤ I.val ∨ J.val < l ∨ l + w ≤ J.val) :
    v.read Val (v.writes Val f (⟨Rect.unit (s := ⟨2, ![a, b]⟩) ![k, l] ![n, w] inb, p⟩ :: L)) (ix2 I J)
      = v.read Val (v.writes Val f L) (ix2 I J) :=
  View.read_writes_cons_miss _ _ _ _ _ (not_mem_unit inb I J h)

end writes

end Cert.Rows
-- ==== Proof.Dx.Body.lean ====
module

public import proofs.«01_k».proof.Proof.Gen.KernelDxIdeal.Value
public import proofs.«01_k».proof.Proof.Reals
public import proofs.«01_k».proof.Proof.Rows
public import Idealize.ShloMosaic.Lib.Pointwise
public import Idealize.ShloMosaic.Lib.Pipeline.ValueKit

@[expose] public section

set_option maxRecDepth 16384

noncomputable section

namespace Cert.Dx

open Cert.KernelDxIdeal Cert.KernelDxIdeal.Gen Idealize.ShloMosaic Idealize.ShloMosaic.TcCoe Idealize.SL.Sem

variable (m : (ℓ : Loc nD τ sig) → Buf (Elt Ideal) ℓ)

theorem idx (t : Fin cfg0.N) : win0_0.index t = ![t.val, 0] ∧ win0_1.index t = ![0, 0, 0] ∧ win0_2.index t = ![t.val, 0]
    ∧ win0_3.index t = ![t.val, 0] ∧ win0_4.index t = ![0, 0] ∧ win0_6.index t = ![t.val, 0] :=
  (by decide +kernel : ∀ t : Fin grid0.N, win0_0.index t = ![t.val, 0] ∧ win0_1.index t = ![0, 0, 0] ∧ win0_2.index t = ![t.val, 0]
    ∧ win0_3.index t = ![t.val, 0] ∧ win0_4.index t = ![0, 0] ∧ win0_6.index t = ![t.val, 0]) t

theorem lt (t : Fin cfg0.N) : t.val < 8 := lt_of_lt_of_eq t.isLt rfl

/-- The row of the whole array that point `t` holds at row `r` of its block. -/
def row (t : Fin cfg0.N) (r : Fin 512) : Fin 4096 := ⟨t.val * 512 + r.val, by have := lt t; omega⟩

theorem blk2 (c : Dev nD) (t : Fin cfg0.N) (r : Fin 512) (k : Fin 1024) :
    iblk m c 2 t (ix2 r k) = m ((c : Thread nD τ).loc main_arg0) (ix2 (row t r) k) := by
  blk_ext [iblk, V, idx t, row]

theorem blk3 (c : Dev nD) (t : Fin cfg0.N) (r : Fin 512) (k : Fin 1024) :
    iblk m c 3 t (ix2 r k) = m ((c : Thread nD τ).loc main_arg3) (ix2 (row t r) k) := by
  blk_ext [iblk, V, idx t, row]

theorem blk4 (c : Dev nD) (t : Fin cfg0.N) (k : Fin 1024) :
    iblk m c 4 t (ix2 0 k) = m ((c : Thread nD τ).loc main_arg1) (ix1 k) := by
  blk_simp [iblk, V, idx t, row]
  entry_read
  pointwise
  blk_ext [idx t]

theorem blk0 (c : Dev nD) (t : Fin cfg0.N) (r : Fin 512) (k : Fin 5120) :
    iblk m c 0 t (ix2 r k) = m ((c : Thread nD τ).loc main_arg4) (ix2 (row t r) k) := by
  blk_ext [iblk, V, idx t, row]

theorem blk1 (c : Dev nD) (t : Fin cfg0.N) (s : Fin 4) (l : Fin 1024) (k : Fin 1280) :
    iblk m c 1 t (ix3 s l k) = m ((c : Thread nD τ).loc main_arg2) (ix2 l ⟨s.val * 1280 + k.val, by omega⟩) := by
  blk_simp [iblk, V, idx t, row]
  entry_read
  pointwise
  blk_ext [idx t]

/-! ### The point's values as real numbers -/

/-- The gradient of the normed input: a row of `dz` against a row of the weight. -/
def dxn (W : S1024x5120.Idx → ℝ) (Z : S4096x5120.Idx → ℝ) (s : Fin 4096) (l : Fin 1024) : ℝ := ∑ e : Fin 5120, Z (ix2 s e) * W (ix2 l e)

/-- A sum over the columns is the sum over the four chips' columns. -/
theorem sum_cut (f : Fin 5120 → ℝ) :
    ∑ e, f e = ∑ k : Fin 1280, f ⟨k.val, by omega⟩ + ∑ k : Fin 1280, f ⟨1280 + k.val, by omega⟩
      + ∑ k : Fin 1280, f ⟨2560 + k.val, by omega⟩ + ∑ k : Fin 1280, f ⟨3840 + k.val, by omega⟩ := by
  rw [show (∑ e, f e) = ∑ e : Fin (1280 + 1280 + 1280 + 1280), f e from rfl, Fin.sum_univ_add, Fin.sum_univ_add, Fin.sum_univ_add]
  rfl

section
variable {c : Dev nD} {X : S4096x1024.Idx → ℝ} {G : S1024.Idx → ℝ} {W : S1024x5120.Idx → ℝ} {Z : S4096x5120.Idx → ℝ} {H : S4096x1024.Idx → EReal}
  (hX : m ((c : Thread nD τ).loc main_arg0) = fun i => (X i : EReal)) (hG : m ((c : Thread nD τ).loc main_arg1) = fun i => (G i : EReal))
  (hH : m ((c : Thread nD τ).loc main_arg3) = H) (hW : m ((c : Thread nD τ).loc main_arg2) = fun i => (W i : EReal)) (hZ : m ((c : Thread nD τ).loc main_arg4) = fun i => (Z i : EReal))

include hW hZ in
theorem pay6_real (t : Fin cfg0.N) (r : Fin 512) (l : Fin 1024) :
    k0_pay6 (View.ld (iblk m c 0 t) (Rect.unit ![0, 0] ![512, 1280] inb_S512x5120_S512x1280_0_0))
        (View.ld (iblk m c 1 t) (Rect.unit ![0, 0, 0] ![1, 1024, 1280] inb_S4x1024x1280_S1x1024x1280_0_0_0))
        (View.ld (iblk m c 0 t) (Rect.unit ![0, 1280] ![512, 1280] inb_S512x5120_S512x1280_0_1280))
        (View.ld (iblk m c 1 t) (Rect.unit ![1, 0, 0] ![1, 1024, 1280] inb_S4x1024x1280_S1x1024x1280_1_0_0))
        (View.ld (iblk m c 0 t) (Rect.unit ![0, 2560] ![512, 1280] inb_S512x5120_S512x1280_0_2560))
        (View.ld (iblk m c 1 t) (Rect.unit ![2, 0, 0] ![1, 1024, 1280] inb_S4x1024x1280_S1x1024x1280_2_0_0))
        (View.ld (iblk m c 0 t) (Rect.unit ![0, 3840] ![512, 1280] inb_S512x5120_S512x1280_0_3840))
        (View.ld (iblk m c 1 t) (Rect.unit ![3, 0, 0] ![1, 1024, 1280] inb_S4x1024x1280_S1x1024x1280_3_0_0)) (ix2 r l)
      = ((dxn W Z (row t r) l : ℝ) : EReal) := by
  unfold_payloads
  pointwise
  simp only [blk0, blk1, hW, hZ, Fin.val_zero, Fin.val_one, Fin.val_two, show ((3 : Fin 4) : ℕ) = 3 from rfl, zero_mul, zero_add, one_mul,
    Nat.reduceMul]
  simp only [← EReal.coe_mul, Reals.sum_coe, ← EReal.coe_add]
  rw [dxn, sum_cut]

/-- Row `s` of the input. -/
def xrow (X : S4096x1024.Idx → ℝ) (s : Fin 4096) (k : Fin 1024) : ℝ := X (ix2 s k)

/-- The gradient of the normed input times the gain, as a row. -/
def drow (W : S1024x5120.Idx → ℝ) (Z : S4096x5120.Idx → ℝ) (G : S1024.Idx → ℝ) (s : Fin 4096) (k : Fin 1024) : ℝ := dxn W Z s k * G (ix1 k)

omit c m in
/-- The reciprocal root the kernel computes for a row. -/
theorem rinv_real (X : S4096x1024.Idx → ℝ) (s : Fin 4096) :
    Ideal.rsqrt (Ideal.div (∑ k : Fin 1024, (X (ix2 s k) : EReal) * (X (ix2 s k) : EReal)) (Ideal.ofBits .f32 0x44800000#32) + Ideal.ofBits .f32 0x358637BD#32)
      = ((Reals.rinv (xrow X s) : ℝ) : EReal) := by
  simp only [Reals.word_1024, Reals.word_eps]
  simp only [← EReal.coe_mul, Reals.sum_coe]
  exact Reals.rinv_coe (xrow X s)

include hX hG hH in
theorem pay4_real (t : Fin cfg0.N) (v25 : FVec Ideal S512x1024 .f32)
    (h25 : ∀ r l, v25 (ix2 r l) = ((dxn W Z (row t r) l : ℝ) : EReal)) (r : Fin 512) (l : Fin 1024) :
    k0_pay4 v25 (iblk m c 2 t) (k0_pay7 (iblk m c 2 t)) (iblk m c 3 t) (iblk m c 4 t) (ix2 r l)
      = H (ix2 (row t r) l) + ((Reals.rmsGrad (xrow X (row t r)) (drow W Z G (row t r)) l : ℝ) : EReal) := by
  unfold_payloads
  pointwise
  simp only [h25, blk2, blk3, blk4, hX, hG, hH]
  simp only [rinv_real X]
  simp only [Reals.word_1024]
  simp only [← EReal.coe_mul, Reals.sum_coe, ← EReal.coe_sub, Reals.div_real _ (show (1024 : ℝ) ≠ 0 by norm_num)]
  rfl

include hX in
theorem pay3_real (t : Fin cfg0.N) (v25 : FVec Ideal S512x1024 .f32)
    (h25 : ∀ r l, v25 (ix2 r l) = ((dxn W Z (row t r) l : ℝ) : EReal)) (v37 : Vec Ideal S1x1024 .f32) (l : Fin 1024) :
    k0_pay3 v25 (iblk m c 2 t) (k0_pay7 (iblk m c 2 t)) v37 (ix2 0 l)
      = v37 (ix2 0 l) + ((∑ r : Fin 512, dxn W Z (row t r) l * (xrow X (row t r) l * Reals.rinv (xrow X (row t r))) : ℝ) : EReal) := by
  unfold_payloads
  pointwise
  simp only [h25, blk2, hX]
  simp only [rinv_real X]
  simp only [← EReal.coe_mul, Reals.sum_coe]
  rfl

/-! ### The two result arrays -/

include hX hG hH hW hZ in
theorem out6 (t : Fin cfg0.N) (r : Fin 512) (l : Fin 1024) :
    (outsAt0 m c t.val t.isLt).1 (ix2 r l)
      = H (ix2 (row t r) l) + ((Reals.rmsGrad (xrow X (row t r)) (drow W Z G (row t r)) l : ℝ) : EReal) := by
  by_cases h0 : t.val % 8 = 0
  · rw [outsAt0_A m c t h0]
    frame_out
    exact pay4_real m hX hG hH t _ (pay6_real m hW hZ t) r l
  · rw [outsAt0_B m c t h0]
    frame_out
    exact pay4_real m hX hG hH t _ (pay6_real m hW hZ t) r l

/-- What the points add to row 0 of the small result. -/
def gterm (X : S4096x1024.Idx → ℝ) (W : S1024x5120.Idx → ℝ) (Z : S4096x5120.Idx → ℝ) (s : Fin 4096) (l : Fin 1024) : ℝ :=
  dxn W Z s l * (xrow X s l * Reals.rinv (xrow X s))

/-- What point `t` adds to the small result. -/
def term (X : S4096x1024.Idx → ℝ) (W : S1024x5120.Idx → ℝ) (Z : S4096x5120.Idx → ℝ) (t : Fin cfg0.N) (i : S8x1024.Idx) : ℝ :=
  if (i 0).val = 0 then ∑ r : Fin 512, gterm X W Z (row t r) (i 1) else 0

omit m c in
theorem pay5_zero (i : S8x1024.Idx) :
    View.canon [(⟨Rect.unit ![0, 0] ![8, 1024] inb_S8x1024_S8x1024_0_0, k0_pay5 (F := Ideal)⟩ : View.Piece (Elt Ideal) S8x1024 .f32)] i = 0 := by
  idx_vars i
  refine (Rows.canon_hit (a := 8) (b := 1024) (k := 0) (l := 0) (n := 8) (w := 1024) _ _ _ i0 i1 i0 i1 (Nat.zero_add _).symm (Nat.zero_add _).symm).trans ?_
  unfold_payloads
  pointwise

include hX hW hZ in
theorem out7_A (t : Fin cfg0.N) (h0 : t.val % 8 = 0) (i : S8x1024.Idx) :
    (outsAt0 m c t.val t.isLt).2 i = 0 + ((term X W Z t i : ℝ) : EReal) := by
  idx_vars i
  rw [outsAt0_A m c t h0]
  frame_out
  by_cases hi : i0 = 0
  · subst hi
    refine (Rows.canon_hit (a := 8) (b := 1024) (k := 0) (l := 0) (n := 1) (w := 1024) _ _ _ 0 i1 0 i1 rfl (Nat.zero_add _).symm).trans ?_
    refine (pay3_real m hX t _ (pay6_real m hW hZ t) _ i1).trans ?_
    refine congrArg₂ (· + ·) ?_ rfl
    rw [View.readCov_eq_canon']
    exact pay5_zero _
  · refine (Rows.canon_miss (a := 8) (b := 1024) (k := 0) (l := 0) (n := 1) (w := 1024) _ _ _ i0 i1 (Or.inr (Or.inl (Nat.pos_of_ne_zero fun h => hi (Fin.ext h))))).trans ?_
    · refine (pay5_zero _).trans ?_
      rw [show term X W Z t (ix2 i0 i1) = 0 from if_neg fun h => hi (Fin.ext h), EReal.coe_zero, add_zero]

include hX hW hZ in
theorem out7_B (t : Fin cfg0.N) (h0 : ¬t.val % 8 = 0) (i : S8x1024.Idx) :
    (outsAt0 m c t.val t.isLt).2 i
      = (outsAt0 m c (t.val - 1) (Nat.lt_of_le_of_lt (Nat.sub_le _ _) t.isLt)).2 i + ((term X W Z t i : ℝ) : EReal) := by
  idx_vars i
  rw [outsAt0_B m c t h0]
  frame_out
  by_cases hi : i0 = 0
  · subst hi
    refine (Rows.read_hit (a := 8) (b := 1024) (k := 0) (l := 0) (n := 1) (w := 1024) _ _ _ _ _ 0 i1 0 i1 rfl (Nat.zero_add _).symm).trans ?_
    refine (pay3_real m hX t _ (pay6_real m hW hZ t) _ i1).trans ?_
    refine congrArg₂ (· + ·) ?_ rfl
    exact View.ld_unit_apply_of _ _ _ _ _ _ (fun a => by fin_cases a <;> simp)
  · refine (Rows.read_miss (a := 8) (b := 1024) (k := 0) (l := 0) (n := 1) (w := 1024) _ _ _ _ _ i0 i1 (Or.inr (Or.inl (Nat.pos_of_ne_zero fun h => hi (Fin.ext h))))).trans ?_
    · rw [View.writes_nil, Memref.IsWhole.read_unread, show term X W Z t (ix2 i0 i1) = 0 from if_neg fun h => hi (Fin.ext h), EReal.coe_zero, add_zero]

/-- The input gradient as a function of the arguments. -/
def gx (X : S4096x1024.Idx → ℝ) (G : S1024.Idx → ℝ) (W : S1024x5120.Idx → ℝ) (Z : S4096x5120.Idx → ℝ) (H : S4096x1024.Idx → EReal)
    (i : S4096x1024.Idx) : EReal :=
  H i + ((Reals.rmsGrad (xrow X (i 0)) (drow W Z G (i 0)) (i 1) : ℝ) : EReal)

/-- The gradient of the norm's scale in row 0 of eight, the other rows zero. -/
def gg (X : S4096x1024.Idx → ℝ) (W : S1024x5120.Idx → ℝ) (Z : S4096x5120.Idx → ℝ) (i : S8x1024.Idx) : EReal :=
  ((if (i 0).val = 0 then ∑ s : Fin 4096, gterm X W Z s (i 1) else 0 : ℝ) : EReal)

include hX hG hH hW hZ in
theorem arr6 : (dats m 0 c).arrAt 6 cfg0.N = gx X G W Z H := by
  refine (dats m 0 c).arrAt_eq_of_covers 6 _ (by decide +kernel) fun t hf y => ?_
  idx_vars y
  blk_simp
  rw [after0_6]
  refine (out6 m hX hG hH hW hZ t _ _).trans (congrArg (gx X G W Z H) (?_ : ix2 (row t y0) y1 = _))
  refine funext fun a => Fin.ext ?_
  fin_cases a <;> blk_simp [idx t, row] <;> rfl

include hX hW hZ in
theorem arr7 : (dats m 0 c).arrAt 7 cfg0.N = gg X W Z := by
  refine (dats m 0 c).arrAt_eq_of_after_last 7 t0_7 (by decide +kernel) _ fun j => ?_
  rw [after0_7]
  refine (Pipeline.eq_sum_fin_of_reset_step_apply_last (fun n h => (outsAt0 m c n h).2) 8 (fun _ => 0)
    (fun t i => ((term X W Z t i : ℝ) : EReal)) (out7_A m hX hW hZ) (out7_B m hX hW hZ) (by decide) t0_7 rfl _).trans ?_
  rw [zero_add, Reals.sum_coe]
  refine congrArg _ ?_
  show ∑ t : Fin cfg0.N, (if (j 0).val = 0 then _ else _) = if (j 0).val = 0 then _ else _
  by_cases h : (j 0).val = 0
  · simp only [if_pos h]
    exact Fin.sum_mul_add_fin 8 512 fun s => gterm X W Z s (j 1)
  · simp only [if_neg h, Finset.sum_const_zero]

end

end Cert.Dx
end
-- ==== Proof.Dx.Ref.lean ====
module

public import proofs.«01_k».proof.Proof.Dx.Body
public import proofs.«01_k».proof.Proof.Gen.RefDxIdeal.Run
public import proofs.«01_k».proof.Proof.Gen.RefDxIdeal.Read

/-!
The reference of the input gradient at an index: the chain rule's sum of terms is the kernel's closed form.
-/

@[expose] public section
noncomputable section

open Idealize.ShloMosaic Idealize.ShloMosaic.TcCoe
open Cert.RefDxIdeal Cert.RefDxIdeal.Read

namespace Cert.Dx

variable (X : S4096x1024.Idx → ℝ) (G : S1024.Idx → ℝ) (W : S1024x5120.Idx → ℝ) (Z : S4096x5120.Idx → ℝ) (H : S4096x1024.Idx → EReal)

/-- The rank-two array of finite numbers. -/
abbrev up {s : Shape} (X : s.Idx → ℝ) : s.Idx → EReal := fun i => (X i : EReal)

theorem r6 (s : Fin 4096) : val_main_v6 (F := Ideal) (up X) (ix2 s 0) = ((Reals.msq (xrow X s) : ℝ) : EReal) := by
  simp only [val_main_v6, val_main_v5, val_main_v4, val_main_v3, val_main_v2, val_main_v1, val_main_v0, val_main_cst, val_main_cst_0, val_main_cst_1]
  pointwise
  simp only [Reals.word_1024, Reals.word_eps, ← EReal.coe_mul, Reals.sum_coe]
  rw [Reals.div_real _ (show (1024 : ℝ) ≠ 0 by norm_num), ← EReal.coe_add]
  rfl

theorem r7 (s : Fin 4096) : val_main_v7 (F := Ideal) (up X) (ix2 s 0) = ((Reals.rinv (xrow X s) : ℝ) : EReal) := by
  simp only [val_main_v7]
  pointwise
  rw [r6]
  exact Reals.rsqrt_real (Reals.msq_pos _)

theorem r10 (s : Fin 4096) :
    val_main_v10 (F := Ideal) (up X) (ix2 s 0) = ((-(1 / 2) * (Reals.rinv (xrow X s) / Reals.msq (xrow X s)) : ℝ) : EReal) := by
  simp only [val_main_v10, val_main_v9, val_main_v8, val_main_cst_2]
  pointwise
  rw [r6, r7, Reals.word_neg_half, Reals.div_real _ (Reals.msq_pos _).ne', ← EReal.coe_mul]

theorem r17 (s : Fin 4096) (l : Fin 1024) : val_main_v17 (F := Ideal) (up W) (up Z) (ix2 s l) = ((dxn W Z s l : ℝ) : EReal) := by
  simp only [val_main_v17]
  pointwise
  simp only [← EReal.coe_mul, Reals.sum_coe]
  rfl

theorem r22 (s : Fin 4096) (l : Fin 1024) :
    val_main_v22 (F := Ideal) (up G) (up W) (up Z) (ix2 s l) = ((drow W Z G s l : ℝ) : EReal) := by
  simp only [val_main_v22, val_main_v21, val_main_v13]
  pointwise
  rw [r17, ← EReal.coe_mul]
  rfl

theorem r34 (s : Fin 4096) (l : Fin 1024) :
    val_main_v34 (F := Ideal) (up X) (up G) (up W) (up Z) (ix2 s l)
      = (((∑ k, xrow X s k * drow W Z G s k) * (-(1 / 2) * (Reals.rinv (xrow X s) / Reals.msq (xrow X s))) / 1024 : ℝ) : EReal) := by
  simp only [val_main_v34, val_main_v33, val_main_v32, val_main_v31, val_main_v30, val_main_v26, val_main_v25, val_main_v24,
    val_main_cst_5, val_main_cst_6, val_main_cst_7]
  pointwise
  simp only [Fin.sum_univ_one]
  rw [r10]
  simp only [r22, Reals.word_1024, ← EReal.coe_mul, Reals.sum_coe, Reals.div_real _ (show (1024 : ℝ) ≠ 0 by norm_num)]
  rfl

theorem r38 (i : S4096x1024.Idx) : val_main_v38 (F := Ideal) (up X) (up G) (up W) H (up Z) i = gx X G W Z H i := by
  idx_vars i
  simp only [val_main_v38, val_main_v37, val_main_v36, val_main_v35, val_main_v29, val_main_v28, val_main_v27]
  pointwise
  rw [r34, r22, r7, add_assoc, add_assoc]
  simp only [← EReal.coe_mul, ← EReal.coe_add]
  refine congrArg (H _ + ·) (congrArg _ ?_)
  exact Reals.rmsGrad_eq (xrow X i0) (drow W Z G i0) i1

theorem r41 (i : S8x1024.Idx) : val_main_v41 (F := Ideal) (up X) (up W) (up Z) i = gg X W Z i := by
  idx_vars i
  simp only [val_main_v41, val_main_v40, val_main_v39, val_main_v23, val_main_v20, val_main_v19, val_main_v18, val_main_v12, val_main_v11,
    val_main_cst_3, val_main_cst_4, val_main_cst_8]
  pointwise
  simp only [r7, r17, ← EReal.coe_mul, Reals.sum_coe, Fin.sum_univ_one]
  show _ = ((if i0.val = 0 then _ else 0 : ℝ) : EReal)
  by_cases h : i0.val = 0
  · rw [if_pos h, dif_pos (by omega)]
    refine congrArg _ (Finset.sum_congr rfl fun s _ => ?_)
    show _ = dxn W Z s i1 * (xrow X s i1 * Reals.rinv (xrow X s))
    exact mul_comm _ _
  · rw [if_neg h, dif_neg (by omega), EReal.coe_zero]

end Cert.Dx
end
-- ==== Proof.Dx.Equal.lean ====
module

public import proofs.«01_k».proof.Defs
public import proofs.«01_k».proof.Proof.Dx.Ref
public import proofs.«01_k».proof.Proof.Gen.KernelDx.Frame

/-!
The two programs of the input gradient leave equal arrays.
-/

@[expose] public section
noncomputable section

open Idealize.ShloMosaic Idealize.ShloMosaic.TcCoe Idealize.SL.Sem

namespace Cert.Dx

instance preFacts : Cert.Pre_finite_dx.Facts where
  bcast_S_S4096x1024 := by decide
  bcast_S_S1024 := by decide
  bcast_S_S1024x5120 := by decide
  bcast_S_S4096x5120 := by decide

/-- The finiteness test read as the existence of real numbers. -/
theorem reals (m : (ℓ : Loc KernelDxIdeal.nD KernelDxIdeal.τ KernelDxIdeal.sig) → Buf (Elt Ideal) ℓ)
    (h : Pre_KernelDxIdeal_finite_dx m) (c : Dev KernelDxIdeal.nD) :
    (∃ X : KernelDxIdeal.S4096x1024.Idx → ℝ, m ((c.tc : Thread KernelDxIdeal.nD KernelDxIdeal.τ).loc KernelDxIdeal.main_arg0) = fun i => (X i : EReal))
    ∧ (∃ G : KernelDxIdeal.S1024.Idx → ℝ, m ((c.tc : Thread KernelDxIdeal.nD KernelDxIdeal.τ).loc KernelDxIdeal.main_arg1) = fun i => (G i : EReal))
    ∧ (∃ W : KernelDxIdeal.S1024x5120.Idx → ℝ, m ((c.tc : Thread KernelDxIdeal.nD KernelDxIdeal.τ).loc KernelDxIdeal.main_arg2) = fun i => (W i : EReal))
    ∧ ∃ Z : KernelDxIdeal.S4096x5120.Idx → ℝ, m ((c.tc : Thread KernelDxIdeal.nD KernelDxIdeal.τ).loc KernelDxIdeal.main_arg4) = fun i => (Z i : EReal) := by
  obtain ⟨h0, h1, h2, h4⟩ := h c
  exact ⟨Reals.reals_of_finite h0, Reals.reals_of_finite h1, Reals.reals_of_finite h2, Reals.reals_of_finite h4⟩

/-- The reference runs to its end, keeps its arguments and leaves no semaphore raised. -/
theorem frame_ref : quiescent_RefDxIdeal := fun m ρ _ =>
  (θ_run RefDxIdeal.defs _ _).mono (fun r h => ⟨fun c => (h c).2.2, sem_eq_zero_of_no_sems (by decide) r.2⟩)
    (RefDxIdeal.Value.run (F := Ideal) m ρ)

theorem equal : algebraic_KernelDxIdeal_RefDxIdeal_pre_finite_dx := by
  intro m g m' g' hpre hargs
  refine ⟨fun c => (KernelDxIdeal.Gen.dats m 0 c).arrAt 6 KernelDxIdeal.cfg0.N, fun c => (KernelDxIdeal.Gen.dats m 0 c).arrAt 7 KernelDxIdeal.cfg0.N,
    KernelDxIdeal.Value.run_blocks m g, (θ_run RefDxIdeal.defs _ _).mono (fun r h c => ?_) (RefDxIdeal.Value.run m' g')⟩
  obtain ⟨e0, e1, e2, e3, e4⟩ := hargs c
  obtain ⟨⟨X, hX⟩, ⟨G, hG⟩, ⟨W, hW⟩, ⟨Z, hZ⟩⟩ := reals m hpre c
  obtain ⟨r0, r1, rest⟩ := h c
  refine ⟨(r0.trans (RefDxIdeal.Read.val_main_v38_eq m' c)).trans ?_, (r1.trans (RefDxIdeal.Read.val_main_v41_eq _ _ _)).trans ?_, rest⟩
  · refine Eq.trans ?_ (arr6 m hX hG rfl hW hZ).symm
    rw [e0, e1, e2, e3, e4, hX, hG, hW, hZ]
    exact funext (r38 X G W Z _)
  · refine Eq.trans ?_ (arr7 m hX hW hZ).symm
    rw [e0, e2, e4, hX, hW, hZ]
    exact funext (r41 X W Z)

end Cert.Dx
end
-- ==== Proof.Mx.Launch.lean ====
module

public import proofs.«01_k».proof.Proof.Gen.KernelMxIdeal.Frame
public import proofs.«01_k».proof.Proof.Gen.KernelMxIdeal.Skeleton
public import proofs.«01_k».proof.Proof.Gen.KernelMxIdeal.Points
public import Idealize.ShloMosaic.Lib.Pipeline.FrameBody
public import Idealize.ShloMosaic.Lib.Tactic
public import Idealize.ShloMosaic.Lib.WordCmp

/-! The two conditions of the mix gradient's body, and its scratch buffers as memrefs. -/

@[expose] public section

noncomputable section

namespace Cert.Mx

open Cert.KernelMxIdeal Cert.KernelMxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The first point's condition, at which the body clears what it accumulates. -/
abbrev first (i : grid0.Coords) : Prop :=
  Scalar.cmpi .ne (Scalar.extui (Scalar.cmpi .eq (BitVec.ofNat 32 (i 0).val) 0#32)) 0#32 = 1#1

/-- The last point's condition, at which the body writes the sums out. -/
abbrev last (i : grid0.Coords) : Prop := k0_cond2 i = 1#1

theorem first_iff : ∀ t : Fin cfg0.N, first (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    simp only [first, e0]
    word_cmp
   : ∀ t : Fin grid0.N, first (grid0.coords t) ↔ t.val = 0)

theorem last_iff : ∀ t : Fin cfg0.N, last (grid0.coords t) ↔ t.val = 15 :=
  (fun t => by
    have ht : t.val < 16 := Nat.lt_of_lt_of_eq t.isLt N_0
    have e0 : (grid0.coords t 0).val = t.val / 1 % 16 := Pipeline.Grid.coords_val t 0 (by decide) rfl
    simp only [last, k0_cond2, e0]
    word_cmp
   : ∀ t : Fin grid0.N, last (grid0.coords t) ↔ t.val = 15)

abbrev winM : Memref sig .tc .vmem S272x1024 .f32 := Memref.whole cc0_scratch0
abbrev svM : Memref sig .tc .vmem S256x1024 .f32 := Memref.whole cc0_scratch1
abbrev dsvM : Memref sig .tc .vmem S256x1024 .f32 := Memref.whole cc0_scratch2
abbrev dvM : Memref sig .tc .vmem S256x1024 .f32 := Memref.whole cc0_scratch3
abbrev dsumM : Memref sig .tc .vmem S128x1024 .f32 := Memref.whole cc0_scratch4
abbrev poolM : Memref sig .tc .vmem S4x256x256 .f32 := Memref.whole cc0_scratch5
abbrev projM : Memref sig .tc .vmem S4x256x256 .f32 := Memref.whole cc0_scratch6

theorem scratch_eq (c : Dev nD) :
    (Pipeline.ΦA spec0 c : sProp 𝕄)
      = iprop(iprop((∃ d, owns (c : Thread nD τ) winM fullShare d) ∗ (∃ d, owns (c : Thread nD τ) svM fullShare d) ∗ (∃ d, owns (c : Thread nD τ) dsvM fullShare d) ∗ (∃ d, owns (c : Thread nD τ) dvM fullShare d) ∗ (∃ d, owns (c : Thread nD τ) dsumM fullShare d) ∗ (∃ d, owns (c : Thread nD τ) poolM fullShare d) ∗ (∃ d, owns (c : Thread nD τ) projM fullShare d))
        ∗ (∃ r, prngReg c r)) := by
  unfold Pipeline.ΦA; rw [scopedRest0_eq]
  simp only [winM, svM, dsvM, dvM, dsumM, poolM, projM, owns_whole]; try rfl

end Cert.Mx

end
-- ==== Proof.Mx.Clear.lean ====
module

public import proofs.«01_k».proof.Proof.Mx.Launch
public import Idealize.ShloMosaic.Lib.WritesUnit

/-! What the body finds in the buffers it accumulates: zero at the first point, what the last point left after it. -/

@[expose] public section

set_option maxRecDepth 16384

noncomputable section

namespace Cert.Mx

open Cert.KernelMxIdeal Cert.KernelMxIdeal.Gen
open Idealize.ShloMosaic Idealize.ShloMosaic.TcCoe

variable {F : FTy → Type} [FloatOps F] [Named F]

/-- The float zero. -/
def zero : F .f32 := Scalar.ofBits .f32 0x00000000#32

open Classical in
/-- A buffer of sums as the body's first statements leave it. -/
def clear {s : Shape} (i : grid0.Coords) (y : Vec F s .f32) : Vec F s .f32 :=
  if first i then fun _ => zero else y

open Classical in
/-- The window buffer as the body's first statements leave it: its last 16 rows stand for the rows after the tile. -/
def clearRows (i : grid0.Coords) (y : Vec F S272x1024 .f32) : Vec F S272x1024 .f32 :=
  if first i then fun j => if 256 ≤ (j 0).val then zero else y j else y

theorem cleared {s : Shape} {i : grid0.Coords} (hc : first i) {κ : Kind} {sp : Space} (v : View sig κ sp s .f32)
    (f : v.ty.Contents (Elt F)) {off : Fin s.rank → ℕ} (inb : ∀ a, off a + s.size a ≤ s.size a)
    (w : (Rect.unit off s.size inb).shape.Idx → Elt F .f32) (hw : ∀ x, w x = (zero : F .f32)) (y : Vec F s .f32) :
    v.read (Elt F) (v.writes (Elt F) f [⟨Rect.unit off s.size inb, w⟩]) = clear i y := by
  funext j
  rw [View.read_writes_cons_unit v f inb w [] j rfl, dif_pos, hw, clear, if_pos hc]
  intro a
  have := inb a
  have := (j a).isLt
  omega

theorem cleared_rows {i : grid0.Coords} (hc : first i) {κ : Kind} {sp : Space} (v : View sig κ sp S272x1024 .f32)
    (f : v.ty.Contents (Elt F)) {y : Vec F S272x1024 .f32} (inb : ∀ a, (![256, 0] : Fin 2 → ℕ) a + S16x1024.size a ≤ S272x1024.size a)
    (w : (Rect.unit (s := S272x1024) ![256, 0] S16x1024.size inb).shape.Idx → Elt F .f32)
    (hw : ∀ x, w x = (zero : F .f32)) (hf : v.read (Elt F) f = y) :
    v.read (Elt F) (v.writes (Elt F) f [⟨Rect.unit ![256, 0] S16x1024.size inb, w⟩]) = clearRows i y := by
  funext j
  rw [View.read_writes_cons_unit v f inb w [] j rfl, clearRows, if_pos hc]
  have h0 : (j 0).val < 272 := (j 0).isLt
  have h1 : (j 1).val < 1024 := (j 1).isLt
  by_cases h : 256 ≤ (j 0).val
  · rw [dif_pos, hw, if_pos h]
    intro a; fin_cases a <;> simp [S16x1024] <;> omega
  · rw [dif_neg, if_neg h, View.writes_nil, hf]
    intro g; exact h (g 0).1

end Cert.Mx

end
-- ==== Proof.Mx.Rest.lean ====
module

public import proofs.«01_k».proof.Proof.Mx.Clear

@[expose] public section

set_option maxRecDepth 16384

noncomputable section

namespace Cert.Mx

open Cert.KernelMxIdeal Cert.KernelMxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (i : grid0.Coords)
  (arg1 : Memref sig .tc .vmem S256x5120 .f32) (harg1 : arg1.IsWhole)
  (arg2 : Memref sig .tc .vmem S256x1024 .bf16) (harg2 : arg2.IsWhole)
  (arg3 : Memref sig .tc .vmem S256x1024 .bf16) (harg3 : arg3.IsWhole)
  (arg4 : Memref sig .tc .vmem S4x256x256 .bf16) (harg4 : arg4.IsWhole)
  (arg5 : Memref sig .tc .vmem S1x1024 .f32) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S4x128x128 .bf16) (harg8 : arg8.IsWhole)
  (arg9 : Memref sig .tc .vmem S4x128x128 .bf16) (harg9 : arg9.IsWhole)
  (arg10 : Memref sig .tc .vmem S4x128x1 .f32) (harg10 : arg10.IsWhole)
  (arg11 : Memref sig .tc .vmem S4x256x256 .bf16) (harg11 : arg11.IsWhole)
  (arg12 : Memref sig .tc .vmem S1024x1024 .bf16) (harg12 : arg12.IsWhole)
  (arg13 : Memref sig .tc .vmem S128x128 .f32) (harg13 : arg13.IsWhole)
  (arg14 : Memref sig .tc .vmem S8x128 .f32) (harg14 : arg14.IsWhole)
  (arg15 : Memref sig .tc .vmem S256x5120 .bf16) (harg15 : arg15.IsWhole)
  (arg16 : Memref sig .tc .vmem S2x4x128x256 .bf16) (harg16 : arg16.IsWhole)
  (arg17 : Memref sig .tc .vmem S2x4x128x256 .bf16) (harg17 : arg17.IsWhole)
  (arg18 : Memref sig .tc .vmem S4x128x128 .f32) (harg18 : arg18.IsWhole)
  (arg19 : Memref sig .tc .vmem S128x512 .f32) (harg19 : arg19.IsWhole)
  (arg20 : Memref sig .tc .vmem S8x1024 .f32) (harg20 : arg20.IsWhole)
  (arg21 : Memref sig .tc .vmem S8x5120 .f32) (harg21 : arg21.IsWhole)
  (arg22 : Memref sig .tc .vmem S272x1024 .f32) (harg22 : arg22.IsWhole)
  (arg23 : Memref sig .tc .vmem S256x1024 .f32) (harg23 : arg23.IsWhole)
  (arg24 : Memref sig .tc .vmem S256x1024 .f32) (harg24 : arg24.IsWhole)
  (arg25 : Memref sig .tc .vmem S256x1024 .f32) (harg25 : arg25.IsWhole)
  (arg26 : Memref sig .tc .vmem S128x1024 .f32) (harg26 : arg26.IsWhole)
  (arg27 : Memref sig .tc .vmem S4x256x256 .f32) (harg27 : arg27.IsWhole)
  (arg28 : Memref sig .tc .vmem S4x256x256 .f32) (harg28 : arg28.IsWhole)

/-- The body after its first condition: the statements every point runs. -/
noncomputable def rest : { R : Prog (TpuEff nD τ sig (Elt F) Λ₀ .tc) PUnit // ¬first i → cc0_mix_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 = R } := by
  refine ⟨?_, fun h => ?_⟩
  case refine_2 =>
    rewrite [cc0_mix_bwd_eq_skeleton]
    delta cc0_mix_bwd_skel
    rewrite [k0_part10_eq_skeleton]
    delta k0_part10_skel
    rewrite [dif_neg h]
    rfl

/-- At the first point the body clears what it accumulates and then runs as at any other. -/
theorem start (E : Set ℕ) (K : PUnit → sProp 𝕄) (P : sProp 𝕄)
    (y18 : Vec F S4x128x128 .f32) (y20 : Vec F S8x1024 .f32) (y21 : Vec F S8x5120 .f32) (y22 : Vec F S272x1024 .f32) (y26 : Vec F S128x1024 .f32) (y27 : Vec F S4x256x256 .f32) (y28 : Vec F S4x256x256 .f32)
    (h : iprop(owns (c : Thread nD τ) arg18 fullShare (clear i y18) ∗ owns (c : Thread nD τ) arg20 fullShare (clear i y20) ∗ owns (c : Thread nD τ) arg21 fullShare (clear i y21) ∗ owns (c : Thread nD τ) arg22 fullShare (clearRows i y22) ∗ owns (c : Thread nD τ) arg26 fullShare (clear i y26) ∗ owns (c : Thread nD τ) arg27 fullShare (clear i y27) ∗ owns (c : Thread nD τ) arg28 fullShare (clear i y28) ∗ P)
      ⊢ wp frame (wpE (defs₀ (F := F)) Variants.none c none) E (rest (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28).1 K) :
    iprop(owns (c : Thread nD τ) arg18 fullShare y18 ∗ owns (c : Thread nD τ) arg20 fullShare y20 ∗ owns (c : Thread nD τ) arg21 fullShare y21 ∗ owns (c : Thread nD τ) arg22 fullShare y22 ∗ owns (c : Thread nD τ) arg26 fullShare y26 ∗ owns (c : Thread nD τ) arg27 fullShare y27 ∗ owns (c : Thread nD τ) arg28 fullShare y28 ∗ P)
      ⊢ wp frame (wpE (defs₀ (F := F)) Variants.none c none) E (cc0_mix_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  by_cases hc : first i
  · have h' := h
    unfold rest at h'
    dsimp only at h'
    rewrite [wp_bind] at h'
    rewrite [cc0_mix_bwd_eq_skeleton]
    delta cc0_mix_bwd_skel
    rewrite [k0_part10_eq_skeleton]
    delta k0_part10_skel
    rewrite [dif_pos hc, wp_bind]
    clear h
    unfold owns
    iintro ⟨⟨%f18, %hf18, H18⟩, ⟨%f20, %hf20, H20⟩, ⟨%f21, %hf21, H21⟩, ⟨%f22, %hf22, H22⟩, ⟨%f26, %hf26, H26⟩, ⟨%f27, %hf27, H27⟩, ⟨%f28, %hf28, H28⟩, HP⟩
    sl_exec
    iapply h'
    unfold owns
    isplitl [H18]
    · iexists _; isplitr; · ipureintro; exact cleared hc arg18.view f18 inb_S4x128x128_S4x128x128_0_0_0 _ (fun _ => rfl) _
      iexact H18
    isplitl [H20]
    · iexists _; isplitr; · ipureintro; exact cleared hc arg20.view f20 inb_S8x1024_S8x1024_0_0 _ (fun _ => rfl) _
      iexact H20
    isplitl [H21]
    · iexists _; isplitr; · ipureintro; exact cleared hc arg21.view f21 inb_S8x5120_S8x5120_0_0 _ (fun _ => rfl) _
      iexact H21
    isplitl [H22]
    · iexists _; isplitr; · ipureintro; exact cleared_rows hc arg22.view f22 inb_S272x1024_S16x1024_256_0 _ (fun _ => rfl) hf22
      iexact H22
    isplitl [H26]
    · iexists _; isplitr; · ipureintro; exact cleared hc arg26.view f26 inb_S128x1024_S128x1024_0_0 _ (fun _ => rfl) _
      iexact H26
    isplitl [H27]
    · iexists _; isplitr; · ipureintro; exact cleared hc arg27.view f27 inb_S4x256x256_S4x256x256_0_0_0 _ (fun _ => rfl) _
      iexact H27
    isplitl [H28]
    · iexists _; isplitr; · ipureintro; exact cleared hc arg28.view f28 inb_S4x256x256_S4x256x256_0_0_0 _ (fun _ => rfl) _
      iexact H28
    iexact HP
  · rw [(rest i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28).2 hc]
    simpa only [clear, clearRows, if_neg hc] using h

end Cert.Mx

end
-- ==== Proof.Mx.Mid.lean ====
module

public import proofs.«01_k».proof.Proof.Mx.Rest

@[expose] public section

set_option maxRecDepth 16384

noncomputable section

namespace Cert.Mx

open Cert.KernelMxIdeal Cert.KernelMxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
/-- The body's run at every point but the last: what each buffer it writes ends with, as the list of its stores. -/
noncomputable def mid (c : Dev nD) (i : grid0.Coords) (arg1 : Memref sig .tc .vmem S256x5120 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S4x256x256 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4x128x128 .bf16) (harg8 : arg8.IsWhole) (arg9 : Memref sig .tc .vmem S4x128x128 .bf16) (harg9 : arg9.IsWhole) (arg10 : Memref sig .tc .vmem S4x128x1 .f32) (harg10 : arg10.IsWhole) (arg11 : Memref sig .tc .vmem S4x256x256 .bf16) (harg11 : arg11.IsWhole) (arg12 : Memref sig .tc .vmem S1024x1024 .bf16) (harg12 : arg12.IsWhole) (arg13 : Memref sig .tc .vmem S128x128 .f32) (harg13 : arg13.IsWhole) (arg14 : Memref sig .tc .vmem S8x128 .f32) (harg14 : arg14.IsWhole) (arg15 : Memref sig .tc .vmem S256x5120 .bf16) (harg15 : arg15.IsWhole) (arg16 : Memref sig .tc .vmem S2x4x128x256 .bf16) (harg16 : arg16.IsWhole) (arg17 : Memref sig .tc .vmem S2x4x128x256 .bf16) (harg17 : arg17.IsWhole) (arg18 : Memref sig .tc .vmem S4x128x128 .f32) (harg18 : arg18.IsWhole) (arg19 : Memref sig .tc .vmem S128x512 .f32) (harg19 : arg19.IsWhole) (arg20 : Memref sig .tc .vmem S8x1024 .f32) (harg20 : arg20.IsWhole) (arg21 : Memref sig .tc .vmem S8x5120 .f32) (harg21 : arg21.IsWhole) (arg22 : Memref sig .tc .vmem S272x1024 .f32) (harg22 : arg22.IsWhole) (arg23 : Memref sig .tc .vmem S256x1024 .f32) (harg23 : arg23.IsWhole) (arg24 : Memref sig .tc .vmem S256x1024 .f32) (harg24 : arg24.IsWhole) (arg25 : Memref sig .tc .vmem S256x1024 .f32) (harg25 : arg25.IsWhole) (arg26 : Memref sig .tc .vmem S128x1024 .f32) (harg26 : arg26.IsWhole) (arg27 : Memref sig .tc .vmem S4x256x256 .f32) (harg27 : arg27.IsWhole) (arg28 : Memref sig .tc .vmem S4x256x256 .f32) (harg28 : arg28.IsWhole)
    (x1 : Vec F S256x5120 .f32) (x2 : Vec F S256x1024 .bf16) (x3 : Vec F S256x1024 .bf16) (x4 : Vec F S4x256x256 .bf16) (x5 : Vec F S1x1024 .f32) (x6 : Vec F S1x1024 .f32) (x7 : Vec F S1x1024 .f32) (x8 : Vec F S4x128x128 .bf16) (x9 : Vec F S4x128x128 .bf16) (x10 : Vec F S4x128x1 .f32) (x11 : Vec F S4x256x256 .bf16) (x12 : Vec F S1024x1024 .bf16) (x13 : Vec F S128x128 .f32) (x14 : Vec F S8x128 .f32) (y18 : Vec F S4x128x128 .f32) (y20 : Vec F S8x1024 .f32) (y21 : Vec F S8x5120 .f32) (y22 : Vec F S272x1024 .f32) (y26 : Vec F S128x1024 .f32) (y27 : Vec F S4x256x256 .f32) (y28 : Vec F S4x256x256 .f32) :
    Σ' (L15 : List (View.Piece (Elt F) S256x5120 .bf16)), Σ' (L18 : List (View.Piece (Elt F) S4x128x128 .f32)), Σ' (L20 : List (View.Piece (Elt F) S8x1024 .f32)), Σ' (L21 : List (View.Piece (Elt F) S8x5120 .f32)), Σ' (L22 : List (View.Piece (Elt F) S272x1024 .f32)), Σ' (L23 : List (View.Piece (Elt F) S256x1024 .f32)), Σ' (L24 : List (View.Piece (Elt F) S256x1024 .f32)), Σ' (L25 : List (View.Piece (Elt F) S256x1024 .f32)), Σ' (L26 : List (View.Piece (Elt F) S128x1024 .f32)), Σ' (L27 : List (View.Piece (Elt F) S4x256x256 .f32)), { L28 : List (View.Piece (Elt F) S4x256x256 .f32) //
      ∀ (E : Set ℕ) (K : PUnit → sProp 𝕄), ¬last i →
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
            ∗ (∃ d, owns (c : Thread nD τ) arg15 fullShare d) ∗ owns (c : Thread nD τ) arg18 fullShare y18 ∗ owns (c : Thread nD τ) arg20 fullShare y20 ∗ owns (c : Thread nD τ) arg21 fullShare y21 ∗ owns (c : Thread nD τ) arg22 fullShare y22 ∗ (∃ d, owns (c : Thread nD τ) arg23 fullShare d) ∗ (∃ d, owns (c : Thread nD τ) arg24 fullShare d) ∗ (∃ d, owns (c : Thread nD τ) arg25 fullShare d) ∗ owns (c : Thread nD τ) arg26 fullShare y26 ∗ owns (c : Thread nD τ) arg27 fullShare y27 ∗ owns (c : Thread nD τ) arg28 fullShare y28
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
            ∗ (∃ f, arg15.view.loc (c : Thread nD τ) ↦[arg15.view.set]{fullShare} arg15.view.writes (Elt F) f L15) ∗ (arg18.view.loc (c : Thread nD τ) ↦[arg18.view.set]{fullShare} arg18.view.writes (Elt F) (harg18.unread y18) L18) ∗ (arg20.view.loc (c : Thread nD τ) ↦[arg20.view.set]{fullShare} arg20.view.writes (Elt F) (harg20.unread y20) L20) ∗ (arg21.view.loc (c : Thread nD τ) ↦[arg21.view.set]{fullShare} arg21.view.writes (Elt F) (harg21.unread y21) L21) ∗ (arg22.view.loc (c : Thread nD τ) ↦[arg22.view.set]{fullShare} arg22.view.writes (Elt F) (harg22.unread y22) L22) ∗ (∃ f, arg23.view.loc (c : Thread nD τ) ↦[arg23.view.set]{fullShare} arg23.view.writes (Elt F) f L23) ∗ (∃ f, arg24.view.loc (c : Thread nD τ) ↦[arg24.view.set]{fullShare} arg24.view.writes (Elt F) f L24) ∗ (∃ f, arg25.view.loc (c : Thread nD τ) ↦[arg25.view.set]{fullShare} arg25.view.writes (Elt F) f L25) ∗ (arg26.view.loc (c : Thread nD τ) ↦[arg26.view.set]{fullShare} arg26.view.writes (Elt F) (harg26.unread y26) L26) ∗ (arg27.view.loc (c : Thread nD τ) ↦[arg27.view.set]{fullShare} arg27.view.writes (Elt F) (harg27.unread y27) L27) ∗ (arg28.view.loc (c : Thread nD τ) ↦[arg28.view.set]{fullShare} arg28.view.writes (Elt F) (harg28.unread y28) L28)) -∗ K ⟨⟩))
          ⊢ wp frame (wpE (defs₀ (F := F)) Variants.none c none) E (rest (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28).1 K } := by
  refine ⟨?_, ?_, ?_, ?_, ?_, ?_, ?_, ?_, ?_, ?_, ?_, fun E K hc1 => ?run⟩
  case run =>
    unfold rest; dsimp only
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%f18, %hf18, H18⟩, ⟨%f20, %hf20, H20⟩, ⟨%f21, %hf21, H21⟩, ⟨%f22, %hf22, H22⟩, ⟨%d23, %f23, -, H23⟩, ⟨%d24, %f24, -, H24⟩, ⟨%d25, %f25, -, H25⟩, ⟨%f26, %hf26, H26⟩, ⟨%f27, %hf27, H27⟩, ⟨%f28, %hf28, H28⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg18.eq_unread hf18; obtain rfl := harg20.eq_unread hf20; obtain rfl := harg21.eq_unread hf21; obtain rfl := harg22.eq_unread hf22; obtain rfl := harg26.eq_unread hf26; obtain rfl := harg27.eq_unread hf27; obtain rfl := harg28.eq_unread hf28
    sl_exec (disch := sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]; · iexists _; iexact H15
    isplitl [H18]; · iexact H18
    isplitl [H20]; · iexact H20
    isplitl [H21]; · iexact H21
    isplitl [H22]; · iexact H22
    isplitl [H23]; · iexists _; iexact H23
    isplitl [H24]; · iexists _; iexact H24
    isplitl [H25]; · iexists _; iexact H25
    isplitl [H26]; · iexact H26
    isplitl [H27]; · iexact H27
    iexact H28

end Cert.Mx

end
-- ==== Proof.Mx.Win.lean ====
module

public import proofs.«01_k».proof.Proof.Mx.Mid

@[expose] public section

set_option maxRecDepth 16384

noncomputable section

namespace Cert.Mx

open Cert.KernelMxIdeal Cert.KernelMxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- A load of the window buffer over four stores that cover its first 256 rows depends on its other rows only. -/
theorem win_congr {κ : Kind} {sp : Space} (v : View sig κ sp S272x1024 .f32) (f g : v.ty.Contents (Elt F))
    (L : List (View.Piece (Elt F) S272x1024 .f32)) (hL : ∀ j : S272x1024.Idx, (j 0).val < 256 → ∃ p ∈ L, j ∈ p.1.set)
    (h : ∀ j : S272x1024.Idx, 256 ≤ (j 0).val → v.read (Elt F) f j = v.read (Elt F) g j) (B : LoadRect S272x1024) :
    v.readAt (Elt F) B (v.writes (Elt F) f L) = v.readAt (Elt F) B (v.writes (Elt F) g L) := by
  funext x
  show v.read (Elt F) _ (B.idx x) = v.read (Elt F) _ (B.idx x)
  by_cases hc : ∃ p ∈ L, B.idx x ∈ p.1.set
  · exact View.read_writes_apply_eq v f v g _ L hc
  · have hn : ∀ p ∈ L, B.idx x ∉ p.1.set := fun p hp hm => hc ⟨p, hp, hm⟩
    rw [View.read_writes_apply_of_forall_not_mem v f _ L hn, View.read_writes_apply_of_forall_not_mem v g _ L hn]
    exact h _ (Nat.le_of_not_lt fun hlt => hc (hL _ hlt))

/-- Four stores of 256 columns each cover the first 256 rows. -/
theorem cover_rows {L : List (View.Piece (Elt F) S272x1024 .f32)}
    (hL : ∀ k : Fin 4, ∃ p ∈ L, ∃ inb, p.1 = Rect.unit (s := S272x1024) ![0, 256 * k.val] S256x256.size inb)
    (j : S272x1024.Idx) (hj : (j 0).val < 256) : ∃ p ∈ L, j ∈ p.1.set := by
  have h1 : (j 1).val < 1024 := (j 1).isLt
  obtain ⟨p, hp, inb, e⟩ := hL ⟨(j 1).val / 256, by omega⟩
  refine ⟨p, hp, ?_⟩
  rw [e, Rect.mem_set_unit]
  intro a
  fin_cases a
  · exact ⟨Nat.zero_le _, by simpa using hj⟩
  · exact ⟨by show 256 * ((j 1).val / 256) ≤ (j 1).val; omega, by show (j 1).val < 256 * ((j 1).val / 256) + 256; omega⟩

variable (c : Dev nD) (i : grid0.Coords)
  (arg1 : Memref sig .tc .vmem S256x5120 .f32) (harg1 : arg1.IsWhole) (arg3 : Memref sig .tc .vmem S256x1024 .bf16) (harg3 : arg3.IsWhole) (arg4 : Memref sig .tc .vmem S4x256x256 .bf16) (harg4 : arg4.IsWhole) (arg5 : Memref sig .tc .vmem S1x1024 .f32) (harg5 : arg5.IsWhole) (arg12 : Memref sig .tc .vmem S1024x1024 .bf16) (harg12 : arg12.IsWhole) (arg22 : Memref sig .tc .vmem S272x1024 .f32) (harg22 : arg22.IsWhole)
  (x1 : Vec F S256x5120 .f32) (x3 : Vec F S256x1024 .bf16) (x4 : Vec F S4x256x256 .bf16) (x5 : Vec F S1x1024 .f32) (x12 : Vec F S1024x1024 .bf16)

theorem cover_H : ∀ j : S272x1024.Idx, (j 0).val < 256 →
    ∃ p ∈ mid.sl.H22_4 c i arg1 harg1 arg3 harg3 arg4 harg4 arg5 harg5 arg12 harg12 x1 x3 x4 x5 x12, j ∈ p.1.set :=
  cover_rows fun k => by
    unfold mid.sl.H22_4
    fin_cases k
    · exact ⟨_, .tail _ (.tail _ (.tail _ (.head _))), by decide, rfl⟩
    · exact ⟨_, .tail _ (.tail _ (.head _)), by decide, rfl⟩
    · exact ⟨_, .tail _ (.head _), by decide, rfl⟩
    · exact ⟨_, .head _, by decide, rfl⟩

variable {y z : Vec F S272x1024 .f32} (h : ∀ j : S272x1024.Idx, 256 ≤ (j 0).val → y j = z j)
include h

theorem v405_congr : mid.sl.v405 c i arg1 harg1 arg3 harg3 arg4 harg4 arg5 harg5 arg12 harg12 arg22 harg22 x1 x3 x4 x5 x12 y = mid.sl.v405 c i arg1 harg1 arg3 harg3 arg4 harg4 arg5 harg5 arg12 harg12 arg22 harg22 x1 x3 x4 x5 x12 z := by
  unfold mid.sl.v405
  exact win_congr _ _ _ _ (cover_H c i arg1 harg1 arg3 harg3 arg4 harg4 arg5 harg5 arg12 harg12 x1 x3 x4 x5 x12)
    (fun j hj => by rw [harg22.read_unread, harg22.read_unread]; exact h j hj) _

theorem v418_congr : mid.sl.v418 c i arg1 harg1 arg3 harg3 arg4 harg4 arg5 harg5 arg12 harg12 arg22 harg22 x1 x3 x4 x5 x12 y = mid.sl.v418 c i arg1 harg1 arg3 harg3 arg4 harg4 arg5 harg5 arg12 harg12 arg22 harg22 x1 x3 x4 x5 x12 z := by
  unfold mid.sl.v418
  exact win_congr _ _ _ _ (cover_H c i arg1 harg1 arg3 harg3 arg4 harg4 arg5 harg5 arg12 harg12 x1 x3 x4 x5 x12)
    (fun j hj => by rw [harg22.read_unread, harg22.read_unread]; exact h j hj) _

theorem v433_congr : mid.sl.v433 c i arg1 harg1 arg3 harg3 arg4 harg4 arg5 harg5 arg12 harg12 arg22 harg22 x1 x3 x4 x5 x12 y = mid.sl.v433 c i arg1 harg1 arg3 harg3 arg4 harg4 arg5 harg5 arg12 harg12 arg22 harg22 x1 x3 x4 x5 x12 z := by
  unfold mid.sl.v433
  exact win_congr _ _ _ _ (cover_H c i arg1 harg1 arg3 harg3 arg4 harg4 arg5 harg5 arg12 harg12 x1 x3 x4 x5 x12)
    (fun j hj => by rw [harg22.read_unread, harg22.read_unread]; exact h j hj) _

theorem v450_congr : mid.sl.v450 c i arg1 harg1 arg3 harg3 arg4 harg4 arg5 harg5 arg12 harg12 arg22 harg22 x1 x3 x4 x5 x12 y = mid.sl.v450 c i arg1 harg1 arg3 harg3 arg4 harg4 arg5 harg5 arg12 harg12 arg22 harg22 x1 x3 x4 x5 x12 z := by
  unfold mid.sl.v450
  exact win_congr _ _ _ _ (cover_H c i arg1 harg1 arg3 harg3 arg4 harg4 arg5 harg5 arg12 harg12 x1 x3 x4 x5 x12)
    (fun j hj => by rw [harg22.read_unread, harg22.read_unread]; exact h j hj) _

omit h in
/-- What a point stores does not depend on the window buffer's first 256 rows. -/
theorem mid_congr  (c : Dev nD) (i : grid0.Coords) (arg1 : Memref sig .tc .vmem S256x5120 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S4x256x256 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4x128x128 .bf16) (harg8 : arg8.IsWhole) (arg9 : Memref sig .tc .vmem S4x128x128 .bf16) (harg9 : arg9.IsWhole) (arg10 : Memref sig .tc .vmem S4x128x1 .f32) (harg10 : arg10.IsWhole) (arg11 : Memref sig .tc .vmem S4x256x256 .bf16) (harg11 : arg11.IsWhole) (arg12 : Memref sig .tc .vmem S1024x1024 .bf16) (harg12 : arg12.IsWhole) (arg13 : Memref sig .tc .vmem S128x128 .f32) (harg13 : arg13.IsWhole) (arg14 : Memref sig .tc .vmem S8x128 .f32) (harg14 : arg14.IsWhole) (arg15 : Memref sig .tc .vmem S256x5120 .bf16) (harg15 : arg15.IsWhole) (arg16 : Memref sig .tc .vmem S2x4x128x256 .bf16) (harg16 : arg16.IsWhole) (arg17 : Memref sig .tc .vmem S2x4x128x256 .bf16) (harg17 : arg17.IsWhole) (arg18 : Memref sig .tc .vmem S4x128x128 .f32) (harg18 : arg18.IsWhole) (arg19 : Memref sig .tc .vmem S128x512 .f32) (harg19 : arg19.IsWhole) (arg20 : Memref sig .tc .vmem S8x1024 .f32) (harg20 : arg20.IsWhole) (arg21 : Memref sig .tc .vmem S8x5120 .f32) (harg21 : arg21.IsWhole) (arg22 : Memref sig .tc .vmem S272x1024 .f32) (harg22 : arg22.IsWhole) (arg23 : Memref sig .tc .vmem S256x1024 .f32) (harg23 : arg23.IsWhole) (arg24 : Memref sig .tc .vmem S256x1024 .f32) (harg24 : arg24.IsWhole) (arg25 : Memref sig .tc .vmem S256x1024 .f32) (harg25 : arg25.IsWhole) (arg26 : Memref sig .tc .vmem S128x1024 .f32) (harg26 : arg26.IsWhole) (arg27 : Memref sig .tc .vmem S4x256x256 .f32) (harg27 : arg27.IsWhole) (arg28 : Memref sig .tc .vmem S4x256x256 .f32) (harg28 : arg28.IsWhole)
    (x1 : Vec F S256x5120 .f32) (x2 : Vec F S256x1024 .bf16) (x3 : Vec F S256x1024 .bf16) (x4 : Vec F S4x256x256 .bf16) (x5 : Vec F S1x1024 .f32) (x6 : Vec F S1x1024 .f32) (x7 : Vec F S1x1024 .f32) (x8 : Vec F S4x128x128 .bf16) (x9 : Vec F S4x128x128 .bf16) (x10 : Vec F S4x128x1 .f32) (x11 : Vec F S4x256x256 .bf16) (x12 : Vec F S1024x1024 .bf16) (x13 : Vec F S128x128 .f32) (x14 : Vec F S8x128 .f32) (y18 : Vec F S4x128x128 .f32) (y20 : Vec F S8x1024 .f32) (y21 : Vec F S8x5120 .f32) (y22 : Vec F S272x1024 .f32) (y26 : Vec F S128x1024 .f32) (y27 : Vec F S4x256x256 .f32) (y28 : Vec F S4x256x256 .f32) (z : Vec F S272x1024 .f32)
    (h : ∀ j : S272x1024.Idx, 256 ≤ (j 0).val → y22 j = z j) :
    (mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).1 = (mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 z y26 y27 y28).1 ∧ (mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.1 = (mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 z y26 y27 y28).2.2.2.1
      ∧ (mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.1 = (mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 z y26 y27 y28).2.2.2.2.1 := by
  have e1 := v405_congr c i arg1 harg1 arg3 harg3 arg4 harg4 arg5 harg5 arg12 harg12 arg22 harg22 x1 x3 x4 x5 x12 h
  have e2 := v418_congr c i arg1 harg1 arg3 harg3 arg4 harg4 arg5 harg5 arg12 harg12 arg22 harg22 x1 x3 x4 x5 x12 h
  have e3 := v433_congr c i arg1 harg1 arg3 harg3 arg4 harg4 arg5 harg5 arg12 harg12 arg22 harg22 x1 x3 x4 x5 x12 h
  have e4 := v450_congr c i arg1 harg1 arg3 harg3 arg4 harg4 arg5 harg5 arg12 harg12 arg22 harg22 x1 x3 x4 x5 x12 h
  unfold mid; dsimp only
  refine ⟨?_, ?_, ?_⟩
  · rw [e1, e2, e3, e4]
  · unfold mid.sl.r_36 mid.sl.r_37
    rw [e1, e2, e3, e4]
  · rfl

end Cert.Mx

end
-- ==== Proof.Mx.Glue.lean ====
module

public import proofs.«01_k».proof.Proof.Mx.Rest

@[expose] public section

set_option maxRecDepth 16384

noncomputable section

namespace Cert.Mx

open Cert.KernelMxIdeal Cert.KernelMxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (i : grid0.Coords) (arg1 : Memref sig .tc .vmem S256x5120 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S4x256x256 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4x128x128 .bf16) (harg8 : arg8.IsWhole) (arg9 : Memref sig .tc .vmem S4x128x128 .bf16) (harg9 : arg9.IsWhole) (arg10 : Memref sig .tc .vmem S4x128x1 .f32) (harg10 : arg10.IsWhole) (arg11 : Memref sig .tc .vmem S4x256x256 .bf16) (harg11 : arg11.IsWhole) (arg12 : Memref sig .tc .vmem S1024x1024 .bf16) (harg12 : arg12.IsWhole) (arg13 : Memref sig .tc .vmem S128x128 .f32) (harg13 : arg13.IsWhole) (arg14 : Memref sig .tc .vmem S8x128 .f32) (harg14 : arg14.IsWhole) (arg15 : Memref sig .tc .vmem S256x5120 .bf16) (harg15 : arg15.IsWhole) (arg16 : Memref sig .tc .vmem S2x4x128x256 .bf16) (harg16 : arg16.IsWhole) (arg17 : Memref sig .tc .vmem S2x4x128x256 .bf16) (harg17 : arg17.IsWhole) (arg18 : Memref sig .tc .vmem S4x128x128 .f32) (harg18 : arg18.IsWhole) (arg19 : Memref sig .tc .vmem S128x512 .f32) (harg19 : arg19.IsWhole) (arg20 : Memref sig .tc .vmem S8x1024 .f32) (harg20 : arg20.IsWhole) (arg21 : Memref sig .tc .vmem S8x5120 .f32) (harg21 : arg21.IsWhole) (arg22 : Memref sig .tc .vmem S272x1024 .f32) (harg22 : arg22.IsWhole) (arg23 : Memref sig .tc .vmem S256x1024 .f32) (harg23 : arg23.IsWhole) (arg24 : Memref sig .tc .vmem S256x1024 .f32) (harg24 : arg24.IsWhole) (arg25 : Memref sig .tc .vmem S256x1024 .f32) (harg25 : arg25.IsWhole) (arg26 : Memref sig .tc .vmem S128x1024 .f32) (harg26 : arg26.IsWhole) (arg27 : Memref sig .tc .vmem S4x256x256 .f32) (harg27 : arg27.IsWhole) (arg28 : Memref sig .tc .vmem S4x256x256 .f32) (harg28 : arg28.IsWhole)
  (x1 : Vec F S256x5120 .f32) (x2 : Vec F S256x1024 .bf16) (x3 : Vec F S256x1024 .bf16) (x4 : Vec F S4x256x256 .bf16) (x5 : Vec F S1x1024 .f32) (x6 : Vec F S1x1024 .f32) (x7 : Vec F S1x1024 .f32) (x8 : Vec F S4x128x128 .bf16) (x9 : Vec F S4x128x128 .bf16) (x10 : Vec F S4x128x1 .f32) (x11 : Vec F S4x256x256 .bf16) (x12 : Vec F S1024x1024 .bf16) (x13 : Vec F S128x128 .f32) (x14 : Vec F S8x128 .f32)

/-- What the run of a point that is not the last says, of given lists of stores. -/
def RunMid (y18 : Vec F S4x128x128 .f32) (y20 : Vec F S8x1024 .f32) (y21 : Vec F S8x5120 .f32) (y22 : Vec F S272x1024 .f32) (y26 : Vec F S128x1024 .f32) (y27 : Vec F S4x256x256 .f32) (y28 : Vec F S4x256x256 .f32) (L15 : List (View.Piece (Elt F) S256x5120 .bf16)) (L18 : List (View.Piece (Elt F) S4x128x128 .f32)) (L20 : List (View.Piece (Elt F) S8x1024 .f32)) (L21 : List (View.Piece (Elt F) S8x5120 .f32)) (L22 : List (View.Piece (Elt F) S272x1024 .f32)) (L23 : List (View.Piece (Elt F) S256x1024 .f32)) (L24 : List (View.Piece (Elt F) S256x1024 .f32)) (L25 : List (View.Piece (Elt F) S256x1024 .f32)) (L26 : List (View.Piece (Elt F) S128x1024 .f32)) (L27 : List (View.Piece (Elt F) S4x256x256 .f32)) (L28 : List (View.Piece (Elt F) S4x256x256 .f32)) : Prop :=
  ∀ (E : Set ℕ) (K : PUnit → sProp 𝕄), ¬last i →
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
            ∗ (∃ d, owns (c : Thread nD τ) arg15 fullShare d) ∗ owns (c : Thread nD τ) arg18 fullShare y18 ∗ owns (c : Thread nD τ) arg20 fullShare y20 ∗ owns (c : Thread nD τ) arg21 fullShare y21 ∗ owns (c : Thread nD τ) arg22 fullShare y22 ∗ (∃ d, owns (c : Thread nD τ) arg23 fullShare d) ∗ (∃ d, owns (c : Thread nD τ) arg24 fullShare d) ∗ (∃ d, owns (c : Thread nD τ) arg25 fullShare d) ∗ owns (c : Thread nD τ) arg26 fullShare y26 ∗ owns (c : Thread nD τ) arg27 fullShare y27 ∗ owns (c : Thread nD τ) arg28 fullShare y28
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (∃ f, arg15.view.loc (c : Thread nD τ) ↦[arg15.view.set]{fullShare} arg15.view.writes (Elt F) f L15) ∗ (arg18.view.loc (c : Thread nD τ) ↦[arg18.view.set]{fullShare} arg18.view.writes (Elt F) (harg18.unread y18) L18) ∗ (arg20.view.loc (c : Thread nD τ) ↦[arg20.view.set]{fullShare} arg20.view.writes (Elt F) (harg20.unread y20) L20) ∗ (arg21.view.loc (c : Thread nD τ) ↦[arg21.view.set]{fullShare} arg21.view.writes (Elt F) (harg21.unread y21) L21) ∗ (arg22.view.loc (c : Thread nD τ) ↦[arg22.view.set]{fullShare} arg22.view.writes (Elt F) (harg22.unread y22) L22) ∗ (∃ f, arg23.view.loc (c : Thread nD τ) ↦[arg23.view.set]{fullShare} arg23.view.writes (Elt F) f L23) ∗ (∃ f, arg24.view.loc (c : Thread nD τ) ↦[arg24.view.set]{fullShare} arg24.view.writes (Elt F) f L24) ∗ (∃ f, arg25.view.loc (c : Thread nD τ) ↦[arg25.view.set]{fullShare} arg25.view.writes (Elt F) f L25) ∗ (arg26.view.loc (c : Thread nD τ) ↦[arg26.view.set]{fullShare} arg26.view.writes (Elt F) (harg26.unread y26) L26) ∗ (arg27.view.loc (c : Thread nD τ) ↦[arg27.view.set]{fullShare} arg27.view.writes (Elt F) (harg27.unread y27) L27) ∗ (arg28.view.loc (c : Thread nD τ) ↦[arg28.view.set]{fullShare} arg28.view.writes (Elt F) (harg28.unread y28) L28)) -∗ K ⟨⟩))
      ⊢ wp frame (wpE (defs₀ (F := F)) Variants.none c none) E (rest (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28).1 K

set_option maxHeartbeats 4000000 in
/-- What every buffer holds after the body, from buffers that hold the sums `z` once they are cleared. -/
theorem RunMid.step (y18 : Vec F S4x128x128 .f32) (y20 : Vec F S8x1024 .f32) (y21 : Vec F S8x5120 .f32) (y22 : Vec F S272x1024 .f32) (y26 : Vec F S128x1024 .f32) (y27 : Vec F S4x256x256 .f32) (y28 : Vec F S4x256x256 .f32) (z18 : Vec F S4x128x128 .f32) (z20 : Vec F S8x1024 .f32) (z21 : Vec F S8x5120 .f32) (z22 : Vec F S272x1024 .f32) (z26 : Vec F S128x1024 .f32) (z27 : Vec F S4x256x256 .f32) (z28 : Vec F S4x256x256 .f32) (L15 : List (View.Piece (Elt F) S256x5120 .bf16)) (L18 : List (View.Piece (Elt F) S4x128x128 .f32)) (L20 : List (View.Piece (Elt F) S8x1024 .f32)) (L21 : List (View.Piece (Elt F) S8x5120 .f32)) (L22 : List (View.Piece (Elt F) S272x1024 .f32)) (L23 : List (View.Piece (Elt F) S256x1024 .f32)) (L24 : List (View.Piece (Elt F) S256x1024 .f32)) (L25 : List (View.Piece (Elt F) S256x1024 .f32)) (L26 : List (View.Piece (Elt F) S128x1024 .f32)) (L27 : List (View.Piece (Elt F) S4x256x256 .f32)) (L28 : List (View.Piece (Elt F) S4x256x256 .f32))
    (run : RunMid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 z18 z20 z21 (clearRows i y22) z26 z27 z28 L15 L18 L20 L21 L22 L23 L24 L25 L26 L27 L28)
    (c15 : ∀ y, ∃ p ∈ L15, y ∈ p.1.set)
    (c22 : ∀ y, ∃ p ∈ L22, y ∈ p.1.set)
    (h18 : (clear i y18) = z18)
    (h20 : (clear i y20) = z20)
    (h21 : (clear i y21) = z21)
    (h26 : (clear i y26) = z26)
    (h27 : (clear i y27) = z27)
    (h28 : (clear i y28) = z28)
    (hl : ¬last i) (E : Set ℕ) (K : PUnit → sProp 𝕄) :
    iprop(owns (c : Thread nD τ) arg18 fullShare y18 ∗ owns (c : Thread nD τ) arg20 fullShare y20 ∗ owns (c : Thread nD τ) arg21 fullShare y21 ∗ owns (c : Thread nD τ) arg22 fullShare y22 ∗ owns (c : Thread nD τ) arg26 fullShare y26 ∗ owns (c : Thread nD τ) arg27 fullShare y27 ∗ owns (c : Thread nD τ) arg28 fullShare y28
        ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (∃ d, owns (c : Thread nD τ) arg15 fullShare d) ∗ (∃ d, owns (c : Thread nD τ) arg23 fullShare d) ∗ (∃ d, owns (c : Thread nD τ) arg24 fullShare d) ∗ (∃ d, owns (c : Thread nD τ) arg25 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare (View.canon L15) ∗ owns (c : Thread nD τ) arg18 fullShare (arg18.view.read (Elt F) (arg18.view.writes (Elt F) (harg18.unread z18) L18)) ∗ owns (c : Thread nD τ) arg20 fullShare (arg20.view.read (Elt F) (arg20.view.writes (Elt F) (harg20.unread z20) L20)) ∗ owns (c : Thread nD τ) arg21 fullShare (arg21.view.read (Elt F) (arg21.view.writes (Elt F) (harg21.unread z21) L21)) ∗ owns (c : Thread nD τ) arg22 fullShare (View.canon L22) ∗ (∃ d, owns (c : Thread nD τ) arg23 fullShare d) ∗ (∃ d, owns (c : Thread nD τ) arg24 fullShare d) ∗ (∃ d, owns (c : Thread nD τ) arg25 fullShare d) ∗ owns (c : Thread nD τ) arg26 fullShare (arg26.view.read (Elt F) (arg26.view.writes (Elt F) (harg26.unread z26) L26)) ∗ owns (c : Thread nD τ) arg27 fullShare (arg27.view.read (Elt F) (arg27.view.writes (Elt F) (harg27.unread z27) L27)) ∗ owns (c : Thread nD τ) arg28 fullShare (arg28.view.read (Elt F) (arg28.view.writes (Elt F) (harg28.unread z28) L28))) -∗ K ⟨⟩))
      ⊢ wp frame (wpE (defs₀ (F := F)) Variants.none c none) E (cc0_mix_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  refine start (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 E K _ y18 y20 y21 y22 y26 y27 y28 ?_
  rw [h18, h20, h21, h26, h27, h28]
  have run' := run E K hl
  iintro ⟨H18, H20, H21, H22, H26, H27, H28, H1, H2, H3, H4, H5, H6, H7, H8, H9, H10, H11, H12, H13, H14, H15, H23, H24, H25, Hk⟩
  iapply run'
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H18]; · iexact H18
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  iintro ⟨H1, H2, H3, H4, H5, H6, H7, H8, H9, H10, H11, H12, H13, H14, ⟨%f15, H15⟩, H18, H20, H21, H22, ⟨%f23, H23⟩, ⟨%f24, H24⟩, ⟨%f25, H25⟩, H26, H27, H28⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]
  · unfold owns; iexists _; isplitr
    swap; · iexact H15
    ipureintro; exact View.read_writes_eq_canon _ _ _ c15
  isplitl [H18]
  · iapply (owns_intro (c : Thread nD τ) arg18 fullShare _); iexact H18
  isplitl [H20]
  · iapply (owns_intro (c : Thread nD τ) arg20 fullShare _); iexact H20
  isplitl [H21]
  · iapply (owns_intro (c : Thread nD τ) arg21 fullShare _); iexact H21
  isplitl [H22]
  · unfold owns; iexists _; isplitr
    swap; · iexact H22
    ipureintro; exact View.read_writes_eq_canon _ _ _ c22
  isplitl [H23]
  · iexists _; iapply (owns_intro (c : Thread nD τ) arg23 fullShare _); iexact H23
  isplitl [H24]
  · iexists _; iapply (owns_intro (c : Thread nD τ) arg24 fullShare _); iexact H24
  isplitl [H25]
  · iexists _; iapply (owns_intro (c : Thread nD τ) arg25 fullShare _); iexact H25
  isplitl [H26]
  · iapply (owns_intro (c : Thread nD τ) arg26 fullShare _); iexact H26
  isplitl [H27]
  · iapply (owns_intro (c : Thread nD τ) arg27 fullShare _); iexact H27
  iapply (owns_intro (c : Thread nD τ) arg28 fullShare _); iexact H28

/-- What the run of the last point says, of given lists of stores. -/
def RunFin (y18 : Vec F S4x128x128 .f32) (y20 : Vec F S8x1024 .f32) (y21 : Vec F S8x5120 .f32) (y22 : Vec F S272x1024 .f32) (y26 : Vec F S128x1024 .f32) (y27 : Vec F S4x256x256 .f32) (y28 : Vec F S4x256x256 .f32) (L15 : List (View.Piece (Elt F) S256x5120 .bf16)) (L16 : List (View.Piece (Elt F) S2x4x128x256 .bf16)) (L17 : List (View.Piece (Elt F) S2x4x128x256 .bf16)) (L18 : List (View.Piece (Elt F) S4x128x128 .f32)) (L19 : List (View.Piece (Elt F) S128x512 .f32)) (L20 : List (View.Piece (Elt F) S8x1024 .f32)) (L21 : List (View.Piece (Elt F) S8x5120 .f32)) (L22 : List (View.Piece (Elt F) S272x1024 .f32)) (L23 : List (View.Piece (Elt F) S256x1024 .f32)) (L24 : List (View.Piece (Elt F) S256x1024 .f32)) (L25 : List (View.Piece (Elt F) S256x1024 .f32)) (L26 : List (View.Piece (Elt F) S128x1024 .f32)) (L27 : List (View.Piece (Elt F) S4x256x256 .f32)) (L28 : List (View.Piece (Elt F) S4x256x256 .f32)) : Prop :=
  ∀ (E : Set ℕ) (K : PUnit → sProp 𝕄), last i →
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
            ∗ (∃ d, owns (c : Thread nD τ) arg15 fullShare d) ∗ (∃ d, owns (c : Thread nD τ) arg16 fullShare d) ∗ (∃ d, owns (c : Thread nD τ) arg17 fullShare d) ∗ owns (c : Thread nD τ) arg18 fullShare y18 ∗ (∃ d, owns (c : Thread nD τ) arg19 fullShare d) ∗ owns (c : Thread nD τ) arg20 fullShare y20 ∗ owns (c : Thread nD τ) arg21 fullShare y21 ∗ owns (c : Thread nD τ) arg22 fullShare y22 ∗ (∃ d, owns (c : Thread nD τ) arg23 fullShare d) ∗ (∃ d, owns (c : Thread nD τ) arg24 fullShare d) ∗ (∃ d, owns (c : Thread nD τ) arg25 fullShare d) ∗ owns (c : Thread nD τ) arg26 fullShare y26 ∗ owns (c : Thread nD τ) arg27 fullShare y27 ∗ owns (c : Thread nD τ) arg28 fullShare y28
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ (arg18.view.loc (c : Thread nD τ) ↦[arg18.view.set]{fullShare} arg18.view.writes (Elt F) (harg18.unread y18) L18) ∗ (∃ f, arg19.view.loc (c : Thread nD τ) ↦[arg19.view.set]{fullShare} arg19.view.writes (Elt F) f L19) ∗ (arg20.view.loc (c : Thread nD τ) ↦[arg20.view.set]{fullShare} arg20.view.writes (Elt F) (harg20.unread y20) L20) ∗ (arg21.view.loc (c : Thread nD τ) ↦[arg21.view.set]{fullShare} arg21.view.writes (Elt F) (harg21.unread y21) L21) ∗ (arg22.view.loc (c : Thread nD τ) ↦[arg22.view.set]{fullShare} arg22.view.writes (Elt F) (harg22.unread y22) L22) ∗ (∃ f, arg23.view.loc (c : Thread nD τ) ↦[arg23.view.set]{fullShare} arg23.view.writes (Elt F) f L23) ∗ (∃ f, arg24.view.loc (c : Thread nD τ) ↦[arg24.view.set]{fullShare} arg24.view.writes (Elt F) f L24) ∗ (∃ f, arg25.view.loc (c : Thread nD τ) ↦[arg25.view.set]{fullShare} arg25.view.writes (Elt F) f L25) ∗ (arg26.view.loc (c : Thread nD τ) ↦[arg26.view.set]{fullShare} arg26.view.writes (Elt F) (harg26.unread y26) L26) ∗ (arg27.view.loc (c : Thread nD τ) ↦[arg27.view.set]{fullShare} arg27.view.writes (Elt F) (harg27.unread y27) L27) ∗ (arg28.view.loc (c : Thread nD τ) ↦[arg28.view.set]{fullShare} arg28.view.writes (Elt F) (harg28.unread y28) L28)) -∗ K ⟨⟩))
      ⊢ wp frame (wpE (defs₀ (F := F)) Variants.none c none) E (rest (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28).1 K

set_option maxHeartbeats 4000000 in
/-- What every buffer holds after the body, from buffers that hold the sums `z` once they are cleared. -/
theorem RunFin.step (y18 : Vec F S4x128x128 .f32) (y20 : Vec F S8x1024 .f32) (y21 : Vec F S8x5120 .f32) (y22 : Vec F S272x1024 .f32) (y26 : Vec F S128x1024 .f32) (y27 : Vec F S4x256x256 .f32) (y28 : Vec F S4x256x256 .f32) (z18 : Vec F S4x128x128 .f32) (z20 : Vec F S8x1024 .f32) (z21 : Vec F S8x5120 .f32) (z22 : Vec F S272x1024 .f32) (z26 : Vec F S128x1024 .f32) (z27 : Vec F S4x256x256 .f32) (z28 : Vec F S4x256x256 .f32) (L15 : List (View.Piece (Elt F) S256x5120 .bf16)) (L16 : List (View.Piece (Elt F) S2x4x128x256 .bf16)) (L17 : List (View.Piece (Elt F) S2x4x128x256 .bf16)) (L18 : List (View.Piece (Elt F) S4x128x128 .f32)) (L19 : List (View.Piece (Elt F) S128x512 .f32)) (L20 : List (View.Piece (Elt F) S8x1024 .f32)) (L21 : List (View.Piece (Elt F) S8x5120 .f32)) (L22 : List (View.Piece (Elt F) S272x1024 .f32)) (L23 : List (View.Piece (Elt F) S256x1024 .f32)) (L24 : List (View.Piece (Elt F) S256x1024 .f32)) (L25 : List (View.Piece (Elt F) S256x1024 .f32)) (L26 : List (View.Piece (Elt F) S128x1024 .f32)) (L27 : List (View.Piece (Elt F) S4x256x256 .f32)) (L28 : List (View.Piece (Elt F) S4x256x256 .f32))
    (run : RunFin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 z18 z20 z21 (clearRows i y22) z26 z27 z28 L15 L16 L17 L18 L19 L20 L21 L22 L23 L24 L25 L26 L27 L28)
    (c15 : ∀ y, ∃ p ∈ L15, y ∈ p.1.set)
    (c16 : ∀ y, ∃ p ∈ L16, y ∈ p.1.set)
    (c17 : ∀ y, ∃ p ∈ L17, y ∈ p.1.set)
    (c19 : ∀ y, ∃ p ∈ L19, y ∈ p.1.set)
    (c22 : ∀ y, ∃ p ∈ L22, y ∈ p.1.set)
    (h18 : (clear i y18) = z18)
    (h20 : (clear i y20) = z20)
    (h21 : (clear i y21) = z21)
    (h26 : (clear i y26) = z26)
    (h27 : (clear i y27) = z27)
    (h28 : (clear i y28) = z28)
    (hl : last i) (E : Set ℕ) (K : PUnit → sProp 𝕄) :
    iprop(owns (c : Thread nD τ) arg18 fullShare y18 ∗ owns (c : Thread nD τ) arg20 fullShare y20 ∗ owns (c : Thread nD τ) arg21 fullShare y21 ∗ owns (c : Thread nD τ) arg22 fullShare y22 ∗ owns (c : Thread nD τ) arg26 fullShare y26 ∗ owns (c : Thread nD τ) arg27 fullShare y27 ∗ owns (c : Thread nD τ) arg28 fullShare y28
        ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg19 fullShare d) ∗ (∃ d, owns (c : Thread nD τ) arg23 fullShare d) ∗ (∃ d, owns (c : Thread nD τ) arg24 fullShare d) ∗ (∃ d, owns (c : Thread nD τ) arg25 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare (View.canon L15) ∗ owns (c : Thread nD τ) arg16 fullShare (View.canon L16) ∗ owns (c : Thread nD τ) arg17 fullShare (View.canon L17) ∗ owns (c : Thread nD τ) arg18 fullShare (arg18.view.read (Elt F) (arg18.view.writes (Elt F) (harg18.unread z18) L18)) ∗ owns (c : Thread nD τ) arg19 fullShare (View.canon L19) ∗ owns (c : Thread nD τ) arg20 fullShare (arg20.view.read (Elt F) (arg20.view.writes (Elt F) (harg20.unread z20) L20)) ∗ owns (c : Thread nD τ) arg21 fullShare (arg21.view.read (Elt F) (arg21.view.writes (Elt F) (harg21.unread z21) L21)) ∗ owns (c : Thread nD τ) arg22 fullShare (View.canon L22) ∗ (∃ d, owns (c : Thread nD τ) arg23 fullShare d) ∗ (∃ d, owns (c : Thread nD τ) arg24 fullShare d) ∗ (∃ d, owns (c : Thread nD τ) arg25 fullShare d) ∗ owns (c : Thread nD τ) arg26 fullShare (arg26.view.read (Elt F) (arg26.view.writes (Elt F) (harg26.unread z26) L26)) ∗ owns (c : Thread nD τ) arg27 fullShare (arg27.view.read (Elt F) (arg27.view.writes (Elt F) (harg27.unread z27) L27)) ∗ owns (c : Thread nD τ) arg28 fullShare (arg28.view.read (Elt F) (arg28.view.writes (Elt F) (harg28.unread z28) L28))) -∗ K ⟨⟩))
      ⊢ wp frame (wpE (defs₀ (F := F)) Variants.none c none) E (cc0_mix_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  refine start (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 E K _ y18 y20 y21 y22 y26 y27 y28 ?_
  rw [h18, h20, h21, h26, h27, h28]
  have run' := run E K hl
  iintro ⟨H18, H20, H21, H22, H26, H27, H28, H1, H2, H3, H4, H5, H6, H7, H8, H9, H10, H11, H12, H13, H14, H15, H16, H17, H19, H23, H24, H25, Hk⟩
  iapply run'
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  iintro ⟨H1, H2, H3, H4, H5, H6, H7, H8, H9, H10, H11, H12, H13, H14, ⟨%f15, H15⟩, ⟨%f16, H16⟩, ⟨%f17, H17⟩, H18, ⟨%f19, H19⟩, H20, H21, H22, ⟨%f23, H23⟩, ⟨%f24, H24⟩, ⟨%f25, H25⟩, H26, H27, H28⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]
  · unfold owns; iexists _; isplitr
    swap; · iexact H15
    ipureintro; exact View.read_writes_eq_canon _ _ _ c15
  isplitl [H16]
  · unfold owns; iexists _; isplitr
    swap; · iexact H16
    ipureintro; exact View.read_writes_eq_canon _ _ _ c16
  isplitl [H17]
  · unfold owns; iexists _; isplitr
    swap; · iexact H17
    ipureintro; exact View.read_writes_eq_canon _ _ _ c17
  isplitl [H18]
  · iapply (owns_intro (c : Thread nD τ) arg18 fullShare _); iexact H18
  isplitl [H19]
  · unfold owns; iexists _; isplitr
    swap; · iexact H19
    ipureintro; exact View.read_writes_eq_canon _ _ _ c19
  isplitl [H20]
  · iapply (owns_intro (c : Thread nD τ) arg20 fullShare _); iexact H20
  isplitl [H21]
  · iapply (owns_intro (c : Thread nD τ) arg21 fullShare _); iexact H21
  isplitl [H22]
  · unfold owns; iexists _; isplitr
    swap; · iexact H22
    ipureintro; exact View.read_writes_eq_canon _ _ _ c22
  isplitl [H23]
  · iexists _; iapply (owns_intro (c : Thread nD τ) arg23 fullShare _); iexact H23
  isplitl [H24]
  · iexists _; iapply (owns_intro (c : Thread nD τ) arg24 fullShare _); iexact H24
  isplitl [H25]
  · iexists _; iapply (owns_intro (c : Thread nD τ) arg25 fullShare _); iexact H25
  isplitl [H26]
  · iapply (owns_intro (c : Thread nD τ) arg26 fullShare _); iexact H26
  isplitl [H27]
  · iapply (owns_intro (c : Thread nD τ) arg27 fullShare _); iexact H27
  iapply (owns_intro (c : Thread nD τ) arg28 fullShare _); iexact H28

theorem RunMid.congr {y18 : Vec F S4x128x128 .f32} {y20 : Vec F S8x1024 .f32} {y21 : Vec F S8x5120 .f32} {y22 : Vec F S272x1024 .f32} {y26 : Vec F S128x1024 .f32} {y27 : Vec F S4x256x256 .f32} {y28 : Vec F S4x256x256 .f32} {L15 : List (View.Piece (Elt F) S256x5120 .bf16)} {L18 : List (View.Piece (Elt F) S4x128x128 .f32)} {L20 : List (View.Piece (Elt F) S8x1024 .f32)} {L21 : List (View.Piece (Elt F) S8x5120 .f32)} {L22 : List (View.Piece (Elt F) S272x1024 .f32)} {L23 : List (View.Piece (Elt F) S256x1024 .f32)} {L24 : List (View.Piece (Elt F) S256x1024 .f32)} {L25 : List (View.Piece (Elt F) S256x1024 .f32)} {L26 : List (View.Piece (Elt F) S128x1024 .f32)} {L27 : List (View.Piece (Elt F) S4x256x256 .f32)} {L28 : List (View.Piece (Elt F) S4x256x256 .f32)} {M15 : List (View.Piece (Elt F) S256x5120 .bf16)} {M18 : List (View.Piece (Elt F) S4x128x128 .f32)} {M20 : List (View.Piece (Elt F) S8x1024 .f32)} {M21 : List (View.Piece (Elt F) S8x5120 .f32)} {M22 : List (View.Piece (Elt F) S272x1024 .f32)} {M26 : List (View.Piece (Elt F) S128x1024 .f32)} {M27 : List (View.Piece (Elt F) S4x256x256 .f32)} {M28 : List (View.Piece (Elt F) S4x256x256 .f32)}
    (run : RunMid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28 L15 L18 L20 L21 L22 L23 L24 L25 L26 L27 L28)
    (h15 : L15 = M15) (h18 : L18 = M18) (h20 : L20 = M20) (h21 : L21 = M21) (h22 : L22 = M22) (h26 : L26 = M26) (h27 : L27 = M27) (h28 : L28 = M28) :
    RunMid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28 M15 M18 M20 M21 M22 L23 L24 L25 M26 M27 M28 := by
  subst h15; subst h18; subst h20; subst h21; subst h22; subst h26; subst h27; subst h28
  exact run

theorem RunFin.congr {y18 : Vec F S4x128x128 .f32} {y20 : Vec F S8x1024 .f32} {y21 : Vec F S8x5120 .f32} {y22 : Vec F S272x1024 .f32} {y26 : Vec F S128x1024 .f32} {y27 : Vec F S4x256x256 .f32} {y28 : Vec F S4x256x256 .f32} {L15 : List (View.Piece (Elt F) S256x5120 .bf16)} {L16 : List (View.Piece (Elt F) S2x4x128x256 .bf16)} {L17 : List (View.Piece (Elt F) S2x4x128x256 .bf16)} {L18 : List (View.Piece (Elt F) S4x128x128 .f32)} {L19 : List (View.Piece (Elt F) S128x512 .f32)} {L20 : List (View.Piece (Elt F) S8x1024 .f32)} {L21 : List (View.Piece (Elt F) S8x5120 .f32)} {L22 : List (View.Piece (Elt F) S272x1024 .f32)} {L23 : List (View.Piece (Elt F) S256x1024 .f32)} {L24 : List (View.Piece (Elt F) S256x1024 .f32)} {L25 : List (View.Piece (Elt F) S256x1024 .f32)} {L26 : List (View.Piece (Elt F) S128x1024 .f32)} {L27 : List (View.Piece (Elt F) S4x256x256 .f32)} {L28 : List (View.Piece (Elt F) S4x256x256 .f32)} {M15 : List (View.Piece (Elt F) S256x5120 .bf16)} {M16 : List (View.Piece (Elt F) S2x4x128x256 .bf16)} {M17 : List (View.Piece (Elt F) S2x4x128x256 .bf16)} {M18 : List (View.Piece (Elt F) S4x128x128 .f32)} {M19 : List (View.Piece (Elt F) S128x512 .f32)} {M20 : List (View.Piece (Elt F) S8x1024 .f32)} {M21 : List (View.Piece (Elt F) S8x5120 .f32)} {M22 : List (View.Piece (Elt F) S272x1024 .f32)} {M26 : List (View.Piece (Elt F) S128x1024 .f32)} {M27 : List (View.Piece (Elt F) S4x256x256 .f32)} {M28 : List (View.Piece (Elt F) S4x256x256 .f32)}
    (run : RunFin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28 L15 L16 L17 L18 L19 L20 L21 L22 L23 L24 L25 L26 L27 L28)
    (h15 : L15 = M15) (h16 : L16 = M16) (h17 : L17 = M17) (h18 : L18 = M18) (h19 : L19 = M19) (h20 : L20 = M20) (h21 : L21 = M21) (h22 : L22 = M22) (h26 : L26 = M26) (h27 : L27 = M27) (h28 : L28 = M28) :
    RunFin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28 M15 M16 M17 M18 M19 M20 M21 M22 L23 L24 L25 M26 M27 M28 := by
  subst h15; subst h16; subst h17; subst h18; subst h19; subst h20; subst h21; subst h22; subst h26; subst h27; subst h28
  exact run

end Cert.Mx

end
-- ==== Proof.Mx.Fin.lean ====
module

public import proofs.«01_k».proof.Proof.Mx.Rest

@[expose] public section

set_option maxRecDepth 16384

noncomputable section

namespace Cert.Mx

open Cert.KernelMxIdeal Cert.KernelMxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
/-- The body's run : what each buffer it writes ends with at the last point, as the list of its stores. -/
noncomputable def fin (c : Dev nD) (i : grid0.Coords) (arg1 : Memref sig .tc .vmem S256x5120 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S4x256x256 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4x128x128 .bf16) (harg8 : arg8.IsWhole) (arg9 : Memref sig .tc .vmem S4x128x128 .bf16) (harg9 : arg9.IsWhole) (arg10 : Memref sig .tc .vmem S4x128x1 .f32) (harg10 : arg10.IsWhole) (arg11 : Memref sig .tc .vmem S4x256x256 .bf16) (harg11 : arg11.IsWhole) (arg12 : Memref sig .tc .vmem S1024x1024 .bf16) (harg12 : arg12.IsWhole) (arg13 : Memref sig .tc .vmem S128x128 .f32) (harg13 : arg13.IsWhole) (arg14 : Memref sig .tc .vmem S8x128 .f32) (harg14 : arg14.IsWhole) (arg15 : Memref sig .tc .vmem S256x5120 .bf16) (harg15 : arg15.IsWhole) (arg16 : Memref sig .tc .vmem S2x4x128x256 .bf16) (harg16 : arg16.IsWhole) (arg17 : Memref sig .tc .vmem S2x4x128x256 .bf16) (harg17 : arg17.IsWhole) (arg18 : Memref sig .tc .vmem S4x128x128 .f32) (harg18 : arg18.IsWhole) (arg19 : Memref sig .tc .vmem S128x512 .f32) (harg19 : arg19.IsWhole) (arg20 : Memref sig .tc .vmem S8x1024 .f32) (harg20 : arg20.IsWhole) (arg21 : Memref sig .tc .vmem S8x5120 .f32) (harg21 : arg21.IsWhole) (arg22 : Memref sig .tc .vmem S272x1024 .f32) (harg22 : arg22.IsWhole) (arg23 : Memref sig .tc .vmem S256x1024 .f32) (harg23 : arg23.IsWhole) (arg24 : Memref sig .tc .vmem S256x1024 .f32) (harg24 : arg24.IsWhole) (arg25 : Memref sig .tc .vmem S256x1024 .f32) (harg25 : arg25.IsWhole) (arg26 : Memref sig .tc .vmem S128x1024 .f32) (harg26 : arg26.IsWhole) (arg27 : Memref sig .tc .vmem S4x256x256 .f32) (harg27 : arg27.IsWhole) (arg28 : Memref sig .tc .vmem S4x256x256 .f32) (harg28 : arg28.IsWhole)
    (x1 : Vec F S256x5120 .f32) (x2 : Vec F S256x1024 .bf16) (x3 : Vec F S256x1024 .bf16) (x4 : Vec F S4x256x256 .bf16) (x5 : Vec F S1x1024 .f32) (x6 : Vec F S1x1024 .f32) (x7 : Vec F S1x1024 .f32) (x8 : Vec F S4x128x128 .bf16) (x9 : Vec F S4x128x128 .bf16) (x10 : Vec F S4x128x1 .f32) (x11 : Vec F S4x256x256 .bf16) (x12 : Vec F S1024x1024 .bf16) (x13 : Vec F S128x128 .f32) (x14 : Vec F S8x128 .f32) (y18 : Vec F S4x128x128 .f32) (y20 : Vec F S8x1024 .f32) (y21 : Vec F S8x5120 .f32) (y22 : Vec F S272x1024 .f32) (y26 : Vec F S128x1024 .f32) (y27 : Vec F S4x256x256 .f32) (y28 : Vec F S4x256x256 .f32) :
    Σ' (L15 : List (View.Piece (Elt F) S256x5120 .bf16)), Σ' (L16 : List (View.Piece (Elt F) S2x4x128x256 .bf16)), Σ' (L17 : List (View.Piece (Elt F) S2x4x128x256 .bf16)), Σ' (L18 : List (View.Piece (Elt F) S4x128x128 .f32)), Σ' (L19 : List (View.Piece (Elt F) S128x512 .f32)), Σ' (L20 : List (View.Piece (Elt F) S8x1024 .f32)), Σ' (L21 : List (View.Piece (Elt F) S8x5120 .f32)), Σ' (L22 : List (View.Piece (Elt F) S272x1024 .f32)), Σ' (L23 : List (View.Piece (Elt F) S256x1024 .f32)), Σ' (L24 : List (View.Piece (Elt F) S256x1024 .f32)), Σ' (L25 : List (View.Piece (Elt F) S256x1024 .f32)), Σ' (L26 : List (View.Piece (Elt F) S128x1024 .f32)), Σ' (L27 : List (View.Piece (Elt F) S4x256x256 .f32)), { L28 : List (View.Piece (Elt F) S4x256x256 .f32) //
      ∀ (E : Set ℕ) (K : PUnit → sProp 𝕄), last i →
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
            ∗ (∃ d, owns (c : Thread nD τ) arg15 fullShare d) ∗ (∃ d, owns (c : Thread nD τ) arg16 fullShare d) ∗ (∃ d, owns (c : Thread nD τ) arg17 fullShare d) ∗ owns (c : Thread nD τ) arg18 fullShare y18 ∗ (∃ d, owns (c : Thread nD τ) arg19 fullShare d) ∗ owns (c : Thread nD τ) arg20 fullShare y20 ∗ owns (c : Thread nD τ) arg21 fullShare y21 ∗ owns (c : Thread nD τ) arg22 fullShare y22 ∗ (∃ d, owns (c : Thread nD τ) arg23 fullShare d) ∗ (∃ d, owns (c : Thread nD τ) arg24 fullShare d) ∗ (∃ d, owns (c : Thread nD τ) arg25 fullShare d) ∗ owns (c : Thread nD τ) arg26 fullShare y26 ∗ owns (c : Thread nD τ) arg27 fullShare y27 ∗ owns (c : Thread nD τ) arg28 fullShare y28
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
            ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ (arg18.view.loc (c : Thread nD τ) ↦[arg18.view.set]{fullShare} arg18.view.writes (Elt F) (harg18.unread y18) L18) ∗ (∃ f, arg19.view.loc (c : Thread nD τ) ↦[arg19.view.set]{fullShare} arg19.view.writes (Elt F) f L19) ∗ (arg20.view.loc (c : Thread nD τ) ↦[arg20.view.set]{fullShare} arg20.view.writes (Elt F) (harg20.unread y20) L20) ∗ (arg21.view.loc (c : Thread nD τ) ↦[arg21.view.set]{fullShare} arg21.view.writes (Elt F) (harg21.unread y21) L21) ∗ (arg22.view.loc (c : Thread nD τ) ↦[arg22.view.set]{fullShare} arg22.view.writes (Elt F) (harg22.unread y22) L22) ∗ (∃ f, arg23.view.loc (c : Thread nD τ) ↦[arg23.view.set]{fullShare} arg23.view.writes (Elt F) f L23) ∗ (∃ f, arg24.view.loc (c : Thread nD τ) ↦[arg24.view.set]{fullShare} arg24.view.writes (Elt F) f L24) ∗ (∃ f, arg25.view.loc (c : Thread nD τ) ↦[arg25.view.set]{fullShare} arg25.view.writes (Elt F) f L25) ∗ (arg26.view.loc (c : Thread nD τ) ↦[arg26.view.set]{fullShare} arg26.view.writes (Elt F) (harg26.unread y26) L26) ∗ (arg27.view.loc (c : Thread nD τ) ↦[arg27.view.set]{fullShare} arg27.view.writes (Elt F) (harg27.unread y27) L27) ∗ (arg28.view.loc (c : Thread nD τ) ↦[arg28.view.set]{fullShare} arg28.view.writes (Elt F) (harg28.unread y28) L28)) -∗ K ⟨⟩))
          ⊢ wp frame (wpE (defs₀ (F := F)) Variants.none c none) E (rest (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28).1 K } := by
  refine ⟨?_, ?_, ?_, ?_, ?_, ?_, ?_, ?_, ?_, ?_, ?_, ?_, ?_, ?_, fun E K hc1 => ?run⟩
  case run =>
    unfold rest; dsimp only
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%f18, %hf18, H18⟩, ⟨%d19, %f19, -, H19⟩, ⟨%f20, %hf20, H20⟩, ⟨%f21, %hf21, H21⟩, ⟨%f22, %hf22, H22⟩, ⟨%d23, %f23, -, H23⟩, ⟨%d24, %f24, -, H24⟩, ⟨%d25, %f25, -, H25⟩, ⟨%f26, %hf26, H26⟩, ⟨%f27, %hf27, H27⟩, ⟨%f28, %hf28, H28⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg18.eq_unread hf18; obtain rfl := harg20.eq_unread hf20; obtain rfl := harg21.eq_unread hf21; obtain rfl := harg22.eq_unread hf22; obtain rfl := harg26.eq_unread hf26; obtain rfl := harg27.eq_unread hf27; obtain rfl := harg28.eq_unread hf28
    sl_exec (disch := sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]; · iexists _; iexact H15
    isplitl [H16]; · iexists _; iexact H16
    isplitl [H17]; · iexists _; iexact H17
    isplitl [H18]; · iexact H18
    isplitl [H19]; · iexists _; iexact H19
    isplitl [H20]; · iexact H20
    isplitl [H21]; · iexact H21
    isplitl [H22]; · iexact H22
    isplitl [H23]; · iexists _; iexact H23
    isplitl [H24]; · iexists _; iexact H24
    isplitl [H25]; · iexists _; iexact H25
    isplitl [H26]; · iexact H26
    isplitl [H27]; · iexact H27
    iexact H28

end Cert.Mx

end
-- ==== Proof.Mx.Same.lean ====
module

public import proofs.«01_k».proof.Proof.Mx.Mid
public import proofs.«01_k».proof.Proof.Mx.Fin

@[expose] public section

set_option maxRecDepth 16384

noncomputable section

namespace Cert.Mx

open Cert.KernelMxIdeal Cert.KernelMxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

theorem fin_eq_mid  (c : Dev nD) (i : grid0.Coords) (arg1 : Memref sig .tc .vmem S256x5120 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S4x256x256 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4x128x128 .bf16) (harg8 : arg8.IsWhole) (arg9 : Memref sig .tc .vmem S4x128x128 .bf16) (harg9 : arg9.IsWhole) (arg10 : Memref sig .tc .vmem S4x128x1 .f32) (harg10 : arg10.IsWhole) (arg11 : Memref sig .tc .vmem S4x256x256 .bf16) (harg11 : arg11.IsWhole) (arg12 : Memref sig .tc .vmem S1024x1024 .bf16) (harg12 : arg12.IsWhole) (arg13 : Memref sig .tc .vmem S128x128 .f32) (harg13 : arg13.IsWhole) (arg14 : Memref sig .tc .vmem S8x128 .f32) (harg14 : arg14.IsWhole) (arg15 : Memref sig .tc .vmem S256x5120 .bf16) (harg15 : arg15.IsWhole) (arg16 : Memref sig .tc .vmem S2x4x128x256 .bf16) (harg16 : arg16.IsWhole) (arg17 : Memref sig .tc .vmem S2x4x128x256 .bf16) (harg17 : arg17.IsWhole) (arg18 : Memref sig .tc .vmem S4x128x128 .f32) (harg18 : arg18.IsWhole) (arg19 : Memref sig .tc .vmem S128x512 .f32) (harg19 : arg19.IsWhole) (arg20 : Memref sig .tc .vmem S8x1024 .f32) (harg20 : arg20.IsWhole) (arg21 : Memref sig .tc .vmem S8x5120 .f32) (harg21 : arg21.IsWhole) (arg22 : Memref sig .tc .vmem S272x1024 .f32) (harg22 : arg22.IsWhole) (arg23 : Memref sig .tc .vmem S256x1024 .f32) (harg23 : arg23.IsWhole) (arg24 : Memref sig .tc .vmem S256x1024 .f32) (harg24 : arg24.IsWhole) (arg25 : Memref sig .tc .vmem S256x1024 .f32) (harg25 : arg25.IsWhole) (arg26 : Memref sig .tc .vmem S128x1024 .f32) (harg26 : arg26.IsWhole) (arg27 : Memref sig .tc .vmem S4x256x256 .f32) (harg27 : arg27.IsWhole) (arg28 : Memref sig .tc .vmem S4x256x256 .f32) (harg28 : arg28.IsWhole)
    (x1 : Vec F S256x5120 .f32) (x2 : Vec F S256x1024 .bf16) (x3 : Vec F S256x1024 .bf16) (x4 : Vec F S4x256x256 .bf16) (x5 : Vec F S1x1024 .f32) (x6 : Vec F S1x1024 .f32) (x7 : Vec F S1x1024 .f32) (x8 : Vec F S4x128x128 .bf16) (x9 : Vec F S4x128x128 .bf16) (x10 : Vec F S4x128x1 .f32) (x11 : Vec F S4x256x256 .bf16) (x12 : Vec F S1024x1024 .bf16) (x13 : Vec F S128x128 .f32) (x14 : Vec F S8x128 .f32) (y18 : Vec F S4x128x128 .f32) (y20 : Vec F S8x1024 .f32) (y21 : Vec F S8x5120 .f32) (y22 : Vec F S272x1024 .f32) (y26 : Vec F S128x1024 .f32) (y27 : Vec F S4x256x256 .f32) (y28 : Vec F S4x256x256 .f32)  :
    (fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).1 = (mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).1 ∧
      (fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.2.1 = (mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.1 ∧
      (fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.2.2.1 = (mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.1 ∧
      (fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.2.2.2.1 = (mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.1 ∧
      (fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.2.2.2.2.1 = (mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.2.1 ∧
      (fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.2.2.2.2.2.1 = (mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.2.2.1 ∧
      (fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.2.2.2.2.2.2.1 = (mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.2.2.2.1 ∧
      (fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.2.2.2.2.2.2.2.1 = (mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.2.2.2.2.1 ∧
      (fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.2.2.2.2.2.2.2.2.1 = (mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.2.2.2.2.2.1 ∧
      (fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.2.2.2.2.2.2.2.2.2.1 = (mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.2.2.2.2.2.2.1 := by
  refine ⟨?_, ?_, ?_, ?_, ?_, ?_, ?_, ?_, ?_, ?_⟩ <;> rfl
end Cert.Mx

end
-- ==== Proof.Mx.Keep.lean ====
module

public import proofs.«01_k».proof.Proof.Mx.Win
public import proofs.«01_k».proof.Proof.Mx.Same

@[expose] public section

set_option maxRecDepth 16384

noncomputable section

namespace Cert.Mx

open Cert.KernelMxIdeal Cert.KernelMxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

theorem mid_rest  (c : Dev nD) (i : grid0.Coords) (arg1 : Memref sig .tc .vmem S256x5120 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S4x256x256 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4x128x128 .bf16) (harg8 : arg8.IsWhole) (arg9 : Memref sig .tc .vmem S4x128x128 .bf16) (harg9 : arg9.IsWhole) (arg10 : Memref sig .tc .vmem S4x128x1 .f32) (harg10 : arg10.IsWhole) (arg11 : Memref sig .tc .vmem S4x256x256 .bf16) (harg11 : arg11.IsWhole) (arg12 : Memref sig .tc .vmem S1024x1024 .bf16) (harg12 : arg12.IsWhole) (arg13 : Memref sig .tc .vmem S128x128 .f32) (harg13 : arg13.IsWhole) (arg14 : Memref sig .tc .vmem S8x128 .f32) (harg14 : arg14.IsWhole) (arg15 : Memref sig .tc .vmem S256x5120 .bf16) (harg15 : arg15.IsWhole) (arg16 : Memref sig .tc .vmem S2x4x128x256 .bf16) (harg16 : arg16.IsWhole) (arg17 : Memref sig .tc .vmem S2x4x128x256 .bf16) (harg17 : arg17.IsWhole) (arg18 : Memref sig .tc .vmem S4x128x128 .f32) (harg18 : arg18.IsWhole) (arg19 : Memref sig .tc .vmem S128x512 .f32) (harg19 : arg19.IsWhole) (arg20 : Memref sig .tc .vmem S8x1024 .f32) (harg20 : arg20.IsWhole) (arg21 : Memref sig .tc .vmem S8x5120 .f32) (harg21 : arg21.IsWhole) (arg22 : Memref sig .tc .vmem S272x1024 .f32) (harg22 : arg22.IsWhole) (arg23 : Memref sig .tc .vmem S256x1024 .f32) (harg23 : arg23.IsWhole) (arg24 : Memref sig .tc .vmem S256x1024 .f32) (harg24 : arg24.IsWhole) (arg25 : Memref sig .tc .vmem S256x1024 .f32) (harg25 : arg25.IsWhole) (arg26 : Memref sig .tc .vmem S128x1024 .f32) (harg26 : arg26.IsWhole) (arg27 : Memref sig .tc .vmem S4x256x256 .f32) (harg27 : arg27.IsWhole) (arg28 : Memref sig .tc .vmem S4x256x256 .f32) (harg28 : arg28.IsWhole)
    (x1 : Vec F S256x5120 .f32) (x2 : Vec F S256x1024 .bf16) (x3 : Vec F S256x1024 .bf16) (x4 : Vec F S4x256x256 .bf16) (x5 : Vec F S1x1024 .f32) (x6 : Vec F S1x1024 .f32) (x7 : Vec F S1x1024 .f32) (x8 : Vec F S4x128x128 .bf16) (x9 : Vec F S4x128x128 .bf16) (x10 : Vec F S4x128x1 .f32) (x11 : Vec F S4x256x256 .bf16) (x12 : Vec F S1024x1024 .bf16) (x13 : Vec F S128x128 .f32) (x14 : Vec F S8x128 .f32) (y18 : Vec F S4x128x128 .f32) (y20 : Vec F S8x1024 .f32) (y21 : Vec F S8x5120 .f32) (y22 : Vec F S272x1024 .f32) (y26 : Vec F S128x1024 .f32) (y27 : Vec F S4x256x256 .f32) (y28 : Vec F S4x256x256 .f32) (z : Vec F S272x1024 .f32) :
    (mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.1 = (mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 z y26 y27 y28).2.1 ∧ (mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.1 = (mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 z y26 y27 y28).2.2.1 ∧ (mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.2.2.2.2.1 = (mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 z y26 y27 y28).2.2.2.2.2.2.2.2.1 ∧ (mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.2.2.2.2.2.1 = (mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 z y26 y27 y28).2.2.2.2.2.2.2.2.2.1 ∧ (mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.2.2.2.2.2.2.1 = (mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 z y26 y27 y28).2.2.2.2.2.2.2.2.2.2.1 :=
  by unfold mid; dsimp only; exact ⟨rfl, rfl, rfl, rfl, rfl⟩

theorem fin_rest  (c : Dev nD) (i : grid0.Coords) (arg1 : Memref sig .tc .vmem S256x5120 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S4x256x256 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4x128x128 .bf16) (harg8 : arg8.IsWhole) (arg9 : Memref sig .tc .vmem S4x128x128 .bf16) (harg9 : arg9.IsWhole) (arg10 : Memref sig .tc .vmem S4x128x1 .f32) (harg10 : arg10.IsWhole) (arg11 : Memref sig .tc .vmem S4x256x256 .bf16) (harg11 : arg11.IsWhole) (arg12 : Memref sig .tc .vmem S1024x1024 .bf16) (harg12 : arg12.IsWhole) (arg13 : Memref sig .tc .vmem S128x128 .f32) (harg13 : arg13.IsWhole) (arg14 : Memref sig .tc .vmem S8x128 .f32) (harg14 : arg14.IsWhole) (arg15 : Memref sig .tc .vmem S256x5120 .bf16) (harg15 : arg15.IsWhole) (arg16 : Memref sig .tc .vmem S2x4x128x256 .bf16) (harg16 : arg16.IsWhole) (arg17 : Memref sig .tc .vmem S2x4x128x256 .bf16) (harg17 : arg17.IsWhole) (arg18 : Memref sig .tc .vmem S4x128x128 .f32) (harg18 : arg18.IsWhole) (arg19 : Memref sig .tc .vmem S128x512 .f32) (harg19 : arg19.IsWhole) (arg20 : Memref sig .tc .vmem S8x1024 .f32) (harg20 : arg20.IsWhole) (arg21 : Memref sig .tc .vmem S8x5120 .f32) (harg21 : arg21.IsWhole) (arg22 : Memref sig .tc .vmem S272x1024 .f32) (harg22 : arg22.IsWhole) (arg23 : Memref sig .tc .vmem S256x1024 .f32) (harg23 : arg23.IsWhole) (arg24 : Memref sig .tc .vmem S256x1024 .f32) (harg24 : arg24.IsWhole) (arg25 : Memref sig .tc .vmem S256x1024 .f32) (harg25 : arg25.IsWhole) (arg26 : Memref sig .tc .vmem S128x1024 .f32) (harg26 : arg26.IsWhole) (arg27 : Memref sig .tc .vmem S4x256x256 .f32) (harg27 : arg27.IsWhole) (arg28 : Memref sig .tc .vmem S4x256x256 .f32) (harg28 : arg28.IsWhole)
    (x1 : Vec F S256x5120 .f32) (x2 : Vec F S256x1024 .bf16) (x3 : Vec F S256x1024 .bf16) (x4 : Vec F S4x256x256 .bf16) (x5 : Vec F S1x1024 .f32) (x6 : Vec F S1x1024 .f32) (x7 : Vec F S1x1024 .f32) (x8 : Vec F S4x128x128 .bf16) (x9 : Vec F S4x128x128 .bf16) (x10 : Vec F S4x128x1 .f32) (x11 : Vec F S4x256x256 .bf16) (x12 : Vec F S1024x1024 .bf16) (x13 : Vec F S128x128 .f32) (x14 : Vec F S8x128 .f32) (y18 : Vec F S4x128x128 .f32) (y20 : Vec F S8x1024 .f32) (y21 : Vec F S8x5120 .f32) (y22 : Vec F S272x1024 .f32) (y26 : Vec F S128x1024 .f32) (y27 : Vec F S4x256x256 .f32) (y28 : Vec F S4x256x256 .f32) (z : Vec F S272x1024 .f32) :
    (fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.1 = (fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 z y26 y27 y28).2.1 ∧ (fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.1 = (fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 z y26 y27 y28).2.2.1 ∧ (fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.1 = (fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 z y26 y27 y28).2.2.2.1 ∧ (fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.1 = (fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 z y26 y27 y28).2.2.2.2.1 :=
  by unfold fin; dsimp only; exact ⟨rfl, rfl, rfl, rfl⟩

theorem cover_tile  (c : Dev nD) (i : grid0.Coords) (arg1 : Memref sig .tc .vmem S256x5120 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S4x256x256 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4x128x128 .bf16) (harg8 : arg8.IsWhole) (arg9 : Memref sig .tc .vmem S4x128x128 .bf16) (harg9 : arg9.IsWhole) (arg10 : Memref sig .tc .vmem S4x128x1 .f32) (harg10 : arg10.IsWhole) (arg11 : Memref sig .tc .vmem S4x256x256 .bf16) (harg11 : arg11.IsWhole) (arg12 : Memref sig .tc .vmem S1024x1024 .bf16) (harg12 : arg12.IsWhole) (arg13 : Memref sig .tc .vmem S128x128 .f32) (harg13 : arg13.IsWhole) (arg14 : Memref sig .tc .vmem S8x128 .f32) (harg14 : arg14.IsWhole) (arg15 : Memref sig .tc .vmem S256x5120 .bf16) (harg15 : arg15.IsWhole) (arg16 : Memref sig .tc .vmem S2x4x128x256 .bf16) (harg16 : arg16.IsWhole) (arg17 : Memref sig .tc .vmem S2x4x128x256 .bf16) (harg17 : arg17.IsWhole) (arg18 : Memref sig .tc .vmem S4x128x128 .f32) (harg18 : arg18.IsWhole) (arg19 : Memref sig .tc .vmem S128x512 .f32) (harg19 : arg19.IsWhole) (arg20 : Memref sig .tc .vmem S8x1024 .f32) (harg20 : arg20.IsWhole) (arg21 : Memref sig .tc .vmem S8x5120 .f32) (harg21 : arg21.IsWhole) (arg22 : Memref sig .tc .vmem S272x1024 .f32) (harg22 : arg22.IsWhole) (arg23 : Memref sig .tc .vmem S256x1024 .f32) (harg23 : arg23.IsWhole) (arg24 : Memref sig .tc .vmem S256x1024 .f32) (harg24 : arg24.IsWhole) (arg25 : Memref sig .tc .vmem S256x1024 .f32) (harg25 : arg25.IsWhole) (arg26 : Memref sig .tc .vmem S128x1024 .f32) (harg26 : arg26.IsWhole) (arg27 : Memref sig .tc .vmem S4x256x256 .f32) (harg27 : arg27.IsWhole) (arg28 : Memref sig .tc .vmem S4x256x256 .f32) (harg28 : arg28.IsWhole)
    (x1 : Vec F S256x5120 .f32) (x2 : Vec F S256x1024 .bf16) (x3 : Vec F S256x1024 .bf16) (x4 : Vec F S4x256x256 .bf16) (x5 : Vec F S1x1024 .f32) (x6 : Vec F S1x1024 .f32) (x7 : Vec F S1x1024 .f32) (x8 : Vec F S4x128x128 .bf16) (x9 : Vec F S4x128x128 .bf16) (x10 : Vec F S4x128x1 .f32) (x11 : Vec F S4x256x256 .bf16) (x12 : Vec F S1024x1024 .bf16) (x13 : Vec F S128x128 .f32) (x14 : Vec F S8x128 .f32) (y18 : Vec F S4x128x128 .f32) (y20 : Vec F S8x1024 .f32) (y21 : Vec F S8x5120 .f32) (y22 : Vec F S272x1024 .f32) (y26 : Vec F S128x1024 .f32) (y27 : Vec F S4x256x256 .f32) (y28 : Vec F S4x256x256 .f32)  (y : S256x5120.Idx) : ∃ p ∈ (mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).1, y ∈ p.1.set :=
  View.cover_of_tiledBy _ ![256, 256] (by sl_kernel_rfl) y

theorem cover_win  (c : Dev nD) (i : grid0.Coords) (arg1 : Memref sig .tc .vmem S256x5120 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S4x256x256 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4x128x128 .bf16) (harg8 : arg8.IsWhole) (arg9 : Memref sig .tc .vmem S4x128x128 .bf16) (harg9 : arg9.IsWhole) (arg10 : Memref sig .tc .vmem S4x128x1 .f32) (harg10 : arg10.IsWhole) (arg11 : Memref sig .tc .vmem S4x256x256 .bf16) (harg11 : arg11.IsWhole) (arg12 : Memref sig .tc .vmem S1024x1024 .bf16) (harg12 : arg12.IsWhole) (arg13 : Memref sig .tc .vmem S128x128 .f32) (harg13 : arg13.IsWhole) (arg14 : Memref sig .tc .vmem S8x128 .f32) (harg14 : arg14.IsWhole) (arg15 : Memref sig .tc .vmem S256x5120 .bf16) (harg15 : arg15.IsWhole) (arg16 : Memref sig .tc .vmem S2x4x128x256 .bf16) (harg16 : arg16.IsWhole) (arg17 : Memref sig .tc .vmem S2x4x128x256 .bf16) (harg17 : arg17.IsWhole) (arg18 : Memref sig .tc .vmem S4x128x128 .f32) (harg18 : arg18.IsWhole) (arg19 : Memref sig .tc .vmem S128x512 .f32) (harg19 : arg19.IsWhole) (arg20 : Memref sig .tc .vmem S8x1024 .f32) (harg20 : arg20.IsWhole) (arg21 : Memref sig .tc .vmem S8x5120 .f32) (harg21 : arg21.IsWhole) (arg22 : Memref sig .tc .vmem S272x1024 .f32) (harg22 : arg22.IsWhole) (arg23 : Memref sig .tc .vmem S256x1024 .f32) (harg23 : arg23.IsWhole) (arg24 : Memref sig .tc .vmem S256x1024 .f32) (harg24 : arg24.IsWhole) (arg25 : Memref sig .tc .vmem S256x1024 .f32) (harg25 : arg25.IsWhole) (arg26 : Memref sig .tc .vmem S128x1024 .f32) (harg26 : arg26.IsWhole) (arg27 : Memref sig .tc .vmem S4x256x256 .f32) (harg27 : arg27.IsWhole) (arg28 : Memref sig .tc .vmem S4x256x256 .f32) (harg28 : arg28.IsWhole)
    (x1 : Vec F S256x5120 .f32) (x2 : Vec F S256x1024 .bf16) (x3 : Vec F S256x1024 .bf16) (x4 : Vec F S4x256x256 .bf16) (x5 : Vec F S1x1024 .f32) (x6 : Vec F S1x1024 .f32) (x7 : Vec F S1x1024 .f32) (x8 : Vec F S4x128x128 .bf16) (x9 : Vec F S4x128x128 .bf16) (x10 : Vec F S4x128x1 .f32) (x11 : Vec F S4x256x256 .bf16) (x12 : Vec F S1024x1024 .bf16) (x13 : Vec F S128x128 .f32) (x14 : Vec F S8x128 .f32) (y18 : Vec F S4x128x128 .f32) (y20 : Vec F S8x1024 .f32) (y21 : Vec F S8x5120 .f32) (y22 : Vec F S272x1024 .f32) (y26 : Vec F S128x1024 .f32) (y27 : Vec F S4x256x256 .f32) (y28 : Vec F S4x256x256 .f32)  (y : S272x1024.Idx) : ∃ p ∈ (mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.1, y ∈ p.1.set :=
  View.cover_of_tiledBy _ ![16, 256] (by sl_kernel_rfl) y

theorem cover_pool  (c : Dev nD) (i : grid0.Coords) (arg1 : Memref sig .tc .vmem S256x5120 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S4x256x256 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4x128x128 .bf16) (harg8 : arg8.IsWhole) (arg9 : Memref sig .tc .vmem S4x128x128 .bf16) (harg9 : arg9.IsWhole) (arg10 : Memref sig .tc .vmem S4x128x1 .f32) (harg10 : arg10.IsWhole) (arg11 : Memref sig .tc .vmem S4x256x256 .bf16) (harg11 : arg11.IsWhole) (arg12 : Memref sig .tc .vmem S1024x1024 .bf16) (harg12 : arg12.IsWhole) (arg13 : Memref sig .tc .vmem S128x128 .f32) (harg13 : arg13.IsWhole) (arg14 : Memref sig .tc .vmem S8x128 .f32) (harg14 : arg14.IsWhole) (arg15 : Memref sig .tc .vmem S256x5120 .bf16) (harg15 : arg15.IsWhole) (arg16 : Memref sig .tc .vmem S2x4x128x256 .bf16) (harg16 : arg16.IsWhole) (arg17 : Memref sig .tc .vmem S2x4x128x256 .bf16) (harg17 : arg17.IsWhole) (arg18 : Memref sig .tc .vmem S4x128x128 .f32) (harg18 : arg18.IsWhole) (arg19 : Memref sig .tc .vmem S128x512 .f32) (harg19 : arg19.IsWhole) (arg20 : Memref sig .tc .vmem S8x1024 .f32) (harg20 : arg20.IsWhole) (arg21 : Memref sig .tc .vmem S8x5120 .f32) (harg21 : arg21.IsWhole) (arg22 : Memref sig .tc .vmem S272x1024 .f32) (harg22 : arg22.IsWhole) (arg23 : Memref sig .tc .vmem S256x1024 .f32) (harg23 : arg23.IsWhole) (arg24 : Memref sig .tc .vmem S256x1024 .f32) (harg24 : arg24.IsWhole) (arg25 : Memref sig .tc .vmem S256x1024 .f32) (harg25 : arg25.IsWhole) (arg26 : Memref sig .tc .vmem S128x1024 .f32) (harg26 : arg26.IsWhole) (arg27 : Memref sig .tc .vmem S4x256x256 .f32) (harg27 : arg27.IsWhole) (arg28 : Memref sig .tc .vmem S4x256x256 .f32) (harg28 : arg28.IsWhole)
    (x1 : Vec F S256x5120 .f32) (x2 : Vec F S256x1024 .bf16) (x3 : Vec F S256x1024 .bf16) (x4 : Vec F S4x256x256 .bf16) (x5 : Vec F S1x1024 .f32) (x6 : Vec F S1x1024 .f32) (x7 : Vec F S1x1024 .f32) (x8 : Vec F S4x128x128 .bf16) (x9 : Vec F S4x128x128 .bf16) (x10 : Vec F S4x128x1 .f32) (x11 : Vec F S4x256x256 .bf16) (x12 : Vec F S1024x1024 .bf16) (x13 : Vec F S128x128 .f32) (x14 : Vec F S8x128 .f32) (y18 : Vec F S4x128x128 .f32) (y20 : Vec F S8x1024 .f32) (y21 : Vec F S8x5120 .f32) (y22 : Vec F S272x1024 .f32) (y26 : Vec F S128x1024 .f32) (y27 : Vec F S4x256x256 .f32) (y28 : Vec F S4x256x256 .f32)  (y : S2x4x128x256.Idx) : ∃ p ∈ (fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.1, y ∈ p.1.set :=
  View.cover_of_tiledL _ ![1, 1, 64, 256] (by sl_kernel_rfl) y

theorem cover_proj  (c : Dev nD) (i : grid0.Coords) (arg1 : Memref sig .tc .vmem S256x5120 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S4x256x256 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4x128x128 .bf16) (harg8 : arg8.IsWhole) (arg9 : Memref sig .tc .vmem S4x128x128 .bf16) (harg9 : arg9.IsWhole) (arg10 : Memref sig .tc .vmem S4x128x1 .f32) (harg10 : arg10.IsWhole) (arg11 : Memref sig .tc .vmem S4x256x256 .bf16) (harg11 : arg11.IsWhole) (arg12 : Memref sig .tc .vmem S1024x1024 .bf16) (harg12 : arg12.IsWhole) (arg13 : Memref sig .tc .vmem S128x128 .f32) (harg13 : arg13.IsWhole) (arg14 : Memref sig .tc .vmem S8x128 .f32) (harg14 : arg14.IsWhole) (arg15 : Memref sig .tc .vmem S256x5120 .bf16) (harg15 : arg15.IsWhole) (arg16 : Memref sig .tc .vmem S2x4x128x256 .bf16) (harg16 : arg16.IsWhole) (arg17 : Memref sig .tc .vmem S2x4x128x256 .bf16) (harg17 : arg17.IsWhole) (arg18 : Memref sig .tc .vmem S4x128x128 .f32) (harg18 : arg18.IsWhole) (arg19 : Memref sig .tc .vmem S128x512 .f32) (harg19 : arg19.IsWhole) (arg20 : Memref sig .tc .vmem S8x1024 .f32) (harg20 : arg20.IsWhole) (arg21 : Memref sig .tc .vmem S8x5120 .f32) (harg21 : arg21.IsWhole) (arg22 : Memref sig .tc .vmem S272x1024 .f32) (harg22 : arg22.IsWhole) (arg23 : Memref sig .tc .vmem S256x1024 .f32) (harg23 : arg23.IsWhole) (arg24 : Memref sig .tc .vmem S256x1024 .f32) (harg24 : arg24.IsWhole) (arg25 : Memref sig .tc .vmem S256x1024 .f32) (harg25 : arg25.IsWhole) (arg26 : Memref sig .tc .vmem S128x1024 .f32) (harg26 : arg26.IsWhole) (arg27 : Memref sig .tc .vmem S4x256x256 .f32) (harg27 : arg27.IsWhole) (arg28 : Memref sig .tc .vmem S4x256x256 .f32) (harg28 : arg28.IsWhole)
    (x1 : Vec F S256x5120 .f32) (x2 : Vec F S256x1024 .bf16) (x3 : Vec F S256x1024 .bf16) (x4 : Vec F S4x256x256 .bf16) (x5 : Vec F S1x1024 .f32) (x6 : Vec F S1x1024 .f32) (x7 : Vec F S1x1024 .f32) (x8 : Vec F S4x128x128 .bf16) (x9 : Vec F S4x128x128 .bf16) (x10 : Vec F S4x128x1 .f32) (x11 : Vec F S4x256x256 .bf16) (x12 : Vec F S1024x1024 .bf16) (x13 : Vec F S128x128 .f32) (x14 : Vec F S8x128 .f32) (y18 : Vec F S4x128x128 .f32) (y20 : Vec F S8x1024 .f32) (y21 : Vec F S8x5120 .f32) (y22 : Vec F S272x1024 .f32) (y26 : Vec F S128x1024 .f32) (y27 : Vec F S4x256x256 .f32) (y28 : Vec F S4x256x256 .f32)  (y : S2x4x128x256.Idx) : ∃ p ∈ (fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.1, y ∈ p.1.set :=
  View.cover_of_tiledL _ ![1, 1, 64, 256] (by sl_kernel_rfl) y

theorem cover_bias  (c : Dev nD) (i : grid0.Coords) (arg1 : Memref sig .tc .vmem S256x5120 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S4x256x256 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4x128x128 .bf16) (harg8 : arg8.IsWhole) (arg9 : Memref sig .tc .vmem S4x128x128 .bf16) (harg9 : arg9.IsWhole) (arg10 : Memref sig .tc .vmem S4x128x1 .f32) (harg10 : arg10.IsWhole) (arg11 : Memref sig .tc .vmem S4x256x256 .bf16) (harg11 : arg11.IsWhole) (arg12 : Memref sig .tc .vmem S1024x1024 .bf16) (harg12 : arg12.IsWhole) (arg13 : Memref sig .tc .vmem S128x128 .f32) (harg13 : arg13.IsWhole) (arg14 : Memref sig .tc .vmem S8x128 .f32) (harg14 : arg14.IsWhole) (arg15 : Memref sig .tc .vmem S256x5120 .bf16) (harg15 : arg15.IsWhole) (arg16 : Memref sig .tc .vmem S2x4x128x256 .bf16) (harg16 : arg16.IsWhole) (arg17 : Memref sig .tc .vmem S2x4x128x256 .bf16) (harg17 : arg17.IsWhole) (arg18 : Memref sig .tc .vmem S4x128x128 .f32) (harg18 : arg18.IsWhole) (arg19 : Memref sig .tc .vmem S128x512 .f32) (harg19 : arg19.IsWhole) (arg20 : Memref sig .tc .vmem S8x1024 .f32) (harg20 : arg20.IsWhole) (arg21 : Memref sig .tc .vmem S8x5120 .f32) (harg21 : arg21.IsWhole) (arg22 : Memref sig .tc .vmem S272x1024 .f32) (harg22 : arg22.IsWhole) (arg23 : Memref sig .tc .vmem S256x1024 .f32) (harg23 : arg23.IsWhole) (arg24 : Memref sig .tc .vmem S256x1024 .f32) (harg24 : arg24.IsWhole) (arg25 : Memref sig .tc .vmem S256x1024 .f32) (harg25 : arg25.IsWhole) (arg26 : Memref sig .tc .vmem S128x1024 .f32) (harg26 : arg26.IsWhole) (arg27 : Memref sig .tc .vmem S4x256x256 .f32) (harg27 : arg27.IsWhole) (arg28 : Memref sig .tc .vmem S4x256x256 .f32) (harg28 : arg28.IsWhole)
    (x1 : Vec F S256x5120 .f32) (x2 : Vec F S256x1024 .bf16) (x3 : Vec F S256x1024 .bf16) (x4 : Vec F S4x256x256 .bf16) (x5 : Vec F S1x1024 .f32) (x6 : Vec F S1x1024 .f32) (x7 : Vec F S1x1024 .f32) (x8 : Vec F S4x128x128 .bf16) (x9 : Vec F S4x128x128 .bf16) (x10 : Vec F S4x128x1 .f32) (x11 : Vec F S4x256x256 .bf16) (x12 : Vec F S1024x1024 .bf16) (x13 : Vec F S128x128 .f32) (x14 : Vec F S8x128 .f32) (y18 : Vec F S4x128x128 .f32) (y20 : Vec F S8x1024 .f32) (y21 : Vec F S8x5120 .f32) (y22 : Vec F S272x1024 .f32) (y26 : Vec F S128x1024 .f32) (y27 : Vec F S4x256x256 .f32) (y28 : Vec F S4x256x256 .f32)  (y : S128x512.Idx) : ∃ p ∈ (fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.1, y ∈ p.1.set :=
  View.cover_of_tiledL _ ![128, 128] (by sl_kernel_rfl) y

end Cert.Mx

end
-- ==== Proof.Mx.Step.lean ====
module

public import proofs.«01_k».proof.Proof.Mx.Win
public import proofs.«01_k».proof.Proof.Mx.Glue
public import proofs.«01_k».proof.Proof.Mx.Keep

@[expose] public section

set_option maxRecDepth 16384

noncomputable section

namespace Cert.Mx

open Cert.KernelMxIdeal Cert.KernelMxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (i : grid0.Coords) (arg1 : Memref sig .tc .vmem S256x5120 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S4x256x256 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4x128x128 .bf16) (harg8 : arg8.IsWhole) (arg9 : Memref sig .tc .vmem S4x128x128 .bf16) (harg9 : arg9.IsWhole) (arg10 : Memref sig .tc .vmem S4x128x1 .f32) (harg10 : arg10.IsWhole) (arg11 : Memref sig .tc .vmem S4x256x256 .bf16) (harg11 : arg11.IsWhole) (arg12 : Memref sig .tc .vmem S1024x1024 .bf16) (harg12 : arg12.IsWhole) (arg13 : Memref sig .tc .vmem S128x128 .f32) (harg13 : arg13.IsWhole) (arg14 : Memref sig .tc .vmem S8x128 .f32) (harg14 : arg14.IsWhole) (arg15 : Memref sig .tc .vmem S256x5120 .bf16) (harg15 : arg15.IsWhole) (arg16 : Memref sig .tc .vmem S2x4x128x256 .bf16) (harg16 : arg16.IsWhole) (arg17 : Memref sig .tc .vmem S2x4x128x256 .bf16) (harg17 : arg17.IsWhole) (arg18 : Memref sig .tc .vmem S4x128x128 .f32) (harg18 : arg18.IsWhole) (arg19 : Memref sig .tc .vmem S128x512 .f32) (harg19 : arg19.IsWhole) (arg20 : Memref sig .tc .vmem S8x1024 .f32) (harg20 : arg20.IsWhole) (arg21 : Memref sig .tc .vmem S8x5120 .f32) (harg21 : arg21.IsWhole) (arg22 : Memref sig .tc .vmem S272x1024 .f32) (harg22 : arg22.IsWhole) (arg23 : Memref sig .tc .vmem S256x1024 .f32) (harg23 : arg23.IsWhole) (arg24 : Memref sig .tc .vmem S256x1024 .f32) (harg24 : arg24.IsWhole) (arg25 : Memref sig .tc .vmem S256x1024 .f32) (harg25 : arg25.IsWhole) (arg26 : Memref sig .tc .vmem S128x1024 .f32) (harg26 : arg26.IsWhole) (arg27 : Memref sig .tc .vmem S4x256x256 .f32) (harg27 : arg27.IsWhole) (arg28 : Memref sig .tc .vmem S4x256x256 .f32) (harg28 : arg28.IsWhole)
  (x1 : Vec F S256x5120 .f32) (x2 : Vec F S256x1024 .bf16) (x3 : Vec F S256x1024 .bf16) (x4 : Vec F S4x256x256 .bf16) (x5 : Vec F S1x1024 .f32) (x6 : Vec F S1x1024 .f32) (x7 : Vec F S1x1024 .f32) (x8 : Vec F S4x128x128 .bf16) (x9 : Vec F S4x128x128 .bf16) (x10 : Vec F S4x128x1 .f32) (x11 : Vec F S4x256x256 .bf16) (x12 : Vec F S1024x1024 .bf16) (x13 : Vec F S128x128 .f32) (x14 : Vec F S8x128 .f32)

theorem run_mid (y18 : Vec F S4x128x128 .f32) (y20 : Vec F S8x1024 .f32) (y21 : Vec F S8x5120 .f32) (y22 : Vec F S272x1024 .f32) (y26 : Vec F S128x1024 .f32) (y27 : Vec F S4x256x256 .f32) (y28 : Vec F S4x256x256 .f32) (z : Vec F S272x1024 .f32)
    (h : ∀ j : S272x1024.Idx, 256 ≤ (j 0).val → y22 j = z j) :
    RunMid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28 ((mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 z y26 y27 y28).1) ((mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 z y26 y27 y28).2.1) ((mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 z y26 y27 y28).2.2.1) ((mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 z y26 y27 y28).2.2.2.1) ((mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 z y26 y27 y28).2.2.2.2.1) ((mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.2.1) ((mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.2.2.1) ((mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.2.2.2.1) ((mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 z y26 y27 y28).2.2.2.2.2.2.2.2.1) ((mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 z y26 y27 y28).2.2.2.2.2.2.2.2.2.1) ((mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 z y26 y27 y28).2.2.2.2.2.2.2.2.2.2.1) := by
  have ea := mid_congr (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28 z h
  have eb := mid_rest (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28 z
  have run : RunMid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28 ((mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).1) ((mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.1) ((mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.1) ((mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.1) ((mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.1) ((mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.2.1) ((mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.2.2.1) ((mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.2.2.2.1) ((mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.2.2.2.2.1) ((mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.2.2.2.2.2.1) ((mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.2.2.2.2.2.2.1) := (mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.2.2.2.2.2.2.2
  exact run.congr (h15 := ea.1) (h18 := eb.1) (h20 := eb.2.1) (h21 := ea.2.1) (h22 := ea.2.2) (h26 := eb.2.2.1) (h27 := eb.2.2.2.1) (h28 := eb.2.2.2.2)

theorem run_fin (y18 : Vec F S4x128x128 .f32) (y20 : Vec F S8x1024 .f32) (y21 : Vec F S8x5120 .f32) (y22 : Vec F S272x1024 .f32) (y26 : Vec F S128x1024 .f32) (y27 : Vec F S4x256x256 .f32) (y28 : Vec F S4x256x256 .f32) (z : Vec F S272x1024 .f32)
    (h : ∀ j : S272x1024.Idx, 256 ≤ (j 0).val → y22 j = z j) :
    RunFin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28 ((mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 z y26 y27 y28).1) ((fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 z y26 y27 y28).2.1) ((fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 z y26 y27 y28).2.2.1) ((fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 z y26 y27 y28).2.2.2.1) ((fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 z y26 y27 y28).2.2.2.2.1) ((mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 z y26 y27 y28).2.2.1) ((mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 z y26 y27 y28).2.2.2.1) ((mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 z y26 y27 y28).2.2.2.2.1) ((fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.2.2.2.2.1) ((fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.2.2.2.2.2.1) ((fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.2.2.2.2.2.2.1) ((mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 z y26 y27 y28).2.2.2.2.2.2.2.2.1) ((mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 z y26 y27 y28).2.2.2.2.2.2.2.2.2.1) ((mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 z y26 y27 y28).2.2.2.2.2.2.2.2.2.2.1) := by
  have ea := mid_congr (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28 z h
  have eb := mid_rest (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28 z
  have eg := fin_eq_mid (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28
  have ed := fin_rest (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28 z
  have run : RunFin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28 ((fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).1) ((fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.1) ((fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.1) ((fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.1) ((fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.1) ((fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.2.1) ((fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.2.2.1) ((fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.2.2.2.1) ((fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.2.2.2.2.1) ((fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.2.2.2.2.2.1) ((fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.2.2.2.2.2.2.1) ((fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.2.2.2.2.2.2.2.1) ((fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.2.2.2.2.2.2.2.2.1) ((fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.2.2.2.2.2.2.2.2.2.1) := (fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.2.2.2.2.2.2.2.2.2.2
  exact run.congr (h15 := (eg.1.trans ea.1)) (h16 := ed.1) (h17 := ed.2.1) (h18 := ed.2.2.1) (h19 := ed.2.2.2) (h20 := (eg.2.1.trans eb.2.1)) (h21 := (eg.2.2.1.trans ea.2.1)) (h22 := (eg.2.2.2.1.trans ea.2.2)) (h26 := (eg.2.2.2.2.2.2.2.1.trans eb.2.2.1)) (h27 := (eg.2.2.2.2.2.2.2.2.1.trans eb.2.2.2.1)) (h28 := (eg.2.2.2.2.2.2.2.2.2.trans eb.2.2.2.2))

end Cert.Mx

end
-- ==== Proof.Mx.State.lean ====
module

public import proofs.«01_k».proof.Proof.Mx.Step

@[expose] public section

set_option maxRecDepth 16384

noncomputable section

namespace Cert.Mx

open Cert.KernelMxIdeal Cert.KernelMxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- What the body keeps from one point to the next: the sums it adds up and the window buffer. -/
structure Sums (F : FTy → Type) where
  dws : Vec F S4x128x128 .f32
  vec : Vec F S8x1024 .f32
  dbin : Vec F S8x5120 .f32
  win : Vec F S272x1024 .f32
  dsum : Vec F S128x1024 .f32
  pool : Vec F S4x256x256 .f32
  proj : Vec F S4x256x256 .f32

variable (m : (ℓ : Loc nD τ sig) → Buf (Elt F) ℓ) (c : Dev nD) (t : Fin cfg0.N) (S : Sums F)

/-- The run of point `t` from the sums `S`. -/
def midAt := mid (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) winM (Memref.isWhole_whole _) svM (Memref.isWhole_whole _) dsvM (Memref.isWhole_whole _) dvM (Memref.isWhole_whole _) dsumM (Memref.isWhole_whole _) poolM (Memref.isWhole_whole _) projM (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (clear (grid0.coords t) S.dws) (clear (grid0.coords t) S.vec) (clear (grid0.coords t) S.dbin) (clearRows (grid0.coords t) S.win) (clear (grid0.coords t) S.dsum) (clear (grid0.coords t) S.pool) (clear (grid0.coords t) S.proj)

/-- The run of the last point from the sums `S`. -/
def finAt := fin (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) winM (Memref.isWhole_whole _) svM (Memref.isWhole_whole _) dsvM (Memref.isWhole_whole _) dvM (Memref.isWhole_whole _) dsumM (Memref.isWhole_whole _) poolM (Memref.isWhole_whole _) projM (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (clear (grid0.coords t) S.dws) (clear (grid0.coords t) S.vec) (clear (grid0.coords t) S.dbin) (clearRows (grid0.coords t) S.win) (clear (grid0.coords t) S.dsum) (clear (grid0.coords t) S.pool) (clear (grid0.coords t) S.proj)

/-- The tile of the gradient that point `t` stores. -/
def tile : Vec F S256x5120 .bf16 := View.canon (midAt m c t S).1

/-- The sums after point `t`. -/
def next : Sums F where
  dws := ((win0_17.stage (cfg0.slots t 17))).view.read (Elt F) (((win0_17.stage (cfg0.slots t 17))).view.writes (Elt F) (((hstage0_17 ((cfg0.slots t 17).cast nbuf0_17))).unread (clear (grid0.coords t) S.dws)) (midAt m c t S).2.1)
  vec := ((win0_19.stage (cfg0.slots t 19))).view.read (Elt F) (((win0_19.stage (cfg0.slots t 19))).view.writes (Elt F) (((hstage0_19 ((cfg0.slots t 19).cast nbuf0_19))).unread (clear (grid0.coords t) S.vec)) (midAt m c t S).2.2.1)
  dbin := ((win0_20.stage (cfg0.slots t 20))).view.read (Elt F) (((win0_20.stage (cfg0.slots t 20))).view.writes (Elt F) (((hstage0_20 ((cfg0.slots t 20).cast nbuf0_20))).unread (clear (grid0.coords t) S.dbin)) (midAt m c t S).2.2.2.1)
  win := View.canon (midAt m c t S).2.2.2.2.1
  dsum := (dsumM).view.read (Elt F) ((dsumM).view.writes (Elt F) (((Memref.isWhole_whole _)).unread (clear (grid0.coords t) S.dsum)) (midAt m c t S).2.2.2.2.2.2.2.2.1)
  pool := (poolM).view.read (Elt F) ((poolM).view.writes (Elt F) (((Memref.isWhole_whole _)).unread (clear (grid0.coords t) S.pool)) (midAt m c t S).2.2.2.2.2.2.2.2.2.1)
  proj := (projM).view.read (Elt F) ((projM).view.writes (Elt F) (((Memref.isWhole_whole _)).unread (clear (grid0.coords t) S.proj)) (midAt m c t S).2.2.2.2.2.2.2.2.2.2.1)

/-- The masked spatial gradient, as the last point leaves it. -/
def dwsEnd : Vec F S4x128x128 .f32 := ((win0_17.stage (cfg0.slots t 17))).view.read (Elt F) (((win0_17.stage (cfg0.slots t 17))).view.writes (Elt F) (((hstage0_17 ((cfg0.slots t 17).cast nbuf0_17))).unread (clear (grid0.coords t) S.dws)) (finAt m c t S).2.2.2.1)

/-- The pooling weights' gradient, as the last point stores it. -/
def poolEnd : Vec F S2x4x128x256 .bf16 := View.canon (finAt m c t S).2.1

/-- The projections' gradient, as the last point stores it. -/
def projEnd : Vec F S2x4x128x256 .bf16 := View.canon (finAt m c t S).2.2.1

/-- The spatial biases' gradient, as the last point stores it. -/
def biasEnd : Vec F S128x512 .f32 := View.canon (finAt m c t S).2.2.2.2.1

/-- The sums before point `n`. -/
def st (n : ℕ) : Sums F :=
  match n with
  | 0 => ⟨fun _ => zero, fun _ => zero, fun _ => zero, fun _ => zero, fun _ => zero, fun _ => zero, fun _ => zero⟩
  | n + 1 => if h : n < cfg0.N then next m c ⟨n, h⟩ (st n) else st n

theorem st_succ : st m c (t.val + 1) = next m c t (st m c t.val) := by
  rw [st, dif_pos t.isLt]

theorem clear_first {s : Shape} (h : t.val = 0) (y z : Vec F s .f32) : clear (grid0.coords t) y = clear (grid0.coords t) z := by
  rw [clear, clear, if_pos ((first_iff t).mpr h), if_pos ((first_iff t).mpr h)]

theorem clearRows_first (h : t.val = 0) (y z : Vec F S272x1024 .f32) (j : S272x1024.Idx) (hj : 256 ≤ (j 0).val) :
    clearRows (grid0.coords t) y j = clearRows (grid0.coords t) z j := by
  rw [clearRows, clearRows, if_pos ((first_iff t).mpr h), if_pos ((first_iff t).mpr h), if_pos hj, if_pos hj]

section
variable (y18 : Vec F S4x128x128 .f32) (y20 : Vec F S8x1024 .f32) (y21 : Vec F S8x5120 .f32) (y22 : Vec F S272x1024 .f32) (y26 : Vec F S128x1024 .f32) (y27 : Vec F S4x256x256 .f32) (y28 : Vec F S4x256x256 .f32)
  (h18 : (clear (grid0.coords t) y18) = (clear (grid0.coords t) S.dws))
  (h20 : (clear (grid0.coords t) y20) = (clear (grid0.coords t) S.vec))
  (h21 : (clear (grid0.coords t) y21) = (clear (grid0.coords t) S.dbin))
  (h22 : ∀ j : S272x1024.Idx, 256 ≤ (j 0).val → (clearRows (grid0.coords t) y22) j = (clearRows (grid0.coords t) S.win) j)
  (h26 : (clear (grid0.coords t) y26) = (clear (grid0.coords t) S.dsum))
  (h27 : (clear (grid0.coords t) y27) = (clear (grid0.coords t) S.pool))
  (h28 : (clear (grid0.coords t) y28) = (clear (grid0.coords t) S.proj))

include h18 h20 h21 h22 h26 h27 h28 in
set_option maxHeartbeats 4000000 in
theorem at_mid (hl : ¬last (grid0.coords t)) (E : Set ℕ) (K : PUnit → sProp 𝕄) :
    iprop(owns (c : Thread nD τ) (win0_17.stage (cfg0.slots t 17)) fullShare y18 ∗ owns (c : Thread nD τ) (win0_19.stage (cfg0.slots t 19)) fullShare y20 ∗ owns (c : Thread nD τ) (win0_20.stage (cfg0.slots t 20)) fullShare y21 ∗ owns (c : Thread nD τ) winM fullShare y22 ∗ owns (c : Thread nD τ) dsumM fullShare y26 ∗ owns (c : Thread nD τ) poolM fullShare y27 ∗ owns (c : Thread nD τ) projM fullShare y28
        ∗ owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t) ∗ owns (c : Thread nD τ) (win0_8.stage (cfg0.slots t 8)) fullShare (iblk m c 8 t) ∗ owns (c : Thread nD τ) (win0_9.stage (cfg0.slots t 9)) fullShare (iblk m c 9 t) ∗ owns (c : Thread nD τ) (win0_10.stage (cfg0.slots t 10)) fullShare (iblk m c 10 t) ∗ owns (c : Thread nD τ) (win0_11.stage (cfg0.slots t 11)) fullShare (iblk m c 11 t) ∗ owns (c : Thread nD τ) (win0_12.stage (cfg0.slots t 12)) fullShare (iblk m c 12 t) ∗ owns (c : Thread nD τ) (win0_13.stage (cfg0.slots t 13)) fullShare (iblk m c 13 t) ∗ (∃ d, owns (c : Thread nD τ) (win0_14.stage (cfg0.slots t 14)) fullShare d) ∗ (∃ d, owns (c : Thread nD τ) svM fullShare d) ∗ (∃ d, owns (c : Thread nD τ) dsvM fullShare d) ∗ (∃ d, owns (c : Thread nD τ) dvM fullShare d)
        ∗ (iprop(owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t) ∗ owns (c : Thread nD τ) (win0_8.stage (cfg0.slots t 8)) fullShare (iblk m c 8 t) ∗ owns (c : Thread nD τ) (win0_9.stage (cfg0.slots t 9)) fullShare (iblk m c 9 t) ∗ owns (c : Thread nD τ) (win0_10.stage (cfg0.slots t 10)) fullShare (iblk m c 10 t) ∗ owns (c : Thread nD τ) (win0_11.stage (cfg0.slots t 11)) fullShare (iblk m c 11 t) ∗ owns (c : Thread nD τ) (win0_12.stage (cfg0.slots t 12)) fullShare (iblk m c 12 t) ∗ owns (c : Thread nD τ) (win0_13.stage (cfg0.slots t 13)) fullShare (iblk m c 13 t) ∗ owns (c : Thread nD τ) (win0_14.stage (cfg0.slots t 14)) fullShare (tile m c t S) ∗ owns (c : Thread nD τ) (win0_17.stage (cfg0.slots t 17)) fullShare (next m c t S).dws ∗ owns (c : Thread nD τ) (win0_19.stage (cfg0.slots t 19)) fullShare (next m c t S).vec ∗ owns (c : Thread nD τ) (win0_20.stage (cfg0.slots t 20)) fullShare (next m c t S).dbin ∗ owns (c : Thread nD τ) winM fullShare (next m c t S).win ∗ (∃ d, owns (c : Thread nD τ) svM fullShare d) ∗ (∃ d, owns (c : Thread nD τ) dsvM fullShare d) ∗ (∃ d, owns (c : Thread nD τ) dvM fullShare d) ∗ owns (c : Thread nD τ) dsumM fullShare (next m c t S).dsum ∗ owns (c : Thread nD τ) poolM fullShare (next m c t S).pool ∗ owns (c : Thread nD τ) projM fullShare (next m c t S).proj) -∗ K ⟨⟩))
      ⊢ wp frame (wpE (defs₀ (F := F)) Variants.none c none) E (bodyAt0 t) K := by
  have r := RunMid.step (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) winM (Memref.isWhole_whole _) svM (Memref.isWhole_whole _) dsvM (Memref.isWhole_whole _) dvM (Memref.isWhole_whole _) dsumM (Memref.isWhole_whole _) poolM (Memref.isWhole_whole _) projM (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y18 y20 y21 y22 y26 y27 y28 (clear (grid0.coords t) S.dws) (clear (grid0.coords t) S.vec) (clear (grid0.coords t) S.dbin) (clearRows (grid0.coords t) S.win) (clear (grid0.coords t) S.dsum) (clear (grid0.coords t) S.pool) (clear (grid0.coords t) S.proj) (midAt m c t S).1 (midAt m c t S).2.1 (midAt m c t S).2.2.1 (midAt m c t S).2.2.2.1 (midAt m c t S).2.2.2.2.1 _ _ _ (midAt m c t S).2.2.2.2.2.2.2.2.1 (midAt m c t S).2.2.2.2.2.2.2.2.2.1 (midAt m c t S).2.2.2.2.2.2.2.2.2.2.1
    (run_mid (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) winM (Memref.isWhole_whole _) svM (Memref.isWhole_whole _) dsvM (Memref.isWhole_whole _) dvM (Memref.isWhole_whole _) dsumM (Memref.isWhole_whole _) poolM (Memref.isWhole_whole _) projM (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (clear (grid0.coords t) S.dws) (clear (grid0.coords t) S.vec) (clear (grid0.coords t) S.dbin) (clearRows (grid0.coords t) y22) (clear (grid0.coords t) S.dsum) (clear (grid0.coords t) S.pool) (clear (grid0.coords t) S.proj) (clearRows (grid0.coords t) S.win) h22)
    (cover_tile (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) winM (Memref.isWhole_whole _) svM (Memref.isWhole_whole _) dsvM (Memref.isWhole_whole _) dvM (Memref.isWhole_whole _) dsumM (Memref.isWhole_whole _) poolM (Memref.isWhole_whole _) projM (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (clear (grid0.coords t) S.dws) (clear (grid0.coords t) S.vec) (clear (grid0.coords t) S.dbin) (clearRows (grid0.coords t) S.win) (clear (grid0.coords t) S.dsum) (clear (grid0.coords t) S.pool) (clear (grid0.coords t) S.proj)) (cover_win (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) winM (Memref.isWhole_whole _) svM (Memref.isWhole_whole _) dsvM (Memref.isWhole_whole _) dvM (Memref.isWhole_whole _) dsumM (Memref.isWhole_whole _) poolM (Memref.isWhole_whole _) projM (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (clear (grid0.coords t) S.dws) (clear (grid0.coords t) S.vec) (clear (grid0.coords t) S.dbin) (clearRows (grid0.coords t) S.win) (clear (grid0.coords t) S.dsum) (clear (grid0.coords t) S.pool) (clear (grid0.coords t) S.proj))
    h18 h20 h21 h26 h27 h28 hl E K
  unfold tile next; dsimp only
  exact r

include h18 h20 h21 h22 h26 h27 h28 in
set_option maxHeartbeats 4000000 in
theorem at_fin (hl : last (grid0.coords t)) (E : Set ℕ) (K : PUnit → sProp 𝕄) :
    iprop(owns (c : Thread nD τ) (win0_17.stage (cfg0.slots t 17)) fullShare y18 ∗ owns (c : Thread nD τ) (win0_19.stage (cfg0.slots t 19)) fullShare y20 ∗ owns (c : Thread nD τ) (win0_20.stage (cfg0.slots t 20)) fullShare y21 ∗ owns (c : Thread nD τ) winM fullShare y22 ∗ owns (c : Thread nD τ) dsumM fullShare y26 ∗ owns (c : Thread nD τ) poolM fullShare y27 ∗ owns (c : Thread nD τ) projM fullShare y28
        ∗ owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t) ∗ owns (c : Thread nD τ) (win0_8.stage (cfg0.slots t 8)) fullShare (iblk m c 8 t) ∗ owns (c : Thread nD τ) (win0_9.stage (cfg0.slots t 9)) fullShare (iblk m c 9 t) ∗ owns (c : Thread nD τ) (win0_10.stage (cfg0.slots t 10)) fullShare (iblk m c 10 t) ∗ owns (c : Thread nD τ) (win0_11.stage (cfg0.slots t 11)) fullShare (iblk m c 11 t) ∗ owns (c : Thread nD τ) (win0_12.stage (cfg0.slots t 12)) fullShare (iblk m c 12 t) ∗ owns (c : Thread nD τ) (win0_13.stage (cfg0.slots t 13)) fullShare (iblk m c 13 t) ∗ (∃ d, owns (c : Thread nD τ) (win0_14.stage (cfg0.slots t 14)) fullShare d) ∗ (∃ d, owns (c : Thread nD τ) (win0_15.stage (cfg0.slots t 15)) fullShare d) ∗ (∃ d, owns (c : Thread nD τ) (win0_16.stage (cfg0.slots t 16)) fullShare d) ∗ (∃ d, owns (c : Thread nD τ) (win0_18.stage (cfg0.slots t 18)) fullShare d) ∗ (∃ d, owns (c : Thread nD τ) svM fullShare d) ∗ (∃ d, owns (c : Thread nD τ) dsvM fullShare d) ∗ (∃ d, owns (c : Thread nD τ) dvM fullShare d)
        ∗ (iprop(owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t) ∗ owns (c : Thread nD τ) (win0_8.stage (cfg0.slots t 8)) fullShare (iblk m c 8 t) ∗ owns (c : Thread nD τ) (win0_9.stage (cfg0.slots t 9)) fullShare (iblk m c 9 t) ∗ owns (c : Thread nD τ) (win0_10.stage (cfg0.slots t 10)) fullShare (iblk m c 10 t) ∗ owns (c : Thread nD τ) (win0_11.stage (cfg0.slots t 11)) fullShare (iblk m c 11 t) ∗ owns (c : Thread nD τ) (win0_12.stage (cfg0.slots t 12)) fullShare (iblk m c 12 t) ∗ owns (c : Thread nD τ) (win0_13.stage (cfg0.slots t 13)) fullShare (iblk m c 13 t) ∗ owns (c : Thread nD τ) (win0_14.stage (cfg0.slots t 14)) fullShare (tile m c t S) ∗ owns (c : Thread nD τ) (win0_15.stage (cfg0.slots t 15)) fullShare (poolEnd m c t S) ∗ owns (c : Thread nD τ) (win0_16.stage (cfg0.slots t 16)) fullShare (projEnd m c t S) ∗ owns (c : Thread nD τ) (win0_17.stage (cfg0.slots t 17)) fullShare (dwsEnd m c t S) ∗ owns (c : Thread nD τ) (win0_18.stage (cfg0.slots t 18)) fullShare (biasEnd m c t S) ∗ owns (c : Thread nD τ) (win0_19.stage (cfg0.slots t 19)) fullShare (next m c t S).vec ∗ owns (c : Thread nD τ) (win0_20.stage (cfg0.slots t 20)) fullShare (next m c t S).dbin ∗ owns (c : Thread nD τ) winM fullShare (next m c t S).win ∗ (∃ d, owns (c : Thread nD τ) svM fullShare d) ∗ (∃ d, owns (c : Thread nD τ) dsvM fullShare d) ∗ (∃ d, owns (c : Thread nD τ) dvM fullShare d) ∗ owns (c : Thread nD τ) dsumM fullShare (next m c t S).dsum ∗ owns (c : Thread nD τ) poolM fullShare (next m c t S).pool ∗ owns (c : Thread nD τ) projM fullShare (next m c t S).proj) -∗ K ⟨⟩))
      ⊢ wp frame (wpE (defs₀ (F := F)) Variants.none c none) E (bodyAt0 t) K := by
  have r := RunFin.step (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) winM (Memref.isWhole_whole _) svM (Memref.isWhole_whole _) dsvM (Memref.isWhole_whole _) dvM (Memref.isWhole_whole _) dsumM (Memref.isWhole_whole _) poolM (Memref.isWhole_whole _) projM (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y18 y20 y21 y22 y26 y27 y28 (clear (grid0.coords t) S.dws) (clear (grid0.coords t) S.vec) (clear (grid0.coords t) S.dbin) (clearRows (grid0.coords t) S.win) (clear (grid0.coords t) S.dsum) (clear (grid0.coords t) S.pool) (clear (grid0.coords t) S.proj) (midAt m c t S).1 (finAt m c t S).2.1 (finAt m c t S).2.2.1 (finAt m c t S).2.2.2.1 (finAt m c t S).2.2.2.2.1 (midAt m c t S).2.2.1 (midAt m c t S).2.2.2.1 (midAt m c t S).2.2.2.2.1 _ _ _ (midAt m c t S).2.2.2.2.2.2.2.2.1 (midAt m c t S).2.2.2.2.2.2.2.2.2.1 (midAt m c t S).2.2.2.2.2.2.2.2.2.2.1
    (run_fin (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) winM (Memref.isWhole_whole _) svM (Memref.isWhole_whole _) dsvM (Memref.isWhole_whole _) dvM (Memref.isWhole_whole _) dsumM (Memref.isWhole_whole _) poolM (Memref.isWhole_whole _) projM (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (clear (grid0.coords t) S.dws) (clear (grid0.coords t) S.vec) (clear (grid0.coords t) S.dbin) (clearRows (grid0.coords t) y22) (clear (grid0.coords t) S.dsum) (clear (grid0.coords t) S.pool) (clear (grid0.coords t) S.proj) (clearRows (grid0.coords t) S.win) h22)
    (cover_tile (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) winM (Memref.isWhole_whole _) svM (Memref.isWhole_whole _) dsvM (Memref.isWhole_whole _) dvM (Memref.isWhole_whole _) dsumM (Memref.isWhole_whole _) poolM (Memref.isWhole_whole _) projM (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (clear (grid0.coords t) S.dws) (clear (grid0.coords t) S.vec) (clear (grid0.coords t) S.dbin) (clearRows (grid0.coords t) S.win) (clear (grid0.coords t) S.dsum) (clear (grid0.coords t) S.pool) (clear (grid0.coords t) S.proj)) (cover_pool (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) winM (Memref.isWhole_whole _) svM (Memref.isWhole_whole _) dsvM (Memref.isWhole_whole _) dvM (Memref.isWhole_whole _) dsumM (Memref.isWhole_whole _) poolM (Memref.isWhole_whole _) projM (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (clear (grid0.coords t) S.dws) (clear (grid0.coords t) S.vec) (clear (grid0.coords t) S.dbin) (clearRows (grid0.coords t) S.win) (clear (grid0.coords t) S.dsum) (clear (grid0.coords t) S.pool) (clear (grid0.coords t) S.proj)) (cover_proj (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) winM (Memref.isWhole_whole _) svM (Memref.isWhole_whole _) dsvM (Memref.isWhole_whole _) dvM (Memref.isWhole_whole _) dsumM (Memref.isWhole_whole _) poolM (Memref.isWhole_whole _) projM (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (clear (grid0.coords t) S.dws) (clear (grid0.coords t) S.vec) (clear (grid0.coords t) S.dbin) (clearRows (grid0.coords t) S.win) (clear (grid0.coords t) S.dsum) (clear (grid0.coords t) S.pool) (clear (grid0.coords t) S.proj)) (cover_bias (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) winM (Memref.isWhole_whole _) svM (Memref.isWhole_whole _) dsvM (Memref.isWhole_whole _) dvM (Memref.isWhole_whole _) dsumM (Memref.isWhole_whole _) poolM (Memref.isWhole_whole _) projM (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (clear (grid0.coords t) S.dws) (clear (grid0.coords t) S.vec) (clear (grid0.coords t) S.dbin) (clearRows (grid0.coords t) S.win) (clear (grid0.coords t) S.dsum) (clear (grid0.coords t) S.pool) (clear (grid0.coords t) S.proj)) (cover_win (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) winM (Memref.isWhole_whole _) svM (Memref.isWhole_whole _) dsvM (Memref.isWhole_whole _) dvM (Memref.isWhole_whole _) dsumM (Memref.isWhole_whole _) poolM (Memref.isWhole_whole _) projM (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (clear (grid0.coords t) S.dws) (clear (grid0.coords t) S.vec) (clear (grid0.coords t) S.dbin) (clearRows (grid0.coords t) S.win) (clear (grid0.coords t) S.dsum) (clear (grid0.coords t) S.pool) (clear (grid0.coords t) S.proj))
    h18 h20 h21 h26 h27 h28 hl E K
  unfold tile next dwsEnd poolEnd projEnd biasEnd; dsimp only
  exact r

end

end Cert.Mx

end
-- ==== Proof.Mx.Spec.lean ====
module

public import proofs.«01_k».proof.Proof.Reals

/-!
The gradient of the mixing layer over the reals: its inputs as real arrays and every value that the backward pass
goes through, written row by row.
-/

@[expose] public section

noncomputable section

namespace Cert.Mx

/-- The inputs: the projected rows `z`, the pooled rows `p`, the cotangent `dy`, the weights and the gains.
    `ws` is the spatial weight after its mask. -/
structure Data where
  z : Fin 4096 → Fin 5120 → ℝ
  p : Fin 4096 → Fin 1024 → ℝ
  dy : Fin 4096 → Fin 1024 → ℝ
  wp : Fin 4 → Fin 256 → Fin 256 → ℝ
  ps : Fin 1024 → ℝ
  lg : Fin 1024 → ℝ
  lb : Fin 1024 → ℝ
  ws : Fin 4 → Fin 128 → Fin 128 → ℝ
  bs : Fin 4 → Fin 128 → ℝ
  wr : Fin 4 → Fin 256 → Fin 256 → ℝ
  wo : Fin 1024 → Fin 1024 → ℝ

/-- Column `d` of head `h`. -/
def cc (h : Fin 4) (d : Fin 256) : Fin 1024 := ⟨d.val + h.val * 256, by omega⟩

/-- Column `k` of part `q` of the projected row. -/
def zc (q : Fin 5) (k : Fin 1024) : Fin 5120 := ⟨k.val + q.val * 1024, by omega⟩

/-- A value by head and lane, at a column. -/
def flat (f : Fin 4 → Fin 256 → ℝ) (k : Fin 1024) : ℝ := f ⟨k.val / 256, by omega⟩ ⟨k.val % 256, by omega⟩

theorem flat_cc (f : Fin 4 → Fin 256 → ℝ) (h : Fin 4) (d : Fin 256) : flat f (cc h d) = f h d := by
  have e0 : (⟨(cc h d).val / 256, by omega⟩ : Fin 4) = h := Fin.ext (by show (d.val + h.val * 256) / 256 = h.val; omega)
  have e1 : (⟨(cc h d).val % 256, by omega⟩ : Fin 256) = d := Fin.ext (by show (d.val + h.val * 256) % 256 = d.val; omega)
  exact congrArg₂ f e0 e1

theorem cc_surj (k : Fin 1024) : cc ⟨k.val / 256, by omega⟩ ⟨k.val % 256, by omega⟩ = k :=
  Fin.ext (by show k.val % 256 + k.val / 256 * 256 = k.val; omega)

/-- The place of a row in its block of 128. -/
def loc (s : Fin 4096) : Fin 128 := ⟨s.val % 128, by omega⟩

/-- Row `j` of the block that row `s` lies in. -/
def blk (s : Fin 4096) (j : Fin 128) : Fin 4096 := ⟨s.val / 128 * 128 + j.val, by omega⟩

/-! ### The gelu and the gate -/

/-- The word of `sqrt (2 / π)`. -/
def C0 : ℝ := 6693141 / 8388608

/-- The word of `0.044715`. -/
def C1 : ℝ := 12003091 / 268435456

def cdf (a : ℝ) : ℝ := 1 / 2 * Real.tanh (a * (C0 + C0 * C1 * (a * a))) + 1 / 2

def gel (a : ℝ) : ℝ := a * cdf a

def dgel (a : ℝ) : ℝ := cdf a + gel a * (1 - cdf a) * (2 * C0 + 6 * C0 * C1 * (a * a))

def sgm (a : ℝ) : ℝ := 1 / 2 * Real.tanh (1 / 2 * a) + 1 / 2

namespace Data

variable (D : Data)

/-- The gradient of the merged row. -/
def dm (s : Fin 4096) (k : Fin 1024) : ℝ := ∑ e : Fin 1024, D.dy s e * D.wo k e

def u (s : Fin 4096) (k : Fin 1024) : ℝ := gel (D.z s (zc 1 k))
def du (s : Fin 4096) (k : Fin 1024) : ℝ := dgel (D.z s (zc 1 k))
def gv (s : Fin 4096) (k : Fin 1024) : ℝ := gel (D.z s (zc 2 k))
def dgv (s : Fin 4096) (k : Fin 1024) : ℝ := dgel (D.z s (zc 2 k))

/-! ### The layer norm -/

def mu (s : Fin 4096) : ℝ := (∑ k : Fin 1024, D.gv s k) / 1024
def ce (s : Fin 4096) (k : Fin 1024) : ℝ := D.gv s k - D.mu s
def va (s : Fin 4096) : ℝ := (∑ k : Fin 1024, D.ce s k * D.ce s k) / 1024 + Reals.eps
def rs (s : Fin 4096) : ℝ := (Real.sqrt (D.va s))⁻¹
def vh (s : Fin 4096) (k : Fin 1024) : ℝ := D.ce s k * D.rs s
def vb (s : Fin 4096) (k : Fin 1024) : ℝ := D.vh s k * D.lg k + D.lb k

theorem va_pos (s : Fin 4096) : 0 < D.va s :=
  add_pos_of_nonneg_of_pos (div_nonneg (Finset.sum_nonneg fun k _ => mul_self_nonneg (D.ce s k)) (by norm_num)) Reals.eps_pos

/-! ### The spatial product and the gates -/

def sv (s : Fin 4096) (h : Fin 4) (d : Fin 256) : ℝ := ∑ j : Fin 128, D.ws h (loc s) j * D.vb (blk s j) (cc h d) + D.bs h (loc s)
def gt (s : Fin 4096) (h : Fin 4) (d : Fin 256) : ℝ := D.u s (cc h d) * D.sv s h d
def sa (s : Fin 4096) (k : Fin 1024) : ℝ := sgm (D.z s (zc 3 k))
def sb (s : Fin 4096) (k : Fin 1024) : ℝ := sgm (D.z s (zc 4 k))
def da (s : Fin 4096) (k : Fin 1024) : ℝ := D.dm s k * D.sa s k
def db (s : Fin 4096) (k : Fin 1024) : ℝ := D.dm s k * D.sb s k

/-! ### The pooled branch -/

def ap (s : Fin 4096) (g : Fin 4) (d : Fin 256) : ℝ := ∑ k : Fin 256, D.p s (cc g k) * D.wp g k d
def dps (s : Fin 4096) (g : Fin 4) (d : Fin 256) : ℝ := D.da s (cc g d) * D.ap s g d
def dz3 (s : Fin 4096) (g : Fin 4) (d : Fin 256) : ℝ := D.dps s g d * D.ps (cc g d) * (1 - D.sa s (cc g d))
def dap (s : Fin 4096) (g : Fin 4) (d : Fin 256) : ℝ := D.da s (cc g d) * D.ps (cc g d)
def dpo (s : Fin 4096) (g : Fin 4) (d : Fin 256) : ℝ := ∑ k : Fin 256, D.dap s g k * D.wp g d k

end Data

/-- The lengths of the four windows. -/
def wl (g : Fin 4) : ℕ := 2 ^ (g.val + 1)

/-- How many rows the window that ends at a row holds. -/
def cnt (s : Fin 4096) (g : Fin 4) : ℝ := (min (s.val + 1) (wl g) : ℕ)

theorem cnt_ne (s : Fin 4096) (g : Fin 4) : cnt s g ≠ 0 := by
  unfold cnt wl
  exact Nat.cast_ne_zero.mpr (by have := Nat.two_pow_pos (g.val + 1); omega)

namespace Data

variable (D : Data)

def wn (s : Fin 4096) (g : Fin 4) (d : Fin 256) : ℝ := D.dpo s g d * (1 / cnt s g)

/-- The same past the last row, where it is zero. -/
def wx (n : ℕ) (g : Fin 4) (d : Fin 256) : ℝ := if h : n < 4096 then D.wn ⟨n, h⟩ g d else 0

def dz0 (s : Fin 4096) (g : Fin 4) (d : Fin 256) : ℝ := ∑ j ∈ Finset.range (wl g), D.wx (s.val + j) g d - D.dpo s g d

/-! ### The gated branch -/

def br (s : Fin 4096) (h : Fin 4) (d : Fin 256) : ℝ := ∑ k : Fin 256, D.gt s h k * D.wr h k d
def dz4 (s : Fin 4096) (h : Fin 4) (d : Fin 256) : ℝ := D.db s (cc h d) * D.br s h d * (1 - D.sb s (cc h d))
def dgt (s : Fin 4096) (h : Fin 4) (d : Fin 256) : ℝ := ∑ k : Fin 256, D.db s (cc h k) * D.wr h d k
def dsv (s : Fin 4096) (h : Fin 4) (d : Fin 256) : ℝ := D.dgt s h d * D.u s (cc h d)
def dgs (s : Fin 4096) (h : Fin 4) (d : Fin 256) : ℝ := D.dgt s h d * D.sv s h d
def dz1 (s : Fin 4096) (k : Fin 1024) : ℝ := flat (D.dgs s) k * D.du s k
def dv (s : Fin 4096) (h : Fin 4) (d : Fin 256) : ℝ := ∑ i : Fin 128, D.ws h i (loc s) * D.dsv (blk s i) h d

/-! ### The gradient of the layer norm -/

def dvh (s : Fin 4096) (k : Fin 1024) : ℝ := flat (D.dv s) k * D.lg k
def m1 (s : Fin 4096) : ℝ := (∑ k : Fin 1024, D.dvh s k) / 1024
def m2 (s : Fin 4096) : ℝ := (∑ k : Fin 1024, D.dvh s k * D.vh s k) / 1024
def dz2 (s : Fin 4096) (k : Fin 1024) : ℝ := D.rs s * (D.dvh s k - D.m1 s - D.vh s k * D.m2 s) * D.dgv s k

/-- The gradient of the projected row, part by part. -/
def dz (s : Fin 4096) : Fin 5 → Fin 1024 → ℝ :=
  ![flat (D.dz0 s), D.dz1 s, D.dz2 s, flat (D.dz3 s), flat (D.dz4 s)]

/-- The same at a column of the whole row. -/
def dzc (s : Fin 4096) (e : Fin 5120) : ℝ := D.dz s ⟨e.val / 1024, by omega⟩ ⟨e.val % 1024, by omega⟩

theorem dzc_zc (s : Fin 4096) (q : Fin 5) (k : Fin 1024) : D.dzc s (zc q k) = D.dz s q k := by
  have e0 : (⟨(zc q k).val / 1024, by omega⟩ : Fin 5) = q := Fin.ext (by show (k.val + q.val * 1024) / 1024 = q.val; omega)
  have e1 : (⟨(zc q k).val % 1024, by omega⟩ : Fin 1024) = k := Fin.ext (by show (k.val + q.val * 1024) % 1024 = k.val; omega)
  exact congrArg₂ (D.dz s) e0 e1

end Data

end Cert.Mx

end
-- ==== Proof.Mx.Stage.lean ====
module

public import proofs.«01_k».proof.Proof.Mx.State
public import proofs.«01_k».proof.Proof.Mx.Spec
public import Idealize.ShloMosaic.Lib.Pointwise
public import Idealize.ShloMosaic.Lib.Pipeline.ValueKit
public import Idealize.ShloMosaic.Lib.WholeRead

/-!
What the run of one tile computes, stage by stage, when its blocks hold real numbers.
-/

@[expose] public section

set_option maxRecDepth 16384

noncomputable section

namespace Cert.Mx

open Cert.KernelMxIdeal Cert.KernelMxIdeal.Gen Idealize.ShloMosaic Idealize.ShloMosaic.TcCoe Idealize.SL.Sem

/-- The row of the whole array at row `s` of the tile that point `n` works on: the tiles run from the last to the first. -/
def row (n : ℕ) (s : Fin 256) : Fin 4096 := ⟨(15 - n) * 256 + s.val, by omega⟩

/-- The blocks of point `n` hold the real inputs. -/
structure Reads (D : Data) (n : ℕ) (x1 : Vec Ideal S256x5120 .f32) (x2 x3 : Vec Ideal S256x1024 .bf16) (x4 : Vec Ideal S4x256x256 .bf16)
    (x5 x6 x7 : Vec Ideal S1x1024 .f32) (x8 x9 : Vec Ideal S4x128x128 .bf16) (x10 : Vec Ideal S4x128x1 .f32) (x11 : Vec Ideal S4x256x256 .bf16)
    (x12 : Vec Ideal S1024x1024 .bf16) : Prop where
  h1 : ∀ s k, x1 (ix2 s k) = (D.z (row n s) k : EReal)
  h2 : ∀ s k, x2 (ix2 s k) = (D.p (row n s) k : EReal)
  h3 : ∀ s k, x3 (ix2 s k) = (D.dy (row n s) k : EReal)
  h4 : ∀ g k d, x4 (ix3 g k d) = (D.wp g k d : EReal)
  h5 : ∀ (a : Fin 1) k, x5 (ix2 a k) = (D.ps k : EReal)
  h6 : ∀ (a : Fin 1) k, x6 (ix2 a k) = (D.lg k : EReal)
  h7 : ∀ (a : Fin 1) k, x7 (ix2 a k) = (D.lb k : EReal)
  h8 : ∀ h i j, x8 (ix3 h i j) = (D.ws h i j : EReal)
  h9 : ∀ h i j, x9 (ix3 h j i) = (D.ws h i j : EReal)
  h10 : ∀ h i (a : Fin 1), x10 (ix3 h i a) = (D.bs h i : EReal)
  h11 : ∀ h k d, x11 (ix3 h k d) = (D.wr h k d : EReal)
  h12 : ∀ k e, x12 (ix2 k e) = (D.wo k e : EReal)

/-- A load of a whole memory that holds `X` is the part of `X` under it. -/
theorem load_eq {F : FTy → Type} [FloatOps F] {s : Shape} {e : EltTy} {sp : Space} {A : Memref sig .tc sp s e} (h : A.IsWhole) (X : s.Idx → Elt F e) (B : Rect s) :
    View.readAt (Elt F) A.view B.toLoadRect (h.unread X) = View.ld X B :=
  funext fun y => h.readAt_unread X B.toLoadRect y

/-! ### Words and places -/

theorem word_half : Ideal.ofBits .f32 0x3F000000#32 = ((1 / 2 : ℝ) : EReal) := by
  simp [Ideal.ofBits, Ideal.ieee, -EReal.coe_mul]; norm_num

theorem word_one : Ideal.ofBits .f32 0x3F800000#32 = ((1 : ℝ) : EReal) := by
  simp [Ideal.ofBits, Ideal.ieee, -EReal.coe_mul]; norm_num

theorem name_root_cube : Named.named (F := Ideal) KernelMxIdeal.κ "gelu_root_cube" (φ := .f32) 0x3D122279#32 = ((C0 * C1 : ℝ) : EReal) :=
  IdealRules.named_const.ideal_named_scalar _ _ _ _ rfl

theorem word_root : Ideal.ofBits .f32 0x3F4C422A#32 = ((C0 : ℝ) : EReal) := by
  simp [C0, Ideal.ofBits, Ideal.ieee, -EReal.coe_mul]; norm_num

theorem name_six : Named.named (F := Ideal) KernelMxIdeal.κ "gelu_six_root_cube" (φ := .f32) 0x3E5B33B6#32 = ((6 * C0 * C1 : ℝ) : EReal) :=
  IdealRules.named_const.ideal_named_scalar _ _ _ _ rfl

theorem word_two_root : Ideal.ofBits .f32 0x3FCC422A#32 = ((2 * C0 : ℝ) : EReal) := by
  simp [C0, Ideal.ofBits, Ideal.ieee, -EReal.coe_mul]; norm_num

theorem at0 (d : Fin 256) (h) : (⟨d.val, h⟩ : Fin 1024) = cc 0 d := rfl
theorem at1 (d : Fin 256) (h) : (⟨256 + d.val, h⟩ : Fin 1024) = cc 1 d := Fin.ext (Nat.add_comm _ _)
theorem at2 (d : Fin 256) (h) : (⟨512 + d.val, h⟩ : Fin 1024) = cc 2 d := Fin.ext (Nat.add_comm _ _)
theorem at3 (d : Fin 256) (h) : (⟨768 + d.val, h⟩ : Fin 1024) = cc 3 d := Fin.ext (Nat.add_comm _ _)
theorem part1 (k : Fin 1024) (h) : (⟨1024 + k.val, h⟩ : Fin 5120) = zc 1 k := Fin.ext (Nat.add_comm _ _)
theorem part2 (k : Fin 1024) (h) : (⟨2048 + k.val, h⟩ : Fin 5120) = zc 2 k := Fin.ext (Nat.add_comm _ _)
theorem part3 (k : Fin 1024) (h) : (⟨3072 + k.val, h⟩ : Fin 5120) = zc 3 k := Fin.ext (Nat.add_comm _ _)
theorem part4 (k : Fin 1024) (h) : (⟨4096 + k.val, h⟩ : Fin 5120) = zc 4 k := Fin.ext (Nat.add_comm _ _)

variable {D : Data} {n : ℕ} {c : Dev nD} {i : grid0.Coords} {arg1 : Memref sig .tc .vmem S256x5120 .f32} {harg1 : arg1.IsWhole} {arg2 : Memref sig .tc .vmem S256x1024 .bf16} {harg2 : arg2.IsWhole} {arg3 : Memref sig .tc .vmem S256x1024 .bf16} {harg3 : arg3.IsWhole} {arg4 : Memref sig .tc .vmem S4x256x256 .bf16} {harg4 : arg4.IsWhole} {arg5 : Memref sig .tc .vmem S1x1024 .f32} {harg5 : arg5.IsWhole} {arg6 : Memref sig .tc .vmem S1x1024 .f32} {harg6 : arg6.IsWhole} {arg7 : Memref sig .tc .vmem S1x1024 .f32} {harg7 : arg7.IsWhole} {arg8 : Memref sig .tc .vmem S4x128x128 .bf16} {harg8 : arg8.IsWhole} {arg9 : Memref sig .tc .vmem S4x128x128 .bf16} {harg9 : arg9.IsWhole} {arg10 : Memref sig .tc .vmem S4x128x1 .f32} {harg10 : arg10.IsWhole} {arg11 : Memref sig .tc .vmem S4x256x256 .bf16} {harg11 : arg11.IsWhole} {arg12 : Memref sig .tc .vmem S1024x1024 .bf16} {harg12 : arg12.IsWhole} {arg13 : Memref sig .tc .vmem S128x128 .f32} {harg13 : arg13.IsWhole} {arg14 : Memref sig .tc .vmem S8x128 .f32} {harg14 : arg14.IsWhole} {arg15 : Memref sig .tc .vmem S256x5120 .bf16} {harg15 : arg15.IsWhole} {arg16 : Memref sig .tc .vmem S2x4x128x256 .bf16} {harg16 : arg16.IsWhole} {arg17 : Memref sig .tc .vmem S2x4x128x256 .bf16} {harg17 : arg17.IsWhole} {arg18 : Memref sig .tc .vmem S4x128x128 .f32} {harg18 : arg18.IsWhole} {arg19 : Memref sig .tc .vmem S128x512 .f32} {harg19 : arg19.IsWhole} {arg20 : Memref sig .tc .vmem S8x1024 .f32} {harg20 : arg20.IsWhole} {arg21 : Memref sig .tc .vmem S8x5120 .f32} {harg21 : arg21.IsWhole} {arg22 : Memref sig .tc .vmem S272x1024 .f32} {harg22 : arg22.IsWhole} {arg23 : Memref sig .tc .vmem S256x1024 .f32} {harg23 : arg23.IsWhole} {arg24 : Memref sig .tc .vmem S256x1024 .f32} {harg24 : arg24.IsWhole} {arg25 : Memref sig .tc .vmem S256x1024 .f32} {harg25 : arg25.IsWhole} {arg26 : Memref sig .tc .vmem S128x1024 .f32} {harg26 : arg26.IsWhole} {arg27 : Memref sig .tc .vmem S4x256x256 .f32} {harg27 : arg27.IsWhole} {arg28 : Memref sig .tc .vmem S4x256x256 .f32} {harg28 : arg28.IsWhole} {x1 : Vec Ideal S256x5120 .f32} {x2 : Vec Ideal S256x1024 .bf16} {x3 : Vec Ideal S256x1024 .bf16} {x4 : Vec Ideal S4x256x256 .bf16} {x5 : Vec Ideal S1x1024 .f32} {x6 : Vec Ideal S1x1024 .f32} {x7 : Vec Ideal S1x1024 .f32} {x8 : Vec Ideal S4x128x128 .bf16} {x9 : Vec Ideal S4x128x128 .bf16} {x10 : Vec Ideal S4x128x1 .f32} {x11 : Vec Ideal S4x256x256 .bf16} {x12 : Vec Ideal S1024x1024 .bf16} {x13 : Vec Ideal S128x128 .f32} {x14 : Vec Ideal S8x128 .f32} {y18 : Vec Ideal S4x128x128 .f32} {y20 : Vec Ideal S8x1024 .f32} {y21 : Vec Ideal S8x5120 .f32} {y22 : Vec Ideal S272x1024 .f32} {y26 : Vec Ideal S128x1024 .f32} {y27 : Vec Ideal S4x256x256 .f32} {y28 : Vec Ideal S4x256x256 .f32} (R : Reads D n x1 x2 x3 x4 x5 x6 x7 x8 x9 x10 x11 x12)

include R in
theorem dm_real (s : Fin 256) (k : Fin 1024) :
    k0_pay56 (View.readAt (Elt Ideal) arg3.view (Rect.unit ![0, 0] ![256, 1024] inb_S256x1024_S256x1024_0_0).toLoadRect (harg3.unread x3))
      (View.readAt (Elt Ideal) arg12.view (Rect.unit ![0, 0] ![1024, 1024] inb_S1024x1024_S1024x1024_0_0).toLoadRect (harg12.unread x12)) (ix2 s k)
      = (D.dm (row n s) k : EReal) := by
  unfold_payloads
  simp only [load_eq]
  pointwise
  simp only [R.h3, R.h12]
  simp only [← EReal.coe_mul, Reals.sum_coe]
  rfl

include R in
theorem u_real (s : Fin 256) (k : Fin 1024) :
    k0_pay60 (View.readAt (Elt Ideal) arg1.view (Rect.unit ![0, 1024] ![256, 1024] inb_S256x5120_S256x1024_0_1024).toLoadRect (harg1.unread x1)) (ix2 s k)
      = (D.u (row n s) k : EReal) := by
  unfold_payloads
  simp only [load_eq]
  pointwise
  simp only [word_root, name_root_cube, word_half]
  simp only [part1, R.h1]
  simp only [← EReal.coe_mul, ← EReal.coe_add, Ideal.tanh_coe]
  rfl

include R in
theorem du_real (s : Fin 256) (k : Fin 1024) :
    k0_pay61 (View.readAt (Elt Ideal) arg1.view (Rect.unit ![0, 1024] ![256, 1024] inb_S256x5120_S256x1024_0_1024).toLoadRect (harg1.unread x1)) (ix2 s k)
      = (D.du (row n s) k : EReal) := by
  unfold_payloads
  simp only [load_eq]
  pointwise
  simp only [word_root, name_root_cube, name_six, word_two_root, word_half, word_one]
  simp only [part1, R.h1]
  simp only [← EReal.coe_mul, ← EReal.coe_add, ← EReal.coe_sub, Ideal.tanh_coe]
  rfl

/-! ### The layer norm -/

section norm

variable {v32 v33 v37 : Vec Ideal S256x1024 .f32} (h32 : ∀ s k, v32 (ix2 s k) = (D.z (row n s) (zc 2 k) : EReal))
  (h33 : ∀ s k, v33 (ix2 s k) = (D.z (row n s) (zc 2 k) * D.z (row n s) (zc 2 k) : ℝ))
  (h37 : ∀ s k, v37 (ix2 s k) = (C0 + C0 * C1 * (D.z (row n s) (zc 2 k) * D.z (row n s) (zc 2 k)) : ℝ))

include h32 h37 in
theorem gv_real (s : Fin 256) (k : Fin 1024) : k0_pay66 (F := Ideal) v32 v37 (ix2 s k) = (D.gv (row n s) k : EReal) := by
  unfold_payloads
  pointwise
  simp only [word_half, h32, h37]
  simp only [← EReal.coe_mul, ← EReal.coe_add, Ideal.tanh_coe]
  rfl

include h32 h33 h37 in
theorem dgv_real (s : Fin 256) (k : Fin 1024) : k0_pay67 (F := Ideal) v32 v33 v37 (ix2 s k) = (D.dgv (row n s) k : EReal) := by
  unfold_payloads
  pointwise
  simp only [word_half, word_one, name_six, word_two_root, h32, h33, h37]
  simp only [← EReal.coe_mul, ← EReal.coe_add, ← EReal.coe_sub, Ideal.tanh_coe]
  rfl

include h32 h37 in
theorem ce_real (s : Fin 256) (k : Fin 1024) : k0_pay68 (F := Ideal) v32 v37 (ix2 s k) = (D.ce (row n s) k : EReal) := by
  unfold k0_pay68
  pointwise
  simp only [Reals.word_1024, gv_real h32 h37]
  simp only [Reals.sum_coe, Reals.div_real _ (show (1024 : ℝ) ≠ 0 by norm_num), ← EReal.coe_sub]
  rfl

include h32 h37 in
theorem rs_real (s : Fin 256) : k0_pay69 (F := Ideal) v32 v37 (ix2 s 0) = (D.rs (row n s) : EReal) := by
  unfold k0_pay69
  pointwise
  simp only [Reals.word_1024, Reals.word_eps, ce_real h32 h37]
  simp only [← EReal.coe_mul, Reals.sum_coe, Reals.div_real _ (show (1024 : ℝ) ≠ 0 by norm_num), ← EReal.coe_add]
  exact Reals.rsqrt_real (D.va_pos (row n s))

include h32 h37 in
theorem vh_real (s : Fin 256) (k : Fin 1024) : k0_pay70 (F := Ideal) v32 v37 (ix2 s k) = (D.vh (row n s) k : EReal) := by
  unfold k0_pay70
  pointwise
  simp only [ce_real h32 h37, rs_real h32 h37]
  simp only [← EReal.coe_mul]
  rfl

end norm

include R in
theorem square_real (s : Fin 256) (k : Fin 1024) :
    k0_pay63 (View.readAt (Elt Ideal) arg1.view (Rect.unit ![0, 2048] ![256, 1024] inb_S256x5120_S256x1024_0_2048).toLoadRect (harg1.unread x1)) (ix2 s k)
      = (D.z (row n s) (zc 2 k) * D.z (row n s) (zc 2 k) : ℝ) := by
  unfold_payloads
  simp only [load_eq]
  pointwise
  simp only [part2, R.h1, ← EReal.coe_mul]

include R in
theorem z2_real (s : Fin 256) (k : Fin 1024) :
    k0_pay62 (View.readAt (Elt Ideal) arg1.view (Rect.unit ![0, 2048] ![256, 1024] inb_S256x5120_S256x1024_0_2048).toLoadRect (harg1.unread x1)) (ix2 s k)
      = (D.z (row n s) (zc 2 k) : ℝ) := by
  unfold_payloads
  simp only [load_eq]
  pointwise
  simp only [part2, R.h1]

include R in
theorem poly_real (s : Fin 256) (k : Fin 1024) :
    k0_pay64 (View.readAt (Elt Ideal) arg1.view (Rect.unit ![0, 2048] ![256, 1024] inb_S256x5120_S256x1024_0_2048).toLoadRect (harg1.unread x1)) (ix2 s k)
      = (C0 + C0 * C1 * (D.z (row n s) (zc 2 k) * D.z (row n s) (zc 2 k)) : ℝ) := by
  unfold k0_pay64
  pointwise
  simp only [word_root, name_root_cube, square_real R, ← EReal.coe_mul, ← EReal.coe_add]

include R in
theorem r_real (s : Fin 256) (k : Fin 1024) : (mid.sl.r (F := Ideal) c i arg1 harg1 arg3 harg3 arg12 harg12 x1 x3 x12) (ix2 s k) = (D.dgv (row n s) k : EReal) := by
  unfold mid.sl.r
  dsimp only
  exact dgv_real (z2_real R) (square_real R) (poly_real R) s k

include R in
theorem r_1_real (s : Fin 256) : (mid.sl.r_1 (F := Ideal) c i arg1 harg1 arg3 harg3 arg12 harg12 x1 x3 x12) (ix2 s 0) = (D.rs (row n s) : EReal) := by
  unfold mid.sl.r_1
  dsimp only
  exact rs_real (z2_real R) (poly_real R) s

include R in
theorem r_2_real (s : Fin 256) (k : Fin 1024) : (mid.sl.r_2 (F := Ideal) c i arg1 harg1 arg3 harg3 arg12 harg12 x1 x3 x12) (ix2 s k) = (D.vh (row n s) k : EReal) := by
  unfold mid.sl.r_2
  dsimp only
  exact vh_real (z2_real R) (poly_real R) s k

include R in
theorem r_3_real (s : Fin 256) (k : Fin 1024) : (mid.sl.r_3 (F := Ideal) c i arg1 harg1 arg3 harg3 arg6 harg6 arg7 harg7 arg12 harg12 x1 x3 x6 x7 x12) (ix2 s k) = (D.vb (row n s) k : EReal) := by
  unfold mid.sl.r_3
  dsimp only
  unfold k0_pay71
  have e := vh_real (z2_real (harg1 := harg1) R) (poly_real (harg1 := harg1) R) s k
  pointwise
  simp only [e]
  simp only [load_eq]
  pointwise
  simp only [R.h6, R.h7]
  simp only [← EReal.coe_mul, ← EReal.coe_add]
  rfl

/-! ### The gates -/

include R in
theorem r_8_real (s : Fin 256) (k : Fin 1024) : (mid.sl.r_8 (F := Ideal) c arg1 harg1 x1) (ix2 s k) = (D.sa (row n s) k : EReal) := by
  unfold mid.sl.r_8 mid.sl.r_7 mid.sl.cst_99
  unfold_payloads
  simp only [load_eq]
  pointwise
  simp only [word_half, part3, R.h1]
  simp only [← EReal.coe_mul, ← EReal.coe_add, Ideal.tanh_coe]
  rfl

include R in
theorem r_9_real (s : Fin 256) (k : Fin 1024) : (mid.sl.r_9 (F := Ideal) c arg1 harg1 x1) (ix2 s k) = (D.sb (row n s) k : EReal) := by
  unfold mid.sl.r_9
  unfold_payloads
  simp only [load_eq]
  pointwise
  simp only [word_half, part4, R.h1]
  simp only [← EReal.coe_mul, ← EReal.coe_add, Ideal.tanh_coe]
  rfl

include R in
theorem r_10_real (s : Fin 256) (k : Fin 1024) : (mid.sl.r_10 (F := Ideal) c arg1 harg1 arg3 harg3 arg12 harg12 x1 x3 x12) (ix2 s k) = (D.da (row n s) k : EReal) := by
  unfold mid.sl.r_10 k0_pay85
  pointwise
  simp only [dm_real R]
  exact (congrArg _ (r_8_real (c := c) R s k)).trans (EReal.coe_mul _ _).symm

include R in
theorem r_11_real (s : Fin 256) (k : Fin 1024) : (mid.sl.r_11 (F := Ideal) c arg1 harg1 arg3 harg3 arg12 harg12 x1 x3 x12) (ix2 s k) = (D.db (row n s) k : EReal) := by
  unfold mid.sl.r_11 k0_pay86
  pointwise
  simp only [dm_real R]
  exact (congrArg _ (r_9_real (c := c) R s k)).trans (EReal.coe_mul _ _).symm

include R in
theorem r_12_real (s : Fin 256) (k : Fin 1024) : (mid.sl.r_12 (F := Ideal) c arg1 harg1 arg3 harg3 arg12 harg12 x1 x3 x12) (ix2 s k) = (D.db (row n s) k : EReal) := by
  unfold mid.sl.r_12 k0_pay87
  pointwise
  exact r_11_real (c := c) R s k

end Cert.Mx

end
-- ==== Proof.Mx.Space.lean ====
module

public import proofs.«01_k».proof.Proof.Mx.Stage
public import Idealize.ShloMosaic.Lib.Pipeline.ReadBack
public import proofs.«01_k».proof.Proof.Rows
public import Idealize.ShloMosaic.Lib.Pointwise
public import Idealize.ShloMosaic.Lib.Pipeline.ValueKit
public import Idealize.ShloMosaic.Lib.WholeRead

/-!
The spatial product, its gradient and the gradient of the layer norm, over one tile.
-/

@[expose] public section

set_option maxRecDepth 16384

noncomputable section

namespace Cert.Mx

open Cert.KernelMxIdeal Cert.KernelMxIdeal.Gen Idealize.ShloMosaic Idealize.ShloMosaic.TcCoe Idealize.SL.Sem

/-- Row `r` of block `b` of the tile. -/
def tb (b : Fin 2) (r : Fin 128) : Fin 256 := ⟨b.val * 128 + r.val, by omega⟩

theorem tb0 (r : Fin 128) (h) : (⟨r.val, h⟩ : Fin 256) = tb 0 r := Fin.ext (by show r.val = 0 * 128 + r.val; omega)
theorem tb1 (r : Fin 128) (h) : (⟨128 + r.val, h⟩ : Fin 256) = tb 1 r := Fin.ext (by show 128 + r.val = 1 * 128 + r.val; omega)

theorem loc_tb (n : ℕ) (b : Fin 2) (r : Fin 128) : loc (row n (tb b r)) = r :=
  Fin.ext (by show ((15 - n) * 256 + (b.val * 128 + r.val)) % 128 = r.val; omega)

theorem blk_tb (n : ℕ) (b : Fin 2) (r j : Fin 128) : blk (row n (tb b r)) j = row n (tb b j) :=
  Fin.ext (by show ((15 - n) * 256 + (b.val * 128 + r.val)) / 128 * 128 + j.val = (15 - n) * 256 + (b.val * 128 + j.val); omega)

/-- A function of row and column, as a buffer. -/
def buf2 {a b : ℕ} (g : Fin a → Fin b → ℝ) : (⟨2, ![a, b]⟩ : Shape).Idx → EReal := fun y => (g (y 0) (y 1) : EReal)

theorem buf2_emb {a b n w k l : ℕ} (g : Fin a → Fin b → ℝ) (inb : ∀ x : Fin 2, ![k, l] x + ![n, w] x ≤ (![a, b] : Fin 2 → ℕ) x) (i : Fin n) (j : Fin w)
    (hk : k + i.val < a) (hl : l + j.val < b) :
    buf2 g ((Rect.unit (s := ⟨2, ![a, b]⟩) ![k, l] ![n, w] inb).emb (ix2 i j)) = (g ⟨k + i.val, hk⟩ ⟨l + j.val, hl⟩ : EReal) :=
  congrArg (buf2 g) (Rows.emb_unit inb i j ⟨k + i.val, hk⟩ ⟨l + j.val, hl⟩ rfl rfl)

section whole

variable {Val : EltTy → Type} [∀ e, Nonempty (Val e)] {e : EltTy} {sp : Space} {a b : ℕ} (v : View sig .tc sp (⟨2, ![a, b]⟩ : Shape) e)
  (inb : ∀ x : Fin 2, ![0, 0] x + ![a, b] x ≤ (![a, b] : Fin 2 → ℕ) x) {G : (⟨2, ![a, b]⟩ : Shape).Idx → Val e}

/-- A load of a whole buffer after stores that are blocks of `G` and cover it, over any earlier ones. -/
theorem whole_read (L' L : List (View.Piece Val (⟨2, ![a, b]⟩ : Shape) e)) (hP : View.PiecesOf G L) (hc : ∀ y, ∃ p ∈ L, y ∈ p.1.set) (i : Fin a) (j : Fin b) :
    v.readCov (L ++ L') (Rect.unit (s := ⟨2, ![a, b]⟩) ![0, 0] ![a, b] inb).toLoadRect (ix2 i j) = G (ix2 i j) := by
  rw [View.readCov_eq_canon']
  refine Eq.trans ?_ (View.canon_append_of_piecesOf G L' L hP (ix2 i j) (hc _))
  exact congrArg _ (Rows.emb_unit inb i j i j (Nat.zero_add _).symm (Nat.zero_add _).symm)

end whole

variable {D : Data} {n : ℕ} {c : Dev nD} {i : grid0.Coords} {arg1 : Memref sig .tc .vmem S256x5120 .f32} {harg1 : arg1.IsWhole} {arg2 : Memref sig .tc .vmem S256x1024 .bf16} {harg2 : arg2.IsWhole} {arg3 : Memref sig .tc .vmem S256x1024 .bf16} {harg3 : arg3.IsWhole} {arg4 : Memref sig .tc .vmem S4x256x256 .bf16} {harg4 : arg4.IsWhole} {arg5 : Memref sig .tc .vmem S1x1024 .f32} {harg5 : arg5.IsWhole} {arg6 : Memref sig .tc .vmem S1x1024 .f32} {harg6 : arg6.IsWhole} {arg7 : Memref sig .tc .vmem S1x1024 .f32} {harg7 : arg7.IsWhole} {arg8 : Memref sig .tc .vmem S4x128x128 .bf16} {harg8 : arg8.IsWhole} {arg9 : Memref sig .tc .vmem S4x128x128 .bf16} {harg9 : arg9.IsWhole} {arg10 : Memref sig .tc .vmem S4x128x1 .f32} {harg10 : arg10.IsWhole} {arg11 : Memref sig .tc .vmem S4x256x256 .bf16} {harg11 : arg11.IsWhole} {arg12 : Memref sig .tc .vmem S1024x1024 .bf16} {harg12 : arg12.IsWhole} {arg13 : Memref sig .tc .vmem S128x128 .f32} {harg13 : arg13.IsWhole} {arg14 : Memref sig .tc .vmem S8x128 .f32} {harg14 : arg14.IsWhole} {arg15 : Memref sig .tc .vmem S256x5120 .bf16} {harg15 : arg15.IsWhole} {arg16 : Memref sig .tc .vmem S2x4x128x256 .bf16} {harg16 : arg16.IsWhole} {arg17 : Memref sig .tc .vmem S2x4x128x256 .bf16} {harg17 : arg17.IsWhole} {arg18 : Memref sig .tc .vmem S4x128x128 .f32} {harg18 : arg18.IsWhole} {arg19 : Memref sig .tc .vmem S128x512 .f32} {harg19 : arg19.IsWhole} {arg20 : Memref sig .tc .vmem S8x1024 .f32} {harg20 : arg20.IsWhole} {arg21 : Memref sig .tc .vmem S8x5120 .f32} {harg21 : arg21.IsWhole} {arg22 : Memref sig .tc .vmem S272x1024 .f32} {harg22 : arg22.IsWhole} {arg23 : Memref sig .tc .vmem S256x1024 .f32} {harg23 : arg23.IsWhole} {arg24 : Memref sig .tc .vmem S256x1024 .f32} {harg24 : arg24.IsWhole} {arg25 : Memref sig .tc .vmem S256x1024 .f32} {harg25 : arg25.IsWhole} {arg26 : Memref sig .tc .vmem S128x1024 .f32} {harg26 : arg26.IsWhole} {arg27 : Memref sig .tc .vmem S4x256x256 .f32} {harg27 : arg27.IsWhole} {arg28 : Memref sig .tc .vmem S4x256x256 .f32} {harg28 : arg28.IsWhole} {x1 : Vec Ideal S256x5120 .f32} {x2 : Vec Ideal S256x1024 .bf16} {x3 : Vec Ideal S256x1024 .bf16} {x4 : Vec Ideal S4x256x256 .bf16} {x5 : Vec Ideal S1x1024 .f32} {x6 : Vec Ideal S1x1024 .f32} {x7 : Vec Ideal S1x1024 .f32} {x8 : Vec Ideal S4x128x128 .bf16} {x9 : Vec Ideal S4x128x128 .bf16} {x10 : Vec Ideal S4x128x1 .f32} {x11 : Vec Ideal S4x256x256 .bf16} {x12 : Vec Ideal S1024x1024 .bf16} {x13 : Vec Ideal S128x128 .f32} {x14 : Vec Ideal S8x128 .f32} {y18 : Vec Ideal S4x128x128 .f32} {y20 : Vec Ideal S8x1024 .f32} {y21 : Vec Ideal S8x5120 .f32} {y22 : Vec Ideal S272x1024 .f32} {y26 : Vec Ideal S128x1024 .f32} {y27 : Vec Ideal S4x256x256 .f32} {y28 : Vec Ideal S4x256x256 .f32} (R : Reads D n x1 x2 x3 x4 x5 x6 x7 x8 x9 x10 x11 x12)

/-- The spatial product over the tile. -/
abbrev svT (D : Data) (n : ℕ) : Vec Ideal S256x1024 .f32 := buf2 fun s k => flat (D.sv (row n s)) k

include R in
theorem spatial_pieces : View.PiecesOf (Val := Elt Ideal) (svT D n) (mid.sl.H23_8 (F := Ideal) c i arg1 harg1 arg3 harg3 arg6 harg6 arg7 harg7 arg8 harg8 arg10 harg10 arg12 harg12 x1 x3 x6 x7 x8 x10 x12) := by
  unfold mid.sl.H23_8 mid.sl.r_5 mid.sl.r_4
  refine ⟨?_, ?_, ?_, ?_, ?_, ?_, ?_, ?_, trivial⟩ <;> intro x <;> idx_vars x
  all_goals unfold_payloads
  all_goals simp only [load_eq]
  all_goals pointwise
  all_goals refine Eq.trans ?_ (buf2_emb _ _ x0 x1 (by omega) (by omega)).symm
  all_goals simp only [r_3_real R, R.h8, R.h10]
  all_goals simp only [Nat.zero_add, tb0, tb1, at0, at1, at2, at3, flat_cc, Data.sv, loc_tb, blk_tb]
  all_goals simp only [← EReal.coe_mul, Reals.sum_coe, ← EReal.coe_add]

include R in
theorem v167_real (s : Fin 256) (k : Fin 1024) : (mid.sl.v167 (F := Ideal) c i arg1 harg1 arg3 harg3 arg6 harg6 arg7 harg7 arg8 harg8 arg10 harg10 arg12 harg12 arg23 x1 x3 x6 x7 x8 x10 x12) (ix2 s k) = (flat (D.sv (row n s)) k : EReal) := by
  have hP := spatial_pieces (c := c) (i := i) (harg1 := harg1) (harg3 := harg3) (harg6 := harg6) (harg7 := harg7) (harg8 := harg8) (harg10 := harg10) (harg12 := harg12) R
  unfold mid.sl.v167
  unfold mid.sl.H23_8 at hP ⊢
  exact whole_read _ _ [] _ hP (View.cover_of_tiledL _ ![128, 256] (by sl_kernel_rfl)) s k

include R in
theorem r_6_real (s : Fin 256) (h : Fin 4) (d : Fin 256) : (mid.sl.r_6 (F := Ideal) c i arg1 harg1 arg3 harg3 arg6 harg6 arg7 harg7 arg8 harg8 arg10 harg10 arg12 harg12 arg23 x1 x3 x6 x7 x8 x10 x12) (ix2 s (cc h d)) = (D.gt (row n s) h d : EReal) := by
  unfold mid.sl.r_6 k0_pay81
  pointwise
  simp only [v167_real R, u_real R, flat_cc, ← EReal.coe_mul]
  rfl

/-! ### The gated branch -/

include R in
theorem dsv_pieces : View.PiecesOf (Val := Elt Ideal) (s := S256x1024) (e := .f32) (buf2 fun s k => flat (D.dsv (row n s)) k) (mid.sl.H24_4 (F := Ideal) c arg1 harg1 arg3 harg3 arg11 harg11 arg12 harg12 x1 x3 x11 x12) := by
  unfold mid.sl.H24_4 mid.sl.r_45 mid.sl.r_43 mid.sl.r_46 mid.sl.r_47 mid.sl.r_39
  refine ⟨?_, ?_, ?_, ?_, trivial⟩ <;> intro x <;> idx_vars x
  all_goals simp only [k0_pay193, k0_pay192, k0_pay182, k0_pay181, k0_pay173, k0_pay172, k0_pay164, k0_pay163, k0_pay185, k0_pay176, k0_pay167, k0_pay156]
  all_goals pointwise
  all_goals simp only [u_real R]
  all_goals simp only [load_eq]
  all_goals pointwise
  all_goals refine Eq.trans ?_ (buf2_emb _ _ x0 x1 (by omega) (by omega)).symm
  all_goals simp only [Nat.zero_add, Fin.eta, at0, at1, at2, at3, flat_cc]
  all_goals simp only [r_12_real R, R.h11]
  all_goals simp only [← EReal.coe_mul, Reals.sum_coe]
  all_goals rfl

include R in
theorem v639_real (s : Fin 256) (k : Fin 1024) : (mid.sl.v639 (F := Ideal) c arg1 harg1 arg3 harg3 arg11 harg11 arg12 harg12 arg24 x1 x3 x11 x12) (ix2 s k) = (flat (D.dsv (row n s)) k : EReal) := by
  have hP := dsv_pieces (c := c) (harg1 := harg1) (harg3 := harg3) (harg11 := harg11) (harg12 := harg12) R
  unfold mid.sl.v639
  unfold mid.sl.H24_4 at hP ⊢
  exact whole_read _ _ [] _ hP (View.cover_of_tiledL _ ![256, 256] (by sl_kernel_rfl)) s k

include R in
theorem r_50_real (s : Fin 256) (k : Fin 1024) : (mid.sl.r_50 (F := Ideal) c arg1 harg1 arg3 harg3 arg11 harg11 arg12 harg12 arg24 x1 x3 x11 x12) (ix2 s k) = (flat (D.dsv (row n s)) k : EReal) := by
  unfold mid.sl.r_50 k0_pay198
  pointwise
  exact v639_real R s k

include R in
theorem r_51_real (r : Fin 128) (k : Fin 1024) :
    (mid.sl.r_51 (F := Ideal) c arg1 harg1 arg3 harg3 arg11 harg11 arg12 harg12 arg24 x1 x3 x11 x12) (ix2 r k) = (flat (D.dsv (row n (tb 0 r))) k + flat (D.dsv (row n (tb 1 r))) k : ℝ) := by
  unfold mid.sl.r_51 k0_pay199
  pointwise
  simp only [v639_real R, tb0, tb1, ← EReal.coe_add]

/-- The gated gradient times the spatial product. -/
abbrev dgsT (D : Data) (n : ℕ) : Vec Ideal S256x1024 .f32 := buf2 fun s k => flat (D.dgs (row n s)) k

include R in
theorem v629_real (s : Fin 256) (k : Fin 1024) : (mid.sl.v629 (F := Ideal) c i arg1 harg1 arg3 harg3 arg6 harg6 arg7 harg7 arg8 harg8 arg10 harg10 arg11 harg11 arg12 harg12 arg23 x1 x3 x6 x7 x8 x10 x11 x12) (ix2 s k) = (flat (D.dgs (row n s)) k : EReal) := by
  unfold mid.sl.v629 mid.sl.H23_12
  refine whole_read (G := dgsT D n) _ _ (mid.sl.H23_8 (F := Ideal) c i arg1 harg1 arg3 harg3 arg6 harg6 arg7 harg7 arg8 harg8 arg10 harg10 arg12 harg12 x1 x3 x6 x7 x8 x10 x12) [_, _, _, _] ⟨?_, ?_, ?_, ?_, trivial⟩ (View.cover_of_tiledL _ ![256, 256] (by sl_kernel_rfl)) s k
  all_goals intro x
  all_goals idx_vars x
  all_goals unfold dgsT
  all_goals simp only [mid.sl.r_44, mid.sl.r_43, mid.sl.r_46, mid.sl.r_47, mid.sl.r_39, k0_pay194, k0_pay192, k0_pay183, k0_pay181, k0_pay174, k0_pay172, k0_pay165,
    k0_pay163, k0_pay185, k0_pay176, k0_pay167, k0_pay156]
  all_goals simp only [load_eq]
  all_goals pointwise
  all_goals refine Eq.trans ?_ (buf2_emb _ _ x0 x1 (by omega) (by omega)).symm
  all_goals simp only [Nat.zero_add, Fin.eta, at0, at1, at2, at3, flat_cc]
  all_goals simp only [r_12_real R, R.h11, v167_real R, flat_cc]
  all_goals simp only [← EReal.coe_mul, Reals.sum_coe]
  all_goals rfl

/-! ### The gradient of the spatial product's operand, and of the layer norm -/

include R in
theorem dv_pieces : View.PiecesOf (Val := Elt Ideal) (s := S256x1024) (e := .f32) (buf2 fun s k => flat (D.dv (row n s)) k) (mid.sl.H25_8 (F := Ideal) c arg1 harg1 arg3 harg3 arg9 harg9 arg11 harg11 arg12 harg12 arg24 x1 x3 x9 x11 x12) := by
  unfold mid.sl.H25_8
  refine ⟨?_, ?_, ?_, ?_, ?_, ?_, ?_, ?_, trivial⟩ <;> intro x <;> idx_vars x
  all_goals unfold_payloads
  all_goals simp only [load_eq]
  all_goals pointwise
  all_goals refine Eq.trans ?_ (buf2_emb _ _ x0 x1 (by omega) (by omega)).symm
  all_goals simp only [r_50_real R, R.h9]
  all_goals simp only [Nat.zero_add, tb0, tb1, at0, at1, at2, at3, flat_cc, Data.dv, loc_tb, blk_tb]
  all_goals simp only [← EReal.coe_mul, Reals.sum_coe]

include R in
theorem v777_real (s : Fin 256) (k : Fin 1024) : (mid.sl.v777 (F := Ideal) c arg1 harg1 arg3 harg3 arg9 harg9 arg11 harg11 arg12 harg12 arg24 arg25 x1 x3 x9 x11 x12) (ix2 s k) = (flat (D.dv (row n s)) k : EReal) := by
  have hP := dv_pieces (c := c) (harg1 := harg1) (harg3 := harg3) (harg9 := harg9) (harg11 := harg11) (harg12 := harg12) (arg24 := arg24) R
  unfold mid.sl.v777
  unfold mid.sl.H25_8 at hP ⊢
  exact whole_read _ _ [] _ hP (View.cover_of_tiledL _ ![128, 256] (by sl_kernel_rfl)) s k

include R in
theorem r_55_real (s : Fin 256) (k : Fin 1024) : (mid.sl.r_55 (F := Ideal) c i arg1 harg1 arg3 harg3 arg6 harg6 arg9 harg9 arg11 harg11 arg12 harg12 arg24 arg25 x1 x3 x6 x9 x11 x12) (ix2 s k) = (D.dvh (row n s) k * D.vh (row n s) k : ℝ) := by
  unfold mid.sl.r_55 k0_pay222 k0_pay220
  simp only [load_eq]
  pointwise
  simp only [v777_real R, r_2_real R, R.h6, ← EReal.coe_mul]
  rfl

include R in
theorem r_54_real (s : Fin 256) (k : Fin 1024) : (mid.sl.r_54 (F := Ideal) c arg1 harg1 arg3 harg3 arg6 harg6 arg9 harg9 arg11 harg11 arg12 harg12 arg24 arg25 x1 x3 x6 x9 x11 x12) (ix2 s k) = (D.dvh (row n s) k - D.m1 (row n s) : ℝ) := by
  unfold mid.sl.r_54 k0_pay221 k0_pay220
  simp only [load_eq]
  pointwise
  simp only [v777_real R, R.h6, Reals.word_1024, ← EReal.coe_mul, Reals.sum_coe, Reals.div_real _ (show (1024 : ℝ) ≠ 0 by norm_num), ← EReal.coe_sub]
  rfl

include R in
theorem dz2_real (s : Fin 256) (k : Fin 1024) : k0_pay1 (F := Ideal) (mid.sl.r (F := Ideal) c i arg1 harg1 arg3 harg3 arg12 harg12 x1 x3 x12) (mid.sl.r_1 (F := Ideal) c i arg1 harg1 arg3 harg3 arg12 harg12 x1 x3 x12) (mid.sl.r_2 (F := Ideal) c i arg1 harg1 arg3 harg3 arg12 harg12 x1 x3 x12) (mid.sl.r_54 (F := Ideal) c arg1 harg1 arg3 harg3 arg6 harg6 arg9 harg9 arg11 harg11 arg12 harg12 arg24 arg25 x1 x3 x6 x9 x11 x12) (mid.sl.r_55 (F := Ideal) c i arg1 harg1 arg3 harg3 arg6 harg6 arg9 harg9 arg11 harg11 arg12 harg12 arg24 arg25 x1 x3 x6 x9 x11 x12) (ix2 s k) = (D.dz2 (row n s) k : EReal) := by
  unfold k0_pay1
  pointwise
  simp only [r_real R, r_1_real R, r_2_real R, r_54_real R, r_55_real R, Reals.word_1024, ← EReal.coe_mul, Reals.sum_coe,
    Reals.div_real _ (show (1024 : ℝ) ≠ 0 by norm_num), ← EReal.coe_sub]
  rfl

end Cert.Mx

end
-- ==== Proof.Mx.Pool.lean ====
module

public import proofs.«01_k».proof.Proof.Mx.Space
public import Idealize.ShloMosaic.Lib.Pipeline.ReadBack
public import Idealize.ShloMosaic.Lib.WordArith
public import proofs.«01_k».proof.Proof.Rows
public import Idealize.ShloMosaic.Lib.Pointwise
public import Idealize.ShloMosaic.Lib.Pipeline.ValueKit
public import Idealize.ShloMosaic.Lib.WholeRead

/-!
The pooled branch over one tile: the gradient of its scale, of its weight, and the windows running back.
-/

@[expose] public section

set_option maxRecDepth 16384

noncomputable section

namespace Cert.Mx

open Cert.KernelMxIdeal Cert.KernelMxIdeal.Gen Idealize.ShloMosaic Idealize.ShloMosaic.TcCoe Idealize.SL.Sem

variable {D : Data} {n : ℕ} {c : Dev nD} {i : grid0.Coords} {arg1 : Memref sig .tc .vmem S256x5120 .f32} {harg1 : arg1.IsWhole} {arg2 : Memref sig .tc .vmem S256x1024 .bf16} {harg2 : arg2.IsWhole} {arg3 : Memref sig .tc .vmem S256x1024 .bf16} {harg3 : arg3.IsWhole} {arg4 : Memref sig .tc .vmem S4x256x256 .bf16} {harg4 : arg4.IsWhole} {arg5 : Memref sig .tc .vmem S1x1024 .f32} {harg5 : arg5.IsWhole} {arg6 : Memref sig .tc .vmem S1x1024 .f32} {harg6 : arg6.IsWhole} {arg7 : Memref sig .tc .vmem S1x1024 .f32} {harg7 : arg7.IsWhole} {arg8 : Memref sig .tc .vmem S4x128x128 .bf16} {harg8 : arg8.IsWhole} {arg9 : Memref sig .tc .vmem S4x128x128 .bf16} {harg9 : arg9.IsWhole} {arg10 : Memref sig .tc .vmem S4x128x1 .f32} {harg10 : arg10.IsWhole} {arg11 : Memref sig .tc .vmem S4x256x256 .bf16} {harg11 : arg11.IsWhole} {arg12 : Memref sig .tc .vmem S1024x1024 .bf16} {harg12 : arg12.IsWhole} {arg13 : Memref sig .tc .vmem S128x128 .f32} {harg13 : arg13.IsWhole} {arg14 : Memref sig .tc .vmem S8x128 .f32} {harg14 : arg14.IsWhole} {arg15 : Memref sig .tc .vmem S256x5120 .bf16} {harg15 : arg15.IsWhole} {arg16 : Memref sig .tc .vmem S2x4x128x256 .bf16} {harg16 : arg16.IsWhole} {arg17 : Memref sig .tc .vmem S2x4x128x256 .bf16} {harg17 : arg17.IsWhole} {arg18 : Memref sig .tc .vmem S4x128x128 .f32} {harg18 : arg18.IsWhole} {arg19 : Memref sig .tc .vmem S128x512 .f32} {harg19 : arg19.IsWhole} {arg20 : Memref sig .tc .vmem S8x1024 .f32} {harg20 : arg20.IsWhole} {arg21 : Memref sig .tc .vmem S8x5120 .f32} {harg21 : arg21.IsWhole} {arg22 : Memref sig .tc .vmem S272x1024 .f32} {harg22 : arg22.IsWhole} {arg23 : Memref sig .tc .vmem S256x1024 .f32} {harg23 : arg23.IsWhole} {arg24 : Memref sig .tc .vmem S256x1024 .f32} {harg24 : arg24.IsWhole} {arg25 : Memref sig .tc .vmem S256x1024 .f32} {harg25 : arg25.IsWhole} {arg26 : Memref sig .tc .vmem S128x1024 .f32} {harg26 : arg26.IsWhole} {arg27 : Memref sig .tc .vmem S4x256x256 .f32} {harg27 : arg27.IsWhole} {arg28 : Memref sig .tc .vmem S4x256x256 .f32} {harg28 : arg28.IsWhole} {x1 : Vec Ideal S256x5120 .f32} {x2 : Vec Ideal S256x1024 .bf16} {x3 : Vec Ideal S256x1024 .bf16} {x4 : Vec Ideal S4x256x256 .bf16} {x5 : Vec Ideal S1x1024 .f32} {x6 : Vec Ideal S1x1024 .f32} {x7 : Vec Ideal S1x1024 .f32} {x8 : Vec Ideal S4x128x128 .bf16} {x9 : Vec Ideal S4x128x128 .bf16} {x10 : Vec Ideal S4x128x1 .f32} {x11 : Vec Ideal S4x256x256 .bf16} {x12 : Vec Ideal S1024x1024 .bf16} {x13 : Vec Ideal S128x128 .f32} {x14 : Vec Ideal S8x128 .f32} {y18 : Vec Ideal S4x128x128 .f32} {y20 : Vec Ideal S8x1024 .f32} {y21 : Vec Ideal S8x5120 .f32} {y22 : Vec Ideal S272x1024 .f32} {y26 : Vec Ideal S128x1024 .f32} {y27 : Vec Ideal S4x256x256 .f32} {y28 : Vec Ideal S4x256x256 .f32} (R : Reads D n x1 x2 x3 x4 x5 x6 x7 x8 x9 x10 x11 x12)

include R in
theorem r_15_real (s d : Fin 256) : (mid.sl.r_15 (F := Ideal) c arg1 harg1 arg3 harg3 arg12 harg12 x1 x3 x12) (ix2 s d) = (D.da (row n s) (cc 0 d) : EReal) := by
  have e := r_10_real (c := c) (harg1 := harg1) (harg3 := harg3) (harg12 := harg12) R s (cc 0 d)
  unfold mid.sl.r_10 at e
  unfold mid.sl.r_15 k0_pay90
  pointwise
  exact e

include R in
theorem dpo_real (s d : Fin 256) : (mid.sl.r_19 (F := Ideal) c arg1 harg1 arg3 harg3 arg4 harg4 arg5 harg5 arg12 harg12 x1 x3 x4 x5 x12) (ix2 s d) = (D.dpo (row n s) 0 d : EReal) ∧ (mid.sl.r_23 (F := Ideal) c arg1 harg1 arg3 harg3 arg4 harg4 arg5 harg5 arg12 harg12 x1 x3 x4 x5 x12) (ix2 s d) = (D.dpo (row n s) 1 d : EReal)
    ∧ (mid.sl.r_29 (F := Ideal) c arg1 harg1 arg3 harg3 arg4 harg4 arg5 harg5 arg12 harg12 x1 x3 x4 x5 x12) (ix2 s d) = (D.dpo (row n s) 2 d : EReal) ∧ (mid.sl.r_34 (F := Ideal) c arg1 harg1 arg3 harg3 arg4 harg4 arg5 harg5 arg12 harg12 x1 x3 x4 x5 x12) (ix2 s d) = (D.dpo (row n s) 3 d : EReal) := by
  unfold mid.sl.r_19 mid.sl.r_16 mid.sl.r_23 mid.sl.r_22 mid.sl.r_29 mid.sl.r_25 mid.sl.r_26 mid.sl.r_34 mid.sl.r_32 mid.sl.r_33
  simp only [k0_pay101, k0_pay99, k0_pay91, k0_pay113, k0_pay111, k0_pay104, k0_pay105, k0_pay125, k0_pay123, k0_pay116, k0_pay117, k0_pay138, k0_pay136, k0_pay129, k0_pay130, load_eq]
  refine ⟨?_, ?_, ?_, ?_⟩
  all_goals pointwise
  all_goals simp only [r_10_real R, r_15_real R, at0, at1, at2, at3, R.h5, R.h4]
  all_goals simp only [← EReal.coe_mul, Reals.sum_coe]
  all_goals rfl

include R in
theorem dps_real (s d : Fin 256) :
    k0_pay92 (F := Ideal) (k0_pay56 (View.readAt (Elt Ideal) arg3.view (Rect.unit (s := S256x1024) ![0, 0] S256x1024.size inb_S256x1024_S256x1024_0_0).toLoadRect (harg3.unread x3)) (View.readAt (Elt Ideal) arg12.view (Rect.unit (s := S1024x1024) ![0, 0] S1024x1024.size inb_S1024x1024_S1024x1024_0_0).toLoadRect (harg12.unread x12))) (mid.sl.r_7 (F := Ideal) c arg1 harg1 x1) mid.sl.cst_99 (View.readAt (Elt Ideal) arg2.view (Rect.unit (s := S256x1024) ![0, 0] S256x256.size inb_S256x1024_S256x256_0_0).toLoadRect (harg2.unread x2)) (View.readAt (Elt Ideal) arg4.view (Rect.unit (s := S4x256x256) ![0, 0, 0] S1x256x256.size inb_S4x256x256_S1x256x256_0_0_0).toLoadRect (harg4.unread x4)) (ix2 s d) = (D.dps (row n s) 0 d : EReal)
    ∧ k0_pay106 (F := Ideal) (mid.sl.r_10 (F := Ideal) c arg1 harg1 arg3 harg3 arg12 harg12 x1 x3 x12) (View.readAt (Elt Ideal) arg2.view (Rect.unit (s := S256x1024) ![0, 256] S256x256.size inb_S256x1024_S256x256_0_256).toLoadRect (harg2.unread x2)) (View.readAt (Elt Ideal) arg4.view (Rect.unit (s := S4x256x256) ![1, 0, 0] S1x256x256.size inb_S4x256x256_S1x256x256_1_0_0).toLoadRect (harg4.unread x4)) (ix2 s d) = (D.dps (row n s) 1 d : EReal)
    ∧ (mid.sl.r_27 (F := Ideal) c arg1 harg1 arg2 harg2 arg3 harg3 arg4 harg4 arg12 harg12 x1 x2 x3 x4 x12) (ix2 s d) = (D.dps (row n s) 2 d : EReal)
    ∧ k0_pay131 (F := Ideal) (mid.sl.r_10 (F := Ideal) c arg1 harg1 arg3 harg3 arg12 harg12 x1 x3 x12) (View.readAt (Elt Ideal) arg2.view (Rect.unit (s := S256x1024) ![0, 768] S256x256.size inb_S256x1024_S256x256_0_768).toLoadRect (harg2.unread x2)) (View.readAt (Elt Ideal) arg4.view (Rect.unit (s := S4x256x256) ![3, 0, 0] S1x256x256.size inb_S4x256x256_S1x256x256_3_0_0).toLoadRect (harg4.unread x4)) (ix2 s d) = (D.dps (row n s) 3 d : EReal) := by
  have e := r_15_real (c := c) (harg1 := harg1) (harg3 := harg3) (harg12 := harg12) R s d
  unfold mid.sl.r_15 at e
  unfold mid.sl.r_27
  simp only [k0_pay92, k0_pay89, k0_pay106, k0_pay103, k0_pay104, k0_pay118, k0_pay115, k0_pay116, k0_pay131, k0_pay128, k0_pay129]
  refine ⟨?_, ?_, ?_, ?_⟩
  all_goals pointwise
  all_goals simp only [e, r_10_real R]
  all_goals simp only [load_eq]
  all_goals pointwise
  all_goals simp only [r_10_real R, at0, at1, at2, at3, R.h2, R.h4]
  all_goals simp only [← EReal.coe_mul, Reals.sum_coe]
  all_goals rfl

include R in
theorem dz3_real (s d : Fin 256) :
    k0_pay96 (F := Ideal) (mid.sl.r_17 (F := Ideal) c arg1 harg1 arg2 harg2 arg3 harg3 arg4 harg4 arg5 harg5 arg12 harg12 x1 x2 x3 x4 x5 x12) (mid.sl.r_18 (F := Ideal) c arg1 harg1 x1) (ix2 s d) = (D.dz3 (row n s) 0 d : EReal)
    ∧ k0_pay108 (F := Ideal) (mid.sl.r_8 (F := Ideal) c arg1 harg1 x1) (mid.sl.r_10 (F := Ideal) c arg1 harg1 arg3 harg3 arg12 harg12 x1 x3 x12) (View.readAt (Elt Ideal) arg2.view (Rect.unit (s := S256x1024) ![0, 256] S256x256.size inb_S256x1024_S256x256_0_256).toLoadRect (harg2.unread x2)) (View.readAt (Elt Ideal) arg4.view (Rect.unit (s := S4x256x256) ![1, 0, 0] S1x256x256.size inb_S4x256x256_S1x256x256_1_0_0).toLoadRect (harg4.unread x4)) (View.readAt (Elt Ideal) arg5.view (Rect.unit (s := S1x1024) ![0, 256] S1x256.size inb_S1x1024_S1x256_0_256).toLoadRect (harg5.unread x5)) (ix2 s d) = (D.dz3 (row n s) 1 d : EReal)
    ∧ k0_pay120 (F := Ideal) (mid.sl.r_8 (F := Ideal) c arg1 harg1 x1) (mid.sl.r_26 (F := Ideal) c arg5 harg5 x5) (mid.sl.r_27 (F := Ideal) c arg1 harg1 arg2 harg2 arg3 harg3 arg4 harg4 arg12 harg12 x1 x2 x3 x4 x12) (ix2 s d) = (D.dz3 (row n s) 2 d : EReal)
    ∧ k0_pay133 (F := Ideal) (mid.sl.r_8 (F := Ideal) c arg1 harg1 x1) (mid.sl.r_10 (F := Ideal) c arg1 harg1 arg3 harg3 arg12 harg12 x1 x3 x12) (View.readAt (Elt Ideal) arg2.view (Rect.unit (s := S256x1024) ![0, 768] S256x256.size inb_S256x1024_S256x256_0_768).toLoadRect (harg2.unread x2)) (View.readAt (Elt Ideal) arg4.view (Rect.unit (s := S4x256x256) ![3, 0, 0] S1x256x256.size inb_S4x256x256_S1x256x256_3_0_0).toLoadRect (harg4.unread x4)) (View.readAt (Elt Ideal) arg5.view (Rect.unit (s := S1x1024) ![0, 768] S1x256.size inb_S1x1024_S1x256_0_768).toLoadRect (harg5.unread x5)) (ix2 s d) = (D.dz3 (row n s) 3 d : EReal) := by
  obtain ⟨e0, e1, e2, e3⟩ := dps_real (c := c) (harg1 := harg1) (harg2 := harg2) (harg3 := harg3) (harg4 := harg4) (harg12 := harg12) R s d
  have f := r_8_real (c := c) (harg1 := harg1) R
  have f0 := f s (cc 0 d)
  unfold mid.sl.r_8 at f0
  unfold mid.sl.r_17 mid.sl.r_18 mid.sl.r_26
  simp only [k0_pay96, k0_pay94, k0_pay95, k0_pay91, k0_pay108, k0_pay105, k0_pay120, k0_pay117, k0_pay133, k0_pay130]
  refine ⟨?_, ?_, ?_, ?_⟩
  all_goals pointwise
  all_goals simp only [e0, e1, e2, e3, f, at0, at1, at2, at3]
  all_goals simp only [load_eq]
  all_goals pointwise
  all_goals simp only [f0, at0, at1, at2, at3, R.h5]
  all_goals simp only [← EReal.coe_one, ← EReal.coe_mul, ← EReal.coe_sub]
  all_goals rfl

/-- A row of the tile is row `15 - n` tiles down. -/
theorem pos_word (hn : n ≤ 15) (hi : (i 0).val = n) (s : Fin 256) (a : Fin 1) : mid.sl.r_13 i (ix2 s a) = BitVec.ofNat 32 ((row n s).val + 1) := by
  unfold mid.sl.r_13 k0_pay88
  pointwise
  rw [hi]
  apply BitVec.eq_of_toNat_eq
  simp [Scalar.subi, Scalar.muli, Scalar.addi, IntOp.subi, IntOp.muli, IntOp.addi, row]
  omega

theorem count_real (hn : n ≤ 15) (hi : (i 0).val = n) (s : Fin 256) (a : Fin 1) (g : Fin 4) (w : BitVec 32) (hw : w = BitVec.ofNat 32 (wl g)) :
    FloatOps.sitofp (F := Ideal) .f32 (IntOp.minsi (mid.sl.r_13 i (ix2 s a)) w) = (cnt (row n s) g : EReal) := by
  rw [pos_word hn hi, hw]
  have hs := (row n s).isLt
  have hg : wl g ≤ 16 := by unfold wl; exact (Nat.pow_le_pow_right (by norm_num) (by omega : g.val + 1 ≤ 4)).trans (by norm_num)
  have ha : (BitVec.ofNat 32 ((row n s).val + 1)).toNat = (row n s).val + 1 := by rw [BitVec.toNat_ofNat]; exact Nat.mod_eq_of_lt (by omega)
  have hb : (BitVec.ofNat 32 (wl g)).toNat = wl g := by rw [BitVec.toNat_ofNat]; exact Nat.mod_eq_of_lt (by omega)
  have h := WordArith.toNat_minsi_of_lt (BitVec.ofNat 32 ((row n s).val + 1)) (BitVec.ofNat 32 (wl g)) (by omega) (by omega)
  rw [ha, hb] at h
  have hlt : min ((row n s).val + 1) (wl g) ≤ 16 := (min_le_right _ _).trans hg
  show (((IntOp.minsi (BitVec.ofNat 32 ((row n s).val + 1)) (BitVec.ofNat 32 (wl g))).toInt : ℝ) : EReal) = _
  rw [BitVec.toInt_eq_toNat_of_lt (by omega), h]
  unfold cnt
  norm_cast

theorem wx_row (s : Fin 256) (g : Fin 4) (d : Fin 256) : D.wx ((15 - n) * 256 + s.val) g d = D.wn (row n s) g d :=
  dif_pos (row n s).isLt

/-- The gradient of the pooled rows over the counts, with the rows kept from the tile after it. -/
abbrev winT (D : Data) (n : ℕ) : Vec Ideal S272x1024 .f32 := buf2 fun s k => flat (D.wx ((15 - n) * 256 + s.val)) k

include R in
theorem win_pieces (hn : n ≤ 15) (hi : (i 0).val = n) : View.PiecesOf (Val := Elt Ideal) (winT D n) (mid.sl.H22_4 (F := Ideal) c i arg1 harg1 arg3 harg3 arg4 harg4 arg5 harg5 arg12 harg12 x1 x3 x4 x5 x12) := by
  have e := dpo_real (c := c) (harg1 := harg1) (harg3 := harg3) (harg4 := harg4) (harg5 := harg5) (harg12 := harg12) R
  unfold mid.sl.r_19 mid.sl.r_23 mid.sl.r_34 at e
  unfold mid.sl.H22_4 mid.sl.r_20 winT
  refine ⟨?_, ?_, ?_, ?_, trivial⟩ <;> intro x <;> idx_vars x
  all_goals have e := e x0 x1
  all_goals simp only [k0_pay139, k0_pay127, k0_pay114, k0_pay102, mid.sl.r_30, k0_pay126]
  all_goals pointwise
  all_goals refine Eq.trans ?_ (buf2_emb _ _ x0 x1 (by omega) (by omega)).symm
  all_goals simp only [e.1, e.2.1, e.2.2.1, e.2.2.2, count_real hn hi x0 _ 0 2#32 rfl, count_real hn hi x0 _ 1 4#32 rfl, count_real hn hi x0 _ 2 8#32 rfl,
    count_real hn hi x0 _ 3 16#32 rfl]
  all_goals simp only [← EReal.coe_one, Reals.div_real _ (cnt_ne _ _), ← EReal.coe_mul, Nat.zero_add, at0, at1, at2, at3, flat_cc, wx_row]
  all_goals rfl

/-- A buffer after stores that are blocks of `G`, where it held `G` or one of them reaches. -/
theorem read_real {Val : EltTy → Type} [∀ e, Nonempty (Val e)] {e : EltTy} {sp : Space} {S : Shape} {v : View sig .tc sp S e} {f : v.ty.Contents Val} {G : S.Idx → Val e}
    {L : List (View.Piece Val S e)} (hP : View.PiecesOf G L) (y : S.Idx) (h : (∃ p ∈ L, y ∈ p.1.set) ∨ v.read Val f y = G y) : v.read Val (v.writes Val f L) y = G y := by
  by_cases hc : ∃ p ∈ L, y ∈ p.1.set
  · rw [View.read_writes_apply_eq_canon v f y L hc]
    have := View.canon_append_of_piecesOf G [] L hP y hc
    rwa [List.append_nil] at this
  · rw [View.read_writes_apply_of_forall_not_mem v f y L (fun p hp hy => hc ⟨p, hp, hy⟩)]
    exact h.resolve_left hc

theorem mem_unit {a b n w k l : ℕ} (inb : ∀ x : Fin 2, ![k, l] x + ![n, w] x ≤ (![a, b] : Fin 2 → ℕ) x) (I : Fin a) (J : Fin b)
    (hI : k ≤ I.val ∧ I.val < k + n) (hJ : l ≤ J.val ∧ J.val < l + w) : ix2 I J ∈ (Rect.unit (s := ⟨2, ![a, b]⟩) ![k, l] ![n, w] inb).set := by
  rw [Rect.mem_set_unit]
  intro x
  match x with
  | ⟨0, _⟩ => exact hI
  | ⟨1, _⟩ => exact hJ

/-- The rows kept from the tile after this one. -/
def Kept (D : Data) (n : ℕ) (y22 : Vec Ideal S272x1024 .f32) : Prop :=
  ∀ (k : Fin 16) (l : Fin 1024), y22 (ix2 ⟨256 + k.val, by omega⟩ l) = (flat (D.wx ((15 - n) * 256 + (256 + k.val))) l : EReal)

include R in
theorem window_real (hn : n ≤ 15) (hi : (i 0).val = n) (hK : Kept D n y22) (s : Fin 272) (l : Fin 1024) :
    View.read (Elt Ideal) arg22.view (arg22.view.writes (Elt Ideal) (harg22.unread y22) (mid.sl.H22_4 (F := Ideal) c i arg1 harg1 arg3 harg3 arg4 harg4 arg5 harg5 arg12 harg12 x1 x3 x4 x5 x12)) (ix2 s l) = (flat (D.wx ((15 - n) * 256 + s.val)) l : EReal) := by
  refine read_real (G := winT D n) (win_pieces R hn hi) (ix2 s l) ?_
  by_cases h : s.val < 256
  · left
    unfold mid.sl.H22_4
    rcases (by omega : l.val < 256 ∨ 256 ≤ l.val ∧ l.val < 512 ∨ 512 ≤ l.val ∧ l.val < 768 ∨ 768 ≤ l.val) with hl | hl | hl | hl
    · exact ⟨_, .tail _ (.tail _ (.tail _ (.head _))), mem_unit inb_S272x1024_S256x256_0_0 _ _ (by omega) (by omega)⟩
    · exact ⟨_, .tail _ (.tail _ (.head _)), mem_unit inb_S272x1024_S256x256_0_256 _ _ (by omega) (by omega)⟩
    · exact ⟨_, .tail _ (.head _), mem_unit inb_S272x1024_S256x256_0_512 _ _ (by omega) (by omega)⟩
    · exact ⟨_, .head _, mem_unit inb_S272x1024_S256x256_0_768 _ _ (by omega) (by omega)⟩
  · right
    rw [harg22.read_unread]
    have e := hK ⟨s.val - 256, by omega⟩ l
    have es : (⟨256 + (s.val - 256), by omega⟩ : Fin 272) = s := Fin.ext (by show 256 + (s.val - 256) = s.val; omega)
    rw [es] at e
    refine e.trans ?_
    show _ = ((flat (D.wx ((15 - n) * 256 + s.val)) l : ℝ) : EReal)
    rw [show 256 + (s.val - 256) = s.val by omega]

include R in
theorem columns_real (hn : n ≤ 15) (hi : (i 0).val = n) (hK : Kept D n y22) (t : ℕ) (ht : t < 272) (d : Fin 256) :
    (mid.sl.v405 (F := Ideal) c i arg1 harg1 arg3 harg3 arg4 harg4 arg5 harg5 arg12 harg12 arg22 harg22 x1 x3 x4 x5 x12 y22) (ix2 ⟨t, ht⟩ d) = (D.wx ((15 - n) * 256 + t) 0 d : EReal) ∧ (mid.sl.v418 (F := Ideal) c i arg1 harg1 arg3 harg3 arg4 harg4 arg5 harg5 arg12 harg12 arg22 harg22 x1 x3 x4 x5 x12 y22) (ix2 ⟨t, ht⟩ d) = (D.wx ((15 - n) * 256 + t) 1 d : EReal)
    ∧ (mid.sl.v433 (F := Ideal) c i arg1 harg1 arg3 harg3 arg4 harg4 arg5 harg5 arg12 harg12 arg22 harg22 x1 x3 x4 x5 x12 y22) (ix2 ⟨t, ht⟩ d) = (D.wx ((15 - n) * 256 + t) 2 d : EReal) ∧ (mid.sl.v450 (F := Ideal) c i arg1 harg1 arg3 harg3 arg4 harg4 arg5 harg5 arg12 harg12 arg22 harg22 x1 x3 x4 x5 x12 y22) (ix2 ⟨t, ht⟩ d) = (D.wx ((15 - n) * 256 + t) 3 d : EReal) := by
  have w := fun g : Fin 4 => (window_real (c := c) (harg1 := harg1) (harg3 := harg3) (harg4 := harg4) (harg5 := harg5) (harg12 := harg12) (harg22 := harg22) R hn hi hK ⟨t, ht⟩ (cc g d)).trans
    (congrArg Real.toEReal (flat_cc _ g d))
  unfold mid.sl.v405 mid.sl.v418 mid.sl.v433 mid.sl.v450
  refine ⟨Eq.trans ?_ (w 0), Eq.trans ?_ (w 1), Eq.trans ?_ (w 2), Eq.trans ?_ (w 3)⟩
  all_goals rw [View.readAt_apply]
  all_goals refine congrArg _ (Rows.emb_unit _ _ _ _ _ (Nat.zero_add _).symm ?_)
  all_goals exact Nat.add_comm _ _

theorem turn (k t : ℕ) (h : t + k < 272) (hk : k ≤ 16) : (t + 272 - (272 - k)) % 272 = t + k := by omega

include R in
theorem dz0_real (hn : n ≤ 15) (hi : (i 0).val = n) (hK : Kept D n y22) (s : Fin 256) (d : Fin 256) :
    k0_pay140 (F := Ideal) (mid.sl.r_19 (F := Ideal) c arg1 harg1 arg3 harg3 arg4 harg4 arg5 harg5 arg12 harg12 x1 x3 x4 x5 x12) (mid.sl.v405 (F := Ideal) c i arg1 harg1 arg3 harg3 arg4 harg4 arg5 harg5 arg12 harg12 arg22 harg22 x1 x3 x4 x5 x12 y22) (ix2 s d) = (D.dz0 (row n s) 0 d : EReal) ∧ k0_pay145 (F := Ideal) (mid.sl.r_23 (F := Ideal) c arg1 harg1 arg3 harg3 arg4 harg4 arg5 harg5 arg12 harg12 x1 x3 x4 x5 x12) (mid.sl.v418 (F := Ideal) c i arg1 harg1 arg3 harg3 arg4 harg4 arg5 harg5 arg12 harg12 arg22 harg22 x1 x3 x4 x5 x12 y22) (ix2 s d) = (D.dz0 (row n s) 1 d : EReal)
    ∧ k0_pay148 (F := Ideal) (mid.sl.r_29 (F := Ideal) c arg1 harg1 arg3 harg3 arg4 harg4 arg5 harg5 arg12 harg12 x1 x3 x4 x5 x12) (mid.sl.v433 (F := Ideal) c i arg1 harg1 arg3 harg3 arg4 harg4 arg5 harg5 arg12 harg12 arg22 harg22 x1 x3 x4 x5 x12 y22) (ix2 s d) = (D.dz0 (row n s) 2 d : EReal) ∧ k0_pay151 (F := Ideal) (mid.sl.r_34 (F := Ideal) c arg1 harg1 arg3 harg3 arg4 harg4 arg5 harg5 arg12 harg12 x1 x3 x4 x5 x12) (mid.sl.v450 (F := Ideal) c i arg1 harg1 arg3 harg3 arg4 harg4 arg5 harg5 arg12 harg12 arg22 harg22 x1 x3 x4 x5 x12 y22) (ix2 s d) = (D.dz0 (row n s) 3 d : EReal) := by
  have e := dpo_real (c := c) (harg1 := harg1) (harg3 := harg3) (harg4 := harg4) (harg5 := harg5) (harg12 := harg12) R s d
  have w := columns_real (c := c) (harg1 := harg1) (harg3 := harg3) (harg4 := harg4) (harg5 := harg5) (harg12 := harg12) (harg22 := harg22) R hn hi hK
  have w0 := fun t ht d => (w t ht d).1
  have w1 := fun t ht d => (w t ht d).2.1
  have w2 := fun t ht d => (w t ht d).2.2.1
  have w3 := fun t ht d => (w t ht d).2.2.2
  have hs := s.isLt
  unfold k0_pay140 k0_pay145 k0_pay148 k0_pay151
  refine ⟨?_, ?_, ?_, ?_⟩
  all_goals pointwise
  all_goals simp only [e.1, e.2.1, e.2.2.1, e.2.2.2, w0, w1, w2, w3]
  all_goals simp (disch := omega) only [fun t h => turn 1 t h (by omega), fun t h => turn 2 t h (by omega), fun t h => turn 4 t h (by omega), fun t h => turn 8 t h (by omega)]
  all_goals simp only [← EReal.coe_add, ← EReal.coe_sub]
  all_goals refine congrArg Real.toEReal ?_
  all_goals simp only [Data.dz0, show wl 0 = 2 from rfl, show wl 1 = 4 from rfl, show wl 2 = 8 from rfl, show wl 3 = 16 from rfl, Finset.sum_range_succ, Finset.sum_range_zero,
    show (row n s).val = (15 - n) * 256 + s.val from rfl, Nat.add_assoc, Nat.reduceAdd, Nat.add_zero]
  all_goals ring

end Cert.Mx

end
-- ==== Proof.Mx.Store.lean ====
module

public import proofs.«01_k».proof.Proof.Mx.Pool
public import Idealize.ShloMosaic.Lib.Pipeline.ReadBack
public import proofs.«01_k».proof.Proof.Rows
public import Idealize.ShloMosaic.Lib.Pointwise
public import Idealize.ShloMosaic.Lib.Pipeline.ValueKit
public import Idealize.ShloMosaic.Lib.WholeRead

/-!
What one tile stores into its rows and adds to the sums, when its blocks and the sums hold real numbers.
-/

@[expose] public section

set_option maxRecDepth 16384

noncomputable section

namespace Cert.Mx

open Cert.KernelMxIdeal Cert.KernelMxIdeal.Gen Idealize.ShloMosaic Idealize.ShloMosaic.TcCoe Idealize.SL.Sem

theorem tile_emb (D : Data) (n : ℕ) (q : Fin 5) (g : Fin 4) {off : ℕ} (ho : off = q.val * 1024 + g.val * 256)
    (inb : ∀ x : Fin 2, ![0, off] x + ![256, 256] x ≤ (![256, 5120] : Fin 2 → ℕ) x) (s d : Fin 256) :
    buf2 (fun s e => D.dzc (row n s) e) ((Rect.unit (s := ⟨2, ![256, 5120]⟩) ![0, off] ![256, 256] inb).emb (ix2 s d)) = (D.dz (row n s) q (cc g d) : EReal) := by
  rw [Rows.emb_unit inb s d s (zc q (cc g d)) (Nat.zero_add _).symm (by show d.val + g.val * 256 + q.val * 1024 = off + d.val; omega)]
  exact congrArg Real.toEReal (D.dzc_zc _ _ _)

theorem tile_emb_part (D : Data) (n : ℕ) (q : Fin 5) {off : ℕ} (ho : off = q.val * 1024)
    (inb : ∀ x : Fin 2, ![0, off] x + ![256, 1024] x ≤ (![256, 5120] : Fin 2 → ℕ) x) (s : Fin 256) (k : Fin 1024) :
    buf2 (fun s e => D.dzc (row n s) e) ((Rect.unit (s := ⟨2, ![256, 5120]⟩) ![0, off] ![256, 1024] inb).emb (ix2 s k)) = (D.dz (row n s) q k : EReal) := by
  rw [Rows.emb_unit inb s k s (zc q k) (Nat.zero_add _).symm (by show k.val + q.val * 1024 = off + k.val; omega)]
  exact congrArg Real.toEReal (D.dzc_zc _ _ _)

theorem dz_0 (D : Data) (s : Fin 4096) (g : Fin 4) (d : Fin 256) : D.dz s 0 (cc g d) = D.dz0 s g d := flat_cc (D.dz0 s) g d
theorem dz_3 (D : Data) (s : Fin 4096) (g : Fin 4) (d : Fin 256) : D.dz s 3 (cc g d) = D.dz3 s g d := flat_cc (D.dz3 s) g d
theorem dz_4 (D : Data) (s : Fin 4096) (g : Fin 4) (d : Fin 256) : D.dz s 4 (cc g d) = D.dz4 s g d := flat_cc (D.dz4 s) g d

variable {D : Data} {n : ℕ} {c : Dev nD} {i : grid0.Coords} {arg1 : Memref sig .tc .vmem S256x5120 .f32} {harg1 : arg1.IsWhole} {arg2 : Memref sig .tc .vmem S256x1024 .bf16} {harg2 : arg2.IsWhole} {arg3 : Memref sig .tc .vmem S256x1024 .bf16} {harg3 : arg3.IsWhole} {arg4 : Memref sig .tc .vmem S4x256x256 .bf16} {harg4 : arg4.IsWhole} {arg5 : Memref sig .tc .vmem S1x1024 .f32} {harg5 : arg5.IsWhole} {arg6 : Memref sig .tc .vmem S1x1024 .f32} {harg6 : arg6.IsWhole} {arg7 : Memref sig .tc .vmem S1x1024 .f32} {harg7 : arg7.IsWhole} {arg8 : Memref sig .tc .vmem S4x128x128 .bf16} {harg8 : arg8.IsWhole} {arg9 : Memref sig .tc .vmem S4x128x128 .bf16} {harg9 : arg9.IsWhole} {arg10 : Memref sig .tc .vmem S4x128x1 .f32} {harg10 : arg10.IsWhole} {arg11 : Memref sig .tc .vmem S4x256x256 .bf16} {harg11 : arg11.IsWhole} {arg12 : Memref sig .tc .vmem S1024x1024 .bf16} {harg12 : arg12.IsWhole} {arg13 : Memref sig .tc .vmem S128x128 .f32} {harg13 : arg13.IsWhole} {arg14 : Memref sig .tc .vmem S8x128 .f32} {harg14 : arg14.IsWhole} {arg15 : Memref sig .tc .vmem S256x5120 .bf16} {harg15 : arg15.IsWhole} {arg16 : Memref sig .tc .vmem S2x4x128x256 .bf16} {harg16 : arg16.IsWhole} {arg17 : Memref sig .tc .vmem S2x4x128x256 .bf16} {harg17 : arg17.IsWhole} {arg18 : Memref sig .tc .vmem S4x128x128 .f32} {harg18 : arg18.IsWhole} {arg19 : Memref sig .tc .vmem S128x512 .f32} {harg19 : arg19.IsWhole} {arg20 : Memref sig .tc .vmem S8x1024 .f32} {harg20 : arg20.IsWhole} {arg21 : Memref sig .tc .vmem S8x5120 .f32} {harg21 : arg21.IsWhole} {arg22 : Memref sig .tc .vmem S272x1024 .f32} {harg22 : arg22.IsWhole} {arg23 : Memref sig .tc .vmem S256x1024 .f32} {harg23 : arg23.IsWhole} {arg24 : Memref sig .tc .vmem S256x1024 .f32} {harg24 : arg24.IsWhole} {arg25 : Memref sig .tc .vmem S256x1024 .f32} {harg25 : arg25.IsWhole} {arg26 : Memref sig .tc .vmem S128x1024 .f32} {harg26 : arg26.IsWhole} {arg27 : Memref sig .tc .vmem S4x256x256 .f32} {harg27 : arg27.IsWhole} {arg28 : Memref sig .tc .vmem S4x256x256 .f32} {harg28 : arg28.IsWhole} {x1 : Vec Ideal S256x5120 .f32} {x2 : Vec Ideal S256x1024 .bf16} {x3 : Vec Ideal S256x1024 .bf16} {x4 : Vec Ideal S4x256x256 .bf16} {x5 : Vec Ideal S1x1024 .f32} {x6 : Vec Ideal S1x1024 .f32} {x7 : Vec Ideal S1x1024 .f32} {x8 : Vec Ideal S4x128x128 .bf16} {x9 : Vec Ideal S4x128x128 .bf16} {x10 : Vec Ideal S4x128x1 .f32} {x11 : Vec Ideal S4x256x256 .bf16} {x12 : Vec Ideal S1024x1024 .bf16} {x13 : Vec Ideal S128x128 .f32} {x14 : Vec Ideal S8x128 .f32} {y18 : Vec Ideal S4x128x128 .f32} {y20 : Vec Ideal S8x1024 .f32} {y21 : Vec Ideal S8x5120 .f32} {y22 : Vec Ideal S272x1024 .f32} {y26 : Vec Ideal S128x1024 .f32} {y27 : Vec Ideal S4x256x256 .f32} {y28 : Vec Ideal S4x256x256 .f32} (R : Reads D n x1 x2 x3 x4 x5 x6 x7 x8 x9 x10 x11 x12)

include R in
theorem dz4_real (s d : Fin 256) :
    k0_pay159 (F := Ideal) (mid.sl.r_40 (F := Ideal) c i arg1 harg1 arg3 harg3 arg6 harg6 arg7 harg7 arg8 harg8 arg10 harg10 arg11 harg11 arg12 harg12 arg23 x1 x3 x6 x7 x8 x10 x11 x12) (mid.sl.r_41 (F := Ideal) c arg1 harg1 x1) mid.sl.cst_291 (ix2 s d) = (D.dz4 (row n s) 0 d : EReal)
    ∧ k0_pay168 (F := Ideal) (mid.sl.r_9 (F := Ideal) c arg1 harg1 x1) (mid.sl.r_11 (F := Ideal) c arg1 harg1 arg3 harg3 arg12 harg12 x1 x3 x12) (mid.sl.r_42 (F := Ideal) c i arg1 harg1 arg3 harg3 arg6 harg6 arg7 harg7 arg8 harg8 arg10 harg10 arg12 harg12 arg23 x1 x3 x6 x7 x8 x10 x12) (View.readAt (Elt Ideal) arg11.view (Rect.unit (s := S4x256x256) ![1, 0, 0] S1x256x256.size inb_S4x256x256_S1x256x256_1_0_0).toLoadRect (harg11.unread x11)) (ix2 s d) = (D.dz4 (row n s) 1 d : EReal)
    ∧ k0_pay177 (F := Ideal) (mid.sl.r_6 (F := Ideal) c i arg1 harg1 arg3 harg3 arg6 harg6 arg7 harg7 arg8 harg8 arg10 harg10 arg12 harg12 arg23 x1 x3 x6 x7 x8 x10 x12) (mid.sl.r_9 (F := Ideal) c arg1 harg1 x1) (mid.sl.r_11 (F := Ideal) c arg1 harg1 arg3 harg3 arg12 harg12 x1 x3 x12) (View.readAt (Elt Ideal) arg11.view (Rect.unit (s := S4x256x256) ![2, 0, 0] S1x256x256.size inb_S4x256x256_S1x256x256_2_0_0).toLoadRect (harg11.unread x11)) (ix2 s d) = (D.dz4 (row n s) 2 d : EReal)
    ∧ k0_pay186 (F := Ideal) (mid.sl.r_6 (F := Ideal) c i arg1 harg1 arg3 harg3 arg6 harg6 arg7 harg7 arg8 harg8 arg10 harg10 arg12 harg12 arg23 x1 x3 x6 x7 x8 x10 x12) (mid.sl.r_9 (F := Ideal) c arg1 harg1 x1) (mid.sl.r_11 (F := Ideal) c arg1 harg1 arg3 harg3 arg12 harg12 x1 x3 x12) (View.readAt (Elt Ideal) arg11.view (Rect.unit (s := S4x256x256) ![3, 0, 0] S1x256x256.size inb_S4x256x256_S1x256x256_3_0_0).toLoadRect (harg11.unread x11)) (ix2 s d) = (D.dz4 (row n s) 3 d : EReal) := by
  unfold mid.sl.r_40 mid.sl.r_41 mid.sl.r_42 mid.sl.cst_291
  simp only [k0_pay159, k0_pay157, k0_pay155, k0_pay158, k0_pay168, k0_pay166, k0_pay177, k0_pay175, k0_pay186, k0_pay184, load_eq]
  refine ⟨?_, ?_, ?_, ?_⟩
  all_goals pointwise
  all_goals simp only [at0, at1, at2, at3, r_6_real R, r_9_real R, r_11_real R, R.h11]
  all_goals simp only [← EReal.coe_one, ← EReal.coe_mul, Reals.sum_coe, ← EReal.coe_sub]
  all_goals rfl

include R in
theorem dz1_real (s : Fin 256) (k : Fin 1024) :
    k0_pay195 (F := Ideal) (k0_pay61 (View.readAt (Elt Ideal) arg1.view (Rect.unit (s := S256x5120) ![0, 1024] S256x1024.size inb_S256x5120_S256x1024_0_1024).toLoadRect (harg1.unread x1))) (mid.sl.v629 (F := Ideal) c i arg1 harg1 arg3 harg3 arg6 harg6 arg7 harg7 arg8 harg8 arg10 harg10 arg11 harg11 arg12 harg12 arg23 x1 x3 x6 x7 x8 x10 x11 x12) (ix2 s k) = (D.dz1 (row n s) k : EReal) := by
  unfold k0_pay195
  pointwise
  simp only [v629_real R, du_real R, ← EReal.coe_mul]
  rfl

include R in
theorem tile_pieces (hn : n ≤ 15) (hi : (i 0).val = n) (hK : Kept D n y22) :
    View.PiecesOf (Val := Elt Ideal) (s := S256x5120) (e := .bf16) (buf2 fun s e => D.dzc (row n s) e) (mid (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).1 := by
  have a0 := dz0_real (c := c) (harg1 := harg1) (harg3 := harg3) (harg4 := harg4) (harg5 := harg5) (harg12 := harg12) (harg22 := harg22) R hn hi hK
  have a1 := dz1_real (c := c) (i := i) (harg1 := harg1) (harg3 := harg3) (harg6 := harg6) (harg7 := harg7) (harg8 := harg8) (harg10 := harg10) (harg11 := harg11) (harg12 := harg12) (arg23 := arg23) R
  have a2 := dz2_real (c := c) (i := i) (harg1 := harg1) (harg3 := harg3) (harg6 := harg6) (harg9 := harg9) (harg11 := harg11) (harg12 := harg12) (arg24 := arg24) (arg25 := arg25) R
  have a3 := dz3_real (c := c) (harg1 := harg1) (harg2 := harg2) (harg3 := harg3) (harg4 := harg4) (harg5 := harg5) (harg12 := harg12) R
  have a4 := dz4_real (c := c) (i := i) (harg1 := harg1) (harg3 := harg3) (harg6 := harg6) (harg7 := harg7) (harg8 := harg8) (harg10 := harg10) (harg11 := harg11) (harg12 := harg12) (arg23 := arg23) R
  unfold mid
  dsimp only
  refine ⟨?_, ?_, ?_, ?_, ?_, ?_, ?_, ?_, ?_, ?_, ?_, ?_, ?_, ?_, trivial⟩ <;> intro x <;> idx_vars x
  · exact (a2 x0 x1).trans (tile_emb_part D n 2 rfl _ x0 x1).symm
  · exact (a1 x0 x1).trans (tile_emb_part D n 1 rfl _ x0 x1).symm
  · exact ((a4 x0 x1).2.2.2.trans (congrArg Real.toEReal (dz_4 ..).symm)).trans (tile_emb D n 4 3 rfl _ x0 x1).symm
  · exact ((a4 x0 x1).2.2.1.trans (congrArg Real.toEReal (dz_4 ..).symm)).trans (tile_emb D n 4 2 rfl _ x0 x1).symm
  · exact ((a4 x0 x1).2.1.trans (congrArg Real.toEReal (dz_4 ..).symm)).trans (tile_emb D n 4 1 rfl _ x0 x1).symm
  · exact ((a4 x0 x1).1.trans (congrArg Real.toEReal (dz_4 ..).symm)).trans (tile_emb D n 4 0 rfl _ x0 x1).symm
  · exact ((a0 x0 x1).2.2.2.trans (congrArg Real.toEReal (dz_0 ..).symm)).trans (tile_emb D n 0 3 rfl _ x0 x1).symm
  · exact ((a0 x0 x1).2.2.1.trans (congrArg Real.toEReal (dz_0 ..).symm)).trans (tile_emb D n 0 2 rfl _ x0 x1).symm
  · exact ((a0 x0 x1).2.1.trans (congrArg Real.toEReal (dz_0 ..).symm)).trans (tile_emb D n 0 1 rfl _ x0 x1).symm
  · exact ((a0 x0 x1).1.trans (congrArg Real.toEReal (dz_0 ..).symm)).trans (tile_emb D n 0 0 rfl _ x0 x1).symm
  · exact ((a3 x0 x1).2.2.2.trans (congrArg Real.toEReal (dz_3 ..).symm)).trans (tile_emb D n 3 3 rfl _ x0 x1).symm
  · exact ((a3 x0 x1).2.2.1.trans (congrArg Real.toEReal (dz_3 ..).symm)).trans (tile_emb D n 3 2 rfl _ x0 x1).symm
  · exact ((a3 x0 x1).2.1.trans (congrArg Real.toEReal (dz_3 ..).symm)).trans (tile_emb D n 3 1 rfl _ x0 x1).symm
  · exact ((a3 x0 x1).1.trans (congrArg Real.toEReal (dz_3 ..).symm)).trans (tile_emb D n 3 0 rfl _ x0 x1).symm

end Cert.Mx

end
-- ==== Proof.Mx.Add.lean ====
module

public import proofs.«01_k».proof.Proof.Mx.Store
public import Idealize.ShloMosaic.Lib.Pipeline.ReadBack
public import proofs.«01_k».proof.Proof.Rows
public import Idealize.ShloMosaic.Lib.Pointwise
public import Idealize.ShloMosaic.Lib.Pipeline.ValueKit
public import Idealize.ShloMosaic.Lib.WholeRead

/-!
What one tile adds to the sums, when its blocks and the sums hold real numbers.
-/

@[expose] public section

set_option maxRecDepth 16384

noncomputable section

namespace Cert.Mx

open Cert.KernelMxIdeal Cert.KernelMxIdeal.Gen Idealize.ShloMosaic Idealize.ShloMosaic.TcCoe Idealize.SL.Sem

/-- What tile `n` adds to the row of column sums. -/
def Data.addBin (D : Data) (n : ℕ) (a : Fin 8) (e : Fin 5120) : ℝ := if a.val = 0 then ∑ s : Fin 256, D.dzc (row n s) e else 0

/-- What tile `n` adds to the three rows of vector gradients. -/
def Data.addVec (D : Data) (n : ℕ) (a : Fin 8) (k : Fin 1024) : ℝ :=
  if a.val = 0 then ∑ s : Fin 256, flat (D.dps (row n s)) k
  else if a.val = 1 then ∑ s : Fin 256, flat (D.dv (row n s)) k * D.vh (row n s) k
  else if a.val = 2 then ∑ s : Fin 256, flat (D.dv (row n s)) k else 0

theorem bin_emb (D : Data) (n : ℕ) (Y : Fin 8 → Fin 5120 → ℝ) (q : Fin 5) (g : Fin 4) {off : ℕ} (ho : off = q.val * 1024 + g.val * 256)
    (inb : ∀ x : Fin 2, ![0, off] x + ![1, 256] x ≤ (![8, 5120] : Fin 2 → ℕ) x) (a : Fin 1) (d : Fin 256) (h : off + d.val < 5120) :
    buf2 (fun a e => Y a e + D.addBin n a e) ((Rect.unit (s := ⟨2, ![8, 5120]⟩) ![0, off] ![1, 256] inb).emb (ix2 a d)) =
      ((Y 0 ⟨off + d.val, h⟩ + ∑ s : Fin 256, D.dz (row n s) q (cc g d) : ℝ) : EReal) := by
  have e : (⟨off + d.val, h⟩ : Fin 5120) = zc q (cc g d) := Fin.ext (by show off + d.val = d.val + g.val * 256 + q.val * 1024; omega)
  rw [Rows.emb_unit inb a d 0 (zc q (cc g d)) (by omega) (by show d.val + g.val * 256 + q.val * 1024 = off + d.val; omega), e]
  show ((Y 0 (zc q (cc g d)) + D.addBin n 0 (zc q (cc g d)) : ℝ) : EReal) = _
  rw [Data.addBin, if_pos (show ((0 : Fin 8) : ℕ) = 0 from rfl)]
  simp only [D.dzc_zc]

theorem bin_emb_part (D : Data) (n : ℕ) (Y : Fin 8 → Fin 5120 → ℝ) (q : Fin 5) {off : ℕ} (ho : off = q.val * 1024)
    (inb : ∀ x : Fin 2, ![0, off] x + ![1, 1024] x ≤ (![8, 5120] : Fin 2 → ℕ) x) (a : Fin 1) (k : Fin 1024) (h : off + k.val < 5120) :
    buf2 (fun a e => Y a e + D.addBin n a e) ((Rect.unit (s := ⟨2, ![8, 5120]⟩) ![0, off] ![1, 1024] inb).emb (ix2 a k)) =
      ((Y 0 ⟨off + k.val, h⟩ + ∑ s : Fin 256, D.dz (row n s) q k : ℝ) : EReal) := by
  have e : (⟨off + k.val, h⟩ : Fin 5120) = zc q k := Fin.ext (by show off + k.val = k.val + q.val * 1024; omega)
  rw [Rows.emb_unit inb a k 0 (zc q k) (by omega) (by show k.val + q.val * 1024 = off + k.val; omega), e]
  show ((Y 0 (zc q k) + D.addBin n 0 (zc q k) : ℝ) : EReal) = _
  rw [Data.addBin, if_pos (show ((0 : Fin 8) : ℕ) = 0 from rfl)]
  simp only [D.dzc_zc]

variable {D : Data} {n : ℕ} {c : Dev nD} {i : grid0.Coords} {arg1 : Memref sig .tc .vmem S256x5120 .f32} {harg1 : arg1.IsWhole} {arg2 : Memref sig .tc .vmem S256x1024 .bf16} {harg2 : arg2.IsWhole} {arg3 : Memref sig .tc .vmem S256x1024 .bf16} {harg3 : arg3.IsWhole} {arg4 : Memref sig .tc .vmem S4x256x256 .bf16} {harg4 : arg4.IsWhole} {arg5 : Memref sig .tc .vmem S1x1024 .f32} {harg5 : arg5.IsWhole} {arg6 : Memref sig .tc .vmem S1x1024 .f32} {harg6 : arg6.IsWhole} {arg7 : Memref sig .tc .vmem S1x1024 .f32} {harg7 : arg7.IsWhole} {arg8 : Memref sig .tc .vmem S4x128x128 .bf16} {harg8 : arg8.IsWhole} {arg9 : Memref sig .tc .vmem S4x128x128 .bf16} {harg9 : arg9.IsWhole} {arg10 : Memref sig .tc .vmem S4x128x1 .f32} {harg10 : arg10.IsWhole} {arg11 : Memref sig .tc .vmem S4x256x256 .bf16} {harg11 : arg11.IsWhole} {arg12 : Memref sig .tc .vmem S1024x1024 .bf16} {harg12 : arg12.IsWhole} {arg13 : Memref sig .tc .vmem S128x128 .f32} {harg13 : arg13.IsWhole} {arg14 : Memref sig .tc .vmem S8x128 .f32} {harg14 : arg14.IsWhole} {arg15 : Memref sig .tc .vmem S256x5120 .bf16} {harg15 : arg15.IsWhole} {arg16 : Memref sig .tc .vmem S2x4x128x256 .bf16} {harg16 : arg16.IsWhole} {arg17 : Memref sig .tc .vmem S2x4x128x256 .bf16} {harg17 : arg17.IsWhole} {arg18 : Memref sig .tc .vmem S4x128x128 .f32} {harg18 : arg18.IsWhole} {arg19 : Memref sig .tc .vmem S128x512 .f32} {harg19 : arg19.IsWhole} {arg20 : Memref sig .tc .vmem S8x1024 .f32} {harg20 : arg20.IsWhole} {arg21 : Memref sig .tc .vmem S8x5120 .f32} {harg21 : arg21.IsWhole} {arg22 : Memref sig .tc .vmem S272x1024 .f32} {harg22 : arg22.IsWhole} {arg23 : Memref sig .tc .vmem S256x1024 .f32} {harg23 : arg23.IsWhole} {arg24 : Memref sig .tc .vmem S256x1024 .f32} {harg24 : arg24.IsWhole} {arg25 : Memref sig .tc .vmem S256x1024 .f32} {harg25 : arg25.IsWhole} {arg26 : Memref sig .tc .vmem S128x1024 .f32} {harg26 : arg26.IsWhole} {arg27 : Memref sig .tc .vmem S4x256x256 .f32} {harg27 : arg27.IsWhole} {arg28 : Memref sig .tc .vmem S4x256x256 .f32} {harg28 : arg28.IsWhole} {x1 : Vec Ideal S256x5120 .f32} {x2 : Vec Ideal S256x1024 .bf16} {x3 : Vec Ideal S256x1024 .bf16} {x4 : Vec Ideal S4x256x256 .bf16} {x5 : Vec Ideal S1x1024 .f32} {x6 : Vec Ideal S1x1024 .f32} {x7 : Vec Ideal S1x1024 .f32} {x8 : Vec Ideal S4x128x128 .bf16} {x9 : Vec Ideal S4x128x128 .bf16} {x10 : Vec Ideal S4x128x1 .f32} {x11 : Vec Ideal S4x256x256 .bf16} {x12 : Vec Ideal S1024x1024 .bf16} {x13 : Vec Ideal S128x128 .f32} {x14 : Vec Ideal S8x128 .f32} {y18 : Vec Ideal S4x128x128 .f32} {y20 : Vec Ideal S8x1024 .f32} {y21 : Vec Ideal S8x5120 .f32} {y22 : Vec Ideal S272x1024 .f32} {y26 : Vec Ideal S128x1024 .f32} {y27 : Vec Ideal S4x256x256 .f32} {y28 : Vec Ideal S4x256x256 .f32} (R : Reads D n x1 x2 x3 x4 x5 x6 x7 x8 x9 x10 x11 x12)

variable {Y21 : Fin 8 → Fin 5120 → ℝ} {Y20 : Fin 8 → Fin 1024 → ℝ}

include R in
theorem bin_pieces (hn : n ≤ 15) (hi : (i 0).val = n) (hK : Kept D n y22) (hY : ∀ a e, y21 (ix2 a e) = (Y21 a e : EReal)) :
    View.PiecesOf (Val := Elt Ideal) (s := S8x5120) (e := .f32) (buf2 fun a e => Y21 a e + D.addBin n a e) (mid (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.1 := by
  have a0 := dz0_real (c := c) (harg1 := harg1) (harg3 := harg3) (harg4 := harg4) (harg5 := harg5) (harg12 := harg12) (harg22 := harg22) R hn hi hK
  have a1 := dz1_real (c := c) (i := i) (harg1 := harg1) (harg3 := harg3) (harg6 := harg6) (harg7 := harg7) (harg8 := harg8) (harg10 := harg10) (harg11 := harg11) (harg12 := harg12) (arg23 := arg23) R
  have a2 := dz2_real (c := c) (i := i) (harg1 := harg1) (harg3 := harg3) (harg6 := harg6) (harg9 := harg9) (harg11 := harg11) (harg12 := harg12) (arg24 := arg24) (arg25 := arg25) R
  have a3 := dz3_real (c := c) (harg1 := harg1) (harg2 := harg2) (harg3 := harg3) (harg4 := harg4) (harg5 := harg5) (harg12 := harg12) R
  have a4 := dz4_real (c := c) (i := i) (harg1 := harg1) (harg3 := harg3) (harg6 := harg6) (harg7 := harg7) (harg8 := harg8) (harg10 := harg10) (harg11 := harg11) (harg12 := harg12) (arg23 := arg23) R
  unfold mid
  dsimp only
  unfold mid.sl.r_37 mid.sl.v444 mid.sl.r_35 mid.sl.r_36 mid.sl.v412 mid.sl.v324 mid.sl.v633 mid.sl.v376 mid.sl.v564 mid.sl.v525 mid.sl.v427 mid.sl.v603 mid.sl.v486 mid.sl.v814 mid.sl.v463 mid.sl.v272
  refine ⟨?_, ?_, ?_, ?_, ?_, ?_, ?_, ?_, ?_, ?_, ?_, ?_, ?_, ?_, trivial⟩ <;> intro x <;> idx_vars x
  all_goals simp only [k0_pay3, k0_pay98, k0_pay110, k0_pay122, k0_pay135, k0_pay144, k0_pay142, k0_pay143, k0_pay147, k0_pay150, k0_pay153, k0_pay161, k0_pay170, k0_pay179, k0_pay188, k0_pay197, load_eq harg21]
  all_goals pointwise
  all_goals simp only [fun s d => (a0 s d).1, fun s d => (a0 s d).2.1, fun s d => (a0 s d).2.2.1, fun s d => (a0 s d).2.2.2, a1, a2, fun s d => (a3 s d).1, fun s d => (a3 s d).2.1, fun s d => (a3 s d).2.2.1, fun s d => (a3 s d).2.2.2,
    fun s d => (a4 s d).1, fun s d => (a4 s d).2.1, fun s d => (a4 s d).2.2.1, fun s d => (a4 s d).2.2.2, hY, Reals.sum_coe]
  all_goals simp only [← EReal.coe_add]
  · exact (bin_emb_part D n Y21 2 rfl _ x0 x1 (by omega)).symm
  · exact (bin_emb_part D n Y21 1 rfl _ x0 x1 (by omega)).symm
  · exact Eq.trans (by simp only [dz_4] <;> rfl) (bin_emb D n Y21 4 3 rfl _ x0 x1 _).symm
  · exact Eq.trans (by simp only [dz_4] <;> rfl) (bin_emb D n Y21 4 2 rfl _ x0 x1 _).symm
  · exact Eq.trans (by simp only [dz_4] <;> rfl) (bin_emb D n Y21 4 1 rfl _ x0 x1 _).symm
  · exact Eq.trans (by simp only [dz_4] <;> rfl) (bin_emb D n Y21 4 0 rfl _ x0 x1 _).symm
  · exact Eq.trans (by simp only [dz_0] <;> rfl) (bin_emb D n Y21 0 3 rfl _ x0 x1 _).symm
  · exact Eq.trans (by simp only [dz_0] <;> rfl) (bin_emb D n Y21 0 2 rfl _ x0 x1 _).symm
  · exact Eq.trans (by simp only [dz_0] <;> rfl) (bin_emb D n Y21 0 1 rfl _ x0 x1 _).symm
  · exact Eq.trans (by simp only [dz_0]; simp only [Nat.zero_add]) (bin_emb (off := 0) D n Y21 0 0 rfl _ x0 x1 (by omega)).symm
  · exact Eq.trans (by simp only [dz_3] <;> rfl) (bin_emb D n Y21 3 3 rfl _ x0 x1 _).symm
  · exact Eq.trans (by simp only [dz_3] <;> rfl) (bin_emb D n Y21 3 2 rfl _ x0 x1 _).symm
  · exact Eq.trans (by simp only [dz_3] <;> rfl) (bin_emb D n Y21 3 1 rfl _ x0 x1 _).symm
  · exact Eq.trans (by simp only [dz_3] <;> rfl) (bin_emb D n Y21 3 0 rfl _ x0 x1 _).symm

/-- Under the rows of column sums every column of row 0 is stored. -/
theorem bin_hit (e : Fin 5120) : ∃ p ∈ (mid (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.1, (ix2 (0 : Fin 8) e : S8x5120.Idx) ∈ p.1.set := by
  by_contra hc
  unfold mid at hc
  simp only [List.mem_cons, not_exists, not_and, forall_eq_or_imp, Rect.mem_set_unit, Fin.forall_fin_two, Matrix.cons_val_zero, Matrix.cons_val_one, ix2_0, ix2_1] at hc
  have := e.isLt
  omega

theorem bin_miss (a : Fin 8) (ha : a.val ≠ 0) (e : Fin 5120) : ∀ p ∈ (mid (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.1, (ix2 a e : S8x5120.Idx) ∉ p.1.set := by
  unfold mid
  simp only [List.mem_cons, forall_eq_or_imp, Rect.mem_set_unit, Fin.forall_fin_two, Matrix.cons_val_zero, Matrix.cons_val_one, ix2_0, ix2_1, List.not_mem_nil, false_implies, implies_true, and_true]
  omega

end Cert.Mx

end
-- ==== Proof.Mx.Grad.lean ====
module

public import proofs.«01_k».proof.Proof.Mx.Add
public import Idealize.ShloMosaic.Lib.Pipeline.ReadBack
public import proofs.«01_k».proof.Proof.Rows
public import Idealize.ShloMosaic.Lib.Pointwise
public import Idealize.ShloMosaic.Lib.Pipeline.ValueKit
public import Idealize.ShloMosaic.Lib.WholeRead

/-!
What one tile adds to the sums of the vector and matrix gradients, when its blocks and the sums hold real numbers.
-/

@[expose] public section

set_option maxRecDepth 16384

noncomputable section

namespace Cert.Mx

open Cert.KernelMxIdeal Cert.KernelMxIdeal.Gen Idealize.ShloMosaic Idealize.ShloMosaic.TcCoe Idealize.SL.Sem

/-- A buffer of stacked matrices that holds the real numbers `g`. -/
def buf3 {a b w : ℕ} (g : Fin a → Fin b → Fin w → ℝ) : (⟨3, ![a, b, w]⟩ : Shape).Idx → EReal := fun y => (g (y 0) (y 1) (y 2) : EReal)

theorem buf3_emb {a b w : ℕ} {k : ℕ} (g : Fin a → Fin b → Fin w → ℝ) (inb : ∀ x : Fin 3, ![k, 0, 0] x + ![1, b, w] x ≤ (![a, b, w] : Fin 3 → ℕ) x) (o : Fin 1) (i : Fin b) (j : Fin w)
    (hk : k < a) : buf3 g ((Rect.unit (s := ⟨3, ![a, b, w]⟩) ![k, 0, 0] ![1, b, w] inb).emb (ix3 o i j)) = (g ⟨k, hk⟩ i j : EReal) := by
  refine congrArg (buf3 g) (?_ : _ = ix3 ⟨k, hk⟩ i j)
  funext x
  match x with
  | ⟨0, _⟩ => exact Fin.ext (by show k + 1 * o.val = k; omega)
  | ⟨1, _⟩ => exact Fin.ext (by show 0 + 1 * i.val = i.val; omega)
  | ⟨2, _⟩ => exact Fin.ext (by show 0 + 1 * j.val = j.val; omega)

theorem mem_slab {a b w k : ℕ} (inb : ∀ x : Fin 3, ![k, 0, 0] x + ![1, b, w] x ≤ (![a, b, w] : Fin 3 → ℕ) x) (h : Fin a) (i : Fin b) (j : Fin w) (hk : h.val = k) :
    ix3 h i j ∈ (Rect.unit (s := ⟨3, ![a, b, w]⟩) ![k, 0, 0] ![1, b, w] inb).set := by
  rw [Rect.mem_set_unit]
  intro x
  match x with
  | ⟨0, _⟩ => exact ⟨hk.ge, by show h.val < k + 1; omega⟩
  | ⟨1, _⟩ => exact ⟨Nat.zero_le _, by show i.val < 0 + b; omega⟩
  | ⟨2, _⟩ => exact ⟨Nat.zero_le _, by show j.val < 0 + w; omega⟩

/-- A load of one matrix of a stack after stores that are blocks of `g`, one of which covers it, over any earlier ones. -/
theorem slab_read {sp : Space} {a b w k : ℕ} (v : View sig .tc sp (⟨3, ![a, b, w]⟩ : Shape) .f32) (inb : ∀ x : Fin 3, ![k, 0, 0] x + ![1, b, w] x ≤ (![a, b, w] : Fin 3 → ℕ) x)
    (g : Fin a → Fin b → Fin w → ℝ) (L' L : List (View.Piece (Elt Ideal) (⟨3, ![a, b, w]⟩ : Shape) .f32)) (hP : View.PiecesOf (Val := Elt Ideal) (s := ⟨3, ![a, b, w]⟩) (e := .f32) (buf3 g) L)
    (hk : k < a) (o : Fin 1) (i : Fin b) (j : Fin w) (hc : ∃ p ∈ L, (ix3 ⟨k, hk⟩ i j : (⟨3, ![a, b, w]⟩ : Shape).Idx) ∈ p.1.set) :
    v.readCov (L ++ L') (Rect.unit (s := ⟨3, ![a, b, w]⟩) ![k, 0, 0] ![1, b, w] inb).toLoadRect (ix3 o i j) = (g ⟨k, hk⟩ i j : EReal) := by
  rw [View.readCov_eq_canon']
  refine Eq.trans ?_ (View.canon_append_of_piecesOf (Val := Elt Ideal) (e := .f32) (buf3 g) L' L hP (ix3 ⟨k, hk⟩ i j) hc)
  refine congrArg _ (?_ : _ = ix3 ⟨k, hk⟩ i j)
  funext x
  match x with
  | ⟨0, _⟩ => exact Fin.ext (by show k + 1 * o.val = k; omega)
  | ⟨1, _⟩ => exact Fin.ext (by show 0 + 1 * i.val = i.val; omega)
  | ⟨2, _⟩ => exact Fin.ext (by show 0 + 1 * j.val = j.val; omega)

namespace Data

variable (D : Data) (n : ℕ)

/-- What block `b` of tile `n` adds to the spatial weights' gradient. -/
def addMix (b : Fin 2) (h : Fin 4) (i j : Fin 128) : ℝ := ∑ d : Fin 256, D.dsv (row n (tb b i)) h d * D.vb (row n (tb b j)) (cc h d)

/-- What tile `n` adds to the pooling weights' gradient. -/
def addPool (g : Fin 4) (k d : Fin 256) : ℝ := ∑ s : Fin 256, D.p (row n s) (cc g k) * D.dap (row n s) g d

/-- What tile `n` adds to the projections' gradient. -/
def addProj (h : Fin 4) (k d : Fin 256) : ℝ := ∑ s : Fin 256, D.gt (row n s) h k * D.db (row n s) (cc h d)

/-- What tile `n` adds to the spatial biases' gradient. -/
def addBias (r : Fin 128) (k : Fin 1024) : ℝ := flat (D.dsv (row n (tb 0 r))) k + flat (D.dsv (row n (tb 1 r))) k

end Data

variable {D : Data} {n : ℕ} {c : Dev nD} {i : grid0.Coords} {arg1 : Memref sig .tc .vmem S256x5120 .f32} {harg1 : arg1.IsWhole} {arg2 : Memref sig .tc .vmem S256x1024 .bf16} {harg2 : arg2.IsWhole} {arg3 : Memref sig .tc .vmem S256x1024 .bf16} {harg3 : arg3.IsWhole} {arg4 : Memref sig .tc .vmem S4x256x256 .bf16} {harg4 : arg4.IsWhole} {arg5 : Memref sig .tc .vmem S1x1024 .f32} {harg5 : arg5.IsWhole} {arg6 : Memref sig .tc .vmem S1x1024 .f32} {harg6 : arg6.IsWhole} {arg7 : Memref sig .tc .vmem S1x1024 .f32} {harg7 : arg7.IsWhole} {arg8 : Memref sig .tc .vmem S4x128x128 .bf16} {harg8 : arg8.IsWhole} {arg9 : Memref sig .tc .vmem S4x128x128 .bf16} {harg9 : arg9.IsWhole} {arg10 : Memref sig .tc .vmem S4x128x1 .f32} {harg10 : arg10.IsWhole} {arg11 : Memref sig .tc .vmem S4x256x256 .bf16} {harg11 : arg11.IsWhole} {arg12 : Memref sig .tc .vmem S1024x1024 .bf16} {harg12 : arg12.IsWhole} {arg13 : Memref sig .tc .vmem S128x128 .f32} {harg13 : arg13.IsWhole} {arg14 : Memref sig .tc .vmem S8x128 .f32} {harg14 : arg14.IsWhole} {arg15 : Memref sig .tc .vmem S256x5120 .bf16} {harg15 : arg15.IsWhole} {arg16 : Memref sig .tc .vmem S2x4x128x256 .bf16} {harg16 : arg16.IsWhole} {arg17 : Memref sig .tc .vmem S2x4x128x256 .bf16} {harg17 : arg17.IsWhole} {arg18 : Memref sig .tc .vmem S4x128x128 .f32} {harg18 : arg18.IsWhole} {arg19 : Memref sig .tc .vmem S128x512 .f32} {harg19 : arg19.IsWhole} {arg20 : Memref sig .tc .vmem S8x1024 .f32} {harg20 : arg20.IsWhole} {arg21 : Memref sig .tc .vmem S8x5120 .f32} {harg21 : arg21.IsWhole} {arg22 : Memref sig .tc .vmem S272x1024 .f32} {harg22 : arg22.IsWhole} {arg23 : Memref sig .tc .vmem S256x1024 .f32} {harg23 : arg23.IsWhole} {arg24 : Memref sig .tc .vmem S256x1024 .f32} {harg24 : arg24.IsWhole} {arg25 : Memref sig .tc .vmem S256x1024 .f32} {harg25 : arg25.IsWhole} {arg26 : Memref sig .tc .vmem S128x1024 .f32} {harg26 : arg26.IsWhole} {arg27 : Memref sig .tc .vmem S4x256x256 .f32} {harg27 : arg27.IsWhole} {arg28 : Memref sig .tc .vmem S4x256x256 .f32} {harg28 : arg28.IsWhole} {x1 : Vec Ideal S256x5120 .f32} {x2 : Vec Ideal S256x1024 .bf16} {x3 : Vec Ideal S256x1024 .bf16} {x4 : Vec Ideal S4x256x256 .bf16} {x5 : Vec Ideal S1x1024 .f32} {x6 : Vec Ideal S1x1024 .f32} {x7 : Vec Ideal S1x1024 .f32} {x8 : Vec Ideal S4x128x128 .bf16} {x9 : Vec Ideal S4x128x128 .bf16} {x10 : Vec Ideal S4x128x1 .f32} {x11 : Vec Ideal S4x256x256 .bf16} {x12 : Vec Ideal S1024x1024 .bf16} {x13 : Vec Ideal S128x128 .f32} {x14 : Vec Ideal S8x128 .f32} {y18 : Vec Ideal S4x128x128 .f32} {y20 : Vec Ideal S8x1024 .f32} {y21 : Vec Ideal S8x5120 .f32} {y22 : Vec Ideal S272x1024 .f32} {y26 : Vec Ideal S128x1024 .f32} {y27 : Vec Ideal S4x256x256 .f32} {y28 : Vec Ideal S4x256x256 .f32} (R : Reads D n x1 x2 x3 x4 x5 x6 x7 x8 x9 x10 x11 x12)

variable {Y18 : Fin 4 → Fin 128 → Fin 128 → ℝ} {Y20 : Fin 8 → Fin 1024 → ℝ} {Y26 : Fin 128 → Fin 1024 → ℝ} {Y27 Y28 : Fin 4 → Fin 256 → Fin 256 → ℝ}

include R in
theorem pool_pieces (hY : ∀ g k d, y27 (ix3 g k d) = (Y27 g k d : EReal)) :
    View.PiecesOf (Val := Elt Ideal) (s := S4x256x256) (e := .f32) (buf3 fun g k d => Y27 g k d + D.addPool n g k d) (mid (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.2.2.2.2.2.1 := by
  have a0 := r_15_real (c := c) (harg1 := harg1) (harg3 := harg3) (harg12 := harg12) R
  unfold mid
  dsimp only
  unfold mid.sl.r_31 mid.sl.r_32 mid.sl.r_33 mid.sl.v385 mid.sl.r_24 mid.sl.r_25 mid.sl.r_26 mid.sl.v333 mid.sl.r_21 mid.sl.r_22 mid.sl.v281 mid.sl.r_14 mid.sl.r_16
  refine ⟨?_, ?_, ?_, ?_, trivial⟩ <;> intro x <;> idx_vars x
  all_goals simp only [k0_pay137, k0_pay128, k0_pay136, k0_pay129, k0_pay130, k0_pay124, k0_pay115, k0_pay123, k0_pay116, k0_pay117, k0_pay112, k0_pay103, k0_pay111, k0_pay104, k0_pay105, k0_pay100, k0_pay89, k0_pay99, k0_pay91, load_eq]
  all_goals pointwise
  all_goals simp only [a0, r_10_real R, at0, at1, at2, at3, R.h2, R.h5, hY, ← EReal.coe_mul, Reals.sum_coe]
  all_goals try simp only [← EReal.coe_add]
  all_goals refine Eq.trans ?_ (buf3_emb _ _ x0 x1 x2 ?_).symm
  all_goals first | rfl | decide

include R in
theorem proj_pieces (hY : ∀ g k d, y28 (ix3 g k d) = (Y28 g k d : EReal)) :
    View.PiecesOf (Val := Elt Ideal) (s := S4x256x256) (e := .f32) (buf3 fun g k d => Y28 g k d + D.addProj n g k d) (mid (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.2.2.2.2.2.2.1 := by
  unfold mid
  dsimp only
  unfold mid.sl.r_48 mid.sl.r_49 mid.sl.v609 mid.sl.v570 mid.sl.r_42 mid.sl.r_43 mid.sl.v531 mid.sl.r_38 mid.sl.r_39
  refine ⟨?_, ?_, ?_, ?_, trivial⟩ <;> intro x <;> idx_vars x
  all_goals simp only [k0_pay191, k0_pay189, k0_pay190, k0_pay184, k0_pay185, k0_pay180, k0_pay175, k0_pay176, k0_pay171, k0_pay166, k0_pay167, k0_pay162, k0_pay155, k0_pay156, load_eq harg28]
  all_goals pointwise
  all_goals simp only [r_6_real R, r_12_real R, at0, at1, at2, at3, hY, ← EReal.coe_mul, Reals.sum_coe]
  all_goals try simp only [← EReal.coe_add]
  all_goals refine Eq.trans ?_ (buf3_emb _ _ x0 x1 x2 ?_).symm
  all_goals first | rfl | decide

include R in
theorem sum_pieces (hY : ∀ r k, y26 (ix2 r k) = (Y26 r k : EReal)) :
    View.PiecesOf (Val := Elt Ideal) (s := S128x1024) (e := .f32) (buf2 fun r k => Y26 r k + D.addBias n r k) (mid (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.2.2.2.2.1 := by
  unfold mid
  dsimp only
  refine ⟨?_, trivial⟩ <;> intro x <;> idx_vars x
  all_goals simp only [k0_pay200, load_eq harg26]
  all_goals pointwise
  all_goals simp only [r_51_real R, hY, ← EReal.coe_add]
  all_goals refine Eq.trans ?_ (buf2_emb _ _ x0 x1 (by omega) (by omega)).symm
  all_goals simp only [Nat.zero_add, Fin.eta]
  all_goals rfl

include R in
theorem vec_pieces (hY : ∀ a k, y20 (ix2 a k) = (Y20 a k : EReal)) :
    View.PiecesOf (Val := Elt Ideal) (s := S8x1024) (e := .f32) (buf2 fun a k => Y20 a k + D.addVec n a k) (mid (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.1 := by
  have a0 := dps_real (c := c) (harg1 := harg1) (harg2 := harg2) (harg3 := harg3) (harg4 := harg4) (harg12 := harg12) R
  have b0 := fun s d => (a0 s d).1
  have b1 := fun s d => (a0 s d).2.1
  have b2 := fun s d => (a0 s d).2.2.1
  have b3 := fun s d => (a0 s d).2.2.2
  unfold mid.sl.r_27 at b2
  unfold mid
  dsimp only
  unfold mid.sl.v785 mid.sl.v778 mid.sl.r_28 mid.sl.v310 mid.sl.v258 mid.sl.v362
  refine ⟨?_, ?_, ?_, ?_, ?_, ?_, trivial⟩ <;> intro x <;> idx_vars x
  all_goals simp only [k0_pay219, k0_pay218, k0_pay132, k0_pay119, k0_pay107, k0_pay93, load_eq harg20]
  all_goals pointwise
  all_goals obtain rfl : x0 = 0 := Subsingleton.elim _ _
  all_goals simp only [v777_real R, r_2_real R, b0, b1, b2, b3, hY, ← EReal.coe_mul, Reals.sum_coe]
  all_goals try simp only [← EReal.coe_add]
  all_goals refine Eq.trans ?_ (buf2_emb _ _ 0 x1 (by decide) (by omega)).symm
  all_goals simp only [Nat.zero_add, Fin.eta, at0, at1, at2, at3, Data.addVec, flat_cc]
  all_goals rfl

include R in
theorem mix_first (hY : ∀ h i j, y18 (ix3 h i j) = (Y18 h i j : EReal)) :
    View.PiecesOf (Val := Elt Ideal) (s := S4x128x128) (e := .f32) (buf3 fun h i j => Y18 h i j + D.addMix n 0 h i j) (mid.sl.H18_4 (F := Ideal) c i arg1 harg1 arg3 harg3 arg6 harg6 arg7 harg7 arg11 harg11 arg12 harg12 arg18 harg18 arg24 x1 x3 x6 x7 x11 x12 y18) := by
  unfold mid.sl.H18_4 mid.sl.v697 mid.sl.v681 mid.sl.v665
  refine ⟨?_, ?_, ?_, ?_, trivial⟩ <;> intro x <;> idx_vars x
  all_goals simp only [k0_pay207, k0_pay205, k0_pay203, k0_pay201, load_eq harg18]
  all_goals pointwise
  all_goals simp only [r_50_real R, r_3_real R, tb0, at0, at1, at2, at3, flat_cc, hY, ← EReal.coe_mul, Reals.sum_coe]
  all_goals try simp only [← EReal.coe_add]
  all_goals refine Eq.trans ?_ (buf3_emb _ _ x0 x1 x2 ?_).symm
  all_goals first | rfl | decide

include R in
theorem mix_olds (hY : ∀ h i j, y18 (ix3 h i j) = (Y18 h i j : EReal)) (o : Fin 1) (p q : Fin 128) :
    (mid.sl.v713 (F := Ideal) c i arg1 harg1 arg3 harg3 arg6 harg6 arg7 harg7 arg11 harg11 arg12 harg12 arg18 harg18 arg24 x1 x3 x6 x7 x11 x12 y18) (ix3 o p q) = ((Y18 0 p q + D.addMix n 0 0 p q : ℝ) : EReal) ∧ (mid.sl.v729 (F := Ideal) c i arg1 harg1 arg3 harg3 arg6 harg6 arg7 harg7 arg11 harg11 arg12 harg12 arg18 harg18 arg24 x1 x3 x6 x7 x11 x12 y18) (ix3 o p q) = ((Y18 1 p q + D.addMix n 0 1 p q : ℝ) : EReal)
    ∧ (mid.sl.v745 (F := Ideal) c i arg1 harg1 arg3 harg3 arg6 harg6 arg7 harg7 arg11 harg11 arg12 harg12 arg18 harg18 arg24 x1 x3 x6 x7 x11 x12 y18) (ix3 o p q) = ((Y18 2 p q + D.addMix n 0 2 p q : ℝ) : EReal) ∧ (mid.sl.v761 (F := Ideal) c i arg1 harg1 arg3 harg3 arg6 harg6 arg7 harg7 arg11 harg11 arg12 harg12 arg18 harg18 arg24 x1 x3 x6 x7 x11 x12 y18) (ix3 o p q) = ((Y18 3 p q + D.addMix n 0 3 p q : ℝ) : EReal) := by
  have hP := mix_first (c := c) (i := i) (harg1 := harg1) (harg3 := harg3) (harg6 := harg6) (harg7 := harg7) (harg11 := harg11) (harg12 := harg12) (arg24 := arg24) (harg18 := harg18) R hY
  unfold mid.sl.v713 mid.sl.v729 mid.sl.v745 mid.sl.v761
  unfold mid.sl.H18_7 mid.sl.H18_6 mid.sl.H18_5
  refine ⟨?_, ?_, ?_, ?_⟩
  · unfold mid.sl.H18_4 at hP ⊢
    exact slab_read _ _ _ [] _ hP _ o p q ⟨_, .tail _ (.tail _ (.tail _ (.head _))), mem_slab inb_S4x128x128_S1x128x128_0_0_0 _ _ _ rfl⟩
  · rw [View.readCov_skip _ _ _ _ _ (by decide)]
    unfold mid.sl.H18_4 at hP ⊢
    exact slab_read _ _ _ [] _ hP _ o p q ⟨_, .tail _ (.tail _ (.head _)), mem_slab inb_S4x128x128_S1x128x128_1_0_0 _ _ _ rfl⟩
  · rw [View.readCov_skip _ _ _ _ _ (by decide), View.readCov_skip _ _ _ _ _ (by decide)]
    unfold mid.sl.H18_4 at hP ⊢
    exact slab_read _ _ _ [] _ hP _ o p q ⟨_, .tail _ (.head _), mem_slab inb_S4x128x128_S1x128x128_2_0_0 _ _ _ rfl⟩
  · rw [View.readCov_skip _ _ _ _ _ (by decide), View.readCov_skip _ _ _ _ _ (by decide), View.readCov_skip _ _ _ _ _ (by decide)]
    unfold mid.sl.H18_4 at hP ⊢
    exact slab_read _ _ _ [] _ hP _ o p q ⟨_, .head _, mem_slab inb_S4x128x128_S1x128x128_3_0_0 _ _ _ rfl⟩

include R in
theorem mix_second (hY : ∀ h i j, y18 (ix3 h i j) = (Y18 h i j : EReal)) :
    View.PiecesOf (Val := Elt Ideal) (s := S4x128x128) (e := .f32) (buf3 fun h i j => (Y18 h i j + D.addMix n 0 h i j) + D.addMix n 1 h i j)
      [⟨Rect.unit ![3, 0, 0] S1x128x128.size inb_S4x128x128_S1x128x128_3_0_0, k0_pay216 (F := Ideal) (mid.sl.r_53 (F := Ideal) c i arg1 harg1 arg3 harg3 arg6 harg6 arg7 harg7 arg11 harg11 arg12 harg12 arg18 harg18 arg24 x1 x3 x6 x7 x11 x12 y18)⟩, ⟨Rect.unit ![2, 0, 0] S1x128x128.size inb_S4x128x128_S1x128x128_2_0_0, k0_pay213 (F := Ideal) (mid.sl.r_3 (F := Ideal) c i arg1 harg1 arg3 harg3 arg6 harg6 arg7 harg7 arg12 harg12 x1 x3 x6 x7 x12) (mid.sl.r_50 (F := Ideal) c arg1 harg1 arg3 harg3 arg11 harg11 arg12 harg12 arg24 x1 x3 x11 x12) (mid.sl.v745 (F := Ideal) c i arg1 harg1 arg3 harg3 arg6 harg6 arg7 harg7 arg11 harg11 arg12 harg12 arg18 harg18 arg24 x1 x3 x6 x7 x11 x12 y18)⟩,
        ⟨Rect.unit ![1, 0, 0] S1x128x128.size inb_S4x128x128_S1x128x128_1_0_0, (mid.sl.r_52 (F := Ideal) c i arg1 harg1 arg3 harg3 arg6 harg6 arg7 harg7 arg11 harg11 arg12 harg12 arg18 harg18 arg24 x1 x3 x6 x7 x11 x12 y18)⟩, ⟨Rect.unit ![0, 0, 0] S1x128x128.size inb_S4x128x128_S1x128x128_0_0_0, k0_pay209 (F := Ideal) (mid.sl.r_3 (F := Ideal) c i arg1 harg1 arg3 harg3 arg6 harg6 arg7 harg7 arg12 harg12 x1 x3 x6 x7 x12) (mid.sl.r_50 (F := Ideal) c arg1 harg1 arg3 harg3 arg11 harg11 arg12 harg12 arg24 x1 x3 x11 x12) (mid.sl.v713 (F := Ideal) c i arg1 harg1 arg3 harg3 arg6 harg6 arg7 harg7 arg11 harg11 arg12 harg12 arg18 harg18 arg24 x1 x3 x6 x7 x11 x12 y18)⟩] := by
  have o0 := fun o p q => (mix_olds (c := c) (i := i) (harg1 := harg1) (harg3 := harg3) (harg6 := harg6) (harg7 := harg7) (harg11 := harg11) (harg12 := harg12) (arg24 := arg24) (harg18 := harg18) R hY o p q).1
  have o1 := fun o p q => (mix_olds (c := c) (i := i) (harg1 := harg1) (harg3 := harg3) (harg6 := harg6) (harg7 := harg7) (harg11 := harg11) (harg12 := harg12) (arg24 := arg24) (harg18 := harg18) R hY o p q).2.1
  have o2 := fun o p q => (mix_olds (c := c) (i := i) (harg1 := harg1) (harg3 := harg3) (harg6 := harg6) (harg7 := harg7) (harg11 := harg11) (harg12 := harg12) (arg24 := arg24) (harg18 := harg18) R hY o p q).2.2.1
  have o3 := fun o p q => (mix_olds (c := c) (i := i) (harg1 := harg1) (harg3 := harg3) (harg6 := harg6) (harg7 := harg7) (harg11 := harg11) (harg12 := harg12) (arg24 := arg24) (harg18 := harg18) R hY o p q).2.2.2
  unfold mid.sl.r_53 mid.sl.r_52
  refine ⟨?_, ?_, ?_, ?_, trivial⟩ <;> intro x <;> idx_vars x
  all_goals simp only [k0_pay216, k0_pay215, k0_pay214, k0_pay213, k0_pay211, k0_pay209]
  all_goals pointwise
  all_goals simp only [r_50_real R, r_3_real R, tb1, at0, at1, at2, at3, flat_cc, o0, o1, o2, o3, ← EReal.coe_mul, Reals.sum_coe]
  all_goals try simp only [← EReal.coe_add]
  all_goals refine Eq.trans ?_ (buf3_emb _ _ x0 x1 x2 ?_).symm
  all_goals first | rfl | decide

end Cert.Mx

end
-- ==== Proof.Mx.After.lean ====
module

public import proofs.«01_k».proof.Proof.Mx.Grad
public import proofs.«01_k».proof.Proof.Mx.Win
public import Idealize.ShloMosaic.Lib.Pipeline.ReadBack
public import proofs.«01_k».proof.Proof.Rows
public import Idealize.ShloMosaic.Lib.Pointwise
public import Idealize.ShloMosaic.Lib.Pipeline.ValueKit
public import Idealize.ShloMosaic.Lib.WholeRead

/-!
The sums and the window buffer after one tile, when its blocks and the sums before it hold real numbers.
-/

@[expose] public section

set_option maxRecDepth 16384

noncomputable section

namespace Cert.Mx

open Cert.KernelMxIdeal Cert.KernelMxIdeal.Gen Idealize.ShloMosaic Idealize.ShloMosaic.TcCoe Idealize.SL.Sem

/-- A read after stores that are blocks of `G`, one of which covers the place, over any earlier ones. -/
theorem read_over {Val : EltTy → Type} [∀ e, Nonempty (Val e)] {e : EltTy} {sp : Space} {S : Shape} (v : View sig .tc sp S e) (f : v.ty.Contents Val) (G : S.Idx → Val e)
    (L' L : List (View.Piece Val S e)) (hP : View.PiecesOf G L) (y : S.Idx) (hc : ∃ p ∈ L, y ∈ p.1.set) : v.read Val (v.writes Val f (L ++ L')) y = G y := by
  obtain ⟨p, hp, hy⟩ := hc
  rw [View.read_writes_apply_eq_canon v f y (L ++ L') ⟨p, List.mem_append_left _ hp, hy⟩]
  exact View.canon_append_of_piecesOf G L' L hP y ⟨p, hp, hy⟩

variable {D : Data} {n : ℕ} {c : Dev nD} {i : grid0.Coords} {arg1 : Memref sig .tc .vmem S256x5120 .f32} {harg1 : arg1.IsWhole} {arg2 : Memref sig .tc .vmem S256x1024 .bf16} {harg2 : arg2.IsWhole} {arg3 : Memref sig .tc .vmem S256x1024 .bf16} {harg3 : arg3.IsWhole} {arg4 : Memref sig .tc .vmem S4x256x256 .bf16} {harg4 : arg4.IsWhole} {arg5 : Memref sig .tc .vmem S1x1024 .f32} {harg5 : arg5.IsWhole} {arg6 : Memref sig .tc .vmem S1x1024 .f32} {harg6 : arg6.IsWhole} {arg7 : Memref sig .tc .vmem S1x1024 .f32} {harg7 : arg7.IsWhole} {arg8 : Memref sig .tc .vmem S4x128x128 .bf16} {harg8 : arg8.IsWhole} {arg9 : Memref sig .tc .vmem S4x128x128 .bf16} {harg9 : arg9.IsWhole} {arg10 : Memref sig .tc .vmem S4x128x1 .f32} {harg10 : arg10.IsWhole} {arg11 : Memref sig .tc .vmem S4x256x256 .bf16} {harg11 : arg11.IsWhole} {arg12 : Memref sig .tc .vmem S1024x1024 .bf16} {harg12 : arg12.IsWhole} {arg13 : Memref sig .tc .vmem S128x128 .f32} {harg13 : arg13.IsWhole} {arg14 : Memref sig .tc .vmem S8x128 .f32} {harg14 : arg14.IsWhole} {arg15 : Memref sig .tc .vmem S256x5120 .bf16} {harg15 : arg15.IsWhole} {arg16 : Memref sig .tc .vmem S2x4x128x256 .bf16} {harg16 : arg16.IsWhole} {arg17 : Memref sig .tc .vmem S2x4x128x256 .bf16} {harg17 : arg17.IsWhole} {arg18 : Memref sig .tc .vmem S4x128x128 .f32} {harg18 : arg18.IsWhole} {arg19 : Memref sig .tc .vmem S128x512 .f32} {harg19 : arg19.IsWhole} {arg20 : Memref sig .tc .vmem S8x1024 .f32} {harg20 : arg20.IsWhole} {arg21 : Memref sig .tc .vmem S8x5120 .f32} {harg21 : arg21.IsWhole} {arg22 : Memref sig .tc .vmem S272x1024 .f32} {harg22 : arg22.IsWhole} {arg23 : Memref sig .tc .vmem S256x1024 .f32} {harg23 : arg23.IsWhole} {arg24 : Memref sig .tc .vmem S256x1024 .f32} {harg24 : arg24.IsWhole} {arg25 : Memref sig .tc .vmem S256x1024 .f32} {harg25 : arg25.IsWhole} {arg26 : Memref sig .tc .vmem S128x1024 .f32} {harg26 : arg26.IsWhole} {arg27 : Memref sig .tc .vmem S4x256x256 .f32} {harg27 : arg27.IsWhole} {arg28 : Memref sig .tc .vmem S4x256x256 .f32} {harg28 : arg28.IsWhole} {x1 : Vec Ideal S256x5120 .f32} {x2 : Vec Ideal S256x1024 .bf16} {x3 : Vec Ideal S256x1024 .bf16} {x4 : Vec Ideal S4x256x256 .bf16} {x5 : Vec Ideal S1x1024 .f32} {x6 : Vec Ideal S1x1024 .f32} {x7 : Vec Ideal S1x1024 .f32} {x8 : Vec Ideal S4x128x128 .bf16} {x9 : Vec Ideal S4x128x128 .bf16} {x10 : Vec Ideal S4x128x1 .f32} {x11 : Vec Ideal S4x256x256 .bf16} {x12 : Vec Ideal S1024x1024 .bf16} {x13 : Vec Ideal S128x128 .f32} {x14 : Vec Ideal S8x128 .f32} {y18 : Vec Ideal S4x128x128 .f32} {y20 : Vec Ideal S8x1024 .f32} {y21 : Vec Ideal S8x5120 .f32} {y22 : Vec Ideal S272x1024 .f32} {y26 : Vec Ideal S128x1024 .f32} {y27 : Vec Ideal S4x256x256 .f32} {y28 : Vec Ideal S4x256x256 .f32} (R : Reads D n x1 x2 x3 x4 x5 x6 x7 x8 x9 x10 x11 x12)

variable {Y18 : Fin 4 → Fin 128 → Fin 128 → ℝ} {Y20 : Fin 8 → Fin 1024 → ℝ} {Y21 : Fin 8 → Fin 5120 → ℝ} {Y26 : Fin 128 → Fin 1024 → ℝ} {Y27 Y28 : Fin 4 → Fin 256 → Fin 256 → ℝ}

include R in
theorem mix_next (hY : ∀ h i j, y18 (ix3 h i j) = (Y18 h i j : EReal)) (h : Fin 4) (p q : Fin 128) :
    View.read (Elt Ideal) arg18.view (arg18.view.writes (Elt Ideal) (harg18.unread y18) (mid (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.1) (ix3 h p q) = ((Y18 h p q + D.addMix n 0 h p q) + D.addMix n 1 h p q : ℝ) := by
  have hP := mix_second (c := c) (i := i) (harg1 := harg1) (harg3 := harg3) (harg6 := harg6) (harg7 := harg7) (harg11 := harg11) (harg12 := harg12) (arg24 := arg24) (harg18 := harg18) R hY
  unfold mid
  dsimp only
  unfold mid.sl.H18_7 mid.sl.H18_6 mid.sl.H18_5
  refine read_over _ _ _ (mid.sl.H18_4 (F := Ideal) c i arg1 harg1 arg3 harg3 arg6 harg6 arg7 harg7 arg11 harg11 arg12 harg12 arg18 harg18 arg24 x1 x3 x6 x7 x11 x12 y18) _ hP _ ?_
  fin_cases h
  · exact ⟨_, .tail _ (.tail _ (.tail _ (.head _))), mem_slab inb_S4x128x128_S1x128x128_0_0_0 _ _ _ rfl⟩
  · exact ⟨_, .tail _ (.tail _ (.head _)), mem_slab inb_S4x128x128_S1x128x128_1_0_0 _ _ _ rfl⟩
  · exact ⟨_, .tail _ (.head _), mem_slab inb_S4x128x128_S1x128x128_2_0_0 _ _ _ rfl⟩
  · exact ⟨_, .head _, mem_slab inb_S4x128x128_S1x128x128_3_0_0 _ _ _ rfl⟩

include R in
theorem pool_next (hY : ∀ g k d, y27 (ix3 g k d) = (Y27 g k d : EReal)) (h : Fin 4) (p q : Fin 256) :
    View.read (Elt Ideal) arg27.view (arg27.view.writes (Elt Ideal) (harg27.unread y27) (mid (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.2.2.2.2.2.1) (ix3 h p q) = (Y27 h p q + D.addPool n h p q : ℝ) := by
  refine read_real (pool_pieces (i := i) R hY) (ix3 h p q) (.inl ?_)
  unfold mid
  dsimp only
  fin_cases h
  · exact ⟨_, .tail _ (.tail _ (.tail _ (.head _))), mem_slab inb_S4x256x256_S1x256x256_0_0_0 _ _ _ rfl⟩
  · exact ⟨_, .tail _ (.tail _ (.head _)), mem_slab inb_S4x256x256_S1x256x256_1_0_0 _ _ _ rfl⟩
  · exact ⟨_, .tail _ (.head _), mem_slab inb_S4x256x256_S1x256x256_2_0_0 _ _ _ rfl⟩
  · exact ⟨_, .head _, mem_slab inb_S4x256x256_S1x256x256_3_0_0 _ _ _ rfl⟩

include R in
theorem proj_next (hY : ∀ g k d, y28 (ix3 g k d) = (Y28 g k d : EReal)) (h : Fin 4) (p q : Fin 256) :
    View.read (Elt Ideal) arg28.view (arg28.view.writes (Elt Ideal) (harg28.unread y28) (mid (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.2.2.2.2.2.2.1) (ix3 h p q) = (Y28 h p q + D.addProj n h p q : ℝ) := by
  refine read_real (proj_pieces (i := i) R hY) (ix3 h p q) (.inl ?_)
  unfold mid
  dsimp only
  fin_cases h
  · exact ⟨_, .tail _ (.tail _ (.tail _ (.head _))), mem_slab inb_S4x256x256_S1x256x256_0_0_0 _ _ _ rfl⟩
  · exact ⟨_, .tail _ (.tail _ (.head _)), mem_slab inb_S4x256x256_S1x256x256_1_0_0 _ _ _ rfl⟩
  · exact ⟨_, .tail _ (.head _), mem_slab inb_S4x256x256_S1x256x256_2_0_0 _ _ _ rfl⟩
  · exact ⟨_, .head _, mem_slab inb_S4x256x256_S1x256x256_3_0_0 _ _ _ rfl⟩

include R in
theorem sum_next (hY : ∀ r k, y26 (ix2 r k) = (Y26 r k : EReal)) (r : Fin 128) (k : Fin 1024) :
    View.read (Elt Ideal) arg26.view (arg26.view.writes (Elt Ideal) (harg26.unread y26) (mid (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.2.2.2.2.1) (ix2 r k) = (Y26 r k + D.addBias n r k : ℝ) := by
  refine read_real (sum_pieces (i := i) R hY) (ix2 r k) (.inl ?_)
  unfold mid
  exact ⟨_, .head _, mem_unit inb_S128x1024_S128x1024_0_0 _ _ (by omega) (by omega)⟩

include R in
theorem bin_next (hn : n ≤ 15) (hi : (i 0).val = n) (hK : Kept D n y22) (hY : ∀ a e, y21 (ix2 a e) = (Y21 a e : EReal)) (a : Fin 8) (e : Fin 5120) :
    View.read (Elt Ideal) arg21.view (arg21.view.writes (Elt Ideal) (harg21.unread y21) (mid (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.1) (ix2 a e) = (Y21 a e + D.addBin n a e : ℝ) := by
  refine read_real (bin_pieces R hn hi hK hY) (ix2 a e) ?_
  by_cases ha : a.val = 0
  · obtain rfl : a = 0 := Fin.ext ha
    exact .inl (bin_hit ..)
  · refine .inr ?_
    rw [harg21.read_unread, hY]
    show _ = ((Y21 a e + D.addBin n a e : ℝ) : EReal)
    rw [Data.addBin, if_neg ha, add_zero]

include R in
theorem vec_next (hY : ∀ a k, y20 (ix2 a k) = (Y20 a k : EReal)) (a : Fin 8) (k : Fin 1024) :
    View.read (Elt Ideal) arg20.view (arg20.view.writes (Elt Ideal) (harg20.unread y20) (mid (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.1) (ix2 a k) = (Y20 a k + D.addVec n a k : ℝ) := by
  refine read_real (vec_pieces (i := i) R hY) (ix2 a k) ?_
  unfold mid
  dsimp only
  rcases (by omega : a.val = 0 ∨ a.val = 1 ∨ a.val = 2 ∨ 3 ≤ a.val) with ha | ha | ha | ha
  · rcases (by omega : k.val < 256 ∨ 256 ≤ k.val ∧ k.val < 512 ∨ 512 ≤ k.val ∧ k.val < 768 ∨ 768 ≤ k.val) with hl | hl | hl | hl
    · exact .inl ⟨_, .tail _ (.tail _ (.tail _ (.tail _ (.tail _ (.head _))))), mem_unit inb_S8x1024_S1x256_0_0 _ _ (by omega) (by omega)⟩
    · exact .inl ⟨_, .tail _ (.tail _ (.tail _ (.tail _ (.head _)))), mem_unit inb_S8x1024_S1x256_0_256 _ _ (by omega) (by omega)⟩
    · exact .inl ⟨_, .tail _ (.tail _ (.tail _ (.head _))), mem_unit inb_S8x1024_S1x256_0_512 _ _ (by omega) (by omega)⟩
    · exact .inl ⟨_, .tail _ (.tail _ (.head _)), mem_unit inb_S8x1024_S1x256_0_768 _ _ (by omega) (by omega)⟩
  · exact .inl ⟨_, .tail _ (.head _), mem_unit inb_S8x1024_S1x1024_1_0 _ _ (by omega) (by omega)⟩
  · exact .inl ⟨_, .head _, mem_unit inb_S8x1024_S1x1024_2_0 _ _ (by omega) (by omega)⟩
  · refine .inr ?_
    rw [harg20.read_unread, hY]
    show _ = ((Y20 a k + D.addVec n a k : ℝ) : EReal)
    rw [Data.addVec, if_neg (by omega), if_neg (by omega), if_neg (by omega), add_zero]

include R in
theorem win_next (hn : n + 1 ≤ 15) (hi : (i 0).val = n) (hK : Kept D n y22) : Kept D (n + 1) (View.canon (mid (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.1) := by
  intro k l
  have e := window_real (c := c) (harg1 := harg1) (harg3 := harg3) (harg4 := harg4) (harg5 := harg5) (harg12 := harg12) (harg22 := harg22) R (by omega) hi hK ⟨k.val, by omega⟩ l
  unfold mid
  dsimp only
  refine (Rows.canon_hit inb_S272x1024_S16x1024_256_0 _ _ k l _ _ rfl (Nat.zero_add _).symm).trans ?_
  simp only [k0_pay154]
  pointwise
  unfold mid.sl.v469
  have hc := cover_H c i arg1 harg1 arg3 harg3 arg4 harg4 arg5 harg5 arg12 harg12 x1 x3 x4 x5 x12 (ix2 ⟨k.val, by omega⟩ l) (by show k.val < 256; omega)
  rw [View.readCov_eq_canon']
  refine (congrArg _ (Rows.emb_unit inb_S272x1024_S16x1024_0_0 k l ⟨k.val, by omega⟩ l (Nat.zero_add _).symm (Nat.zero_add _).symm)).trans ?_
  refine ((View.read_writes_apply_eq_canon arg22.view (harg22.unread y22) _ _ hc).symm.trans e).trans ?_
  rw [show (15 - (n + 1)) * 256 + (256 + k.val) = (15 - n) * 256 + k.val by omega]

end Cert.Mx

end
-- ==== Proof.Mx.Inputs.lean ====
module

public import proofs.«01_k».proof.Proof.Mx.Spec

/-!
The real inputs of the mixing layer's gradient, and the values that the backward pass starts from: the biased rows, the
pooled rows and the masked spatial weight.
-/

@[expose] public section

noncomputable section

namespace Cert.Mx

/-- The arguments as real arrays. -/
structure Inputs where
  X : Fin 4096 → Fin 5120 → ℝ
  B : Fin 5120 → ℝ
  wp : Fin 4 → Fin 256 → Fin 256 → ℝ
  ps : Fin 1024 → ℝ
  lg : Fin 1024 → ℝ
  lb : Fin 1024 → ℝ
  W : Fin 4 → Fin 128 → Fin 128 → ℝ
  bs : Fin 4 → Fin 128 → ℝ
  wr : Fin 4 → Fin 256 → Fin 256 → ℝ
  wo : Fin 1024 → Fin 1024 → ℝ
  dy : Fin 4096 → Fin 1024 → ℝ

/-- Position `j` is in the chunk of position `i` or before it. -/
def low (i j : Fin 128) : Prop := j.val / 64 ≤ i.val / 64

instance (i j : Fin 128) : Decidable (low i j) := inferInstanceAs (Decidable (_ ≤ _))

namespace Inputs

variable (I : Inputs)

/-- The biased rows. -/
def z (s : Fin 4096) (e : Fin 5120) : ℝ := I.X s e + I.B e

/-- The part of the rows that is pooled, zero past the last row. -/
def zn (n : ℕ) (k : Fin 1024) : ℝ := if h : n < 4096 then I.z ⟨n, h⟩ (zc 0 k) else 0

/-- The mean of the window that ends at a row, less the row. -/
def pool (s : Fin 4096) (k : Fin 1024) : ℝ :=
  (∑ n ∈ Finset.range (s.val + 1), I.zn n k - ∑ n ∈ Finset.range (s.val + 1 - wl ⟨k.val / 256, by omega⟩), I.zn n k) / cnt s ⟨k.val / 256, by omega⟩
    - I.z s (zc 0 k)

/-- What the backward pass starts from. -/
def data : Data where
  z := I.z
  p := I.pool
  dy := I.dy
  wp := I.wp
  ps := I.ps
  lg := I.lg
  lb := I.lb
  ws h i j := if low i j then I.W h i j else 0
  bs := I.bs
  wr := I.wr
  wo := I.wo

end Inputs

end Cert.Mx

end
-- ==== Proof.Mx.Last.lean ====
module

public import proofs.«01_k».proof.Proof.Mx.After
public import proofs.«01_k».proof.Proof.Mx.Same
public import proofs.«01_k».proof.Proof.Mx.Inputs
public import Idealize.ShloMosaic.Lib.Pipeline.ReadBack
public import proofs.«01_k».proof.Proof.Rows
public import Idealize.ShloMosaic.Lib.Pointwise
public import Idealize.ShloMosaic.Lib.Pipeline.ValueKit
public import Idealize.ShloMosaic.Lib.WholeRead

/-!
What the last point stores, when its blocks and the sums before it hold real numbers.
-/

@[expose] public section

set_option maxRecDepth 16384

noncomputable section

namespace Cert.Mx

open Cert.KernelMxIdeal Cert.KernelMxIdeal.Gen Idealize.ShloMosaic Idealize.ShloMosaic.TcCoe Idealize.SL.Sem

/-- The order in which the last point stores a stack of matrices: the two halves of the heads, 64 rows of each. -/
def splitT (g : Fin 4 → Fin 256 → Fin 256 → ℝ) : S2x4x128x256.Idx → EReal := fun y =>
  (g ⟨2 * (y 0).val + (y 2).val / 64, by have h0 : (y 0).val < 2 := (y 0).isLt; have h2 : (y 2).val < 128 := (y 2).isLt; omega⟩
    ⟨64 * (y 1).val + (y 2).val % 64, by have h1 : (y 1).val < 4 := (y 1).isLt; omega⟩ (y 3) : EReal)

theorem splitT_emb (g : Fin 4 → Fin 256 → Fin 256 → ℝ) {p q l : ℕ} (hl : l = 0 ∨ l = 64) (inb : ∀ x : Fin 4, ![p, q, l, 0] x + ![1, 1, 64, 256] x ≤ (![2, 4, 128, 256] : Fin 4 → ℕ) x)
    (o o' : Fin 1) (i : Fin 64) (j : Fin 256) (K : Fin 4) (I : Fin 256) (hK : K.val = 2 * p + l / 64) (hI : I.val = 64 * q + i.val) :
    splitT g ((Rect.unit (s := ⟨4, ![2, 4, 128, 256]⟩) ![p, q, l, 0] ![1, 1, 64, 256] inb).emb (ix4 o o' i j)) = (g K I j : EReal) := by
  have e : ((Rect.unit (s := ⟨4, ![2, 4, 128, 256]⟩) ![p, q, l, 0] ![1, 1, 64, 256] inb).emb (ix4 o o' i j)) = ix4 ⟨p, by have := inb 0; exact Nat.lt_of_succ_le this⟩ ⟨q, by have := inb 1; exact Nat.lt_of_succ_le this⟩ ⟨l + i.val, by omega⟩ j := by
    funext x
    match x with
    | ⟨0, _⟩ => exact Fin.ext (by show p + 1 * o.val = p; omega)
    | ⟨1, _⟩ => exact Fin.ext (by show q + 1 * o'.val = q; omega)
    | ⟨2, _⟩ => exact Fin.ext (by show l + 1 * i.val = l + i.val; omega)
    | ⟨3, _⟩ => exact Fin.ext (by show 0 + 1 * j.val = j.val; omega)
  rw [e]
  exact congrArg Real.toEReal (congrArg₂ (fun a b => g a b j) (Fin.ext (by show 2 * p + (l + i.val) / 64 = K.val; omega)) (Fin.ext (by show 64 * q + (l + i.val) % 64 = I.val; omega)))

/-- A load of 64 rows of one matrix of a stack after stores that are blocks of `g` and cover it. -/
theorem part_read {sp : Space} {k l : ℕ} (v : View sig .tc sp S4x256x256 .f32) (inb : ∀ x : Fin 3, ![k, l, 0] x + ![1, 64, 256] x ≤ (![4, 256, 256] : Fin 3 → ℕ) x)
    (g : Fin 4 → Fin 256 → Fin 256 → ℝ) (L : List (View.Piece (Elt Ideal) S4x256x256 .f32)) (hP : View.PiecesOf (Val := Elt Ideal) (s := S4x256x256) (e := .f32) (buf3 g) L)
    (hc : ∀ y, ∃ p ∈ L, y ∈ p.1.set) (o : Fin 1) (i : Fin 64) (j : Fin 256) (hk : k < 4) (hl : l + i.val < 256) :
    v.readCov L (Rect.unit (s := S4x256x256) ![k, l, 0] ![1, 64, 256] inb).toLoadRect (ix3 o i j) = (g ⟨k, hk⟩ ⟨l + i.val, hl⟩ j : EReal) := by
  rw [View.readCov_eq_canon']
  have e := View.canon_append_of_piecesOf (Val := Elt Ideal) (e := .f32) (buf3 g) [] L hP (ix3 ⟨k, hk⟩ ⟨l + i.val, hl⟩ j) (hc _)
  rw [List.append_nil] at e
  refine Eq.trans ?_ e
  refine congrArg _ (?_ : _ = ix3 ⟨k, hk⟩ ⟨l + i.val, hl⟩ j)
  funext x
  match x with
  | ⟨0, _⟩ => exact Fin.ext (by show k + 1 * o.val = k; omega)
  | ⟨1, _⟩ => exact Fin.ext (by show l + 1 * i.val = l + i.val; omega)
  | ⟨2, _⟩ => exact Fin.ext (by show 0 + 1 * j.val = j.val; omega)

/-- A stack of matrices at the kept places, zero at the others. -/
def kept (g : Fin 4 → Fin 128 → Fin 128 → ℝ) (h : Fin 4) (i j : Fin 128) : ℝ := if low i j then g h i j else 0

variable {D : Data} {n : ℕ} {c : Dev nD} {i : grid0.Coords} {arg1 : Memref sig .tc .vmem S256x5120 .f32} {harg1 : arg1.IsWhole} {arg2 : Memref sig .tc .vmem S256x1024 .bf16} {harg2 : arg2.IsWhole} {arg3 : Memref sig .tc .vmem S256x1024 .bf16} {harg3 : arg3.IsWhole} {arg4 : Memref sig .tc .vmem S4x256x256 .bf16} {harg4 : arg4.IsWhole} {arg5 : Memref sig .tc .vmem S1x1024 .f32} {harg5 : arg5.IsWhole} {arg6 : Memref sig .tc .vmem S1x1024 .f32} {harg6 : arg6.IsWhole} {arg7 : Memref sig .tc .vmem S1x1024 .f32} {harg7 : arg7.IsWhole} {arg8 : Memref sig .tc .vmem S4x128x128 .bf16} {harg8 : arg8.IsWhole} {arg9 : Memref sig .tc .vmem S4x128x128 .bf16} {harg9 : arg9.IsWhole} {arg10 : Memref sig .tc .vmem S4x128x1 .f32} {harg10 : arg10.IsWhole} {arg11 : Memref sig .tc .vmem S4x256x256 .bf16} {harg11 : arg11.IsWhole} {arg12 : Memref sig .tc .vmem S1024x1024 .bf16} {harg12 : arg12.IsWhole} {arg13 : Memref sig .tc .vmem S128x128 .f32} {harg13 : arg13.IsWhole} {arg14 : Memref sig .tc .vmem S8x128 .f32} {harg14 : arg14.IsWhole} {arg15 : Memref sig .tc .vmem S256x5120 .bf16} {harg15 : arg15.IsWhole} {arg16 : Memref sig .tc .vmem S2x4x128x256 .bf16} {harg16 : arg16.IsWhole} {arg17 : Memref sig .tc .vmem S2x4x128x256 .bf16} {harg17 : arg17.IsWhole} {arg18 : Memref sig .tc .vmem S4x128x128 .f32} {harg18 : arg18.IsWhole} {arg19 : Memref sig .tc .vmem S128x512 .f32} {harg19 : arg19.IsWhole} {arg20 : Memref sig .tc .vmem S8x1024 .f32} {harg20 : arg20.IsWhole} {arg21 : Memref sig .tc .vmem S8x5120 .f32} {harg21 : arg21.IsWhole} {arg22 : Memref sig .tc .vmem S272x1024 .f32} {harg22 : arg22.IsWhole} {arg23 : Memref sig .tc .vmem S256x1024 .f32} {harg23 : arg23.IsWhole} {arg24 : Memref sig .tc .vmem S256x1024 .f32} {harg24 : arg24.IsWhole} {arg25 : Memref sig .tc .vmem S256x1024 .f32} {harg25 : arg25.IsWhole} {arg26 : Memref sig .tc .vmem S128x1024 .f32} {harg26 : arg26.IsWhole} {arg27 : Memref sig .tc .vmem S4x256x256 .f32} {harg27 : arg27.IsWhole} {arg28 : Memref sig .tc .vmem S4x256x256 .f32} {harg28 : arg28.IsWhole} {x1 : Vec Ideal S256x5120 .f32} {x2 : Vec Ideal S256x1024 .bf16} {x3 : Vec Ideal S256x1024 .bf16} {x4 : Vec Ideal S4x256x256 .bf16} {x5 : Vec Ideal S1x1024 .f32} {x6 : Vec Ideal S1x1024 .f32} {x7 : Vec Ideal S1x1024 .f32} {x8 : Vec Ideal S4x128x128 .bf16} {x9 : Vec Ideal S4x128x128 .bf16} {x10 : Vec Ideal S4x128x1 .f32} {x11 : Vec Ideal S4x256x256 .bf16} {x12 : Vec Ideal S1024x1024 .bf16} {x13 : Vec Ideal S128x128 .f32} {x14 : Vec Ideal S8x128 .f32} {y18 : Vec Ideal S4x128x128 .f32} {y20 : Vec Ideal S8x1024 .f32} {y21 : Vec Ideal S8x5120 .f32} {y22 : Vec Ideal S272x1024 .f32} {y26 : Vec Ideal S128x1024 .f32} {y27 : Vec Ideal S4x256x256 .f32} {y28 : Vec Ideal S4x256x256 .f32} (R : Reads D n x1 x2 x3 x4 x5 x6 x7 x8 x9 x10 x11 x12)

variable {Y18 : Fin 4 → Fin 128 → Fin 128 → ℝ} {Y26 : Fin 128 → Fin 1024 → ℝ} {Y27 Y28 : Fin 4 → Fin 256 → Fin 256 → ℝ}

include R in
theorem pool_end (hY : ∀ g k d, y27 (ix3 g k d) = (Y27 g k d : EReal)) :
    View.PiecesOf (Val := Elt Ideal) (s := S2x4x128x256) (e := .bf16) (splitT fun g k d => Y27 g k d + D.addPool n g k d) (fin (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.1 := by
  have hP : View.PiecesOf (Val := Elt Ideal) (s := S4x256x256) (e := .f32) (buf3 fun g k d => Y27 g k d + D.addPool n g k d) (fin.sl.H27_4 (F := Ideal) c arg1 harg1 arg2 harg2 arg3 harg3 arg5 harg5 arg12 harg12 arg27 harg27 x1 x2 x3 x5 x12 y27) := by
    have e := pool_pieces (c := c) (i := i) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) (harg25 := harg25) (harg26 := harg26) (harg27 := harg27) (harg28 := harg28) (x13 := x13) (x14 := x14) (y18 := y18) (y20 := y20) (y21 := y21) (y22 := y22) (y26 := y26) (y27 := y27) (y28 := y28) R hY
    unfold mid at e
    exact e
  have hc : ∀ y, ∃ p ∈ (fin.sl.H27_4 (F := Ideal) c arg1 harg1 arg2 harg2 arg3 harg3 arg5 harg5 arg12 harg12 arg27 harg27 x1 x2 x3 x5 x12 y27), y ∈ p.1.set := by
    unfold fin.sl.H27_4
    exact View.cover_of_tiledL _ ![1, 256, 256] (by sl_kernel_rfl)
  unfold fin
  dsimp only
  unfold fin.sl.v981 fin.sl.v975 fin.sl.v969 fin.sl.v963 fin.sl.r_58 fin.sl.v957 fin.sl.v951 fin.sl.v945 fin.sl.v939 fin.sl.r_57 fin.sl.v933 fin.sl.v927 fin.sl.v921 fin.sl.v915 fin.sl.v909 fin.sl.v903 fin.sl.v897 fin.sl.v891
  refine ⟨?_, ?_, ?_, ?_, ?_, ?_, ?_, ?_, ?_, ?_, ?_, ?_, ?_, ?_, ?_, ?_, trivial⟩ <;> intro x <;> idx_vars x
  all_goals simp only [k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17]
  all_goals pointwise
  all_goals rw [part_read _ _ _ _ hP hc _ _ _ (by decide) (by omega)]
  all_goals exact Eq.symm (Eq.trans (splitT_emb _ (by decide) _ x0 x1 x2 x3 _ _ rfl rfl) rfl)

include R in
theorem proj_end (hY : ∀ g k d, y28 (ix3 g k d) = (Y28 g k d : EReal)) :
    View.PiecesOf (Val := Elt Ideal) (s := S2x4x128x256) (e := .bf16) (splitT fun g k d => Y28 g k d + D.addProj n g k d) (fin (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.1 := by
  have hP : View.PiecesOf (Val := Elt Ideal) (s := S4x256x256) (e := .f32) (buf3 fun g k d => Y28 g k d + D.addProj n g k d) (fin.sl.H28_4 (F := Ideal) c i arg1 harg1 arg3 harg3 arg6 harg6 arg7 harg7 arg8 harg8 arg10 harg10 arg12 harg12 arg23 arg28 harg28 x1 x3 x6 x7 x8 x10 x12 y28) := by
    have e := proj_pieces (c := c) (i := i) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) (harg25 := harg25) (harg26 := harg26) (harg27 := harg27) (harg28 := harg28) (x13 := x13) (x14 := x14) (y18 := y18) (y20 := y20) (y21 := y21) (y22 := y22) (y26 := y26) (y27 := y27) (y28 := y28) R hY
    unfold mid at e
    exact e
  have hc : ∀ y, ∃ p ∈ (fin.sl.H28_4 (F := Ideal) c i arg1 harg1 arg3 harg3 arg6 harg6 arg7 harg7 arg8 harg8 arg10 harg10 arg12 harg12 arg23 arg28 harg28 x1 x3 x6 x7 x8 x10 x12 y28), y ∈ p.1.set := by
    unfold fin.sl.H28_4
    exact View.cover_of_tiledL _ ![1, 256, 256] (by sl_kernel_rfl)
  unfold fin
  dsimp only
  unfold fin.sl.v1077 fin.sl.v1071 fin.sl.v1065 fin.sl.r_60 fin.sl.v1059 fin.sl.v1053 fin.sl.v1047 fin.sl.v1041 fin.sl.r_59 fin.sl.v1035 fin.sl.v1029 fin.sl.v1023 fin.sl.v1017 fin.sl.v fin.sl.v1005 fin.sl.v999 fin.sl.v993 fin.sl.v987
  refine ⟨?_, ?_, ?_, ?_, ?_, ?_, ?_, ?_, ?_, ?_, ?_, ?_, ?_, ?_, ?_, ?_, trivial⟩ <;> intro x <;> idx_vars x
  all_goals simp only [k0_pay7, k0_pay6, k0_pay5, k0_pay4, k0_pay48, k0_pay47, k0_pay46, k0_pay45, k0_pay44, k0_pay43, k0_pay42, k0_pay41, k0_pay40, k0_pay39, k0_pay38, k0_pay37, k0_pay36, k0_pay35]
  all_goals pointwise
  all_goals rw [part_read _ _ _ _ hP hc _ _ _ (by decide) (by omega)]
  all_goals exact Eq.symm (Eq.trans (splitT_emb _ (by decide) _ x0 x1 x2 x3 _ _ rfl rfl) rfl)

include R in
theorem mix_all (hY : ∀ h i j, y18 (ix3 h i j) = (Y18 h i j : EReal)) (L : List (View.Piece (Elt Ideal) S4x128x128 .f32)) (k : Fin 4) (o : Fin 1) (p q : Fin 128) :
    arg18.view.readCov (fin.sl.H18_8 (F := Ideal) c i arg1 harg1 arg3 harg3 arg6 harg6 arg7 harg7 arg11 harg11 arg12 harg12 arg18 harg18 arg24 x1 x3 x6 x7 x11 x12 y18) (Rect.unit (s := S4x128x128) ![k.val, 0, 0] ![1, 128, 128] (by intro x; fin_cases x <;> simp <;> omega)).toLoadRect (ix3 o p q) = ((Y18 k p q + D.addMix n 0 k p q) + D.addMix n 1 k p q : ℝ) := by
  have hP := mix_second (c := c) (i := i) (harg1 := harg1) (harg3 := harg3) (harg6 := harg6) (harg7 := harg7) (harg11 := harg11) (harg12 := harg12) (harg18 := harg18) (arg24 := arg24) R hY
  unfold fin.sl.H18_8 fin.sl.H18_7 fin.sl.H18_6 fin.sl.H18_5
  refine slab_read _ _ _ (fin.sl.H18_4 (F := Ideal) c i arg1 harg1 arg3 harg3 arg6 harg6 arg7 harg7 arg11 harg11 arg12 harg12 arg18 harg18 arg24 x1 x3 x6 x7 x11 x12 y18) _ hP k.isLt o p q ?_
  fin_cases k
  · exact ⟨_, .tail _ (.tail _ (.tail _ (.head _))), mem_slab inb_S4x128x128_S1x128x128_0_0_0 _ _ _ rfl⟩
  · exact ⟨_, .tail _ (.tail _ (.head _)), mem_slab inb_S4x128x128_S1x128x128_1_0_0 _ _ _ rfl⟩
  · exact ⟨_, .tail _ (.head _), mem_slab inb_S4x128x128_S1x128x128_2_0_0 _ _ _ rfl⟩
  · exact ⟨_, .head _, mem_slab inb_S4x128x128_S1x128x128_3_0_0 _ _ _ rfl⟩

include R in
theorem mix_end (hY : ∀ h i j, y18 (ix3 h i j) = (Y18 h i j : EReal)) (hM : ∀ i j, x13 (ix2 i j) = ((if low i j then 1 else 0 : ℝ) : EReal)) (h : Fin 4) (p q : Fin 128) :
    View.read (Elt Ideal) arg18.view (arg18.view.writes (Elt Ideal) (harg18.unread y18) (fin (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.1) (ix3 h p q)
      = (kept (fun h i j => (Y18 h i j + D.addMix n 0 h i j) + D.addMix n 1 h i j) h p q : ℝ) := by
  have a := mix_all (c := c) (i := i) (harg1 := harg1) (harg3 := harg3) (harg6 := harg6) (harg7 := harg7) (harg11 := harg11) (harg12 := harg12) (harg18 := harg18) (arg24 := arg24) R hY []
  have a0 : ∀ o p q, (fin.sl.v827 (F := Ideal) c i arg1 harg1 arg3 harg3 arg6 harg6 arg7 harg7 arg11 harg11 arg12 harg12 arg18 harg18 arg24 x1 x3 x6 x7 x11 x12 y18) (ix3 o p q) = ((Y18 0 p q + D.addMix n 0 0 p q) + D.addMix n 1 0 p q : ℝ) := fun o p q => by unfold fin.sl.v827; exact a 0 o p q
  have a1 : ∀ o p q, (fin.sl.v844 (F := Ideal) c i arg1 harg1 arg3 harg3 arg6 harg6 arg7 harg7 arg11 harg11 arg12 harg12 arg13 harg13 arg18 harg18 arg24 x1 x3 x6 x7 x11 x12 x13 y18) (ix3 o p q) = ((Y18 1 p q + D.addMix n 0 1 p q) + D.addMix n 1 1 p q : ℝ) := fun o p q => by
    unfold fin.sl.v844 fin.sl.H18_9
    rw [View.readCov_skip _ _ _ _ _ (by decide)]
    exact a 1 o p q
  have a2 : ∀ o p q, (fin.sl.v861 (F := Ideal) c i arg1 harg1 arg3 harg3 arg6 harg6 arg7 harg7 arg11 harg11 arg12 harg12 arg13 harg13 arg18 harg18 arg24 x1 x3 x6 x7 x11 x12 x13 y18) (ix3 o p q) = ((Y18 2 p q + D.addMix n 0 2 p q) + D.addMix n 1 2 p q : ℝ) := fun o p q => by
    unfold fin.sl.v861 fin.sl.H18_10 fin.sl.H18_9
    rw [View.readCov_skip _ _ _ _ _ (by decide), View.readCov_skip _ _ _ _ _ (by decide)]
    exact a 2 o p q
  have a3 : ∀ o p q, (fin.sl.v878 (F := Ideal) c i arg1 harg1 arg3 harg3 arg6 harg6 arg7 harg7 arg11 harg11 arg12 harg12 arg13 harg13 arg18 harg18 arg24 x1 x3 x6 x7 x11 x12 x13 y18) (ix3 o p q) = ((Y18 3 p q + D.addMix n 0 3 p q) + D.addMix n 1 3 p q : ℝ) := fun o p q => by
    unfold fin.sl.v878 fin.sl.H18_11 fin.sl.H18_10 fin.sl.H18_9
    rw [View.readCov_skip _ _ _ _ _ (by decide), View.readCov_skip _ _ _ _ _ (by decide), View.readCov_skip _ _ _ _ _ (by decide)]
    exact a 3 o p q
  have hP : View.PiecesOf (Val := Elt Ideal) (s := S4x128x128) (e := .f32) (buf3 (kept fun h i j => (Y18 h i j + D.addMix n 0 h i j) + D.addMix n 1 h i j))
      [⟨Rect.unit ![3, 0, 0] S1x128x128.size inb_S4x128x128_S1x128x128_3_0_0, k0_pay15 (F := Ideal) (fin.sl.r_56 (F := Ideal) c i arg1 harg1 arg3 harg3 arg6 harg6 arg7 harg7 arg11 harg11 arg12 harg12 arg13 harg13 arg18 harg18 arg24 x1 x3 x6 x7 x11 x12 x13 y18)⟩, ⟨Rect.unit ![2, 0, 0] S1x128x128.size inb_S4x128x128_S1x128x128_2_0_0, k0_pay12 (F := Ideal) (View.readAt (Elt Ideal) arg13.view (Rect.unit (s := S128x128) ![0, 0] S128x128.size inb_S128x128_S128x128_0_0).toLoadRect (harg13.unread x13)) (fin.sl.v861 (F := Ideal) c i arg1 harg1 arg3 harg3 arg6 harg6 arg7 harg7 arg11 harg11 arg12 harg12 arg13 harg13 arg18 harg18 arg24 x1 x3 x6 x7 x11 x12 x13 y18)⟩,
        ⟨Rect.unit ![1, 0, 0] S1x128x128.size inb_S4x128x128_S1x128x128_1_0_0, k0_pay10 (F := Ideal) (View.readAt (Elt Ideal) arg13.view (Rect.unit (s := S128x128) ![0, 0] S128x128.size inb_S128x128_S128x128_0_0).toLoadRect (harg13.unread x13)) (fin.sl.v844 (F := Ideal) c i arg1 harg1 arg3 harg3 arg6 harg6 arg7 harg7 arg11 harg11 arg12 harg12 arg13 harg13 arg18 harg18 arg24 x1 x3 x6 x7 x11 x12 x13 y18)⟩, ⟨Rect.unit ![0, 0, 0] S1x128x128.size inb_S4x128x128_S1x128x128_0_0_0, k0_pay8 (F := Ideal) (View.readAt (Elt Ideal) arg13.view (Rect.unit (s := S128x128) ![0, 0] S128x128.size inb_S128x128_S128x128_0_0).toLoadRect (harg13.unread x13)) (fin.sl.v827 (F := Ideal) c i arg1 harg1 arg3 harg3 arg6 harg6 arg7 harg7 arg11 harg11 arg12 harg12 arg18 harg18 arg24 x1 x3 x6 x7 x11 x12 y18)⟩] := by
    unfold fin.sl.r_56
    refine ⟨?_, ?_, ?_, ?_, trivial⟩ <;> intro x <;> idx_vars x
    all_goals simp only [k0_pay15, k0_pay14, k0_pay12, k0_pay10, k0_pay8, load_eq harg13]
    all_goals pointwise
    all_goals simp only [a0, a1, a2, a3, hM]
    all_goals refine Eq.trans ?_ (buf3_emb _ _ x0 x1 x2 (by decide)).symm
    all_goals by_cases hl : low x1 x2
    all_goals simp only [kept, hl, EReal.coe_one, EReal.coe_zero, zero_lt_one, lt_irrefl, ite_true, ite_false]
    all_goals rfl
  unfold fin
  dsimp only
  unfold fin.sl.H18_11 fin.sl.H18_10 fin.sl.H18_9
  refine read_over _ _ _ (fin.sl.H18_8 (F := Ideal) c i arg1 harg1 arg3 harg3 arg6 harg6 arg7 harg7 arg11 harg11 arg12 harg12 arg18 harg18 arg24 x1 x3 x6 x7 x11 x12 y18) _ hP _ ?_
  fin_cases h
  · exact ⟨_, .tail _ (.tail _ (.tail _ (.head _))), mem_slab inb_S4x128x128_S1x128x128_0_0_0 _ _ _ rfl⟩
  · exact ⟨_, .tail _ (.tail _ (.head _)), mem_slab inb_S4x128x128_S1x128x128_1_0_0 _ _ _ rfl⟩
  · exact ⟨_, .tail _ (.head _), mem_slab inb_S4x128x128_S1x128x128_2_0_0 _ _ _ rfl⟩
  · exact ⟨_, .head _, mem_slab inb_S4x128x128_S1x128x128_3_0_0 _ _ _ rfl⟩

include R in
theorem bias_end (hY : ∀ r k, y26 (ix2 r k) = (Y26 r k : EReal)) :
    View.PiecesOf (Val := Elt Ideal) (s := S128x512) (e := .f32) (buf2 fun r e => ∑ d : Fin 256, (Y26 r (cc ⟨e.val / 128, by omega⟩ d) + D.addBias n r (cc ⟨e.val / 128, by omega⟩ d))) (fin (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x3 x4 x5 x6 x7 x8 x9 x10 x11 x12 x13 x14 y18 y20 y21 y22 y26 y27 y28).2.2.2.2.1 := by
  have hP : View.PiecesOf (Val := Elt Ideal) (s := S128x1024) (e := .f32) (buf2 fun r k => Y26 r k + D.addBias n r k) (fin.sl.H26_1 (F := Ideal) c arg1 harg1 arg3 harg3 arg11 harg11 arg12 harg12 arg24 arg26 harg26 x1 x3 x11 x12 y26) := by
    have e := sum_pieces (c := c) (i := i) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) (harg25 := harg25) (harg26 := harg26) (harg27 := harg27) (harg28 := harg28) (x13 := x13) (x14 := x14) (y18 := y18) (y20 := y20) (y21 := y21) (y22 := y22) (y26 := y26) (y27 := y27) (y28 := y28) R hY
    unfold mid at e
    exact e
  have b : ∀ (g : Fin 4) (inb : ∀ x : Fin 2, ![0, 256 * g.val] x + ![128, 256] x ≤ (![128, 1024] : Fin 2 → ℕ) x) (r : Fin 128) (d : Fin 256),
      arg26.view.readCov (fin.sl.H26_1 (F := Ideal) c arg1 harg1 arg3 harg3 arg11 harg11 arg12 harg12 arg24 arg26 harg26 x1 x3 x11 x12 y26) (Rect.unit (s := S128x1024) ![0, 256 * g.val] ![128, 256] inb).toLoadRect (ix2 r d) = (Y26 r (cc g d) + D.addBias n r (cc g d) : ℝ) := by
    intro g inb r d
    rw [View.readCov_eq_canon']
    have e := View.canon_append_of_piecesOf (Val := Elt Ideal) (e := .f32) _ [] _ hP (ix2 r (cc g d)) (by unfold fin.sl.H26_1; exact ⟨_, .head _, mem_unit inb_S128x1024_S128x1024_0_0 _ _ (by omega) (by omega)⟩)
    rw [List.append_nil] at e
    exact (congrArg _ (Rows.emb_unit inb r d r (cc g d) (Nat.zero_add _).symm (by show d.val + g.val * 256 = 256 * g.val + d.val; omega))).trans e
  have b0 : ∀ r d, (fin.sl.v834 (F := Ideal) c arg1 harg1 arg3 harg3 arg11 harg11 arg12 harg12 arg24 arg26 harg26 x1 x3 x11 x12 y26) (ix2 r d) = _ := fun r d => by unfold fin.sl.v834; exact b 0 inb_S128x1024_S128x256_0_0 r d
  have b1 : ∀ r d, (fin.sl.v851 (F := Ideal) c arg1 harg1 arg3 harg3 arg11 harg11 arg12 harg12 arg24 arg26 harg26 x1 x3 x11 x12 y26) (ix2 r d) = _ := fun r d => by unfold fin.sl.v851; exact b 1 inb_S128x1024_S128x256_0_256 r d
  have b2 : ∀ r d, (fin.sl.v868 (F := Ideal) c arg1 harg1 arg3 harg3 arg11 harg11 arg12 harg12 arg24 arg26 harg26 x1 x3 x11 x12 y26) (ix2 r d) = _ := fun r d => by unfold fin.sl.v868; exact b 2 inb_S128x1024_S128x256_0_512 r d
  have b3 : ∀ r d, (fin.sl.v885 (F := Ideal) c arg1 harg1 arg3 harg3 arg11 harg11 arg12 harg12 arg24 arg26 harg26 x1 x3 x11 x12 y26) (ix2 r d) = _ := fun r d => by unfold fin.sl.v885; exact b 3 inb_S128x1024_S128x256_0_768 r d
  have q0 : ∀ (x : Fin 128) (h : x.val / 128 < 4), (⟨x.val / 128, h⟩ : Fin 4) = 0 := fun x h => Fin.ext (by show x.val / 128 = 0; omega)
  have q1 : ∀ (x : Fin 128) (h : (128 + x.val) / 128 < 4), (⟨(128 + x.val) / 128, h⟩ : Fin 4) = 1 := fun x h => Fin.ext (by show (128 + x.val) / 128 = 1; omega)
  have q2 : ∀ (x : Fin 128) (h : (256 + x.val) / 128 < 4), (⟨(256 + x.val) / 128, h⟩ : Fin 4) = 2 := fun x h => Fin.ext (by show (256 + x.val) / 128 = 2; omega)
  have q3 : ∀ (x : Fin 128) (h : (384 + x.val) / 128 < 4), (⟨(384 + x.val) / 128, h⟩ : Fin 4) = 3 := fun x h => Fin.ext (by show (384 + x.val) / 128 = 3; omega)
  unfold fin
  dsimp only
  refine ⟨?_, ?_, ?_, ?_, trivial⟩ <;> intro x <;> idx_vars x
  all_goals simp only [k0_pay16, k0_pay13, k0_pay11, k0_pay9]
  all_goals pointwise
  all_goals simp only [b0, b1, b2, b3, Reals.sum_coe]
  all_goals refine Eq.trans ?_ (buf2_emb _ _ x0 x1 (by omega) (by omega)).symm
  all_goals simp only [Nat.zero_add, Fin.eta]
  all_goals simp only [q0, q1, q2, q3]

end Cert.Mx

end
-- ==== Proof.Mx.Total.lean ====
module

public import proofs.«01_k».proof.Proof.Mx.Last
public import proofs.«01_k».proof.Proof.Mx.State

/-!
The sums before each point, as real numbers: by induction on the points.
-/

@[expose] public section

set_option maxRecDepth 16384

noncomputable section

namespace Cert.Mx

open Cert.KernelMxIdeal Cert.KernelMxIdeal.Gen Idealize.ShloMosaic Idealize.ShloMosaic.TcCoe Idealize.SL.Sem

namespace Data

variable (D : Data) (n : ℕ)

def totMix (h : Fin 4) (i j : Fin 128) : ℝ := ∑ u ∈ Finset.range n, (D.addMix u 0 h i j + D.addMix u 1 h i j)
def totVec (a : Fin 8) (k : Fin 1024) : ℝ := ∑ u ∈ Finset.range n, D.addVec u a k
def totBin (a : Fin 8) (e : Fin 5120) : ℝ := ∑ u ∈ Finset.range n, D.addBin u a e
def totBias (r : Fin 128) (k : Fin 1024) : ℝ := ∑ u ∈ Finset.range n, D.addBias u r k
def totPool (g : Fin 4) (k d : Fin 256) : ℝ := ∑ u ∈ Finset.range n, D.addPool u g k d
def totProj (h : Fin 4) (k d : Fin 256) : ℝ := ∑ u ∈ Finset.range n, D.addProj u h k d

end Data

/-- The sums before point `n` are the real sums over the tiles of the points before it. -/
structure Holds (D : Data) (n : ℕ) (S : Sums Ideal) : Prop where
  mix : ∀ h i j, S.dws (ix3 h i j) = (D.totMix n h i j : EReal)
  vec : ∀ a k, S.vec (ix2 a k) = (D.totVec n a k : EReal)
  bin : ∀ a e, S.dbin (ix2 a e) = (D.totBin n a e : EReal)
  bias : ∀ r k, S.dsum (ix2 r k) = (D.totBias n r k : EReal)
  pool : ∀ g k d, S.pool (ix3 g k d) = (D.totPool n g k d : EReal)
  proj : ∀ h k d, S.proj (ix3 h k d) = (D.totProj n h k d : EReal)
  win : n ≠ 0 → n ≤ 15 → Kept D n S.win

theorem zero_real : (zero : Ideal .f32) = ((0 : ℝ) : EReal) := Ideal.ofBits_zero_f32

theorem clear_real {s : Shape} (t : Fin cfg0.N) (y : Vec Ideal s .f32) (j : s.Idx) (r : ℝ) (h : y j = (r : EReal)) (h0 : t.val = 0 → r = 0) :
    clear (grid0.coords t) y j = (r : EReal) := by
  rw [clear]
  split
  · next hf => rw [h0 ((first_iff t).mp hf)]; exact zero_real
  · exact h

variable (m : (ℓ : Loc nD τ sig) → Buf (Elt Ideal) ℓ) (c : Dev nD) {D : Data}

theorem holds_zero : Holds D 0 (st m c 0) where
  mix _ _ _ := zero_real
  vec _ _ := zero_real
  bin _ _ := zero_real
  bias _ _ := zero_real
  pool _ _ _ := zero_real
  proj _ _ _ := zero_real
  win h := absurd rfl h

variable (hR : ∀ t : Fin cfg0.N, Reads D t.val (iblk m c 0 t) (iblk m c 1 t) (iblk m c 2 t) (iblk m c 3 t) (iblk m c 4 t) (iblk m c 5 t) (iblk m c 6 t) (iblk m c 7 t) (iblk m c 8 t)
  (iblk m c 9 t) (iblk m c 10 t) (iblk m c 11 t))
  (hM : ∀ (t : Fin cfg0.N) (i j : Fin 128), iblk m c 12 t (ix2 i j) = ((if low i j then 1 else 0 : ℝ) : EReal))

theorem coords_zero (t : Fin cfg0.N) : (grid0.coords t 0).val = t.val :=
  (by decide +kernel : ∀ t : Fin grid0.N, (grid0.coords t 0).val = t.val) t

section step

variable {t : Fin cfg0.N} {S : Sums Ideal} (H : Holds D t.val S)
include H

theorem c_mix (h : Fin 4) (i j : Fin 128) : clear (grid0.coords t) S.dws (ix3 h i j) = (D.totMix t.val h i j : EReal) :=
  clear_real t _ _ _ (H.mix h i j) fun e => by rw [Data.totMix, e, Finset.sum_range_zero]
theorem c_vec (a : Fin 8) (k : Fin 1024) : clear (grid0.coords t) S.vec (ix2 a k) = (D.totVec t.val a k : EReal) :=
  clear_real t _ _ _ (H.vec a k) fun e => by rw [Data.totVec, e, Finset.sum_range_zero]
theorem c_bin (a : Fin 8) (k : Fin 5120) : clear (grid0.coords t) S.dbin (ix2 a k) = (D.totBin t.val a k : EReal) :=
  clear_real t _ _ _ (H.bin a k) fun e => by rw [Data.totBin, e, Finset.sum_range_zero]
theorem c_bias (r : Fin 128) (k : Fin 1024) : clear (grid0.coords t) S.dsum (ix2 r k) = (D.totBias t.val r k : EReal) :=
  clear_real t _ _ _ (H.bias r k) fun e => by rw [Data.totBias, e, Finset.sum_range_zero]
theorem c_pool (h : Fin 4) (i j : Fin 256) : clear (grid0.coords t) S.pool (ix3 h i j) = (D.totPool t.val h i j : EReal) :=
  clear_real t _ _ _ (H.pool h i j) fun e => by rw [Data.totPool, e, Finset.sum_range_zero]
theorem c_proj (h : Fin 4) (i j : Fin 256) : clear (grid0.coords t) S.proj (ix3 h i j) = (D.totProj t.val h i j : EReal) :=
  clear_real t _ _ _ (H.proj h i j) fun e => by rw [Data.totProj, e, Finset.sum_range_zero]

theorem c_win : Kept D t.val (clearRows (grid0.coords t) S.win) := by
  have hN : t.val < 16 := Nat.lt_of_lt_of_eq t.isLt N_0
  by_cases e : t.val = 0
  · intro k l
    rw [clearRows, if_pos ((first_iff t).mpr e), if_pos (show 256 ≤ ((ix2 (⟨256 + k.val, by omega⟩ : Fin 272) l : S272x1024.Idx) 0).val from Nat.le_add_right _ _), e]
    refine zero_real.trans (congrArg Real.toEReal ?_)
    show 0 = D.wx ((15 - 0) * 256 + (256 + k.val)) _ _
    rw [Data.wx, dif_neg (by omega)]
  · rw [clearRows, if_neg (fun hf => e ((first_iff t).mp hf))]
    exact H.win e (by omega)

include hR

theorem n_mix (h : Fin 4) (i j : Fin 128) : (next m c t S).dws (ix3 h i j) = (D.totMix (t.val + 1) h i j : EReal) := by
  refine (mix_next (hR t) (c_mix H) h i j).trans ?_
  rw [Data.totMix, Data.totMix, Finset.sum_range_succ, add_assoc]

theorem n_vec (a : Fin 8) (k : Fin 1024) : (next m c t S).vec (ix2 a k) = (D.totVec (t.val + 1) a k : EReal) := by
  refine (vec_next (hR t) (c_vec H) a k).trans ?_
  rw [Data.totVec, Data.totVec, Finset.sum_range_succ]

theorem n_bin (a : Fin 8) (e : Fin 5120) : (next m c t S).dbin (ix2 a e) = (D.totBin (t.val + 1) a e : EReal) := by
  have hN : t.val < 16 := Nat.lt_of_lt_of_eq t.isLt N_0
  refine (bin_next (hR t) (by omega) (coords_zero t) (c_win H) (c_bin H) a e).trans ?_
  rw [Data.totBin, Data.totBin, Finset.sum_range_succ]

theorem n_bias (r : Fin 128) (k : Fin 1024) : (next m c t S).dsum (ix2 r k) = (D.totBias (t.val + 1) r k : EReal) := by
  unfold next midAt
  dsimp only
  refine (sum_next (arg26 := dsumM) (harg26 := Memref.isWhole_whole _) (hR t) (c_bias H) r k).trans ?_
  rw [Data.totBias, Data.totBias, Finset.sum_range_succ]

theorem n_pool (g : Fin 4) (k d : Fin 256) : (next m c t S).pool (ix3 g k d) = (D.totPool (t.val + 1) g k d : EReal) := by
  unfold next midAt
  dsimp only
  refine (pool_next (arg27 := poolM) (harg27 := Memref.isWhole_whole _) (hR t) (c_pool H) g k d).trans ?_
  rw [Data.totPool, Data.totPool, Finset.sum_range_succ]

set_option maxHeartbeats 1000000 in
theorem n_proj (g : Fin 4) (k d : Fin 256) : (next m c t S).proj (ix3 g k d) = (D.totProj (t.val + 1) g k d : EReal) := by
  unfold next midAt
  dsimp only
  refine (proj_next (arg28 := projM) (harg28 := Memref.isWhole_whole _) (hR t) (c_proj H) g k d).trans ?_
  rw [Data.totProj, Data.totProj, Finset.sum_range_succ]

theorem n_win (h : t.val + 1 ≤ 15) : Kept D (t.val + 1) (next m c t S).win := by
  unfold next midAt
  dsimp only
  exact win_next (hR t) h (coords_zero t) (c_win H)

theorem holds_next : Holds D (t.val + 1) (next m c t S) where
  mix := n_mix m c hR H
  vec := n_vec m c hR H
  bin := n_bin m c hR H
  bias := n_bias m c hR H
  pool := n_pool m c hR H
  proj := n_proj m c hR H
  win _ h := n_win m c hR H h

end step

include hR in
theorem holds_st (t : Fin cfg0.N) : Holds D t.val (st m c t.val) := by
  obtain ⟨n, hn⟩ := t
  induction n with
  | zero => exact holds_zero m c
  | succ k ih =>
    have e := st_succ m c ⟨k, Nat.lt_of_succ_lt hn⟩
    show Holds D (k + 1) (st m c (k + 1))
    rw [e]
    exact holds_next m c hR (ih (Nat.lt_of_succ_lt hn))

end Cert.Mx

end
-- ==== Proof.Mx.Host.lean ====
module

public import proofs.«01_k».proof.Proof.Mx.State
public import proofs.«01_k».proof.Proof.Gen.RefMxIdeal.Read
public import Idealize.ShloMosaic.Lib.Pointwise
public import Idealize.ShloMosaic.Lib.StableHlo.RunRead

/-!
What the host line leaves in the buffers that the kernel reads.
-/

@[expose] public section

set_option maxRecDepth 16384

noncomputable section

namespace Cert.Mx

open Cert.KernelMxIdeal Cert.KernelMxIdeal.Gen Idealize.ShloMosaic Idealize.ShloMosaic.TcCoe Idealize.SL.Sem

variable (m : (ℓ : Loc nD τ sig) → Buf (Elt Ideal) ℓ) (c : Dev nD)

/-- The chunk that each of a block's 128 positions lies in, as the host computes it. -/
def quot : IVec S128 32 :=
  select (andi (cmpi .ne (signi (iotaInDim S128 32 0)) (broadcastInDim S128 ![] bcast_S_S128 (signi (constantI S_ 32 64#32))))
      (cmpi .ne (Host.remsi (iotaInDim S128 32 0) (broadcastInDim S128 ![] bcast_S_S128 (constantI S_ 32 64#32)))
        (broadcastInDim S128 ![] bcast_S_S128 (constantI S_ 32 0#32))))
    (subi (Host.divsi (iotaInDim S128 32 0) (broadcastInDim S128 ![] bcast_S_S128 (constantI S_ 32 64#32)))
      (broadcastInDim S128 ![] bcast_S_S128 (constantI S_ 32 1#32)))
    (Host.divsi (iotaInDim S128 32 0) (broadcastInDim S128 ![] bcast_S_S128 (constantI S_ 32 64#32)))

theorem quot_eq (i : Fin 128) : quot (ix1 i) = BitVec.ofNat 32 (i.val / 64) :=
  (by decide +kernel : ∀ i : Fin 128, quot (ix1 i) = BitVec.ofNat 32 (i.val / 64)) i

/-- The mask of the spatial weights. -/
def maskArr : FVec Ideal S128x128 .f32 :=
  uitofp .f32 (cmpi .sge (broadcastInDim S128x128 ![0, 1] bcast_S128x1_S128x128_0_1 (broadcastInDim S128x1 ![0] bcast_S128_S128x1_0 quot))
    (broadcastInDim S128x128 ![0, 1] bcast_S1x128_S128x128_0_1 (broadcastInDim S1x128 ![1] bcast_S128_S1x128_1 quot)))

theorem V2 : V m c main_v2 = addf (F := Ideal) (s := S4096x5120) (φ := .f32) (m ((c : Thread nD τ).loc main_arg0)) (broadcastInDim S4096x5120 ![0, 1] bcast_S1x5120_S4096x5120_0_1 (broadcastInDim S1x5120 ![1] bcast_S5120_S1x5120_1 (m ((c : Thread nD τ).loc main_arg1)))) := by
  show StableHlo.after _ _ _ = _
  simp only [hostOps0, hostOps0_1, hostOps0_2, hostOps0_3, hostOps0_4, List.flatten_cons, List.flatten_nil, List.append_nil, List.cons_append, List.nil_append]
  after_reads_simp

theorem V16 : V m c main_v16 = shapeCast S4x128x1 (m ((c : Thread nD τ).loc main_arg7)) shapeCasts_S4x128_S4x128x1 := by
  show StableHlo.after _ _ _ = _
  simp only [hostOps0, hostOps0_1, hostOps0_2, hostOps0_3, hostOps0_4, List.flatten_cons, List.flatten_nil, List.append_nil, List.cons_append, List.nil_append]
  after_reads_simp
  rfl

theorem V10 : V m c main_v10 = maskArr := by
  show StableHlo.after _ _ _ = _
  simp only [hostOps0, hostOps0_1, hostOps0_2, hostOps0_3, hostOps0_4, List.flatten_cons, List.flatten_nil, List.append_nil, List.cons_append, List.nil_append]
  after_reads_simp
  rfl

theorem V14 : V m c main_v14 = (truncf (F := Ideal) .bf16 (mulf (F := Ideal) (m ((c : Thread nD τ).loc main_arg6)) (broadcastInDim S4x128x128 ![0, 1, 2] bcast_S1x128x128_S4x128x128_0_1_2 (broadcastInDim S1x128x128 ![1, 2] bcast_S128x128_S1x128x128_1_2 maskArr))) bitsLt_bf16_f32) := by
  show StableHlo.after _ _ _ = _
  simp only [hostOps0, hostOps0_1, hostOps0_2, hostOps0_3, hostOps0_4, List.flatten_cons, List.flatten_nil, List.append_nil, List.cons_append, List.nil_append]
  after_reads_simp
  rfl

theorem V15 : V m c main_v15 = transpose S4x128x128 [0, 2, 1] (truncf (F := Ideal) .bf16 (mulf (F := Ideal) (m ((c : Thread nD τ).loc main_arg6)) (broadcastInDim S4x128x128 ![0, 1, 2] bcast_S1x128x128_S4x128x128_0_1_2 (broadcastInDim S1x128x128 ![1, 2] bcast_S128x128_S1x128x128_1_2 maskArr))) bitsLt_bf16_f32) transposes_S4x128x128_S4x128x128_0_2_1 := by
  show StableHlo.after _ _ _ = _
  simp only [hostOps0, hostOps0_1, hostOps0_2, hostOps0_3, hostOps0_4, List.flatten_cons, List.flatten_nil, List.append_nil, List.cons_append, List.nil_append]
  after_reads_simp
  rfl

theorem V80 : V m c main_v80 = truncf (F := Ideal) .bf16 (shapeCast S4096x1024 (RefMxIdeal.Read.val_main_v72 (F := Ideal) (m ((c : Thread nD τ).loc main_arg0)) (m ((c : Thread nD τ).loc main_arg1))) shapeCasts_S4096x4x256_S4096x1024) bitsLt_bf16_f32 := by
  show StableHlo.after _ _ _ = _
  simp only [hostOps0, hostOps0_1, hostOps0_2, hostOps0_3, hostOps0_4, List.flatten_cons, List.flatten_nil, List.append_nil, List.cons_append, List.nil_append]
  after_reads_simp
  rfl

theorem V81 : V m c main_v81 = truncf (F := Ideal) .bf16 (m ((c : Thread nD τ).loc main_arg10)) bitsLt_bf16_f32 := by
  show StableHlo.after _ _ _ = _
  simp only [hostOps0, hostOps0_1, hostOps0_2, hostOps0_3, hostOps0_4, List.flatten_cons, List.flatten_nil, List.append_nil, List.cons_append, List.nil_append]
  after_reads_simp

theorem V82 : V m c main_v82 = truncf (F := Ideal) .bf16 (m ((c : Thread nD τ).loc main_arg2)) bitsLt_bf16_f32 := by
  show StableHlo.after _ _ _ = _
  simp only [hostOps0, hostOps0_1, hostOps0_2, hostOps0_3, hostOps0_4, List.flatten_cons, List.flatten_nil, List.append_nil, List.cons_append, List.nil_append]
  after_reads_simp

theorem V86 : V m c main_v86 = truncf (F := Ideal) .bf16 (m ((c : Thread nD τ).loc main_arg8)) bitsLt_bf16_f32 := by
  show StableHlo.after _ _ _ = _
  simp only [hostOps0, hostOps0_1, hostOps0_2, hostOps0_3, hostOps0_4, List.flatten_cons, List.flatten_nil, List.append_nil, List.cons_append, List.nil_append]
  after_reads_simp

theorem V87 : V m c main_v87 = truncf (F := Ideal) .bf16 (m ((c : Thread nD τ).loc main_arg9)) bitsLt_bf16_f32 := by
  show StableHlo.after _ _ _ = _
  simp only [hostOps0, hostOps0_1, hostOps0_2, hostOps0_3, hostOps0_4, List.flatten_cons, List.flatten_nil, List.append_nil, List.cons_append, List.nil_append]
  after_reads_simp

theorem V83 : V m c main_v83 = shapeCast S1x1024 (m ((c : Thread nD τ).loc main_arg3)) shapeCasts_S1024_S1x1024 := by
  show StableHlo.after _ _ _ = _
  simp only [hostOps0, hostOps0_1, hostOps0_2, hostOps0_3, hostOps0_4, List.flatten_cons, List.flatten_nil, List.append_nil, List.cons_append, List.nil_append]
  after_reads_simp
  rfl

theorem V84 : V m c main_v84 = shapeCast S1x1024 (m ((c : Thread nD τ).loc main_arg4)) shapeCasts_S1024_S1x1024 := by
  show StableHlo.after _ _ _ = _
  simp only [hostOps0, hostOps0_1, hostOps0_2, hostOps0_3, hostOps0_4, List.flatten_cons, List.flatten_nil, List.append_nil, List.cons_append, List.nil_append]
  after_reads_simp
  rfl

theorem V85 : V m c main_v85 = shapeCast S1x1024 (m ((c : Thread nD τ).loc main_arg5)) shapeCasts_S1024_S1x1024 := by
  show StableHlo.after _ _ _ = _
  simp only [hostOps0, hostOps0_1, hostOps0_2, hostOps0_3, hostOps0_4, List.flatten_cons, List.flatten_nil, List.append_nil, List.cons_append, List.nil_append]
  after_reads_simp
  rfl

end Cert.Mx

end
-- ==== Proof.Mx.Given.lean ====
module

public import proofs.«01_k».proof.Proof.Mx.Inputs
public import proofs.«01_k».proof.Proof.Gen.RefMxIdeal.Read
public import Idealize.ShloMosaic.Lib.Pointwise

/-!
The arguments of the two programs hold the real inputs.
-/

@[expose] public section

noncomputable section

namespace Cert.Mx

open Cert.RefMxIdeal Idealize.ShloMosaic

/-- The arguments hold the real inputs. -/
structure Given (I : Inputs) (x0 : S4096x5120.Idx → EReal) (x1 : S5120.Idx → EReal) (x2 : S4x256x256.Idx → EReal) (x3 x4 x5 : S1024.Idx → EReal)
    (x6 : S4x128x128.Idx → EReal) (x7 : S4x128.Idx → EReal) (x8 : S4x256x256.Idx → EReal) (x9 : S1024x1024.Idx → EReal)
    (x10 : S4096x1024.Idx → EReal) : Prop where
  h0 : ∀ s e, x0 (ix2 s e) = (I.X s e : EReal)
  h1 : ∀ e, x1 (ix1 e) = (I.B e : EReal)
  h2 : ∀ g k d, x2 (ix3 g k d) = (I.wp g k d : EReal)
  h3 : ∀ k, x3 (ix1 k) = (I.ps k : EReal)
  h4 : ∀ k, x4 (ix1 k) = (I.lg k : EReal)
  h5 : ∀ k, x5 (ix1 k) = (I.lb k : EReal)
  h6 : ∀ h i j, x6 (ix3 h i j) = (I.W h i j : EReal)
  h7 : ∀ h i, x7 (ix2 h i) = (I.bs h i : EReal)
  h8 : ∀ h k d, x8 (ix3 h k d) = (I.wr h k d : EReal)
  h9 : ∀ k e, x9 (ix2 k e) = (I.wo k e : EReal)
  h10 : ∀ s k, x10 (ix2 s k) = (I.dy s k : EReal)

end Cert.Mx

end
-- ==== Proof.Mx.Runs.lean ====
module

public import proofs.«01_k».proof.Proof.Reals
public import Idealize.ShloMosaic.Lib.Pointwise
public import Idealize.ShloMosaic.Lib.Routing.OpsOne

/-!
Running sums down the rows of a matrix, and the same sums taken from the other end, over the reals.
-/

@[expose] public section

set_option maxRecDepth 16384

noncomputable section

namespace Cert.Mx

open Idealize.ShloMosaic Idealize.ShloMosaic.Routing

theorem foldl_real {α : Type} (l : List α) (g : α → EReal) (q : α → ℝ) (hg : ∀ a, g a = (q a : EReal)) (v : ℝ) :
    l.foldl (fun r a => r + g a) (v : EReal) = ((v + (l.map q).sum : ℝ) : EReal) := by
  induction l generalizing v with
  | nil => simp
  | cons a l ih =>
    rw [List.foldl_cons, hg a, ← EReal.coe_add, ih, List.map_cons, List.sum_cons, add_assoc]

/-- A window as high as the matrix, at row `j`, sums the rows it covers. -/
theorem window_sum {R C : ℕ} (lo hi : ℕ) (x : FVec Ideal ⟨2, ![R, C]⟩ .f32) (f : ℕ → Fin C → ℝ) (hx : ∀ i c, x (ix2 i c) = (f i.val c : EReal))
    (init : FVec Ideal ⟨0, ![]⟩ .f32) (hinit : ∀ i, init i = ((0 : ℝ) : EReal))
    (h : Shape.ReduceWindows ⟨2, ![R, C]⟩ (![R, 1] : Fin 2 → ℕ) ![1, 1] ![lo, 0] ![hi, 0] ⟨2, ![R, C]⟩) (hu : 0 < (⟨0, ![]⟩ : Shape).numel)
    (j : Fin R) (c : Fin C) :
    Host.reduceWindowAdd ![R, 1] ![1, 1] ![lo, 0] ![hi, 0] x init h hu (ix2 j c)
      = ((∑ n ∈ Finset.range R, if lo ≤ j.val + n ∧ j.val + n - lo < R then f (j.val + n - lo) c else 0 : ℝ) : EReal) := by
  have hj := j.isLt
  have hc := c.isLt
  show Host.reduceWindow (fun a b : EReal => a + b) ![R, 1] ![1, 1] ![lo, 0] ![hi, 0] x (fun _ : (⟨0, ![]⟩ : Shape).Idx => init (Shape.Idx.first hu)) h hu (ix2 j c) = _
  unfold Host.reduceWindow
  dsimp only
  rw [hinit]
  refine (foldl_real _ _ (fun n => if lo ≤ j.val + n.val ∧ j.val + n.val - lo < R then f (j.val + n.val - lo) c else 0) (fun n => ?_) 0).trans
    (congrArg Real.toEReal ?_)
  · have hw0 : ((shape2 R 1).rowMajor.symm n 0).val = n.val := by rw [symm_col]; rfl
    have hw1 : ((shape2 R 1).rowMajor.symm n 1).val = 0 := by rw [symm_col]; rfl
    split
    · next hin =>
      have h0 := hin 0
      change lo ≤ j.val * 1 + ((shape2 R 1).rowMajor.symm n 0).val ∧ j.val * 1 + ((shape2 R 1).rowMajor.symm n 0).val - lo < R at h0
      rw [hw0, Nat.mul_one] at h0
      rw [if_pos h0]
      refine (congrArg x (funext fun a => Fin.ext ?_)).trans (hx ⟨j.val + n.val - lo, h0.2⟩ c)
      match a with
      | ⟨0, _⟩ =>
        show j.val * 1 + ((shape2 R 1).rowMajor.symm n 0).val - lo = j.val + n.val - lo
        rw [hw0, Nat.mul_one]
      | ⟨1, _⟩ =>
        show c.val * 1 + ((shape2 R 1).rowMajor.symm n 1).val - 0 = c.val
        rw [hw1]
        omega
    · next hin =>
      rw [if_neg fun hle => hin fun a => by
        match a with
        | ⟨0, _⟩ =>
          show lo ≤ j.val * 1 + ((shape2 R 1).rowMajor.symm n 0).val ∧ j.val * 1 + ((shape2 R 1).rowMajor.symm n 0).val - lo < R
          rw [hw0, Nat.mul_one]
          exact hle
        | ⟨1, _⟩ =>
          show 0 ≤ c.val * 1 + ((shape2 R 1).rowMajor.symm n 1).val ∧ c.val * 1 + ((shape2 R 1).rowMajor.symm n 1).val - 0 < C
          rw [hw1]
          omega]
  · rw [zero_add, ← Fin.sum_univ_def]
    refine (Fin.sum_univ_eq_sum_range (fun n => if lo ≤ j.val + n ∧ j.val + n - lo < R then f (j.val + n - lo) c else 0) _).trans ?_
    exact congrArg (fun M => ∑ n ∈ Finset.range M, if lo ≤ j.val + n ∧ j.val + n - lo < R then f (j.val + n - lo) c else 0) (numel_col R)

/-- A running sum: row `j` holds the sum of the rows up to and including `j`. -/
theorem run_down (x : FVec Ideal ⟨2, ![4096, 1024]⟩ .f32) (f : ℕ → Fin 1024 → ℝ) (hx : ∀ i c, x (ix2 i c) = (f i.val c : EReal))
    (init : FVec Ideal ⟨0, ![]⟩ .f32) (hinit : ∀ i, init i = ((0 : ℝ) : EReal))
    (h : Shape.ReduceWindows ⟨2, ![4096, 1024]⟩ (![4096, 1] : Fin 2 → ℕ) ![1, 1] ![4095, 0] ![0, 0] ⟨2, ![4096, 1024]⟩) (hu : 0 < (⟨0, ![]⟩ : Shape).numel)
    (j : Fin 4096) (c : Fin 1024) :
    Host.reduceWindowAdd ![4096, 1] ![1, 1] ![4095, 0] ![0, 0] x init h hu (ix2 j c) = ((∑ n ∈ Finset.range (j.val + 1), f n c : ℝ) : EReal) := by
  refine (window_sum 4095 0 x f hx init hinit h hu j c).trans (congrArg Real.toEReal ?_)
  rw [← Finset.sum_filter]
  refine Finset.sum_nbij' (fun n => j.val + n - 4095) (fun n => n + 4095 - j.val) (fun n hn => ?_) (fun n hn => ?_) (fun n hn => ?_) (fun n hn => ?_) (fun n hn => rfl)
  all_goals simp only [Finset.mem_filter, Finset.mem_range] at hn ⊢
  all_goals omega

/-- A running sum from the last row: row `j` holds the sum of the rows from `j` on. -/
theorem run_up (x : FVec Ideal ⟨2, ![4096, 1024]⟩ .f32) (f : ℕ → Fin 1024 → ℝ) (hx : ∀ i c, x (ix2 i c) = (f i.val c : EReal))
    (init : FVec Ideal ⟨0, ![]⟩ .f32) (hinit : ∀ i, init i = ((0 : ℝ) : EReal))
    (h : Shape.ReduceWindows ⟨2, ![4096, 1024]⟩ (![4096, 1] : Fin 2 → ℕ) ![1, 1] ![0, 0] ![4095, 0] ⟨2, ![4096, 1024]⟩) (hu : 0 < (⟨0, ![]⟩ : Shape).numel)
    (j : Fin 4096) (c : Fin 1024) :
    Host.reduceWindowAdd ![4096, 1] ![1, 1] ![0, 0] ![4095, 0] x init h hu (ix2 j c) = ((∑ n ∈ Finset.Ico j.val 4096, f n c : ℝ) : EReal) := by
  refine (window_sum 0 4095 x f hx init hinit h hu j c).trans (congrArg Real.toEReal ?_)
  rw [← Finset.sum_filter]
  refine Finset.sum_nbij' (fun n => j.val + n - 0) (fun n => n - j.val) (fun n hn => ?_) (fun n hn => ?_) (fun n hn => ?_) (fun n hn => ?_) (fun n hn => rfl)
  all_goals simp only [Finset.mem_filter, Finset.mem_range, Finset.mem_Ico] at hn ⊢
  all_goals omega

/-- The two running sums that a window's gradient is made of leave the rows of the window. -/
theorem run_window (q : ℕ → ℝ) (j w : ℕ) (hj : j < 4096) :
    ∑ n ∈ Finset.Ico j 4096, (q n - if n + w < 4096 then q (n + w) else 0) = ∑ i ∈ Finset.range w, if j + i < 4096 then q (j + i) else 0 := by
  have e1 : ∑ n ∈ Finset.Ico j 4096, (if n + w < 4096 then q (n + w) else 0) = ∑ n ∈ Finset.Ico (j + w) 4096, q n := by
    rw [← Finset.sum_filter]
    refine Finset.sum_nbij' (fun n => n + w) (fun n => n - w) (fun n hn => ?_) (fun n hn => ?_) (fun n hn => ?_) (fun n hn => ?_) (fun n hn => rfl)
    all_goals simp only [Finset.mem_filter, Finset.mem_Ico] at hn ⊢
    all_goals omega
  have e2 : ∑ i ∈ Finset.range w, (if j + i < 4096 then q (j + i) else 0) = ∑ n ∈ Finset.Ico j (min (j + w) 4096), q n := by
    rw [← Finset.sum_filter]
    refine Finset.sum_nbij' (fun n => j + n) (fun n => n - j) (fun n hn => ?_) (fun n hn => ?_) (fun n hn => ?_) (fun n hn => ?_) (fun n hn => rfl)
    all_goals simp only [Finset.mem_filter, Finset.mem_range, Finset.mem_Ico] at hn ⊢
    all_goals omega
  rw [Finset.sum_sub_distrib, e1, e2, sub_eq_iff_eq_add]
  by_cases h : j + w ≤ 4096
  · rw [min_eq_left h]
    exact (Finset.sum_Ico_consecutive q (by omega) h).symm
  · rw [min_eq_right (by omega), Finset.Ico_eq_empty (by omega : ¬ j + w < 4096), Finset.sum_empty, add_zero]

end Cert.Mx

end
-- ==== Proof.Mx.RefPool.lean ====
module

public import proofs.«01_k».proof.Proof.Mx.Given
public import proofs.«01_k».proof.Proof.Mx.Runs

/-!
The pooled rows, as the host computes them from a running sum.
-/

@[expose] public section

set_option maxRecDepth 16384

noncomputable section

namespace Cert.Mx

open Cert.RefMxIdeal Cert.RefMxIdeal.Read Idealize.ShloMosaic

variable {I : Inputs} {x0 : S4096x5120.Idx → EReal} {x1 : S5120.Idx → EReal} (h0 : ∀ s e, x0 (ix2 s e) = (I.X s e : EReal)) (h1 : ∀ e, x1 (ix1 e) = (I.B e : EReal))

theorem len2 (s : Fin 4096) : (val_main_v18 (F := Ideal) (ix1 s)).toInt = (min (s.val + 1) 2 : ℕ) :=
  (by decide +kernel : ∀ s : Fin 4096, (val_main_v18 (F := Ideal) (ix1 s)).toInt = (min (s.val + 1) 2 : ℕ)) s
theorem len4 (s : Fin 4096) : (val_main_v32 (F := Ideal) (ix1 s)).toInt = (min (s.val + 1) 4 : ℕ) :=
  (by decide +kernel : ∀ s : Fin 4096, (val_main_v32 (F := Ideal) (ix1 s)).toInt = (min (s.val + 1) 4 : ℕ)) s
theorem len8 (s : Fin 4096) : (val_main_v46 (F := Ideal) (ix1 s)).toInt = (min (s.val + 1) 8 : ℕ) :=
  (by decide +kernel : ∀ s : Fin 4096, (val_main_v46 (F := Ideal) (ix1 s)).toInt = (min (s.val + 1) 8 : ℕ)) s
theorem len16 (s : Fin 4096) : (val_main_v60 (F := Ideal) (ix1 s)).toInt = (min (s.val + 1) 16 : ℕ) :=
  (by decide +kernel : ∀ s : Fin 4096, (val_main_v60 (F := Ideal) (ix1 s)).toInt = (min (s.val + 1) 16 : ℕ)) s

theorem c20 (s : Fin 4096) (a : Fin 1) : val_main_v20 (F := Ideal) (ix2 s a) = (cnt s 0 : EReal) := by
  simp only [val_main_v20, val_main_v19]
  pointwise
  show (((val_main_v18 (F := Ideal) (ix1 s)).toInt : ℝ) : EReal) = _
  rw [len2]
  rfl

theorem c34 (s : Fin 4096) (a : Fin 1) : val_main_v34 (F := Ideal) (ix2 s a) = (cnt s 1 : EReal) := by
  simp only [val_main_v34, val_main_v33]
  pointwise
  show (((val_main_v32 (F := Ideal) (ix1 s)).toInt : ℝ) : EReal) = _
  rw [len4]
  rfl

theorem c48 (s : Fin 4096) (a : Fin 1) : val_main_v48 (F := Ideal) (ix2 s a) = (cnt s 2 : EReal) := by
  simp only [val_main_v48, val_main_v47]
  pointwise
  show (((val_main_v46 (F := Ideal) (ix1 s)).toInt : ℝ) : EReal) = _
  rw [len8]
  rfl

theorem c62 (s : Fin 4096) (a : Fin 1) : val_main_v62 (F := Ideal) (ix2 s a) = (cnt s 3 : EReal) := by
  simp only [val_main_v62, val_main_v61]
  pointwise
  show (((val_main_v60 (F := Ideal) (ix1 s)).toInt : ℝ) : EReal) = _
  rw [len16]
  rfl

include h0 h1 in
theorem r2 (s : Fin 4096) (e : Fin 5120) : val_main_v2 (F := Ideal) x0 x1 (ix2 s e) = (I.z s e : EReal) := by
  simp only [val_main_v2, val_main_v1, val_main_v0]
  pointwise
  rw [h0, h1, ← EReal.coe_add]
  rfl

include h0 h1 in
theorem r3 (s : Fin 4096) (k : Fin 1024) : val_main_v3 (F := Ideal) x0 x1 (ix2 s k) = (I.z s (zc 0 k) : EReal) := by
  simp only [val_main_v3]
  pointwise
  exact r2 h0 h1 s (zc 0 k)

include h0 h1 in
theorem r8 (s : Fin 4096) (k : Fin 1024) : val_main_v8 (F := Ideal) x0 x1 (ix2 s k) = ((∑ n ∈ Finset.range (s.val + 1), I.zn n k : ℝ) : EReal) := by
  unfold val_main_v8
  refine run_down _ I.zn (fun i c => ?_) _ (fun i => Ideal.ofBits_zero_f32) _ _ s k
  rw [r3 h0 h1, Inputs.zn, dif_pos i.isLt]

theorem pool_cc (s : Fin 4096) (g : Fin 4) (d : Fin 256) :
    I.pool s (cc g d) = (∑ n ∈ Finset.range (s.val + 1), I.zn n (cc g d) - ∑ n ∈ Finset.range (s.val + 1 - wl g), I.zn n (cc g d)) / cnt s g
      - I.z s (zc 0 (cc g d)) := by
  have e : (⟨(cc g d).val / 256, by omega⟩ : Fin 4) = g := Fin.ext (by show (d.val + g.val * 256) / 256 = g.val; omega)
  rw [Inputs.pool, e]

theorem pool_of (s : Fin 4096) (g : Fin 4) (d : Fin 256) {n z q c : EReal} (hn : n = ((∑ n ∈ Finset.range (s.val + 1), I.zn n (cc g d) : ℝ) : EReal))
    (hz : z = (I.z s (zc 0 (cc g d)) : EReal)) (hc : c = (cnt s g : EReal))
    (hq : q = ((∑ n ∈ Finset.range (s.val + 1 - wl g), I.zn n (cc g d) : ℝ) : EReal)) : Ideal.div (n - q) c - z = (I.pool s (cc g d) : EReal) := by
  rw [hn, hz, hc, hq, ← EReal.coe_sub, Reals.div_real _ (cnt_ne s g), ← EReal.coe_sub, pool_cc]

include h0 h1 in
theorem r25 (s : Fin 4096) (d : Fin 256) : val_main_v25 (F := Ideal) x0 x1 (ix2 s d) = (I.pool s (cc 0 d) : EReal) := by
  simp only [val_main_v25, val_main_v24, val_main_v23, val_main_v22, val_main_v21, val_main_v15, val_main_v14, val_main_v13, val_main_v12, val_main_cst]
  pointwise
  have e : ∀ h, (⟨d.val, h⟩ : Fin 1024) = cc 0 d := fun _ => Fin.ext (by simp [cc]; try omega)
  simp only [e, r8 h0 h1, r3 h0 h1]
  refine pool_of s 0 d rfl rfl (c20 s 0) ?_
  split
  · next h =>
    rw [show s.val + 1 - wl 0 = 0 by simp only [wl]; simp; omega]
    rfl
  · next h =>
    rw [show s.val + 1 - wl 0 = s.val - 2 + 1 by simp only [wl]; simp; omega]

include h0 h1 in
theorem r39 (s : Fin 4096) (d : Fin 256) : val_main_v39 (F := Ideal) x0 x1 (ix2 s d) = (I.pool s (cc 1 d) : EReal) := by
  simp only [val_main_v39, val_main_v38, val_main_v37, val_main_v36, val_main_v35, val_main_v29, val_main_v28, val_main_v27, val_main_v26, val_main_cst_2]
  pointwise
  have e : ∀ h, (⟨256 + d.val, h⟩ : Fin 1024) = cc 1 d := fun _ => Fin.ext (by simp [cc]; try omega)
  simp only [e, r8 h0 h1, r3 h0 h1]
  refine pool_of s 1 d rfl rfl (c34 s 0) ?_
  split
  · next h =>
    rw [show s.val + 1 - wl 1 = 0 by simp only [wl]; simp; omega]
    rfl
  · next h =>
    rw [show s.val + 1 - wl 1 = s.val - 4 + 1 by simp only [wl]; simp; omega]

include h0 h1 in
theorem r53 (s : Fin 4096) (d : Fin 256) : val_main_v53 (F := Ideal) x0 x1 (ix2 s d) = (I.pool s (cc 2 d) : EReal) := by
  simp only [val_main_v53, val_main_v52, val_main_v51, val_main_v50, val_main_v49, val_main_v43, val_main_v42, val_main_v41, val_main_v40, val_main_cst_5]
  pointwise
  have e : ∀ h, (⟨512 + d.val, h⟩ : Fin 1024) = cc 2 d := fun _ => Fin.ext (by simp [cc]; try omega)
  simp only [e, r8 h0 h1, r3 h0 h1]
  refine pool_of s 2 d rfl rfl (c48 s 0) ?_
  split
  · next h =>
    rw [show s.val + 1 - wl 2 = 0 by simp only [wl]; simp; omega]
    rfl
  · next h =>
    rw [show s.val + 1 - wl 2 = s.val - 8 + 1 by simp only [wl]; simp; omega]

include h0 h1 in
theorem r67 (s : Fin 4096) (d : Fin 256) : val_main_v67 (F := Ideal) x0 x1 (ix2 s d) = (I.pool s (cc 3 d) : EReal) := by
  simp only [val_main_v67, val_main_v66, val_main_v65, val_main_v64, val_main_v63, val_main_v57, val_main_v56, val_main_v55, val_main_v54, val_main_cst_8]
  pointwise
  have e : ∀ h, (⟨768 + d.val, h⟩ : Fin 1024) = cc 3 d := fun _ => Fin.ext (by simp [cc]; try omega)
  simp only [e, r8 h0 h1, r3 h0 h1]
  refine pool_of s 3 d rfl rfl (c62 s 0) ?_
  split
  · next h =>
    rw [show s.val + 1 - wl 3 = 0 by simp only [wl]; simp; omega]
    rfl
  · next h =>
    rw [show s.val + 1 - wl 3 = s.val - 16 + 1 by simp only [wl]; simp; omega]

include h0 h1 in
theorem r72 (s : Fin 4096) (g : Fin 4) (d : Fin 256) : val_main_v72 (F := Ideal) x0 x1 (ix3 s g d) = (I.pool s (cc g d) : EReal) := by
  simp only [val_main_v72, val_main_v71, val_main_v70, val_main_v69, val_main_v68]
  pointwise
  simp only [r25 h0 h1, r39 h0 h1, r53 h0 h1, r67 h0 h1]
  fin_cases g <;> rfl

end Cert.Mx

end
-- ==== Proof.Mx.Blocks.lean ====
module

public import proofs.«01_k».proof.Proof.Mx.Total
public import proofs.«01_k».proof.Proof.Mx.Host
public import proofs.«01_k».proof.Proof.Mx.RefPool

/-!
The blocks of each point, read off the arguments.
-/

@[expose] public section

set_option maxRecDepth 16384

noncomputable section

namespace Cert.Mx

open Cert.KernelMxIdeal Cert.KernelMxIdeal.Gen Idealize.ShloMosaic Idealize.ShloMosaic.TcCoe Idealize.SL.Sem

variable (m : (ℓ : Loc nD τ sig) → Buf (Elt Ideal) ℓ) (c : Dev nD)

theorem idx (t : Fin cfg0.N) : win0_0.index t = ![15 - t.val, 0] ∧ win0_1.index t = ![15 - t.val, 0] ∧ win0_2.index t = ![15 - t.val, 0]
    ∧ win0_3.index t = ![0, 0, 0] ∧ win0_4.index t = ![0, 0] ∧ win0_5.index t = ![0, 0] ∧ win0_6.index t = ![0, 0] ∧ win0_7.index t = ![0, 0, 0]
    ∧ win0_8.index t = ![0, 0, 0] ∧ win0_9.index t = ![0, 0, 0] ∧ win0_10.index t = ![0, 0, 0] ∧ win0_11.index t = ![0, 0] ∧ win0_12.index t = ![0, 0]
    ∧ win0_14.index t = ![15 - t.val, 0] :=
  (by decide +kernel : ∀ t : Fin grid0.N, win0_0.index t = ![15 - t.val, 0] ∧ win0_1.index t = ![15 - t.val, 0] ∧ win0_2.index t = ![15 - t.val, 0]
    ∧ win0_3.index t = ![0, 0, 0] ∧ win0_4.index t = ![0, 0] ∧ win0_5.index t = ![0, 0] ∧ win0_6.index t = ![0, 0] ∧ win0_7.index t = ![0, 0, 0]
    ∧ win0_8.index t = ![0, 0, 0] ∧ win0_9.index t = ![0, 0, 0] ∧ win0_10.index t = ![0, 0, 0] ∧ win0_11.index t = ![0, 0] ∧ win0_12.index t = ![0, 0]
    ∧ win0_14.index t = ![15 - t.val, 0]) t

theorem blk0 (t : Fin cfg0.N) (s : Fin 256) (e : Fin 5120) : iblk m c 0 t (ix2 s e) = V m c main_v2 (ix2 (row t.val s) e) := by
  blk_ext [iblk, idx t, row]

theorem blk1 (t : Fin cfg0.N) (s : Fin 256) (k : Fin 1024) : iblk m c 1 t (ix2 s k) = V m c main_v80 (ix2 (row t.val s) k) := by
  blk_ext [iblk, idx t, row]

theorem blk2 (t : Fin cfg0.N) (s : Fin 256) (k : Fin 1024) : iblk m c 2 t (ix2 s k) = V m c main_v81 (ix2 (row t.val s) k) := by
  blk_ext [iblk, idx t, row]

theorem blk3 (t : Fin cfg0.N) (g : Fin 4) (k d : Fin 256) : iblk m c 3 t (ix3 g k d) = V m c main_v82 (ix3 g k d) := by
  blk_ext [iblk, idx t, row]

theorem blk4 (t : Fin cfg0.N) (a : Fin 1) (k : Fin 1024) : iblk m c 4 t (ix2 a k) = V m c main_v83 (ix2 a k) := by
  blk_ext [iblk, idx t, row]

theorem blk5 (t : Fin cfg0.N) (a : Fin 1) (k : Fin 1024) : iblk m c 5 t (ix2 a k) = V m c main_v84 (ix2 a k) := by
  blk_ext [iblk, idx t, row]

theorem blk6 (t : Fin cfg0.N) (a : Fin 1) (k : Fin 1024) : iblk m c 6 t (ix2 a k) = V m c main_v85 (ix2 a k) := by
  blk_ext [iblk, idx t, row]

theorem blk7 (t : Fin cfg0.N) (h : Fin 4) (i j : Fin 128) : iblk m c 7 t (ix3 h i j) = V m c main_v14 (ix3 h i j) := by
  blk_ext [iblk, idx t, row]

theorem blk8 (t : Fin cfg0.N) (h : Fin 4) (i j : Fin 128) : iblk m c 8 t (ix3 h i j) = V m c main_v15 (ix3 h i j) := by
  blk_ext [iblk, idx t, row]

theorem blk9 (t : Fin cfg0.N) (h : Fin 4) (i : Fin 128) (a : Fin 1) : iblk m c 9 t (ix3 h i a) = V m c main_v16 (ix3 h i a) := by
  blk_ext [iblk, idx t, row]

theorem blk10 (t : Fin cfg0.N) (g : Fin 4) (k d : Fin 256) : iblk m c 10 t (ix3 g k d) = V m c main_v86 (ix3 g k d) := by
  blk_ext [iblk, idx t, row]

theorem blk11 (t : Fin cfg0.N) (k : Fin 1024) (e : Fin 1024) : iblk m c 11 t (ix2 k e) = V m c main_v87 (ix2 k e) := by
  blk_ext [iblk, idx t, row]

theorem blk12 (t : Fin cfg0.N) (i : Fin 128) (j : Fin 128) : iblk m c 12 t (ix2 i j) = V m c main_v10 (ix2 i j) := by
  blk_ext [iblk, idx t, row]

theorem sge_eq : ∀ i j : Fin 128, (IntOp.cmpi .sge (BitVec.ofNat 32 (i.val / 64)) (BitVec.ofNat 32 (j.val / 64))).toNat = if low i j then 1 else 0 := by
  decide +kernel

theorem mask_eq (i j : Fin 128) : maskArr (ix2 i j) = ((if low i j then 1 else 0 : ℝ) : EReal) := by
  unfold maskArr
  pointwise
  simp only [quot_eq]
  show ((((IntOp.cmpi .sge (BitVec.ofNat 32 (i.val / 64)) (BitVec.ofNat 32 (j.val / 64))).toNat : ℕ) : ℝ) : EReal) = _
  rw [sge_eq]
  split <;> simp

theorem hM (t : Fin cfg0.N) (i j : Fin 128) : iblk m c 12 t (ix2 i j) = ((if low i j then 1 else 0 : ℝ) : EReal) := by
  rw [blk12, V10]
  exact mask_eq i j

variable {I : Inputs} (G : Given I (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7)) (m ((c : Thread nD τ).loc main_arg8)) (m ((c : Thread nD τ).loc main_arg9)) (m ((c : Thread nD τ).loc main_arg10)))

theorem masked (W : ℝ) (i j : Fin 128) : (W : EReal) * maskArr (ix2 i j) = ((if low i j then W else 0 : ℝ) : EReal) := by
  rw [mask_eq, ← EReal.coe_mul]
  split <;> simp

include G in
theorem reads (t : Fin cfg0.N) : Reads I.data t.val (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) where
  h1 s k := by
    rw [blk0, V2]
    pointwise
    exact (congrArg₂ (· + ·) (G.h0 _ _) (G.h1 _)).trans (EReal.coe_add _ _).symm
  h2 s k := by
    rw [blk1, V80]
    pointwise
    refine (r72 G.h0 G.h1 (row t.val s) ⟨k.val / 256, by omega⟩ ⟨k.val % 256, by omega⟩).trans ?_
    rw [cc_surj]
    rfl
  h3 s k := by
    rw [blk2, V81]
    pointwise
    exact G.h10 _ _
  h4 g k d := by
    rw [blk3, V82]
    pointwise
    exact G.h2 _ _ _
  h5 a k := by
    rw [blk4, V83]
    pointwise
    exact G.h3 _
  h6 a k := by
    rw [blk5, V84]
    pointwise
    exact G.h4 _
  h7 a k := by
    rw [blk6, V85]
    pointwise
    exact G.h5 _
  h8 h i j := by
    rw [blk7, V14]
    pointwise
    exact (congrArg (· * maskArr (ix2 i j)) (G.h6 h i j)).trans (masked _ i j)
  h9 h i j := by
    rw [blk8, V15]
    pointwise
    exact (congrArg (· * maskArr (ix2 i j)) (G.h6 h i j)).trans (masked _ i j)
  h10 h i a := by
    rw [blk9, V16]
    pointwise
    exact G.h7 _ _
  h11 h k d := by
    rw [blk10, V86]
    pointwise
    exact G.h8 _ _ _
  h12 k e := by
    rw [blk11, V87]
    pointwise
    exact G.h9 _ _

end Cert.Mx

end
-- ==== Proof.Mx.Frame.lean ====
module

public import proofs.«01_k».proof.Proof.Mx.State

@[expose] public section

set_option maxRecDepth 16384

noncomputable section

namespace Cert.Mx

open Cert.KernelMxIdeal Cert.KernelMxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg) (c : Dev nD) (t : Fin cfg0.N)

/-- The scratch buffers between points: before the first at anything, afterwards the carried ones at the sums. -/
def carried (c : Dev nD) : ℕ → sProp 𝕄
  | 0 => Pipeline.ΦA spec0 c
  | n + 1 => iprop(iprop(owns (c : Thread nD τ) winM fullShare (st m c (n + 1)).win ∗ (∃ d, owns (c : Thread nD τ) svM fullShare d) ∗ (∃ d, owns (c : Thread nD τ) dsvM fullShare d) ∗ (∃ d, owns (c : Thread nD τ) dvM fullShare d) ∗ owns (c : Thread nD τ) dsumM fullShare (st m c (n + 1)).dsum ∗ owns (c : Thread nD τ) poolM fullShare (st m c (n + 1)).pool ∗ owns (c : Thread nD τ) projM fullShare (st m c (n + 1)).proj) ∗ (∃ r, prngReg c r))

/-- The proof data: every input's buffer holds its block, every output's what the sums give, the scratch as `carried`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => tile m c t (st m c t.val)
    | ⟨15, _⟩ => poolEnd m c t (st m c t.val)
    | ⟨16, _⟩ => projEnd m c t (st m c t.val)
    | ⟨17, _⟩ => if t.val = 15 then dwsEnd m c t (st m c t.val) else (st m c (t.val + 1)).dws
    | ⟨18, _⟩ => biasEnd m c t (st m c t.val)
    | ⟨19, _⟩ => (st m c (t.val + 1)).vec
    | ⟨20, _⟩ => (st m c (t.val + 1)).dbin
    | ⟨_ + 21, h⟩ => absurd h (Nat.not_lt.2 (Nat.le_add_left _ _))
  Φ t := carried m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = tile m c t (st m c t.val) := by dsimp only [dats]
theorem after_15 (c : Dev nD) (t : Fin cfg0.N) : (dats m 0 c).after 15 t = poolEnd m c t (st m c t.val) := by dsimp only [dats]
theorem after_16 (c : Dev nD) (t : Fin cfg0.N) : (dats m 0 c).after 16 t = projEnd m c t (st m c t.val) := by dsimp only [dats]
theorem after_17 (c : Dev nD) (t : Fin cfg0.N) : (dats m 0 c).after 17 t = if t.val = 15 then dwsEnd m c t (st m c t.val) else (st m c (t.val + 1)).dws := by dsimp only [dats]
theorem after_18 (c : Dev nD) (t : Fin cfg0.N) : (dats m 0 c).after 18 t = biasEnd m c t (st m c t.val) := by dsimp only [dats]
theorem after_19 (c : Dev nD) (t : Fin cfg0.N) : (dats m 0 c).after 19 t = (st m c (t.val + 1)).vec := by dsimp only [dats]
theorem after_20 (c : Dev nD) (t : Fin cfg0.N) : (dats m 0 c).after 20 t = (st m c (t.val + 1)).dbin := by dsimp only [dats]
theorem before_0 (d) : (dats m 0 c).before 0 t d = iblk m c 0 t := before0_0_of m (dats m 0 c) (A_eq m c 0) (after_0 m c) t d
theorem before_1 (d) : (dats m 0 c).before 1 t d = iblk m c 1 t := before0_1_of m (dats m 0 c) (A_eq m c 1) (after_1 m c) t d
theorem before_2 (d) : (dats m 0 c).before 2 t d = iblk m c 2 t := before0_2_of m (dats m 0 c) (A_eq m c 2) (after_2 m c) t d
theorem before_3 (d) : (dats m 0 c).before 3 t d = iblk m c 3 t := before0_3_of m (dats m 0 c) (A_eq m c 3) (after_3 m c) t d
theorem before_4 (d) : (dats m 0 c).before 4 t d = iblk m c 4 t := before0_4_of m (dats m 0 c) (A_eq m c 4) (after_4 m c) t d
theorem before_5 (d) : (dats m 0 c).before 5 t d = iblk m c 5 t := before0_5_of m (dats m 0 c) (A_eq m c 5) (after_5 m c) t d
theorem before_6 (d) : (dats m 0 c).before 6 t d = iblk m c 6 t := before0_6_of m (dats m 0 c) (A_eq m c 6) (after_6 m c) t d
theorem before_7 (d) : (dats m 0 c).before 7 t d = iblk m c 7 t := before0_7_of m (dats m 0 c) (A_eq m c 7) (after_7 m c) t d
theorem before_8 (d) : (dats m 0 c).before 8 t d = iblk m c 8 t := before0_8_of m (dats m 0 c) (A_eq m c 8) (after_8 m c) t d
theorem before_9 (d) : (dats m 0 c).before 9 t d = iblk m c 9 t := before0_9_of m (dats m 0 c) (A_eq m c 9) (after_9 m c) t d
theorem before_10 (d) : (dats m 0 c).before 10 t d = iblk m c 10 t := before0_10_of m (dats m 0 c) (A_eq m c 10) (after_10 m c) t d
theorem before_11 (d) : (dats m 0 c).before 11 t d = iblk m c 11 t := before0_11_of m (dats m 0 c) (A_eq m c 11) (after_11 m c) t d
theorem before_12 (d) : (dats m 0 c).before 12 t d = iblk m c 12 t := before0_12_of m (dats m 0 c) (A_eq m c 12) (after_12 m c) t d
theorem before_13 (d) : (dats m 0 c).before 13 t d = iblk m c 13 t := before0_13_of m (dats m 0 c) (A_eq m c 13) (after_13 m c) t d

theorem before_17 (h : t.val ≠ 0) (d) : (dats m 0 c).before 17 t d = (st m c t.val).dws := by
  have hN : t.val < 16 := Nat.lt_of_lt_of_eq t.isLt N_0
  rw [Dat.before_out_kept _ 17 rfl t h (Bool.eq_false_iff.mpr fun h' => by have := (flush0_17 _).mp h'; dsimp only at this; omega)
    (fun _ => rfl) (fun _ _ => rfl), after_17]
  dsimp only
  rw [if_neg (by omega), Nat.sub_add_cancel (Nat.one_le_iff_ne_zero.mpr h)]

theorem before_19 (h : t.val ≠ 0) (d) : (dats m 0 c).before 19 t d = (st m c t.val).vec := by
  have hN : t.val < 16 := Nat.lt_of_lt_of_eq t.isLt N_0
  rw [Dat.before_out_kept _ 19 rfl t h (Bool.eq_false_iff.mpr fun h' => by have := (flush0_19 _).mp h'; dsimp only at this; omega)
    (fun _ => rfl) (fun _ _ => rfl), after_19]
  dsimp only
  rw [Nat.sub_add_cancel (Nat.one_le_iff_ne_zero.mpr h)]

theorem before_20 (h : t.val ≠ 0) (d) : (dats m 0 c).before 20 t d = (st m c t.val).dbin := by
  have hN : t.val < 16 := Nat.lt_of_lt_of_eq t.isLt N_0
  rw [Dat.before_out_kept _ 20 rfl t h (Bool.eq_false_iff.mpr fun h' => by have := (flush0_20 _).mp h'; dsimp only at this; omega)
    (fun _ => rfl) (fun _ _ => rfl), after_20]
  dsimp only
  rw [Nat.sub_add_cancel (Nat.one_le_iff_ne_zero.mpr h)]

/-- What the body leaves of an output that only the last point stores: at any other point, what it found. -/
def left (w : Fin cfg0.W) : sProp 𝕄 :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

theorem left_15 (h : ¬last (grid0.coords t)) : left m c t 15 = iprop(∃ d, owns (c : Thread nD τ) (win0_15.stage (cfg0.slots t 15)) fullShare ((dats m 0 c).before 15 t d)) := by
  have hi : cfg0.idle 15 (cfg0.grid.coords t) = true := by
    show (!(k0_cond2 (grid0.coords t) == 1#1)) = true
    rw [beq_eq_false_iff_ne.mpr h]; rfl
  have hN : t.val < 16 := Nat.lt_of_lt_of_eq t.isLt N_0
  have hf : (cfg0.win 15).flush t = false := Bool.eq_false_iff.mpr fun h' => h ((last_iff t).mpr (by have := (flush0_15 t).mp h'; omega))
  unfold left
  rw [hi, hf]

theorem left_15_last (h : last (grid0.coords t)) : left m c t 15 = owns (c : Thread nD τ) (win0_15.stage (cfg0.slots t 15)) fullShare (poolEnd m c t (st m c t.val)) := by
  have hi : cfg0.idle 15 (cfg0.grid.coords t) = false := by
    show (!(k0_cond2 (grid0.coords t) == 1#1)) = false
    rw [show k0_cond2 (grid0.coords t) = 1#1 from h]; rfl
  unfold left
  rw [hi, after_15]

theorem left_16 (h : ¬last (grid0.coords t)) : left m c t 16 = iprop(∃ d, owns (c : Thread nD τ) (win0_16.stage (cfg0.slots t 16)) fullShare ((dats m 0 c).before 16 t d)) := by
  have hi : cfg0.idle 16 (cfg0.grid.coords t) = true := by
    show (!(k0_cond2 (grid0.coords t) == 1#1)) = true
    rw [beq_eq_false_iff_ne.mpr h]; rfl
  have hN : t.val < 16 := Nat.lt_of_lt_of_eq t.isLt N_0
  have hf : (cfg0.win 16).flush t = false := Bool.eq_false_iff.mpr fun h' => h ((last_iff t).mpr (by have := (flush0_16 t).mp h'; omega))
  unfold left
  rw [hi, hf]

theorem left_16_last (h : last (grid0.coords t)) : left m c t 16 = owns (c : Thread nD τ) (win0_16.stage (cfg0.slots t 16)) fullShare (projEnd m c t (st m c t.val)) := by
  have hi : cfg0.idle 16 (cfg0.grid.coords t) = false := by
    show (!(k0_cond2 (grid0.coords t) == 1#1)) = false
    rw [show k0_cond2 (grid0.coords t) = 1#1 from h]; rfl
  unfold left
  rw [hi, after_16]

theorem left_18 (h : ¬last (grid0.coords t)) : left m c t 18 = iprop(∃ d, owns (c : Thread nD τ) (win0_18.stage (cfg0.slots t 18)) fullShare ((dats m 0 c).before 18 t d)) := by
  have hi : cfg0.idle 18 (cfg0.grid.coords t) = true := by
    show (!(k0_cond2 (grid0.coords t) == 1#1)) = true
    rw [beq_eq_false_iff_ne.mpr h]; rfl
  have hN : t.val < 16 := Nat.lt_of_lt_of_eq t.isLt N_0
  have hf : (cfg0.win 18).flush t = false := Bool.eq_false_iff.mpr fun h' => h ((last_iff t).mpr (by have := (flush0_18 t).mp h'; omega))
  unfold left
  rw [hi, hf]

theorem left_18_last (h : last (grid0.coords t)) : left m c t 18 = owns (c : Thread nD τ) (win0_18.stage (cfg0.slots t 18)) fullShare (biasEnd m c t (st m c t.val)) := by
  have hi : cfg0.idle 18 (cfg0.grid.coords t) = false := by
    show (!(k0_cond2 (grid0.coords t) == 1#1)) = false
    rw [show k0_cond2 (grid0.coords t) = 1#1 from h]; rfl
  unfold left
  rw [hi, after_18]

/-- What the body is called with at point `t`, -/
def pre : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)) ∗ (∃ d, owns (c : Thread nD τ) (win0_9.stage (cfg0.slots t 9)) fullShare ((dats m 0 c).before 9 t d)) ∗ (∃ d, owns (c : Thread nD τ) (win0_10.stage (cfg0.slots t 10)) fullShare ((dats m 0 c).before 10 t d)) ∗ (∃ d, owns (c : Thread nD τ) (win0_11.stage (cfg0.slots t 11)) fullShare ((dats m 0 c).before 11 t d)) ∗ (∃ d, owns (c : Thread nD τ) (win0_12.stage (cfg0.slots t 12)) fullShare ((dats m 0 c).before 12 t d)) ∗ (∃ d, owns (c : Thread nD τ) (win0_13.stage (cfg0.slots t 13)) fullShare ((dats m 0 c).before 13 t d)) ∗ (∃ d, owns (c : Thread nD τ) (win0_14.stage (cfg0.slots t 14)) fullShare ((dats m 0 c).before 14 t d)) ∗ (∃ d, owns (c : Thread nD τ) (win0_15.stage (cfg0.slots t 15)) fullShare ((dats m 0 c).before 15 t d)) ∗ (∃ d, owns (c : Thread nD τ) (win0_16.stage (cfg0.slots t 16)) fullShare ((dats m 0 c).before 16 t d)) ∗ (∃ d, owns (c : Thread nD τ) (win0_17.stage (cfg0.slots t 17)) fullShare ((dats m 0 c).before 17 t d)) ∗ (∃ d, owns (c : Thread nD τ) (win0_18.stage (cfg0.slots t 18)) fullShare ((dats m 0 c).before 18 t d)) ∗ (∃ d, owns (c : Thread nD τ) (win0_19.stage (cfg0.slots t 19)) fullShare ((dats m 0 c).before 19 t d)) ∗ (∃ d, owns (c : Thread nD τ) (win0_20.stage (cfg0.slots t 20)) fullShare ((dats m 0 c).before 20 t d)))

/-- and what it leaves. -/
def post : sProp 𝕄 :=
  iprop((dats m 0 c).Φ t.succ ∗ (dats m 0 c).owesAt () t.succ
    ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ owns (c : Thread nD τ) (win0_7.stage (cfg0.slots t 7)) fullShare ((dats m 0 c).after 7 t) ∗ owns (c : Thread nD τ) (win0_8.stage (cfg0.slots t 8)) fullShare ((dats m 0 c).after 8 t) ∗ owns (c : Thread nD τ) (win0_9.stage (cfg0.slots t 9)) fullShare ((dats m 0 c).after 9 t) ∗ owns (c : Thread nD τ) (win0_10.stage (cfg0.slots t 10)) fullShare ((dats m 0 c).after 10 t) ∗ owns (c : Thread nD τ) (win0_11.stage (cfg0.slots t 11)) fullShare ((dats m 0 c).after 11 t) ∗ owns (c : Thread nD τ) (win0_12.stage (cfg0.slots t 12)) fullShare ((dats m 0 c).after 12 t) ∗ owns (c : Thread nD τ) (win0_13.stage (cfg0.slots t 13)) fullShare ((dats m 0 c).after 13 t) ∗ owns (c : Thread nD τ) (win0_14.stage (cfg0.slots t 14)) fullShare ((dats m 0 c).after 14 t) ∗ left m c t 15 ∗ left m c t 16 ∗ owns (c : Thread nD τ) (win0_17.stage (cfg0.slots t 17)) fullShare ((dats m 0 c).after 17 t) ∗ left m c t 18 ∗ owns (c : Thread nD τ) (win0_19.stage (cfg0.slots t 19)) fullShare ((dats m 0 c).after 19 t) ∗ owns (c : Thread nD τ) (win0_20.stage (cfg0.slots t 20)) fullShare ((dats m 0 c).after 20 t))

section
variable (y18 : Vec F S4x128x128 .f32) (y20 : Vec F S8x1024 .f32) (y21 : Vec F S8x5120 .f32) (y22 : Vec F S272x1024 .f32) (y26 : Vec F S128x1024 .f32) (y27 : Vec F S4x256x256 .f32) (y28 : Vec F S4x256x256 .f32)
  (h18 : (clear (grid0.coords t) y18) = (clear (grid0.coords t) (st m c t.val).dws))
  (h20 : (clear (grid0.coords t) y20) = (clear (grid0.coords t) (st m c t.val).vec))
  (h21 : (clear (grid0.coords t) y21) = (clear (grid0.coords t) (st m c t.val).dbin))
  (h22 : ∀ j : S272x1024.Idx, 256 ≤ (j 0).val → (clearRows (grid0.coords t) y22) j = (clearRows (grid0.coords t) (st m c t.val).win) j)
  (h26 : (clear (grid0.coords t) y26) = (clear (grid0.coords t) (st m c t.val).dsum))
  (h27 : (clear (grid0.coords t) y27) = (clear (grid0.coords t) (st m c t.val).pool))
  (h28 : (clear (grid0.coords t) y28) = (clear (grid0.coords t) (st m c t.val).proj))

include h18 h20 h21 h22 h26 h27 h28 in
set_option maxHeartbeats 4000000 in
/-- One point, from buffers that hold the sums once they are cleared. -/
theorem core :
    iprop(owns (c : Thread nD τ) (win0_17.stage (cfg0.slots t 17)) fullShare y18 ∗ owns (c : Thread nD τ) (win0_19.stage (cfg0.slots t 19)) fullShare y20 ∗ owns (c : Thread nD τ) (win0_20.stage (cfg0.slots t 20)) fullShare y21 ∗ owns (c : Thread nD τ) winM fullShare y22 ∗ owns (c : Thread nD τ) dsumM fullShare y26 ∗ owns (c : Thread nD τ) poolM fullShare y27 ∗ owns (c : Thread nD τ) projM fullShare y28 ∗ owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t) ∗ owns (c : Thread nD τ) (win0_8.stage (cfg0.slots t 8)) fullShare (iblk m c 8 t) ∗ owns (c : Thread nD τ) (win0_9.stage (cfg0.slots t 9)) fullShare (iblk m c 9 t) ∗ owns (c : Thread nD τ) (win0_10.stage (cfg0.slots t 10)) fullShare (iblk m c 10 t) ∗ owns (c : Thread nD τ) (win0_11.stage (cfg0.slots t 11)) fullShare (iblk m c 11 t) ∗ owns (c : Thread nD τ) (win0_12.stage (cfg0.slots t 12)) fullShare (iblk m c 12 t) ∗ owns (c : Thread nD τ) (win0_13.stage (cfg0.slots t 13)) fullShare (iblk m c 13 t) ∗ (∃ d, owns (c : Thread nD τ) (win0_14.stage (cfg0.slots t 14)) fullShare ((dats m 0 c).before 14 t d)) ∗ (∃ d, owns (c : Thread nD τ) (win0_15.stage (cfg0.slots t 15)) fullShare ((dats m 0 c).before 15 t d)) ∗ (∃ d, owns (c : Thread nD τ) (win0_16.stage (cfg0.slots t 16)) fullShare ((dats m 0 c).before 16 t d)) ∗ (∃ d, owns (c : Thread nD τ) (win0_18.stage (cfg0.slots t 18)) fullShare ((dats m 0 c).before 18 t d)) ∗ (∃ d, owns (c : Thread nD τ) svM fullShare d) ∗ (∃ d, owns (c : Thread nD τ) dsvM fullShare d) ∗ (∃ d, owns (c : Thread nD τ) dvM fullShare d) ∗ (∃ r, prngReg c r) ∗ (dats m 0 c).owesAt () t.castSucc) ⊢ wp frame (wpE (defs₀ (F := F)) Variants.none c none) Set.univ (bodyAt0 t) (fun _ => post m c t) := by
  unfold post
  rw [show (dats m 0 c).Φ t.succ = carried m c (t.val + 1) from rfl, show (dats m 0 c).owesAt () t.succ = (dats m 0 c).owesAt () t.castSucc from rfl,
    after_0, after_1, after_2, after_3, after_4, after_5, after_6, after_7, after_8, after_9, after_10, after_11, after_12, after_13, after_14, after_17, after_19, after_20, carried, st_succ]
  by_cases hl : last (grid0.coords t)
  · rw [if_pos ((last_iff t).mp hl), left_15_last m c t hl, left_16_last m c t hl, left_18_last m c t hl]
    iintro ⟨H18, H20, H21, H22, H26, H27, H28, H1, H2, H3, H4, H5, H6, H7, H8, H9, H10, H11, H12, H13, H14, ⟨%d15, H15⟩, ⟨%d16, H16⟩, ⟨%d17, H17⟩, ⟨%d19, H19⟩, H23, H24, H25, Hr, Ho⟩
    iapply (at_fin m c t (st m c t.val) y18 y20 y21 y22 y26 y27 y28 h18 h20 h21 h22 h26 h27 h28 hl Set.univ _)
    isplitl [H18]; · iexact H18
    isplitl [H20]; · iexact H20
    isplitl [H21]; · iexact H21
    isplitl [H22]; · iexact H22
    isplitl [H26]; · iexact H26
    isplitl [H27]; · iexact H27
    isplitl [H28]; · iexact H28
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [H19]; · iexists _; iexact H19
    isplitl [H23]; · iexact H23
    isplitl [H24]; · iexact H24
    isplitl [H25]; · iexact H25
    iintro ⟨H1, H2, H3, H4, H5, H6, H7, H8, H9, H10, H11, H12, H13, H14, H15, H16, H17, H18, H19, H20, H21, H22, H23, H24, H25, H26, H27, H28⟩
    isplitl [H22 H23 H24 H25 H26 H27 H28 Hr]
    · isplitl [H22 H23 H24 H25 H26 H27 H28]
      · isplitl [H22]; · iexact H22
        isplitl [H23]; · iexact H23
        isplitl [H24]; · iexact H24
        isplitl [H25]; · iexact H25
        isplitl [H26]; · iexact H26
        isplitl [H27]; · iexact H27
        iexact H28
      iexact Hr
    isplitl [Ho]; · iexact Ho
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  · rw [if_neg (fun h => hl ((last_iff t).mpr h)), left_15 m c t hl, left_16 m c t hl, left_18 m c t hl]
    iintro ⟨H18, H20, H21, H22, H26, H27, H28, H1, H2, H3, H4, H5, H6, H7, H8, H9, H10, H11, H12, H13, H14, ⟨%d15, H15⟩, ⟨%d16, H16⟩, ⟨%d17, H17⟩, ⟨%d19, H19⟩, H23, H24, H25, Hr, Ho⟩
    iapply (at_mid m c t (st m c t.val) y18 y20 y21 y22 y26 y27 y28 h18 h20 h21 h22 h26 h27 h28 hl Set.univ _)
    isplitl [H18]; · iexact H18
    isplitl [H20]; · iexact H20
    isplitl [H21]; · iexact H21
    isplitl [H22]; · iexact H22
    isplitl [H26]; · iexact H26
    isplitl [H27]; · iexact H27
    isplitl [H28]; · iexact H28
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H23]; · iexact H23
    isplitl [H24]; · iexact H24
    isplitl [H25]; · iexact H25
    iintro ⟨H1, H2, H3, H4, H5, H6, H7, H8, H9, H10, H11, H12, H13, H14, H15, H18, H20, H21, H22, H23, H24, H25, H26, H27, H28⟩
    isplitl [H22 H23 H24 H25 H26 H27 H28 Hr]
    · isplitl [H22 H23 H24 H25 H26 H27 H28]
      · isplitl [H22]; · iexact H22
        isplitl [H23]; · iexact H23
        isplitl [H24]; · iexact H24
        isplitl [H25]; · iexact H25
        isplitl [H26]; · iexact H26
        isplitl [H27]; · iexact H27
        iexact H28
      iexact Hr
    isplitl [Ho]; · iexact Ho
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [H18]; · iexact H18
    isplitl [H19]; · iexists _; iexact H19
    isplitl [H20]; · iexact H20
    iexact H21

end

set_option maxHeartbeats 4000000 in
theorem sound_body : pre m c t ⊢ wp frame (wpE (defs₀ (F := F)) Variants.none c none) Set.univ (bodyAt0 t) (fun _ => post m c t) := by
  unfold pre
  simp only [before_0, before_1, before_2, before_3, before_4, before_5, before_6, before_7, before_8, before_9, before_10, before_11, before_12, before_13]
  rw [show (dats m 0 c).Φ t.castSucc = carried m c t.val from by dsimp only [dats, Fin.val_castSucc]]
  by_cases h0 : t.val = 0
  · rw [show carried m c t.val = Pipeline.ΦA spec0 c from by rw [h0, carried], scratch_eq]
    iintro ⟨⟨⟨⟨%y22, H22⟩, H23, H24, H25, ⟨%y26, H26⟩, ⟨%y27, H27⟩, ⟨%y28, H28⟩⟩, Hr⟩, Ho, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, H15, H16, H17, ⟨%y18, H18⟩, H19, ⟨%y20, H20⟩, ⟨%y21, H21⟩⟩
    iapply (core m c t _ _ _ _ _ _ _ (clear_first t h0 _ _) (clear_first t h0 _ _) (clear_first t h0 _ _) (clearRows_first t h0 _ _) (clear_first t h0 _ _) (clear_first t h0 _ _) (clear_first t h0 _ _))
    isplitl [H18]; · iexact H18
    isplitl [H20]; · iexact H20
    isplitl [H21]; · iexact H21
    isplitl [H22]; · iexact H22
    isplitl [H26]; · iexact H26
    isplitl [H27]; · iexact H27
    isplitl [H28]; · iexact H28
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H19]; · iexact H19
    isplitl [H23]; · iexact H23
    isplitl [H24]; · iexact H24
    isplitl [H25]; · iexact H25
    isplitl [Hr]; · iexact Hr
    iexact Ho
  · obtain ⟨n, hn⟩ := Nat.exists_eq_succ_of_ne_zero h0
    rw [show carried m c t.val = carried m c (n + 1) from by rw [hn], carried, ← Nat.succ_eq_add_one, ← hn]
    simp only [before_17 m c t h0, before_19 m c t h0, before_20 m c t h0]
    iintro ⟨⟨⟨H22, H23, H24, H25, H26, H27, H28⟩, Hr⟩, Ho, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, H15, H16, H17, ⟨%y18, H18⟩, H19, ⟨%y20, H20⟩, ⟨%y21, H21⟩⟩
    iapply (core m c t _ _ _ _ _ _ _ rfl rfl rfl (fun _ _ => rfl) rfl rfl rfl)
    isplitl [H18]; · iexact H18
    isplitl [H20]; · iexact H20
    isplitl [H21]; · iexact H21
    isplitl [H22]; · iexact H22
    isplitl [H26]; · iexact H26
    isplitl [H27]; · iexact H27
    isplitl [H28]; · iexact H28
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H19]; · iexact H19
    isplitl [H23]; · iexact H23
    isplitl [H24]; · iexact H24
    isplitl [H25]; · iexact H25
    isplitl [Hr]; · iexact Hr
    iexact Ho

/-- The body table's row at point `t` is the body at the point's buffers. -/
theorem body_row : defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, body_row]
  exact triple_restated (sound_body m c t) rfl .rfl fun _ => .rfl

theorem hout : (dats m 0 c).Φ (Fin.last cfg0.N) ⊢ Pipeline.ΦA spec0 c := by
  rw [show (dats m 0 c).Φ (Fin.last cfg0.N) = carried m c (15 + 1) from by
    dsimp only [dats]; rw [Fin.val_last, show cfg0.N = 15 + 1 from N_0], carried, scratch_eq]
  iintro ⟨⟨H22, H23, H24, H25, H26, H27, H28⟩, Hr⟩
  isplitl [H22 H23 H24 H25 H26 H27 H28]
  · isplitl [H22]; · iexists _; iexact H22
    isplitl [H23]; · iexact H23
    isplitl [H24]; · iexact H24
    isplitl [H25]; · iexact H25
    isplitl [H26]; · iexists _; iexact H26
    isplitl [H27]; · iexists _; iexact H27
    iexists _; iexact H28
  iexact Hr

set_option backward.isDefEq.respectTransparency.types false in
/-- Every run of the program ends, at the arrays the proof data names, with every counter at zero. -/
theorem run_main_quiescent : θ_run defs (onTc (τ := τ) (main (F := F))) (s₀ m ρ)
    (fun r => Pipeline.FramePost cfgs (dats m) (0 : Fin 1) (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => .rfl) (hout := hout m)

theorem run_main : θ_run defs (onTc (τ := τ) (main (F := F))) (s₀ m ρ) (Pipeline.FramePost cfgs (dats m) (0 : Fin 1) (V m)) :=
  (θ_run defs _ _).mono (fun _ h => h.1) (run_main_quiescent m ρ)

end Cert.Mx

end
-- ==== Proof.Mx.RefRow.lean ====
module

public import proofs.«01_k».proof.Proof.Mx.RefPool
public import proofs.«01_k».proof.Proof.Mx.Stage

/-!
The parts of the reference that work on single rows.
-/

@[expose] public section

set_option maxRecDepth 16384

noncomputable section

namespace Cert.Mx

open Cert.RefMxIdeal Cert.RefMxIdeal.Read Idealize.ShloMosaic

variable {I : Inputs} {x0 : S4096x5120.Idx → EReal} {x1 : S5120.Idx → EReal} {x2 : S4x256x256.Idx → EReal} {x3 x4 x5 : S1024.Idx → EReal}
  {x6 : S4x128x128.Idx → EReal} {x7 : S4x128.Idx → EReal} {x8 : S4x256x256.Idx → EReal} {x9 : S1024x1024.Idx → EReal}
  {x10 : S4096x1024.Idx → EReal} (G : Given I x0 x1 x2 x3 x4 x5 x6 x7 x8 x9 x10)

theorem word_three : Ideal.ofBits .f32 0x40400000#32 = ((3 : ℝ) : EReal) := by
  simp [Ideal.ofBits, Ideal.ieee, -EReal.coe_mul]; norm_num

theorem word_cube : Ideal.ofBits .f32 0x3D372713#32 = ((C1 : ℝ) : EReal) := by
  simp [C1, Ideal.ofBits, Ideal.ieee, -EReal.coe_mul]; norm_num

/-- The tangent in the gelu. -/
def th (a : ℝ) : ℝ := Real.tanh (C0 * (a + C1 * (a * a * a)))

theorem cdf_th (a : ℝ) : cdf a = 1 / 2 * (1 + th a) := by
  rw [cdf, th, show C0 * (a + C1 * (a * a * a)) = a * (C0 + C0 * C1 * (a * a)) by ring]
  ring

theorem dgel_th (g a : ℝ) : g * (1 / 2 * (1 + th a)) + C0 * (1 / 2 * (a * g) * ((1 + th a) * (1 - th a)))
    + C1 * (C0 * (1 / 2 * (a * g) * ((1 + th a) * (1 - th a)))) * (3 * (a * a)) = g * dgel a := by
  rw [dgel, gel, cdf_th]
  ring

theorem sgm_exp (a : ℝ) : 1 / (1 + Real.exp (-a)) = sgm a := by
  have h : Real.exp (-a) = Real.exp (-(1 / 2 * a)) * Real.exp (-(1 / 2 * a)) := by rw [← Real.exp_add]; congr 1; ring
  have e : Real.exp (1 / 2 * a) * Real.exp (-(1 / 2 * a)) = 1 := by rw [← Real.exp_add]; simp
  have p := Real.exp_pos (1 / 2 * a)
  have q := Real.exp_pos (-(1 / 2 * a))
  rw [sgm, Real.tanh_eq_sinh_div_cosh, Real.sinh_eq, Real.cosh_eq, h]
  generalize Real.exp (1 / 2 * a) = A at e p ⊢
  generalize Real.exp (-(1 / 2 * a)) = B at e q ⊢
  have hA : A + B ≠ 0 := (add_pos p q).ne'
  have h1 : 1 / 2 * ((A - B) / 2 / ((A + B) / 2)) + 1 / 2 = A / (A + B) := by field_simp; ring
  have h2 : (1 : ℝ) + B * B = B * (A + B) := by linear_combination -e
  rw [h1, h2, div_eq_div_iff (mul_ne_zero q.ne' hA) hA]
  linear_combination (-(A + B)) * e

include G in
theorem r4 (s : Fin 4096) (k : Fin 1024) : val_main_v4 (F := Ideal) x0 x1 (ix2 s k) = (I.z s (zc 1 k) : EReal) := by
  simp only [val_main_v4]
  pointwise
  rw [part1]
  exact r2 G.h0 G.h1 s (zc 1 k)

include G in
theorem r5 (s : Fin 4096) (k : Fin 1024) : val_main_v5 (F := Ideal) x0 x1 (ix2 s k) = (I.z s (zc 2 k) : EReal) := by
  simp only [val_main_v5]
  pointwise
  rw [part2]
  exact r2 G.h0 G.h1 s (zc 2 k)

include G in
theorem r6 (s : Fin 4096) (k : Fin 1024) : val_main_v6 (F := Ideal) x0 x1 (ix2 s k) = (I.z s (zc 3 k) : EReal) := by
  simp only [val_main_v6]
  pointwise
  rw [part3]
  exact r2 G.h0 G.h1 s (zc 3 k)

include G in
theorem r7 (s : Fin 4096) (k : Fin 1024) : val_main_v7 (F := Ideal) x0 x1 (ix2 s k) = (I.z s (zc 4 k) : EReal) := by
  simp only [val_main_v7]
  pointwise
  rw [part4]
  exact r2 G.h0 G.h1 s (zc 4 k)

include G in
theorem r83 (s : Fin 4096) (k : Fin 1024) : val_main_v83 (F := Ideal) x0 x1 (ix2 s k) = ((3 * (I.z s (zc 1 k) * I.z s (zc 1 k)) : ℝ) : EReal) := by
  simp only [val_main_v81, val_main_cst_11, val_main_v82, val_main_v83]
  pointwise
  simp only [word_three, r4 G, ← EReal.coe_mul]

include G in
theorem r89 (s : Fin 4096) (k : Fin 1024) : val_main_v89 (F := Ideal) x0 x1 (ix2 s k) = (th (I.z s (zc 1 k)) : EReal) := by
  simp only [val_main_v79, val_main_v80, val_main_cst_12, val_main_v84, val_main_v85, val_main_v86, val_main_cst_13, val_main_v87, val_main_v88, val_main_v89]
  pointwise
  simp only [word_root, word_cube, r4 G, ← EReal.coe_mul, ← EReal.coe_add, Ideal.tanh_coe]
  rfl

include G in
theorem r94 (s : Fin 4096) (k : Fin 1024) : val_main_v94 (F := Ideal) x0 x1 (ix2 s k) = (((1 + th (I.z s (zc 1 k))) * (1 - th (I.z s (zc 1 k))) : ℝ) : EReal) := by
  simp only [val_main_cst_14, val_main_v90, val_main_v91, val_main_cst_15, val_main_v92, val_main_v93, val_main_v94]
  pointwise
  simp only [← EReal.coe_one, r89 G, ← EReal.coe_mul, ← EReal.coe_add, ← EReal.coe_sub]

include G in
theorem r98 (s : Fin 4096) (k : Fin 1024) : val_main_v98 (F := Ideal) x0 x1 (ix2 s k) = ((1 / 2 * (1 + th (I.z s (zc 1 k))) : ℝ) : EReal) := by
  simp only [val_main_cst_16, val_main_v95, val_main_v96, val_main_cst_17, val_main_v97, val_main_v98]
  pointwise
  simp only [← EReal.coe_one, word_half, ← EReal.coe_one, r89 G, ← EReal.coe_mul, ← EReal.coe_add]

include G in
theorem r99 (s : Fin 4096) (k : Fin 1024) : val_main_v99 (F := Ideal) x0 x1 (ix2 s k) = (I.data.u s k : EReal) := by
  simp only [val_main_v99]
  pointwise
  simp only [r4 G, r98 G, ← EReal.coe_mul]
  rw [← cdf_th]
  rfl

include G in
theorem r104 (s : Fin 4096) (k : Fin 1024) : val_main_v104 (F := Ideal) x0 x1 (ix2 s k) = ((3 * (I.z s (zc 2 k) * I.z s (zc 2 k)) : ℝ) : EReal) := by
  simp only [val_main_v102, val_main_cst_18, val_main_v103, val_main_v104]
  pointwise
  simp only [word_three, r5 G, ← EReal.coe_mul]

include G in
theorem r110 (s : Fin 4096) (k : Fin 1024) : val_main_v110 (F := Ideal) x0 x1 (ix2 s k) = (th (I.z s (zc 2 k)) : EReal) := by
  simp only [val_main_v100, val_main_v101, val_main_cst_19, val_main_v105, val_main_v106, val_main_v107, val_main_cst_20, val_main_v108, val_main_v109, val_main_v110]
  pointwise
  simp only [word_root, word_cube, r5 G, ← EReal.coe_mul, ← EReal.coe_add, Ideal.tanh_coe]
  rfl

include G in
theorem r115 (s : Fin 4096) (k : Fin 1024) : val_main_v115 (F := Ideal) x0 x1 (ix2 s k) = (((1 + th (I.z s (zc 2 k))) * (1 - th (I.z s (zc 2 k))) : ℝ) : EReal) := by
  simp only [val_main_cst_21, val_main_v111, val_main_v112, val_main_cst_22, val_main_v113, val_main_v114, val_main_v115]
  pointwise
  simp only [← EReal.coe_one, r110 G, ← EReal.coe_mul, ← EReal.coe_add, ← EReal.coe_sub]

include G in
theorem r119 (s : Fin 4096) (k : Fin 1024) : val_main_v119 (F := Ideal) x0 x1 (ix2 s k) = ((1 / 2 * (1 + th (I.z s (zc 2 k))) : ℝ) : EReal) := by
  simp only [val_main_cst_23, val_main_v116, val_main_v117, val_main_cst_24, val_main_v118, val_main_v119]
  pointwise
  simp only [← EReal.coe_one, word_half, ← EReal.coe_one, r110 G, ← EReal.coe_mul, ← EReal.coe_add]

include G in
theorem r120 (s : Fin 4096) (k : Fin 1024) : val_main_v120 (F := Ideal) x0 x1 (ix2 s k) = (I.data.gv s k : EReal) := by
  simp only [val_main_v120]
  pointwise
  simp only [r5 G, r119 G, ← EReal.coe_mul]
  rw [← cdf_th]
  rfl

include G in
theorem r126 (s : Fin 4096) (k : Fin 1024) : val_main_v126 (F := Ideal) x0 x1 (ix2 s k) = (I.data.ce s k : EReal) := by
  simp only [val_main_cst_25, val_main_v121, val_main_v122, val_main_cst_26, val_main_v123, val_main_v124, val_main_v125, val_main_v126]
  pointwise
  simp only [Reals.word_1024, Ideal.ofBits_zero_f32, zero_add, r120 G]
  simp only [Reals.sum_coe, Reals.div_real _ (show (1024 : ℝ) ≠ 0 by norm_num), ← EReal.coe_sub]
  rfl

include G in
theorem r133 (s : Fin 4096) (a : Fin 1) : val_main_v133 (F := Ideal) x0 x1 (ix2 s a) = (I.data.va s : EReal) := by
  simp only [val_main_v127, val_main_cst_27, val_main_v128, val_main_v129, val_main_cst_28, val_main_v130, val_main_v131, val_main_cst_29, val_main_v132, val_main_v133]
  pointwise
  simp only [Reals.word_1024, Reals.word_eps, Ideal.ofBits_zero_f32, zero_add, r126 G]
  simp only [← EReal.coe_mul, Reals.sum_coe, Reals.div_real _ (show (1024 : ℝ) ≠ 0 by norm_num), ← EReal.coe_add]
  rfl

include G in
theorem r134 (s : Fin 4096) (a : Fin 1) : val_main_v134 (F := Ideal) x0 x1 (ix2 s a) = (I.data.rs s : EReal) := by
  simp only [val_main_v134]
  pointwise
  rw [r133 G]
  exact Reals.rsqrt_real (I.data.va_pos s)

include G in
theorem r137 (s : Fin 4096) (a : Fin 1) : val_main_v137 (F := Ideal) x0 x1 (ix2 s a) = ((-(1 / 2) * (I.data.rs s / I.data.va s) : ℝ) : EReal) := by
  simp only [val_main_v135, val_main_cst_30, val_main_v136, val_main_v137]
  pointwise
  simp only [Reals.word_neg_half, r134 G, r133 G]
  simp only [Reals.div_real _ (I.data.va_pos s).ne', ← EReal.coe_mul]

include G in
theorem r139 (s : Fin 4096) (k : Fin 1024) : val_main_v139 (F := Ideal) x0 x1 (ix2 s k) = (I.data.vh s k : EReal) := by
  simp only [val_main_v138, val_main_v139]
  pointwise
  simp only [r126 G, r134 G, ← EReal.coe_mul]
  rfl

include G in
theorem r145 (s : Fin 4096) (k : Fin 1024) : val_main_v145 (F := Ideal) x0 x1 x4 x5 (ix2 s k) = (I.data.vb s k : EReal) := by
  simp only [val_main_v140, val_main_v141, val_main_v142, val_main_v143, val_main_v144, val_main_v145]
  pointwise
  simp only [r139 G, G.h4, G.h5, ← EReal.coe_mul, ← EReal.coe_add]
  rfl

include G in
theorem r173 (s : Fin 4096) (k : Fin 1024) : val_main_v173 (F := Ideal) x0 x1 (ix2 s k) = (I.data.sa s k : EReal) := by
  simp only [val_main_v168, val_main_v169, val_main_cst_34, val_main_v170, val_main_v171, val_main_cst_35, val_main_v172, val_main_v173]
  pointwise
  simp only [← EReal.coe_one, r6 G]
  simp only [← EReal.coe_neg, Ideal.exp_coe, ← EReal.coe_add]
  rw [Reals.div_real _ (by positivity), sgm_exp]
  rfl

include G in
theorem r176 (s : Fin 4096) (k : Fin 1024) : val_main_v176 (F := Ideal) x0 x1 (ix2 s k) = ((I.data.sa s k * (1 - I.data.sa s k) : ℝ) : EReal) := by
  simp only [val_main_cst_36, val_main_v174, val_main_v175, val_main_v176]
  pointwise
  simp only [← EReal.coe_one, r173 G, ← EReal.coe_mul, ← EReal.coe_sub]

include G in
theorem r183 (s : Fin 4096) (k : Fin 1024) : val_main_v183 (F := Ideal) x0 x1 (ix2 s k) = (I.data.sb s k : EReal) := by
  simp only [val_main_v178, val_main_v179, val_main_cst_37, val_main_v180, val_main_v181, val_main_cst_38, val_main_v182, val_main_v183]
  pointwise
  simp only [← EReal.coe_one, r7 G]
  simp only [← EReal.coe_neg, Ideal.exp_coe, ← EReal.coe_add]
  rw [Reals.div_real _ (by positivity), sgm_exp]
  rfl

include G in
theorem r186 (s : Fin 4096) (k : Fin 1024) : val_main_v186 (F := Ideal) x0 x1 (ix2 s k) = ((I.data.sb s k * (1 - I.data.sb s k) : ℝ) : EReal) := by
  simp only [val_main_cst_39, val_main_v184, val_main_v185, val_main_v186]
  pointwise
  simp only [← EReal.coe_one, r183 G, ← EReal.coe_mul, ← EReal.coe_sub]

include G in
theorem r190 (s : Fin 4096) (k : Fin 1024) : val_main_v190 (F := Ideal) x9 x10 (ix2 s k) = (I.data.dm s k : EReal) := by
  simp only [val_main_v190]
  pointwise
  simp only [G.h9, G.h10, ← EReal.coe_mul, Reals.sum_coe]
  rfl

include G in
theorem r191 (s : Fin 4096) (k : Fin 1024) : val_main_v191 (F := Ideal) x0 x1 x9 x10 (ix2 s k) = (I.data.db s k : EReal) := by
  simp only [val_main_v191]
  pointwise
  simp only [r183 G, r190 G, ← EReal.coe_mul]
  rw [mul_comm]
  rfl

include G in
theorem r194 (s : Fin 4096) (k : Fin 1024) : val_main_v194 (F := Ideal) x0 x1 x9 x10 (ix2 s k) = (I.data.da s k : EReal) := by
  simp only [val_main_v194]
  pointwise
  simp only [r173 G, r190 G, ← EReal.coe_mul]
  rw [mul_comm]
  rfl

include G in
theorem r75 (s : Fin 4096) (k : Fin 1024) : val_main_v75 (F := Ideal) x0 x1 x2 (ix2 s k) = (flat (I.data.ap s) k : EReal) := by
  simp only [val_main_v73, val_main_v74, val_main_v75]
  pointwise
  simp only [G.h2, r72 G.h0 G.h1, ← EReal.coe_mul, Reals.sum_coe]
  exact congrArg _ (Finset.sum_congr rfl fun j _ => mul_comm _ _)

include G in
theorem r78 (s : Fin 4096) (k : Fin 1024) : val_main_v78 (F := Ideal) x0 x1 x2 x3 (ix2 s k) = ((flat (I.data.ap s) k * I.ps k : ℝ) : EReal) := by
  simp only [val_main_v76, val_main_v77, val_main_v78]
  pointwise
  simp only [G.h3, r75 G, ← EReal.coe_mul]

include G in
theorem r196 (s : Fin 4096) (k : Fin 1024) : val_main_v196 (F := Ideal) x0 x1 x2 x3 x9 x10 (ix2 s k) = (flat (I.data.dz3 s) k : EReal) := by
  simp only [val_main_v195, val_main_v196]
  pointwise
  simp only [r190 G, r78 G, r176 G, ← EReal.coe_mul]
  refine congrArg _ ?_
  simp only [flat, Data.dz3, Data.dps, Data.da, cc_surj]
  show _ * (_ * I.ps k) * _ = _ * I.ps k * _
  ring

include G in
theorem r276 (k : Fin 1024) : val_main_v276 (F := Ideal) x0 x1 x2 x9 x10 (ix1 k) = ((∑ s : Fin 4096, flat (I.data.dps s) k : ℝ) : EReal) := by
  simp only [val_main_v271, val_main_cst_58, val_main_v272, val_main_v273, val_main_cst_59, val_main_v276]
  pointwise
  simp only [Fin.sum_univ_one, Ideal.ofBits_zero_f32, zero_add, r75 G, r194 G, ← EReal.coe_mul, Reals.sum_coe]
  refine congrArg _ (Finset.sum_congr rfl fun s _ => ?_)
  simp only [flat, Data.dps, cc_surj]
  ring

include G in
theorem r275 (s : Fin 4096) (k : Fin 1024) : val_main_v275 (F := Ideal) x0 x1 x3 x9 x10 (ix2 s k) = (flat (I.data.dap s) k : EReal) := by
  simp only [val_main_v76, val_main_v274, val_main_v275]
  pointwise
  simp only [G.h3, r194 G, ← EReal.coe_mul]
  refine congrArg _ ?_
  simp only [flat, Data.dap, cc_surj]
  rfl

theorem back (g : Fin 4) (d : Fin 256) (h : g.val * 256 + d.val < 1024) : (⟨g.val * 256 + d.val, h⟩ : Fin 1024) = cc g d := Fin.ext (Nat.add_comm _ _)

include G in
theorem r280 (s : Fin 4096) (g : Fin 4) (d : Fin 256) : val_main_v280 (F := Ideal) x0 x1 x2 x3 x9 x10 (ix3 s g d) = (I.data.dpo s g d : EReal) := by
  simp only [val_main_v277, val_main_v278, val_main_v279, val_main_v280]
  pointwise
  simp only [back, flat_cc, G.h2, r275 G, ← EReal.coe_mul, Reals.sum_coe]
  rfl

include G in
theorem r282 (g : Fin 4) (k d : Fin 256) : val_main_v282 (F := Ideal) x0 x1 x3 x9 x10 (ix3 g k d) = ((∑ s : Fin 4096, I.data.p s (cc g k) * I.data.dap s g d : ℝ) : EReal) := by
  simp only [val_main_v277, val_main_v278, val_main_v281, val_main_v282]
  pointwise
  simp only [back, flat_cc, r72 G.h0 G.h1, r275 G, ← EReal.coe_mul, Reals.sum_coe]
  exact congrArg _ (Finset.sum_congr rfl fun s _ => mul_comm _ _)

end Cert.Mx

end
-- ==== Proof.Mx.RefMix.lean ====
module

public import proofs.«01_k».proof.Proof.Mx.RefRow
public import proofs.«01_k».proof.Proof.Mx.Host

/-!
The gated branch of the reference: the products along the rows of a block.
-/

@[expose] public section

set_option maxRecDepth 16384

noncomputable section

namespace Cert.Mx

open Cert.RefMxIdeal Cert.RefMxIdeal.Read Idealize.ShloMosaic

variable {I : Inputs} {x0 : S4096x5120.Idx → EReal} {x1 : S5120.Idx → EReal} {x2 : S4x256x256.Idx → EReal} {x3 x4 x5 : S1024.Idx → EReal}
  {x6 : S4x128x128.Idx → EReal} {x7 : S4x128.Idx → EReal} {x8 : S4x256x256.Idx → EReal} {x9 : S1024x1024.Idx → EReal}
  {x10 : S4096x1024.Idx → EReal} (G : Given I x0 x1 x2 x3 x4 x5 x6 x7 x8 x9 x10)

/-- A sum over the first and the last of four axes. -/
theorem sum_ends {n0 n1 n2 n3 : Nat} (h : (⟨4, ![n0, n1, n2, n3]⟩ : Shape).ReducesTo [0, 3] ⟨2, ![n1, n2]⟩)
    (v : (⟨4, ![n0, n1, n2, n3]⟩ : Shape).Idx → EReal) (a : EReal) (i : Fin n1) (g : Fin n2) :
    Ideal.hostReduceAdd h v a (ix2 i g) = a + ∑ b : Fin n0, ∑ d : Fin n3, v (ix4 b i g d) := by
  refine congrArg (a + ·) ((Finset.sum_filter_eq_sum_of_fiber _ (fun k : Fin n0 × Fin n3 => ix4 k.1 i g k.2)
    (fun _ _ e => Prod.ext (congrFun e 0) (congrFun e 3)) (fun x => ?_) v).trans (by simp only [Fintype.sum_prod_type]))
  constructor
  · intro e
    refine ⟨(x 0, x 3), ?_⟩
    funext a
    match a with
    | ⟨0, _⟩ => rfl
    | ⟨1, _⟩ => exact Fin.ext (congrArg Fin.val (congrFun e 0)).symm
    | ⟨2, _⟩ => exact Fin.ext (congrArg Fin.val (congrFun e 1)).symm
    | ⟨3, _⟩ => rfl
  · rintro ⟨k, rfl⟩
    funext b
    match b with
    | ⟨0, _⟩ => rfl
    | ⟨1, _⟩ => rfl

/-- Row `i` of block `b`. -/
def bl (b : Fin 32) (i : Fin 128) : Fin 4096 := ⟨b.val * 128 + i.val, by omega⟩

theorem loc_bl (b : Fin 32) (i : Fin 128) : loc (bl b i) = i := Fin.ext (by show (b.val * 128 + i.val) % 128 = i.val; omega)

theorem blk_bl (b : Fin 32) (i j : Fin 128) : blk (bl b i) j = bl b j :=
  Fin.ext (by show (b.val * 128 + i.val) / 128 * 128 + j.val = b.val * 128 + j.val; omega)

theorem bl_surj (s : Fin 4096) : bl ⟨s.val / 128, by omega⟩ ⟨s.val % 128, by omega⟩ = s :=
  Fin.ext (by show s.val / 128 * 128 + s.val % 128 = s.val; omega)

theorem quot_col (i : Fin 128) (a : Fin 1) : val_main_v149 (F := Ideal) (ix2 i a) = BitVec.ofNat 32 (i.val / 64) := by
  rw [Subsingleton.elim a 0]
  exact (by decide +kernel : ∀ i : Fin 128, val_main_v149 (F := Ideal) (ix2 i 0) = BitVec.ofNat 32 (i.val / 64)) i

theorem quot_row (a : Fin 1) (i : Fin 128) : val_main_v151 (F := Ideal) (ix2 a i) = BitVec.ofNat 32 (i.val / 64) := by
  rw [Subsingleton.elim a 0]
  exact (by decide +kernel : ∀ i : Fin 128, val_main_v151 (F := Ideal) (ix2 0 i) = BitVec.ofNat 32 (i.val / 64)) i

theorem sge_low : ∀ i j : Fin 128, IntOp.cmpi .sge (BitVec.ofNat 32 (i.val / 64)) (BitVec.ofNat 32 (j.val / 64)) = if low i j then 1#1 else 0#1 := by
  decide +kernel

theorem mask_low (h : Fin 4) (i j : Fin 128) : val_main_v156_1 (F := Ideal) (ix3 h i j) = if low i j then 1#1 else 0#1 := by
  simp only [val_main_v156_1, val_main_v155, val_main_v154, val_main_v153, val_main_v152]
  pointwise
  rw [quot_col, quot_row, sge_low]

include G in
theorem r156 (h : Fin 4) (i j : Fin 128) : val_main_v156_0 (F := Ideal) x6 (ix3 h i j) = (I.data.ws h i j : EReal) := by
  simp only [val_main_v156_0, val_main_call3_v2, val_main_call3_v0, val_main_cst_33]
  pointwise
  simp only [mask_low, Ideal.ofBits_zero_f32]
  by_cases hl : low i j
  · rw [if_pos hl]
    simp only [Inputs.data, if_pos hl]
    exact G.h6 h i j
  · rw [if_neg hl]
    simp only [Inputs.data, if_neg hl]
    exact Ideal.ofBits_zero_f32

include G in
theorem r146 (b : Fin 32) (i : Fin 128) (h : Fin 4) (d : Fin 256) : val_main_v146 (F := Ideal) x0 x1 x4 x5 (ix4 b i h d) = (I.data.vb (bl b i) (cc h d) : EReal) := by
  simp only [val_main_v146]
  pointwise
  rw [back]
  exact r145 G (bl b i) (cc h d)

include G in
theorem r157 (h : Fin 4) (b : Fin 32) (d : Fin 256) (i : Fin 128) : val_main_v157 (F := Ideal) x0 x1 x4 x5 x6 (ix4 h b d i) = ((∑ j : Fin 128, I.data.ws h i j * I.data.vb (bl b j) (cc h d) : ℝ) : EReal) := by
  simp only [val_main_v157]
  pointwise
  simp only [r146 G, r156 G, ← EReal.coe_mul, Reals.sum_coe]
  exact congrArg _ (Finset.sum_congr rfl fun j _ => mul_comm _ _)

include G in
theorem r162 (b : Fin 32) (i : Fin 128) (h : Fin 4) (d : Fin 256) : val_main_v162 (F := Ideal) x0 x1 x4 x5 x6 x7 (ix4 b i h d) = (I.data.sv (bl b i) h d : EReal) := by
  simp only [val_main_v158, val_main_v159, val_main_v160, val_main_v161, val_main_v162]
  pointwise
  simp only [r157 G, G.h7, ← EReal.coe_add]
  simp only [Data.sv, loc_bl, blk_bl]
  rfl

include G in
theorem r163 (b : Fin 32) (i : Fin 128) (h : Fin 4) (d : Fin 256) : val_main_v163 (F := Ideal) x0 x1 (ix4 b i h d) = (I.data.u (bl b i) (cc h d) : EReal) := by
  simp only [val_main_v163]
  pointwise
  rw [back]
  exact r99 G (bl b i) (cc h d)

include G in
theorem r164 (b : Fin 32) (i : Fin 128) (h : Fin 4) (d : Fin 256) : val_main_v164 (F := Ideal) x0 x1 x4 x5 x6 x7 (ix4 b i h d) = (I.data.gt (bl b i) h d : EReal) := by
  simp only [val_main_v164]
  pointwise
  simp only [r162 G, r163 G, ← EReal.coe_mul]
  rfl

include G in
theorem r167 (s : Fin 4096) (k : Fin 1024) : val_main_v167 (F := Ideal) x0 x1 x4 x5 x6 x7 x8 (ix2 s k) = (flat (I.data.br s) k : EReal) := by
  simp only [val_main_v165, val_main_v166, val_main_v167]
  pointwise
  simp only [r164 G, G.h8, ← EReal.coe_mul, Reals.sum_coe, bl_surj]
  exact congrArg _ (Finset.sum_congr rfl fun j _ => mul_comm _ _)

include G in
theorem r193 (s : Fin 4096) (k : Fin 1024) : val_main_v193 (F := Ideal) x0 x1 x4 x5 x6 x7 x8 x9 x10 (ix2 s k) = (flat (I.data.dz4 s) k : EReal) := by
  simp only [val_main_v192, val_main_v193]
  pointwise
  simp only [r190 G, r167 G, r186 G, ← EReal.coe_mul]
  refine congrArg _ ?_
  simp only [flat, Data.dz4, Data.db, cc_surj]
  ring

include G in
theorem r198 (h : Fin 4) (d : Fin 256) (b : Fin 32) (i : Fin 128) : val_main_v198 (F := Ideal) x0 x1 x9 x10 (ix4 h d b i) = (I.data.db (bl b i) (cc h d) : EReal) := by
  simp only [val_main_v197, val_main_v198]
  pointwise
  rw [back]
  exact r191 G (bl b i) (cc h d)

include G in
theorem r200 (b : Fin 32) (i : Fin 128) (h : Fin 4) (d : Fin 256) : val_main_v200 (F := Ideal) x0 x1 x8 x9 x10 (ix4 b i h d) = (I.data.dgt (bl b i) h d : EReal) := by
  simp only [val_main_v199, val_main_v200]
  pointwise
  simp only [r198 G, G.h8, ← EReal.coe_mul, Reals.sum_coe]
  rfl

include G in
theorem r202 (h : Fin 4) (k d : Fin 256) : val_main_v202 (F := Ideal) x0 x1 x4 x5 x6 x7 x9 x10 (ix3 h k d) = ((∑ b : Fin 32, ∑ i : Fin 128, I.data.gt (bl b i) h k * I.data.db (bl b i) (cc h d) : ℝ) : EReal) := by
  simp only [val_main_v201, val_main_v202]
  pointwise
  simp only [r198 G, r164 G, ← EReal.coe_mul, Reals.sum_coe]
  exact congrArg _ (Finset.sum_congr rfl fun b _ => Finset.sum_congr rfl fun i _ => mul_comm _ _)

include G in
theorem r203 (b : Fin 32) (i : Fin 128) (h : Fin 4) (d : Fin 256) : val_main_v203 (F := Ideal) x0 x1 x8 x9 x10 (ix4 b i h d) = (I.data.dsv (bl b i) h d : EReal) := by
  simp only [val_main_v203]
  pointwise
  simp only [r163 G, r200 G, ← EReal.coe_mul]
  exact congrArg _ (mul_comm _ _)

include G in
theorem r205 (s : Fin 4096) (k : Fin 1024) : val_main_v205 (F := Ideal) x0 x1 x4 x5 x6 x7 x8 x9 x10 (ix2 s k) = (flat (I.data.dgs s) k : EReal) := by
  simp only [val_main_v204, val_main_v205]
  pointwise
  simp only [r162 G, r200 G, ← EReal.coe_mul, bl_surj]
  rfl

include G in
theorem r206 (i : Fin 128) (h : Fin 4) : val_main_v206 (F := Ideal) x0 x1 x8 x9 x10 (ix2 i h) = ((∑ b : Fin 32, ∑ d : Fin 256, I.data.dsv (bl b i) h d : ℝ) : EReal) := by
  refine (sum_ends _ _ _ i h).trans ?_
  simp only [r203 G, Reals.sum_coe, val_main_cst_40]
  exact (congrArg (· + _) Ideal.ofBits_zero_f32).trans (zero_add _)

include G in
theorem r209 (h : Fin 4) (i : Fin 128) : val_main_v209 (F := Ideal) x0 x1 x8 x9 x10 (ix2 h i) = ((∑ b : Fin 32, ∑ d : Fin 256, I.data.dsv (bl b i) h d : ℝ) : EReal) := by
  simp only [val_main_v209]
  pointwise
  refine (sum_ends _ _ _ i h).trans ?_
  rw [Fin.sum_univ_one, Fin.sum_univ_one]
  refine ((congrArg₂ (· + ·) Ideal.ofBits_zero_f32 ?_).trans (zero_add _))
  simp only [val_main_v207]
  pointwise
  exact r206 G i h

include G in
theorem r210 (h : Fin 4) (b : Fin 32) (d : Fin 256) (i : Fin 128) : val_main_v210 (F := Ideal) x0 x1 x8 x9 x10 (ix4 h b d i) = (I.data.dsv (bl b i) h d : EReal) := by
  simp only [val_main_v210]
  pointwise
  exact r203 G b i h d

include G in
theorem r211 (h : Fin 4) (i j : Fin 128) : val_main_v211 (F := Ideal) x0 x1 x4 x5 x8 x9 x10 (ix3 h i j) = ((∑ b : Fin 32, ∑ d : Fin 256, I.data.dsv (bl b i) h d * I.data.vb (bl b j) (cc h d) : ℝ) : EReal) := by
  simp only [val_main_v211]
  pointwise
  simp only [r210 G, r146 G, ← EReal.coe_mul, Reals.sum_coe]

include G in
theorem r214 (h : Fin 4) (i j : Fin 128) : val_main_v214 (F := Ideal) x0 x1 x4 x5 x8 x9 x10 (ix3 h i j) = ((if low i j then ∑ b : Fin 32, ∑ d : Fin 256, I.data.dsv (bl b i) h d * I.data.vb (bl b j) (cc h d) else 0 : ℝ) : EReal) := by
  simp only [val_main_v214, val_main_call4_v0, val_main_call4_cst]
  pointwise
  simp only [mask_low, Ideal.ofBits_zero_f32, r211 G]
  by_cases hl : low i j
  · rw [if_pos hl, if_pos hl]
    rfl
  · rw [if_neg hl, if_neg hl]
    rfl

include G in
theorem r212 (h : Fin 4) (b : Fin 32) (d : Fin 256) (j : Fin 128) : val_main_v212 (F := Ideal) x0 x1 x6 x8 x9 x10 (ix4 h b d j) = (I.data.dv (bl b j) h d : EReal) := by
  simp only [val_main_v212]
  pointwise
  simp only [r210 G, r156 G, ← EReal.coe_mul, Reals.sum_coe]
  simp only [Data.dv, loc_bl, blk_bl]
  exact congrArg _ (Finset.sum_congr rfl fun i _ => mul_comm _ _)

include G in
theorem r215 (s : Fin 4096) (k : Fin 1024) : val_main_v215 (F := Ideal) x0 x1 x6 x8 x9 x10 (ix2 s k) = (flat (I.data.dv s) k : EReal) := by
  simp only [val_main_v213, val_main_v215]
  pointwise
  rw [r212 G, bl_surj]
  rfl

end Cert.Mx

end
-- ==== Proof.Mx.Arrays.lean ====
module

public import proofs.«01_k».proof.Proof.Mx.Total
public import proofs.«01_k».proof.Proof.Mx.Blocks
public import proofs.«01_k».proof.Proof.Mx.Frame
public import proofs.«01_k».proof.Proof.Mx.RefMix

/-!
The seven arrays the backward kernel leaves, as real numbers of the whole inputs.
-/

@[expose] public section

set_option maxRecDepth 16384

noncomputable section

namespace Cert.Mx

open Cert.KernelMxIdeal Cert.KernelMxIdeal.Gen Idealize.ShloMosaic Idealize.ShloMosaic.TcCoe Idealize.SL.Sem

theorem canon_of {s : Shape} {e : EltTy} (G : s.Idx → Elt Ideal e) (L : List (View.Piece (Elt Ideal) s e)) (h : View.PiecesOf G L) (y : s.Idx)
    (hc : ∃ p ∈ L, y ∈ p.1.set) : View.canon L y = G y := by
  have e := View.canon_append_of_piecesOf G [] L h y hc
  rwa [List.append_nil] at e

/-- The points taken in turn visit every row once. -/
theorem sum_rows (f : Fin 4096 → ℝ) : ∑ u ∈ Finset.range 16, ∑ s : Fin 256, f (row u s) = ∑ s : Fin 4096, f s := by
  rw [← Finset.sum_range_reflect, ← Fin.sum_univ_eq_sum_range (fun u => ∑ s : Fin 256, f (row (16 - 1 - u) s)) 16, ← Fin.sum_mul_add_fin 16 256 f]
  refine Finset.sum_congr rfl fun u _ => Finset.sum_congr rfl fun s _ => congrArg f (Fin.ext ?_)
  show (15 - (16 - 1 - u.val)) * 256 + s.val = u.val * 256 + s.val
  have := u.isLt
  rw [show 15 - (16 - 1 - u.val) = u.val by omega]

/-- The points taken in turn visit both halves of their rows, every block once. -/
theorem sum_blocks (i : Fin 128) (f : Fin 4096 → ℝ) : ∑ u ∈ Finset.range 16, (f (row u (tb 0 i)) + f (row u (tb 1 i))) = ∑ b : Fin 32, f (bl b i) := by
  rw [← Finset.sum_range_reflect, ← Fin.sum_univ_eq_sum_range (fun u => f (row (16 - 1 - u) (tb 0 i)) + f (row (16 - 1 - u) (tb 1 i))) 16,
    ← Fin.sum_mul_add_fin 16 2 (fun b : Fin 32 => f (bl b i))]
  refine Finset.sum_congr rfl fun u _ => ?_
  rw [Fin.sum_univ_two]
  have := u.isLt
  refine congrArg₂ _ (congrArg f (Fin.ext ?_)) (congrArg f (Fin.ext ?_))
  · show (15 - (16 - 1 - u.val)) * 256 + (0 * 128 + i.val) = (u.val * 2 + 0) * 128 + i.val
    omega
  · show (15 - (16 - 1 - u.val)) * 256 + (1 * 128 + i.val) = (u.val * 2 + 1) * 128 + i.val
    omega

theorem sum_pair_blocks (i j : Fin 128) (f : Fin 4096 → Fin 4096 → ℝ) :
    ∑ u ∈ Finset.range 16, (f (row u (tb 0 i)) (row u (tb 0 j)) + f (row u (tb 1 i)) (row u (tb 1 j))) = ∑ b : Fin 32, f (bl b i) (bl b j) := by
  rw [← Finset.sum_range_reflect,
    ← Fin.sum_univ_eq_sum_range (fun u => f (row (16 - 1 - u) (tb 0 i)) (row (16 - 1 - u) (tb 0 j)) + f (row (16 - 1 - u) (tb 1 i)) (row (16 - 1 - u) (tb 1 j))) 16,
    ← Fin.sum_mul_add_fin 16 2 (fun b : Fin 32 => f (bl b i) (bl b j))]
  refine Finset.sum_congr rfl fun u _ => ?_
  rw [Fin.sum_univ_two]
  have := u.isLt
  have e : ∀ (b : Fin 2) (i : Fin 128), row (16 - 1 - u.val) (tb b i) = bl ⟨u.val * 2 + b.val, by omega⟩ i := fun b i => Fin.ext (by
    show (15 - (16 - 1 - u.val)) * 256 + (b.val * 128 + i.val) = (u.val * 2 + b.val) * 128 + i.val
    omega)
  rw [e, e, e, e]

namespace Data

variable (D : Data)

/-- The whole sums the kernel leaves. -/
def allMix (h : Fin 4) (i j : Fin 128) : ℝ := ∑ b : Fin 32, ∑ d : Fin 256, D.dsv (bl b i) h d * D.vb (bl b j) (cc h d)
def allBias (r : Fin 128) (e : Fin 512) : ℝ := ∑ b : Fin 32, ∑ d : Fin 256, D.dsv (bl b r) ⟨e.val / 128, by omega⟩ d
def allPool (g : Fin 4) (k d : Fin 256) : ℝ := ∑ s : Fin 4096, D.p s (cc g k) * D.dap s g d
def allProj (h : Fin 4) (k d : Fin 256) : ℝ := ∑ s : Fin 4096, D.gt s h k * D.db s (cc h d)
def allVec (a : Fin 8) (k : Fin 1024) : ℝ :=
  if a.val = 0 then ∑ s : Fin 4096, flat (D.dps s) k
  else if a.val = 1 then ∑ s : Fin 4096, flat (D.dv s) k * D.vh s k
  else if a.val = 2 then ∑ s : Fin 4096, flat (D.dv s) k else 0
def allBin (a : Fin 8) (e : Fin 5120) : ℝ := if a.val = 0 then ∑ s : Fin 4096, D.dzc s e else 0

theorem tot_mix (h : Fin 4) (i j : Fin 128) : D.totMix 16 h i j = D.allMix h i j :=
  sum_pair_blocks i j fun s r => ∑ d : Fin 256, D.dsv s h d * D.vb r (cc h d)

theorem tot_pool (g : Fin 4) (k d : Fin 256) : D.totPool 16 g k d = D.allPool g k d := sum_rows fun s => D.p s (cc g k) * D.dap s g d

theorem tot_proj (h : Fin 4) (k d : Fin 256) : D.totProj 16 h k d = D.allProj h k d := sum_rows fun s => D.gt s h k * D.db s (cc h d)

theorem tot_bias (r : Fin 128) (e : Fin 512) : ∑ d : Fin 256, D.totBias 16 r (cc ⟨e.val / 128, by omega⟩ d) = D.allBias r e := by
  unfold totBias allBias addBias
  rw [Finset.sum_comm (s := Finset.univ (α := Fin 32))]
  refine Finset.sum_congr rfl fun d _ => ?_
  simp only [flat_cc]
  exact sum_blocks r fun s => D.dsv s ⟨e.val / 128, by omega⟩ d

theorem tot_vec (a : Fin 8) (k : Fin 1024) : D.totVec 16 a k = D.allVec a k := by
  unfold totVec allVec addVec
  by_cases e0 : a.val = 0
  · simp only [if_pos e0]
    exact sum_rows fun s => flat (D.dps s) k
  by_cases e1 : a.val = 1
  · simp only [if_neg e0, if_pos e1]
    exact sum_rows fun s => flat (D.dv s) k * D.vh s k
  by_cases e2 : a.val = 2
  · simp only [if_neg e0, if_neg e1, if_pos e2]
    exact sum_rows fun s => flat (D.dv s) k
  · simp only [if_neg e0, if_neg e1, if_neg e2, Finset.sum_const_zero]

theorem tot_bin (a : Fin 8) (e : Fin 5120) : D.totBin 16 a e = D.allBin a e := by
  unfold totBin allBin addBin
  by_cases e0 : a.val = 0
  · simp only [if_pos e0]
    exact sum_rows fun s => D.dzc s e
  · simp only [if_neg e0, Finset.sum_const_zero]

end Data

variable (m : (ℓ : Loc nD τ sig) → Buf (Elt Ideal) ℓ) (c : Dev nD) {D : Data}
  (hR : ∀ t : Fin cfg0.N, Reads D t.val (iblk m c 0 t) (iblk m c 1 t) (iblk m c 2 t) (iblk m c 3 t) (iblk m c 4 t) (iblk m c 5 t) (iblk m c 6 t) (iblk m c 7 t) (iblk m c 8 t)
  (iblk m c 9 t) (iblk m c 10 t) (iblk m c 11 t))
  (hM : ∀ (t : Fin cfg0.N) (i j : Fin 128), iblk m c 12 t (ix2 i j) = ((if low i j then 1 else 0 : ℝ) : EReal))

include hR

theorem tile_at (t : Fin cfg0.N) (y : S256x5120.Idx) : tile m c t (st m c t.val) y = buf2 (fun s e => D.dzc (row t.val s) e) y := by
  have hN : t.val < 16 := Nat.lt_of_lt_of_eq t.isLt N_0
  unfold tile midAt
  exact canon_of _ _ (tile_pieces (hR t) (by omega) (coords_zero t) (c_win (holds_st m c hR t))) y (cover_tile ..)

theorem pool_at (t : Fin cfg0.N) (ht : t.val = 15) (y : S2x4x128x256.Idx) : poolEnd m c t (st m c t.val) y = splitT D.allPool y := by
  unfold poolEnd finAt
  refine (canon_of _ _ (pool_end (hR t) (c_pool (holds_st m c hR t))) y (cover_pool ..)).trans (congrArg (fun g => splitT g y) ?_)
  funext g k d
  rw [← D.tot_pool, Data.totPool, Data.totPool, Finset.sum_range_succ, ht]

set_option maxHeartbeats 2000000 in
theorem proj_at (t : Fin cfg0.N) (ht : t.val = 15) (y : S2x4x128x256.Idx) : projEnd m c t (st m c t.val) y = splitT D.allProj y := by
  unfold projEnd finAt
  refine (canon_of _ _ (proj_end (arg28 := projM) (harg28 := Memref.isWhole_whole _) (hR t) (c_proj (holds_st m c hR t))) y (cover_proj ..)).trans (congrArg (fun g => splitT g y) ?_)
  funext g k d
  rw [← D.tot_proj, Data.totProj, Data.totProj, Finset.sum_range_succ, ht]

set_option maxHeartbeats 2000000 in
theorem bias_at (t : Fin cfg0.N) (ht : t.val = 15) (y : S128x512.Idx) : biasEnd m c t (st m c t.val) y = buf2 D.allBias y := by
  unfold biasEnd finAt
  refine (canon_of _ _ (bias_end (arg26 := dsumM) (harg26 := Memref.isWhole_whole _) (hR t) (c_bias (holds_st m c hR t))) y (cover_bias ..)).trans (congrArg (fun g => buf2 g y) ?_)
  funext r e
  rw [← D.tot_bias]
  refine Finset.sum_congr rfl fun d _ => ?_
  rw [Data.totBias, Data.totBias, Finset.sum_range_succ, ht]

include hM in
set_option maxHeartbeats 2000000 in
theorem mix_at (t : Fin cfg0.N) (ht : t.val = 15) (h : Fin 4) (p q : Fin 128) : dwsEnd m c t (st m c t.val) (ix3 h p q) = (kept D.allMix h p q : EReal) := by
  unfold dwsEnd finAt
  refine (mix_end (arg18 := win0_17.stage (cfg0.slots t 17)) (harg18 := hstage0_17 ((cfg0.slots t 17).cast nbuf0_17)) (hR t) (c_mix (holds_st m c hR t)) (hM t) h p q).trans (congrArg (fun g => (kept g h p q : EReal)) ?_)
  funext h i j
  rw [← D.tot_mix, Data.totMix, Data.totMix, Finset.sum_range_succ, ht, add_assoc]

omit hR in
/-- The tiles' rows in the whole array. -/
theorem whole14 (v : Vec Ideal S4096x5120 .bf16) (h : ∀ t y0 y1, tile m c t (st m c t.val) (ix2 y0 y1) = v (ix2 (row t.val y0) y1)) :
    (dats m 0 c).arrAt 14 cfg0.N = v := by
  refine (dats m 0 c).arrAt_eq_of_covers 14 _ (by decide +kernel) fun t hf y => ?_
  idx_vars y
  blk_simp
  rw [after_14]
  refine (h t _ _).trans (congrArg v (?_ : ix2 (row t.val y0) y1 = _))
  refine funext fun a => Fin.ext ?_
  fin_cases a <;> blk_simp [idx t, row] <;> rfl

omit hR in
/-- An array stored whole by the last point. -/
theorem whole15 (v : Vec Ideal S2x4x128x256 .bf16) (h : ∀ y, poolEnd m c t0_15 (st m c t0_15.val) y = v y) : (dats m 0 c).arrAt 15 cfg0.N = v := by
  have e := after_15 m c t0_15
  refine (dats m 0 c).arrAt_eq_of_after_last 15 t0_15 (by decide +kernel) v fun j => ?_
  exact (congrFun e j).trans (h j)

omit hR in
theorem whole16 (v : Vec Ideal S2x4x128x256 .bf16) (h : ∀ y, projEnd m c t0_15 (st m c t0_15.val) y = v y) : (dats m 0 c).arrAt 16 cfg0.N = v := by
  have e := after_16 m c t0_15
  refine (dats m 0 c).arrAt_eq_of_after_last 16 t0_15 (by decide +kernel) v fun j => ?_
  exact (congrFun e j).trans (h j)

theorem arr14 : (dats m 0 c).arrAt 14 cfg0.N = buf2 (a := 4096) (b := 5120) D.dzc :=
  whole14 m c _ fun t _ _ => tile_at m c hR t _

theorem arr15 : (dats m 0 c).arrAt 15 cfg0.N = splitT D.allPool := whole15 m c _ fun y => pool_at m c hR t0_15 rfl y

theorem arr16 : (dats m 0 c).arrAt 16 cfg0.N = splitT D.allProj := whole16 m c _ fun y => proj_at m c hR t0_15 rfl y

include hM in
theorem arr17 : (dats m 0 c).arrAt 17 cfg0.N = buf3 (kept D.allMix) := by
  refine (dats m 0 c).arrAt_eq_of_after_last 17 t0_15 (by decide +kernel) _ fun j => ?_
  rw [after_17, if_pos (show t0_15.val = 15 from rfl)]
  idx_vars j
  exact mix_at m c hR hM t0_15 rfl _ _ _

theorem arr18 : (dats m 0 c).arrAt 18 cfg0.N = buf2 (a := 128) (b := 512) D.allBias := by
  refine (dats m 0 c).arrAt_eq_of_after_last 18 t0_15 (by decide +kernel) _ fun j => ?_
  rw [after_18]
  exact bias_at m c hR t0_15 rfl j

theorem arr19 : (dats m 0 c).arrAt 19 cfg0.N = buf2 (a := 8) (b := 1024) D.allVec := by
  refine (dats m 0 c).arrAt_eq_of_after_last 19 t0_15 (by decide +kernel) _ fun j => ?_
  rw [after_19, st_succ]
  idx_vars j
  exact (n_vec m c hR (holds_st m c hR t0_15) _ _).trans (congrArg Real.toEReal (D.tot_vec _ _))

theorem arr20 : (dats m 0 c).arrAt 20 cfg0.N = buf2 (a := 8) (b := 5120) D.allBin := by
  refine (dats m 0 c).arrAt_eq_of_after_last 20 t0_15 (by decide +kernel) _ fun j => ?_
  rw [after_20, st_succ]
  idx_vars j
  exact (n_bin m c hR (holds_st m c hR t0_15) _ _).trans (congrArg Real.toEReal (D.tot_bin _ _))

end Cert.Mx

end
-- ==== Proof.Mx.RefDz.lean ====
module

public import proofs.«01_k».proof.Proof.Mx.RefMix

/-!
The gradient of the projected row in the reference.
-/

@[expose] public section

set_option maxRecDepth 16384

noncomputable section

namespace Cert.Mx

open Cert.RefMxIdeal Cert.RefMxIdeal.Read Idealize.ShloMosaic

variable {I : Inputs} {x0 : S4096x5120.Idx → EReal} {x1 : S5120.Idx → EReal} {x2 : S4x256x256.Idx → EReal} {x3 x4 x5 : S1024.Idx → EReal}
  {x6 : S4x128x128.Idx → EReal} {x7 : S4x128.Idx → EReal} {x8 : S4x256x256.Idx → EReal} {x9 : S1024x1024.Idx → EReal}
  {x10 : S4096x1024.Idx → EReal} (G : Given I x0 x1 x2 x3 x4 x5 x6 x7 x8 x9 x10)

include G in
theorem r223 (s : Fin 4096) (k : Fin 1024) : val_main_v223 (F := Ideal) x0 x1 x4 x6 x8 x9 x10 (ix2 s k) = (I.data.dvh s k : EReal) := by
  simp only [val_main_v140, val_main_v222, val_main_v223]
  pointwise
  simp only [r215 G, G.h4, ← EReal.coe_mul]
  rfl

include G in
theorem r218 (k : Fin 1024) : val_main_v218 (F := Ideal) x0 x1 x6 x8 x9 x10 (ix1 k) = ((∑ s : Fin 4096, flat (I.data.dv s) k : ℝ) : EReal) := by
  simp only [val_main_cst_42, val_main_v216, val_main_v217, val_main_cst_43, val_main_v218]
  pointwise
  simp only [Fin.sum_univ_one, Ideal.ofBits_zero_f32, zero_add, r215 G, Reals.sum_coe]

include G in
theorem r224 (k : Fin 1024) : val_main_v224 (F := Ideal) x0 x1 x6 x8 x9 x10 (ix1 k) = ((∑ s : Fin 4096, flat (I.data.dv s) k * I.data.vh s k : ℝ) : EReal) := by
  simp only [val_main_v219, val_main_cst_44, val_main_v220, val_main_v221, val_main_cst_45, val_main_v224]
  pointwise
  simp only [Fin.sum_univ_one, Ideal.ofBits_zero_f32, zero_add, r139 G, r215 G, ← EReal.coe_mul, Reals.sum_coe]
  exact congrArg _ (Finset.sum_congr rfl fun s _ => mul_comm _ _)

/-- What the derivative of the variance is scaled by. -/
def vq (D : Data) (s : Fin 4096) : ℝ := (∑ k : Fin 1024, D.ce s k * D.dvh s k) * (-(1 / 2) * (D.rs s / D.va s)) / 1024

theorem vq_ce (D : Data) (s : Fin 4096) (k : Fin 1024) : D.ce s k * vq D s + vq D s * D.ce s k = -(D.rs s * (D.vh s k * D.m2 s)) := by
  have h : D.rs s * D.rs s = (D.va s)⁻¹ := by
    rw [Data.rs, ← mul_inv, Real.mul_self_sqrt (D.va_pos s).le]
  have e : D.m2 s = (∑ k : Fin 1024, D.ce s k * D.dvh s k) * D.rs s / 1024 := by
    rw [Data.m2, Finset.sum_mul]
    exact congrArg (· / 1024) (Finset.sum_congr rfl fun k _ => by rw [Data.vh]; ring)
  rw [e, vq, Data.vh, div_eq_mul_inv (D.rs s), ← h]
  ring

theorem ce_sum (D : Data) (s : Fin 4096) : ∑ k : Fin 1024, D.ce s k = 0 := by
  simp only [Data.ce, Finset.sum_sub_distrib, Data.mu, Finset.sum_const, Finset.card_univ, Fintype.card_fin, nsmul_eq_mul]
  push_cast
  ring

theorem norm_mean (D : Data) (s : Fin 4096) (k : Fin 1024) :
    (D.dvh s k * D.rs s + D.ce s k * vq D s + vq D s * D.ce s k)
      + (∑ j : Fin 1024, -(D.dvh s j * D.rs s + D.ce s j * vq D s + vq D s * D.ce s j)) / 1024
      = D.rs s * (D.dvh s k - D.m1 s - D.vh s k * D.m2 s) := by
  have h : ∑ j : Fin 1024, -(D.dvh s j * D.rs s + D.ce s j * vq D s + vq D s * D.ce s j) = -((∑ j : Fin 1024, D.dvh s j) * D.rs s) := by
    rw [Finset.sum_neg_distrib]
    simp only [Finset.sum_add_distrib, ← Finset.sum_mul, ← Finset.mul_sum, ce_sum]
    ring
  have e := vq_ce D s k
  rw [h, Data.m1]
  linear_combination e

include G in
theorem r233 (s : Fin 4096) : val_main_v233 (F := Ideal) x0 x1 x4 x6 x8 x9 x10 (ix1 s) = (vq I.data s : EReal) := by
  simp only [val_main_v225, val_main_cst_46, val_main_v226, val_main_v227, val_main_v230, val_main_cst_47, val_main_v231, val_main_v232, val_main_cst_48, val_main_v233]
  pointwise
  simp only [Fin.sum_univ_one, Reals.word_1024, Ideal.ofBits_zero_f32, zero_add, r126 G, r223 G, r137 G]
  simp only [← EReal.coe_mul, Reals.sum_coe, Reals.div_real _ (show (1024 : ℝ) ≠ 0 by norm_num)]
  rfl

include G in
theorem r238 (s : Fin 4096) (k : Fin 1024) : val_main_v238 (F := Ideal) x0 x1 x4 x6 x8 x9 x10 (ix2 s k) = ((I.data.dvh s k * I.data.rs s + I.data.ce s k * vq I.data s + vq I.data s * I.data.ce s k : ℝ) : EReal) := by
  simp only [val_main_v228, val_main_v229, val_main_v234, val_main_v235, val_main_v236, val_main_v237, val_main_v238]
  pointwise
  simp only [r126 G, r223 G, r134 G, r233 G, ← EReal.coe_mul, ← EReal.coe_add]

include G in
theorem r246 (s : Fin 4096) (k : Fin 1024) : val_main_v246 (F := Ideal) x0 x1 x4 x6 x8 x9 x10 (ix2 s k) = ((I.data.rs s * (I.data.dvh s k - I.data.m1 s - I.data.vh s k * I.data.m2 s) : ℝ) : EReal) := by
  simp only [val_main_v239, val_main_cst_49, val_main_v240, val_main_v241, val_main_cst_50, val_main_v242, val_main_v243, val_main_cst_51, val_main_v244, val_main_v245, val_main_v246]
  pointwise
  simp only [Fin.sum_univ_one, Reals.word_1024, Ideal.ofBits_zero_f32, zero_add, r238 G]
  simp only [← EReal.coe_neg, Reals.sum_coe, Reals.div_real _ (show (1024 : ℝ) ≠ 0 by norm_num), ← EReal.coe_add]
  rw [norm_mean]

include G in
theorem r258 (s : Fin 4096) (k : Fin 1024) : val_main_v258 (F := Ideal) x0 x1 x4 x6 x8 x9 x10 (ix2 s k) = (I.data.dz2 s k : EReal) := by
  simp only [val_main_v247, val_main_v248, val_main_cst_52, val_main_v249, val_main_v250, val_main_v251, val_main_cst_53, val_main_v252, val_main_v253, val_main_v254, val_main_cst_54, val_main_v255, val_main_v256, val_main_v257, val_main_v258]
  pointwise
  simp only [word_half, word_root, word_cube, r5 G, r246 G, r119 G, r115 G, r104 G, ← EReal.coe_mul, ← EReal.coe_add]
  rw [dgel_th]
  rfl

include G in
theorem r270 (s : Fin 4096) (k : Fin 1024) : val_main_v270 (F := Ideal) x0 x1 x4 x5 x6 x7 x8 x9 x10 (ix2 s k) = (I.data.dz1 s k : EReal) := by
  simp only [val_main_v259, val_main_v260, val_main_cst_55, val_main_v261, val_main_v262, val_main_v263, val_main_cst_56, val_main_v264, val_main_v265, val_main_v266, val_main_cst_57, val_main_v267, val_main_v268, val_main_v269, val_main_v270]
  pointwise
  simp only [word_half, word_root, word_cube, r4 G, r205 G, r98 G, r94 G, r83 G, ← EReal.coe_mul, ← EReal.coe_add]
  rw [dgel_th]
  rfl

theorem shift_real (q : ℕ → ℝ) (s w m : ℕ) (hm : m + w = 4096) {a : EReal} {b : s < m → EReal} (ha : a = (q s : EReal))
    (hb : ∀ h, b h = (q (w + s) : EReal)) :
    (a + if h : s < m then -b h else 0) = ((q s - if s + w < 4096 then q (s + w) else 0 : ℝ) : EReal) := by
  by_cases h : s < m
  · rw [dif_pos h, if_pos (by omega), ha, hb, Nat.add_comm s w, ← EReal.coe_neg, ← EReal.coe_add, sub_eq_add_neg]
  · rw [dif_neg h, if_neg (by omega), ha, add_zero, sub_zero]

/-- Four parts side by side, each padded to the whole width. -/
theorem pick_part (k : Fin 1024) (f : Fin 4 → Fin 256 → EReal) :
    ((((if h : 768 ≤ k.val ∧ k.val - 768 < 256 then f 3 ⟨k.val - 768, h.2⟩ else 0)
      + if h : 512 ≤ k.val ∧ k.val - 512 < 256 then f 2 ⟨k.val - 512, h.2⟩ else 0)
      + if h : 256 ≤ k.val ∧ k.val - 256 < 256 then f 1 ⟨k.val - 256, h.2⟩ else 0)
      + if h : k.val < 256 then f 0 ⟨k.val, h⟩ else 0) = f ⟨k.val / 256, by omega⟩ ⟨k.val % 256, by omega⟩ := by
  have e (g : Fin 4) (d : Fin 256) (h : d.val + g.val * 256 = k.val) : f g d = f ⟨k.val / 256, by omega⟩ ⟨k.val % 256, by omega⟩ :=
    congrArg₂ f (Fin.ext (by show g.val = k.val / 256; omega)) (Fin.ext (by show d.val = k.val % 256; omega))
  split_ifs <;> first | omega | (simp only [zero_add, add_zero]; exact e _ _ (by simp; try omega))

/-- Five parts side by side, each padded to the whole width. -/
theorem pick_col (k : Fin 5120) (f : Fin 5 → Fin 1024 → EReal) :
    (((((if h : 4096 ≤ k.val ∧ k.val - 4096 < 1024 then f 4 ⟨k.val - 4096, h.2⟩ else 0)
      + if h : 3072 ≤ k.val ∧ k.val - 3072 < 1024 then f 3 ⟨k.val - 3072, h.2⟩ else 0)
      + if h : 2048 ≤ k.val ∧ k.val - 2048 < 1024 then f 2 ⟨k.val - 2048, h.2⟩ else 0)
      + if h : 1024 ≤ k.val ∧ k.val - 1024 < 1024 then f 1 ⟨k.val - 1024, h.2⟩ else 0)
      + if h : k.val < 1024 then f 0 ⟨k.val, h⟩ else 0) = f ⟨k.val / 1024, by omega⟩ ⟨k.val % 1024, by omega⟩ := by
  have e (g : Fin 5) (d : Fin 1024) (h : d.val + g.val * 1024 = k.val) : f g d = f ⟨k.val / 1024, by omega⟩ ⟨k.val % 1024, by omega⟩ :=
    congrArg₂ f (Fin.ext (by show g.val = k.val / 1024; omega)) (Fin.ext (by show d.val = k.val % 1024; omega))
  split_ifs <;> first | omega | (simp only [zero_add, add_zero]; exact e _ _ (by simp; try omega))

include G in
theorem r284 (s : Fin 4096) (d : Fin 256) : val_main_v284 (F := Ideal) x0 x1 x2 x3 x9 x10 (ix2 s d) = (I.data.dpo s 0 d : EReal) := by
  simp only [val_main_v283, val_main_v284]
  pointwise
  exact r280 G s 0 d

include G in
theorem r329 (s : Fin 4096) (d : Fin 256) : val_main_v329 (F := Ideal) x0 x1 x2 x3 x9 x10 (ix2 s d) = (I.data.wn s 0 d : EReal) := by
  simp only [val_main_v328, val_main_v329]
  pointwise
  rw [r284 G, c20, Reals.div_real _ (cnt_ne s 0), div_eq_mul_one_div]
  rfl

include G in
theorem r334 (s : Fin 4096) (d : Fin 256) : val_main_v334 (F := Ideal) x0 x1 x2 x3 x9 x10 (ix2 s d) = ((I.data.wx s.val 0 d - (if s.val + 2 < 4096 then I.data.wx (s.val + 2) 0 d else 0) : ℝ) : EReal) := by
  simp only [val_main_v330, val_main_v332, val_main_cst_70, val_main_v333, val_main_v334]
  pointwise
  refine shift_real (fun n => I.data.wx n 0 d) s.val 2 4094 (by norm_num) ?_ fun h => ?_
  · rw [r329 G, Data.wx, dif_pos s.isLt]
  · rw [r329 G, Data.wx, dif_pos (by omega)]

include G in
theorem r286 (s : Fin 4096) (d : Fin 256) : val_main_v286 (F := Ideal) x0 x1 x2 x3 x9 x10 (ix2 s d) = (I.data.dpo s 1 d : EReal) := by
  simp only [val_main_v285, val_main_v286]
  pointwise
  exact r280 G s 1 d

include G in
theorem r317 (s : Fin 4096) (d : Fin 256) : val_main_v317 (F := Ideal) x0 x1 x2 x3 x9 x10 (ix2 s d) = (I.data.wn s 1 d : EReal) := by
  simp only [val_main_v316, val_main_v317]
  pointwise
  rw [r286 G, c34, Reals.div_real _ (cnt_ne s 1), div_eq_mul_one_div]
  rfl

include G in
theorem r322 (s : Fin 4096) (d : Fin 256) : val_main_v322 (F := Ideal) x0 x1 x2 x3 x9 x10 (ix2 s d) = ((I.data.wx s.val 1 d - (if s.val + 4 < 4096 then I.data.wx (s.val + 4) 1 d else 0) : ℝ) : EReal) := by
  simp only [val_main_v318, val_main_v320, val_main_cst_67, val_main_v321, val_main_v322]
  pointwise
  refine shift_real (fun n => I.data.wx n 1 d) s.val 4 4092 (by norm_num) ?_ fun h => ?_
  · rw [r317 G, Data.wx, dif_pos s.isLt]
  · rw [r317 G, Data.wx, dif_pos (by omega)]

include G in
theorem r288 (s : Fin 4096) (d : Fin 256) : val_main_v288 (F := Ideal) x0 x1 x2 x3 x9 x10 (ix2 s d) = (I.data.dpo s 2 d : EReal) := by
  simp only [val_main_v287, val_main_v288]
  pointwise
  exact r280 G s 2 d

include G in
theorem r305 (s : Fin 4096) (d : Fin 256) : val_main_v305 (F := Ideal) x0 x1 x2 x3 x9 x10 (ix2 s d) = (I.data.wn s 2 d : EReal) := by
  simp only [val_main_v304, val_main_v305]
  pointwise
  rw [r288 G, c48, Reals.div_real _ (cnt_ne s 2), div_eq_mul_one_div]
  rfl

include G in
theorem r310 (s : Fin 4096) (d : Fin 256) : val_main_v310 (F := Ideal) x0 x1 x2 x3 x9 x10 (ix2 s d) = ((I.data.wx s.val 2 d - (if s.val + 8 < 4096 then I.data.wx (s.val + 8) 2 d else 0) : ℝ) : EReal) := by
  simp only [val_main_v306, val_main_v308, val_main_cst_64, val_main_v309, val_main_v310]
  pointwise
  refine shift_real (fun n => I.data.wx n 2 d) s.val 8 4088 (by norm_num) ?_ fun h => ?_
  · rw [r305 G, Data.wx, dif_pos s.isLt]
  · rw [r305 G, Data.wx, dif_pos (by omega)]

include G in
theorem r290 (s : Fin 4096) (d : Fin 256) : val_main_v290 (F := Ideal) x0 x1 x2 x3 x9 x10 (ix2 s d) = (I.data.dpo s 3 d : EReal) := by
  simp only [val_main_v289, val_main_v290]
  pointwise
  exact r280 G s 3 d

include G in
theorem r294 (s : Fin 4096) (d : Fin 256) : val_main_v294 (F := Ideal) x0 x1 x2 x3 x9 x10 (ix2 s d) = (I.data.wn s 3 d : EReal) := by
  simp only [val_main_v293, val_main_v294]
  pointwise
  rw [r290 G, c62, Reals.div_real _ (cnt_ne s 3), div_eq_mul_one_div]
  rfl

include G in
theorem r299 (s : Fin 4096) (d : Fin 256) : val_main_v299 (F := Ideal) x0 x1 x2 x3 x9 x10 (ix2 s d) = ((I.data.wx s.val 3 d - (if s.val + 16 < 4096 then I.data.wx (s.val + 16) 3 d else 0) : ℝ) : EReal) := by
  simp only [val_main_v295, val_main_v297, val_main_cst_61, val_main_v298, val_main_v299]
  pointwise
  refine shift_real (fun n => I.data.wx n 3 d) s.val 16 4080 (by norm_num) ?_ fun h => ?_
  · rw [r294 G, Data.wx, dif_pos s.isLt]
  · rw [r294 G, Data.wx, dif_pos (by omega)]

include G in
theorem r327 (s : Fin 4096) (k : Fin 1024) : val_main_v327 (F := Ideal) x0 x1 x2 x3 x9 x10 (ix2 s k) = ((-flat (I.data.dpo s) k : ℝ) : EReal) := by
  simp only [val_main_v327, val_main_v326, val_main_v325, val_main_v315, val_main_v314, val_main_v313, val_main_v303, val_main_v302, val_main_v301, val_main_v292, val_main_v291, val_main_cst_60, val_main_cst_63, val_main_cst_66, val_main_cst_69]
  pointwise
  simp only [r284 G, r286 G, r288 G, r290 G]
  exact (pick_part k fun g d => -(I.data.dpo s g d : EReal)).trans (EReal.coe_neg _).symm

/-- The windows' gradient before it is summed up: the difference of the rows a window apart. -/
def wdiff (D : Data) (n : ℕ) (g : Fin 4) (d : Fin 256) : ℝ := D.wx n g d - if n + wl g < 4096 then D.wx (n + wl g) g d else 0

include G in
theorem r336 (s : Fin 4096) (k : Fin 1024) : val_main_v336 (F := Ideal) x0 x1 x2 x3 x9 x10 (ix2 s k) = (flat (wdiff I.data s.val) k : EReal) := by
  simp only [val_main_v336, val_main_v335, val_main_v324, val_main_v323, val_main_v312, val_main_v311, val_main_v300, val_main_cst_62, val_main_cst_65, val_main_cst_68, val_main_cst_71]
  pointwise
  simp only [r299 G, r310 G, r322 G, r334 G]
  exact pick_part k fun g d => (wdiff I.data s.val g d : EReal)

theorem window_of (D : Data) (s : Fin 4096) (k : Fin 1024) :
    ∑ n ∈ Finset.Ico s.val 4096, flat (wdiff D n) k = flat (D.dz0 s) k + flat (D.dpo s) k := by
  simp only [flat, wdiff, Data.dz0, sub_add_cancel]
  refine (run_window (fun n => D.wx n ⟨k.val / 256, by omega⟩ ⟨k.val % 256, by omega⟩) s.val _ s.isLt).trans ?_
  refine Finset.sum_congr rfl fun i _ => ?_
  split
  · rfl
  · next h => rw [Data.wx, dif_neg h]

include G in
theorem r338 (s : Fin 4096) (k : Fin 1024) : val_main_v338 (F := Ideal) x0 x1 x2 x3 x9 x10 (ix2 s k) = (flat (I.data.dz0 s) k : EReal) := by
  simp only [val_main_v338]
  pointwise
  have e : val_main_v337 (F := Ideal) x0 x1 x2 x3 x9 x10 (ix2 s k) = ((∑ n ∈ Finset.Ico s.val 4096, flat (wdiff I.data n) k : ℝ) : EReal) := by
    unfold val_main_v337
    exact run_up _ (fun n k => flat (wdiff I.data n) k) (fun i c => r336 G i c) _ (fun i => Ideal.ofBits_zero_f32) _ _ s k
  rw [e, r327 G, ← EReal.coe_add, window_of]
  ring_nf

include G in
theorem r347 (s : Fin 4096) (e : Fin 5120) : val_main_v347 (F := Ideal) x0 x1 x2 x3 x4 x5 x6 x7 x8 x9 x10 (ix2 s e) = (I.data.dzc s e : EReal) := by
  simp only [val_main_cst_72, val_main_v339, val_main_cst_73, val_main_v340, val_main_v341, val_main_cst_74, val_main_v342, val_main_v343, val_main_cst_75, val_main_v344, val_main_v345, val_main_cst_76, val_main_v346, val_main_v347]
  pointwise
  simp only [r193 G, r196 G, r258 G, r270 G, r338 G]
  exact pick_col e fun q k => (I.data.dz s q k : EReal)

include G in
theorem r351 (s : Fin 4096) (e : Fin 5120) : val_main_v351 (F := Ideal) x0 x1 x2 x3 x4 x5 x6 x7 x8 x9 x10 (ix2 s e) = (I.data.dzc s e : EReal) := by
  simp only [val_main_v351]
  pointwise
  exact r347 G s e

include G in
theorem r350 (e : Fin 5120) : val_main_v350 (F := Ideal) x0 x1 x2 x3 x4 x5 x6 x7 x8 x9 x10 (ix1 e) = ((∑ s : Fin 4096, I.data.dzc s e : ℝ) : EReal) := by
  simp only [val_main_cst_77, val_main_v348, val_main_v349, val_main_cst_78, val_main_v350]
  pointwise
  simp only [Fin.sum_univ_one, Ideal.ofBits_zero_f32, zero_add, r347 G, Reals.sum_coe]

include G in
theorem r370 (a : Fin 8) (e : Fin 5120) : val_main_v370 (F := Ideal) x0 x1 x2 x3 x4 x5 x6 x7 x8 x9 x10 (ix2 a e) = ((if a.val = 0 then ∑ s : Fin 4096, I.data.dzc s e else 0 : ℝ) : EReal) := by
  simp only [val_main_v368, val_main_v369, val_main_v370, val_main_cst_80]
  pointwise
  split_ifs <;> first | omega | exact r350 G e | rfl

include G in
theorem r367 (a : Fin 8) (k : Fin 1024) : val_main_v367 (F := Ideal) x0 x1 x2 x6 x8 x9 x10 (ix2 a k) = ((if a.val = 0 then ∑ s : Fin 4096, flat (I.data.dps s) k else if a.val = 1 then ∑ s : Fin 4096, flat (I.data.dv s) k * I.data.vh s k else if a.val = 2 then ∑ s : Fin 4096, flat (I.data.dv s) k else 0 : ℝ) : EReal) := by
  simp only [val_main_v363, val_main_v364, val_main_v365, val_main_v366, val_main_v367, val_main_cst_79]
  pointwise
  by_cases e0 : a.val = 0
  · rw [dif_pos (by omega), if_pos e0]
    exact r276 G k
  by_cases e1 : a.val = 1
  · rw [dif_neg (by omega), dif_pos (by omega), if_neg e0, if_pos e1]
    exact r224 G k
  by_cases e2 : a.val = 2
  · rw [dif_neg (by omega), dif_neg (by omega), dif_pos (by omega), if_neg e0, if_neg e1, if_pos e2]
    exact r218 G k
  · rw [dif_neg (by omega), dif_neg (by omega), dif_neg (by omega), if_neg e0, if_neg e1, if_neg e2]
    rfl

include G in
theorem r362 (r : Fin 128) (e : Fin 512) : val_main_v362 (F := Ideal) x0 x1 x8 x9 x10 (ix2 r e) = ((∑ b : Fin 32, ∑ d : Fin 256, I.data.dsv (bl b r) ⟨e.val / 128, by omega⟩ d : ℝ) : EReal) := by
  simp only [val_main_v360, val_main_v361, val_main_v362]
  pointwise
  exact r209 G _ r

theorem r355 (a : Fin 2) (b : Fin 4) (c : Fin 128) (d : Fin 256) : val_main_v355 (F := Ideal) x0 x1 x3 x9 x10 (ix4 a b c d) = val_main_v282 (F := Ideal) x0 x1 x3 x9 x10 (ix3 ⟨2 * a.val + c.val / 64, by omega⟩ ⟨64 * b.val + c.val % 64, by omega⟩ d) := by
  simp only [val_main_v352, val_main_v353, val_main_v354, val_main_v355]
  pointwise
  refine congrArg₂ (fun x y => val_main_v282 (F := Ideal) x0 x1 x3 x9 x10 (ix3 x y d)) (Fin.ext ?_) (Fin.ext ?_)
  · show a.val * 2 + c.val / 64 = 2 * a.val + c.val / 64
    omega
  · show b.val * 64 + c.val % 64 = 64 * b.val + c.val % 64
    omega

theorem r359 (a : Fin 2) (b : Fin 4) (c : Fin 128) (d : Fin 256) : val_main_v359 (F := Ideal) x0 x1 x4 x5 x6 x7 x9 x10 (ix4 a b c d) = val_main_v202 (F := Ideal) x0 x1 x4 x5 x6 x7 x9 x10 (ix3 ⟨2 * a.val + c.val / 64, by omega⟩ ⟨64 * b.val + c.val % 64, by omega⟩ d) := by
  simp only [val_main_v356, val_main_v357, val_main_v358, val_main_v359]
  pointwise
  refine congrArg₂ (fun x y => val_main_v202 (F := Ideal) x0 x1 x4 x5 x6 x7 x9 x10 (ix3 x y d)) (Fin.ext ?_) (Fin.ext ?_)
  · show a.val * 2 + c.val / 64 = 2 * a.val + c.val / 64
    omega
  · show b.val * 64 + c.val % 64 = 64 * b.val + c.val % 64
    omega

end Cert.Mx

end
-- ==== Proof.Mx.Quiet.lean ====
module

public import Idealize.ShloMosaic.Lib.Claim
public import proofs.«01_k».proof.Defs
public import proofs.«01_k».proof.Proof.Mx.Frame
public import proofs.«01_k».proof.Proof.Gen.KernelMx.Frame

@[expose] public section

set_option maxRecDepth 16384

noncomputable section

namespace Cert.Mx

open Idealize.ShloMosaic Idealize.ShloMosaic.Tactic
open Idealize.SL Idealize.SL.Sem Idealize.ShloMosaic.TcCoe Idealize.ShloMosaic.Pipeline

/-- The kernel over the reals' operations runs to its end, keeps its arguments and leaves no counter raised. -/
theorem frame_ideal : quiescent_KernelMxIdeal := fun m ρ _ =>
  θ_run_and (KernelMxIdeal.Gen.frame_of m ρ (dats m) (A_eq m) (run_main m ρ))
    ((θ_run KernelMxIdeal.defs _ _).mono (fun _ h => h.2) (run_main_quiescent m ρ))

/-- Over the machine's words a named constant is its word. -/
@[reducible] def words : Named Bits := ⟨fun _ _ {φ} bits => FloatOps.ofBits φ bits⟩

set_option maxHeartbeats 4000000 in
/-- The same of the kernel itself: its text is the other's. -/
theorem frame_bits : quiescent_KernelMx := fun m ρ _ =>
  Eq.mp (by sl_kernel_rfl)
    (θ_run_and (@KernelMxIdeal.Gen.frame_of Bits _ words m ρ (@dats Bits _ words m) (@A_eq Bits _ words m) (@run_main Bits _ words m ρ))
      ((θ_run (@KernelMxIdeal.defs Bits _ words _) _ _).mono (fun _ h => h.2) (@run_main_quiescent Bits _ words m ρ)))

end Cert.Mx

end
-- ==== Proof.Mx.Equal.lean ====
module

public import proofs.«01_k».proof.Defs
public import proofs.«01_k».proof.Proof.Mx.Arrays
public import proofs.«01_k».proof.Proof.Mx.RefDz
public import proofs.«01_k».proof.Proof.Mx.Quiet
public import proofs.«01_k».proof.Proof.Gen.RefMxIdeal.Run

/-!
The two programs of the mixing layer's gradient leave equal arrays.
-/

@[expose] public section

set_option maxRecDepth 16384

noncomputable section

open Idealize.ShloMosaic Idealize.ShloMosaic.TcCoe Idealize.SL.Sem

namespace Cert.Mx

instance preFacts : Cert.Pre_finite_mx.Facts where
  bcast_S_S4096x5120 := by decide
  bcast_S_S5120 := by decide
  bcast_S_S4x256x256 := by decide
  bcast_S_S1024 := by decide
  bcast_S_S4x128x128 := by decide
  bcast_S_S4x128 := by decide
  bcast_S_S1024x1024 := by decide
  bcast_S_S4096x1024 := by decide

/-- The finiteness test read as the existence of real inputs. -/
theorem given (m : (ℓ : Loc KernelMxIdeal.nD KernelMxIdeal.τ KernelMxIdeal.sig) → Buf (Elt Ideal) ℓ)
    (h : Pre_KernelMxIdeal_finite_mx m) (c : Dev KernelMxIdeal.nD) :
    ∃ I : Inputs, Given I (m ((c : Thread KernelMxIdeal.nD KernelMxIdeal.τ).loc KernelMxIdeal.main_arg0)) (m ((c : Thread KernelMxIdeal.nD KernelMxIdeal.τ).loc KernelMxIdeal.main_arg1))
      (m ((c : Thread KernelMxIdeal.nD KernelMxIdeal.τ).loc KernelMxIdeal.main_arg2)) (m ((c : Thread KernelMxIdeal.nD KernelMxIdeal.τ).loc KernelMxIdeal.main_arg3))
      (m ((c : Thread KernelMxIdeal.nD KernelMxIdeal.τ).loc KernelMxIdeal.main_arg4)) (m ((c : Thread KernelMxIdeal.nD KernelMxIdeal.τ).loc KernelMxIdeal.main_arg5))
      (m ((c : Thread KernelMxIdeal.nD KernelMxIdeal.τ).loc KernelMxIdeal.main_arg6)) (m ((c : Thread KernelMxIdeal.nD KernelMxIdeal.τ).loc KernelMxIdeal.main_arg7))
      (m ((c : Thread KernelMxIdeal.nD KernelMxIdeal.τ).loc KernelMxIdeal.main_arg8)) (m ((c : Thread KernelMxIdeal.nD KernelMxIdeal.τ).loc KernelMxIdeal.main_arg9))
      (m ((c : Thread KernelMxIdeal.nD KernelMxIdeal.τ).loc KernelMxIdeal.main_arg10)) := by
  obtain ⟨h0, h1, h2, h3, h4, h5, h6, h7, h8, h9, h10⟩ := h c
  obtain ⟨f0, e0⟩ := Reals.reals_of_finite h0
  obtain ⟨f1, e1⟩ := Reals.reals_of_finite h1
  obtain ⟨f2, e2⟩ := Reals.reals_of_finite h2
  obtain ⟨f3, e3⟩ := Reals.reals_of_finite h3
  obtain ⟨f4, e4⟩ := Reals.reals_of_finite h4
  obtain ⟨f5, e5⟩ := Reals.reals_of_finite h5
  obtain ⟨f6, e6⟩ := Reals.reals_of_finite h6
  obtain ⟨f7, e7⟩ := Reals.reals_of_finite h7
  obtain ⟨f8, e8⟩ := Reals.reals_of_finite h8
  obtain ⟨f9, e9⟩ := Reals.reals_of_finite h9
  obtain ⟨f10, e10⟩ := Reals.reals_of_finite h10
  exact ⟨⟨fun s e => f0 (ix2 s e), fun e => f1 (ix1 e), fun g k d => f2 (ix3 g k d), fun k => f3 (ix1 k), fun k => f4 (ix1 k), fun k => f5 (ix1 k),
      fun h i j => f6 (ix3 h i j), fun h i => f7 (ix2 h i), fun h k d => f8 (ix3 h k d), fun k e => f9 (ix2 k e), fun s k => f10 (ix2 s k)⟩,
    ⟨fun s e => congrFun e0 (ix2 s e), fun e => congrFun e1 (ix1 e), fun g k d => congrFun e2 (ix3 g k d), fun k => congrFun e3 (ix1 k), fun k => congrFun e4 (ix1 k),
      fun k => congrFun e5 (ix1 k), fun h i j => congrFun e6 (ix3 h i j), fun h i => congrFun e7 (ix2 h i), fun h k d => congrFun e8 (ix3 h k d),
      fun k e => congrFun e9 (ix2 k e), fun s k => congrFun e10 (ix2 s k)⟩⟩

/-- The reference runs to its end, keeps its arguments and leaves no semaphore raised. -/
theorem frame_ref : quiescent_RefMxIdeal := fun m ρ _ =>
  (θ_run RefMxIdeal.defs _ _).mono (fun r h => ⟨fun c => (h c).2.2.2.2.2.2.2, sem_eq_zero_of_no_sems (by decide) r.2⟩)
    (RefMxIdeal.Value.run (F := Ideal) m ρ)

section reference

open Cert.RefMxIdeal Cert.RefMxIdeal.Read

variable {I : Inputs} {x0 : S4096x5120.Idx → EReal} {x1 : S5120.Idx → EReal} {x2 : S4x256x256.Idx → EReal} {x3 x4 x5 : S1024.Idx → EReal}
  {x6 : S4x128x128.Idx → EReal} {x7 : S4x128.Idx → EReal} {x8 : S4x256x256.Idx → EReal} {x9 : S1024x1024.Idx → EReal}
  {x10 : S4096x1024.Idx → EReal} (G : Given I x0 x1 x2 x3 x4 x5 x6 x7 x8 x9 x10)

include G

theorem ref0 : val_main_v351 (F := Ideal) x0 x1 x2 x3 x4 x5 x6 x7 x8 x9 x10 = buf2 (a := 4096) (b := 5120) I.data.dzc := by
  funext y; idx_vars y
  exact r351 G _ _

theorem ref1 : val_main_v355 (F := Ideal) x0 x1 x3 x9 x10 = splitT I.data.allPool := by
  funext y; idx_vars y
  exact (r355 _ _ _ _).trans (r282 G _ _ _)

theorem ref2 : val_main_v359 (F := Ideal) x0 x1 x4 x5 x6 x7 x9 x10 = splitT I.data.allProj := by
  funext y; idx_vars y
  refine ((r359 _ _ _ _).trans (r202 G _ _ _)).trans (congrArg Real.toEReal ?_)
  exact Fin.sum_mul_add_fin 32 128 fun s => I.data.gt s _ _ * I.data.db s _

theorem ref3 : val_main_v214 (F := Ideal) x0 x1 x4 x5 x8 x9 x10 = buf3 (kept I.data.allMix) := by
  funext y; idx_vars y
  exact r214 G _ _ _

theorem ref4 : val_main_v362 (F := Ideal) x0 x1 x8 x9 x10 = buf2 (a := 128) (b := 512) I.data.allBias := by
  funext y; idx_vars y
  exact r362 G _ _

theorem ref5 : val_main_v367 (F := Ideal) x0 x1 x2 x6 x8 x9 x10 = buf2 (a := 8) (b := 1024) I.data.allVec := by
  funext y; idx_vars y
  exact r367 G _ _

theorem ref6 : val_main_v370 (F := Ideal) x0 x1 x2 x3 x4 x5 x6 x7 x8 x9 x10 = buf2 (a := 8) (b := 5120) I.data.allBin := by
  funext y; idx_vars y
  exact r370 G _ _

end reference

theorem equal : algebraic_KernelMxIdeal_RefMxIdeal_pre_finite_mx := by
  intro m g m' g' hpre hargs
  refine ⟨fun c => (dats m 0 c).arrAt 14 KernelMxIdeal.cfg0.N, fun c => (dats m 0 c).arrAt 15 KernelMxIdeal.cfg0.N,
    fun c => (dats m 0 c).arrAt 16 KernelMxIdeal.cfg0.N, fun c => (dats m 0 c).arrAt 17 KernelMxIdeal.cfg0.N,
    fun c => (dats m 0 c).arrAt 18 KernelMxIdeal.cfg0.N, fun c => (dats m 0 c).arrAt 19 KernelMxIdeal.cfg0.N,
    fun c => (dats m 0 c).arrAt 20 KernelMxIdeal.cfg0.N,
    (θ_run KernelMxIdeal.defs _ _).mono (fun r h c => ⟨(h.1 c).1 14, (h.1 c).1 15, (h.1 c).1 16, (h.1 c).1 17, (h.1 c).1 18, (h.1 c).1 19, (h.1 c).1 20, h.2 c⟩)
      (θ_run_and (run_main m g) (KernelMxIdeal.Gen.frame_of m g (dats m) (A_eq m) (run_main m g))),
    (θ_run RefMxIdeal.defs _ _).mono (fun r h c => ?_) (RefMxIdeal.Value.run m' g')⟩
  obtain ⟨I, G⟩ := given m hpre c
  obtain ⟨e0, e1, e2, e3, e4, e5, e6, e7, e8, e9, e10⟩ := hargs c
  obtain ⟨r0, r1, r2, r3, r4, r5, r6, rest⟩ := h c
  have hR := reads m c G
  rw [← e0, ← e1, ← e2, ← e3, ← e4, ← e5, ← e6, ← e7, ← e8, ← e9, ← e10] at G
  exact ⟨((r0.trans (RefMxIdeal.Read.val_main_v351_eq _)).trans (ref0 G)).trans (arr14 m c hR).symm,
    ((r1.trans (RefMxIdeal.Read.val_main_v355_eq _)).trans (ref1 G)).trans (arr15 m c hR).symm,
    ((r2.trans (RefMxIdeal.Read.val_main_v359_eq _)).trans (ref2 G)).trans (arr16 m c hR).symm,
    ((r3.trans (RefMxIdeal.Read.val_main_v214_eq _)).trans (ref3 G)).trans (arr17 m c hR (hM m c)).symm,
    ((r4.trans (RefMxIdeal.Read.val_main_v362_eq _)).trans (ref4 G)).trans (arr18 m c hR).symm,
    ((r5.trans (RefMxIdeal.Read.val_main_v367_eq _)).trans (ref5 G)).trans (arr19 m c hR).symm,
    ((r6.trans (RefMxIdeal.Read.val_main_v370_eq _)).trans (ref6 G)).trans (arr20 m c hR).symm, rest⟩

end Cert.Mx

end
-- ==== Proof.Relu.lean ====
module

public import proofs.«01_k».proof.Proof.Reals

/-!
The rectifier and its printed words on real numbers.
-/

@[expose] public section

noncomputable section

namespace Cert.Reals

open Idealize.ShloMosaic

theorem word_2 : Ideal.ofBits .f32 0x40000000#32 = ((2 : ℝ) : EReal) := by
  simp [Ideal.ofBits, Ideal.ieee, -EReal.coe_mul]; norm_num

theorem max_coe (x y : ℝ) : max (x : EReal) (y : EReal) = ((max x y : ℝ) : EReal) :=
  (EReal.coe_strictMono.monotone.map_max (a := x) (b := y)).symm

/-- A real number against the word zero. -/
theorem max_zero (x : ℝ) : max (x : EReal) 0 = ((max x 0 : ℝ) : EReal) := max_coe x 0

end Cert.Reals

end
-- ==== Proof.Quarters.lean ====
module

public import proofs.«01_k».proof.Proof.Rows

/-!
The four quarters of the hidden layer's 4096 columns.
-/

@[expose] public section

open Idealize.ShloMosaic

namespace Cert.Quarters

/-- Column `e` of the block's `j`-th quarter. -/
def col (j : Fin 4) (e : Fin 1024) : Fin 4096 := ⟨j.val * 1024 + e.val, by omega⟩

theorem sum_cut (f : Fin 4096 → ℝ) :
    ∑ e, f e = ∑ k, f (col 0 k) + ∑ k, f (col 1 k) + ∑ k, f (col 2 k) + ∑ k, f (col 3 k) := by
  rw [← Fin.sum_mul_add_fin 4 1024 f, Fin.sum_univ_four]
  rfl

variable {Val : EltTy → Type} [∀ e, Nonempty (Val e)] {e : EltTy}

/-- Four stores side by side fill a block of 256 rows. -/
theorem cols (f : Fin 4096 → Val e) (r : Fin 256) (p0 p1 p2 p3 : (⟨2, ![256, 1024]⟩ : Shape).Idx → Val e)
    (i3 : ∀ x : Fin 2, ![0, 3072] x + ![256, 1024] x ≤ (![256, 4096] : Fin 2 → ℕ) x)
    (i2 : ∀ x : Fin 2, ![0, 2048] x + ![256, 1024] x ≤ (![256, 4096] : Fin 2 → ℕ) x)
    (i1 : ∀ x : Fin 2, ![0, 1024] x + ![256, 1024] x ≤ (![256, 4096] : Fin 2 → ℕ) x)
    (i0 : ∀ x : Fin 2, ![0, 0] x + ![256, 1024] x ≤ (![256, 4096] : Fin 2 → ℕ) x)
    (h0 : ∀ k, p0 (ix2 r k) = f (col 0 k)) (h1 : ∀ k, p1 (ix2 r k) = f (col 1 k)) (h2 : ∀ k, p2 (ix2 r k) = f (col 2 k))
    (h3 : ∀ k, p3 (ix2 r k) = f (col 3 k)) (k : Fin 4096) :
    View.canon [(⟨Rect.unit (s := ⟨2, ![256, 4096]⟩) ![0, 3072] ![256, 1024] i3, p3⟩ : View.Piece Val ⟨2, ![256, 4096]⟩ e),
      ⟨Rect.unit (s := ⟨2, ![256, 4096]⟩) ![0, 2048] ![256, 1024] i2, p2⟩, ⟨Rect.unit (s := ⟨2, ![256, 4096]⟩) ![0, 1024] ![256, 1024] i1, p1⟩,
      ⟨Rect.unit (s := ⟨2, ![256, 4096]⟩) ![0, 0] ![256, 1024] i0, p0⟩] (ix2 r k) = f k := by
  by_cases c3 : 3072 ≤ k.val
  · refine (Rows.canon_hit (k := 0) (l := 3072) (n := 256) (w := 1024) _ _ _ r ⟨k.val - 3072, by omega⟩ r k (Nat.zero_add _).symm (by show k.val = 3072 + (k.val - 3072); omega)).trans
      ((h3 _).trans (congrArg f (Fin.ext (by show 3 * 1024 + (k.val - 3072) = k.val; omega))))
  refine (Rows.canon_miss (k := 0) (l := 3072) (n := 256) (w := 1024) _ _ _ r k (by omega)).trans ?_
  by_cases c2 : 2048 ≤ k.val
  · refine (Rows.canon_hit (k := 0) (l := 2048) (n := 256) (w := 1024) _ _ _ r ⟨k.val - 2048, by omega⟩ r k (Nat.zero_add _).symm (by show k.val = 2048 + (k.val - 2048); omega)).trans
      ((h2 _).trans (congrArg f (Fin.ext (by show 2 * 1024 + (k.val - 2048) = k.val; omega))))
  refine (Rows.canon_miss (k := 0) (l := 2048) (n := 256) (w := 1024) _ _ _ r k (by omega)).trans ?_
  by_cases c1 : 1024 ≤ k.val
  · refine (Rows.canon_hit (k := 0) (l := 1024) (n := 256) (w := 1024) _ _ _ r ⟨k.val - 1024, by omega⟩ r k (Nat.zero_add _).symm (by show k.val = 1024 + (k.val - 1024); omega)).trans
      ((h1 _).trans (congrArg f (Fin.ext (by show 1 * 1024 + (k.val - 1024) = k.val; omega))))
  refine (Rows.canon_miss (k := 0) (l := 1024) (n := 256) (w := 1024) _ _ _ r k (by omega)).trans ?_
  exact (Rows.canon_hit (k := 0) (l := 0) (n := 256) (w := 1024) _ _ _ r ⟨k.val, by omega⟩ r k (Nat.zero_add _).symm (Nat.zero_add _).symm).trans
      ((h0 _).trans (congrArg f (Fin.ext (by show 0 * 1024 + k.val = k.val; omega))))

end Cert.Quarters
end
-- ==== Proof.Fb.Body.lean ====
module

public import proofs.«01_k».proof.Proof.Gen.KernelFbIdeal.Value
public import proofs.«01_k».proof.Proof.Relu
public import proofs.«01_k».proof.Proof.Quarters
public import Idealize.ShloMosaic.Lib.Pointwise
public import Idealize.ShloMosaic.Lib.Pipeline.ValueKit

/-!
The feed-forward block's backward call: what each point of the grid computes, as real numbers, and the four result arrays.
-/

@[expose] public section

set_option maxRecDepth 16384

noncomputable section

namespace Cert.Fb

open Cert.Quarters Cert.KernelFbIdeal Cert.KernelFbIdeal.Gen Idealize.ShloMosaic Idealize.ShloMosaic.TcCoe Idealize.SL.Sem

/-- The arguments as real numbers: the layer's input, the mixer's output, the two gains, the two weights and the two cotangents. -/
structure Args where
  x : S4096x1024.Idx → ℝ
  y : S4096x1024.Idx → ℝ
  g1 : S1024.Idx → ℝ
  g2 : S1024.Idx → ℝ
  w1 : S1024x4096.Idx → ℝ
  w2 : S4096x1024.Idx → ℝ
  d : S4096x1024.Idx → ℝ
  e : S4096x1024.Idx → ℝ

namespace Args

variable (A : Args)

/-- Row `s` of the mixer's output. -/
def yrow (s : Fin 4096) (k : Fin 1024) : ℝ := A.y (ix2 s k)

/-- The residual stream after the mixer. -/
def h (s : Fin 4096) (k : Fin 1024) : ℝ := A.x (ix2 s k) + A.y (ix2 s k) * Reals.rinv (A.yrow s) * A.g1 (ix1 k)

/-- The first product of the block. -/
def f1 (s : Fin 4096) (e : Fin 4096) : ℝ := ∑ k, A.h s k * Reals.rinv (A.h s) * A.g2 (ix1 k) * A.w1 (ix2 k e)

/-- Its gradient: through the second product and the squared rectifier. -/
def df1 (s : Fin 4096) (e : Fin 4096) : ℝ := (∑ l : Fin 1024, A.e (ix2 s l) * A.w2 (ix2 e l)) * (2 * max (A.f1 s e) 0)

/-- The gradient of the normed row. -/
def dhn (s : Fin 4096) (l : Fin 1024) : ℝ := ∑ e, A.df1 s e * A.w1 (ix2 l e)

/-- The same times the gain. -/
def dn (s : Fin 4096) (k : Fin 1024) : ℝ := A.dhn s k * A.g2 (ix1 k)

/-- The gradient of the residual stream. -/
def dh (s : Fin 4096) (l : Fin 1024) : ℝ := A.d (ix2 s l) + Reals.rmsGrad (A.h s) (A.dn s) l

/-- The same times the gain of the mixer's norm. -/
def du (s : Fin 4096) (k : Fin 1024) : ℝ := A.dh s k * A.g1 (ix1 k)

/-- The gradient of the mixer's output. -/
def dy (s : Fin 4096) (l : Fin 1024) : ℝ := Reals.rmsGrad (A.yrow s) (A.du s) l

/-- What row `s` adds to the gradient of the second gain. -/
def t2 (s : Fin 4096) (l : Fin 1024) : ℝ := A.dhn s l * (A.h s l * Reals.rinv (A.h s))

/-- What row `s` adds to the gradient of the first gain. -/
def t1 (s : Fin 4096) (l : Fin 1024) : ℝ := A.dh s l * (A.yrow s l * Reals.rinv (A.yrow s))

end Args

variable (m : (ℓ : Loc nD τ sig) → Buf (Elt Ideal) ℓ)

/-- The memory holds these arguments on chip `c`. -/
structure Holds (c : Dev nD) (A : Args) : Prop where
  x : m ((c : Thread nD τ).loc main_arg0) = fun i => (A.x i : EReal)
  y : m ((c : Thread nD τ).loc main_arg1) = fun i => (A.y i : EReal)
  g1 : m ((c : Thread nD τ).loc main_arg2) = fun i => (A.g1 i : EReal)
  g2 : m ((c : Thread nD τ).loc main_arg3) = fun i => (A.g2 i : EReal)
  w1 : m ((c : Thread nD τ).loc main_arg4) = fun i => (A.w1 i : EReal)
  w2 : m ((c : Thread nD τ).loc main_arg5) = fun i => (A.w2 i : EReal)
  d : m ((c : Thread nD τ).loc main_arg6) = fun i => (A.d i : EReal)
  e : m ((c : Thread nD τ).loc main_arg7) = fun i => (A.e i : EReal)

theorem idx (t : Fin cfg0.N) : (win0_0.index t = ![t.val, 0] ∧ win0_1.index t = ![t.val, 0] ∧ win0_2.index t = ![0, 0, 0]
    ∧ win0_3.index t = ![0, 0, 0]) ∧ (win0_4.index t = ![t.val, 0] ∧ win0_5.index t = ![t.val, 0] ∧ win0_6.index t = ![t.val, 0]
    ∧ win0_7.index t = ![0, 0] ∧ win0_8.index t = ![0, 0]) ∧ win0_9.index t = ![t.val, 0] ∧ win0_10.index t = ![t.val, 0]
    ∧ win0_11.index t = ![t.val, 0] :=
  (by decide +kernel : ∀ t : Fin grid0.N, (win0_0.index t = ![t.val, 0] ∧ win0_1.index t = ![t.val, 0] ∧ win0_2.index t = ![0, 0, 0]
    ∧ win0_3.index t = ![0, 0, 0]) ∧ (win0_4.index t = ![t.val, 0] ∧ win0_5.index t = ![t.val, 0] ∧ win0_6.index t = ![t.val, 0]
    ∧ win0_7.index t = ![0, 0] ∧ win0_8.index t = ![0, 0]) ∧ win0_9.index t = ![t.val, 0] ∧ win0_10.index t = ![t.val, 0]
    ∧ win0_11.index t = ![t.val, 0]) t

theorem lt (t : Fin cfg0.N) : t.val < 16 := lt_of_lt_of_eq t.isLt rfl

/-- The row of the whole array that point `t` holds at row `r` of its block. -/
def row (t : Fin cfg0.N) (r : Fin 256) : Fin 4096 := ⟨t.val * 256 + r.val, by have := lt t; omega⟩

section
variable {m} {c : Dev nD} {A : Args} (hA : Holds m c A)
include hA

theorem blk0 (t : Fin cfg0.N) (r : Fin 256) (l : Fin 1024) : iblk m c 0 t (ix2 r l) = ((A.e (ix2 (row t r) l) : ℝ) : EReal) := by
  rw [← congrFun hA.e]
  blk_simp [iblk, V, idx t, row]
  entry_read
  pointwise
  blk_ext [idx t, row]

theorem blk2 (t : Fin cfg0.N) (j : Fin 4) (l e : Fin 1024) : iblk m c 2 t (ix3 j l e) = ((A.w1 (ix2 l (col j e)) : ℝ) : EReal) := by
  rw [← congrFun hA.w1]
  blk_simp [iblk, V, idx t, row]
  entry_read
  pointwise
  blk_ext [idx t, col]

theorem blk3 (t : Fin cfg0.N) (j : Fin 4) (e l : Fin 1024) : iblk m c 3 t (ix3 j e l) = ((A.w2 (ix2 (col j e) l) : ℝ) : EReal) := by
  rw [← congrFun hA.w2]
  blk_simp [iblk, V, idx t, row]
  entry_read
  pointwise
  blk_ext [idx t, col]

theorem blk5 (t : Fin cfg0.N) (r : Fin 256) (l : Fin 1024) : iblk m c 5 t (ix2 r l) = ((A.d (ix2 (row t r) l) : ℝ) : EReal) := by
  rw [← congrFun hA.d]
  blk_ext [iblk, V, idx t, row]

theorem blk6 (t : Fin cfg0.N) (r : Fin 256) (l : Fin 1024) : iblk m c 6 t (ix2 r l) = ((A.yrow (row t r) l : ℝ) : EReal) := by
  rw [Args.yrow, ← congrFun hA.y]
  blk_ext [iblk, V, idx t, row]

theorem blk7 (t : Fin cfg0.N) (l : Fin 1024) : iblk m c 7 t (ix2 0 l) = ((A.g2 (ix1 l) : ℝ) : EReal) := by
  rw [← congrFun hA.g2]
  blk_simp [iblk, V, idx t, row]
  entry_read
  pointwise
  blk_ext [idx t]

theorem blk8 (t : Fin cfg0.N) (l : Fin 1024) : iblk m c 8 t (ix2 0 l) = ((A.g1 (ix1 l) : ℝ) : EReal) := by
  rw [← congrFun hA.g1]
  blk_simp [iblk, V, idx t, row]
  entry_read
  pointwise
  blk_ext [idx t]

theorem v13 (s : Fin 4096) (l : Fin 1024) : V m c main_v13 (ix2 s l) = ((A.h s l : ℝ) : EReal) := by
  have hx : m (c, Proc.tc.devRef main_arg0) = fun i => (A.x i : EReal) := hA.x
  have hy : m (c, Proc.tc.devRef main_arg1) = fun i => (A.y i : EReal) := hA.y
  have hg : m (c, Proc.tc.devRef main_arg2) = fun i => (A.g1 i : EReal) := hA.g1
  entry_read
  pointwise
  simp only [hx, hy, hg, Reals.word_1024, Reals.word_eps, ← EReal.coe_mul, ← EReal.coe_add, Reals.sum_coe, Reals.rinv_coe]
  rfl

theorem v27 (s : Fin 4096) (e : Fin 4096) : V m c main_v27 (ix2 s e) = ((A.f1 s e : ℝ) : EReal) := by
  have hx : m (c, Proc.tc.devRef main_arg0) = fun i => (A.x i : EReal) := hA.x
  have hy : m (c, Proc.tc.devRef main_arg1) = fun i => (A.y i : EReal) := hA.y
  have hg : m (c, Proc.tc.devRef main_arg2) = fun i => (A.g1 i : EReal) := hA.g1
  have hg2 : m (c, Proc.tc.devRef main_arg3) = fun i => (A.g2 i : EReal) := hA.g2
  have hw : m (c, Proc.tc.devRef main_arg4) = fun i => (A.w1 i : EReal) := hA.w1
  entry_read
  pointwise
  simp only [hx, hy, hg, hg2, hw, Reals.word_1024, Reals.word_eps, ← EReal.coe_mul, ← EReal.coe_add, Reals.sum_coe, Reals.rinv_coe]
  rfl

theorem blk4 (t : Fin cfg0.N) (r : Fin 256) (l : Fin 1024) : iblk m c 4 t (ix2 r l) = ((A.h (row t r) l : ℝ) : EReal) := by
  rw [← v13 hA]
  blk_ext [iblk, idx t, row]

theorem blk1 (t : Fin cfg0.N) (r : Fin 256) (e : Fin 4096) : iblk m c 1 t (ix2 r e) = ((A.f1 (row t r) e : ℝ) : EReal) := by
  rw [← v27 hA]
  blk_ext [iblk, idx t, row]

/-! ### The four quarters of the hidden layer -/

theorem q0 (t : Fin cfg0.N) (r : Fin 256) (e : Fin 1024) :
    k0_pay3 (iblk m c 0 t) (View.ld (iblk m c 3 t) (Rect.unit ![0, 0, 0] ![1, 1024, 1024] inb_S4x1024x1024_S1x1024x1024_0_0_0))
        (View.ld (iblk m c 1 t) (Rect.unit ![0, 0] ![256, 1024] inb_S256x4096_S256x1024_0_0)) (ix2 r e)
      = ((A.df1 (row t r) (col 0 e) : ℝ) : EReal) := by
  unfold_payloads
  pointwise
  simp only [blk0 hA, blk1 hA, blk3 hA, Reals.word_2, Reals.max_zero, ← EReal.coe_mul, Reals.sum_coe]
  rw [Args.df1, show (⟨e, _⟩ : Fin 4096) = col 0 e from Fin.ext (by simp [col])]

theorem q1 (t : Fin cfg0.N) (r : Fin 256) (e : Fin 1024) :
    k0_pay5 (iblk m c 0 t) (View.ld (iblk m c 3 t) (Rect.unit ![1, 0, 0] ![1, 1024, 1024] inb_S4x1024x1024_S1x1024x1024_1_0_0))
        (View.ld (iblk m c 1 t) (Rect.unit ![0, 1024] ![256, 1024] inb_S256x4096_S256x1024_0_1024)) (ix2 r e)
      = ((A.df1 (row t r) (col 1 e) : ℝ) : EReal) := by
  unfold_payloads
  pointwise
  simp only [blk0 hA, blk1 hA, blk3 hA, Reals.word_2, Reals.max_zero, ← EReal.coe_mul, Reals.sum_coe]
  rfl

theorem q2 (t : Fin cfg0.N) (r : Fin 256) (e : Fin 1024) :
    k0_pay6 (k0_pay2 (iblk m c 0 t)) (View.ld (iblk m c 3 t) (Rect.unit ![2, 0, 0] ![1, 1024, 1024] inb_S4x1024x1024_S1x1024x1024_2_0_0))
        (View.ld (iblk m c 1 t) (Rect.unit ![0, 2048] ![256, 1024] inb_S256x4096_S256x1024_0_2048)) (ix2 r e)
      = ((A.df1 (row t r) (col 2 e) : ℝ) : EReal) := by
  unfold_payloads
  pointwise
  simp only [blk0 hA, blk1 hA, blk3 hA, Reals.word_2, Reals.max_zero, ← EReal.coe_mul, Reals.sum_coe]
  rfl

theorem q3 (t : Fin cfg0.N) (r : Fin 256) (e : Fin 1024) :
    k0_pay10 (k0_pay8 (k0_pay2 (iblk m c 0 t)) (View.ld (iblk m c 3 t) (Rect.unit ![3, 0, 0] ![1, 1024, 1024] inb_S4x1024x1024_S1x1024x1024_3_0_0)))
        (k0_pay9 (View.ld (iblk m c 1 t) (Rect.unit ![0, 3072] ![256, 1024] inb_S256x4096_S256x1024_0_3072))) (ix2 r e)
      = ((A.df1 (row t r) (col 3 e) : ℝ) : EReal) := by
  unfold_payloads
  pointwise
  simp only [blk0 hA, blk1 hA, blk3 hA, Reals.word_2, Reals.max_zero, ← EReal.coe_mul, Reals.sum_coe]
  rfl

/-! ### The gradient of the normed row -/

/-- The sum over the first three quarters, as the point computes it. -/
abbrev p7 (m : (ℓ : Loc nD τ sig) → Buf (Elt Ideal) ℓ) (c : Dev nD) (t : Fin cfg0.N) : FVec Ideal S256x1024 .f32 :=
  k0_pay7 (k0_pay2 (iblk m c 0 t))
    (k0_pay4 (iblk m c 0 t) (View.ld (iblk m c 3 t) (Rect.unit ![0, 0, 0] ![1, 1024, 1024] inb_S4x1024x1024_S1x1024x1024_0_0_0))
      (View.ld (iblk m c 1 t) (Rect.unit ![0, 0] ![256, 1024] inb_S256x4096_S256x1024_0_0))
      (View.ld (iblk m c 2 t) (Rect.unit ![0, 0, 0] ![1, 1024, 1024] inb_S4x1024x1024_S1x1024x1024_0_0_0)))
    (k0_pay5 (iblk m c 0 t) (View.ld (iblk m c 3 t) (Rect.unit ![1, 0, 0] ![1, 1024, 1024] inb_S4x1024x1024_S1x1024x1024_1_0_0))
      (View.ld (iblk m c 1 t) (Rect.unit ![0, 1024] ![256, 1024] inb_S256x4096_S256x1024_0_1024)))
    (View.ld (iblk m c 2 t) (Rect.unit ![1, 0, 0] ![1, 1024, 1024] inb_S4x1024x1024_S1x1024x1024_1_0_0))
    (View.ld (iblk m c 3 t) (Rect.unit ![2, 0, 0] ![1, 1024, 1024] inb_S4x1024x1024_S1x1024x1024_2_0_0))
    (View.ld (iblk m c 1 t) (Rect.unit ![0, 2048] ![256, 1024] inb_S256x4096_S256x1024_0_2048))
    (View.ld (iblk m c 2 t) (Rect.unit ![2, 0, 0] ![1, 1024, 1024] inb_S4x1024x1024_S1x1024x1024_2_0_0))

/-- The last quarter's product with the second weight, its rectifier factor and its part of the first weight. -/
abbrev p8 (m : (ℓ : Loc nD τ sig) → Buf (Elt Ideal) ℓ) (c : Dev nD) (t : Fin cfg0.N) : FVec Ideal S256x1024 .f32 :=
  k0_pay8 (k0_pay2 (iblk m c 0 t)) (View.ld (iblk m c 3 t) (Rect.unit ![3, 0, 0] ![1, 1024, 1024] inb_S4x1024x1024_S1x1024x1024_3_0_0))

@[inherit_doc p8]
abbrev p9 (m : (ℓ : Loc nD τ sig) → Buf (Elt Ideal) ℓ) (c : Dev nD) (t : Fin cfg0.N) : FVec Ideal S256x1024 .f32 :=
  k0_pay9 (View.ld (iblk m c 1 t) (Rect.unit ![0, 3072] ![256, 1024] inb_S256x4096_S256x1024_0_3072))

@[inherit_doc p8]
abbrev w3 (m : (ℓ : Loc nD τ sig) → Buf (Elt Ideal) ℓ) (c : Dev nD) (t : Fin cfg0.N) : Vec Ideal S1x1024x1024 .bf16 :=
  View.ld (iblk m c 2 t) (Rect.unit ![3, 0, 0] ![1, 1024, 1024] inb_S4x1024x1024_S1x1024x1024_3_0_0)

theorem p11 (t : Fin cfg0.N) (r : Fin 256) (l : Fin 1024) :
    k0_pay11 (p7 m c t) (p8 m c t) (p9 m c t) (w3 m c t) (ix2 r l) = ((A.dhn (row t r) l : ℝ) : EReal) := by
  unfold k0_pay11 p7 k0_pay7 k0_pay4 w3
  pointwise
  simp only [q0 hA, q1 hA, q2 hA, q3 hA, blk2 hA, ← EReal.coe_mul, Reals.sum_coe, ← EReal.coe_add]
  rw [Args.dhn, sum_cut]

/-! ### The two norms -/

theorem p13 (t : Fin cfg0.N) (r : Fin 256) : k0_pay13 (iblk m c 4 t) (ix2 r 0) = ((Reals.rinv (A.h (row t r)) : ℝ) : EReal) := by
  unfold_payloads
  pointwise
  simp only [blk4 hA, Reals.word_1024, Reals.word_eps, ← EReal.coe_mul, Reals.sum_coe, Reals.rinv_coe]

theorem p14 (t : Fin cfg0.N) (r : Fin 256) (l : Fin 1024) :
    k0_pay14 (iblk m c 4 t) (ix2 r l) = ((A.h (row t r) l * Reals.rinv (A.h (row t r)) : ℝ) : EReal) := by
  unfold k0_pay14 k0_pay12
  pointwise
  simp only [blk4 hA, p13 hA, ← EReal.coe_mul]

theorem p15 (t : Fin cfg0.N) (v : Vec Ideal S1x1024 .f32) (l : Fin 1024) :
    k0_pay15 (p7 m c t) (p8 m c t) (p9 m c t) (w3 m c t) (iblk m c 4 t) v (ix2 0 l)
      = v (ix2 0 l) + ((∑ r : Fin 256, A.t2 (row t r) l : ℝ) : EReal) := by
  unfold k0_pay15
  pointwise
  simp only [p11 hA, p14 hA, ← EReal.coe_mul, Reals.sum_coe]
  rfl

theorem p16 (t : Fin cfg0.N) (r : Fin 256) (l : Fin 1024) :
    k0_pay16 (p7 m c t) (p8 m c t) (p9 m c t) (w3 m c t) (iblk m c 7 t) (ix2 r l) = ((A.dn (row t r) l : ℝ) : EReal) := by
  unfold k0_pay16
  pointwise
  simp only [p11 hA, blk7 hA, ← EReal.coe_mul]
  rfl

theorem p17 (t : Fin cfg0.N) (r : Fin 256) :
    k0_pay17 (p7 m c t) (p8 m c t) (p9 m c t) (w3 m c t) (iblk m c 4 t) (iblk m c 7 t) (ix2 r 0)
      = (((∑ k, A.dn (row t r) k * (A.h (row t r) k * Reals.rinv (A.h (row t r)))) / 1024 : ℝ) : EReal) := by
  unfold k0_pay17
  pointwise
  simp only [p16 hA, p14 hA, Reals.word_1024, ← EReal.coe_mul, Reals.sum_coe]
  rw [Reals.div_real _ (show (1024 : ℝ) ≠ 0 by norm_num)]

/-- The gradient of the residual stream, as the point computes it. -/
abbrev p18 (m : (ℓ : Loc nD τ sig) → Buf (Elt Ideal) ℓ) (c : Dev nD) (t : Fin cfg0.N) : FVec Ideal S256x1024 .f32 :=
  k0_pay18 (k0_pay13 (iblk m c 4 t)) (k0_pay14 (iblk m c 4 t)) (iblk m c 5 t)
    (k0_pay16 (p7 m c t) (p8 m c t) (p9 m c t) (w3 m c t) (iblk m c 7 t))
    (k0_pay17 (p7 m c t) (p8 m c t) (p9 m c t) (w3 m c t) (iblk m c 4 t) (iblk m c 7 t))

theorem p18_real (t : Fin cfg0.N) (r : Fin 256) (l : Fin 1024) : p18 m c t (ix2 r l) = ((A.dh (row t r) l : ℝ) : EReal) := by
  unfold p18 k0_pay18
  pointwise
  simp only [blk5 hA, p13 hA, p14 hA, p16 hA, p17 hA, ← EReal.coe_mul, ← EReal.coe_sub, ← EReal.coe_add]
  rfl

theorem p19 (t : Fin cfg0.N) (r : Fin 256) : k0_pay19 (iblk m c 6 t) (ix2 r 0) = ((Reals.rinv (A.yrow (row t r)) : ℝ) : EReal) := by
  unfold_payloads
  pointwise
  simp only [blk6 hA, Reals.word_1024, Reals.word_eps, ← EReal.coe_mul, Reals.sum_coe, Reals.rinv_coe]

theorem p20 (t : Fin cfg0.N) (r : Fin 256) (l : Fin 1024) :
    k0_pay20 (iblk m c 6 t) (ix2 r l) = ((A.yrow (row t r) l * Reals.rinv (A.yrow (row t r)) : ℝ) : EReal) := by
  unfold k0_pay20
  pointwise
  simp only [blk6 hA, p19 hA, ← EReal.coe_mul]

theorem p21 (t : Fin cfg0.N) (v : Vec Ideal S1x1024 .f32) (l : Fin 1024) :
    k0_pay21 (k0_pay13 (iblk m c 4 t)) (k0_pay14 (iblk m c 4 t)) (iblk m c 5 t)
        (k0_pay16 (p7 m c t) (p8 m c t) (p9 m c t) (w3 m c t) (iblk m c 7 t))
        (k0_pay17 (p7 m c t) (p8 m c t) (p9 m c t) (w3 m c t) (iblk m c 4 t) (iblk m c 7 t)) (iblk m c 6 t) v (ix2 0 l)
      = v (ix2 0 l) + ((∑ r : Fin 256, A.t1 (row t r) l : ℝ) : EReal) := by
  unfold k0_pay21
  pointwise
  simp only [p18_real hA, p20 hA, ← EReal.coe_mul, Reals.sum_coe]
  rfl

theorem p22 (t : Fin cfg0.N) (r : Fin 256) (l : Fin 1024) :
    k0_pay22 (k0_pay13 (iblk m c 4 t)) (k0_pay14 (iblk m c 4 t)) (iblk m c 5 t)
        (k0_pay16 (p7 m c t) (p8 m c t) (p9 m c t) (w3 m c t) (iblk m c 7 t))
        (k0_pay17 (p7 m c t) (p8 m c t) (p9 m c t) (w3 m c t) (iblk m c 4 t) (iblk m c 7 t)) (iblk m c 6 t) (iblk m c 8 t) (ix2 r l)
      = ((A.dy (row t r) l : ℝ) : EReal) := by
  unfold k0_pay22
  pointwise
  simp only [p18_real hA, p19 hA, p20 hA, blk8 hA, Reals.word_1024, ← EReal.coe_mul, Reals.sum_coe, ← EReal.coe_sub,
    Reals.div_real _ (show (1024 : ℝ) ≠ 0 by norm_num)]
  rfl

/-! ### What a point leaves in its blocks -/

theorem out9 (t : Fin cfg0.N) (r : Fin 256) (e : Fin 4096) :
    (outsAt0 m c t.val t.isLt).1 (ix2 r e) = ((A.df1 (row t r) e : ℝ) : EReal) := by
  by_cases h0 : t.val % 16 = 0
  · rw [outsAt0_A m c t h0]
    frame_out
    exact cols (Val := Elt Ideal) (e := .bf16) (fun e => ((A.df1 (row t r) e : ℝ) : EReal)) r _ _ _ _ _ _ _ _ (q0 hA t r) (q1 hA t r) (q2 hA t r) (q3 hA t r) e
  · rw [outsAt0_B m c t h0]
    frame_out
    exact cols (Val := Elt Ideal) (e := .bf16) (fun e => ((A.df1 (row t r) e : ℝ) : EReal)) r _ _ _ _ _ _ _ _ (q0 hA t r) (q1 hA t r) (q2 hA t r) (q3 hA t r) e

theorem out10 (t : Fin cfg0.N) (r : Fin 256) (l : Fin 1024) :
    (outsAt0 m c t.val t.isLt).2.1 (ix2 r l) = ((A.dh (row t r) l : ℝ) : EReal) := by
  by_cases h0 : t.val % 16 = 0
  · rw [outsAt0_A m c t h0]
    frame_out
    exact p18_real hA t r l
  · rw [outsAt0_B m c t h0]
    frame_out
    exact p18_real hA t r l

theorem out11 (t : Fin cfg0.N) (r : Fin 256) (l : Fin 1024) :
    (outsAt0 m c t.val t.isLt).2.2.1 (ix2 r l) = ((A.dy (row t r) l : ℝ) : EReal) := by
  by_cases h0 : t.val % 16 = 0
  · rw [outsAt0_A m c t h0]
    frame_out
    exact p22 hA t r l
  · rw [outsAt0_B m c t h0]
    frame_out
    exact p22 hA t r l

/-- What point `t` adds to the small result: the second gain's gradient in row 0, the first gain's in row 1. -/
def term (A : Args) (t : Fin cfg0.N) (i : S8x1024.Idx) : ℝ :=
  if (i 0).val = 0 then ∑ r : Fin 256, A.t2 (row t r) (i 1) else if (i 0).val = 1 then ∑ r : Fin 256, A.t1 (row t r) (i 1) else 0

omit hA m in
theorem pay1_zero (i : S8x1024.Idx) :
    View.canon [(⟨Rect.unit ![0, 0] ![8, 1024] inb_S8x1024_S8x1024_0_0, k0_pay1 (F := Ideal)⟩ : View.Piece (Elt Ideal) S8x1024 .f32)] i = 0 := by
  idx_vars i
  refine (Rows.canon_hit (a := 8) (b := 1024) (k := 0) (l := 0) (n := 8) (w := 1024) _ _ _ i0 i1 i0 i1 (Nat.zero_add _).symm (Nat.zero_add _).symm).trans ?_
  unfold_payloads
  pointwise

theorem out12_A (t : Fin cfg0.N) (h0 : t.val % 16 = 0) (i : S8x1024.Idx) :
    (outsAt0 m c t.val t.isLt).2.2.2 i = 0 + ((term A t i : ℝ) : EReal) := by
  idx_vars i
  rw [outsAt0_A m c t h0]
  frame_out
  by_cases hi1 : i0 = 1
  · subst hi1
    refine (Rows.canon_hit (a := 8) (b := 1024) (k := 1) (l := 0) (n := 1) (w := 1024) _ _ _ 0 i1 1 i1 rfl (Nat.zero_add _).symm).trans ?_
    refine (p21 hA t _ i1).trans ?_
    refine congrArg₂ (· + ·) ?_ rfl
    rw [View.readCov_eq_canon']
    refine (congrArg _ (Rows.emb_unit (a := 8) (b := 1024) inb_S8x1024_S1x1024_1_0 0 i1 1 i1 rfl (Nat.zero_add _).symm)).trans ?_
    exact (Rows.canon_miss (a := 8) (b := 1024) (k := 0) (l := 0) (n := 1) (w := 1024) _ _ _ 1 i1 (by simp)).trans (pay1_zero _)
  refine (Rows.canon_miss (a := 8) (b := 1024) (k := 1) (l := 0) (n := 1) (w := 1024) _ _ _ i0 i1 (by have : i0.val ≠ 1 := fun h => hi1 (Fin.ext h); omega)).trans ?_
  by_cases hi : i0 = 0
  · subst hi
    refine (Rows.canon_hit (a := 8) (b := 1024) (k := 0) (l := 0) (n := 1) (w := 1024) _ _ _ 0 i1 0 i1 rfl (Nat.zero_add _).symm).trans ?_
    refine (p15 hA t _ i1).trans ?_
    refine congrArg₂ (· + ·) ?_ rfl
    rw [View.readCov_eq_canon']
    exact pay1_zero _
  · refine (Rows.canon_miss (a := 8) (b := 1024) (k := 0) (l := 0) (n := 1) (w := 1024) _ _ _ i0 i1 (Or.inr (Or.inl (Nat.pos_of_ne_zero fun h => hi (Fin.ext h))))).trans ?_
    refine (pay1_zero _).trans ?_
    rw [show term A t (ix2 i0 i1) = 0 from (if_neg fun h => hi (Fin.ext h)).trans (if_neg fun h => hi1 (Fin.ext h)), EReal.coe_zero, add_zero]

theorem out12_B (t : Fin cfg0.N) (h0 : ¬t.val % 16 = 0) (i : S8x1024.Idx) :
    (outsAt0 m c t.val t.isLt).2.2.2 i
      = (outsAt0 m c (t.val - 1) (Nat.lt_of_le_of_lt (Nat.sub_le _ _) t.isLt)).2.2.2 i + ((term A t i : ℝ) : EReal) := by
  idx_vars i
  rw [outsAt0_B m c t h0]
  frame_out
  by_cases hi1 : i0 = 1
  · subst hi1
    refine (Rows.read_hit (a := 8) (b := 1024) (k := 1) (l := 0) (n := 1) (w := 1024) _ _ _ _ _ 0 i1 1 i1 rfl (Nat.zero_add _).symm).trans ?_
    refine (p21 hA t _ i1).trans ?_
    refine congrArg₂ (· + ·) ?_ rfl
    exact View.ld_unit_apply_of _ _ _ _ _ _ (fun a => by fin_cases a <;> simp)
  refine (Rows.read_miss (a := 8) (b := 1024) (k := 1) (l := 0) (n := 1) (w := 1024) _ _ _ _ _ i0 i1 (by have : i0.val ≠ 1 := fun h => hi1 (Fin.ext h); omega)).trans ?_
  by_cases hi : i0 = 0
  · subst hi
    refine (Rows.read_hit (a := 8) (b := 1024) (k := 0) (l := 0) (n := 1) (w := 1024) _ _ _ _ _ 0 i1 0 i1 rfl (Nat.zero_add _).symm).trans ?_
    refine (p15 hA t _ i1).trans ?_
    refine congrArg₂ (· + ·) ?_ rfl
    exact View.ld_unit_apply_of _ _ _ _ _ _ (fun a => by fin_cases a <;> simp)
  · refine (Rows.read_miss (a := 8) (b := 1024) (k := 0) (l := 0) (n := 1) (w := 1024) _ _ _ _ _ i0 i1 (Or.inr (Or.inl (Nat.pos_of_ne_zero fun h => hi (Fin.ext h))))).trans ?_
    rw [View.writes_nil, Memref.IsWhole.read_unread,
      show term A t (ix2 i0 i1) = 0 from (if_neg fun h => hi (Fin.ext h)).trans (if_neg fun h => hi1 (Fin.ext h)), EReal.coe_zero, add_zero]

/-! ### The four result arrays -/

theorem arr9 : (dats m 0 c).arrAt 9 cfg0.N = fun i : S4096x4096.Idx => ((A.df1 (i 0) (i 1) : ℝ) : EReal) := by
  have key : ∀ v : Vec Ideal S4096x4096 .bf16, (∀ s e, v (ix2 s e) = ((A.df1 s e : ℝ) : EReal)) → (dats m 0 c).arrAt 9 cfg0.N = v := by
    intro v hv
    refine (dats m 0 c).arrAt_eq_of_covers 9 v (by decide +kernel) fun t hf y => ?_
    idx_vars y
    blk_simp
    rw [after0_9]
    refine (out9 hA t _ _).trans ((hv _ _).symm.trans (congrArg v (?_ : ix2 (row t y0) y1 = _)))
    refine funext fun a => Fin.ext ?_
    fin_cases a <;> blk_simp [idx t, row] <;> rfl
  exact key _ fun s e => rfl

theorem arr10 : (dats m 0 c).arrAt 10 cfg0.N = fun i : S4096x1024.Idx => ((A.dh (i 0) (i 1) : ℝ) : EReal) := by
  have key : ∀ v : Vec Ideal S4096x1024 .f32, (∀ s e, v (ix2 s e) = ((A.dh s e : ℝ) : EReal)) → (dats m 0 c).arrAt 10 cfg0.N = v := by
    intro v hv
    refine (dats m 0 c).arrAt_eq_of_covers 10 v (by decide +kernel) fun t hf y => ?_
    idx_vars y
    blk_simp
    rw [after0_10]
    refine (out10 hA t _ _).trans ((hv _ _).symm.trans (congrArg v (?_ : ix2 (row t y0) y1 = _)))
    refine funext fun a => Fin.ext ?_
    fin_cases a <;> blk_simp [idx t, row] <;> rfl
  exact key _ fun s e => rfl

theorem arr11 : (dats m 0 c).arrAt 11 cfg0.N = fun i : S4096x1024.Idx => ((A.dy (i 0) (i 1) : ℝ) : EReal) := by
  have key : ∀ v : Vec Ideal S4096x1024 .bf16, (∀ s e, v (ix2 s e) = ((A.dy s e : ℝ) : EReal)) → (dats m 0 c).arrAt 11 cfg0.N = v := by
    intro v hv
    refine (dats m 0 c).arrAt_eq_of_covers 11 v (by decide +kernel) fun t hf y => ?_
    idx_vars y
    blk_simp
    rw [after0_11]
    refine (out11 hA t _ _).trans ((hv _ _).symm.trans (congrArg v (?_ : ix2 (row t y0) y1 = _)))
    refine funext fun a => Fin.ext ?_
    fin_cases a <;> blk_simp [idx t, row] <;> rfl
  exact key _ fun s e => rfl

/-- The gradients of the two gains in rows 0 and 1 of eight, the other rows zero. -/
def gg (A : Args) (i : S8x1024.Idx) : EReal :=
  ((if (i 0).val = 0 then ∑ s : Fin 4096, A.t2 s (i 1) else if (i 0).val = 1 then ∑ s : Fin 4096, A.t1 s (i 1) else 0 : ℝ) : EReal)

theorem arr12 : (dats m 0 c).arrAt 12 cfg0.N = gg A := by
  refine (dats m 0 c).arrAt_eq_of_after_last 12 t0_15 (by decide +kernel) _ fun j => ?_
  rw [after0_12]
  refine (Pipeline.eq_sum_fin_of_reset_step_apply_last (fun n h => (outsAt0 m c n h).2.2.2) 16 (fun _ => 0)
    (fun t i => ((term A t i : ℝ) : EReal)) (out12_A hA) (out12_B hA) (by decide) t0_15 rfl _).trans ?_
  rw [zero_add, Reals.sum_coe]
  refine congrArg _ ?_
  show ∑ t : Fin cfg0.N, (if (j 0).val = 0 then _ else if (j 0).val = 1 then _ else _) = if (j 0).val = 0 then _ else if (j 0).val = 1 then _ else _
  by_cases h : (j 0).val = 0
  · simp only [if_pos h]
    exact Fin.sum_mul_add_fin 16 256 fun s => A.t2 s (j 1)
  by_cases h1 : (j 0).val = 1
  · simp only [if_neg h, if_pos h1]
    exact Fin.sum_mul_add_fin 16 256 fun s => A.t1 s (j 1)
  · simp only [if_neg h, if_neg h1, Finset.sum_const_zero]

end

end Cert.Fb
end
-- ==== Proof.Fb.Ref.lean ====
module

public import proofs.«01_k».proof.Proof.Fb.Body
public import proofs.«01_k».proof.Proof.Gen.RefFbIdeal.Run
public import proofs.«01_k».proof.Proof.Gen.RefFbIdeal.Read

/-!
The reference of the feed-forward block's gradient at an index: the chain rule's terms are the kernel's closed forms.
-/

@[expose] public section
noncomputable section

open Idealize.ShloMosaic Idealize.ShloMosaic.TcCoe
open Cert.RefFbIdeal Cert.RefFbIdeal.Read

namespace Cert.Fb

variable (A : Args)

/-- An array of real numbers as an array of extended reals. -/
abbrev up {s : Shape} (X : s.Idx → ℝ) : s.Idx → EReal := fun i => (X i : EReal)

theorem r7 (s : Fin 4096) : val_main_v7 (F := Ideal) (up A.y) (ix2 s 0) = ((Reals.msq (A.yrow s) : ℝ) : EReal) := by
  simp only [val_main_v7, val_main_v6, val_main_v5, val_main_v4, val_main_v3, val_main_v2, val_main_v1, val_main_cst_0, val_main_cst_1, val_main_cst_2]
  pointwise
  simp only [Reals.word_1024, Reals.word_eps, ← EReal.coe_mul, Reals.sum_coe]
  rw [Reals.div_real _ (show (1024 : ℝ) ≠ 0 by norm_num), ← EReal.coe_add]
  rfl

theorem r8 (s : Fin 4096) : val_main_v8 (F := Ideal) (up A.y) (ix2 s 0) = ((Reals.rinv (A.yrow s) : ℝ) : EReal) := by
  simp only [val_main_v8]
  pointwise
  rw [r7]
  exact Reals.rsqrt_real (Reals.msq_pos _)

theorem r11 (s : Fin 4096) :
    val_main_v11 (F := Ideal) (up A.y) (ix2 s 0) = ((-(1 / 2) * (Reals.rinv (A.yrow s) / Reals.msq (A.yrow s)) : ℝ) : EReal) := by
  simp only [val_main_v11, val_main_v10, val_main_v9, val_main_cst_3]
  pointwise
  rw [r7, r8, Reals.word_neg_half, Reals.div_real _ (Reals.msq_pos _).ne', ← EReal.coe_mul]

theorem r17 (s : Fin 4096) (l : Fin 1024) : val_main_v17 (F := Ideal) (up A.x) (up A.y) (up A.g1) (ix2 s l) = ((A.h s l : ℝ) : EReal) := by
  simp only [val_main_v17, val_main_v16, val_main_v15, val_main_v14, val_main_v13, val_main_v12]
  pointwise
  rw [r8]
  simp only [← EReal.coe_mul, ← EReal.coe_add]
  rfl

theorem r24 (s : Fin 4096) : val_main_v24 (F := Ideal) (up A.x) (up A.y) (up A.g1) (ix2 s 0) = ((Reals.msq (A.h s) : ℝ) : EReal) := by
  simp only [val_main_v24, val_main_v23, val_main_v22, val_main_v21, val_main_v20, val_main_v19, val_main_v18, val_main_cst_4, val_main_cst_5, val_main_cst_6]
  pointwise
  simp only [r17, Reals.word_1024, Reals.word_eps, ← EReal.coe_mul, Reals.sum_coe]
  rw [Reals.div_real _ (show (1024 : ℝ) ≠ 0 by norm_num), ← EReal.coe_add]
  rfl

theorem r25 (s : Fin 4096) : val_main_v25 (F := Ideal) (up A.x) (up A.y) (up A.g1) (ix2 s 0) = ((Reals.rinv (A.h s) : ℝ) : EReal) := by
  simp only [val_main_v25]
  pointwise
  rw [r24]
  exact Reals.rsqrt_real (Reals.msq_pos _)

theorem r28 (s : Fin 4096) :
    val_main_v28 (F := Ideal) (up A.x) (up A.y) (up A.g1) (ix2 s 0) = ((-(1 / 2) * (Reals.rinv (A.h s) / Reals.msq (A.h s)) : ℝ) : EReal) := by
  simp only [val_main_v28, val_main_v27, val_main_v26, val_main_cst_7]
  pointwise
  rw [r24, r25, Reals.word_neg_half, Reals.div_real _ (Reals.msq_pos _).ne', ← EReal.coe_mul]

theorem r35 (s e : Fin 4096) :
    val_main_v35 (F := Ideal) (up A.x) (up A.y) (up A.g1) (up A.g2) (up A.w1) (ix2 s e) = ((A.f1 s e : ℝ) : EReal) := by
  simp only [val_main_v35, val_main_v34, val_main_v33, val_main_v32, val_main_v31, val_main_v30, val_main_v29, val_main_v0, val_main_cst]
  pointwise
  simp only [r17, r25, ← EReal.coe_mul, Reals.sum_coe]
  rfl

theorem r47 (s e : Fin 4096) :
    val_main_v47 (F := Ideal) (up A.x) (up A.y) (up A.g1) (up A.g2) (up A.w1) (up A.w2) (up A.e) (ix2 s e) = ((A.df1 s e : ℝ) : EReal) := by
  simp only [val_main_v47, val_main_v46, val_main_v45, val_main_v44, val_main_v42, val_main_v41, val_main_v38, val_main_v37, val_main_v36,
    val_main_call0_v0, val_main_call0_cst, val_main_cst_8, val_main_cst_10, val_main_cst_11]
  pointwise
  simp only [r35, Reals.word_2, Reals.max_zero, ← EReal.coe_mul, Reals.sum_coe]
  by_cases h : 0 < A.f1 s e
  · rw [if_pos (EReal.coe_pos.mpr h)]
    rfl
  · rw [if_neg fun c => h (EReal.coe_pos.mp c), Args.df1, max_eq_right (not_lt.mp h), mul_zero, mul_zero, EReal.coe_zero]

theorem r48 (s : Fin 4096) (l : Fin 1024) :
    val_main_v48 (F := Ideal) (up A.x) (up A.y) (up A.g1) (up A.g2) (up A.w1) (up A.w2) (up A.e) (ix2 s l) = ((A.dhn s l : ℝ) : EReal) := by
  simp only [val_main_v48]
  pointwise
  simp only [r47, ← EReal.coe_mul, Reals.sum_coe]
  rfl

theorem r53 (s : Fin 4096) (l : Fin 1024) :
    val_main_v53 (F := Ideal) (up A.x) (up A.y) (up A.g1) (up A.g2) (up A.w1) (up A.w2) (up A.e) (ix2 s l) = ((A.dn s l : ℝ) : EReal) := by
  simp only [val_main_v53, val_main_v52, val_main_v31]
  pointwise
  rw [r48, ← EReal.coe_mul]
  rfl

theorem r65 (s : Fin 4096) (l : Fin 1024) :
    val_main_v65 (F := Ideal) (up A.x) (up A.y) (up A.g1) (up A.g2) (up A.w1) (up A.w2) (up A.e) (ix2 s l)
      = (((∑ k, A.h s k * A.dn s k) * (-(1 / 2) * (Reals.rinv (A.h s) / Reals.msq (A.h s))) / 1024 : ℝ) : EReal) := by
  simp only [val_main_v65, val_main_v64, val_main_v63, val_main_v62, val_main_v61, val_main_v57, val_main_v56, val_main_v55,
    val_main_cst_14, val_main_cst_15, val_main_cst_16]
  pointwise
  simp only [Fin.sum_univ_one]
  rw [r28]
  simp only [r17, r53, Reals.word_1024, ← EReal.coe_mul, Reals.sum_coe, Reals.div_real _ (show (1024 : ℝ) ≠ 0 by norm_num)]

theorem r69 (s : Fin 4096) (l : Fin 1024) :
    val_main_v69 (F := Ideal) (up A.x) (up A.y) (up A.g1) (up A.g2) (up A.w1) (up A.w2) (up A.d) (up A.e) (ix2 s l) = ((A.dh s l : ℝ) : EReal) := by
  simp only [val_main_v69, val_main_v68, val_main_v67, val_main_v66, val_main_v60, val_main_v59, val_main_v58]
  pointwise
  rw [r65, r53, r25, r17, add_assoc, add_assoc]
  simp only [← EReal.coe_mul, ← EReal.coe_add]
  refine congrArg _ ?_
  rw [Reals.rmsGrad_eq]
  rfl

theorem r75 (s : Fin 4096) (l : Fin 1024) :
    val_main_v75 (F := Ideal) (up A.x) (up A.y) (up A.g1) (up A.g2) (up A.w1) (up A.w2) (up A.d) (up A.e) (ix2 s l) = ((A.du s l : ℝ) : EReal) := by
  simp only [val_main_v75, val_main_v74, val_main_v70, val_main_v14]
  pointwise
  rw [r69, ← EReal.coe_mul]
  rfl

theorem r86 (s : Fin 4096) (l : Fin 1024) :
    val_main_v86 (F := Ideal) (up A.x) (up A.y) (up A.g1) (up A.g2) (up A.w1) (up A.w2) (up A.d) (up A.e) (ix2 s l)
      = (((∑ k, A.yrow s k * A.du s k) * (-(1 / 2) * (Reals.rinv (A.yrow s) / Reals.msq (A.yrow s))) / 1024 : ℝ) : EReal) := by
  simp only [val_main_v86, val_main_v85, val_main_v84, val_main_v83, val_main_v82, val_main_v79, val_main_v78, val_main_v77,
    val_main_cst_19, val_main_cst_20, val_main_cst_21]
  pointwise
  simp only [Fin.sum_univ_one]
  rw [r11]
  simp only [r75, Reals.word_1024, ← EReal.coe_mul, Reals.sum_coe, Reals.div_real _ (show (1024 : ℝ) ≠ 0 by norm_num)]
  rfl

theorem r91 (i : S4096x4096.Idx) :
    val_main_v91 (F := Ideal) (up A.x) (up A.y) (up A.g1) (up A.g2) (up A.w1) (up A.w2) (up A.e) i = ((A.df1 (i 0) (i 1) : ℝ) : EReal) := by
  idx_vars i
  simp only [val_main_v91]
  pointwise
  exact r47 A i0 i1

theorem r92 (i : S4096x1024.Idx) :
    val_main_v92 (F := Ideal) (up A.x) (up A.y) (up A.g1) (up A.g2) (up A.w1) (up A.w2) (up A.d) (up A.e) i = ((A.dy (i 0) (i 1) : ℝ) : EReal) := by
  idx_vars i
  simp only [val_main_v92, val_main_v90, val_main_v89, val_main_v88, val_main_v87, val_main_v81, val_main_v80]
  pointwise
  rw [r86, r75, r8, add_assoc]
  simp only [← EReal.coe_mul, ← EReal.coe_add]
  exact congrArg _ (Reals.rmsGrad_eq (A.yrow i0) (A.du i0) i1)

theorem r54 (l : Fin 1024) :
    val_main_v54 (F := Ideal) (up A.x) (up A.y) (up A.g1) (up A.g2) (up A.w1) (up A.w2) (up A.e) (ix1 l) = ((∑ s : Fin 4096, A.t2 s l : ℝ) : EReal) := by
  simp only [val_main_v54, val_main_v51, val_main_v50, val_main_v49, val_main_v30, val_main_v29, val_main_cst_12, val_main_cst_13]
  pointwise
  simp only [r17, r25, r48, ← EReal.coe_mul, Reals.sum_coe, Fin.sum_univ_one]
  exact congrArg _ (Finset.sum_congr rfl fun s _ => mul_comm _ _)

theorem r76 (l : Fin 1024) :
    val_main_v76 (F := Ideal) (up A.x) (up A.y) (up A.g1) (up A.g2) (up A.w1) (up A.w2) (up A.d) (up A.e) (ix1 l)
      = ((∑ s : Fin 4096, A.t1 s l : ℝ) : EReal) := by
  simp only [val_main_v76, val_main_v73, val_main_v72, val_main_v71, val_main_v70, val_main_v13, val_main_v12, val_main_cst_17, val_main_cst_18]
  pointwise
  simp only [r8, r69, ← EReal.coe_mul, Reals.sum_coe, Fin.sum_univ_one]
  exact congrArg _ (Finset.sum_congr rfl fun s _ => mul_comm _ _)

theorem r96 (i : S8x1024.Idx) :
    val_main_v96 (F := Ideal) (up A.x) (up A.y) (up A.g1) (up A.g2) (up A.w1) (up A.w2) (up A.d) (up A.e) i = gg A i := by
  idx_vars i
  simp only [val_main_v96, val_main_v95, val_main_v94, val_main_v93, val_main_cst_22]
  pointwise
  simp only [r54, r76]
  show _ = ((if i0.val = 0 then _ else if i0.val = 1 then _ else 0 : ℝ) : EReal)
  by_cases h : i0.val = 0
  · rw [if_pos h, dif_pos (by omega)]
    rfl
  rw [if_neg h, dif_neg (by omega)]
  by_cases h1 : i0.val = 1
  · rw [if_pos h1, dif_pos (by omega)]
    rfl
  · rw [if_neg h1, dif_neg (by omega), EReal.coe_zero]

end Cert.Fb
end
-- ==== Proof.Fb.Equal.lean ====
module

public import proofs.«01_k».proof.Defs
public import proofs.«01_k».proof.Proof.Fb.Ref
public import proofs.«01_k».proof.Proof.Gen.KernelFb.Frame

/-!
The two programs of the feed-forward block's gradient leave equal arrays.
-/

@[expose] public section
noncomputable section

open Idealize.ShloMosaic Idealize.ShloMosaic.TcCoe Idealize.SL.Sem

namespace Cert.Fb

instance preFacts : Cert.Pre_finite_fb.Facts where
  bcast_S_S4096x1024 := by decide
  bcast_S_S1024 := by decide
  bcast_S_S1024x4096 := by decide

/-- The finiteness test read as the existence of real numbers. -/
theorem given (m : (ℓ : Loc KernelFbIdeal.nD KernelFbIdeal.τ KernelFbIdeal.sig) → Buf (Elt Ideal) ℓ)
    (h : Pre_KernelFbIdeal_finite_fb m) (c : Dev KernelFbIdeal.nD) : ∃ A : Args, Holds m c A := by
  obtain ⟨h0, h1, h2, h3, h4, h5, h6, h7⟩ := h c
  obtain ⟨x, hx⟩ := Reals.reals_of_finite h0
  obtain ⟨y, hy⟩ := Reals.reals_of_finite h1
  obtain ⟨g1, hg1⟩ := Reals.reals_of_finite h2
  obtain ⟨g2, hg2⟩ := Reals.reals_of_finite h3
  obtain ⟨w1, hw1⟩ := Reals.reals_of_finite h4
  obtain ⟨w2, hw2⟩ := Reals.reals_of_finite h5
  obtain ⟨d, hd⟩ := Reals.reals_of_finite h6
  obtain ⟨e, he⟩ := Reals.reals_of_finite h7
  exact ⟨⟨x, y, g1, g2, w1, w2, d, e⟩, hx, hy, hg1, hg2, hw1, hw2, hd, he⟩

/-- The reference runs to its end, keeps its arguments and leaves no semaphore raised. -/
theorem frame_ref : quiescent_RefFbIdeal := fun m ρ _ =>
  (θ_run RefFbIdeal.defs _ _).mono (fun r h => ⟨fun c => (h c).2.2.2.2, sem_eq_zero_of_no_sems (by decide) r.2⟩)
    (RefFbIdeal.Value.run (F := Ideal) m ρ)

theorem equal : algebraic_KernelFbIdeal_RefFbIdeal_pre_finite_fb := by
  intro m g m' g' hpre hargs
  refine ⟨fun c => (KernelFbIdeal.Gen.dats m 0 c).arrAt 9 KernelFbIdeal.cfg0.N, fun c => (KernelFbIdeal.Gen.dats m 0 c).arrAt 10 KernelFbIdeal.cfg0.N,
    fun c => (KernelFbIdeal.Gen.dats m 0 c).arrAt 11 KernelFbIdeal.cfg0.N, fun c => (KernelFbIdeal.Gen.dats m 0 c).arrAt 12 KernelFbIdeal.cfg0.N,
    KernelFbIdeal.Value.run_blocks m g, (θ_run RefFbIdeal.defs _ _).mono (fun r h c => ?_) (RefFbIdeal.Value.run m' g')⟩
  obtain ⟨e0, e1, e2, e3, e4, e5, e6, e7⟩ := hargs c
  obtain ⟨A, hA⟩ := given m hpre c
  obtain ⟨r0, r1, r2, r3, rest⟩ := h c
  have f0 : StableHlo.launchContents m' c (Proc.tc.devRef RefFbIdeal.main_arg0) = up A.x := e0.trans hA.x
  have f1 : StableHlo.launchContents m' c (Proc.tc.devRef RefFbIdeal.main_arg1) = up A.y := e1.trans hA.y
  have f2 : StableHlo.launchContents m' c (Proc.tc.devRef RefFbIdeal.main_arg2) = up A.g1 := e2.trans hA.g1
  have f3 : StableHlo.launchContents m' c (Proc.tc.devRef RefFbIdeal.main_arg3) = up A.g2 := e3.trans hA.g2
  have f4 : StableHlo.launchContents m' c (Proc.tc.devRef RefFbIdeal.main_arg4) = up A.w1 := e4.trans hA.w1
  have f5 : StableHlo.launchContents m' c (Proc.tc.devRef RefFbIdeal.main_arg5) = up A.w2 := e5.trans hA.w2
  have f6 : StableHlo.launchContents m' c (Proc.tc.devRef RefFbIdeal.main_arg6) = up A.d := e6.trans hA.d
  have f7 : StableHlo.launchContents m' c (Proc.tc.devRef RefFbIdeal.main_arg7) = up A.e := e7.trans hA.e
  refine ⟨(r0.trans (RefFbIdeal.Read.val_main_v91_eq _)).trans ?_, (r1.trans (RefFbIdeal.Read.val_main_v69_eq _)).trans ?_,
    (r2.trans (RefFbIdeal.Read.val_main_v92_eq _)).trans ?_, (r3.trans (RefFbIdeal.Read.val_main_v96_eq _)).trans ?_, rest⟩
  · refine Eq.trans ?_ (arr9 hA).symm
    rw [f0, f1, f2, f3, f4, f5, f7]
    exact funext (r91 A)
  · refine Eq.trans ?_ (arr10 hA).symm
    rw [f0, f1, f2, f3, f4, f5, f6, f7]
    refine funext fun i => ?_
    idx_vars i
    exact r69 A i0 i1
  · refine Eq.trans ?_ (arr11 hA).symm
    rw [f0, f1, f2, f3, f4, f5, f6, f7]
    exact funext (r92 A)
  · refine Eq.trans ?_ (arr12 hA).symm
    rw [f0, f1, f2, f3, f4, f5, f6, f7]
    exact funext (r96 A)

end Cert.Fb
end
-- ==== Proof.Ff.Body.lean ====
module

public import proofs.«01_k».proof.Proof.Gen.KernelFfIdeal.Value
public import proofs.«01_k».proof.Proof.Relu
public import proofs.«01_k».proof.Proof.Quarters
public import Idealize.ShloMosaic.Lib.Pointwise
public import Idealize.ShloMosaic.Lib.Pipeline.ValueKit

/-!
The feed-forward block with the loss and its gradient: what each point of the grid computes, as real numbers, and the six result
arrays.
-/

@[expose] public section

set_option maxRecDepth 16384

noncomputable section

namespace Cert.Ff

open Cert.Quarters Cert.KernelFfIdeal Cert.KernelFfIdeal.Gen Idealize.ShloMosaic Idealize.ShloMosaic.TcCoe Idealize.SL.Sem

/-- The arguments as real numbers: the residual stream, the two gains, the two weights and the target. -/
structure Args where
  h : S4096x1024.Idx → ℝ
  g : S1024.Idx → ℝ
  w1 : S1024x4096.Idx → ℝ
  w2 : S4096x1024.Idx → ℝ
  k : S1024.Idx → ℝ
  y : S4096x1024.Idx → ℝ

namespace Args

variable (A : Args)

/-- Row `s` of the residual stream. -/
def row (s : Fin 4096) (l : Fin 1024) : ℝ := A.h (ix2 s l)

/-- The row normed. -/
def hn (s : Fin 4096) (l : Fin 1024) : ℝ := A.row s l * Reals.rinv (A.row s) * A.g (ix1 l)

/-- The first product of the block. -/
def f1 (s : Fin 4096) (e : Fin 4096) : ℝ := ∑ l, A.hn s l * A.w1 (ix2 l e)

/-- The squared rectifier. -/
def f (s : Fin 4096) (e : Fin 4096) : ℝ := max (A.f1 s e) 0 * max (A.f1 s e) 0

/-- The second product. -/
def f2 (s : Fin 4096) (l : Fin 1024) : ℝ := ∑ e, A.f s e * A.w2 (ix2 e l)

/-- Its row normed, before the gain. -/
def n2 (s : Fin 4096) (l : Fin 1024) : ℝ := A.f2 s l * Reals.rinv (A.f2 s)

/-- What the block leaves, less the target. -/
def err (s : Fin 4096) (l : Fin 1024) : ℝ := A.row s l + A.n2 s l * A.k (ix1 l) - A.y (ix2 s l)

/-- Half the mean square of a row: its part of the loss. -/
def loss (s : Fin 4096) : ℝ := 1 / 2 * ((∑ l, A.err s l * A.err s l) / 1024)

/-- The loss's gradient at the block's result. -/
def dout (s : Fin 4096) (l : Fin 1024) : ℝ := A.err s l * (1 / 1024)

/-- The same times the gain. -/
def du (s : Fin 4096) (l : Fin 1024) : ℝ := A.dout s l * A.k (ix1 l)

/-- The gradient of the second product. -/
def df2 (s : Fin 4096) (l : Fin 1024) : ℝ := Reals.rmsGrad (A.f2 s) (A.du s) l

/-- What row `s` adds to the gradient of the last gain. -/
def dk (s : Fin 4096) (l : Fin 1024) : ℝ := A.dout s l * A.n2 s l

end Args

variable (m : (ℓ : Loc nD τ sig) → Buf (Elt Ideal) ℓ)

/-- The memory holds these arguments on chip `c`. -/
structure Holds (c : Dev nD) (A : Args) : Prop where
  h : m ((c : Thread nD τ).loc main_arg0) = fun i => (A.h i : EReal)
  g : m ((c : Thread nD τ).loc main_arg1) = fun i => (A.g i : EReal)
  w1 : m ((c : Thread nD τ).loc main_arg2) = fun i => (A.w1 i : EReal)
  w2 : m ((c : Thread nD τ).loc main_arg3) = fun i => (A.w2 i : EReal)
  k : m ((c : Thread nD τ).loc main_arg4) = fun i => (A.k i : EReal)
  y : m ((c : Thread nD τ).loc main_arg5) = fun i => (A.y i : EReal)

theorem idx (t : Fin cfg0.N) : (win0_0.index t = ![t.val, 0] ∧ win0_1.index t = ![0, 0] ∧ win0_2.index t = ![0, 0, 0]
    ∧ win0_3.index t = ![0, 0, 0]) ∧ (win0_4.index t = ![0, 0] ∧ win0_5.index t = ![t.val, 0] ∧ win0_6.index t = ![t.val, 0]
    ∧ win0_7.index t = ![t.val, 0]) ∧ win0_8.index t = ![t.val, 0] ∧ win0_9.index t = ![t.val, 0] ∧ win0_10.index t = ![t.val, 0] :=
  (by decide +kernel : ∀ t : Fin grid0.N, (win0_0.index t = ![t.val, 0] ∧ win0_1.index t = ![0, 0] ∧ win0_2.index t = ![0, 0, 0]
    ∧ win0_3.index t = ![0, 0, 0]) ∧ (win0_4.index t = ![0, 0] ∧ win0_5.index t = ![t.val, 0] ∧ win0_6.index t = ![t.val, 0]
    ∧ win0_7.index t = ![t.val, 0]) ∧ win0_8.index t = ![t.val, 0] ∧ win0_9.index t = ![t.val, 0] ∧ win0_10.index t = ![t.val, 0]) t

theorem lt (t : Fin cfg0.N) : t.val < 16 := lt_of_lt_of_eq t.isLt rfl

/-- The row of the whole array that point `t` holds at row `r` of its block. -/
def row (t : Fin cfg0.N) (r : Fin 256) : Fin 4096 := ⟨t.val * 256 + r.val, by have := lt t; omega⟩

/-- The words of a half and of a thousand-and-twenty-fourth. -/
theorem word_half : Ideal.ofBits .f32 0x3F000000#32 = ((1 / 2 : ℝ) : EReal) := by
  simp [Ideal.ofBits, Ideal.ieee, -EReal.coe_mul]; norm_num

@[inherit_doc word_half]
theorem word_part : Ideal.ofBits .f32 0x3A800000#32 = ((1 / 1024 : ℝ) : EReal) := by
  simp [Ideal.ofBits, Ideal.ieee, -EReal.coe_mul]; norm_num

section
variable {m} {c : Dev nD} {A : Args} (hA : Holds m c A)
include hA

theorem blk0 (t : Fin cfg0.N) (r : Fin 256) (l : Fin 1024) : iblk m c 0 t (ix2 r l) = ((A.row (row t r) l : ℝ) : EReal) := by
  rw [Args.row, ← congrFun hA.h]
  blk_ext [iblk, V, idx t, row]

theorem blk1 (t : Fin cfg0.N) (l : Fin 1024) : iblk m c 1 t (ix2 0 l) = ((A.g (ix1 l) : ℝ) : EReal) := by
  rw [← congrFun hA.g]
  blk_simp [iblk, V, idx t, row]
  entry_read
  pointwise
  blk_ext [idx t]

theorem blk2 (t : Fin cfg0.N) (j : Fin 4) (l e : Fin 1024) : iblk m c 2 t (ix3 j l e) = ((A.w1 (ix2 l (col j e)) : ℝ) : EReal) := by
  rw [← congrFun hA.w1]
  blk_simp [iblk, V, idx t, row]
  entry_read
  pointwise
  blk_ext [idx t, col]

theorem blk3 (t : Fin cfg0.N) (j : Fin 4) (e l : Fin 1024) : iblk m c 3 t (ix3 j e l) = ((A.w2 (ix2 (col j e) l) : ℝ) : EReal) := by
  rw [← congrFun hA.w2]
  blk_simp [iblk, V, idx t, row]
  entry_read
  pointwise
  blk_ext [idx t, col]

theorem blk4 (t : Fin cfg0.N) (l : Fin 1024) : iblk m c 4 t (ix2 0 l) = ((A.k (ix1 l) : ℝ) : EReal) := by
  rw [← congrFun hA.k]
  blk_simp [iblk, V, idx t, row]
  entry_read
  pointwise
  blk_ext [idx t]

theorem blk5 (t : Fin cfg0.N) (r : Fin 256) (l : Fin 1024) : iblk m c 5 t (ix2 r l) = ((A.y (ix2 (row t r) l) : ℝ) : EReal) := by
  rw [← congrFun hA.y]
  blk_ext [iblk, V, idx t, row]

/-! ### The four quarters of the hidden layer -/

/-- The point's normed rows and its quarters of the weights. -/
abbrev p2 (m : (ℓ : Loc nD τ sig) → Buf (Elt Ideal) ℓ) (c : Dev nD) (t : Fin cfg0.N) : FVec Ideal S256x1024 .bf16 :=
  k0_pay2 (iblk m c 0 t) (iblk m c 1 t)

theorem p2_real (t : Fin cfg0.N) (r : Fin 256) (l : Fin 1024) : p2 m c t (ix2 r l) = ((A.hn (row t r) l : ℝ) : EReal) := by
  unfold p2 k0_pay2
  pointwise
  simp only [blk0 hA, blk1 hA, Reals.word_1024, Reals.word_eps, ← EReal.coe_mul, Reals.sum_coe, Reals.rinv_coe]
  rfl

@[inherit_doc p2]
abbrev w1_0 (m : (ℓ : Loc nD τ sig) → Buf (Elt Ideal) ℓ) (c : Dev nD) (t : Fin cfg0.N) : Vec Ideal S1x1024x1024 .bf16 :=
  View.ld (iblk m c 2 t) (Rect.unit ![0, 0, 0] ![1, 1024, 1024] inb_S4x1024x1024_S1x1024x1024_0_0_0)

@[inherit_doc p2]
abbrev w1_1 (m : (ℓ : Loc nD τ sig) → Buf (Elt Ideal) ℓ) (c : Dev nD) (t : Fin cfg0.N) : Vec Ideal S1x1024x1024 .bf16 :=
  View.ld (iblk m c 2 t) (Rect.unit ![1, 0, 0] ![1, 1024, 1024] inb_S4x1024x1024_S1x1024x1024_1_0_0)

@[inherit_doc p2]
abbrev w1_2 (m : (ℓ : Loc nD τ sig) → Buf (Elt Ideal) ℓ) (c : Dev nD) (t : Fin cfg0.N) : Vec Ideal S1x1024x1024 .bf16 :=
  View.ld (iblk m c 2 t) (Rect.unit ![2, 0, 0] ![1, 1024, 1024] inb_S4x1024x1024_S1x1024x1024_2_0_0)

@[inherit_doc p2]
abbrev w1_3 (m : (ℓ : Loc nD τ sig) → Buf (Elt Ideal) ℓ) (c : Dev nD) (t : Fin cfg0.N) : Vec Ideal S1x1024x1024 .bf16 :=
  View.ld (iblk m c 2 t) (Rect.unit ![3, 0, 0] ![1, 1024, 1024] inb_S4x1024x1024_S1x1024x1024_3_0_0)

@[inherit_doc p2]
abbrev w2_3 (m : (ℓ : Loc nD τ sig) → Buf (Elt Ideal) ℓ) (c : Dev nD) (t : Fin cfg0.N) : Vec Ideal S1x1024x1024 .bf16 :=
  View.ld (iblk m c 3 t) (Rect.unit ![3, 0, 0] ![1, 1024, 1024] inb_S4x1024x1024_S1x1024x1024_3_0_0)

theorem a0 (t : Fin cfg0.N) (r : Fin 256) (e : Fin 1024) :
    k0_pay3 (iblk m c 0 t) (iblk m c 1 t) (w1_0 m c t) (ix2 r e) = ((A.f1 (row t r) (col 0 e) : ℝ) : EReal) := by
  unfold k0_pay3 w1_0
  pointwise
  simp only [p2_real hA, blk2 hA, ← EReal.coe_mul, Reals.sum_coe]
  rfl

theorem a1 (t : Fin cfg0.N) (r : Fin 256) (e : Fin 1024) :
    k0_pay6 (p2 m c t) (w1_1 m c t) (ix2 r e) = ((A.f1 (row t r) (col 1 e) : ℝ) : EReal) := by
  unfold k0_pay6 w1_1
  pointwise
  simp only [p2_real hA, blk2 hA, ← EReal.coe_mul, Reals.sum_coe]
  rfl

theorem a2 (t : Fin cfg0.N) (r : Fin 256) (e : Fin 1024) :
    k0_pay8 (p2 m c t) (w1_2 m c t) (ix2 r e) = ((A.f1 (row t r) (col 2 e) : ℝ) : EReal) := by
  unfold k0_pay8 w1_2
  pointwise
  simp only [p2_real hA, blk2 hA, ← EReal.coe_mul, Reals.sum_coe]
  rfl

theorem a3 (t : Fin cfg0.N) (r : Fin 256) (e : Fin 1024) :
    k0_pay11 (p2 m c t) (w1_3 m c t) (ix2 r e) = ((A.f1 (row t r) (col 3 e) : ℝ) : EReal) := by
  unfold k0_pay11 w1_3
  pointwise
  simp only [p2_real hA, blk2 hA, ← EReal.coe_mul, Reals.sum_coe]
  rfl

theorem q0 (t : Fin cfg0.N) (r : Fin 256) (e : Fin 1024) :
    k0_pay4 (iblk m c 0 t) (iblk m c 1 t) (w1_0 m c t) (ix2 r e) = ((A.f (row t r) (col 0 e) : ℝ) : EReal) := by
  unfold k0_pay4
  pointwise
  rw [a0 hA, Reals.max_zero, ← EReal.coe_mul]
  rfl

theorem q1 (t : Fin cfg0.N) (r : Fin 256) (e : Fin 1024) :
    k0_pay7 (p2 m c t) (w1_1 m c t) (ix2 r e) = ((A.f (row t r) (col 1 e) : ℝ) : EReal) := by
  unfold k0_pay7
  pointwise
  rw [a1 hA, Reals.max_zero, ← EReal.coe_mul]
  rfl

theorem q2 (t : Fin cfg0.N) (r : Fin 256) (e : Fin 1024) :
    k0_pay9 (p2 m c t) (w1_2 m c t) (ix2 r e) = ((A.f (row t r) (col 2 e) : ℝ) : EReal) := by
  unfold k0_pay9
  pointwise
  rw [a2 hA, Reals.max_zero, ← EReal.coe_mul]
  rfl

theorem q3 (t : Fin cfg0.N) (r : Fin 256) (e : Fin 1024) :
    k0_pay12 (p2 m c t) (w1_3 m c t) (ix2 r e) = ((A.f (row t r) (col 3 e) : ℝ) : EReal) := by
  unfold k0_pay12
  pointwise
  rw [a3 hA, Reals.max_zero, ← EReal.coe_mul]
  rfl

/-! ### The second product, its norm and the loss -/

/-- The second product over the first three quarters. -/
abbrev p10 (m : (ℓ : Loc nD τ sig) → Buf (Elt Ideal) ℓ) (c : Dev nD) (t : Fin cfg0.N) : FVec Ideal S256x1024 .f32 :=
  k0_pay10 (p2 m c t) (k0_pay4 (iblk m c 0 t) (iblk m c 1 t) (w1_0 m c t))
    (k0_pay5 (View.ld (iblk m c 3 t) (Rect.unit ![0, 0, 0] ![1, 1024, 1024] inb_S4x1024x1024_S1x1024x1024_0_0_0)))
    (constant S256x1024 .f32 0x00000000#32) (w1_1 m c t)
    (View.ld (iblk m c 3 t) (Rect.unit ![1, 0, 0] ![1, 1024, 1024] inb_S4x1024x1024_S1x1024x1024_1_0_0)) (w1_2 m c t)
    (View.ld (iblk m c 3 t) (Rect.unit ![2, 0, 0] ![1, 1024, 1024] inb_S4x1024x1024_S1x1024x1024_2_0_0))

theorem p13 (t : Fin cfg0.N) (r : Fin 256) (l : Fin 1024) :
    k0_pay13 (p2 m c t) (p10 m c t) (w1_3 m c t) (w2_3 m c t) (ix2 r l) = ((A.f2 (row t r) l : ℝ) : EReal) := by
  unfold k0_pay13 p10 k0_pay10 k0_pay5 w2_3
  pointwise
  simp only [q0 hA, q1 hA, q2 hA, q3 hA, blk3 hA, ← EReal.coe_mul, Reals.sum_coe, ← EReal.coe_add]
  rw [Args.f2, sum_cut]

theorem p14 (t : Fin cfg0.N) (r : Fin 256) :
    k0_pay14 (p2 m c t) (p10 m c t) (w1_3 m c t) (w2_3 m c t) (ix2 r 0) = ((Reals.rinv (A.f2 (row t r)) : ℝ) : EReal) := by
  unfold k0_pay14
  pointwise
  simp only [p13 hA, Reals.word_1024, Reals.word_eps, ← EReal.coe_mul, Reals.sum_coe, Reals.rinv_coe]

theorem p15 (t : Fin cfg0.N) (r : Fin 256) (l : Fin 1024) :
    k0_pay15 (p2 m c t) (p10 m c t) (w1_3 m c t) (w2_3 m c t) (ix2 r l) = ((A.n2 (row t r) l : ℝ) : EReal) := by
  unfold k0_pay15
  pointwise
  rw [p13 hA, p14 hA, ← EReal.coe_mul]
  rfl

/-- The error, as the point computes it. -/
abbrev p16 (m : (ℓ : Loc nD τ sig) → Buf (Elt Ideal) ℓ) (c : Dev nD) (t : Fin cfg0.N) : FVec Ideal S256x1024 .f32 :=
  k0_pay16 (p2 m c t) (p10 m c t) (w1_3 m c t) (w2_3 m c t) (iblk m c 0 t) (iblk m c 4 t) (iblk m c 5 t)

theorem p16_real (t : Fin cfg0.N) (r : Fin 256) (l : Fin 1024) : p16 m c t (ix2 r l) = ((A.err (row t r) l : ℝ) : EReal) := by
  unfold p16 k0_pay16
  pointwise
  simp only [p15 hA, blk0 hA, blk4 hA, blk5 hA, ← EReal.coe_mul, ← EReal.coe_add, ← EReal.coe_sub]
  rfl

theorem p17 (t : Fin cfg0.N) (r : Fin 256) :
    k0_pay17 (p2 m c t) (p10 m c t) (w1_3 m c t) (w2_3 m c t) (iblk m c 0 t) (iblk m c 4 t) (iblk m c 5 t) (ix3 0 r 0)
      = (((∑ l, A.err (row t r) l * A.err (row t r) l) / 1024 : ℝ) : EReal) := by
  unfold k0_pay17
  pointwise
  simp only [p16_real hA, Reals.word_1024, ← EReal.coe_mul, Reals.sum_coe]
  rw [Reals.div_real _ (show (1024 : ℝ) ≠ 0 by norm_num)]

theorem p18 (t : Fin cfg0.N) (r : Fin 256) (l : Fin 1024) : k0_pay18 (p16 m c t) (ix2 r l) = ((A.dout (row t r) l : ℝ) : EReal) := by
  unfold k0_pay18
  pointwise
  rw [p16_real hA, word_part, ← EReal.coe_mul]
  rfl

theorem p19 (t : Fin cfg0.N) (v : Vec Ideal S1x1024 .f32) (l : Fin 1024) :
    k0_pay19 (k0_pay15 (p2 m c t) (p10 m c t) (w1_3 m c t) (w2_3 m c t)) (p16 m c t) v (ix2 0 l)
      = v (ix2 0 l) + ((∑ r : Fin 256, A.dk (row t r) l : ℝ) : EReal) := by
  unfold k0_pay19
  pointwise
  simp only [p15 hA, p18 hA, ← EReal.coe_mul, Reals.sum_coe]
  rfl

theorem p20 (t : Fin cfg0.N) (v : Vec Ideal S1x1024 .f32) (l : Fin 1024) :
    k0_pay20 (k0_pay17 (p2 m c t) (p10 m c t) (w1_3 m c t) (w2_3 m c t) (iblk m c 0 t) (iblk m c 4 t) (iblk m c 5 t)) v (ix2 0 l)
      = v (ix2 0 l) + ((∑ r : Fin 256, A.loss (row t r) : ℝ) : EReal) := by
  unfold k0_pay20
  pointwise
  simp only [Fin.sum_univ_one, p17 hA, word_half, Reals.sum_coe, ← EReal.coe_mul, Finset.mul_sum]
  rfl

theorem p21 (t : Fin cfg0.N) (r : Fin 256) (l : Fin 1024) :
    k0_pay21 (k0_pay14 (p2 m c t) (p10 m c t) (w1_3 m c t) (w2_3 m c t)) (k0_pay15 (p2 m c t) (p10 m c t) (w1_3 m c t) (w2_3 m c t))
        (p16 m c t) (iblk m c 4 t) (ix2 r l)
      = ((A.df2 (row t r) l : ℝ) : EReal) := by
  unfold k0_pay21
  pointwise
  simp only [p14 hA, p15 hA, p18 hA, blk4 hA, Reals.word_1024, ← EReal.coe_mul, Reals.sum_coe, ← EReal.coe_sub,
    Reals.div_real _ (show (1024 : ℝ) ≠ 0 by norm_num)]
  rfl

/-! ### What a point leaves in its blocks -/

theorem out6 (t : Fin cfg0.N) (r : Fin 256) (l : Fin 1024) :
    (outsAt0 m c t.val t.isLt).1 (ix2 r l) = ((A.hn (row t r) l : ℝ) : EReal) := by
  by_cases h0 : t.val % 16 = 0
  · rw [outsAt0_A m c t h0]
    frame_out
    exact p2_real hA t r l
  · rw [outsAt0_B m c t h0]
    frame_out
    exact p2_real hA t r l

theorem out7 (t : Fin cfg0.N) (r : Fin 256) (e : Fin 4096) :
    (outsAt0 m c t.val t.isLt).2.1 (ix2 r e) = ((A.f1 (row t r) e : ℝ) : EReal) := by
  by_cases h0 : t.val % 16 = 0
  · rw [outsAt0_A m c t h0]
    frame_out
    exact cols (Val := Elt Ideal) (e := .f32) (fun e => ((A.f1 (row t r) e : ℝ) : EReal)) r _ _ _ _ _ _ _ _ (a0 hA t r) (a1 hA t r) (a2 hA t r) (a3 hA t r) e
  · rw [outsAt0_B m c t h0]
    frame_out
    exact cols (Val := Elt Ideal) (e := .f32) (fun e => ((A.f1 (row t r) e : ℝ) : EReal)) r _ _ _ _ _ _ _ _ (a0 hA t r) (a1 hA t r) (a2 hA t r) (a3 hA t r) e

theorem out8 (t : Fin cfg0.N) (r : Fin 256) (e : Fin 4096) :
    (outsAt0 m c t.val t.isLt).2.2.1 (ix2 r e) = ((A.f (row t r) e : ℝ) : EReal) := by
  by_cases h0 : t.val % 16 = 0
  · rw [outsAt0_A m c t h0]
    frame_out
    exact cols (Val := Elt Ideal) (e := .bf16) (fun e => ((A.f (row t r) e : ℝ) : EReal)) r _ _ _ _ _ _ _ _ (q0 hA t r) (q1 hA t r) (q2 hA t r) (q3 hA t r) e
  · rw [outsAt0_B m c t h0]
    frame_out
    exact cols (Val := Elt Ideal) (e := .bf16) (fun e => ((A.f (row t r) e : ℝ) : EReal)) r _ _ _ _ _ _ _ _ (q0 hA t r) (q1 hA t r) (q2 hA t r) (q3 hA t r) e

theorem out9 (t : Fin cfg0.N) (r : Fin 256) (l : Fin 1024) :
    (outsAt0 m c t.val t.isLt).2.2.2.1 (ix2 r l) = ((A.df2 (row t r) l : ℝ) : EReal) := by
  by_cases h0 : t.val % 16 = 0
  · rw [outsAt0_A m c t h0]
    frame_out
    exact p21 hA t r l
  · rw [outsAt0_B m c t h0]
    frame_out
    exact p21 hA t r l

theorem out10 (t : Fin cfg0.N) (r : Fin 256) (l : Fin 1024) :
    (outsAt0 m c t.val t.isLt).2.2.2.2.1 (ix2 r l) = ((A.dout (row t r) l : ℝ) : EReal) := by
  by_cases h0 : t.val % 16 = 0
  · rw [outsAt0_A m c t h0]
    frame_out
    exact p18 hA t r l
  · rw [outsAt0_B m c t h0]
    frame_out
    exact p18 hA t r l

/-- What point `t` adds to the small result: the last gain's gradient in row 0, the loss all along row 1. -/
def term (A : Args) (t : Fin cfg0.N) (i : S8x1024.Idx) : ℝ :=
  if (i 0).val = 0 then ∑ r : Fin 256, A.dk (row t r) (i 1) else if (i 0).val = 1 then ∑ r : Fin 256, A.loss (row t r) else 0

omit hA m in
theorem pay1_zero (i : S8x1024.Idx) :
    View.canon [(⟨Rect.unit ![0, 0] ![8, 1024] inb_S8x1024_S8x1024_0_0, k0_pay1 (F := Ideal)⟩ : View.Piece (Elt Ideal) S8x1024 .f32)] i = 0 := by
  idx_vars i
  refine (Rows.canon_hit (a := 8) (b := 1024) (k := 0) (l := 0) (n := 8) (w := 1024) _ _ _ i0 i1 i0 i1 (Nat.zero_add _).symm (Nat.zero_add _).symm).trans ?_
  unfold_payloads
  pointwise

theorem out11_A (t : Fin cfg0.N) (h0 : t.val % 16 = 0) (i : S8x1024.Idx) :
    (outsAt0 m c t.val t.isLt).2.2.2.2.2 i = 0 + ((term A t i : ℝ) : EReal) := by
  idx_vars i
  rw [outsAt0_A m c t h0]
  frame_out
  by_cases hi1 : i0 = 1
  · subst hi1
    refine (Rows.canon_hit (a := 8) (b := 1024) (k := 1) (l := 0) (n := 1) (w := 1024) _ _ _ 0 i1 1 i1 rfl (Nat.zero_add _).symm).trans ?_
    refine (p20 hA t _ i1).trans ?_
    refine congrArg₂ (· + ·) ?_ rfl
    rw [View.readCov_eq_canon']
    refine (congrArg _ (Rows.emb_unit (a := 8) (b := 1024) inb_S8x1024_S1x1024_1_0 0 i1 1 i1 rfl (Nat.zero_add _).symm)).trans ?_
    exact (Rows.canon_miss (a := 8) (b := 1024) (k := 0) (l := 0) (n := 1) (w := 1024) _ _ _ 1 i1 (by simp)).trans (pay1_zero _)
  refine (Rows.canon_miss (a := 8) (b := 1024) (k := 1) (l := 0) (n := 1) (w := 1024) _ _ _ i0 i1 (by have : i0.val ≠ 1 := fun h => hi1 (Fin.ext h); omega)).trans ?_
  by_cases hi : i0 = 0
  · subst hi
    refine (Rows.canon_hit (a := 8) (b := 1024) (k := 0) (l := 0) (n := 1) (w := 1024) _ _ _ 0 i1 0 i1 rfl (Nat.zero_add _).symm).trans ?_
    refine (p19 hA t _ i1).trans ?_
    refine congrArg₂ (· + ·) ?_ rfl
    rw [View.readCov_eq_canon']
    exact pay1_zero _
  · refine (Rows.canon_miss (a := 8) (b := 1024) (k := 0) (l := 0) (n := 1) (w := 1024) _ _ _ i0 i1 (Or.inr (Or.inl (Nat.pos_of_ne_zero fun h => hi (Fin.ext h))))).trans ?_
    refine (pay1_zero _).trans ?_
    rw [show term A t (ix2 i0 i1) = 0 from (if_neg fun h => hi (Fin.ext h)).trans (if_neg fun h => hi1 (Fin.ext h)), EReal.coe_zero, add_zero]

theorem out11_B (t : Fin cfg0.N) (h0 : ¬t.val % 16 = 0) (i : S8x1024.Idx) :
    (outsAt0 m c t.val t.isLt).2.2.2.2.2 i
      = (outsAt0 m c (t.val - 1) (Nat.lt_of_le_of_lt (Nat.sub_le _ _) t.isLt)).2.2.2.2.2 i + ((term A t i : ℝ) : EReal) := by
  idx_vars i
  rw [outsAt0_B m c t h0]
  frame_out
  by_cases hi1 : i0 = 1
  · subst hi1
    refine (Rows.read_hit (a := 8) (b := 1024) (k := 1) (l := 0) (n := 1) (w := 1024) _ _ _ _ _ 0 i1 1 i1 rfl (Nat.zero_add _).symm).trans ?_
    refine (p20 hA t _ i1).trans ?_
    refine congrArg₂ (· + ·) ?_ rfl
    exact View.ld_unit_apply_of _ _ _ _ _ _ (fun a => by fin_cases a <;> simp)
  refine (Rows.read_miss (a := 8) (b := 1024) (k := 1) (l := 0) (n := 1) (w := 1024) _ _ _ _ _ i0 i1 (by have : i0.val ≠ 1 := fun h => hi1 (Fin.ext h); omega)).trans ?_
  by_cases hi : i0 = 0
  · subst hi
    refine (Rows.read_hit (a := 8) (b := 1024) (k := 0) (l := 0) (n := 1) (w := 1024) _ _ _ _ _ 0 i1 0 i1 rfl (Nat.zero_add _).symm).trans ?_
    refine (p19 hA t _ i1).trans ?_
    refine congrArg₂ (· + ·) ?_ rfl
    exact View.ld_unit_apply_of _ _ _ _ _ _ (fun a => by fin_cases a <;> simp)
  · refine (Rows.read_miss (a := 8) (b := 1024) (k := 0) (l := 0) (n := 1) (w := 1024) _ _ _ _ _ i0 i1 (Or.inr (Or.inl (Nat.pos_of_ne_zero fun h => hi (Fin.ext h))))).trans ?_
    rw [View.writes_nil, Memref.IsWhole.read_unread,
      show term A t (ix2 i0 i1) = 0 from (if_neg fun h => hi (Fin.ext h)).trans (if_neg fun h => hi1 (Fin.ext h)), EReal.coe_zero, add_zero]

/-! ### The six result arrays -/

theorem arr6 : (dats m 0 c).arrAt 6 cfg0.N = fun i : S4096x1024.Idx => ((A.hn (i 0) (i 1) : ℝ) : EReal) := by
  have key : ∀ v : Vec Ideal S4096x1024 .bf16, (∀ s e, v (ix2 s e) = ((A.hn s e : ℝ) : EReal)) → (dats m 0 c).arrAt 6 cfg0.N = v := by
    intro v hv
    refine (dats m 0 c).arrAt_eq_of_covers 6 v (by decide +kernel) fun t hf y => ?_
    idx_vars y
    blk_simp
    rw [after0_6]
    refine (out6 hA t _ _).trans ((hv _ _).symm.trans (congrArg v (?_ : ix2 (row t y0) y1 = _)))
    refine funext fun a => Fin.ext ?_
    fin_cases a <;> blk_simp [idx t, row] <;> rfl
  exact key _ fun s e => rfl

theorem arr7 : (dats m 0 c).arrAt 7 cfg0.N = fun i : S4096x4096.Idx => ((A.f1 (i 0) (i 1) : ℝ) : EReal) := by
  have key : ∀ v : Vec Ideal S4096x4096 .f32, (∀ s e, v (ix2 s e) = ((A.f1 s e : ℝ) : EReal)) → (dats m 0 c).arrAt 7 cfg0.N = v := by
    intro v hv
    refine (dats m 0 c).arrAt_eq_of_covers 7 v (by decide +kernel) fun t hf y => ?_
    idx_vars y
    blk_simp
    rw [after0_7]
    refine (out7 hA t _ _).trans ((hv _ _).symm.trans (congrArg v (?_ : ix2 (row t y0) y1 = _)))
    refine funext fun a => Fin.ext ?_
    fin_cases a <;> blk_simp [idx t, row] <;> rfl
  exact key _ fun s e => rfl

theorem arr8 : (dats m 0 c).arrAt 8 cfg0.N = fun i : S4096x4096.Idx => ((A.f (i 0) (i 1) : ℝ) : EReal) := by
  have key : ∀ v : Vec Ideal S4096x4096 .bf16, (∀ s e, v (ix2 s e) = ((A.f s e : ℝ) : EReal)) → (dats m 0 c).arrAt 8 cfg0.N = v := by
    intro v hv
    refine (dats m 0 c).arrAt_eq_of_covers 8 v (by decide +kernel) fun t hf y => ?_
    idx_vars y
    blk_simp
    rw [after0_8]
    refine (out8 hA t _ _).trans ((hv _ _).symm.trans (congrArg v (?_ : ix2 (row t y0) y1 = _)))
    refine funext fun a => Fin.ext ?_
    fin_cases a <;> blk_simp [idx t, row] <;> rfl
  exact key _ fun s e => rfl

theorem arr9 : (dats m 0 c).arrAt 9 cfg0.N = fun i : S4096x1024.Idx => ((A.df2 (i 0) (i 1) : ℝ) : EReal) := by
  have key : ∀ v : Vec Ideal S4096x1024 .bf16, (∀ s e, v (ix2 s e) = ((A.df2 s e : ℝ) : EReal)) → (dats m 0 c).arrAt 9 cfg0.N = v := by
    intro v hv
    refine (dats m 0 c).arrAt_eq_of_covers 9 v (by decide +kernel) fun t hf y => ?_
    idx_vars y
    blk_simp
    rw [after0_9]
    refine (out9 hA t _ _).trans ((hv _ _).symm.trans (congrArg v (?_ : ix2 (row t y0) y1 = _)))
    refine funext fun a => Fin.ext ?_
    fin_cases a <;> blk_simp [idx t, row] <;> rfl
  exact key _ fun s e => rfl

theorem arr10 : (dats m 0 c).arrAt 10 cfg0.N = fun i : S4096x1024.Idx => ((A.dout (i 0) (i 1) : ℝ) : EReal) := by
  have key : ∀ v : Vec Ideal S4096x1024 .f32, (∀ s e, v (ix2 s e) = ((A.dout s e : ℝ) : EReal)) → (dats m 0 c).arrAt 10 cfg0.N = v := by
    intro v hv
    refine (dats m 0 c).arrAt_eq_of_covers 10 v (by decide +kernel) fun t hf y => ?_
    idx_vars y
    blk_simp
    rw [after0_10]
    refine (out10 hA t _ _).trans ((hv _ _).symm.trans (congrArg v (?_ : ix2 (row t y0) y1 = _)))
    refine funext fun a => Fin.ext ?_
    fin_cases a <;> blk_simp [idx t, row] <;> rfl
  exact key _ fun s e => rfl

/-- The last gain's gradient in row 0 of eight, the loss in row 1, the other rows zero. -/
def gg (A : Args) (i : S8x1024.Idx) : EReal :=
  ((if (i 0).val = 0 then ∑ s : Fin 4096, A.dk s (i 1) else if (i 0).val = 1 then ∑ s : Fin 4096, A.loss s else 0 : ℝ) : EReal)

theorem arr11 : (dats m 0 c).arrAt 11 cfg0.N = gg A := by
  refine (dats m 0 c).arrAt_eq_of_after_last 11 t0_15 (by decide +kernel) _ fun j => ?_
  rw [after0_11]
  refine (Pipeline.eq_sum_fin_of_reset_step_apply_last (fun n h => (outsAt0 m c n h).2.2.2.2.2) 16 (fun _ => 0)
    (fun t i => ((term A t i : ℝ) : EReal)) (out11_A hA) (out11_B hA) (by decide) t0_15 rfl _).trans ?_
  rw [zero_add, Reals.sum_coe]
  refine congrArg _ ?_
  show ∑ t : Fin cfg0.N, (if (j 0).val = 0 then _ else if (j 0).val = 1 then _ else _) = if (j 0).val = 0 then _ else if (j 0).val = 1 then _ else _
  by_cases h : (j 0).val = 0
  · simp only [if_pos h]
    exact Fin.sum_mul_add_fin 16 256 fun s => A.dk s (j 1)
  by_cases h1 : (j 0).val = 1
  · simp only [if_neg h, if_pos h1]
    exact Fin.sum_mul_add_fin 16 256 fun s => A.loss s
  · simp only [if_neg h, if_neg h1, Finset.sum_const_zero]

end

end Cert.Ff
end
-- ==== Proof.Ff.Ref.lean ====
module

public import proofs.«01_k».proof.Proof.Ff.Body
public import proofs.«01_k».proof.Proof.Gen.RefFfIdeal.Run
public import proofs.«01_k».proof.Proof.Gen.RefFfIdeal.Read

/-!
The reference of the feed-forward block with the loss at an index: the chain rule's terms are the kernel's closed forms.
-/

@[expose] public section
noncomputable section

open Idealize.ShloMosaic Idealize.ShloMosaic.TcCoe
open Cert.RefFfIdeal Cert.RefFfIdeal.Read

namespace Cert.Ff

variable (A : Args)

/-- An array of real numbers as an array of extended reals. -/
abbrev up {s : Shape} (X : s.Idx → ℝ) : s.Idx → EReal := fun i => (X i : EReal)

theorem r7 (s : Fin 4096) :
    val_main_v7 (F := Ideal) (up A.h) (ix2 s 0) = ((Reals.rinv (A.row s) : ℝ) : EReal) := by
  simp only [val_main_v7, val_main_v6, val_main_v5, val_main_v4, val_main_v3, val_main_v2, val_main_v1, val_main_v0, val_main_cst, val_main_cst_0, val_main_cst_1]
  pointwise
  simp only [Reals.word_1024, Reals.word_eps, ← EReal.coe_mul, Reals.sum_coe]
  exact Reals.rinv_coe (A.row s)

theorem r12 (s : Fin 4096) (l : Fin 1024) :
    val_main_v12 (F := Ideal) (up A.h) (up A.g) (ix2 s l) = ((A.hn s l : ℝ) : EReal) := by
  simp only [val_main_v12, val_main_v11, val_main_v10, val_main_v9, val_main_v8]
  pointwise
  rw [r7, ← EReal.coe_mul, ← EReal.coe_mul]
  rfl

theorem r13 (s e : Fin 4096) :
    val_main_v13 (F := Ideal) (up A.h) (up A.g) (up A.w1) (ix2 s e) = ((A.f1 s e : ℝ) : EReal) := by
  simp only [val_main_v13]
  pointwise
  simp only [r12, ← EReal.coe_mul, Reals.sum_coe]
  rfl

theorem r15 (s e : Fin 4096) :
    val_main_v15 (F := Ideal) (up A.h) (up A.g) (up A.w1) (ix2 s e) = ((A.f s e : ℝ) : EReal) := by
  simp only [val_main_v15, val_main_v14, val_main_call0_v0, val_main_call0_cst]
  pointwise
  rw [r13, Reals.max_zero, ← EReal.coe_mul]
  rfl

theorem r16 (s : Fin 4096) (l : Fin 1024) :
    val_main_v16 (F := Ideal) (up A.h) (up A.g) (up A.w1) (up A.w2) (ix2 s l) = ((A.f2 s l : ℝ) : EReal) := by
  simp only [val_main_v16]
  pointwise
  simp only [r15, ← EReal.coe_mul, Reals.sum_coe]
  rfl

theorem r23 (s : Fin 4096) :
    val_main_v23 (F := Ideal) (up A.h) (up A.g) (up A.w1) (up A.w2) (ix2 s 0) = ((Reals.msq (A.f2 s) : ℝ) : EReal) := by
  simp only [val_main_v23, val_main_v22, val_main_v21, val_main_v20, val_main_v19, val_main_v18, val_main_v17, val_main_cst_2, val_main_cst_3, val_main_cst_4]
  pointwise
  simp only [r16, Reals.word_1024, Reals.word_eps, ← EReal.coe_mul, Reals.sum_coe]
  rw [Reals.div_real _ (show (1024 : ℝ) ≠ 0 by norm_num), ← EReal.coe_add]
  rfl

theorem r24 (s : Fin 4096) :
    val_main_v24 (F := Ideal) (up A.h) (up A.g) (up A.w1) (up A.w2) (ix2 s 0) = ((Reals.rinv (A.f2 s) : ℝ) : EReal) := by
  simp only [val_main_v24]
  pointwise
  rw [r23]
  exact Reals.rsqrt_real (Reals.msq_pos _)

theorem r27 (s : Fin 4096) :
    val_main_v27 (F := Ideal) (up A.h) (up A.g) (up A.w1) (up A.w2) (ix2 s 0) = ((-(1 / 2) * (Reals.rinv (A.f2 s) / Reals.msq (A.f2 s)) : ℝ) : EReal) := by
  simp only [val_main_v27, val_main_v26, val_main_v25, val_main_cst_5]
  pointwise
  rw [r23, r24, Reals.word_neg_half, Reals.div_real _ (Reals.msq_pos _).ne', ← EReal.coe_mul]

theorem r29 (s : Fin 4096) (l : Fin 1024) :
    val_main_v29 (F := Ideal) (up A.h) (up A.g) (up A.w1) (up A.w2) (ix2 s l) = ((A.n2 s l : ℝ) : EReal) := by
  simp only [val_main_v29, val_main_v28]
  pointwise
  rw [r16, r24, ← EReal.coe_mul]
  rfl

theorem r34 (s : Fin 4096) (l : Fin 1024) :
    val_main_v34 (F := Ideal) (up A.h) (up A.g) (up A.w1) (up A.w2) (up A.k) (up A.y) (ix2 s l) = ((A.err s l : ℝ) : EReal) := by
  simp only [val_main_v34, val_main_v33, val_main_v32, val_main_v31, val_main_v30]
  pointwise
  rw [r29, ← EReal.coe_mul, ← EReal.coe_add, ← EReal.coe_sub]
  rfl

theorem r42 :
    val_main_v42 (F := Ideal) (up A.h) (up A.g) (up A.w1) (up A.w2) (up A.k) (up A.y) ix0 = ((∑ s, A.loss s : ℝ) : EReal) := by
  simp only [val_main_v42, val_main_v41, val_main_v40, val_main_v39, val_main_v38, val_main_v35, val_main_cst_7, val_main_cst_8, val_main_cst_9, val_main_cst_10]
  pointwise
  simp only [r34, word_half, Reals.word_1024, ← EReal.coe_mul, Reals.sum_coe, Reals.div_real _ (show (1024 : ℝ) ≠ 0 by norm_num), Finset.mul_sum]
  rfl

theorem r48 (s : Fin 4096) (l : Fin 1024) :
    val_main_v48 (F := Ideal) (up A.h) (up A.g) (up A.w1) (up A.w2) (up A.k) (up A.y) (ix2 s l) = ((A.dout s l : ℝ) : EReal) := by
  simp only [val_main_v48, val_main_v47, val_main_v46, val_main_v45, val_main_v44, val_main_v43, val_main_v37, val_main_v36, val_main_cst_6, val_main_cst_11, val_main_cst_12, val_main_cst_13]
  pointwise
  rw [r34, word_half, Reals.word_2, Reals.word_1024, Reals.div_real _ (show (1024 : ℝ) ≠ 0 by norm_num), ← EReal.coe_mul, ← EReal.coe_mul]
  refine congrArg _ ?_
  rw [Args.dout]
  ring

theorem r53 (s : Fin 4096) (l : Fin 1024) :
    val_main_v53 (F := Ideal) (up A.h) (up A.g) (up A.w1) (up A.w2) (up A.k) (up A.y) (ix2 s l) = ((A.du s l : ℝ) : EReal) := by
  simp only [val_main_v53, val_main_v52, val_main_v30]
  pointwise
  rw [r48, ← EReal.coe_mul]
  rfl

theorem r54 (l : Fin 1024) :
    val_main_v54 (F := Ideal) (up A.h) (up A.g) (up A.w1) (up A.w2) (up A.k) (up A.y) (ix1 l) = ((∑ s : Fin 4096, A.dk s l : ℝ) : EReal) := by
  simp only [val_main_v54, val_main_v51, val_main_v50, val_main_v49, val_main_cst_14, val_main_cst_15]
  pointwise
  simp only [r29, r48, ← EReal.coe_mul, Reals.sum_coe, Fin.sum_univ_one]
  exact congrArg _ (Finset.sum_congr rfl fun s _ => mul_comm _ _)

theorem r64 (s : Fin 4096) (l : Fin 1024) :
    val_main_v64 (F := Ideal) (up A.h) (up A.g) (up A.w1) (up A.w2) (up A.k) (up A.y) (ix2 s l) = (((∑ k, A.f2 s k * A.du s k) * (-(1 / 2) * (Reals.rinv (A.f2 s) / Reals.msq (A.f2 s))) / 1024 : ℝ) : EReal) := by
  simp only [val_main_v64, val_main_v63, val_main_v62, val_main_v61, val_main_v60, val_main_v57, val_main_v56, val_main_v55, val_main_cst_16, val_main_cst_17, val_main_cst_18]
  pointwise
  simp only [Fin.sum_univ_one]
  rw [r27]
  simp only [r16, r53, Reals.word_1024, ← EReal.coe_mul, Reals.sum_coe, Reals.div_real _ (show (1024 : ℝ) ≠ 0 by norm_num)]

theorem r69 (i : S4096x1024.Idx) :
    val_main_v69 (F := Ideal) (up A.h) (up A.g) i = ((A.hn (i 0) (i 1) : ℝ) : EReal) := by
  idx_vars i
  simp only [val_main_v69]
  pointwise
  exact r12 A i0 i1

theorem r70 (i : S4096x4096.Idx) :
    val_main_v70 (F := Ideal) (up A.h) (up A.g) (up A.w1) i = ((A.f (i 0) (i 1) : ℝ) : EReal) := by
  idx_vars i
  simp only [val_main_v70]
  pointwise
  exact r15 A i0 i1

theorem r71 (i : S4096x1024.Idx) :
    val_main_v71 (F := Ideal) (up A.h) (up A.g) (up A.w1) (up A.w2) (up A.k) (up A.y) i = ((A.df2 (i 0) (i 1) : ℝ) : EReal) := by
  idx_vars i
  simp only [val_main_v71, val_main_v68, val_main_v67, val_main_v66, val_main_v65, val_main_v59, val_main_v58]
  pointwise
  rw [r64, r53, r24, r16, add_assoc]
  simp only [← EReal.coe_mul, ← EReal.coe_add]
  exact congrArg _ (Reals.rmsGrad_eq (A.f2 i0) (A.du i0) i1)

theorem r75 (i : S8x1024.Idx) : val_main_v75 (F := Ideal) (up A.h) (up A.g) (up A.w1) (up A.w2) (up A.k) (up A.y) i = gg A i := by
  idx_vars i
  simp only [val_main_v75, val_main_v74, val_main_v73, val_main_v72, val_main_cst_19]
  pointwise
  simp only [r54, r42]
  show _ = ((if i0.val = 0 then _ else if i0.val = 1 then _ else 0 : ℝ) : EReal)
  by_cases h : i0.val = 0
  · rw [if_pos h, dif_pos (by omega)]
    rfl
  rw [if_neg h, dif_neg (by omega)]
  by_cases h1 : i0.val = 1
  · rw [if_pos h1, dif_pos (by omega)]
  · rw [if_neg h1, dif_neg (by omega), EReal.coe_zero]

end Cert.Ff
end
-- ==== Proof.Ff.Equal.lean ====
module

public import proofs.«01_k».proof.Defs
public import proofs.«01_k».proof.Proof.Ff.Ref
public import proofs.«01_k».proof.Proof.Gen.KernelFf.Frame

/-!
The two programs of the feed-forward block with the loss leave equal arrays.
-/

@[expose] public section
noncomputable section

open Idealize.ShloMosaic Idealize.ShloMosaic.TcCoe Idealize.SL.Sem

namespace Cert.Ff

instance preFacts : Cert.Pre_finite_ff.Facts where
  bcast_S_S4096x1024 := by decide
  bcast_S_S1024 := by decide
  bcast_S_S1024x4096 := by decide

/-- The finiteness test read as the existence of real numbers. -/
theorem given (m : (ℓ : Loc KernelFfIdeal.nD KernelFfIdeal.τ KernelFfIdeal.sig) → Buf (Elt Ideal) ℓ)
    (h : Pre_KernelFfIdeal_finite_ff m) (c : Dev KernelFfIdeal.nD) : ∃ A : Args, Holds m c A := by
  obtain ⟨i0, i1, i2, i3, i4, i5⟩ := h c
  obtain ⟨h, hh⟩ := Reals.reals_of_finite i0
  obtain ⟨g, hg⟩ := Reals.reals_of_finite i1
  obtain ⟨w1, hw1⟩ := Reals.reals_of_finite i2
  obtain ⟨w2, hw2⟩ := Reals.reals_of_finite i3
  obtain ⟨k, hk⟩ := Reals.reals_of_finite i4
  obtain ⟨y, hy⟩ := Reals.reals_of_finite i5
  exact ⟨⟨h, g, w1, w2, k, y⟩, hh, hg, hw1, hw2, hk, hy⟩

/-- The reference runs to its end, keeps its arguments and leaves no semaphore raised. -/
theorem frame_ref : quiescent_RefFfIdeal := fun m ρ _ =>
  (θ_run RefFfIdeal.defs _ _).mono (fun r h => ⟨fun c => (h c).2.2.2.2.2.2, sem_eq_zero_of_no_sems (by decide) r.2⟩)
    (RefFfIdeal.Value.run (F := Ideal) m ρ)

theorem equal : algebraic_KernelFfIdeal_RefFfIdeal_pre_finite_ff := by
  intro m g m' g' hpre hargs
  refine ⟨fun c => (KernelFfIdeal.Gen.dats m 0 c).arrAt 6 KernelFfIdeal.cfg0.N, fun c => (KernelFfIdeal.Gen.dats m 0 c).arrAt 7 KernelFfIdeal.cfg0.N,
    fun c => (KernelFfIdeal.Gen.dats m 0 c).arrAt 8 KernelFfIdeal.cfg0.N, fun c => (KernelFfIdeal.Gen.dats m 0 c).arrAt 9 KernelFfIdeal.cfg0.N,
    fun c => (KernelFfIdeal.Gen.dats m 0 c).arrAt 10 KernelFfIdeal.cfg0.N, fun c => (KernelFfIdeal.Gen.dats m 0 c).arrAt 11 KernelFfIdeal.cfg0.N,
    KernelFfIdeal.Value.run_blocks m g, (θ_run RefFfIdeal.defs _ _).mono (fun r h c => ?_) (RefFfIdeal.Value.run m' g')⟩
  obtain ⟨e0, e1, e2, e3, e4, e5⟩ := hargs c
  obtain ⟨A, hA⟩ := given m hpre c
  obtain ⟨r0, r1, r2, r3, r4, r5, rest⟩ := h c
  have f0 : m' ((c.tc : Thread RefFfIdeal.nD RefFfIdeal.τ).loc RefFfIdeal.main_arg0) = up A.h := e0.trans hA.h
  have f1 : m' ((c.tc : Thread RefFfIdeal.nD RefFfIdeal.τ).loc RefFfIdeal.main_arg1) = up A.g := e1.trans hA.g
  have f2 : m' ((c.tc : Thread RefFfIdeal.nD RefFfIdeal.τ).loc RefFfIdeal.main_arg2) = up A.w1 := e2.trans hA.w1
  have f3 : m' ((c.tc : Thread RefFfIdeal.nD RefFfIdeal.τ).loc RefFfIdeal.main_arg3) = up A.w2 := e3.trans hA.w2
  have f4 : m' ((c.tc : Thread RefFfIdeal.nD RefFfIdeal.τ).loc RefFfIdeal.main_arg4) = up A.k := e4.trans hA.k
  have f5 : m' ((c.tc : Thread RefFfIdeal.nD RefFfIdeal.τ).loc RefFfIdeal.main_arg5) = up A.y := e5.trans hA.y
  refine ⟨(r0.trans (RefFfIdeal.Read.val_main_v69_eq _ _)).trans ?_, (r1.trans (RefFfIdeal.Read.val_main_v13_eq _ _ _)).trans ?_,
    (r2.trans (RefFfIdeal.Read.val_main_v70_eq _ _ _)).trans ?_, (r3.trans (RefFfIdeal.Read.val_main_v71_eq m' c)).trans ?_,
    (r4.trans (RefFfIdeal.Read.val_main_v48_eq m' c)).trans ?_, (r5.trans (RefFfIdeal.Read.val_main_v75_eq m' c)).trans ?_, rest⟩
  · refine Eq.trans ?_ (arr6 hA).symm
    rw [f0, f1]
    exact funext (r69 A)
  · refine Eq.trans ?_ (arr7 hA).symm
    rw [f0, f1, f2]
    refine funext fun i => ?_
    idx_vars i
    exact r13 A i0 i1
  · refine Eq.trans ?_ (arr8 hA).symm
    rw [f0, f1, f2]
    exact funext (r70 A)
  · refine Eq.trans ?_ (arr9 hA).symm
    rw [f0, f1, f2, f3, f4, f5]
    exact funext (r71 A)
  · refine Eq.trans ?_ (arr10 hA).symm
    rw [f0, f1, f2, f3, f4, f5]
    refine funext fun i => ?_
    idx_vars i
    exact r48 A i0 i1
  · refine Eq.trans ?_ (arr11 hA).symm
    rw [f0, f1, f2, f3, f4, f5]
    exact funext (r75 A)

end Cert.Ff
end
-- ==== Proof.Ip.Equal.lean ====
module

public import proofs.«01_k».proof.Defs
public import proofs.«01_k».proof.Proof.Gen.KernelIp.Frame
public import proofs.«01_k».proof.Proof.Gen.KernelIpIdeal.Frame
public import proofs.«01_k».proof.Proof.Gen.Pre_chip_ip
public import proofs.«01_k».proof.Proof.Gen.RefIpIdeal.Run
public import proofs.«01_k».proof.Proof.Gen.RefIpIdeal.Read
public import Idealize.ShloMosaic.Lib.Pointwise
public import Idealize.ShloMosaic.Lib.Pipeline.ValueKit

/-!
The normed rows of the input projection: the chip's index names one of four column blocks, so every block of the call is inside its
array, and the rows the call leaves are the reference's.
-/

@[expose] public section

set_option maxRecDepth 16384

noncomputable section

open Idealize.ShloMosaic Idealize.ShloMosaic.TcCoe Idealize.SL.Sem

namespace Cert.Ip

/-- The test of the chip's index read as a bound on its word. -/
theorem word_lt {F : FTy → Type} [FloatOps F] {p : IVec Pre_chip_ip.S1 32} {x : FVec F Pre_chip_ip.S4096x1024 .f32}
    {g : FVec F Pre_chip_ip.S1024 .f32} {w : FVec F Pre_chip_ip.S1024x1280 .f32} {b : FVec F Pre_chip_ip.S5120 .f32}
    (h : Pre_chip_ip.fn p x g w b = fun _ => 1#1) (i : Pre_chip_ip.S1.Idx) : (p i).toNat < 4 := by
  have both (a b : BitVec 1) : IntOp.andi a b = 1#1 ↔ a = 1#1 ∧ b = 1#1 := by revert a b; decide
  have bit (q : Bool) : BitVec.ofBool q = 1#1 ↔ q = true := by cases q <;> decide
  have hi := congrFun h i
  simp only [Pre_chip_ip.fn, constantI, broadcastInDim, cmpi, andi, both, IntOp.cmpi, bit, BitVec.sle, BitVec.slt, decide_eq_true_eq,
    BitVec.toInt, BitVec.toNat_ofNat] at hi
  have := (p i).isLt
  simp at hi
  omega

/-- Every block lies inside its array: the chip's column block is one of four. -/
theorem ok_bits (m : (ℓ : Loc KernelIp.nD KernelIp.τ KernelIp.sig) → Buf (Elt Bits) ℓ) (h : Pre_KernelIp m) : KernelIp.Gen.Ok m := by
  have hw : ∀ i, (KernelIp.Gen.tbl m 0 i).toNat < 4 := fun i => word_lt (h 0) i
  refine ⟨fun i => ⟨?_, .inl rfl⟩, fun i => ⟨?_, .inl rfl⟩⟩
  · obtain ⟨j, hj⟩ : ∃ j, KernelIp.cc0_transform_3 KernelIp.Gen.inb_S1_S1_0 KernelIp.Gen.numel1_S1 (KernelIp.Gen.tbl m) i = ![0, (KernelIp.Gen.tbl m 0 j).toNat] := ⟨_, rfl⟩
    have := hw j
    intro a
    rw [hj]
    fin_cases a
    · show (0 + 1) * 1 ≤ 1
      omega
    · show ((KernelIp.Gen.tbl m 0 j).toNat + 1) * 1280 ≤ 5120
      omega
  · obtain ⟨j, hj⟩ : ∃ j, KernelIp.cc0_transform_5 KernelIp.Gen.inb_S1_S1_0 KernelIp.Gen.numel1_S1 (KernelIp.Gen.tbl m) i = ![(BitVec.ofNat 32 (i 0).val).toNat, (KernelIp.Gen.tbl m 0 j).toNat] := ⟨_, rfl⟩
    have := hw j
    have hi : (i 0).val < 4 := (i 0).isLt
    intro a
    rw [hj]
    fin_cases a
    · show ((BitVec.ofNat 32 (i 0).val).toNat + 1) * 1024 ≤ 4096
      rw [BitVec.toNat_ofNat]
      omega
    · show ((KernelIp.Gen.tbl m 0 j).toNat + 1) * 1280 ≤ 5120
      omega

/-- Every block lies inside its array: the chip's column block is one of four. -/
theorem ok_ideal (m : (ℓ : Loc KernelIpIdeal.nD KernelIpIdeal.τ KernelIpIdeal.sig) → Buf (Elt Ideal) ℓ) (h : Pre_KernelIpIdeal m) : KernelIpIdeal.Gen.Ok m := by
  have hw : ∀ i, (KernelIpIdeal.Gen.tbl m 0 i).toNat < 4 := fun i => word_lt (h 0) i
  refine ⟨fun i => ⟨?_, .inl rfl⟩, fun i => ⟨?_, .inl rfl⟩⟩
  · obtain ⟨j, hj⟩ : ∃ j, KernelIpIdeal.cc0_transform_3 KernelIpIdeal.Gen.inb_S1_S1_0 KernelIpIdeal.Gen.numel1_S1 (KernelIpIdeal.Gen.tbl m) i = ![0, (KernelIpIdeal.Gen.tbl m 0 j).toNat] := ⟨_, rfl⟩
    have := hw j
    intro a
    rw [hj]
    fin_cases a
    · show (0 + 1) * 1 ≤ 1
      omega
    · show ((KernelIpIdeal.Gen.tbl m 0 j).toNat + 1) * 1280 ≤ 5120
      omega
  · obtain ⟨j, hj⟩ : ∃ j, KernelIpIdeal.cc0_transform_5 KernelIpIdeal.Gen.inb_S1_S1_0 KernelIpIdeal.Gen.numel1_S1 (KernelIpIdeal.Gen.tbl m) i = ![(BitVec.ofNat 32 (i 0).val).toNat, (KernelIpIdeal.Gen.tbl m 0 j).toNat] := ⟨_, rfl⟩
    have := hw j
    have hi : (i 0).val < 4 := (i 0).isLt
    intro a
    rw [hj]
    fin_cases a
    · show ((BitVec.ofNat 32 (i 0).val).toNat + 1) * 1024 ≤ 4096
      rw [BitVec.toNat_ofNat]
      omega
    · show ((KernelIpIdeal.Gen.tbl m 0 j).toNat + 1) * 1280 ≤ 5120
      omega

theorem frame_bits : quiescent_KernelIp := fun m ρ h => KernelIp.Gen.frame m ρ (ok_bits m h)

theorem frame_ideal : quiescent_KernelIpIdeal := fun m ρ h => KernelIpIdeal.Gen.frame m ρ (ok_ideal m h)

/-- The reference runs to its end, keeps its arguments and leaves no semaphore raised. -/
theorem frame_ref : quiescent_RefIpIdeal := fun m ρ _ =>
  (θ_run RefIpIdeal.defs _ _).mono (fun r h => ⟨fun c => (h c).2, sem_eq_zero_of_no_sems (by decide) r.2⟩)
    (RefIpIdeal.Value.run (F := Ideal) m ρ)

/-- Element `l` of row `s`, divided by the root of the row's mean square and scaled by the gain. -/
def xn (x : FVec Ideal RefIpIdeal.S4096x1024 .f32) (g : FVec Ideal RefIpIdeal.S1024 .f32) (s : Fin 4096) (l : Fin 1024) : EReal :=
  x (ix2 s l) * Ideal.rsqrt (Ideal.div (∑ k : Fin 1024, x (ix2 s k) * x (ix2 s k)) (Ideal.ofBits .f32 0x44800000#32) + Ideal.ofBits .f32 0x358637BD#32)
    * g (ix1 l)

section
open RefIpIdeal RefIpIdeal.Read

theorem ref_xn (x : FVec Ideal S4096x1024 .f32) (g : FVec Ideal S1024 .f32) (s : Fin 4096) (l : Fin 1024) :
    val_main_v13 (F := Ideal) x g (ix2 s l) = xn x g s l := by
  simp only [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1]
  pointwise
  rfl

end

section
open KernelIpIdeal KernelIpIdeal.Gen

variable {m : (ℓ : Loc nD τ sig) → Buf (Elt Ideal) ℓ} (hO : Ok m) (c : Dev nD)

/-- Row `r` of the block at point `t` in the whole array. -/
def row (t : Fin (cfgM m hO).N) (r : Fin 1024) : Fin 4096 :=
  ⟨t.val * 1024 + r.val, by have : t.val < 4 := t.isLt; have := r.isLt; omega⟩

theorem idx : ∀ t : Fin grid0.N, cc0_transform_0 (grid0.coords t) = ![t.val, 0] ∧ cc0_transform_1 (grid0.coords t) = ![0, 0]
    ∧ cc0_transform_6 (grid0.coords t) = ![t.val, 0] := by decide +kernel

theorem blk0 (t : Fin (cfgM m hO).N) (r l : Fin 1024) :
    iblk m hO c 0 t (ix2 r l) = m ((c : Thread nD τ).loc main_arg1) (ix2 (row hO t r) l) := by
  rw [← V_main_arg1 m c]
  show V m c main_arg1 ((((cfgM m hO).win 0).blk t).view.emb (ix2 r l)) = _
  refine congrArg _ (funext fun a => Fin.ext ?_)
  fin_cases a
  · show cc0_transform_0 (grid0.coords t) 0 * 1024 + 1 * r.val = t.val * 1024 + r.val
    rw [(idx t).1]
    show t.val * 1024 + 1 * r.val = _
    omega
  · show cc0_transform_0 (grid0.coords t) 1 * 1024 + 1 * l.val = l.val
    rw [(idx t).1]
    show 0 * 1024 + 1 * l.val = _
    omega

theorem blk1 (t : Fin (cfgM m hO).N) (l : Fin 1024) :
    iblk m hO c 1 t (ix2 0 l) = m ((c : Thread nD τ).loc main_arg2) (ix1 l) := by
  have e : (((cfgM m hO).win 1).blk t).view.emb (ix2 0 l) = (ix2 0 l : S1x1024.Idx) := by
    refine funext fun a => Fin.ext ?_
    fin_cases a
    · show cc0_transform_1 (grid0.coords t) 0 * 1 + 0 * 1 = 0
      rw [(idx t).2.1]
      rfl
    · show cc0_transform_1 (grid0.coords t) 1 * 1024 + 1 * l.val = l.val
      rw [(idx t).2.1]
      show 0 * 1024 + 1 * l.val = _
      omega
  refine (congrArg (V m c main_v0) e).trans ?_
  blk_simp [V]
  entry_read
  pointwise

omit m in
/-- The call's normed rows at an element of a block. -/
theorem pay1 (X : Vec Ideal S1024x1024 .f32) (G : Vec Ideal S1x1024 .f32) (x : FVec Ideal S4096x1024 .f32) (g : FVec Ideal S1024 .f32)
    (s : Fin 4096) (r l : Fin 1024) (hX : ∀ k : Fin 1024, X (ix2 r k) = x (ix2 s k)) (hG : G (ix2 0 l) = g (ix1 l)) :
    k0_pay1 X G (ix2 r l) = xn x g s l := by
  unfold k0_pay1
  pointwise
  simp only [hX, hG]
  rfl

theorem out6 (t : Fin (cfgM m hO).N) (r l : Fin 1024) :
    (outsAt0 m hO c t).2 (ix2 r l)
      = xn (m ((c : Thread nD τ).loc main_arg1)) (m ((c : Thread nD τ).loc main_arg2)) (row hO t r) l := by
  unfold outsAt0 out0_A_6
  frame_out
  refine (congrFun (congrArg₂ k0_pay1 ((hs0_0 m hO t).read_unread (iblk m hO c 0 t)) ((hs0_1 m hO t).read_unread (iblk m hO c 1 t))) (ix2 r l)).trans ?_
  exact pay1 _ _ _ _ _ _ _ (blk0 hO c t r) (blk1 hO c t l)

theorem arr6 : (dats m hO 0 c).arrAt 6 (cfgM m hO).N
    = fun i : S4096x1024.Idx => xn (m ((c : Thread nD τ).loc main_arg1)) (m ((c : Thread nD τ).loc main_arg2)) (i 0) (i 1) := by
  have key : ∀ v : Vec Ideal S4096x1024 .bf16,
      (∀ s l, v (ix2 s l) = xn (m ((c : Thread nD τ).loc main_arg1)) (m ((c : Thread nD τ).loc main_arg2)) s l) →
      (dats m hO 0 c).arrAt 6 (cfgM m hO).N = v := by
    intro v hv
    refine (dats m hO 0 c).arrAt_eq_of_covers 6 v ?_ fun t hf y => ?_
    · have n0 : ((cfgM m hO).win 6).nblk (0 : Fin 2) = 4 := by
        show (4096 + 1024 - 1) / 1024 = 4
        rfl
      have n1 : ((cfgM m hO).win 6).nblk (1 : Fin 2) = 1 := by
        show (1024 + 1024 - 1) / 1024 = 1
        rfl
      refine ⟨fun a => ?_, fun β => ⟨(⟨(β (0 : Fin 2)).val, lt_of_lt_of_eq (β (0 : Fin 2)).isLt n0⟩ : Fin grid0.N), flush0_6 _ _, fun a => ⟨?_, .inl rfl⟩⟩⟩
      · fin_cases a
        · show 0 < 1024
          omega
        · show 0 < 1024
          omega
      · show cc0_transform_6 (grid0.coords (⟨(β (0 : Fin 2)).val, lt_of_lt_of_eq (β (0 : Fin 2)).isLt n0⟩ : Fin grid0.N)) a = β a
        rw [(idx _).2.2]
        fin_cases a
        · rfl
        · have h1 : (β (1 : Fin 2)).val < 1 := lt_of_lt_of_eq (β (1 : Fin 2)).isLt n1
          show 0 = (β (1 : Fin 2)).val
          omega
    · have at_block : ∀ y : S1024x1024.Idx, (outsAt0 m hO c t).2 y = v (ix2 (row hO t (y 0)) (y 1)) := by
        intro y
        idx_vars y
        exact (out6 hO c t y0 y1).trans (hv _ _).symm
      blk_simp
      rw [after0_6]
      refine (at_block y).trans (congrArg v (funext fun a => Fin.ext ?_))
      fin_cases a
      · show t.val * 1024 + (y (0 : Fin 2)).val = cc0_transform_6 (grid0.coords t) 0 * 1024 + 1 * (y (0 : Fin 2)).val
        rw [(idx t).2.2]
        show _ = t.val * 1024 + 1 * (y (0 : Fin 2)).val
        omega
      · show (y (1 : Fin 2)).val = cc0_transform_6 (grid0.coords t) 1 * 1024 + 1 * (y (1 : Fin 2)).val
        rw [(idx t).2.2]
        show _ = 0 * 1024 + 1 * (y (1 : Fin 2)).val
        omega
  exact key _ fun s l => rfl

end

theorem equal : algebraic_KernelIpIdeal_RefIpIdeal := by
  intro m g m' g' hpre hargs
  have hO := ok_ideal m hpre
  refine ⟨fun c => (KernelIpIdeal.Gen.dats m hO 0 c).arrAt 6 (KernelIpIdeal.Gen.cfgM m hO).N,
    θ_run_and ((θ_run KernelIpIdeal.defs _ _).mono (fun r h c => (h c).1 6) (KernelIpIdeal.Gen.run_main m g hO)) (KernelIpIdeal.Gen.unchanged m g hO) |> fun H =>
      (θ_run KernelIpIdeal.defs _ _).mono (fun r h c => ⟨h.1 c, h.2 c⟩) H,
    (θ_run RefIpIdeal.defs _ _).mono (fun r h c => ?_) (RefIpIdeal.Value.run m' g')⟩
  obtain ⟨e0, e1, e2, e3, e4⟩ := hargs c
  obtain ⟨r0, rest⟩ := h c
  refine ⟨(r0.trans (RefIpIdeal.Read.val_main_v13_eq _ _)).trans ?_, rest⟩
  refine Eq.trans ?_ (arr6 hO c).symm
  rw [← e1, ← e2]
  refine funext fun i => ?_
  idx_vars i
  exact ref_xn _ _ _ _

end Cert.Ip
end
-- ==== Proof.lean ====
/- The claims of the certificate, assembled from the calls' own modules. -/
module

public import proofs.«01_k».proof.Defs
public import proofs.«01_k».proof.Proof.Gen.KernelDx.Frame
public import proofs.«01_k».proof.Proof.Gen.KernelDxIdeal.Frame
public import proofs.«01_k».proof.Proof.Gen.KernelDxIdeal.Value
public import proofs.«01_k».proof.Proof.Gen.RefDxIdeal.Run
public import proofs.«01_k».proof.Proof.Gen.RefDxIdeal.Read
public import proofs.«01_k».proof.Proof.Gen.RefMxIdeal.Run
public import proofs.«01_k».proof.Proof.Gen.RefMxIdeal.Read
public import proofs.«01_k».proof.Proof.Dx.Equal
public import proofs.«01_k».proof.Proof.Mx.Equal
public import proofs.«01_k».proof.Proof.Fb.Equal
public import proofs.«01_k».proof.Proof.Ff.Equal
public import proofs.«01_k».proof.Proof.Ip.Equal
public import proofs.«01_k».proof.Proof.Gen.KernelFb.Frame
public import proofs.«01_k».proof.Proof.Gen.KernelFbIdeal.Frame
public import proofs.«01_k».proof.Proof.Gen.KernelFbIdeal.Value
public import proofs.«01_k».proof.Proof.Gen.RefFbIdeal.Run
public import proofs.«01_k».proof.Proof.Gen.RefFbIdeal.Read
public import proofs.«01_k».proof.Proof.Gen.KernelFf.Frame
public import proofs.«01_k».proof.Proof.Gen.KernelFfIdeal.Frame
public import proofs.«01_k».proof.Proof.Gen.KernelFfIdeal.Value
public import proofs.«01_k».proof.Proof.Gen.RefFfIdeal.Run
public import proofs.«01_k».proof.Proof.Gen.RefFfIdeal.Read
public import proofs.«01_k».proof.Proof.Gen.KernelIp.Frame
public import proofs.«01_k».proof.Proof.Gen.KernelIpIdeal.Frame
public import proofs.«01_k».proof.Proof.Gen.RefIpIdeal.Run
public import proofs.«01_k».proof.Proof.Gen.RefIpIdeal.Read
public import proofs.«01_k».proof.Proof.Gen.Pre_chip_ip

@[expose] public section

noncomputable section

namespace Cert.Proof

open Idealize.ShloMosaic Idealize.SL.Sem

theorem claim : Cert.Claim :=
  ⟨Cert.KernelDx.Gen.facts, Cert.KernelDxIdeal.Gen.facts, Cert.RefDxIdeal.Gen.facts,
    Cert.KernelMx.Gen.facts, Cert.KernelMxIdeal.Gen.facts, Cert.RefMxIdeal.Gen.facts,
    Cert.KernelFb.Gen.facts, Cert.KernelFbIdeal.Gen.facts, Cert.RefFbIdeal.Gen.facts,
    Cert.KernelFf.Gen.facts, Cert.KernelFfIdeal.Gen.facts, Cert.RefFfIdeal.Gen.facts,
    Cert.KernelIp.Gen.facts, Cert.KernelIpIdeal.Gen.facts, Cert.RefIpIdeal.Gen.facts, Cert.Dx.preFacts, Cert.Mx.preFacts, Cert.Fb.preFacts, Cert.Ff.preFacts, Cert.Pre_chip_ip.Gen.facts,
    fun m ρ _ => Cert.KernelDx.Gen.frame m ρ,
    fun m ρ _ => Cert.KernelDxIdeal.Gen.frame m ρ,
    fun m ρ _ => Cert.KernelDxIdeal.Gen.frame m ρ,
    Cert.Dx.frame_ref,
    fun m ρ _ => Cert.Dx.frame_ref m ρ trivial,
    Cert.Mx.frame_bits,
    Cert.Mx.frame_ideal,
    fun m ρ _ => Cert.Mx.frame_ideal m ρ trivial,
    Cert.Mx.frame_ref,
    fun m ρ _ => Cert.Mx.frame_ref m ρ trivial,
    fun m ρ _ => Cert.KernelFb.Gen.frame m ρ, fun m ρ _ => Cert.KernelFbIdeal.Gen.frame m ρ, fun m ρ _ => Cert.KernelFbIdeal.Gen.frame m ρ,
    Cert.Fb.frame_ref, fun m ρ _ => Cert.Fb.frame_ref m ρ trivial,
    fun m ρ _ => Cert.KernelFf.Gen.frame m ρ, fun m ρ _ => Cert.KernelFfIdeal.Gen.frame m ρ, fun m ρ _ => Cert.KernelFfIdeal.Gen.frame m ρ,
    Cert.Ff.frame_ref, fun m ρ _ => Cert.Ff.frame_ref m ρ trivial,
    Cert.Ip.frame_bits, Cert.Ip.frame_ideal,
    Cert.Ip.frame_ref, fun m ρ _ => Cert.Ip.frame_ref m ρ trivial,
    trivial,
    Cert.Dx.equal,
    ⟨IdealRules.named_const.statement Cert.KernelMxIdeal.κ "gelu_root_cube" .f32 0x3D122279#32 (((6693141 / 8388608) * (12003091 / 268435456) : ℝ) : EReal) rfl,
      IdealRules.named_const.statement Cert.KernelMxIdeal.κ "gelu_six_root_cube" .f32 0x3E5B33B6#32 (((6 * (6693141 / 8388608)) * (12003091 / 268435456) : ℝ) : EReal) rfl⟩,
    Cert.Mx.equal,
    trivial, Cert.Fb.equal,
    trivial, Cert.Ff.equal,
    trivial, Cert.Ip.equal⟩

end Cert.Proof

end
